-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_up_bwd [hPre_finite_up_bwd : Cert.Pre_finite_up_bwd.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_up_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_up_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_up_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_up_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite_up_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_up_bwd [hPre_finite_up_bwd : Cert.Pre_finite_up_bwd.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_up_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_up_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_up_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_up_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite_up_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_a_in_bwd [hPre_finite_a_in_bwd : Cert.Pre_finite_a_in_bwd.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_a_in_bwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_a_in_bwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite_a_in_bwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite_a_in_bwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.1 = (fun _ => 1#1)
    ∧ (Cert.Pre_finite_a_in_bwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_a_in_bwd [hPre_finite_a_in_bwd : Cert.Pre_finite_a_in_bwd.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_a_in_bwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_a_in_bwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite_a_in_bwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite_a_in_bwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.1 = (fun _ => 1#1)
    ∧ (Cert.Pre_finite_a_in_bwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Kernel37Ideal_finite_b_in_bwd [hPre_finite_b_in_bwd : Cert.Pre_finite_b_in_bwd.Facts] (m : (ℓ : Loc Cert.Kernel37Ideal.nD Cert.Kernel37Ideal.τ Cert.Kernel37Ideal.sig) → Buf (Elt Ideal) ℓ) : Prop :=
  ∀ c : Dev Cert.Kernel37Ideal.nD,
    (Cert.Pre_finite_b_in_bwd.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3)) (m ((c.tc : Thread Cert.Kernel37Ideal.nD Cert.Kernel37Ideal.τ).loc Cert.Kernel37Ideal.main_arg4))).1 = (fun _ => 1#1)
    ∧ (Cert.Pre_finite_b_in_bwd.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3)) (m ((c.tc : Thread Cert.Kernel37Ideal.nD Cert.Kernel37Ideal.τ).loc Cert.Kernel37Ideal.main_arg4))).2.1 = (fun _ => 1#1)
    ∧ (Cert.Pre_finite_b_in_bwd.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3)) (m ((c.tc : Thread Cert.Kernel37Ideal.nD Cert.Kernel37Ideal.τ).loc Cert.Kernel37Ideal.main_arg4))).2.2.1 = (fun _ => 1#1)
    ∧ (Cert.Pre_finite_b_in_bwd.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3)) (m ((c.tc : Thread Cert.Kernel37Ideal.nD Cert.Kernel37Ideal.τ).loc Cert.Kernel37Ideal.main_arg4))).2.2.2.1 = (fun _ => 1#1)
    ∧ (Cert.Pre_finite_b_in_bwd.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3)) (m ((c.tc : Thread Cert.Kernel37Ideal.nD Cert.Kernel37Ideal.τ).loc Cert.Kernel37Ideal.main_arg4))).2.2.2.2 = (fun _ => 1#1)

def Pre_Reference37Ideal (m : (ℓ : Loc Cert.Reference37Ideal.nD Cert.Reference37Ideal.τ Cert.Reference37Ideal.sig) → Buf (Elt Ideal) ℓ) : Prop :=
  True

def Pre_Reference37Ideal_finite_b_in_bwd [hPre_finite_b_in_bwd : Cert.Pre_finite_b_in_bwd.Facts] (m : (ℓ : Loc Cert.Reference37Ideal.nD Cert.Reference37Ideal.τ Cert.Reference37Ideal.sig) → Buf (Elt Ideal) ℓ) : Prop :=
  ∀ c : Dev Cert.Reference37Ideal.nD,
    (Cert.Pre_finite_b_in_bwd.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2)) (m ((c.tc : Thread Cert.Reference37Ideal.nD Cert.Reference37Ideal.τ).loc Cert.Reference37Ideal.main_arg3)) (m ((c.tc : Thread Cert.Reference37Ideal.nD Cert.Reference37Ideal.τ).loc Cert.Reference37Ideal.main_arg4))).1 = (fun _ => 1#1)
    ∧ (Cert.Pre_finite_b_in_bwd.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2)) (m ((c.tc : Thread Cert.Reference37Ideal.nD Cert.Reference37Ideal.τ).loc Cert.Reference37Ideal.main_arg3)) (m ((c.tc : Thread Cert.Reference37Ideal.nD Cert.Reference37Ideal.τ).loc Cert.Reference37Ideal.main_arg4))).2.1 = (fun _ => 1#1)
    ∧ (Cert.Pre_finite_b_in_bwd.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2)) (m ((c.tc : Thread Cert.Reference37Ideal.nD Cert.Reference37Ideal.τ).loc Cert.Reference37Ideal.main_arg3)) (m ((c.tc : Thread Cert.Reference37Ideal.nD Cert.Reference37Ideal.τ).loc Cert.Reference37Ideal.main_arg4))).2.2.1 = (fun _ => 1#1)
    ∧ (Cert.Pre_finite_b_in_bwd.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2)) (m ((c.tc : Thread Cert.Reference37Ideal.nD Cert.Reference37Ideal.τ).loc Cert.Reference37Ideal.main_arg3)) (m ((c.tc : Thread Cert.Reference37Ideal.nD Cert.Reference37Ideal.τ).loc Cert.Reference37Ideal.main_arg4))).2.2.2.1 = (fun _ => 1#1)
    ∧ (Cert.Pre_finite_b_in_bwd.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2)) (m ((c.tc : Thread Cert.Reference37Ideal.nD Cert.Reference37Ideal.τ).loc Cert.Reference37Ideal.main_arg3)) (m ((c.tc : Thread Cert.Reference37Ideal.nD Cert.Reference37Ideal.τ).loc Cert.Reference37Ideal.main_arg4))).2.2.2.2 = (fun _ => 1#1)

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Kernel38Ideal_finite_c_in_bwd [hPre_finite_c_in_bwd : Cert.Pre_finite_c_in_bwd.Facts] (m : (ℓ : Loc Cert.Kernel38Ideal.nD Cert.Kernel38Ideal.τ Cert.Kernel38Ideal.sig) → Buf (Elt Ideal) ℓ) : Prop :=
  ∀ c : Dev Cert.Kernel38Ideal.nD,
    (Cert.Pre_finite_c_in_bwd.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3)) (m ((c.tc : Thread Cert.Kernel38Ideal.nD Cert.Kernel38Ideal.τ).loc Cert.Kernel38Ideal.main_arg4))).1 = (fun _ => 1#1)
    ∧ (Cert.Pre_finite_c_in_bwd.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3)) (m ((c.tc : Thread Cert.Kernel38Ideal.nD Cert.Kernel38Ideal.τ).loc Cert.Kernel38Ideal.main_arg4))).2.1 = (fun _ => 1#1)
    ∧ (Cert.Pre_finite_c_in_bwd.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3)) (m ((c.tc : Thread Cert.Kernel38Ideal.nD Cert.Kernel38Ideal.τ).loc Cert.Kernel38Ideal.main_arg4))).2.2.1 = (fun _ => 1#1)
    ∧ (Cert.Pre_finite_c_in_bwd.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3)) (m ((c.tc : Thread Cert.Kernel38Ideal.nD Cert.Kernel38Ideal.τ).loc Cert.Kernel38Ideal.main_arg4))).2.2.2.1 = (fun _ => 1#1)
    ∧ (Cert.Pre_finite_c_in_bwd.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3)) (m ((c.tc : Thread Cert.Kernel38Ideal.nD Cert.Kernel38Ideal.τ).loc Cert.Kernel38Ideal.main_arg4))).2.2.2.2 = (fun _ => 1#1)

def Pre_Reference38Ideal (m : (ℓ : Loc Cert.Reference38Ideal.nD Cert.Reference38Ideal.τ Cert.Reference38Ideal.sig) → Buf (Elt Ideal) ℓ) : Prop :=
  True

def Pre_Reference38Ideal_finite_c_in_bwd [hPre_finite_c_in_bwd : Cert.Pre_finite_c_in_bwd.Facts] (m : (ℓ : Loc Cert.Reference38Ideal.nD Cert.Reference38Ideal.τ Cert.Reference38Ideal.sig) → Buf (Elt Ideal) ℓ) : Prop :=
  ∀ c : Dev Cert.Reference38Ideal.nD,
    (Cert.Pre_finite_c_in_bwd.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2)) (m ((c.tc : Thread Cert.Reference38Ideal.nD Cert.Reference38Ideal.τ).loc Cert.Reference38Ideal.main_arg3)) (m ((c.tc : Thread Cert.Reference38Ideal.nD Cert.Reference38Ideal.τ).loc Cert.Reference38Ideal.main_arg4))).1 = (fun _ => 1#1)
    ∧ (Cert.Pre_finite_c_in_bwd.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2)) (m ((c.tc : Thread Cert.Reference38Ideal.nD Cert.Reference38Ideal.τ).loc Cert.Reference38Ideal.main_arg3)) (m ((c.tc : Thread Cert.Reference38Ideal.nD Cert.Reference38Ideal.τ).loc Cert.Reference38Ideal.main_arg4))).2.1 = (fun _ => 1#1)
    ∧ (Cert.Pre_finite_c_in_bwd.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2)) (m ((c.tc : Thread Cert.Reference38Ideal.nD Cert.Reference38Ideal.τ).loc Cert.Reference38Ideal.main_arg3)) (m ((c.tc : Thread Cert.Reference38Ideal.nD Cert.Reference38Ideal.τ).loc Cert.Reference38Ideal.main_arg4))).2.2.1 = (fun _ => 1#1)
    ∧ (Cert.Pre_finite_c_in_bwd.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2)) (m ((c.tc : Thread Cert.Reference38Ideal.nD Cert.Reference38Ideal.τ).loc Cert.Reference38Ideal.main_arg3)) (m ((c.tc : Thread Cert.Reference38Ideal.nD Cert.Reference38Ideal.τ).loc Cert.Reference38Ideal.main_arg4))).2.2.2.1 = (fun _ => 1#1)
    ∧ (Cert.Pre_finite_c_in_bwd.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2)) (m ((c.tc : Thread Cert.Reference38Ideal.nD Cert.Reference38Ideal.τ).loc Cert.Reference38Ideal.main_arg3)) (m ((c.tc : Thread Cert.Reference38Ideal.nD Cert.Reference38Ideal.τ).loc Cert.Reference38Ideal.main_arg4))).2.2.2.2 = (fun _ => 1#1)

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Kernel40Ideal_finite_loss [hPre_finite_loss : Cert.Pre_finite_loss.Facts] (m : (ℓ : Loc Cert.Kernel40Ideal.nD Cert.Kernel40Ideal.τ Cert.Kernel40Ideal.sig) → Buf (Elt Ideal) ℓ) : Prop :=
  ∀ c : Dev Cert.Kernel40Ideal.nD,
    (Cert.Pre_finite_loss.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2))).1 = (fun _ => 1#1)
    ∧ (Cert.Pre_finite_loss.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2))).2.1 = (fun _ => 1#1)
    ∧ (Cert.Pre_finite_loss.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2))).2.2 = (fun _ => 1#1)

def Pre_Reference40Ideal (m : (ℓ : Loc Cert.Reference40Ideal.nD Cert.Reference40Ideal.τ Cert.Reference40Ideal.sig) → Buf (Elt Ideal) ℓ) : Prop :=
  True

def Pre_Reference40Ideal_finite_loss [hPre_finite_loss : Cert.Pre_finite_loss.Facts] (m : (ℓ : Loc Cert.Reference40Ideal.nD Cert.Reference40Ideal.τ Cert.Reference40Ideal.sig) → Buf (Elt Ideal) ℓ) : Prop :=
  ∀ c : Dev Cert.Reference40Ideal.nD,
    (Cert.Pre_finite_loss.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2))).1 = (fun _ => 1#1)
    ∧ (Cert.Pre_finite_loss.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2))).2.1 = (fun _ => 1#1)
    ∧ (Cert.Pre_finite_loss.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2))).2.2 = (fun _ => 1#1)

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 [hPre_device : Cert.Pre_device.Facts] (m : (ℓ : Loc Cert.Kernel45.nD Cert.Kernel45.τ Cert.Kernel45.sig) → Buf (Elt Bits) ℓ) : Prop :=
  ∀ c : Dev Cert.Kernel45.nD,
    (Cert.Pre_device.fn (F := Bits) (m ((c.tc : Thread Cert.Kernel45.nD Cert.Kernel45.τ).loc Cert.Kernel45.main_arg0)) (m ((c.tc : Thread Cert.Kernel45.nD Cert.Kernel45.τ).loc Cert.Kernel45.main_arg1)) (m ((c.tc : Thread Cert.Kernel45.nD Cert.Kernel45.τ).loc Cert.Kernel45.main_arg2)) (m ((c.tc : Thread Cert.Kernel45.nD Cert.Kernel45.τ).loc Cert.Kernel45.main_arg3))) = (fun _ => 1#1)

def Pre_Kernel45Ideal [hPre_device : Cert.Pre_device.Facts] (m : (ℓ : Loc Cert.Kernel45Ideal.nD Cert.Kernel45Ideal.τ Cert.Kernel45Ideal.sig) → Buf (Elt Ideal) ℓ) : Prop :=
  ∀ c : Dev Cert.Kernel45Ideal.nD,
    (Cert.Pre_device.fn (F := Ideal) (m ((c.tc : Thread Cert.Kernel45Ideal.nD Cert.Kernel45Ideal.τ).loc Cert.Kernel45Ideal.main_arg0)) (m ((c.tc : Thread Cert.Kernel45Ideal.nD Cert.Kernel45Ideal.τ).loc Cert.Kernel45Ideal.main_arg1)) (m ((c.tc : Thread Cert.Kernel45Ideal.nD Cert.Kernel45Ideal.τ).loc Cert.Kernel45Ideal.main_arg2)) (m ((c.tc : Thread Cert.Kernel45Ideal.nD Cert.Kernel45Ideal.τ).loc Cert.Kernel45Ideal.main_arg3))) = (fun _ => 1#1)

def Pre_Reference45Ideal (m : (ℓ : Loc Cert.Reference45Ideal.nD Cert.Reference45Ideal.τ Cert.Reference45Ideal.sig) → Buf (Elt Ideal) ℓ) : Prop :=
  True

def Pre_Reference45Ideal_device [hPre_device : Cert.Pre_device.Facts] (m : (ℓ : Loc Cert.Reference45Ideal.nD Cert.Reference45Ideal.τ Cert.Reference45Ideal.sig) → Buf (Elt Ideal) ℓ) : Prop :=
  ∀ c : Dev Cert.Reference45Ideal.nD,
    (Cert.Pre_device.fn (F := Ideal) (m ((c.tc : Thread Cert.Reference45Ideal.nD Cert.Reference45Ideal.τ).loc Cert.Reference45Ideal.main_arg0)) (m ((c.tc : Thread Cert.Reference45Ideal.nD Cert.Reference45Ideal.τ).loc Cert.Reference45Ideal.main_arg1)) (m ((c.tc : Thread Cert.Reference45Ideal.nD Cert.Reference45Ideal.τ).loc Cert.Reference45Ideal.main_arg2)) (m ((c.tc : Thread Cert.Reference45Ideal.nD Cert.Reference45Ideal.τ).loc Cert.Reference45Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_up_bwd [hKernel2Ideal : Cert.Kernel2Ideal.Facts] [hPre_finite_up_bwd : Cert.Pre_finite_up_bwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_up_bwd m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_up_bwd [hReference2Ideal : Cert.Reference2Ideal.Facts] [hPre_finite_up_bwd : Cert.Pre_finite_up_bwd.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_up_bwd m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_a_in_bwd [hKernel8Ideal : Cert.Kernel8Ideal.Facts] [hPre_finite_a_in_bwd : Cert.Pre_finite_a_in_bwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_a_in_bwd m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_a_in_bwd [hReference8Ideal : Cert.Reference8Ideal.Facts] [hPre_finite_a_in_bwd : Cert.Pre_finite_a_in_bwd.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_a_in_bwd m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ r.2.sem = fun _ => 0)

def quiescent_Kernel37Ideal_pre_finite_b_in_bwd [hKernel37Ideal : Cert.Kernel37Ideal.Facts] [hPre_finite_b_in_bwd : Cert.Pre_finite_b_in_bwd.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal_finite_b_in_bwd m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4))
      ∧ r.2.sem = fun _ => 0)

def quiescent_Reference37Ideal_pre_finite_b_in_bwd [hReference37Ideal : Cert.Reference37Ideal.Facts] [hPre_finite_b_in_bwd : Cert.Pre_finite_b_in_bwd.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal_finite_b_in_bwd m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ r.2.sem = fun _ => 0)

def quiescent_Kernel38Ideal_pre_finite_c_in_bwd [hKernel38Ideal : Cert.Kernel38Ideal.Facts] [hPre_finite_c_in_bwd : Cert.Pre_finite_c_in_bwd.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal_finite_c_in_bwd m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4))
      ∧ r.2.sem = fun _ => 0)

def quiescent_Reference38Ideal_pre_finite_c_in_bwd [hReference38Ideal : Cert.Reference38Ideal.Facts] [hPre_finite_c_in_bwd : Cert.Pre_finite_c_in_bwd.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal_finite_c_in_bwd m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Kernel40Ideal_pre_finite_loss [hKernel40Ideal : Cert.Kernel40Ideal.Facts] [hPre_finite_loss : Cert.Pre_finite_loss.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal_finite_loss m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Reference40Ideal_pre_finite_loss [hReference40Ideal : Cert.Reference40Ideal.Facts] [hPre_finite_loss : Cert.Pre_finite_loss.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal_finite_loss m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2))
      ∧ r.2.sem = fun _ => 0)

def quiescent_Kernel45 [hKernel45 : Cert.Kernel45.Facts] [hPre_device : Cert.Pre_device.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3))
      ∧ r.2.sem = fun _ => 0)

def quiescent_Kernel45Ideal [hKernel45Ideal : Cert.Kernel45Ideal.Facts] [hPre_device : Cert.Pre_device.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3))
      ∧ r.2.sem = fun _ => 0)

def quiescent_Reference45Ideal_pre_device [hReference45Ideal : Cert.Reference45Ideal.Facts] [hPre_device : Cert.Pre_device.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal_device m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_up_bwd [hKernel2Ideal : Cert.Kernel2Ideal.Facts] [hReference2Ideal : Cert.Reference2Ideal.Facts] [hPre_finite_up_bwd : Cert.Pre_finite_up_bwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_up_bwd m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_a_in_bwd [hKernel8Ideal : Cert.Kernel8Ideal.Facts] [hReference8Ideal : Cert.Reference8Ideal.Facts] [hPre_finite_a_in_bwd : Cert.Pre_finite_a_in_bwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_a_in_bwd m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_v43) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "c1" .f32 0x3FC48605#32 ((8388608 / 5463681 : ℝ) : EReal)
  ∧ IdealRules.named_const.Statement Cert.Kernel12Ideal.κ "c2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "c1" .f32 0x3FC48605#32 ((8388608 / 5463681 : ℝ) : EReal)
  ∧ IdealRules.named_const.Statement Cert.Kernel13Ideal.κ "c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "c1" .f32 0x3FC48605#32 ((8388608 / 5463681 : ℝ) : EReal)
  ∧ IdealRules.named_const.Statement Cert.Kernel14Ideal.κ "c2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "c1" .f32 0x3FC48605#32 ((8388608 / 5463681 : ℝ) : EReal)
  ∧ IdealRules.named_const.Statement Cert.Kernel15Ideal.κ "c2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "c1" .f32 0x3FC48605#32 ((8388608 / 5463681 : ℝ) : EReal)
  ∧ IdealRules.named_const.Statement Cert.Kernel16Ideal.κ "c2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "c1" .f32 0x3FC48605#32 ((8388608 / 5463681 : ℝ) : EReal)
  ∧ IdealRules.named_const.Statement Cert.Kernel17Ideal.κ "c2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "c1" .f32 0x3FC48605#32 ((8388608 / 5463681 : ℝ) : EReal)
  ∧ IdealRules.named_const.Statement Cert.Kernel18Ideal.κ "c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "c1" .f32 0x3FC48605#32 ((8388608 / 5463681 : ℝ) : EReal)
  ∧ IdealRules.named_const.Statement Cert.Kernel19Ideal.κ "c2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "c1" .f32 0x3FC48605#32 ((8388608 / 5463681 : ℝ) : EReal)
  ∧ IdealRules.named_const.Statement Cert.Kernel20Ideal.κ "c2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "c1" .f32 0x3FC48605#32 ((8388608 / 5463681 : ℝ) : EReal)
  ∧ IdealRules.named_const.Statement Cert.Kernel21Ideal.κ "c2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "c1" .f32 0x3FC48605#32 ((8388608 / 5463681 : ℝ) : EReal)
  ∧ IdealRules.named_const.Statement Cert.Kernel22Ideal.κ "c2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  IdealRules.named_const.Statement Cert.Kernel23Ideal.κ "c1" .f32 0x3FC48605#32 ((8388608 / 5463681 : ℝ) : EReal)
  ∧ IdealRules.named_const.Statement Cert.Kernel23Ideal.κ "c2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  IdealRules.named_const.Statement Cert.Kernel24Ideal.κ "c1" .f32 0x3FC48605#32 ((8388608 / 5463681 : ℝ) : EReal)
  ∧ IdealRules.named_const.Statement Cert.Kernel24Ideal.κ "c2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  IdealRules.named_const.Statement Cert.Kernel25Ideal.κ "c1" .f32 0x3FC48605#32 ((8388608 / 5463681 : ℝ) : EReal)
  ∧ IdealRules.named_const.Statement Cert.Kernel25Ideal.κ "c2" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  IdealRules.named_const.Statement Cert.Kernel26Ideal.κ "c1" .f32 0x3FC48605#32 ((8388608 / 5463681 : ℝ) : EReal)
  ∧ IdealRules.named_const.Statement Cert.Kernel26Ideal.κ "c2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_v18) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_v18) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v5) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v6) = v0 c
          ∧ r.2.mem ((c.tc : Thread Cert.Reference33Ideal.nD Cert.Reference33Ideal.τ).loc Cert.Reference33Ideal.main_v8) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v6) = v0 c
          ∧ r.2.mem ((c.tc : Thread Cert.Reference34Ideal.nD Cert.Reference34Ideal.τ).loc Cert.Reference34Ideal.main_v8) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v6) = v0 c
          ∧ r.2.mem ((c.tc : Thread Cert.Reference35Ideal.nD Cert.Reference35Ideal.τ).loc Cert.Reference35Ideal.main_v8) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v6) = v0 c
          ∧ r.2.mem ((c.tc : Thread Cert.Reference36Ideal.nD Cert.Reference36Ideal.τ).loc Cert.Reference36Ideal.main_v8) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal_pre_finite_b_in_bwd [hKernel37Ideal : Cert.Kernel37Ideal.Facts] [hReference37Ideal : Cert.Reference37Ideal.Facts] [hPre_finite_b_in_bwd : Cert.Pre_finite_b_in_bwd.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal_finite_b_in_bwd m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)) →
    ∃ (v0 : (c : Dev Cert.Kernel37Ideal.nD) → Buf (Elt Ideal) ((c.tc : Thread Cert.Kernel37Ideal.nD Cert.Kernel37Ideal.τ).loc Cert.Kernel37Ideal.main_v1_0)) (v1 : (c : Dev Cert.Kernel37Ideal.nD) → Buf (Elt Ideal) ((c.tc : Thread Cert.Kernel37Ideal.nD Cert.Kernel37Ideal.τ).loc Cert.Kernel37Ideal.main_v1_1)) (v2 : (c : Dev Cert.Kernel37Ideal.nD) → Buf (Elt Ideal) ((c.tc : Thread Cert.Kernel37Ideal.nD Cert.Kernel37Ideal.τ).loc Cert.Kernel37Ideal.main_v1_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1_0) = v0 c
          ∧ r.2.mem ((c.tc : Thread Cert.Kernel37Ideal.nD Cert.Kernel37Ideal.τ).loc Cert.Kernel37Ideal.main_v1_1) = v1 c
          ∧ r.2.mem ((c.tc : Thread Cert.Kernel37Ideal.nD Cert.Kernel37Ideal.τ).loc Cert.Kernel37Ideal.main_v1_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v41) = v0 c
          ∧ r.2.mem ((c.tc : Thread Cert.Reference37Ideal.nD Cert.Reference37Ideal.τ).loc Cert.Reference37Ideal.main_v42) = v1 c
          ∧ r.2.mem ((c.tc : Thread Cert.Reference37Ideal.nD Cert.Reference37Ideal.τ).loc Cert.Reference37Ideal.main_v43) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4))

def preserves_Kernel38_Kernel38Ideal : Prop :=
  True

def algebraic_Kernel38Ideal_Reference38Ideal_pre_finite_c_in_bwd [hKernel38Ideal : Cert.Kernel38Ideal.Facts] [hReference38Ideal : Cert.Reference38Ideal.Facts] [hPre_finite_c_in_bwd : Cert.Pre_finite_c_in_bwd.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal_finite_c_in_bwd m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)) →
    ∃ (v0 : (c : Dev Cert.Kernel38Ideal.nD) → Buf (Elt Ideal) ((c.tc : Thread Cert.Kernel38Ideal.nD Cert.Kernel38Ideal.τ).loc Cert.Kernel38Ideal.main_v1_0)) (v1 : (c : Dev Cert.Kernel38Ideal.nD) → Buf (Elt Ideal) ((c.tc : Thread Cert.Kernel38Ideal.nD Cert.Kernel38Ideal.τ).loc Cert.Kernel38Ideal.main_v1_1)) (v2 : (c : Dev Cert.Kernel38Ideal.nD) → Buf (Elt Ideal) ((c.tc : Thread Cert.Kernel38Ideal.nD Cert.Kernel38Ideal.τ).loc Cert.Kernel38Ideal.main_v1_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1_0) = v0 c
          ∧ r.2.mem ((c.tc : Thread Cert.Kernel38Ideal.nD Cert.Kernel38Ideal.τ).loc Cert.Kernel38Ideal.main_v1_1) = v1 c
          ∧ r.2.mem ((c.tc : Thread Cert.Kernel38Ideal.nD Cert.Kernel38Ideal.τ).loc Cert.Kernel38Ideal.main_v1_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v41) = v0 c
          ∧ r.2.mem ((c.tc : Thread Cert.Reference38Ideal.nD Cert.Reference38Ideal.τ).loc Cert.Reference38Ideal.main_v42) = v1 c
          ∧ r.2.mem ((c.tc : Thread Cert.Reference38Ideal.nD Cert.Reference38Ideal.τ).loc Cert.Reference38Ideal.main_v43) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v13) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal_pre_finite_loss [hKernel40Ideal : Cert.Kernel40Ideal.Facts] [hReference40Ideal : Cert.Reference40Ideal.Facts] [hPre_finite_loss : Cert.Pre_finite_loss.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal_finite_loss m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v1_0)) (v1 : (c : Dev Cert.Kernel40Ideal.nD) → Buf (Elt Ideal) ((c.tc : Thread Cert.Kernel40Ideal.nD Cert.Kernel40Ideal.τ).loc Cert.Kernel40Ideal.main_v1_1)) (v2 : (c : Dev Cert.Kernel40Ideal.nD) → Buf (Elt Ideal) ((c.tc : Thread Cert.Kernel40Ideal.nD Cert.Kernel40Ideal.τ).loc Cert.Kernel40Ideal.main_v1_2)) (v3 : (c : Dev Cert.Kernel40Ideal.nD) → Buf (Elt Ideal) ((c.tc : Thread Cert.Kernel40Ideal.nD Cert.Kernel40Ideal.τ).loc Cert.Kernel40Ideal.main_v1_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v1_0) = v0 c
          ∧ r.2.mem ((c.tc : Thread Cert.Kernel40Ideal.nD Cert.Kernel40Ideal.τ).loc Cert.Kernel40Ideal.main_v1_1) = v1 c
          ∧ r.2.mem ((c.tc : Thread Cert.Kernel40Ideal.nD Cert.Kernel40Ideal.τ).loc Cert.Kernel40Ideal.main_v1_2) = v2 c
          ∧ r.2.mem ((c.tc : Thread Cert.Kernel40Ideal.nD Cert.Kernel40Ideal.τ).loc Cert.Kernel40Ideal.main_v1_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v51) = v0 c
          ∧ r.2.mem ((c.tc : Thread Cert.Reference40Ideal.nD Cert.Reference40Ideal.τ).loc Cert.Reference40Ideal.main_v50) = v1 c
          ∧ r.2.mem ((c.tc : Thread Cert.Reference40Ideal.nD Cert.Reference40Ideal.τ).loc Cert.Reference40Ideal.main_v52) = v2 c
          ∧ r.2.mem ((c.tc : Thread Cert.Reference40Ideal.nD Cert.Reference40Ideal.τ).loc Cert.Reference40Ideal.main_v53) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v27) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  IdealRules.named_const.Statement Cert.Kernel42Ideal.κ "gelu_c" .f32 0x3D372713#32 ((8943 / 200000 : ℝ) : EReal)

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v9)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v9) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v43) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m ((c.tc : Thread Cert.Kernel43Ideal.nD Cert.Kernel43Ideal.τ).loc Cert.Kernel43Ideal.main_arg0) = Layout.block ⟨2, ![1, 128]⟩ ⟨2, ![8, 128]⟩ 0 8 c (m' (((0 : Dev Cert.Reference43Ideal.nD).tc : Thread Cert.Reference43Ideal.nD Cert.Reference43Ideal.τ).loc Cert.Reference43Ideal.main_arg0))) →
    ∃ (v0 : Buf (Elt Ideal) (((0 : Dev Cert.Reference43Ideal.nD).tc : Thread Cert.Reference43Ideal.nD Cert.Reference43Ideal.τ).loc Cert.Reference43Ideal.main_v2)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v3) = v0
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ θ_run (Cert.Reference43Ideal.defs (F := Ideal)) (onTc (τ := Cert.Reference43Ideal.τ) (Cert.Reference43Ideal.main (F := Ideal))) ⟨m', fun _ => 0, g'⟩ (fun r =>
          r.2.mem (((0 : Dev Cert.Reference43Ideal.nD).tc : Thread Cert.Reference43Ideal.nD Cert.Reference43Ideal.τ).loc Cert.Reference43Ideal.main_v2) = v0
          ∧ r.2.mem (((0 : Dev Cert.Reference43Ideal.nD).tc : Thread Cert.Reference43Ideal.nD Cert.Reference43Ideal.τ).loc Cert.Reference43Ideal.main_arg0) = m' (((0 : Dev Cert.Reference43Ideal.nD).tc : Thread Cert.Reference43Ideal.nD Cert.Reference43Ideal.τ).loc Cert.Reference43Ideal.main_arg0))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v66) = v0 c
          ∧ r.2.mem ((c.tc : Thread Cert.Reference44Ideal.nD Cert.Reference44Ideal.τ).loc Cert.Reference44Ideal.main_v67) = v1 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2))

def preserves_Kernel45_Kernel45Ideal : Prop :=
  True

def algebraic_Kernel45Ideal_Reference45Ideal [hKernel45Ideal : Cert.Kernel45Ideal.Facts] [hReference45Ideal : Cert.Reference45Ideal.Facts] [hPre_device : Cert.Pre_device.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v35) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hPre_finite : Cert.Pre_finite.Facts) (hPre_finite_up_bwd : Cert.Pre_finite_up_bwd.Facts) (hPre_finite_a_in_bwd : Cert.Pre_finite_a_in_bwd.Facts) (hPre_finite_b_in_bwd : Cert.Pre_finite_b_in_bwd.Facts) (hPre_finite_c_in_bwd : Cert.Pre_finite_c_in_bwd.Facts) (hPre_finite_loss : Cert.Pre_finite_loss.Facts) (hPre_device : Cert.Pre_device.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_up_bwd (hKernel2Ideal := hKernel2Ideal) (hPre_finite_up_bwd := hPre_finite_up_bwd)
    ∧ quiescent_Reference2Ideal (hReference2Ideal := hReference2Ideal)
    ∧ quiescent_Reference2Ideal_pre_finite_up_bwd (hReference2Ideal := hReference2Ideal) (hPre_finite_up_bwd := hPre_finite_up_bwd)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_a_in_bwd (hKernel8Ideal := hKernel8Ideal) (hPre_finite_a_in_bwd := hPre_finite_a_in_bwd)
    ∧ quiescent_Reference8Ideal (hReference8Ideal := hReference8Ideal)
    ∧ quiescent_Reference8Ideal_pre_finite_a_in_bwd (hReference8Ideal := hReference8Ideal) (hPre_finite_a_in_bwd := hPre_finite_a_in_bwd)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Kernel37Ideal_pre_finite_b_in_bwd (hKernel37Ideal := hKernel37Ideal) (hPre_finite_b_in_bwd := hPre_finite_b_in_bwd)
    ∧ quiescent_Reference37Ideal (hReference37Ideal := hReference37Ideal)
    ∧ quiescent_Reference37Ideal_pre_finite_b_in_bwd (hReference37Ideal := hReference37Ideal) (hPre_finite_b_in_bwd := hPre_finite_b_in_bwd)
    ∧ quiescent_Kernel38 (hKernel38 := hKernel38)
    ∧ quiescent_Kernel38Ideal (hKernel38Ideal := hKernel38Ideal)
    ∧ quiescent_Kernel38Ideal_pre_finite_c_in_bwd (hKernel38Ideal := hKernel38Ideal) (hPre_finite_c_in_bwd := hPre_finite_c_in_bwd)
    ∧ quiescent_Reference38Ideal (hReference38Ideal := hReference38Ideal)
    ∧ quiescent_Reference38Ideal_pre_finite_c_in_bwd (hReference38Ideal := hReference38Ideal) (hPre_finite_c_in_bwd := hPre_finite_c_in_bwd)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Kernel40Ideal_pre_finite_loss (hKernel40Ideal := hKernel40Ideal) (hPre_finite_loss := hPre_finite_loss)
    ∧ quiescent_Reference40Ideal (hReference40Ideal := hReference40Ideal)
    ∧ quiescent_Reference40Ideal_pre_finite_loss (hReference40Ideal := hReference40Ideal) (hPre_finite_loss := hPre_finite_loss)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45) (hPre_device := hPre_device)
    ∧ quiescent_Kernel45Ideal (hKernel45Ideal := hKernel45Ideal) (hPre_device := hPre_device)
    ∧ quiescent_Reference45Ideal (hReference45Ideal := hReference45Ideal)
    ∧ quiescent_Reference45Ideal_pre_device (hReference45Ideal := hReference45Ideal) (hPre_device := hPre_device)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_up_bwd (hKernel2Ideal := hKernel2Ideal) (hReference2Ideal := hReference2Ideal) (hPre_finite_up_bwd := hPre_finite_up_bwd)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_a_in_bwd (hKernel8Ideal := hKernel8Ideal) (hReference8Ideal := hReference8Ideal) (hPre_finite_a_in_bwd := hPre_finite_a_in_bwd)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal_pre_finite_b_in_bwd (hKernel37Ideal := hKernel37Ideal) (hReference37Ideal := hReference37Ideal) (hPre_finite_b_in_bwd := hPre_finite_b_in_bwd)
    ∧ preserves_Kernel38_Kernel38Ideal
    ∧ algebraic_Kernel38Ideal_Reference38Ideal_pre_finite_c_in_bwd (hKernel38Ideal := hKernel38Ideal) (hReference38Ideal := hReference38Ideal) (hPre_finite_c_in_bwd := hPre_finite_c_in_bwd)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal_pre_finite_loss (hKernel40Ideal := hKernel40Ideal) (hReference40Ideal := hReference40Ideal) (hPre_finite_loss := hPre_finite_loss)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal) (hPre_device := hPre_device)
-- ==== Pre_device.lean ====
abbrev S1x1024x4096 : Shape := ⟨3, ![1, 1024, 4096]⟩
abbrev S7x512x1024 : Shape := ⟨3, ![7, 512, 1024]⟩
abbrev S4x2x512x1024 : Shape := ⟨4, ![4, 2, 512, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x1024x4096 .f32) (main_arg1 : FVec F S7x512x1024 .bf16) (main_arg2 : FVec F S4x2x512x1024 .f32) (main_arg3 : IVec S2 32) : IVec S_ 1 :=
  let main_v0 : IVec S1 32 := (extractStridedSlice S1 ![0] · slices_S2_S1_0) main_arg3
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg3
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg3
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg3
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Pre_finite.lean ====
abbrev S8192x2048 : Shape := ⟨2, ![8192, 2048]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S8x128 .f32 := Host.absf main_arg4
  let main_cst_6 : FVec F S_ .f32 := constant S_ .f32 0x7F800000#32
  let main_v17 : FVec F S8x128 .f32 := broadcastInDim S8x128 ![] bcast_S_S8x128 main_cst_6
  let main_v18 : IVec S8x128 1 := cmpf .olt main_v16 main_v17
  let main_c_7 : IVec S_ 1 := constantI S_ 1 1#1
  let main_v19 : IVec S_ 1 := (fun x v => Host.reduce IntOp.andi x v reducesTo_S8x128_S_d0_1 h_S_) main_v18 main_c_7
  (main_v3, main_v7, main_v11, main_v15, main_v19)

def fn {F : FTy → Type} [FloatOps F] (main_arg0 : FVec F S8192x2048 .f32) (main_arg1 : FVec F S8192x1024 .f32) (main_arg2 : FVec F S1024 .f32) (main_arg3 : FVec F S8x128x128 .f32) (main_arg4 : FVec F S8x128 .f32) : IVec S_ 1 × IVec S_ 1 × IVec S_ 1 × IVec S_ 1 × IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S8x128x128 .f32 := Host.absf main_arg3
  let main_cst_4 : FVec F S_ .f32 := constant S_ .f32 0x7F800000#32
  let main_v13 : FVec F S8x128x128 .f32 := broadcastInDim S8x128x128 ![] bcast_S_S8x128x128 main_cst_4
  let main_v14 : IVec S8x128x128 1 := cmpf .olt main_v12 main_v13
  let main_c_5 : IVec S_ 1 := constantI S_ 1 1#1
  let main_v15 : IVec S_ 1 := (fun x v => Host.reduce IntOp.andi x v reducesTo_S8x128x128_S_d0_1_2 h_S_) main_v14 main_c_5
  fn_part1 (F := F) main_arg4 main_v3 main_v7 main_v11 main_v15
-- ==== Pre_finite_a_in_bwd.lean ====
abbrev S8192x2560 : Shape := ⟨2, ![8192, 2560]⟩
abbrev S1x1024x2560 : Shape := ⟨3, ![1, 1024, 2560]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S1x1024x2560 : S_.BroadcastsInDim S1x1024x2560 (![] : Fin 0 → Fin S1x1024x2560.rank)
  reducesTo_S1x1024x2560_S_d0_1_2 : S1x1024x2560.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v4 : IVec S_ 1) (main_v9 : IVec S_ 1) (main_v13 : IVec S_ 1) (main_v16 : IVec S1024 1) : IVec S_ 1 × IVec S_ 1 × IVec S_ 1 × IVec S_ 1 × IVec S_ 1 :=
  let main_c_5 : IVec S_ 1 := constantI S_ 1 1#1
  let main_v17 : IVec S_ 1 := (fun x v => Host.reduce IntOp.andi x v reducesTo_S1024_S_d0 h_S_) main_v16 main_c_5
  let main_v18 : FVec F S8192x1024 .f32 := Host.absf main_arg4
  let main_cst_6 : FVec F S_ .f32 := constant S_ .f32 0x7F800000#32
  let main_v19 : FVec F S8192x1024 .f32 := broadcastInDim S8192x1024 ![] bcast_S_S8192x1024 main_cst_6
  let main_v20 : IVec S8192x1024 1 := cmpf .olt main_v18 main_v19
  let main_c_7 : IVec S_ 1 := constantI S_ 1 1#1
  let main_v21 : IVec S_ 1 := (fun x v => Host.reduce IntOp.andi x v reducesTo_S8192x1024_S_d0_1 h_S_) main_v20 main_c_7
  (main_v4, main_v9, main_v13, main_v17, main_v21)

def fn {F : FTy → Type} [FloatOps F] (main_arg0 : FVec F S8192x2560 .bf16) (main_arg1 : FVec F S1x1024x2560 .bf16) (main_arg2 : FVec F S8192x1024 .f32) (main_arg3 : FVec F S1024 .f32) (main_arg4 : FVec F S8192x1024 .f32) : IVec S_ 1 × IVec S_ 1 × IVec S_ 1 × IVec S_ 1 × IVec S_ 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_c : IVec S_ 1 := constantI S_ 1 1#1
  let main_v4 : IVec S_ 1 := (fun x v => Host.reduce IntOp.andi x v reducesTo_S8192x2560_S_d0_1 h_S_) main_v3 main_c
  let main_v5 : FVec F S1x1024x2560 .f32 := (extf .f32 · bitsLt_bf16_f32) main_arg1
  let main_v6 : FVec F S1x1024x2560 .f32 := Host.absf main_v5
  let main_cst_0 : FVec F S_ .f32 := constant S_ .f32 0x7F800000#32
  let main_v7 : FVec F S1x1024x2560 .f32 := broadcastInDim S1x1024x2560 ![] bcast_S_S1x1024x2560 main_cst_0
  let main_v8 : IVec S1x1024x2560 1 := cmpf .olt main_v6 main_v7
  let main_c_1 : IVec S_ 1 := constantI S_ 1 1#1
  let main_v9 : IVec S_ 1 := (fun x v => Host.reduce IntOp.andi x v reducesTo_S1x1024x2560_S_d0_1_2 h_S_) main_v8 main_c_1
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v4 main_v9 main_v13 main_v16
-- ==== Pre_finite_b_in_bwd.lean ====
abbrev S8192x2048 : Shape := ⟨2, ![8192, 2048]⟩
abbrev S1x1024x2048 : Shape := ⟨3, ![1, 1024, 2048]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v4 : IVec S_ 1) (main_v9 : IVec S_ 1) (main_v13 : IVec S_ 1) (main_v16 : IVec S1024 1) : IVec S_ 1 × IVec S_ 1 × IVec S_ 1 × IVec S_ 1 × IVec S_ 1 :=
  let main_c_5 : IVec S_ 1 := constantI S_ 1 1#1
  let main_v17 : IVec S_ 1 := (fun x v => Host.reduce IntOp.andi x v reducesTo_S1024_S_d0 h_S_) main_v16 main_c_5
  let main_v18 : FVec F S8192x1024 .f32 := Host.absf main_arg4
  let main_cst_6 : FVec F S_ .f32 := constant S_ .f32 0x7F800000#32
  let main_v19 : FVec F S8192x1024 .f32 := broadcastInDim S8192x1024 ![] bcast_S_S8192x1024 main_cst_6
  let main_v20 : IVec S8192x1024 1 := cmpf .olt main_v18 main_v19
  let main_c_7 : IVec S_ 1 := constantI S_ 1 1#1
  let main_v21 : IVec S_ 1 := (fun x v => Host.reduce IntOp.andi x v reducesTo_S8192x1024_S_d0_1 h_S_) main_v20 main_c_7
  (main_v4, main_v9, main_v13, main_v17, main_v21)

def fn {F : FTy → Type} [FloatOps F] (main_arg0 : FVec F S8192x2048 .bf16) (main_arg1 : FVec F S1x1024x2048 .bf16) (main_arg2 : FVec F S8192x1024 .f32) (main_arg3 : FVec F S1024 .f32) (main_arg4 : FVec F S8192x1024 .f32) : IVec S_ 1 × IVec S_ 1 × IVec S_ 1 × IVec S_ 1 × IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S1x1024x2048 .f32 := (extf .f32 · bitsLt_bf16_f32) main_arg1
  let main_v6 : FVec F S1x1024x2048 .f32 := Host.absf main_v5
  let main_cst_0 : FVec F S_ .f32 := constant S_ .f32 0x7F800000#32
  let main_v7 : FVec F S1x1024x2048 .f32 := broadcastInDim S1x1024x2048 ![] bcast_S_S1x1024x2048 main_cst_0
  let main_v8 : IVec S1x1024x2048 1 := cmpf .olt main_v6 main_v7
  let main_c_1 : IVec S_ 1 := constantI S_ 1 1#1
  let main_v9 : IVec S_ 1 := (fun x v => Host.reduce IntOp.andi x v reducesTo_S1x1024x2048_S_d0_1_2 h_S_) main_v8 main_c_1
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v4 main_v9 main_v13 main_v16
-- ==== Pre_finite_c_in_bwd.lean ====
abbrev S8192x3072 : Shape := ⟨2, ![8192, 3072]⟩
abbrev S1x1024x3072 : Shape := ⟨3, ![1, 1024, 3072]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S1x1024x3072 : S_.BroadcastsInDim S1x1024x3072 (![] : Fin 0 → Fin S1x1024x3072.rank)
  reducesTo_S1x1024x3072_S_d0_1_2 : S1x1024x3072.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v4 : IVec S_ 1) (main_v9 : IVec S_ 1) (main_v13 : IVec S_ 1) (main_v16 : IVec S1024 1) : IVec S_ 1 × IVec S_ 1 × IVec S_ 1 × IVec S_ 1 × IVec S_ 1 :=
  let main_c_5 : IVec S_ 1 := constantI S_ 1 1#1
  let main_v17 : IVec S_ 1 := (fun x v => Host.reduce IntOp.andi x v reducesTo_S1024_S_d0 h_S_) main_v16 main_c_5
  let main_v18 : FVec F S8192x1024 .f32 := Host.absf main_arg4
  let main_cst_6 : FVec F S_ .f32 := constant S_ .f32 0x7F800000#32
  let main_v19 : FVec F S8192x1024 .f32 := broadcastInDim S8192x1024 ![] bcast_S_S8192x1024 main_cst_6
  let main_v20 : IVec S8192x1024 1 := cmpf .olt main_v18 main_v19
  let main_c_7 : IVec S_ 1 := constantI S_ 1 1#1
  let main_v21 : IVec S_ 1 := (fun x v => Host.reduce IntOp.andi x v reducesTo_S8192x1024_S_d0_1 h_S_) main_v20 main_c_7
  (main_v4, main_v9, main_v13, main_v17, main_v21)

def fn {F : FTy → Type} [FloatOps F] (main_arg0 : FVec F S8192x3072 .bf16) (main_arg1 : FVec F S1x1024x3072 .bf16) (main_arg2 : FVec F S8192x1024 .f32) (main_arg3 : FVec F S1024 .f32) (main_arg4 : FVec F S8192x1024 .f32) : IVec S_ 1 × IVec S_ 1 × IVec S_ 1 × IVec S_ 1 × IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S1x1024x3072 .f32 := (extf .f32 · bitsLt_bf16_f32) main_arg1
  let main_v6 : FVec F S1x1024x3072 .f32 := Host.absf main_v5
  let main_cst_0 : FVec F S_ .f32 := constant S_ .f32 0x7F800000#32
  let main_v7 : FVec F S1x1024x3072 .f32 := broadcastInDim S1x1024x3072 ![] bcast_S_S1x1024x3072 main_cst_0
  let main_v8 : IVec S1x1024x3072 1 := cmpf .olt main_v6 main_v7
  let main_c_1 : IVec S_ 1 := constantI S_ 1 1#1
  let main_v9 : IVec S_ 1 := (fun x v => Host.reduce IntOp.andi x v reducesTo_S1x1024x3072_S_d0_1_2 h_S_) main_v8 main_c_1
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v4 main_v9 main_v13 main_v16
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 × IVec S_ 1 × IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  (main_v3, main_v7, main_v11)
-- ==== Pre_finite_up_bwd.lean ====
abbrev S8192x4096 : Shape := ⟨2, ![8192, 4096]⟩
abbrev S1x1024x4096 : Shape := ⟨3, ![1, 1024, 4096]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v4 : IVec S_ 1) (main_v9 : IVec S_ 1) (main_v13 : IVec S_ 1) (main_v16 : IVec S1024 1) : IVec S_ 1 × IVec S_ 1 × IVec S_ 1 × IVec S_ 1 × IVec S_ 1 :=
  let main_c_5 : IVec S_ 1 := constantI S_ 1 1#1
  let main_v17 : IVec S_ 1 := (fun x v => Host.reduce IntOp.andi x v reducesTo_S1024_S_d0 h_S_) main_v16 main_c_5
  let main_v18 : FVec F S8192x1024 .f32 := Host.absf main_arg4
  let main_cst_6 : FVec F S_ .f32 := constant S_ .f32 0x7F800000#32
  let main_v19 : FVec F S8192x1024 .f32 := broadcastInDim S8192x1024 ![] bcast_S_S8192x1024 main_cst_6
  let main_v20 : IVec S8192x1024 1 := cmpf .olt main_v18 main_v19
  let main_c_7 : IVec S_ 1 := constantI S_ 1 1#1
  let main_v21 : IVec S_ 1 := (fun x v => Host.reduce IntOp.andi x v reducesTo_S8192x1024_S_d0_1 h_S_) main_v20 main_c_7
  (main_v4, main_v9, main_v13, main_v17, main_v21)

def fn {F : FTy → Type} [FloatOps F] (main_arg0 : FVec F S8192x4096 .bf16) (main_arg1 : FVec F S1x1024x4096 .bf16) (main_arg2 : FVec F S8192x1024 .f32) (main_arg3 : FVec F S1024 .f32) (main_arg4 : FVec F S8192x1024 .f32) : IVec S_ 1 × IVec S_ 1 × IVec S_ 1 × IVec S_ 1 × IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S1x1024x4096 .f32 := (extf .f32 · bitsLt_bf16_f32) main_arg1
  let main_v6 : FVec F S1x1024x4096 .f32 := Host.absf main_v5
  let main_cst_0 : FVec F S_ .f32 := constant S_ .f32 0x7F800000#32
  let main_v7 : FVec F S1x1024x4096 .f32 := broadcastInDim S1x1024x4096 ![] bcast_S_S1x1024x4096 main_cst_0
  let main_v8 : IVec S1x1024x4096 1 := cmpf .olt main_v6 main_v7
  let main_c_1 : IVec S_ 1 := constantI S_ 1 1#1
  let main_v9 : IVec S_ 1 := (fun x v => Host.reduce IntOp.andi x v reducesTo_S1x1024x4096_S_d0_1_2 h_S_) main_v8 main_c_1
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v4 main_v9 main_v13 main_v16
-- ==== Kernel.lean ====
abbrev S8192x2048 : Shape := ⟨2, ![8192, 2048]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 33
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S8x128x128, .f32⟩
  | .hbm, ⟨24, _⟩ => ⟨S8x128x128, .bf16⟩
  | .hbm, ⟨25, _⟩ => ⟨S128x8, .f32⟩
  | .hbm, ⟨26, _⟩ => ⟨S128x8x128, .f32⟩
  | .hbm, ⟨27, _⟩ => ⟨S128x1024, .f32⟩
  | .hbm, ⟨28, _⟩ => ⟨S1x1024, .f32⟩
  | .hbm, ⟨29, _⟩ => ⟨S8192x2048, .bf16⟩
  | .hbm, ⟨30, _⟩ => ⟨S1x1024, .f32⟩
  | .hbm, ⟨31, _⟩ => ⟨S8x128x128, .f32⟩
  | .hbm, ⟨32, _⟩ => ⟨S128x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x128x128, .bf16⟩
  | .local _ .vmem, ⟨6, _⟩ => ⟨S8x128x128, .bf16⟩
  | .local _ .vmem, ⟨7, _⟩ => ⟨S128x1024, .f32⟩
  | .local _ .vmem, ⟨8, _⟩ => ⟨S256x2048, .bf16⟩
  | .local _ .vmem, ⟨9, _⟩ => ⟨S256x2048, .bf16⟩
  | .local _ .vmem, ⟨10, _⟩ => ⟨S1x1024, .f32⟩
  | .local _ .vmem, ⟨11, _⟩ => ⟨S8x128x128, .f32⟩
  | .local _ .vmem, ⟨12, _⟩ => ⟨S128x1024, .f32⟩
  | .local _ .vmem, ⟨13, _⟩ => ⟨S256x1024, .f32⟩
  | .local _ .vmem, ⟨14, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev main_v11_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S8192x2048 : Shape := ⟨2, ![8192, 2048]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S1x128x8x1 : Shape := ⟨4, ![1, 128, 8, 1]⟩
abbrev S1x128x8x128 : Shape := ⟨4, ![1, 128, 8, 128]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S8x64x128x128 : Shape := ⟨4, ![8, 64, 128, 128]⟩
abbrev S128x8x128 : Shape := ⟨3, ![128, 8, 128]⟩
abbrev S128x1024 : Shape := ⟨2, ![128, 1024]⟩

abbrev nBuf : Space → Nat
  | .hbm => 137
  | .vmem => 0
  | .smem => 0
  | _ => 0

abbrev hbmTy0_0 (i : Nat) : BufTy := match i % 128 with
  | 0 => ⟨S8192x2048, .f32⟩
  | 1 => ⟨S8192x1024, .f32⟩
  | 2 => ⟨S1024, .f32⟩
  | 3 => ⟨S8x128x128, .f32⟩
  | 4 => ⟨S8x128, .f32⟩
  | 5 => ⟨S_, .i1⟩
  | 6 => ⟨S128x128, .i1⟩
  | 7 => ⟨S128x128, .i32⟩
  | 8 => ⟨S_, .i32⟩
  | 9 => ⟨S128x128, .i32⟩
  | 10 => ⟨S128x128, .i32⟩
  | 11 => ⟨S128x128, .i32⟩
  | 12 => ⟨S128x128, .i1⟩
  | 13 => ⟨S_, .i1⟩
  | 14 => ⟨S128x128, .i1⟩
  | 15 => ⟨S128x128, .i1⟩
  | 16 => ⟨S1x128x128, .i1⟩
  | 17 => ⟨S_, .f32⟩
  | 18 => ⟨S8x128x128, .i1⟩
  | 19 => ⟨S8x128x128, .f32⟩
  | 20 => ⟨S8x128x128, .f32⟩
  | 21 => ⟨S128x8, .f32⟩
  | 22 => ⟨S1x128x8x1, .f32⟩
  | 23 => ⟨S1x128x8x128, .f32⟩
  | 24 => ⟨S_, .f32⟩
  | 25 => ⟨S_, .f32⟩
  | 26 => ⟨S_, .f32⟩
  | 27 => ⟨S8192x2048, .f32⟩
  | 28 => ⟨S8192x2048, .f32⟩
  | 29 => ⟨S8192x2048, .f32⟩
  | 30 => ⟨S_, .f32⟩
  | 31 => ⟨S8192x2048, .f32⟩
  | 32 => ⟨S8192x2048, .f32⟩
  | 33 => ⟨S8192x2048, .f32⟩
  | 34 => ⟨S8192x2048, .f32⟩
  | 35 => ⟨S8192x2048, .f32⟩
  | 36 => ⟨S_, .f32⟩
  | 37 => ⟨S8192x2048, .f32⟩
  | 38 => ⟨S8192x2048, .f32⟩
  | 39 => ⟨S8192x2048, .f32⟩
  | 40 => ⟨S_, .f32⟩
  | 41 => ⟨S8192x2048, .f32⟩
  | 42 => ⟨S8192x2048, .f32⟩
  | 43 => ⟨S_, .f32⟩
  | 44 => ⟨S8192x2048, .f32⟩
  | 45 => ⟨S8192x2048, .f32⟩
  | 46 => ⟨S8192x2048, .f32⟩
  | 47 => ⟨S_, .f32⟩
  | 48 => ⟨S8192x2048, .f32⟩
  | 49 => ⟨S8192x2048, .f32⟩
  | 50 => ⟨S_, .f32⟩
  | 51 => ⟨S8192x2048, .f32⟩
  | 52 => ⟨S8192x2048, .f32⟩
  | 53 => ⟨S8192x2048, .f32⟩
  | 54 => ⟨S8192x1024, .f32⟩
  | 55 => ⟨S8192x1024, .f32⟩
  | 56 => ⟨S8192x1024, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S64x128x8x128, .f32⟩
  | 77 => ⟨S8x64x128x128, .f32⟩
  | 78 => ⟨S64x128x8x128, .f32⟩
  | 79 => ⟨S64x128x8x128, .f32⟩
  | 80 => ⟨S64x128x8x128, .f32⟩
  | 81 => ⟨S8192x1024, .f32⟩
  | 82 => ⟨S8192x1024, .f32⟩
  | 83 => ⟨S8192x1024, .f32⟩
  | 84 => ⟨S8192x1024, .f32⟩
  | 85 => ⟨S64x128x8x128, .f32⟩
  | 86 => ⟨S_, .f32⟩
  | 87 => ⟨S128x8x128, .f32⟩
  | 88 => ⟨S1x128x8x128, .f32⟩
  | 89 => ⟨S8x64x128x128, .f32⟩
  | 90 => ⟨S8x128x128, .f32⟩
  | 91 => ⟨S8x64x128x128, .f32⟩
  | 92 => ⟨S64x128x8x128, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S_, .f32⟩
  | 101 => ⟨S1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x2048, .f32⟩
  | 120 => ⟨S8192x2048, .f32⟩
  | 121 => ⟨S8192x2048, .f32⟩
  | 122 => ⟨S_, .f32⟩
  | 123 => ⟨S8192x2048, .f32⟩
  | 124 => ⟨S8192x2048, .f32⟩
  | 125 => ⟨S8192x2048, .f32⟩
  | 126 => ⟨S_, .f32⟩
  | 127 => ⟨S8192x2048, .f32⟩
  | _ => ⟨S8192x2048, .f32⟩

abbrev hbmTy0_1 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S8192x2048, .f32⟩
  | 5 => ⟨S8192x2048, .f32⟩
  | 6 => ⟨S8192x2048, .bf16⟩
  | 7 => ⟨S1x1024, .f32⟩
  | 8 => ⟨S128x1024, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_18 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_19 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩

abbrev nD : Nat := 1
abbrev τ : Topo := Topo.v7x

variable {F : FTy → Type} [FloatOps F]
-- ==== Kernel2.lean ====
abbrev S8192x4096 : Shape := ⟨2, ![8192, 4096]⟩
abbrev S1x1024x4096 : Shape := ⟨3, ![1, 1024, 4096]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S1024x4096 : Shape := ⟨2, ![1024, 4096]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x4096 : Shape := ⟨2, ![8192, 4096]⟩
abbrev S1x1024x4096 : Shape := ⟨3, ![1, 1024, 4096]⟩
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x4096, .bf16⟩
  | .hbm, ⟨6, _⟩ => ⟨S1024x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel3.lean ====
abbrev S8192x1024 : Shape := ⟨2, ![8192, 1024]⟩
abbrev S1x4096x1024 : Shape := ⟨3, ![1, 4096, 1024]⟩
abbrev S8192x4096 : Shape := ⟨2, ![8192, 4096]⟩
abbrev S256x1024 : Shape := ⟨2, ![256, 1024]⟩
abbrev S256x4096 : Shape := ⟨2, ![256, 4096]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x4096x1024, .bf16⟩
  | .hbm, ⟨2, _⟩ => ⟨S8192x4096, .bf16⟩
  | .hbm, ⟨3, _⟩ => ⟨S8192x4096, .bf16⟩
  | .local _ .vmem, ⟨0, _⟩ => ⟨S256x1024, .bf16⟩
  | .local _ .vmem, ⟨1, _⟩ => ⟨S256x1024, .bf16⟩
  | .local _ .vmem, ⟨2, _⟩ => ⟨S1x4096x1024, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x1024 : Shape := ⟨2, ![8192, 1024]⟩
abbrev S1x4096x1024 : Shape := ⟨3, ![1, 4096, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x4096x1024, .bf16⟩
  | .hbm, ⟨2, _⟩ => ⟨S8192x4096, .bf16⟩
  | .hbm, ⟨3, _⟩ => ⟨S8192x4096, .f32⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S1x4096x1024 : Shape := ⟨3, ![1, 4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S1x4096x1024, .f32⟩
  | .hbm, ⟨3, _⟩ => ⟨S1x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S1x4096x1024, .f32⟩
  | .hbm, ⟨10, _⟩ => ⟨S1x4096x1024, .f32⟩
  | .hbm, ⟨11, _⟩ => ⟨S1x4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S1x1024x4096 : Shape := ⟨3, ![1, 1024, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1x1024x4096, .f32⟩
  | .hbm, ⟨3, _⟩ => ⟨S1x1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1x1024x4096 : Shape := ⟨3, ![1, 1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1x1024x4096, .f32⟩
  | .hbm, ⟨10, _⟩ => ⟨S1x1024x4096, .f32⟩
  | .hbm, ⟨11, _⟩ => ⟨S1x1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S1x1024x4096 : Shape := ⟨3, ![1, 1024, 4096]⟩
abbrev S8192x4096 : Shape := ⟨2, ![8192, 4096]⟩
abbrev S256x1024 : Shape := ⟨2, ![256, 1024]⟩
abbrev S256x4096 : Shape := ⟨2, ![256, 4096]⟩
abbrev S1024x4096 : Shape := ⟨2, ![1024, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .bf16⟩
  | .hbm, ⟨2, _⟩ => ⟨S8192x4096, .bf16⟩
  | .hbm, ⟨3, _⟩ => ⟨S8192x4096, .bf16⟩
  | .local _ .vmem, ⟨0, _⟩ => ⟨S256x1024, .bf16⟩
  | .local _ .vmem, ⟨1, _⟩ => ⟨S256x1024, .bf16⟩
  | .local _ .vmem, ⟨2, _⟩ => ⟨S1x1024x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x1024 : Shape := ⟨2, ![8192, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .bf16⟩
  | .hbm, ⟨2, _⟩ => ⟨S8192x1024, .f32⟩
  | .hbm, ⟨3, _⟩ => ⟨S1024x4096, .bf16⟩
  | .hbm, ⟨4, _⟩ => ⟨S1024x4096, .f32⟩
  | .hbm, ⟨5, _⟩ => ⟨S8192x4096, .f32⟩
  | .hbm, ⟨6, _⟩ => ⟨S8192x4096, .bf16⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S8192x4096 : Shape := ⟨2, ![8192, 4096]⟩
abbrev S1x4096x1024 : Shape := ⟨3, ![1, 4096, 1024]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S4096x1024 : Shape := ⟨2, ![4096, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x4096 : Shape := ⟨2, ![8192, 4096]⟩
abbrev S1x4096x1024 : Shape := ⟨3, ![1, 4096, 1024]⟩
abbrev S8192x1024 : Shape := ⟨2, ![8192, 1024]⟩
abbrev S1024 : Shape := ⟨1, ![1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x1024, .f32⟩
  | .hbm, ⟨3, _⟩ => ⟨S1024, .f32⟩
  | .hbm, ⟨4, _⟩ => ⟨S8192x4096, .f32⟩
  | .hbm, ⟨5, _⟩ => ⟨S4096x1024, .bf16⟩
  | .hbm, ⟨6, _⟩ => ⟨S4096x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel8.lean ====
abbrev S8192x2560 : Shape := ⟨2, ![8192, 2560]⟩
abbrev S1x1024x2560 : Shape := ⟨3, ![1, 1024, 2560]⟩
abbrev S8192x1024 : Shape := ⟨2, ![8192, 1024]⟩
abbrev S1024 : Shape := ⟨1, ![1024]⟩
abbrev S1x1024 : Shape := ⟨2, ![1, 1024]⟩
abbrev S512x2560 : Shape := ⟨2, ![512, 2560]⟩
abbrev S512x1024 : Shape := ⟨2, ![512, 1024]⟩
abbrev S1024x2560 : Shape := ⟨2, ![1024, 2560]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2560, .bf16⟩
  | .hbm, ⟨1, _⟩ => ⟨S1x1024x2560, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S1x1024x2560, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S8192x2560 : Shape := ⟨2, ![8192, 2560]⟩
abbrev S1x1024x2560 : Shape := ⟨3, ![1, 1024, 2560]⟩
abbrev S8192x1024 : Shape := ⟨2, ![8192, 1024]⟩
abbrev S1024 : Shape := ⟨1, ![1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1x1024x2560, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x2560, .bf16⟩
  | .hbm, ⟨6, _⟩ => ⟨S1024x2560, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2560, .f32⟩
  | .hbm, ⟨28, _⟩ => ⟨S8192x2560, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel9.lean ====
abbrev S8192x1024 : Shape := ⟨2, ![8192, 1024]⟩
abbrev S8192x2560 : Shape := ⟨2, ![8192, 2560]⟩
abbrev S1x1024x2560 : Shape := ⟨3, ![1, 1024, 2560]⟩
abbrev S2048x1024 : Shape := ⟨2, ![2048, 1024]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S1x1024x2560, .f32⟩
  | .hbm, ⟨3, _⟩ => ⟨S1x1024x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .f32⟩
  | .local _ .vmem, ⟨5, _⟩ => ⟨S1x1024x640, .f32⟩
  | .local _ .vmem, ⟨6, _⟩ => ⟨S1x1024x640, .bf16⟩
  | .local _ .vmem, ⟨7, _⟩ => ⟨S1x1024x640, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩
abbrev S1x1024x2560 : Shape := ⟨3, ![1, 1024, 2560]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1x1024x2560, .f32⟩
  | .hbm, ⟨10, _⟩ => ⟨S1x1024x2560, .f32⟩
  | .hbm, ⟨11, _⟩ => ⟨S1x1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8192x1024 : Shape := ⟨2, ![8192, 1024]⟩
abbrev S1x1024x2560 : Shape := ⟨3, ![1, 1024, 2560]⟩
abbrev S8192x2560 : Shape := ⟨2, ![8192, 2560]⟩
abbrev S512x1024 : Shape := ⟨2, ![512, 1024]⟩
abbrev S512x2560 : Shape := ⟨2, ![512, 2560]⟩
abbrev S1024x2560 : Shape := ⟨2, ![1024, 2560]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x2560, .bf16⟩
  | .hbm, ⟨2, _⟩ => ⟨S8192x2560, .f32⟩
  | .local _ .vmem, ⟨0, _⟩ => ⟨S512x1024, .bf16⟩
  | .local _ .vmem, ⟨1, _⟩ => ⟨S512x1024, .bf16⟩
  | .local _ .vmem, ⟨2, _⟩ => ⟨S1x1024x2560, .bf16⟩
  | .local _ .vmem, ⟨3, _⟩ => ⟨S512x2560, .f32⟩
  | .local _ .vmem, ⟨4, _⟩ => ⟨S512x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S1x1024x2560 : Shape := ⟨3, ![1, 1024, 2560]⟩
abbrev S1024x2560 : Shape := ⟨2, ![1024, 2560]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x2560, .bf16⟩
  | .hbm, ⟨2, _⟩ => ⟨S8192x1024, .f32⟩
  | .hbm, ⟨3, _⟩ => ⟨S1024x2560, .bf16⟩
  | .hbm, ⟨4, _⟩ => ⟨S1024x2560, .f32⟩
  | .hbm, ⟨5, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x4096 : Shape := ⟨2, ![8192, 4096]⟩
abbrev S1x4096x1024 : Shape := ⟨3, ![1, 4096, 1024]⟩
abbrev S8192x1024 : Shape := ⟨2, ![8192, 1024]⟩
abbrev S512x4096 : Shape := ⟨2, ![512, 4096]⟩
abbrev S512x1024 : Shape := ⟨2, ![512, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x1024, .f32⟩
  | .hbm, ⟨3, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x4096 : Shape := ⟨2, ![8192, 4096]⟩
abbrev S1x4096x1024 : Shape := ⟨3, ![1, 4096, 1024]⟩
abbrev S8192x1024 : Shape := ⟨2, ![8192, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x1024, .f32⟩
  | .hbm, ⟨3, _⟩ => ⟨S8192x4096, .f32⟩
  | .hbm, ⟨4, _⟩ => ⟨S4096x1024, .bf16⟩
  | .hbm, ⟨5, _⟩ => ⟨S4096x1024, .f32⟩
  | .hbm, ⟨6, _⟩ => ⟨S8192x1024, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4x1024x1024 : Shape := ⟨3, ![4, 1024, 1024]⟩
abbrev S4096x1024 : Shape := ⟨2, ![4096, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference12Ideal.lean ====
abbrev S4x1024x1024 : Shape := ⟨3, ![4, 1024, 1024]⟩
abbrev S_ : Shape := ⟨0, ![]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S2x1024x640 : Shape := ⟨3, ![2, 1024, 640]⟩
abbrev S2048x640 : Shape := ⟨2, ![2048, 640]⟩
abbrev S512x640 : Shape := ⟨2, ![512, 640]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .hbm, ⟨9, _⟩ => ⟨S2048x640, .f32⟩
  | .hbm, ⟨10, _⟩ => ⟨S2048x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference13Ideal.lean ====
abbrev S2x1024x640 : Shape := ⟨3, ![2, 1024, 640]⟩
abbrev S_ : Shape := ⟨0, ![]⟩
abbrev S2048x640 : Shape := ⟨2, ![2048, 640]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S_, .f32⟩
  | .hbm, ⟨5, _⟩ => ⟨S2x1024x640, .f32⟩
  | .hbm, ⟨6, _⟩ => ⟨S2x1024x640, .f32⟩
  | .hbm, ⟨7, _⟩ => ⟨S_, .f32⟩
  | .hbm, ⟨8, _⟩ => ⟨S2x1024x640, .f32⟩
  | .hbm, ⟨9, _⟩ => ⟨S2x1024x640, .f32⟩
  | .hbm, ⟨10, _⟩ => ⟨S2x1024x640, .f32⟩
  | .hbm, ⟨11, _⟩ => ⟨S_, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S_, .f32⟩
  | .hbm, ⟨16, _⟩ => ⟨S2x1024x640, .f32⟩
  | .hbm, ⟨17, _⟩ => ⟨S2x1024x640, .f32⟩
  | .hbm, ⟨18, _⟩ => ⟨S2x1024x640, .f32⟩
  | .hbm, ⟨19, _⟩ => ⟨S_, .f32⟩
  | .hbm, ⟨20, _⟩ => ⟨S2x1024x640, .f32⟩
  | .hbm, ⟨21, _⟩ => ⟨S2x1024x640, .f32⟩
  | .hbm, ⟨22, _⟩ => ⟨S_, .f32⟩
  | .hbm, ⟨23, _⟩ => ⟨S2x1024x640, .f32⟩
  | .hbm, ⟨24, _⟩ => ⟨S2x1024x640, .f32⟩
  | .hbm, ⟨25, _⟩ => ⟨S2x1024x640, .f32⟩
  | .hbm, ⟨26, _⟩ => ⟨S_, .f32⟩
  | .hbm, ⟨27, _⟩ => ⟨S2x1024x640, .f32⟩
  | .hbm, ⟨28, _⟩ => ⟨S2x1024x640, .f32⟩
  | .hbm, ⟨29, _⟩ => ⟨S2x1024x640, .f32⟩
  | .hbm, ⟨30, _⟩ => ⟨S_, .f32⟩
  | .hbm, ⟨31, _⟩ => ⟨S2x1024x640, .f32⟩
  | .hbm, ⟨32, _⟩ => ⟨S2x1024x640, .f32⟩
  | .hbm, ⟨33, _⟩ => ⟨S2x1024x640, .f32⟩
  | .hbm, ⟨34, _⟩ => ⟨S_, .f32⟩
  | .hbm, ⟨35, _⟩ => ⟨S2x1024x640, .f32⟩
  | .hbm, ⟨36, _⟩ => ⟨S2x1024x640, .f32⟩
  | .hbm, ⟨37, _⟩ => ⟨S2048x640, .f32⟩
  | .hbm, ⟨38, _⟩ => ⟨S2048x640, .f32⟩
  | .hbm, ⟨39, _⟩ => ⟨S2048x640, .f32⟩
  | _, _ => ⟨S2x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S2x320x1024 : Shape := ⟨3, ![2, 320, 1024]⟩
abbrev S640x1024 : Shape := ⟨2, ![640, 1024]⟩
abbrev S320x1024 : Shape := ⟨2, ![320, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x320x1024, .f32⟩
  | .hbm, ⟨1, _⟩ => ⟨S2x320x1024, .f32⟩
  | .hbm, ⟨2, _⟩ => ⟨S2x320x1024, .f32⟩
  | .hbm, ⟨3, _⟩ => ⟨S2x320x1024, .f32⟩
  | .hbm, ⟨4, _⟩ => ⟨S640x1024, .f32⟩
  | .hbm, ⟨5, _⟩ => ⟨S640x1024, .f32⟩
  | .hbm, ⟨6, _⟩ => ⟨S640x1024, .f32⟩
  | .hbm, ⟨7, _⟩ => ⟨S640x1024, .f32⟩
  | .hbm, ⟨8, _⟩ => ⟨S640x1024, .f32⟩
  | .hbm, ⟨9, _⟩ => ⟨S640x1024, .f32⟩
  | .hbm, ⟨10, _⟩ => ⟨S640x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .f32⟩
  | _, _ => ⟨S2x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference14Ideal.lean ====
abbrev S2x320x1024 : Shape := ⟨3, ![2, 320, 1024]⟩
abbrev S_ : Shape := ⟨0, ![]⟩
abbrev S640x1024 : Shape := ⟨2, ![640, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x320x1024, .f32⟩
  | .hbm, ⟨1, _⟩ => ⟨S2x320x1024, .f32⟩
  | .hbm, ⟨2, _⟩ => ⟨S2x320x1024, .f32⟩
  | .hbm, ⟨3, _⟩ => ⟨S2x320x1024, .f32⟩
  | .hbm, ⟨4, _⟩ => ⟨S_, .f32⟩
  | .hbm, ⟨5, _⟩ => ⟨S2x320x1024, .f32⟩
  | .hbm, ⟨6, _⟩ => ⟨S2x320x1024, .f32⟩
  | .hbm, ⟨7, _⟩ => ⟨S_, .f32⟩
  | .hbm, ⟨8, _⟩ => ⟨S2x320x1024, .f32⟩
  | .hbm, ⟨9, _⟩ => ⟨S2x320x1024, .f32⟩
  | .hbm, ⟨10, _⟩ => ⟨S2x320x1024, .f32⟩
  | .hbm, ⟨11, _⟩ => ⟨S_, .f32⟩
  | .hbm, ⟨12, _⟩ => ⟨S2x320x1024, .f32⟩
  | .hbm, ⟨13, _⟩ => ⟨S2x320x1024, .f32⟩
  | .hbm, ⟨14, _⟩ => ⟨S2x320x1024, .f32⟩
  | .hbm, ⟨15, _⟩ => ⟨S_, .f32⟩
  | .hbm, ⟨16, _⟩ => ⟨S2x320x1024, .f32⟩
  | .hbm, ⟨17, _⟩ => ⟨S2x320x1024, .f32⟩
  | .hbm, ⟨18, _⟩ => ⟨S2x320x1024, .f32⟩
  | .hbm, ⟨19, _⟩ => ⟨S_, .f32⟩
  | .hbm, ⟨20, _⟩ => ⟨S2x320x1024, .f32⟩
  | .hbm, ⟨21, _⟩ => ⟨S2x320x1024, .f32⟩
  | .hbm, ⟨22, _⟩ => ⟨S_, .f32⟩
  | .hbm, ⟨23, _⟩ => ⟨S2x320x1024, .f32⟩
  | .hbm, ⟨24, _⟩ => ⟨S2x320x1024, .f32⟩
  | .hbm, ⟨25, _⟩ => ⟨S2x320x1024, .f32⟩
  | .hbm, ⟨26, _⟩ => ⟨S_, .f32⟩
  | .hbm, ⟨27, _⟩ => ⟨S2x320x1024, .f32⟩
  | .hbm, ⟨28, _⟩ => ⟨S2x320x1024, .f32⟩
  | .hbm, ⟨29, _⟩ => ⟨S2x320x1024, .f32⟩
  | .hbm, ⟨30, _⟩ => ⟨S_, .f32⟩
  | .hbm, ⟨31, _⟩ => ⟨S2x320x1024, .f32⟩
  | .hbm, ⟨32, _⟩ => ⟨S2x320x1024, .f32⟩
  | .hbm, ⟨33, _⟩ => ⟨S2x320x1024, .f32⟩
  | .hbm, ⟨34, _⟩ => ⟨S_, .f32⟩
  | .hbm, ⟨35, _⟩ => ⟨S2x320x1024, .f32⟩
  | .hbm, ⟨36, _⟩ => ⟨S2x320x1024, .f32⟩
  | .hbm, ⟨37, _⟩ => ⟨S640x1024, .f32⟩
  | .hbm, ⟨38, _⟩ => ⟨S640x1024, .f32⟩
  | .hbm, ⟨39, _⟩ => ⟨S640x1024, .f32⟩
  | _, _ => ⟨S2x320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel15Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference15Ideal.lean ====
abbrev S1x1024x512 : Shape := ⟨3, ![1, 1024, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference16Ideal.lean ====
abbrev S1x1024x768 : Shape := ⟨3, ![1, 1024, 768]⟩
abbrev S_ : Shape := ⟨0, ![]⟩
abbrev S1024x768 : Shape := ⟨2, ![1024, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S1024x768, .f32⟩
  | .hbm, ⟨38, _⟩ => ⟨S1024x768, .f32⟩
  | .hbm, ⟨39, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel17Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference17Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S2x16x80x80 : Shape := ⟨4, ![2, 16, 80, 80]⟩
abbrev S2560x80 : Shape := ⟨2, ![2560, 80]⟩
abbrev S512x80 : Shape := ⟨2, ![512, 80]⟩

abbrev nBuf : Space → Nat
  | .hbm => 11
  | .vmem => 14
  | .smem => 0
  | _ => 0

abbrev bufTy : (tb : Table) → Fin (tcTables nBuf tb) → BufTy
  | .hbm, ⟨0, _⟩ => ⟨S2x16x80x80, .f32⟩
  | .hbm, ⟨1, _⟩ => ⟨S2x16x80x80, .f32⟩
  | .hbm, ⟨2, _⟩ => ⟨S2x16x80x80, .f32⟩
  | .hbm, ⟨3, _⟩ => ⟨S2x16x80x80, .f32⟩
  | .hbm, ⟨4, _⟩ => ⟨S2560x80, .f32⟩
  | .hbm, ⟨5, _⟩ => ⟨S2560x80, .f32⟩
  | .hbm, ⟨6, _⟩ => ⟨S2560x80, .f32⟩
  | .hbm, ⟨7, _⟩ => ⟨S2560x80, .f32⟩
  | .hbm, ⟨8, _⟩ => ⟨S2560x80, .f32⟩
  | .hbm, ⟨9, _⟩ => ⟨S2560x80, .f32⟩
  | .hbm, ⟨10, _⟩ => ⟨S2560x80, .f32⟩
  | .local _ .vmem, ⟨0, _⟩ => ⟨S512x80, .f32⟩
  | .local _ .vmem, ⟨1, _⟩ => ⟨S512x80, .f32⟩
  | .local _ .vmem, ⟨2, _⟩ => ⟨S512x80, .f32⟩
  | .local _ .vmem, ⟨3, _⟩ => ⟨S512x80, .f32⟩
  | .local _ .vmem, ⟨4, _⟩ => ⟨S512x80, .f32⟩
  | .local _ .vmem, ⟨5, _⟩ => ⟨S512x80, .f32⟩
  | .local _ .vmem, ⟨6, _⟩ => ⟨S512x80, .f32⟩
  | .local _ .vmem, ⟨7, _⟩ => ⟨S512x80, .f32⟩
  | .local _ .vmem, ⟨8, _⟩ => ⟨S512x80, .f32⟩
  | .local _ .vmem, ⟨9, _⟩ => ⟨S512x80, .f32⟩
  | .local _ .vmem, ⟨10, _⟩ => ⟨S512x80, .f32⟩
  | .local _ .vmem, ⟨11, _⟩ => ⟨S512x80, .f32⟩
  | .local _ .vmem, ⟨12, _⟩ => ⟨S512x80, .f32⟩
  | .local _ .vmem, ⟨13, _⟩ => ⟨S512x80, .f32⟩
  | _, _ => ⟨S2x16x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference18Ideal.lean ====
abbrev S2x16x80x80 : Shape := ⟨4, ![2, 16, 80, 80]⟩
abbrev S_ : Shape := ⟨0, ![]⟩
abbrev S2560x80 : Shape := ⟨2, ![2560, 80]⟩

abbrev nBuf : Space → Nat
  | .hbm => 40
  | .vmem => 0
  | .smem => 0
  | _ => 0

abbrev bufTy : (tb : Table) → Fin (tcTables nBuf tb) → BufTy
  | .hbm, ⟨0, _⟩ => ⟨S2x16x80x80, .f32⟩
  | .hbm, ⟨1, _⟩ => ⟨S2x16x80x80, .f32⟩
  | .hbm, ⟨2, _⟩ => ⟨S2x16x80x80, .f32⟩
  | .hbm, ⟨3, _⟩ => ⟨S2x16x80x80, .f32⟩
  | .hbm, ⟨4, _⟩ => ⟨S_, .f32⟩
  | .hbm, ⟨5, _⟩ => ⟨S2x16x80x80, .f32⟩
  | .hbm, ⟨6, _⟩ => ⟨S2x16x80x80, .f32⟩
  | .hbm, ⟨7, _⟩ => ⟨S_, .f32⟩
  | .hbm, ⟨8, _⟩ => ⟨S2x16x80x80, .f32⟩
  | .hbm, ⟨9, _⟩ => ⟨S2x16x80x80, .f32⟩
  | .hbm, ⟨10, _⟩ => ⟨S2x16x80x80, .f32⟩
  | .hbm, ⟨11, _⟩ => ⟨S_, .f32⟩
  | .hbm, ⟨12, _⟩ => ⟨S2x16x80x80, .f32⟩
  | .hbm, ⟨13, _⟩ => ⟨S2x16x80x80, .f32⟩
  | .hbm, ⟨14, _⟩ => ⟨S2x16x80x80, .f32⟩
  | .hbm, ⟨15, _⟩ => ⟨S_, .f32⟩
  | .hbm, ⟨16, _⟩ => ⟨S2x16x80x80, .f32⟩
  | .hbm, ⟨17, _⟩ => ⟨S2x16x80x80, .f32⟩
  | .hbm, ⟨18, _⟩ => ⟨S2x16x80x80, .f32⟩
  | .hbm, ⟨19, _⟩ => ⟨S_, .f32⟩
  | .hbm, ⟨20, _⟩ => ⟨S2x16x80x80, .f32⟩
  | .hbm, ⟨21, _⟩ => ⟨S2x16x80x80, .f32⟩
  | .hbm, ⟨22, _⟩ => ⟨S_, .f32⟩
  | .hbm, ⟨23, _⟩ => ⟨S2x16x80x80, .f32⟩
  | .hbm, ⟨24, _⟩ => ⟨S2x16x80x80, .f32⟩
  | .hbm, ⟨25, _⟩ => ⟨S2x16x80x80, .f32⟩
  | .hbm, ⟨26, _⟩ => ⟨S_, .f32⟩
  | .hbm, ⟨27, _⟩ => ⟨S2x16x80x80, .f32⟩
  | .hbm, ⟨28, _⟩ => ⟨S2x16x80x80, .f32⟩
  | .hbm, ⟨29, _⟩ => ⟨S2x16x80x80, .f32⟩
  | .hbm, ⟨30, _⟩ => ⟨S_, .f32⟩
  | .hbm, ⟨31, _⟩ => ⟨S2x16x80x80, .f32⟩
  | .hbm, ⟨32, _⟩ => ⟨S2x16x80x80, .f32⟩
  | .hbm, ⟨33, _⟩ => ⟨S2x16x80x80, .f32⟩
  | .hbm, ⟨34, _⟩ => ⟨S_, .f32⟩
  | .hbm, ⟨35, _⟩ => ⟨S2x16x80x80, .f32⟩
  | .hbm, ⟨36, _⟩ => ⟨S2x16x80x80, .f32⟩
  | .hbm, ⟨37, _⟩ => ⟨S2560x80, .f32⟩
  | .hbm, ⟨38, _⟩ => ⟨S2560x80, .f32⟩
  | .hbm, ⟨39, _⟩ => ⟨S2560x80, .f32⟩
  | _, _ => ⟨S2x16x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S1x8x128x128 : Shape := ⟨4, ![1, 8, 128, 128]⟩
abbrev S1024x128 : Shape := ⟨2, ![1024, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference19Ideal.lean ====
abbrev S1x8x128x128 : Shape := ⟨4, ![1, 8, 128, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S_, .f32⟩
  | .hbm, ⟨5, _⟩ => ⟨S1x8x128x128, .f32⟩
  | .hbm, ⟨6, _⟩ => ⟨S1x8x128x128, .f32⟩
  | .hbm, ⟨7, _⟩ => ⟨S_, .f32⟩
  | .hbm, ⟨8, _⟩ => ⟨S1x8x128x128, .f32⟩
  | .hbm, ⟨9, _⟩ => ⟨S1x8x128x128, .f32⟩
  | .hbm, ⟨10, _⟩ => ⟨S1x8x128x128, .f32⟩
  | .hbm, ⟨11, _⟩ => ⟨S_, .f32⟩
  | .hbm, ⟨12, _⟩ => ⟨S1x8x128x128, .f32⟩
  | .hbm, ⟨13, _⟩ => ⟨S1x8x128x128, .f32⟩
  | .hbm, ⟨14, _⟩ => ⟨S1x8x128x128, .f32⟩
  | .hbm, ⟨15, _⟩ => ⟨S_, .f32⟩
  | .hbm, ⟨16, _⟩ => ⟨S1x8x128x128, .f32⟩
  | .hbm, ⟨17, _⟩ => ⟨S1x8x128x128, .f32⟩
  | .hbm, ⟨18, _⟩ => ⟨S1x8x128x128, .f32⟩
  | .hbm, ⟨19, _⟩ => ⟨S_, .f32⟩
  | .hbm, ⟨20, _⟩ => ⟨S1x8x128x128, .f32⟩
  | .hbm, ⟨21, _⟩ => ⟨S1x8x128x128, .f32⟩
  | .hbm, ⟨22, _⟩ => ⟨S_, .f32⟩
  | .hbm, ⟨23, _⟩ => ⟨S1x8x128x128, .f32⟩
  | .hbm, ⟨24, _⟩ => ⟨S1x8x128x128, .f32⟩
  | .hbm, ⟨25, _⟩ => ⟨S1x8x128x128, .f32⟩
  | .hbm, ⟨26, _⟩ => ⟨S_, .f32⟩
  | .hbm, ⟨27, _⟩ => ⟨S1x8x128x128, .f32⟩
  | .hbm, ⟨28, _⟩ => ⟨S1x8x128x128, .f32⟩
  | .hbm, ⟨29, _⟩ => ⟨S1x8x128x128, .f32⟩
  | .hbm, ⟨30, _⟩ => ⟨S_, .f32⟩
  | .hbm, ⟨31, _⟩ => ⟨S1x8x128x128, .f32⟩
  | .hbm, ⟨32, _⟩ => ⟨S1x8x128x128, .f32⟩
  | .hbm, ⟨33, _⟩ => ⟨S1x8x128x128, .f32⟩
  | .hbm, ⟨34, _⟩ => ⟨S_, .f32⟩
  | .hbm, ⟨35, _⟩ => ⟨S1x8x128x128, .f32⟩
  | .hbm, ⟨36, _⟩ => ⟨S1x8x128x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S1x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference20Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference21Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference22Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S2x4x320 : Shape := ⟨3, ![2, 4, 320]⟩
abbrev S8x320 : Shape := ⟨2, ![8, 320]⟩

abbrev nBuf : Space → Nat
  | .hbm => 11
  | .vmem => 7
  | .smem => 0
  | _ => 0

abbrev bufTy : (tb : Table) → Fin (tcTables nBuf tb) → BufTy
  | .hbm, ⟨0, _⟩ => ⟨S2x4x320, .f32⟩
  | .hbm, ⟨1, _⟩ => ⟨S2x4x320, .f32⟩
  | .hbm, ⟨2, _⟩ => ⟨S2x4x320, .f32⟩
  | .hbm, ⟨3, _⟩ => ⟨S2x4x320, .f32⟩
  | .hbm, ⟨4, _⟩ => ⟨S8x320, .f32⟩
  | .hbm, ⟨5, _⟩ => ⟨S8x320, .f32⟩
  | .hbm, ⟨6, _⟩ => ⟨S8x320, .f32⟩
  | .hbm, ⟨7, _⟩ => ⟨S8x320, .f32⟩
  | .hbm, ⟨8, _⟩ => ⟨S8x320, .f32⟩
  | .hbm, ⟨9, _⟩ => ⟨S8x320, .f32⟩
  | .hbm, ⟨10, _⟩ => ⟨S8x320, .f32⟩
  | .local _ .vmem, ⟨0, _⟩ => ⟨S8x320, .f32⟩
  | .local _ .vmem, ⟨1, _⟩ => ⟨S8x320, .f32⟩
  | .local _ .vmem, ⟨2, _⟩ => ⟨S8x320, .f32⟩
  | .local _ .vmem, ⟨3, _⟩ => ⟨S8x320, .f32⟩
  | .local _ .vmem, ⟨4, _⟩ => ⟨S8x320, .f32⟩
  | .local _ .vmem, ⟨5, _⟩ => ⟨S8x320, .f32⟩
  | .local _ .vmem, ⟨6, _⟩ => ⟨S8x320, .f32⟩
  | _, _ => ⟨S2x4x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel23Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference23Ideal.lean ====
abbrev S2x4x320 : Shape := ⟨3, ![2, 4, 320]⟩
abbrev S_ : Shape := ⟨0, ![]⟩
abbrev S8x320 : Shape := ⟨2, ![8, 320]⟩

abbrev nBuf : Space → Nat
  | .hbm => 40
  | .vmem => 0
  | .smem => 0
  | _ => 0

abbrev bufTy : (tb : Table) → Fin (tcTables nBuf tb) → BufTy
  | .hbm, ⟨0, _⟩ => ⟨S2x4x320, .f32⟩
  | .hbm, ⟨1, _⟩ => ⟨S2x4x320, .f32⟩
  | .hbm, ⟨2, _⟩ => ⟨S2x4x320, .f32⟩
  | .hbm, ⟨3, _⟩ => ⟨S2x4x320, .f32⟩
  | .hbm, ⟨4, _⟩ => ⟨S_, .f32⟩
  | .hbm, ⟨5, _⟩ => ⟨S2x4x320, .f32⟩
  | .hbm, ⟨6, _⟩ => ⟨S2x4x320, .f32⟩
  | .hbm, ⟨7, _⟩ => ⟨S_, .f32⟩
  | .hbm, ⟨8, _⟩ => ⟨S2x4x320, .f32⟩
  | .hbm, ⟨9, _⟩ => ⟨S2x4x320, .f32⟩
  | .hbm, ⟨10, _⟩ => ⟨S2x4x320, .f32⟩
  | .hbm, ⟨11, _⟩ => ⟨S_, .f32⟩
  | .hbm, ⟨12, _⟩ => ⟨S2x4x320, .f32⟩
  | .hbm, ⟨13, _⟩ => ⟨S2x4x320, .f32⟩
  | .hbm, ⟨14, _⟩ => ⟨S2x4x320, .f32⟩
  | .hbm, ⟨15, _⟩ => ⟨S_, .f32⟩
  | .hbm, ⟨16, _⟩ => ⟨S2x4x320, .f32⟩
  | .hbm, ⟨17, _⟩ => ⟨S2x4x320, .f32⟩
  | .hbm, ⟨18, _⟩ => ⟨S2x4x320, .f32⟩
  | .hbm, ⟨19, _⟩ => ⟨S_, .f32⟩
  | .hbm, ⟨20, _⟩ => ⟨S2x4x320, .f32⟩
  | .hbm, ⟨21, _⟩ => ⟨S2x4x320, .f32⟩
  | .hbm, ⟨22, _⟩ => ⟨S_, .f32⟩
  | .hbm, ⟨23, _⟩ => ⟨S2x4x320, .f32⟩
  | .hbm, ⟨24, _⟩ => ⟨S2x4x320, .f32⟩
  | .hbm, ⟨25, _⟩ => ⟨S2x4x320, .f32⟩
  | .hbm, ⟨26, _⟩ => ⟨S_, .f32⟩
  | .hbm, ⟨27, _⟩ => ⟨S2x4x320, .f32⟩
  | .hbm, ⟨28, _⟩ => ⟨S2x4x320, .f32⟩
  | .hbm, ⟨29, _⟩ => ⟨S2x4x320, .f32⟩
  | .hbm, ⟨30, _⟩ => ⟨S_, .f32⟩
  | .hbm, ⟨31, _⟩ => ⟨S2x4x320, .f32⟩
  | .hbm, ⟨32, _⟩ => ⟨S2x4x320, .f32⟩
  | .hbm, ⟨33, _⟩ => ⟨S2x4x320, .f32⟩
  | .hbm, ⟨34, _⟩ => ⟨S_, .f32⟩
  | .hbm, ⟨35, _⟩ => ⟨S2x4x320, .f32⟩
  | .hbm, ⟨36, _⟩ => ⟨S2x4x320, .f32⟩
  | .hbm, ⟨37, _⟩ => ⟨S8x320, .f32⟩
  | .hbm, ⟨38, _⟩ => ⟨S8x320, .f32⟩
  | .hbm, ⟨39, _⟩ => ⟨S8x320, .f32⟩
  | _, _ => ⟨S2x4x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S2x320 : Shape := ⟨2, ![2, 320]⟩

abbrev nBuf : Space → Nat
  | .hbm => 7
  | .vmem => 7
  | .smem => 0
  | _ => 0

abbrev bufTy : (tb : Table) → Fin (tcTables nBuf tb) → BufTy
  | .hbm, ⟨0, _⟩ => ⟨S2x320, .f32⟩
  | .hbm, ⟨1, _⟩ => ⟨S2x320, .f32⟩
  | .hbm, ⟨2, _⟩ => ⟨S2x320, .f32⟩
  | .hbm, ⟨3, _⟩ => ⟨S2x320, .f32⟩
  | .hbm, ⟨4, _⟩ => ⟨S2x320, .f32⟩
  | .hbm, ⟨5, _⟩ => ⟨S2x320, .f32⟩
  | .hbm, ⟨6, _⟩ => ⟨S2x320, .f32⟩
  | .local _ .vmem, ⟨0, _⟩ => ⟨S2x320, .f32⟩
  | .local _ .vmem, ⟨1, _⟩ => ⟨S2x320, .f32⟩
  | .local _ .vmem, ⟨2, _⟩ => ⟨S2x320, .f32⟩
  | .local _ .vmem, ⟨3, _⟩ => ⟨S2x320, .f32⟩
  | .local _ .vmem, ⟨4, _⟩ => ⟨S2x320, .f32⟩
  | .local _ .vmem, ⟨5, _⟩ => ⟨S2x320, .f32⟩
  | .local _ .vmem, ⟨6, _⟩ => ⟨S2x320, .f32⟩
  | _, _ => ⟨S2x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel24Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference24Ideal.lean ====
abbrev S2x320 : Shape := ⟨2, ![2, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x320, .f32⟩
  | .hbm, ⟨1, _⟩ => ⟨S2x320, .f32⟩
  | .hbm, ⟨2, _⟩ => ⟨S2x320, .f32⟩
  | .hbm, ⟨3, _⟩ => ⟨S2x320, .f32⟩
  | .hbm, ⟨4, _⟩ => ⟨S_, .f32⟩
  | .hbm, ⟨5, _⟩ => ⟨S2x320, .f32⟩
  | .hbm, ⟨6, _⟩ => ⟨S2x320, .f32⟩
  | .hbm, ⟨7, _⟩ => ⟨S_, .f32⟩
  | .hbm, ⟨8, _⟩ => ⟨S2x320, .f32⟩
  | .hbm, ⟨9, _⟩ => ⟨S2x320, .f32⟩
  | .hbm, ⟨10, _⟩ => ⟨S2x320, .f32⟩
  | .hbm, ⟨11, _⟩ => ⟨S_, .f32⟩
  | .hbm, ⟨12, _⟩ => ⟨S2x320, .f32⟩
  | .hbm, ⟨13, _⟩ => ⟨S2x320, .f32⟩
  | .hbm, ⟨14, _⟩ => ⟨S2x320, .f32⟩
  | .hbm, ⟨15, _⟩ => ⟨S_, .f32⟩
  | .hbm, ⟨16, _⟩ => ⟨S2x320, .f32⟩
  | .hbm, ⟨17, _⟩ => ⟨S2x320, .f32⟩
  | .hbm, ⟨18, _⟩ => ⟨S2x320, .f32⟩
  | .hbm, ⟨19, _⟩ => ⟨S_, .f32⟩
  | .hbm, ⟨20, _⟩ => ⟨S2x320, .f32⟩
  | .hbm, ⟨21, _⟩ => ⟨S2x320, .f32⟩
  | .hbm, ⟨22, _⟩ => ⟨S_, .f32⟩
  | .hbm, ⟨23, _⟩ => ⟨S2x320, .f32⟩
  | .hbm, ⟨24, _⟩ => ⟨S2x320, .f32⟩
  | .hbm, ⟨25, _⟩ => ⟨S2x320, .f32⟩
  | .hbm, ⟨26, _⟩ => ⟨S_, .f32⟩
  | .hbm, ⟨27, _⟩ => ⟨S2x320, .f32⟩
  | .hbm, ⟨28, _⟩ => ⟨S2x320, .f32⟩
  | .hbm, ⟨29, _⟩ => ⟨S2x320, .f32⟩
  | .hbm, ⟨30, _⟩ => ⟨S_, .f32⟩
  | .hbm, ⟨31, _⟩ => ⟨S2x320, .f32⟩
  | .hbm, ⟨32, _⟩ => ⟨S2x320, .f32⟩
  | .hbm, ⟨33, _⟩ => ⟨S2x320, .f32⟩
  | .hbm, ⟨34, _⟩ => ⟨S_, .f32⟩
  | .hbm, ⟨35, _⟩ => ⟨S2x320, .f32⟩
  | .hbm, ⟨36, _⟩ => ⟨S2x320, .f32⟩
  | _, _ => ⟨S2x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1x8x128 : Shape := ⟨3, ![1, 8, 128]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel25Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference25Ideal.lean ====
abbrev S1x8x128 : Shape := ⟨3, ![1, 8, 128]⟩
abbrev S_ : Shape := ⟨0, ![]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S_, .f32⟩
  | .hbm, ⟨5, _⟩ => ⟨S1x8x128, .f32⟩
  | .hbm, ⟨6, _⟩ => ⟨S1x8x128, .f32⟩
  | .hbm, ⟨7, _⟩ => ⟨S_, .f32⟩
  | .hbm, ⟨8, _⟩ => ⟨S1x8x128, .f32⟩
  | .hbm, ⟨9, _⟩ => ⟨S1x8x128, .f32⟩
  | .hbm, ⟨10, _⟩ => ⟨S1x8x128, .f32⟩
  | .hbm, ⟨11, _⟩ => ⟨S_, .f32⟩
  | .hbm, ⟨12, _⟩ => ⟨S1x8x128, .f32⟩
  | .hbm, ⟨13, _⟩ => ⟨S1x8x128, .f32⟩
  | .hbm, ⟨14, _⟩ => ⟨S1x8x128, .f32⟩
  | .hbm, ⟨15, _⟩ => ⟨S_, .f32⟩
  | .hbm, ⟨16, _⟩ => ⟨S1x8x128, .f32⟩
  | .hbm, ⟨17, _⟩ => ⟨S1x8x128, .f32⟩
  | .hbm, ⟨18, _⟩ => ⟨S1x8x128, .f32⟩
  | .hbm, ⟨19, _⟩ => ⟨S_, .f32⟩
  | .hbm, ⟨20, _⟩ => ⟨S1x8x128, .f32⟩
  | .hbm, ⟨21, _⟩ => ⟨S1x8x128, .f32⟩
  | .hbm, ⟨22, _⟩ => ⟨S_, .f32⟩
  | .hbm, ⟨23, _⟩ => ⟨S1x8x128, .f32⟩
  | .hbm, ⟨24, _⟩ => ⟨S1x8x128, .f32⟩
  | .hbm, ⟨25, _⟩ => ⟨S1x8x128, .f32⟩
  | .hbm, ⟨26, _⟩ => ⟨S_, .f32⟩
  | .hbm, ⟨27, _⟩ => ⟨S1x8x128, .f32⟩
  | .hbm, ⟨28, _⟩ => ⟨S1x8x128, .f32⟩
  | .hbm, ⟨29, _⟩ => ⟨S1x8x128, .f32⟩
  | .hbm, ⟨30, _⟩ => ⟨S_, .f32⟩
  | .hbm, ⟨31, _⟩ => ⟨S1x8x128, .f32⟩
  | .hbm, ⟨32, _⟩ => ⟨S1x8x128, .f32⟩
  | .hbm, ⟨33, _⟩ => ⟨S1x8x128, .f32⟩
  | .hbm, ⟨34, _⟩ => ⟨S_, .f32⟩
  | .hbm, ⟨35, _⟩ => ⟨S1x8x128, .f32⟩
  | .hbm, ⟨36, _⟩ => ⟨S1x8x128, .f32⟩
  | .hbm, ⟨37, _⟩ => ⟨S8x128, .f32⟩
  | .hbm, ⟨38, _⟩ => ⟨S8x128, .f32⟩
  | .hbm, ⟨39, _⟩ => ⟨S8x128, .f32⟩
  | _, _ => ⟨S1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S1x3x256 : Shape := ⟨3, ![1, 3, 256]⟩
abbrev S3x256 : Shape := ⟨2, ![3, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x3x256, .f32⟩
  | .hbm, ⟨1, _⟩ => ⟨S1x3x256, .f32⟩
  | .hbm, ⟨2, _⟩ => ⟨S1x3x256, .f32⟩
  | .hbm, ⟨3, _⟩ => ⟨S1x3x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x256, .f32⟩
  | .hbm, ⟨8, _⟩ => ⟨S3x256, .f32⟩
  | .hbm, ⟨9, _⟩ => ⟨S3x256, .f32⟩
  | .hbm, ⟨10, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S1x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference26Ideal.lean ====
abbrev S1x3x256 : Shape := ⟨3, ![1, 3, 256]⟩
abbrev S_ : Shape := ⟨0, ![]⟩
abbrev S3x256 : Shape := ⟨2, ![3, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x3x256, .f32⟩
  | .hbm, ⟨1, _⟩ => ⟨S1x3x256, .f32⟩
  | .hbm, ⟨2, _⟩ => ⟨S1x3x256, .f32⟩
  | .hbm, ⟨3, _⟩ => ⟨S1x3x256, .f32⟩
  | .hbm, ⟨4, _⟩ => ⟨S_, .f32⟩
  | .hbm, ⟨5, _⟩ => ⟨S1x3x256, .f32⟩
  | .hbm, ⟨6, _⟩ => ⟨S1x3x256, .f32⟩
  | .hbm, ⟨7, _⟩ => ⟨S_, .f32⟩
  | .hbm, ⟨8, _⟩ => ⟨S1x3x256, .f32⟩
  | .hbm, ⟨9, _⟩ => ⟨S1x3x256, .f32⟩
  | .hbm, ⟨10, _⟩ => ⟨S1x3x256, .f32⟩
  | .hbm, ⟨11, _⟩ => ⟨S_, .f32⟩
  | .hbm, ⟨12, _⟩ => ⟨S1x3x256, .f32⟩
  | .hbm, ⟨13, _⟩ => ⟨S1x3x256, .f32⟩
  | .hbm, ⟨14, _⟩ => ⟨S1x3x256, .f32⟩
  | .hbm, ⟨15, _⟩ => ⟨S_, .f32⟩
  | .hbm, ⟨16, _⟩ => ⟨S1x3x256, .f32⟩
  | .hbm, ⟨17, _⟩ => ⟨S1x3x256, .f32⟩
  | .hbm, ⟨18, _⟩ => ⟨S1x3x256, .f32⟩
  | .hbm, ⟨19, _⟩ => ⟨S_, .f32⟩
  | .hbm, ⟨20, _⟩ => ⟨S1x3x256, .f32⟩
  | .hbm, ⟨21, _⟩ => ⟨S1x3x256, .f32⟩
  | .hbm, ⟨22, _⟩ => ⟨S_, .f32⟩
  | .hbm, ⟨23, _⟩ => ⟨S1x3x256, .f32⟩
  | .hbm, ⟨24, _⟩ => ⟨S1x3x256, .f32⟩
  | .hbm, ⟨25, _⟩ => ⟨S1x3x256, .f32⟩
  | .hbm, ⟨26, _⟩ => ⟨S_, .f32⟩
  | .hbm, ⟨27, _⟩ => ⟨S1x3x256, .f32⟩
  | .hbm, ⟨28, _⟩ => ⟨S1x3x256, .f32⟩
  | .hbm, ⟨29, _⟩ => ⟨S1x3x256, .f32⟩
  | .hbm, ⟨30, _⟩ => ⟨S_, .f32⟩
  | .hbm, ⟨31, _⟩ => ⟨S1x3x256, .f32⟩
  | .hbm, ⟨32, _⟩ => ⟨S1x3x256, .f32⟩
  | .hbm, ⟨33, _⟩ => ⟨S1x3x256, .f32⟩
  | .hbm, ⟨34, _⟩ => ⟨S_, .f32⟩
  | .hbm, ⟨35, _⟩ => ⟨S1x3x256, .f32⟩
  | .hbm, ⟨36, _⟩ => ⟨S1x3x256, .f32⟩
  | .hbm, ⟨37, _⟩ => ⟨S3x256, .f32⟩
  | .hbm, ⟨38, _⟩ => ⟨S3x256, .f32⟩
  | .hbm, ⟨39, _⟩ => ⟨S3x256, .f32⟩
  | _, _ => ⟨S1x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S8192x1024 : Shape := ⟨2, ![8192, 1024]⟩
abbrev S1x1024x2048 : Shape := ⟨3, ![1, 1024, 2048]⟩
abbrev S8192x2048 : Shape := ⟨2, ![8192, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x2048, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S512x2048, .f32⟩
  | .local _ .vmem, ⟨4, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S8192x1024 : Shape := ⟨2, ![8192, 1024]⟩
abbrev S1x1024x2048 : Shape := ⟨3, ![1, 1024, 2048]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x2048, .bf16⟩
  | .hbm, ⟨2, _⟩ => ⟨S8192x1024, .f32⟩
  | .hbm, ⟨3, _⟩ => ⟨S1024x2048, .bf16⟩
  | .hbm, ⟨4, _⟩ => ⟨S1024x2048, .f32⟩
  | .hbm, ⟨5, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel28.lean ====
abbrev S8192x1024 : Shape := ⟨2, ![8192, 1024]⟩
abbrev S1x1024x3072 : Shape := ⟨3, ![1, 1024, 3072]⟩
abbrev S8192x3072 : Shape := ⟨2, ![8192, 3072]⟩
abbrev S256x1024 : Shape := ⟨2, ![256, 1024]⟩
abbrev S256x3072 : Shape := ⟨2, ![256, 3072]⟩
abbrev S1024x3072 : Shape := ⟨2, ![1024, 3072]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x3072, .bf16⟩
  | .hbm, ⟨2, _⟩ => ⟨S8192x3072, .f32⟩
  | .local _ .vmem, ⟨0, _⟩ => ⟨S256x1024, .bf16⟩
  | .local _ .vmem, ⟨1, _⟩ => ⟨S256x1024, .bf16⟩
  | .local _ .vmem, ⟨2, _⟩ => ⟨S1x1024x3072, .bf16⟩
  | .local _ .vmem, ⟨3, _⟩ => ⟨S256x3072, .f32⟩
  | .local _ .vmem, ⟨4, _⟩ => ⟨S256x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S8192x1024 : Shape := ⟨2, ![8192, 1024]⟩
abbrev S1x1024x3072 : Shape := ⟨3, ![1, 1024, 3072]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x3072, .bf16⟩
  | .hbm, ⟨2, _⟩ => ⟨S8192x1024, .f32⟩
  | .hbm, ⟨3, _⟩ => ⟨S1024x3072, .bf16⟩
  | .hbm, ⟨4, _⟩ => ⟨S1024x3072, .f32⟩
  | .hbm, ⟨5, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S8192x1280 : Shape := ⟨2, ![8192, 1280]⟩
abbrev S1x1280x1024 : Shape := ⟨3, ![1, 1280, 1024]⟩
abbrev S8192x1024 : Shape := ⟨2, ![8192, 1024]⟩
abbrev S1024 : Shape := ⟨1, ![1024]⟩
abbrev S1x1024 : Shape := ⟨2, ![1, 1024]⟩
abbrev S1024x1280 : Shape := ⟨2, ![1024, 1280]⟩
abbrev S1024x1024 : Shape := ⟨2, ![1024, 1024]⟩
abbrev S1280x1024 : Shape := ⟨2, ![1280, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1280, .bf16⟩
  | .hbm, ⟨1, _⟩ => ⟨S1x1280x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1x1280x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference29Ideal.lean ====
abbrev S8192x1280 : Shape := ⟨2, ![8192, 1280]⟩
abbrev S1x1280x1024 : Shape := ⟨3, ![1, 1280, 1024]⟩
abbrev S8192x1024 : Shape := ⟨2, ![8192, 1024]⟩
abbrev S1024 : Shape := ⟨1, ![1024]⟩
abbrev S1280x1024 : Shape := ⟨2, ![1280, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1x1280x1024, .bf16⟩
  | .hbm, ⟨2, _⟩ => ⟨S8192x1024, .f32⟩
  | .hbm, ⟨3, _⟩ => ⟨S1024, .f32⟩
  | .hbm, ⟨4, _⟩ => ⟨S8192x1280, .f32⟩
  | .hbm, ⟨5, _⟩ => ⟨S1280x1024, .bf16⟩
  | .hbm, ⟨6, _⟩ => ⟨S1280x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel30.lean ====
abbrev S8192x1024 : Shape := ⟨2, ![8192, 1024]⟩
abbrev S1x1024x1024 : Shape := ⟨3, ![1, 1024, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference30Ideal.lean ====
abbrev S8192x1024 : Shape := ⟨2, ![8192, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel31.lean ====
abbrev S8192x1024 : Shape := ⟨2, ![8192, 1024]⟩
abbrev S1x1280x1024 : Shape := ⟨3, ![1, 1280, 1024]⟩
abbrev S8192x1280 : Shape := ⟨2, ![8192, 1280]⟩
abbrev S1024x1024 : Shape := ⟨2, ![1024, 1024]⟩
abbrev S1024x1280 : Shape := ⟨2, ![1024, 1280]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1280x1024, .bf16⟩
  | .hbm, ⟨2, _⟩ => ⟨S8192x1280, .f32⟩
  | .local _ .vmem, ⟨0, _⟩ => ⟨S1024x1024, .bf16⟩
  | .local _ .vmem, ⟨1, _⟩ => ⟨S1024x1024, .bf16⟩
  | .local _ .vmem, ⟨2, _⟩ => ⟨S1x1280x1024, .bf16⟩
  | .local _ .vmem, ⟨3, _⟩ => ⟨S1024x1280, .f32⟩
  | .local _ .vmem, ⟨4, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S8192x1024 : Shape := ⟨2, ![8192, 1024]⟩
abbrev S1x1280x1024 : Shape := ⟨3, ![1, 1280, 1024]⟩
abbrev S_ : Shape := ⟨0, ![]⟩
abbrev S8192x1280 : Shape := ⟨2, ![8192, 1280]⟩
abbrev S1280x1024 : Shape := ⟨2, ![1280, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1280x1024, .bf16⟩
  | .hbm, ⟨2, _⟩ => ⟨S_, .f32⟩
  | .hbm, ⟨3, _⟩ => ⟨S8192x1280, .f32⟩
  | .hbm, ⟨4, _⟩ => ⟨S1280x1024, .bf16⟩
  | .hbm, ⟨5, _⟩ => ⟨S1280x1024, .f32⟩
  | .hbm, ⟨6, _⟩ => ⟨S8192x1024, .f32⟩
  | .hbm, ⟨7, _⟩ => ⟨S8192x1024, .f32⟩
  | .hbm, ⟨8, _⟩ => ⟨S8192x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel32.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S8192x1024 : Shape := ⟨2, ![8192, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S_, .f32⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel33.lean ====
abbrev S8192x1280 : Shape := ⟨2, ![8192, 1280]⟩
abbrev S8192x1024 : Shape := ⟨2, ![8192, 1024]⟩
abbrev S1x1280x1024 : Shape := ⟨3, ![1, 1280, 1024]⟩
abbrev S2048x640 : Shape := ⟨2, ![2048, 640]⟩
abbrev S2048x1024 : Shape := ⟨2, ![2048, 1024]⟩
abbrev S1x640x1024 : Shape := ⟨3, ![1, 640, 1024]⟩
abbrev S640x1024 : Shape := ⟨2, ![640, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S1x1280x1024, .f32⟩
  | .hbm, ⟨3, _⟩ => ⟨S1x1280x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S1x640x1024, .f32⟩
  | .local _ .vmem, ⟨5, _⟩ => ⟨S1x640x1024, .f32⟩
  | .local _ .vmem, ⟨6, _⟩ => ⟨S1x640x1024, .bf16⟩
  | .local _ .vmem, ⟨7, _⟩ => ⟨S1x640x1024, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference33Ideal.lean ====
abbrev S8192x1280 : Shape := ⟨2, ![8192, 1280]⟩
abbrev S8192x1024 : Shape := ⟨2, ![8192, 1024]⟩
abbrev S_ : Shape := ⟨0, ![]⟩
abbrev S1280x1024 : Shape := ⟨2, ![1280, 1024]⟩
abbrev S1024x1280 : Shape := ⟨2, ![1024, 1280]⟩
abbrev S1x1280x1024 : Shape := ⟨3, ![1, 1280, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S_, .f32⟩
  | .hbm, ⟨3, _⟩ => ⟨S1280x1024, .f32⟩
  | .hbm, ⟨4, _⟩ => ⟨S8192x1280, .f32⟩
  | .hbm, ⟨5, _⟩ => ⟨S8192x1024, .f32⟩
  | .hbm, ⟨6, _⟩ => ⟨S8192x1024, .f32⟩
  | .hbm, ⟨7, _⟩ => ⟨S1024x1280, .f32⟩
  | .hbm, ⟨8, _⟩ => ⟨S1280x1024, .f32⟩
  | .hbm, ⟨9, _⟩ => ⟨S1x1280x1024, .f32⟩
  | .hbm, ⟨10, _⟩ => ⟨S1x1280x1024, .f32⟩
  | .hbm, ⟨11, _⟩ => ⟨S1x1280x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel34.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .hbm, ⟨3, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference34Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .f32⟩
  | .hbm, ⟨11, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel35.lean ====
abbrev S8192x1024 : Shape := ⟨2, ![8192, 1024]⟩
abbrev S8192x2048 : Shape := ⟨2, ![8192, 2048]⟩
abbrev S1x1024x2048 : Shape := ⟨3, ![1, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x1024x2048, .f32⟩
  | .hbm, ⟨3, _⟩ => ⟨S1x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference35Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1x1024x2048, .f32⟩
  | .hbm, ⟨10, _⟩ => ⟨S1x1024x2048, .f32⟩
  | .hbm, ⟨11, _⟩ => ⟨S1x1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel36.lean ====
abbrev S8192x1024 : Shape := ⟨2, ![8192, 1024]⟩
abbrev S8192x3072 : Shape := ⟨2, ![8192, 3072]⟩
abbrev S1x1024x3072 : Shape := ⟨3, ![1, 1024, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1x1024x3072, .f32⟩
  | .hbm, ⟨3, _⟩ => ⟨S1x1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 3, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference36Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1x1024x3072 : Shape := ⟨3, ![1, 1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1x1024x3072, .f32⟩
  | .hbm, ⟨10, _⟩ => ⟨S1x1024x3072, .f32⟩
  | .hbm, ⟨11, _⟩ => ⟨S1x1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel37.lean ====
abbrev S8192x2048 : Shape := ⟨2, ![8192, 2048]⟩
abbrev S1x1024x2048 : Shape := ⟨3, ![1, 1024, 2048]⟩
abbrev S8192x1024 : Shape := ⟨2, ![8192, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1x1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference37Ideal.lean ====
abbrev S8192x2048 : Shape := ⟨2, ![8192, 2048]⟩
abbrev S1x1024x2048 : Shape := ⟨3, ![1, 1024, 2048]⟩
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x2048, .bf16⟩
  | .hbm, ⟨6, _⟩ => ⟨S1024x2048, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2048, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel38.lean ====
abbrev S8192x3072 : Shape := ⟨2, ![8192, 3072]⟩
abbrev S1x1024x3072 : Shape := ⟨3, ![1, 1024, 3072]⟩
abbrev S8192x1024 : Shape := ⟨2, ![8192, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S1024x3072 : Shape := ⟨2, ![1024, 3072]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S1x1024x3072, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference38Ideal.lean ====
abbrev S8192x3072 : Shape := ⟨2, ![8192, 3072]⟩
abbrev S1x1024x3072 : Shape := ⟨3, ![1, 1024, 3072]⟩
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x1024x3072, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x3072, .bf16⟩
  | .hbm, ⟨6, _⟩ => ⟨S1024x3072, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x3072, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel39.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference39Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel40.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v52 : BitVec 1 := Scalar.cmpi .eq arg0 c15_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference40Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S8192x1024, .bf16⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel41.lean ====
abbrev S8192x3072 : Shape := ⟨2, ![8192, 3072]⟩
abbrev S3x1024 : Shape := ⟨2, ![3, 1024]⟩
abbrev S8192x1024 : Shape := ⟨2, ![8192, 1024]⟩
abbrev S256x3072 : Shape := ⟨2, ![256, 3072]⟩
abbrev S8x3072 : Shape := ⟨2, ![8, 3072]⟩
abbrev S256x1024 : Shape := ⟨2, ![256, 1024]⟩
abbrev S264x1024 : Shape := ⟨2, ![264, 1024]⟩
abbrev S8x1024 : Shape := ⟨2, ![8, 1024]⟩
abbrev S1x1024 : Shape := ⟨2, ![1, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .bf16⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | .local _ .vmem, ⟨7, _⟩ => ⟨S264x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference41Ideal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S2x1024, .f32⟩
  | .hbm, ⟨8, _⟩ => ⟨S8194x1024, .f32⟩
  | .hbm, ⟨9, _⟩ => ⟨S1x1024, .f32⟩
  | .hbm, ⟨10, _⟩ => ⟨S1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Kernel42.lean ====
abbrev S8192x2048 : Shape := ⟨2, ![8192, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S8192x1024 : Shape := ⟨2, ![8192, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 27
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S_, .f32⟩
  | .hbm, ⟨17, _⟩ => ⟨S_, .f32⟩
  | .hbm, ⟨18, _⟩ => ⟨S8x128x128, .i1⟩
  | .hbm, ⟨19, _⟩ => ⟨S8x128x128, .f32⟩
  | .hbm, ⟨20, _⟩ => ⟨S8x128x128, .f32⟩
  | .hbm, ⟨21, _⟩ => ⟨S128x8, .f32⟩
  | .hbm, ⟨22, _⟩ => ⟨S128x8x128, .f32⟩
  | .hbm, ⟨23, _⟩ => ⟨S128x1024, .f32⟩
  | .hbm, ⟨24, _⟩ => ⟨S1x1024, .f32⟩
  | .hbm, ⟨25, _⟩ => ⟨S8x128x128, .bf16⟩
  | .hbm, ⟨26, _⟩ => ⟨S8192x1024, .bf16⟩
  | .local _ .vmem, ⟨0, _⟩ => ⟨S256x2048, .f32⟩
  | .local _ .vmem, ⟨1, _⟩ => ⟨S256x2048, .f32⟩
  | .local _ .vmem, ⟨2, _⟩ => ⟨S1x1024, .f32⟩
  | .local _ .vmem, ⟨3, _⟩ => ⟨S8x128x128, .bf16⟩
  | .local _ .vmem, ⟨4, _⟩ => ⟨S128x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel42Ideal.lean ====
variable {F : FTy → Type} [FloatOps F] [Named F]
def κ : String → Option EReal := fun
  | "gelu_c" => some ((8943 / 200000 : ℝ) : EReal)
  | _ => none
-- ==== Reference42Ideal.lean ====
abbrev S8192x2048 : Shape := ⟨2, ![8192, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S1x128x8x1 : Shape := ⟨4, ![1, 128, 8, 1]⟩
abbrev S1x128x8x128 : Shape := ⟨4, ![1, 128, 8, 128]⟩
abbrev S8192x1024 : Shape := ⟨2, ![8192, 1024]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S8x64x128x128 : Shape := ⟨4, ![8, 64, 128, 128]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S_, .f32⟩
  | .hbm, ⟨17, _⟩ => ⟨S8x128x128, .i1⟩
  | .hbm, ⟨18, _⟩ => ⟨S8x128x128, .f32⟩
  | .hbm, ⟨19, _⟩ => ⟨S8x128x128, .f32⟩
  | .hbm, ⟨20, _⟩ => ⟨S128x8, .f32⟩
  | .hbm, ⟨21, _⟩ => ⟨S1x128x8x1, .f32⟩
  | .hbm, ⟨22, _⟩ => ⟨S1x128x8x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S64x128x8x128, .f32⟩
  | .hbm, ⟨61, _⟩ => ⟨S8x64x128x128, .f32⟩
  | .hbm, ⟨62, _⟩ => ⟨S64x128x8x128, .f32⟩
  | .hbm, ⟨63, _⟩ => ⟨S64x128x8x128, .f32⟩
  | .hbm, ⟨64, _⟩ => ⟨S64x128x8x128, .f32⟩
  | .hbm, ⟨65, _⟩ => ⟨S8192x1024, .f32⟩
  | .hbm, ⟨66, _⟩ => ⟨S8192x1024, .f32⟩
  | .hbm, ⟨67, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Kernel43.lean ====
abbrev S1x128 : Shape := ⟨2, ![1, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S1x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== Reference43Ideal.lean ====
abbrev S8x128 : Shape := ⟨2, ![8, 128]⟩
abbrev S8x1 : Shape := ⟨2, ![8, 1]⟩
abbrev S8 : Shape := ⟨1, ![8]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x1, .f32⟩
  | .hbm, ⟨2, _⟩ => ⟨S8, .f32⟩
  | .hbm, ⟨3, _⟩ => ⟨S_, .f32⟩
  | .hbm, ⟨4, _⟩ => ⟨S_, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel44.lean ====
abbrev S8192x3072 : Shape := ⟨2, ![8192, 3072]⟩
abbrev S8192x1024 : Shape := ⟨2, ![8192, 1024]⟩
abbrev S3x1024 : Shape := ⟨2, ![3, 1024]⟩
abbrev S8x1024 : Shape := ⟨2, ![8, 1024]⟩
abbrev S256x3072 : Shape := ⟨2, ![256, 3072]⟩
abbrev S8x3072 : Shape := ⟨2, ![8, 3072]⟩
abbrev S256x1024 : Shape := ⟨2, ![256, 1024]⟩
abbrev S264x1024 : Shape := ⟨2, ![264, 1024]⟩
abbrev S1x512 : Shape := ⟨2, ![1, 512]⟩
abbrev S16x512 : Shape := ⟨2, ![16, 512]⟩
abbrev S512 : Shape := ⟨1, ![512]⟩

abbrev nBuf : Space → Nat
  | .hbm => 5
  | .vmem => 16
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S3x1024, .f32⟩
  | .hbm, ⟨3, _⟩ => ⟨S8192x3072, .bf16⟩
  | .hbm, ⟨4, _⟩ => ⟨S8x1024, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | .local _ .vmem, ⟨14, _⟩ => ⟨S264x1024, .f32⟩
  | .local _ .vmem, ⟨15, _⟩ => ⟨S264x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference44Ideal.lean ====
abbrev S8192x3072 : Shape := ⟨2, ![8192, 3072]⟩
abbrev S8192x1024 : Shape := ⟨2, ![8192, 1024]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S3x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S2x1024, .f32⟩
  | .hbm, ⟨9, _⟩ => ⟨S8194x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S8194x1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S8194x1024, .f32⟩
  | .hbm, ⟨58, _⟩ => ⟨S8194x1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S3x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S8194x1024, .f32⟩
  | .hbm, ⟨73, _⟩ => ⟨S8194x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S2x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x3072, .f32⟩
  | .hbm, ⟨83, _⟩ => ⟨S8192x3072, .bf16⟩
  | .hbm, ⟨84, _⟩ => ⟨S_, .i32⟩
  | .hbm, ⟨85, _⟩ => ⟨S_, .f32⟩
  | .hbm, ⟨86, _⟩ => ⟨S8x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c : Ref sig .tc := ⟨.hbm, 84, rfl⟩
abbrev main_call0_v0 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Kernel45.lean ====
abbrev S1x1024x4096 : Shape := ⟨3, ![1, 1024, 4096]⟩
abbrev S7x512x1024 : Shape := ⟨3, ![7, 512, 1024]⟩
abbrev S4x2x512x1024 : Shape := ⟨4, ![4, 2, 512, 1024]⟩
abbrev S2 : Shape := ⟨1, ![2]⟩
abbrev S1x512x1024 : Shape := ⟨3, ![1, 512, 1024]⟩
abbrev S1 : Shape := ⟨1, ![1]⟩
abbrev S1x1x512x1024 : Shape := ⟨4, ![1, 1, 512, 1024]⟩
abbrev S512x1024 : Shape := ⟨2, ![512, 1024]⟩

abbrev nBuf : Space → Nat
  | .hbm => 4
  | .vmem => 3
  | .smem => 1
  | _ => 0

abbrev bufTy : (tb : Table) → Fin (tcTables nBuf tb) → BufTy
  | .hbm, ⟨0, _⟩ => ⟨S1x1024x4096, .f32⟩
  | .hbm, ⟨1, _⟩ => ⟨S7x512x1024, .bf16⟩
  | .hbm, ⟨2, _⟩ => ⟨S4x2x512x1024, .f32⟩
  | .hbm, ⟨3, _⟩ => ⟨S4x2x512x1024, .f32⟩
  | .local _ .vmem, ⟨0, _⟩ => ⟨S1x512x1024, .f32⟩
  | .local _ .vmem, ⟨1, _⟩ => ⟨S7x512x1024, .bf16⟩
  | .local _ .vmem, ⟨2, _⟩ => ⟨S1x1x512x1024, .f32⟩
  | .local _ .smem, ⟨0, _⟩ => ⟨S2, .i32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0 : Index := 0#32
  let v3 : BitVec 32 := pf.at 0 (Rect.unit (s := S2) ![0] S1.size inb_S2_S1_0) numel1_S1
  let c1_i32_0 : BitVec 32 := 1#32
  let v4 : BitVec 32 := Scalar.muli v3 c1_i32_0
  let v5 : BitVec 32 := Scalar.addi v4 arg1
  let c0_i32 : BitVec 32 := 0#32
  let c0_i32_1 : BitVec 32 := 0#32
  ![c0_i32.toNat, v2.toNat, v5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![c0_i32.toNat, v0.toNat, arg0.toNat, arg1.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S7x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference45Ideal.lean ====
abbrev S1x1024x4096 : Shape := ⟨3, ![1, 1024, 4096]⟩
abbrev S7x512x1024 : Shape := ⟨3, ![7, 512, 1024]⟩
abbrev S4x2x512x1024 : Shape := ⟨4, ![4, 2, 512, 1024]⟩
abbrev S2 : Shape := ⟨1, ![2]⟩
abbrev S1x1024x1024 : Shape := ⟨3, ![1, 1024, 1024]⟩
abbrev S1024x1024 : Shape := ⟨2, ![1024, 1024]⟩
abbrev S1 : Shape := ⟨1, ![1]⟩
abbrev S_ : Shape := ⟨0, ![]⟩
abbrev S512x1024 : Shape := ⟨2, ![512, 1024]⟩
abbrev S1x1x512x1024 : Shape := ⟨4, ![1, 1, 512, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1x1024x4096, .f32⟩
  | .hbm, ⟨1, _⟩ => ⟨S7x512x1024, .bf16⟩
  | .hbm, ⟨2, _⟩ => ⟨S4x2x512x1024, .f32⟩
  | .hbm, ⟨3, _⟩ => ⟨S2, .i32⟩
  | .hbm, ⟨4, _⟩ => ⟨S1x1024x1024, .f32⟩
  | .hbm, ⟨5, _⟩ => ⟨S1024x1024, .f32⟩
  | .hbm, ⟨6, _⟩ => ⟨S1x1024x1024, .f32⟩
  | .hbm, ⟨7, _⟩ => ⟨S1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S1024x1024, .f32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S1024x1024, .f32⟩
  | .hbm, ⟨26, _⟩ => ⟨S1024x1024, .f32⟩
  | .hbm, ⟨27, _⟩ => ⟨S1, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S7x512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S1x1x512x1024, .f32⟩
  | .hbm, ⟨39, _⟩ => ⟨S1, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S4x2x512x1024, .f32⟩
  | _, _ => ⟨S1x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_c_6 : Ref sig .tc := ⟨.hbm, 47, rfl⟩
abbrev main_c_7 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Sgu.Lift.lean ====
module

public import Idealize.ShloMosaic.Lib.Pipeline.Value
public import Idealize.ShloMosaic.Lib.ValueIdx
public import Idealize.ShloMosaic.Lib.MatmulPlain
public import Idealize.ShloMosaic.Lib.IdealHost

/-! Arrays of real numbers at the ideal values: each operation of the kernels on arrays whose entries are reals, entry by
entry. An array of two axes is given by a real function of the two coordinates. -/

@[expose] public section

noncomputable section

namespace Cert.Lift

open Idealize.ShloMosaic Idealize.ShloMosaic.ValueIdx
open scoped BigOperators

/-- The array of two axes whose entry at `(r, c)` is the real `f r c`. -/
def L2 {a b : ℕ} {φ : FTy} (f : ℕ → ℕ → ℝ) : FVec Ideal ⟨2, ![a, b]⟩ φ :=
  fun j => ((f (j 0).val (j 1).val : ℝ) : EReal)

/-- The array of three axes whose entry at `(p, q, r)` is the real `f p q r`. -/
def L3 {a b d : ℕ} {φ : FTy} (f : ℕ → ℕ → ℕ → ℝ) : FVec Ideal ⟨3, ![a, b, d]⟩ φ :=
  fun j => ((f (j 0).val (j 1).val (j 2).val : ℝ) : EReal)

/-- A finite sum of reals is the sum taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum over the first `n` naturals of reals is the sum over `Fin n` taken in the extended reals. -/
theorem coe_sum_range (n : ℕ) (f : ℕ → ℝ) : ((∑ i ∈ Finset.range n, f i : ℝ) : EReal) = ∑ i : Fin n, (f i.val : EReal) := by
  rw [Finset.sum_range, coe_sum]

variable {a b k : ℕ} {φ ψ : FTy}

theorem mulf_L2 (f g : ℕ → ℕ → ℝ) : mulf (L2 f : FVec Ideal ⟨2, ![a, b]⟩ φ) (L2 g) = L2 fun r c => f r c * g r c :=
  funext fun _ => (EReal.coe_mul _ _).symm

theorem addf_L2 (f g : ℕ → ℕ → ℝ) : addf (L2 f : FVec Ideal ⟨2, ![a, b]⟩ φ) (L2 g) = L2 fun r c => f r c + g r c :=
  funext fun _ => (EReal.coe_add _ _).symm

theorem subf_L2 (f g : ℕ → ℕ → ℝ) : subf (L2 f : FVec Ideal ⟨2, ![a, b]⟩ φ) (L2 g) = L2 fun r c => f r c - g r c :=
  funext fun _ => (EReal.coe_sub _ _).symm

theorem tanh_L2 (f : ℕ → ℕ → ℝ) : tanh (L2 f : FVec Ideal ⟨2, ![a, b]⟩ φ) = L2 fun r c => Real.tanh (f r c) := rfl

theorem truncf_L2 (f : ℕ → ℕ → ℝ) (h : ψ.bits < φ.bits) :
    truncf ψ (L2 f : FVec Ideal ⟨2, ![a, b]⟩ φ) h = L2 f := rfl

theorem broadcast_L2 (x : EReal) (v : ℝ) (h : x = (v : EReal)) :
    (broadcast ⟨2, ![a, b]⟩ x : FVec Ideal ⟨2, ![a, b]⟩ φ) = L2 fun _ _ => v := by
  subst h; rfl

theorem rsqrt_L2 (f : ℕ → ℕ → ℝ) (h : ∀ r c, 0 < f r c) :
    rsqrt (L2 f : FVec Ideal ⟨2, ![a, b]⟩ φ) = L2 fun r c => (Real.sqrt (f r c))⁻¹ := by
  funext j
  show Ideal.rsqrt ((f _ _ : ℝ) : EReal) = _
  rw [Ideal.rsqrt_coe, if_neg (not_lt.mpr (h _ _).le), if_neg (h _ _).ne']
  rfl

theorem divf_L2 (f : ℕ → ℕ → ℝ) (v : ℝ) (h : v ≠ 0) :
    divf (L2 f : FVec Ideal ⟨2, ![a, b]⟩ φ) (L2 fun _ _ => v) = L2 fun r c => f r c / v := by
  funext j
  show Ideal.div ((f _ _ : ℝ) : EReal) ((v : ℝ) : EReal) = _
  rw [Ideal.div_coe h, ← EReal.coe_mul, mul_one_div]
  rfl

/-- A slice reads the entries at the offsets. -/
theorem slice_L2 {a' b' o0 o1 : ℕ} (f : ℕ → ℕ → ℝ) (h : (⟨2, ![a, b]⟩ : Shape).Slices ![o0, o1] ⟨2, ![a', b']⟩) :
    extractStridedSlice ⟨2, ![a', b']⟩ ![o0, o1] (L2 f : FVec Ideal ⟨2, ![a, b]⟩ φ) h
      = L2 fun r c => f (o0 + r) (o1 + c) := rfl

/-- A column repeated along the second axis. -/
theorem bcast_col_L2 (f : ℕ → ℕ → ℝ) (ha : a ≠ 1) (h : (⟨2, ![a, 1]⟩ : Shape).Broadcasts ⟨2, ![a, b]⟩) :
    broadcastTo ⟨2, ![a, b]⟩ (L2 f : FVec Ideal ⟨2, ![a, 1]⟩ φ) h = L2 fun r _ => f r 0 := by
  funext j
  refine (broadcastTo_apply _ h j (ix2 (j 0) ⟨0, Nat.one_pos⟩) fun i => ?_).trans rfl
  match i with
  | ⟨0, _⟩ => show (j 0).val = if a = 1 then 0 else (j 0).val; rw [if_neg ha]
  | ⟨1, _⟩ => rfl

/-- A row repeated along the first axis. -/
theorem bcast_row_L2 (f : ℕ → ℕ → ℝ) (hb : b ≠ 1) (h : (⟨2, ![1, b]⟩ : Shape).Broadcasts ⟨2, ![a, b]⟩) :
    broadcastTo ⟨2, ![a, b]⟩ (L2 f : FVec Ideal ⟨2, ![1, b]⟩ φ) h = L2 fun _ c => f 0 c := by
  funext j
  refine (broadcastTo_apply _ h j (ix2 ⟨0, Nat.one_pos⟩ (j 1)) fun i => ?_).trans rfl
  match i with
  | ⟨0, _⟩ => rfl
  | ⟨1, _⟩ => show (j 1).val = if b = 1 then 0 else (j 1).val; rw [if_neg hb]

theorem shapeCast_L2 (x : FVec Ideal ⟨2, ![a, b]⟩ φ) (h : (⟨2, ![a, b]⟩ : Shape).ShapeCasts ⟨2, ![a, b]⟩) :
    shapeCast ⟨2, ![a, b]⟩ x h = x := shapeCast_self _ h

/-- The sums along the second axis, as a column. -/
theorem rowsum_L2 (f : ℕ → ℕ → ℝ) (acc : BitVec φ.bits) (h : (⟨2, ![a, b]⟩ : Shape).Reduces [1] ⟨1, ![a]⟩)
    (hφ : FKind.Formats φ) (hacc : acc = FKind.add.neutral φ hφ) (hc : (⟨1, ![a]⟩ : Shape).ShapeCasts ⟨2, ![a, 1]⟩) :
    shapeCast ⟨2, ![a, 1]⟩ (multiReduction .add [1] ⟨1, ![a]⟩ (L2 f : FVec Ideal ⟨2, ![a, b]⟩ φ) acc h hφ hacc) hc
      = L2 fun r _ => ∑ k ∈ Finset.range b, f r k := by
  funext j
  refine (shapeCast_apply _ hc j (ix1 (j 0)) ?_).trans ?_
  · rw [Shape.rowMajor_val_one, Shape.rowMajor_val_two]
    have h1 : (j 1).val < 1 := (j 1).isLt
    show (j 0).val = (j 0).val * 1 + (j 1).val
    omega
  · rw [Ideal.multiReduction_add_single]
    refine Eq.trans ?_ (coe_sum_range b _).symm
    rfl

/-- The sums along the first axis, as a row. -/
theorem colsum_L2 (f : ℕ → ℕ → ℝ) (acc : BitVec φ.bits) (h : (⟨2, ![a, b]⟩ : Shape).Reduces [0] ⟨1, ![b]⟩)
    (hφ : FKind.Formats φ) (hacc : acc = FKind.add.neutral φ hφ) (hc : (⟨1, ![b]⟩ : Shape).ShapeCasts ⟨2, ![1, b]⟩) :
    shapeCast ⟨2, ![1, b]⟩ (multiReduction .add [0] ⟨1, ![b]⟩ (L2 f : FVec Ideal ⟨2, ![a, b]⟩ φ) acc h hφ hacc) hc
      = L2 fun _ c => ∑ k ∈ Finset.range a, f k c := by
  funext j
  refine (shapeCast_apply _ hc j (ix1 (j 1)) ?_).trans ?_
  · rw [Shape.rowMajor_val_one, Shape.rowMajor_val_two]
    have h1 : (j 0).val < 1 := (j 0).isLt
    show (j 1).val = (j 0).val * b + (j 1).val
    have : (j 0).val = 0 := by omega
    rw [this]; omega
  · rw [Ideal.multiReduction_add_single]
    refine Eq.trans ?_ (coe_sum_range a _).symm
    rfl

/-- A plain product of two arrays of reals, into zero. -/
theorem matmul_plain_L2 {n : ℕ} (f g : ℕ → ℕ → ℝ) (prec : Option ContractPrecision)
    (D : DotDims ⟨2, ![a, k]⟩ ⟨2, ![k, n]⟩ ⟨2, ![a, n]⟩) (hD : D = DotDims.plain a k n) :
    FloatOps.matmul D prec (L2 f : FVec Ideal ⟨2, ![a, k]⟩ φ) (L2 g : FVec Ideal ⟨2, ![k, n]⟩ ψ)
        (constant ⟨2, ![a, n]⟩ .f32 0x00000000#32)
      = L2 fun r c => ∑ i ∈ Finset.range k, f r i * g i c := by
  subst hD
  funext j
  rw [eq_ix2 j]
  refine (Ideal.matmul_plain_apply prec _ _ _ (j 0) (j 1)).trans ?_
  show Ideal.ofBits .f32 0x00000000#32 + _ = _
  rw [Ideal.ofBits_zero_f32, zero_add]
  refine Eq.trans ?_ (coe_sum_range k _).symm
  exact Finset.sum_congr rfl fun i _ => (EReal.coe_mul _ _).symm

/-- A product with the second array transposed, of two arrays of reals, into zero. -/
theorem matmul_transposedRhs_L2 {n : ℕ} (f g : ℕ → ℕ → ℝ) (prec : Option ContractPrecision)
    (D : DotDims ⟨2, ![a, k]⟩ ⟨2, ![n, k]⟩ ⟨2, ![a, n]⟩) (hD : D = DotDims.transposedRhs a k n) :
    FloatOps.matmul D prec (L2 f : FVec Ideal ⟨2, ![a, k]⟩ φ) (L2 g : FVec Ideal ⟨2, ![n, k]⟩ ψ)
        (constant ⟨2, ![a, n]⟩ .f32 0x00000000#32)
      = L2 fun r c => ∑ i ∈ Finset.range k, f r i * g c i := by
  subst hD
  funext j
  rw [eq_ix2 j]
  refine (Ideal.matmul_transposedRhs_apply prec _ _ _ (j 0) (j 1)).trans ?_
  show Ideal.ofBits .f32 0x00000000#32 + _ = _
  rw [Ideal.ofBits_zero_f32, zero_add]
  refine Eq.trans ?_ (coe_sum_range k _).symm
  exact Finset.sum_congr rfl fun i _ => (EReal.coe_mul _ _).symm

/-- One slab of an array of three axes, read as an array of two. -/
theorem slab_L3 {d e p : ℕ} (f : ℕ → ℕ → ℕ → ℝ) (inb : ∀ i, ![p, 0, 0] i + ![1, b, d] i ≤ (⟨3, ![e, b, d]⟩ : Shape).size i)
    (hc : (⟨3, ![1, b, d]⟩ : Shape).ShapeCasts ⟨2, ![b, d]⟩) :
    shapeCast ⟨2, ![b, d]⟩ (View.ld (Val := Elt Ideal) (e' := .bf16) (S := ⟨3, ![e, b, d]⟩) (L3 f : FVec Ideal ⟨3, ![e, b, d]⟩ .bf16) (Rect.unit ![p, 0, 0] ![1, b, d] inb)) hc
      = (L2 (f p) : FVec Ideal ⟨2, ![b, d]⟩ .bf16) := by
  funext j
  refine (shapeCast_apply _ hc j (ix3 ⟨0, Nat.one_pos⟩ (j 0) (j 1)) ?_).trans ?_
  · rw [Shape.rowMajor_val_three, Shape.rowMajor_val_two]
    show (0 * b + (j 0).val) * d + (j 1).val = (j 0).val * d + (j 1).val
    rw [Nat.zero_mul, Nat.zero_add]
  · show ((f (p + 1 * 0) (0 + 1 * (j 0).val) (0 + 1 * (j 1).val) : ℝ) : EReal) = ((f p (j 0).val (j 1).val : ℝ) : EReal)
    simp only [Nat.mul_zero, Nat.add_zero, Nat.zero_add, Nat.one_mul]

/-- One slab of an array of three axes, read as an array of two, at the wider format. -/
theorem slab_L3f {d e p : ℕ} (f : ℕ → ℕ → ℕ → ℝ) (inb : ∀ i, ![p, 0, 0] i + ![1, b, d] i ≤ (⟨3, ![e, b, d]⟩ : Shape).size i)
    (hc : (⟨3, ![1, b, d]⟩ : Shape).ShapeCasts ⟨2, ![b, d]⟩) :
    shapeCast ⟨2, ![b, d]⟩ (View.ld (Val := Elt Ideal) (e' := .f32) (S := ⟨3, ![e, b, d]⟩) (L3 f : FVec Ideal ⟨3, ![e, b, d]⟩ .f32) (Rect.unit ![p, 0, 0] ![1, b, d] inb)) hc
      = (L2 (f p) : FVec Ideal ⟨2, ![b, d]⟩ .f32) := by
  funext j
  refine (shapeCast_apply _ hc j (ix3 ⟨0, Nat.one_pos⟩ (j 0) (j 1)) ?_).trans ?_
  · rw [Shape.rowMajor_val_three, Shape.rowMajor_val_two]
    show (0 * b + (j 0).val) * d + (j 1).val = (j 0).val * d + (j 1).val
    rw [Nat.zero_mul, Nat.zero_add]
  · show ((f (p + 1 * 0) (0 + 1 * (j 0).val) (0 + 1 * (j 1).val) : ℝ) : EReal) = ((f p (j 0).val (j 1).val : ℝ) : EReal)
    simp only [Nat.mul_zero, Nat.add_zero, Nat.zero_add, Nat.one_mul]

/-- An array of two axes given a leading unit axis. -/
theorem addUnit_L2 {d : ℕ} (f : ℕ → ℕ → ℝ) (hc : (⟨2, ![b, d]⟩ : Shape).ShapeCasts ⟨3, ![1, b, d]⟩) :
    shapeCast ⟨3, ![1, b, d]⟩ (L2 f : FVec Ideal ⟨2, ![b, d]⟩ φ) hc = L3 fun _ => f := by
  funext j
  refine (shapeCast_apply _ hc j (ix2 (j 1) (j 2)) ?_).trans rfl
  rw [Shape.rowMajor_val_three, Shape.rowMajor_val_two]
  have h0 : (j 0).val = 0 := by have : (j 0).val < 1 := (j 0).isLt; omega
  show (j 1).val * d + (j 2).val = ((j 0).val * b + (j 1).val) * d + (j 2).val
  rw [h0, Nat.zero_mul, Nat.zero_add]

/-- An array of three axes whose first is a unit axis, as one of two. -/
theorem dropUnit_L3 {d : ℕ} (f : ℕ → ℕ → ℕ → ℝ) (hc : (⟨3, ![1, b, d]⟩ : Shape).ShapeCasts ⟨2, ![b, d]⟩) :
    shapeCast ⟨2, ![b, d]⟩ (L3 f : FVec Ideal ⟨3, ![1, b, d]⟩ φ) hc = L2 (f 0) := by
  funext j
  refine (shapeCast_apply _ hc j (ix3 ⟨0, Nat.one_pos⟩ (j 0) (j 1)) ?_).trans rfl
  rw [Shape.rowMajor_val_three, Shape.rowMajor_val_two]
  show (0 * b + (j 0).val) * d + (j 1).val = (j 0).val * d + (j 1).val
  rw [Nat.zero_mul, Nat.zero_add]

end Cert.Lift
end
-- ==== Proof.Sgu.Spec.lean ====
module

public import proofs.«01_k».proof.Proof.Sgu.Lift

/-! The gradient of the gated unit in real numbers, as functions of a row and a channel: `p` the rows given to the unit,
`dy` the rows of the gradient of its result, `ng` the gains of the normalization, `w` the masked mixing matrices and `bi`
the bias of a position and a channel. -/

@[expose] public section

noncomputable section

namespace Cert.Sgu

open scoped BigOperators

/-- The factor inside the hyperbolic tangent. -/
def gk : ℝ := 13386282 / 16777216
/-- The small number added to a mean of squares. -/
def eps : ℝ := 8796093 / 8796093022208

theorem eps_pos : 0 < eps := by unfold eps; norm_num

/-- The hyperbolic tangent of the activation at `x`. -/
def th (x : ℝ) : ℝ := Real.tanh (gk * (x + 8943 / 200000 * x * x * x))
/-- The activation. -/
def gel (x : ℝ) : ℝ := 1 / 2 * x * (1 + th x)
/-- Its derivative. -/
def dgel (x : ℝ) : ℝ :=
  1 / 2 * (1 + th x) + 1 / 2 * x * (1 - th x * th x) * (gk * (1 + 26829 / 200000 * x * x))

section
variable (p dy : ℕ → ℕ → ℝ) (ng : ℕ → ℝ) (w : ℕ → ℕ → ℕ → ℝ) (bi : ℕ → ℕ → ℝ)

/-- The gate's half of the activated row. -/
def su (r c : ℕ) : ℝ := gel (p r c)
/-- The other half. -/
def sv (r c : ℕ) : ℝ := gel (p r (1024 + c))
/-- The mean of squares of a row, and the small number. -/
def ms (r : ℕ) : ℝ := (∑ c ∈ Finset.range 1024, sv p r c * sv p r c) / 1024 + eps
/-- The inverse root of it. -/
def rs (r : ℕ) : ℝ := (Real.sqrt (ms p r))⁻¹
/-- The normalized half. -/
def vh (r c : ℕ) : ℝ := sv p r c * rs p r
/-- The normalized half times its gain. -/
def vn (r c : ℕ) : ℝ := vh p r c * ng c
/-- The gradient of the mixed rows. -/
def dm (r c : ℕ) : ℝ := dy r c * su p r c
/-- The rows of a chunk mixed by the matrix of the channel's group. -/
def mx (r c : ℕ) : ℝ := ∑ k ∈ Finset.range 128, w (c / 128) (r % 128) k * vn p ng (r / 128 * 128 + k) c
/-- The gradient of the normalized rows. -/
def dvn (r c : ℕ) : ℝ := ∑ k ∈ Finset.range 128, w (c / 128) k (r % 128) * dm p dy (r / 128 * 128 + k) c
/-- The gradient before the gain. -/
def dvh (r c : ℕ) : ℝ := dvn p dy w r c * ng c
/-- The gradient of the second half. -/
def dv (r c : ℕ) : ℝ :=
  rs p r * (dvh p dy ng w r c
    - vh p r c * ((∑ k ∈ Finset.range 1024, dvh p dy ng w r k * vh p r k) / 1024))
/-- The gradient of the first half. -/
def du (r c : ℕ) : ℝ := dy r c * (mx p ng w r c + bi (r % 128) c)
/-- The gradient of the rows given to the unit. -/
def dp (r c : ℕ) : ℝ :=
  if c < 1024 then du p dy ng w bi r c * dgel (p r c) else dv p dy ng w r (c - 1024) * dgel (p r c)
/-- What one row adds to the gradient of the gains. -/
def dngAt (r c : ℕ) : ℝ := dvn p dy w r c * vh p r c
/-- What one chunk adds to the gradient of the mixing matrices. -/
def dwcAt (n g a b : ℕ) : ℝ :=
  ∑ c ∈ Finset.range 128, dm p dy (128 * n + a) (128 * g + c) * vn p ng (128 * n + b) (128 * g + c)

theorem ms_pos (r : ℕ) : 0 < ms p r :=
  add_pos_of_nonneg_of_pos (div_nonneg (Finset.sum_nonneg fun _ _ => mul_self_nonneg _) (by norm_num)) eps_pos

end

end Cert.Sgu
end
-- ==== Proof.Sgu.Pieces.lean ====
module

public import proofs.«01_k».proof.Proof.Sgu.Lift
public import Idealize.ShloMosaic.Lib.Pipeline.ValueKit
public import Idealize.ShloMosaic.Lib.Pipeline.ReadBack

/-! A buffer stored piece by piece, each piece an array of reals. -/

@[expose] public section

noncomputable section

namespace Cert.Lift

open Idealize.ShloMosaic Idealize.ShloMosaic.ValueIdx Idealize.SL.Sem

/-- Every piece of the list holds the entries of `G` at its place. -/
def Agrees {S : Shape} {e : EltTy} (L : List (View.Piece (Elt Ideal) S e)) (G : S.Idx → Elt Ideal e) : Prop :=
  ∀ q ∈ L, ∀ x : q.1.shape.Idx, q.2 x = G (q.1.emb x)

theorem agrees_nil {S : Shape} {e : EltTy} (G : S.Idx → Elt Ideal e) : Agrees [] G := fun _ h => by simp at h

theorem agrees_cons {S : Shape} {e : EltTy} (q : View.Piece (Elt Ideal) S e) (L : List (View.Piece (Elt Ideal) S e))
    (G : S.Idx → Elt Ideal e) (h1 : ∀ x : q.1.shape.Idx, q.2 x = G (q.1.emb x)) (h2 : Agrees L G) : Agrees (q :: L) G := by
  intro q' hq'
  rcases List.mem_cons.mp hq' with rfl | h
  · exact h1
  · exact h2 q' h

/-- A rectangular piece of reals, in an array of two axes. -/
theorem agrees_cons2 {a b o0 o1 h w : ℕ} (f G : ℕ → ℕ → ℝ)
    (inb : ∀ i, ![o0, o1] i + ![h, w] i ≤ (⟨2, ![a, b]⟩ : Shape).size i)
    (L : List (View.Piece (Elt Ideal) ⟨2, ![a, b]⟩ .f32))
    (h1 : ∀ r c, r < h → c < w → f r c = G (o0 + r) (o1 + c)) (h2 : Agrees L (L2 G : FVec Ideal ⟨2, ![a, b]⟩ .f32)) :
    Agrees ((⟨Rect.unit ![o0, o1] ![h, w] inb, (L2 f : FVec Ideal ⟨2, ![h, w]⟩ .f32)⟩ : View.Piece (Elt Ideal) ⟨2, ![a, b]⟩ .f32) :: L)
      (L2 G : FVec Ideal ⟨2, ![a, b]⟩ .f32) := by
  refine agrees_cons _ _ _ (fun x => ?_) h2
  show ((f (x 0).val (x 1).val : ℝ) : EReal) = ((G (o0 + 1 * (x 0).val) (o1 + 1 * (x 1).val) : ℝ) : EReal)
  rw [h1 _ _ (x 0).isLt (x 1).isLt, Nat.one_mul, Nat.one_mul]

/-- A rectangular piece of reals, in an array of two axes of the narrower format. -/
theorem agrees_cons2b {a b o0 o1 h w : ℕ} (f G : ℕ → ℕ → ℝ)
    (inb : ∀ i, ![o0, o1] i + ![h, w] i ≤ (⟨2, ![a, b]⟩ : Shape).size i)
    (L : List (View.Piece (Elt Ideal) ⟨2, ![a, b]⟩ .bf16))
    (h1 : ∀ r c, r < h → c < w → f r c = G (o0 + r) (o1 + c)) (h2 : Agrees L (L2 G : FVec Ideal ⟨2, ![a, b]⟩ .bf16)) :
    Agrees ((⟨Rect.unit ![o0, o1] ![h, w] inb, (L2 f : FVec Ideal ⟨2, ![h, w]⟩ .bf16)⟩ : View.Piece (Elt Ideal) ⟨2, ![a, b]⟩ .bf16) :: L)
      (L2 G : FVec Ideal ⟨2, ![a, b]⟩ .bf16) := by
  refine agrees_cons _ _ _ (fun x => ?_) h2
  show ((f (x 0).val (x 1).val : ℝ) : EReal) = ((G (o0 + 1 * (x 0).val) (o1 + 1 * (x 1).val) : ℝ) : EReal)
  rw [h1 _ _ (x 0).isLt (x 1).isLt, Nat.one_mul, Nat.one_mul]

/-- A rectangular piece of reals, in an array of three axes. -/
theorem agrees_cons3 {a b d o0 o1 o2 h w l : ℕ} (f G : ℕ → ℕ → ℕ → ℝ)
    (inb : ∀ i, ![o0, o1, o2] i + ![h, w, l] i ≤ (⟨3, ![a, b, d]⟩ : Shape).size i)
    (L : List (View.Piece (Elt Ideal) ⟨3, ![a, b, d]⟩ .f32))
    (h1 : ∀ r c k, r < h → c < w → k < l → f r c k = G (o0 + r) (o1 + c) (o2 + k))
    (h2 : Agrees L (L3 G : FVec Ideal ⟨3, ![a, b, d]⟩ .f32)) :
    Agrees ((⟨Rect.unit ![o0, o1, o2] ![h, w, l] inb, (L3 f : FVec Ideal ⟨3, ![h, w, l]⟩ .f32)⟩ :
        View.Piece (Elt Ideal) ⟨3, ![a, b, d]⟩ .f32) :: L) (L3 G : FVec Ideal ⟨3, ![a, b, d]⟩ .f32) := by
  refine agrees_cons _ _ _ (fun x => ?_) h2
  show ((f (x 0).val (x 1).val (x 2).val : ℝ) : EReal)
    = ((G (o0 + 1 * (x 0).val) (o1 + 1 * (x 1).val) (o2 + 1 * (x 2).val) : ℝ) : EReal)
  rw [h1 _ _ _ (x 0).isLt (x 1).isLt (x 2).isLt, Nat.one_mul, Nat.one_mul, Nat.one_mul]

/-- Pieces that agree with `G` and cover the shape leave `G`. -/
theorem canon_of_agrees {S : Shape} {e : EltTy} {L : List (View.Piece (Elt Ideal) S e)} {G : S.Idx → Elt Ideal e}
    (h : Agrees L G) (hc : ∀ y, ∃ q ∈ L, y ∈ q.1.set) : View.canon L = G :=
  funext fun y => View.canon_apply_of_pieces G L h y (hc y)

/-- The same, only the first `k` pieces being looked at. -/
theorem canon_of_agrees_take {S : Shape} {e : EltTy} {G : S.Idx → Elt Ideal e} : ∀ (k : ℕ) (L : List (View.Piece (Elt Ideal) S e))
    (_ : Agrees (L.take k) G) (_ : ∀ y, ∃ q ∈ L.take k, y ∈ q.1.set), View.canon L = G := by
  have key : ∀ (k : ℕ) (L : List (View.Piece (Elt Ideal) S e)) (y : S.Idx), Agrees (L.take k) G →
      (∃ q ∈ L.take k, y ∈ q.1.set) → View.canon L y = G y := by
    intro k
    induction k with
    | zero => rintro L y _ ⟨q, hq, _⟩; simp at hq
    | succ k ih =>
      intro L y hA hc
      cases L with
      | nil => obtain ⟨q, hq, _⟩ := hc; simp at hq
      | cons p L =>
        rw [List.take_succ_cons] at hA hc
        by_cases hm : y ∈ p.1.set
        · obtain ⟨x, rfl⟩ := p.1.exists_idx_of_mem hm
          rw [show p.1.idx x = p.1.emb x from rfl, View.canon_cons_emb]
          exact hA p List.mem_cons_self x
        · rw [View.canon_cons_of_not_mem _ _ hm]
          refine ih L y (fun q hq => hA q (List.mem_cons_of_mem _ hq)) ?_
          obtain ⟨q, hq, hyq⟩ := hc
          rcases List.mem_cons.mp hq with rfl | hq'
          · exact absurd hyq hm
          · exact ⟨q, hq', hyq⟩
  exact fun k L hA hc => funext fun y => key k L y hA (hc y)

/-- and reading the whole of the buffer back reads `G`. -/
theorem readCov_of_agrees {sig : RefSig} {κ : Kind} {sp : Space} {S : Shape} {e : EltTy} (v : View sig κ sp S e)
    {L : List (View.Piece (Elt Ideal) S e)} {G : S.Idx → Elt Ideal e}
    (h : Agrees L G) (hc : ∀ y, ∃ q ∈ L, y ∈ q.1.set) (off : Fin S.rank → ℕ) (hoff : off = fun _ => 0)
    (inb : ∀ a, off a + S.size a ≤ S.size a) : v.readCov L (Rect.unit off S.size inb).toLoadRect = G := by
  rw [View.readCov_eq_canon', canon_of_agrees h hc]
  exact View.ld_unit_zero hoff inb G

/-- Whether pieces of height `h` and width `wt` stand side by side in the rows from `o` on, `n` of them. -/
def rowTiled {a b : ℕ} {e : EltTy} (L : List (View.Piece (Elt Ideal) ⟨2, ![a, b]⟩ e)) (o h wt n : ℕ) : Bool :=
  decide (∀ ix : Fin n, ∃ p ∈ L, p.1.off 0 = o ∧ p.1.off 1 = ix.val * wt ∧ p.1.size 0 = h ∧ p.1.size 1 = wt
    ∧ p.1.stride 0 = 1 ∧ p.1.stride 1 = 1)

/-- Such pieces hold every entry of those rows. -/
theorem rowTiled_cover {a b : ℕ} {e : EltTy} {L : List (View.Piece (Elt Ideal) ⟨2, ![a, b]⟩ e)} {o h wt n : ℕ}
    (hL : rowTiled L o h wt n = true) (y : (⟨2, ![a, b]⟩ : Shape).Idx) (h0 : o ≤ (y 0).val) (h1 : (y 0).val < o + h)
    (h2 : (y 1).val < n * wt) : ∃ q ∈ L, y ∈ q.1.set := by
  have hw : 0 < wt := Nat.pos_of_ne_zero fun h => by subst h; omega
  have hL := of_decide_eq_true hL
  obtain ⟨p, hp, e0, e1, e2, e3, e4, e5⟩ := hL ⟨(y 1).val / wt, (Nat.div_lt_iff_lt_mul hw).mpr h2⟩
  refine ⟨p, hp, p.1.mem_set.mpr fun i => ?_⟩
  match i with
  | ⟨0, _⟩ => exact ⟨(y 0).val - o, by show _ < p.1.size 0; omega, by show (y 0).val = p.1.off 0 + p.1.stride 0 * _; rw [e0, e4]; omega⟩
  | ⟨1, _⟩ =>
    exact ⟨(y 1).val % wt, by show _ < p.1.size 1; rw [e3]; exact Nat.mod_lt _ hw, by
      show (y 1).val = p.1.off 1 + p.1.stride 1 * _
      rw [e1, e5, Nat.one_mul]; exact (Nat.div_add_mod' _ _).symm⟩

/-- Reading the whole of a buffer back, only the first `k` pieces being looked at. -/
theorem readCov_of_agrees_take {sig : RefSig} {κ : Kind} {sp : Space} {S : Shape} {e : EltTy} (k : ℕ) (v : View sig κ sp S e)
    {L : List (View.Piece (Elt Ideal) S e)} {G : S.Idx → Elt Ideal e}
    (h : Agrees (L.take k) G) (hc : ∀ y, ∃ q ∈ L.take k, y ∈ q.1.set) (off : Fin S.rank → ℕ) (hoff : off = fun _ => 0)
    (inb : ∀ a, off a + S.size a ≤ S.size a) : v.readCov L (Rect.unit off S.size inb).toLoadRect = G := by
  rw [View.readCov_eq_canon', canon_of_agrees_take k L h hc]
  exact View.ld_unit_zero hoff inb G

/-- Reading back whole rows of pieces that agree with `G` and stand side by side there. -/
theorem readRows_of_agrees {sig : RefSig} {κ : Kind} {sp : Space} {a b h w o0 : ℕ} (wt n : ℕ) (v : View sig κ sp ⟨2, ![a, b]⟩ .f32)
    {L : List (View.Piece (Elt Ideal) ⟨2, ![a, b]⟩ .f32)} {G : ℕ → ℕ → ℝ} (hA : Agrees L (L2 G : FVec Ideal ⟨2, ![a, b]⟩ .f32))
    (hc : rowTiled L o0 h wt n = true) (hw : w ≤ n * wt)
    (inb : ∀ i, ![o0, 0] i + ![h, w] i ≤ (⟨2, ![a, b]⟩ : Shape).size i) :
    v.readCov L (Rect.unit ![o0, 0] ![h, w] inb).toLoadRect
      = (L2 (fun r c => G (o0 + r) c) : FVec Ideal ⟨2, ![h, w]⟩ .f32) := by
  rw [View.readCov_eq_canon']
  funext x
  have hx0 : (x 0).val < h := (x 0).isLt
  have hx1 : (x 1).val < w := (x 1).isLt
  refine (View.canon_apply_of_pieces _ L hA _ (rowTiled_cover hc _ ?_ ?_ ?_)).trans ?_
  · show o0 ≤ o0 + 1 * (x 0).val; omega
  · show o0 + 1 * (x 0).val < o0 + h; omega
  · show 0 + 1 * (x 1).val < n * wt; omega
  · show ((G (o0 + 1 * (x 0).val) (0 + 1 * (x 1).val) : ℝ) : EReal) = _
    rw [Nat.one_mul, Nat.one_mul, Nat.zero_add]; rfl

end Cert.Lift
end
-- ==== Proof.Sgu.Block.lean ====
module

public import proofs.«01_k».proof.Proof.Gen.KernelIdeal.Value
public import proofs.«01_k».proof.Proof.Sgu.Spec
public import proofs.«01_k».proof.Proof.Sgu.Pieces

@[expose] public section
set_option maxRecDepth 16384
noncomputable section
namespace Cert.Sgu
open Cert.KernelIdeal Cert.KernelIdeal.Gen Cert.Lift Idealize.ShloMosaic Idealize.ShloMosaic.TcCoe Idealize.SL.Sem
variable (m : (ℓ : Loc nD τ sig) → Buf (Elt Ideal) ℓ)

theorem named_c : (Named.named (F := Ideal) κ "gelu_c" (φ := .f32) 0x3D372713#32) = ((8943 / 200000 : ℝ) : EReal) := rfl
theorem named_3c : (Named.named (F := Ideal) κ "gelu_3c" (φ := .f32) 0x3E095D4F#32) = ((26829 / 200000 : ℝ) : EReal) := rfl
theorem bits_gk : Ideal.ofBits .f32 0x3F4C422A#32 = ((gk : ℝ) : EReal) := by
  unfold gk
  simp [Ideal.ofBits, Ideal.ieee, -EReal.coe_mul]; norm_num
theorem bits_eps : Ideal.ofBits .f32 0x358637BD#32 = ((eps : ℝ) : EReal) := by
  unfold eps
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_zero : Ideal.ofBits .f32 0x00000000#32 = ((0 : ℝ) : EReal) := by
  rw [Ideal.ofBits_zero_f32]; rfl

variable (p dy : ℕ → ℕ → ℝ) (ng : ℕ → ℝ) (w : ℕ → ℕ → ℕ → ℝ) (bi : ℕ → ℕ → ℝ)

/-- The hyperbolic tangents of a block. -/
theorem pay5 : k0_pay5 (F := Ideal) (L2 (φ := .f32) p) = L2 fun r c => th (p r c) := by
  unfold k0_pay5
  simp only [broadcast_L2 _ _ named_c, Scalar.ofBits, broadcast_L2 _ _ bits_gk, mulf_L2, addf_L2, tanh_L2]
  rfl

/-- The activated block. -/
theorem pay6 : k0_pay6 (F := Ideal) (L2 (φ := .f32) p) = L2 fun r c => gel (p r c) := by
  unfold k0_pay6
  simp only [pay5, Scalar.ofBits, broadcast_L2 _ _ bits_half, broadcast_L2 _ _ bits_one, mulf_L2, addf_L2]
  rfl

/-- The block of derivatives. -/
theorem pay7 : k0_pay7 (F := Ideal) (L2 (φ := .f32) p) = L2 fun r c => dgel (p r c) := by
  unfold k0_pay7
  simp only [pay5, Scalar.ofBits, broadcast_L2 _ _ bits_half, broadcast_L2 _ _ bits_one, broadcast_L2 _ _ named_3c,
    broadcast_L2 _ _ bits_gk, mulf_L2, addf_L2, subf_L2]
  rfl

/-- The gate's half of the activated block. -/
theorem pay8 : k0_pay8 (F := Ideal) (L2 (φ := .f32) p) = L2 (su p) := by
  unfold k0_pay8
  simp only [pay6, slice_L2, Nat.zero_add]
  rfl

/-- The other half. -/
theorem pay9 : k0_pay9 (F := Ideal) (L2 (φ := .f32) p) = L2 (sv p) := by
  unfold k0_pay9
  simp only [pay6, slice_L2, Nat.zero_add]
  rfl

/-- The sums of its squares. -/
theorem pay10 : k0_pay10 (F := Ideal) (L2 (φ := .f32) p)
    = L2 fun r _ => ∑ c ∈ Finset.range 1024, sv p r c * sv p r c := by
  unfold k0_pay10
  simp only [pay9, mulf_L2]
  exact rowsum_L2 _ _ _ _ _ _

/-- The inverse roots of a block's means of squares. -/
theorem rsblk : rsqrt (addf (divf (k0_pay10 (F := Ideal) (L2 (φ := .f32) p))
      (broadcast S256x1 (FloatOps.ofBits (F := Ideal) FTy.f32 1149239296#32)))
    (broadcast S256x1 (FloatOps.ofBits (F := Ideal) FTy.f32 897988541#32))) = L2 fun r _ => rs p r := by
  rw [pay10, Ideal.ofBits_def, Ideal.ofBits_def, broadcast_L2 _ _ bits_1024, broadcast_L2 _ _ bits_eps,
    divf_L2 _ _ (by norm_num), addf_L2]
  exact rsqrt_L2 _ fun r _ => ms_pos p r

/-- The normalized block. -/
theorem vhblk (h : S256x1.Broadcasts S256x1024) : mulf (L2 (φ := .f32) (sv p)) (broadcastTo S256x1024 (L2 (φ := .f32) fun r _ => rs p r) h)
    = L2 (vh p) := by
  rw [bcast_col_L2 _ (by decide), mulf_L2]; rfl

/-- The rows of a chunk mixed by the transposed matrix of one group. -/
theorem dvn_piece (o0 o1 g : ℕ) (h0 : o0 % 128 = 0) (h1 : o1 = 128 * g) (r c : ℕ) (hr : r < 128) (hc : c < 128) :
    ∑ i ∈ Finset.range 128, w g i r * (dy (o0 + i) (o1 + c) * su p (o0 + i) (o1 + c)) = dvn p dy w (o0 + r) (o1 + c) := by
  have e1 : (o1 + c) / 128 = g := by omega
  have e2 : (o0 + r) % 128 = r := by omega
  have e3 : (o0 + r) / 128 * 128 = o0 := by omega
  unfold dvn
  rw [e1, e2, e3]; rfl

/-- The rows of a chunk mixed by the matrix of one group. -/
theorem mx_piece (o0 o1 g : ℕ) (h0 : o0 % 128 = 0) (h1 : o1 = 128 * g) (r c : ℕ) (hr : r < 128) (hc : c < 128) :
    ∑ i ∈ Finset.range 128, w g r i * (vh p (o0 + i) (o1 + c) * ng (o1 + c)) = mx p ng w (o0 + r) (o1 + c) := by
  have e1 : (o1 + c) / 128 = g := by omega
  have e2 : (o0 + r) % 128 = r := by omega
  have e3 : (o0 + r) / 128 * 128 = o0 := by omega
  unfold mx
  rw [e1, e2, e3]; rfl

/-- What one chunk and the one after it add to the gradient of a matrix. -/
theorem dwc_piece (s : ℕ → ℕ → ℕ → ℝ) (g r c : ℕ) (o1 : ℕ) (h1 : o1 = 128 * g) :
    s g r c + ∑ i ∈ Finset.range 128, dy (0 + r) (o1 + i) * su p (0 + r) (o1 + i) * (vh p (0 + c) (o1 + i) * ng (o1 + i))
        + ∑ i ∈ Finset.range 128, dy (128 + r) (o1 + i) * su p (128 + r) (o1 + i) * (vh p (128 + c) (o1 + i) * ng (o1 + i))
      = s g r c + dwcAt p dy ng 0 g r c + dwcAt p dy ng 1 g r c := by
  subst h1; rfl

/-- The same from nothing. -/
theorem dwc_piece0 (r c : ℕ) (o1 : ℕ) (h1 : 128 * (o1 / 128) = o1) :
    0 + ∑ i ∈ Finset.range 128, dy (0 + r) (o1 + i) * su p (0 + r) (o1 + i) * (vh p (0 + c) (o1 + i) * ng (o1 + i))
        + ∑ i ∈ Finset.range 128, dy (128 + r) (o1 + i) * su p (128 + r) (o1 + i) * (vh p (128 + c) (o1 + i) * ng (o1 + i))
      = 0 + dwcAt p dy ng 0 (o1 / 128) r c + dwcAt p dy ng 1 (o1 / 128) r c :=
  dwc_piece p dy ng (fun _ _ _ => 0) (o1 / 128) r c o1 h1.symm

/-- The zero arrays. -/
theorem pay2 : k0_pay2 (F := Ideal) = L2 (φ := .f32) fun _ _ => 0 := by
  unfold k0_pay2; simp only [Scalar.ofBits]; exact broadcast_L2 _ _ bits_zero
theorem pay3 : k0_pay3 (F := Ideal) = L3 (φ := .f32) fun _ _ _ => 0 := by
  unfold k0_pay3; simp only [Scalar.ofBits]; funext j; exact bits_zero
theorem pay4 : k0_pay4 (F := Ideal) = L2 (φ := .f32) fun _ _ => 0 := by
  unfold k0_pay4; simp only [Scalar.ofBits]; exact broadcast_L2 _ _ bits_zero

/-- The sums over rows added to what was there. -/
theorem pay79 (s : ℕ → ℕ → ℝ) : k0_pay79 (F := Ideal) (L2 (φ := .f32) (vh p)) (L2 (φ := .f32) (dvn p dy w)) (L2 (φ := .f32) s)
    = L2 fun r c => s r c + ∑ k ∈ Finset.range 256, dngAt p dy w k c := by
  unfold k0_pay79
  simp only [mulf_L2, shapeCast_self]
  exact (congrArg (addf (L2 (φ := .f32) s)) (colsum_L2 _ _ _ _ _ _)).trans (addf_L2 _ _)

/-- The gradient of the second half. -/
theorem pay80 : k0_pay80 (F := Ideal) (L2 (φ := .f32) fun r _ => rs p r) (L2 (φ := .f32) (vh p)) (L2 (φ := .f32) fun _ c => ng c)
    (L2 (φ := .f32) (dvn p dy w)) = L2 (dv p dy ng w) := by
  unfold k0_pay80
  have hr := fun f => rowsum_L2 (φ := .f32) (a := 256) (b := 1024) f 0x00000000#32 reduces_S256x1024_S256 (.inl rfl) rfl shapeCasts_S256_S256x1
  simp only [bcast_row_L2 (a := 256) (b := 1024) _ (by decide), mulf_L2, Scalar.ofBits]
  erw [hr]
  simp only [broadcast_L2 _ _ bits_1024]
  rw [divf_L2 _ _ (by norm_num), bcast_col_L2 _ (by decide), bcast_col_L2 _ (by decide), mulf_L2, subf_L2, mulf_L2]
  rfl

/-- The first half's part of the result. -/
theorem pay81 : k0_pay81 (F := Ideal) (L2 (φ := .f32) fun r c => dgel (p r c)) (L2 (φ := .f32) dy)
    (L2 (φ := .f32) fun r c => mx p ng w r c + bi (r % 128) c) = L2 fun r c => du p dy ng w bi r c * dgel (p r c) := by
  unfold k0_pay81
  simp only [mulf_L2, slice_L2, truncf_L2, Nat.zero_add]
  rfl

/-- The second half's part of the result. -/
theorem pay1 : k0_pay1 (F := Ideal) (L2 (φ := .f32) fun r c => dgel (p r c)) (L2 (φ := .f32) (dv p dy ng w))
    = L2 fun r c => dv p dy ng w r c * dgel (p r (1024 + c)) := by
  unfold k0_pay1
  simp only [mulf_L2, slice_L2, truncf_L2, Nat.zero_add]

section
variable (c : Dev nD) (t : Fin cfg0.N)
  (e0 : iblk m c 0 t = L2 (φ := .f32) p) (e1 : iblk m c 1 t = L2 (φ := .f32) dy) (e2 : iblk m c 2 t = L2 (φ := .f32) fun _ c => ng c)
  (e3 : iblk m c 3 t = L3 (φ := .bf16) w) (e4 : iblk m c 4 t = L3 (φ := .bf16) fun g a b => w g b a)
  (e5 : iblk m c 5 t = L2 (φ := .f32) bi)
include e0 e1 e2 e3 e4 e5

/-- The block of the gradient of the rows. -/
theorem out_dp : (outsAt0 m c t.val t.isLt).1 = (L2 (φ := .bf16) (dp p dy ng w bi)) := by
  have hh := fun f q inb hc => slab_L3 (e := 8) (b := 128) (d := 128) (p := q) f inb hc
  by_cases h0 : t.val % 32 = 0
  rw [outsAt0_A m c t h0]
  rotate_left
  rw [outsAt0_B m c t h0]
  all_goals
    frame_open
    simp (disch := decide) only [↓ View.readCov_cons_toLoadRect, ↓ View.readCov_skip, ↓View.readCov_fill]
    frame_out
    simp only [e0, e1, e2, e3, e4, e5, rsblk, pay9, pay8, pay7, vhblk, mulf_L2, truncf_L2, slice_L2, shapeCast_self, hh,
      bcast_row_L2 (a := 256) (b := 1024) _ (by decide),
      matmul_plain_L2 _ _ _ dot_S128x128_S128x128_S128x128_1_0_0_1_n_n rfl]
    rw [readCov_of_agrees (S := S256x1024) (e := .f32) (G := L2 (φ := .f32) (dvn p dy w)) _ (by
      iterate 16 refine agrees_cons2 _ _ _ _ (fun r c hr hc => dvn_piece p dy w _ _ _ (by decide) (by decide) r c hr hc) ?_
      exact agrees_nil _) (fun y => View.cover_of_tiled_head _ _ _ (by rfl) y) _ (by decide) _]
    rw [readRows_of_agrees (a := 256) (b := 1024) (h := 128) (w := 1024) (o0 := 128) (G := mx p ng w) 128 8 _ (by
      iterate 16 refine agrees_cons2 _ _ _ _ (fun r c hr hc => mx_piece p ng w _ _ _ (by decide) (by decide) r c hr hc) ?_
      exact agrees_nil _) (by rfl) (by decide) _]
    rw [readRows_of_agrees (a := 256) (b := 1024) (h := 128) (w := 1024) (o0 := 0) (G := mx p ng w) 128 8 _ (by
      iterate 8 refine agrees_cons2 _ _ _ _ (fun r c hr hc => mx_piece p ng w _ _ _ (by decide) (by decide) r c hr hc) ?_
      exact agrees_nil _) (by rfl) (by decide) _]
    simp only [addf_L2]
    rw [readCov_of_agrees_take (S := S256x1024) (e := .f32) (G := L2 (φ := .f32) fun r c => mx p ng w r c + bi (r % 128) c) 2 _ (by
      simp only [List.take]
      iterate 2 refine agrees_cons2 _ _ _ _ (fun r c hr _ => by
        simp only [Nat.zero_add, Nat.add_mod_left, Nat.mod_eq_of_lt hr]) ?_
      exact agrees_nil _) (fun y => View.cover_of_tiled_head _ _ _ (by rfl) y) _ (by decide) _]
    rw [pay80, pay81, pay1]
    refine canon_of_agrees ?_ (fun y => View.cover_of_tiled_head _ _ _ (by rfl) y)
    refine agrees_cons2b _ _ _ _ (fun r c _ hc => ?_) ?_
    · unfold dp
      rw [if_neg (by omega), Nat.zero_add, Nat.add_sub_cancel_left]
    refine agrees_cons2b _ _ _ _ (fun r c _ hc => ?_) (agrees_nil _)
    unfold dp
    rw [if_pos (by omega), Nat.zero_add, Nat.zero_add]

/-- The gradient of the gains after a later block. -/
theorem out_dng_B (h0 : ¬t.val % 32 = 0) (s : ℕ → ℕ → ℝ)
    (hs : (outsAt0 m c (t.val - 1) (Nat.lt_of_le_of_lt (Nat.sub_le _ _) t.isLt)).2.1 = L2 (φ := .f32) s) :
    (outsAt0 m c t.val t.isLt).2.1 = (L2 (φ := .f32) fun r c => s r c + ∑ k ∈ Finset.range 256, dngAt p dy w k c) := by
  simp only [outsAt0_B m c t h0]
  frame_open
  simp (disch := decide) only [↓ View.readCov_skip, ↓View.readCov_fill]
  frame_out
  rw [hs]
  have hh := fun f q inb hc => slab_L3 (e := 8) (b := 128) (d := 128) (p := q) f inb hc
  simp only [e0, e1, e2, e3, e4, e5, rsblk, pay9, pay8, vhblk, mulf_L2, truncf_L2, slice_L2, shapeCast_self, hh,
    matmul_plain_L2 _ _ _ dot_S128x128_S128x128_S128x128_1_0_0_1_n_n rfl]
  rw [readCov_of_agrees (S := S256x1024) (e := .f32) (G := L2 (φ := .f32) (dvn p dy w)) _ (by
    iterate 16 refine agrees_cons2 _ _ _ _ (fun r c hr hc => dvn_piece p dy w _ _ _ (by decide) (by decide) r c hr hc) ?_
    exact agrees_nil _) (fun y => View.cover_of_tiled_head _ _ _ (by rfl) y) _ (by decide) _]
  exact pay79 p dy w s

/-- The gradient of the gains after the first block. -/
theorem out_dng_A (h0 : t.val % 32 = 0) :
    (outsAt0 m c t.val t.isLt).2.1 = (L2 (φ := .f32) fun _ c => 0 + ∑ k ∈ Finset.range 256, dngAt p dy w k c) := by
  simp only [outsAt0_A m c t h0]
  frame_open
  simp (disch := decide) only [↓ View.readCov_skip, ↓View.readCov_fill]
  frame_out
  have hh := fun f q inb hc => slab_L3 (e := 8) (b := 128) (d := 128) (p := q) f inb hc
  simp only [e0, e1, e2, e3, e4, e5, rsblk, pay9, pay8, vhblk, mulf_L2, truncf_L2, slice_L2, shapeCast_self, hh, pay2,
    matmul_plain_L2 _ _ _ dot_S128x128_S128x128_S128x128_1_0_0_1_n_n rfl]
  rw [readCov_of_agrees (S := S256x1024) (e := .f32) (G := L2 (φ := .f32) (dvn p dy w)) _ (by
    iterate 16 refine agrees_cons2 _ _ _ _ (fun r c hr hc => dvn_piece p dy w _ _ _ (by decide) (by decide) r c hr hc) ?_
    exact agrees_nil _) (fun y => View.cover_of_tiled_head _ _ _ (by rfl) y) _ (by decide) _]
  exact pay79 p dy w fun _ _ => 0

/-- The gradient of the mixing matrices after a later block. -/
theorem out_dwc_B (h0 : ¬t.val % 32 = 0) (s : ℕ → ℕ → ℕ → ℝ)
    (hs : (outsAt0 m c (t.val - 1) (Nat.lt_of_le_of_lt (Nat.sub_le _ _) t.isLt)).2.2.1 = L3 (φ := .f32) s) :
    (outsAt0 m c t.val t.isLt).2.2.1 = (L3 (φ := .f32) fun g a b => s g a b + dwcAt p dy ng 0 g a b + dwcAt p dy ng 1 g a b) := by
  simp only [outsAt0_B m c t h0]
  frame_open
  simp (disch := decide) only [↓ View.readCov_cons_toLoadRect, ↓ View.readCov_skip, ↓View.readCov_fill]
  frame_out
  rw [hs]
  have hh := fun f q inb hc => slab_L3f (e := 8) (b := 128) (d := 128) (p := q) f inb hc
  have hd := fun f hc => dropUnit_L3 (φ := .f32) (b := 128) (d := 128) f hc
  have ha := fun f hc => addUnit_L2 (φ := .f32) (b := 128) (d := 128) f hc
  unfold k0_pay78
  simp only [e0, e1, e2, e3, e4, e5, rsblk, pay9, pay8, vhblk, mulf_L2, truncf_L2, slice_L2, shapeCast_self, hh,
    bcast_row_L2 (a := 256) (b := 1024) _ (by decide), addf_L2, hd, ha,
    matmul_transposedRhs_L2 _ _ _ dot_S128x128_S128x128_S128x128_1_1_0_0_n_n rfl]
  refine canon_of_agrees_take 8 _ ?_ (fun y => View.cover_of_tiled_head _ _ _ (by rfl) y)
  simp only [List.take]
  iterate 8 refine agrees_cons3 _ _ _ _ (fun q r c hq _ _ => by
    obtain rfl : q = 0 := by omega
    simp only [Nat.add_zero]
    rw [dwc_piece p dy ng s _ _ _ _ rfl]
    simp only [Nat.zero_add]) ?_
  exact agrees_nil _

/-- The gradient of the mixing matrices after the first block. -/
theorem out_dwc_A (h0 : t.val % 32 = 0) :
    (outsAt0 m c t.val t.isLt).2.2.1 = (L3 (φ := .f32) fun g a b => 0 + dwcAt p dy ng 0 g a b + dwcAt p dy ng 1 g a b) := by
  simp only [outsAt0_A m c t h0]
  frame_open
  simp (disch := decide) only [↓ View.readCov_cons_toLoadRect, ↓ View.readCov_skip, ↓View.readCov_fill]
  frame_out
  have hh := fun f q inb hc => slab_L3f (e := 8) (b := 128) (d := 128) (p := q) f inb hc
  have hd := fun f hc => dropUnit_L3 (φ := .f32) (b := 128) (d := 128) f hc
  have ha := fun f hc => addUnit_L2 (φ := .f32) (b := 128) (d := 128) f hc
  unfold k0_pay78
  simp only [e0, e1, e2, e3, e4, e5, rsblk, pay9, pay8, vhblk, mulf_L2, truncf_L2, slice_L2, shapeCast_self, hh, pay3,
    bcast_row_L2 (a := 256) (b := 1024) _ (by decide), addf_L2, hd, ha,
    matmul_transposedRhs_L2 _ _ _ dot_S128x128_S128x128_S128x128_1_1_0_0_n_n rfl]
  refine canon_of_agrees_take 8 _ ?_ (fun y => View.cover_of_tiled_head _ _ _ (by rfl) y)
  simp only [List.take]
  iterate 8 refine agrees_cons3 _ _ _ _ (fun q r c hq _ _ => by
    obtain rfl : q = 0 := by omega
    simp only [Nat.add_zero]
    rw [dwc_piece0 p dy ng _ _ _ (by decide)]
    simp only [Nat.zero_add, Nat.reduceDiv]) ?_
  exact agrees_nil _

/-- The gradient of the bias after a later block. -/
theorem out_db_B (h0 : ¬t.val % 32 = 0) (s : ℕ → ℕ → ℝ)
    (hs : (outsAt0 m c (t.val - 1) (Nat.lt_of_le_of_lt (Nat.sub_le _ _) t.isLt)).2.2.2 = L2 (φ := .f32) s) :
    (outsAt0 m c t.val t.isLt).2.2.2 = (L2 (φ := .f32) fun r c => s r c + dm p dy r c + dm p dy (128 + r) c) := by
  simp only [outsAt0_B m c t h0]
  frame_open
  simp (disch := decide) only [↓ View.readCov_cons_toLoadRect, ↓ View.readCov_skip, ↓View.readCov_fill]
  frame_out
  rw [hs]
  simp only [e0, e1, e2, e3, e4, e5, pay8, mulf_L2, truncf_L2, slice_L2, shapeCast_self, addf_L2, Nat.zero_add]
  rfl

/-- The gradient of the bias after the first block. -/
theorem out_db_A (h0 : t.val % 32 = 0) :
    (outsAt0 m c t.val t.isLt).2.2.2 = (L2 (φ := .f32) fun r c => 0 + dm p dy r c + dm p dy (128 + r) c) := by
  simp only [outsAt0_A m c t h0]
  frame_open
  simp (disch := decide) only [↓ View.readCov_cons_toLoadRect, ↓ View.readCov_skip, ↓View.readCov_fill]
  frame_out
  simp only [e0, e1, e2, e3, e4, e5, pay8, mulf_L2, truncf_L2, slice_L2, shapeCast_self, addf_L2, Nat.zero_add, pay4]
  rfl
end

end Cert.Sgu
end
-- ==== Proof.Sgu.Arrays.lean ====
module

public import proofs.«01_k».proof.Proof.Sgu.Block

@[expose] public section
set_option maxRecDepth 16384
noncomputable section
namespace Cert.Sgu
open Cert.KernelIdeal Cert.KernelIdeal.Gen Cert.Lift Idealize.ShloMosaic Idealize.ShloMosaic.TcCoe Idealize.SL.Sem
variable (m : (ℓ : Loc nD τ sig) → Buf (Elt Ideal) ℓ)
variable (P DY : ℕ → ℕ → ℝ) (ng : ℕ → ℝ) (w : ℕ → ℕ → ℕ → ℝ) (bi : ℕ → ℕ → ℝ)
variable (c : Dev nD)

/-- The rows of block `n`. -/
def rows (f : ℕ → ℕ → ℝ) (n : ℕ) : ℕ → ℕ → ℝ := fun r c => f (256 * n + r) c

theorem idx0 (t : Fin cfg0.N) : win0_0.index t 0 = t.val ∧ win0_0.index t 1 = 0 :=
  (by decide +kernel : ∀ t : Fin grid0.N, win0_0.index t 0 = t.val ∧ win0_0.index t 1 = 0) t
theorem idx1 (t : Fin cfg0.N) : win0_1.index t 0 = t.val ∧ win0_1.index t 1 = 0 :=
  (by decide +kernel : ∀ t : Fin grid0.N, win0_1.index t 0 = t.val ∧ win0_1.index t 1 = 0) t
theorem idx6 (t : Fin cfg0.N) : win0_6.index t 0 = t.val ∧ win0_6.index t 1 = 0 :=
  (by decide +kernel : ∀ t : Fin grid0.N, win0_6.index t 0 = t.val ∧ win0_6.index t 1 = 0) t

theorem iblk0 (h : V m c main_arg0 = (L2 (φ := .f32) P)) (t : Fin cfg0.N) :
    iblk m c 0 t = (L2 (φ := .f32) (rows P t.val)) := by
  funext y
  show V m c main_arg0 ((win0_0.rect t).emb y) = _
  rw [h]
  unfold L2 rows
  rw [win0_0.rect_emb_val t y 0, win0_0.rect_emb_val t y 1, (idx0 t).1, (idx0 t).2, Nat.zero_mul, Nat.zero_add, Nat.mul_comm]
  rfl

theorem iblk1 (h : V m c main_arg1 = (L2 (φ := .f32) DY)) (t : Fin cfg0.N) :
    iblk m c 1 t = (L2 (φ := .f32) (rows DY t.val)) := by
  funext y
  show V m c main_arg1 ((win0_1.rect t).emb y) = _
  rw [h]
  unfold L2 rows
  rw [win0_1.rect_emb_val t y 0, win0_1.rect_emb_val t y 1, (idx1 t).1, (idx1 t).2, Nat.zero_mul, Nat.zero_add, Nat.mul_comm]
  rfl

theorem iblk2 (h : V m c main_v10 = (L2 (φ := .f32) fun _ c => ng c)) (t : Fin cfg0.N) :
    iblk m c 2 t = (L2 (φ := .f32) fun _ c => ng c) := by
  funext y
  show V m c main_v10 ((win0_2.rect t).emb y) = _
  rw [h]
  unfold L2
  rw [win0_2.rect_emb_val_of_index_zero t 1 rfl y]

theorem iblk3 (h : V m c main_v4 = (L3 (φ := .bf16) w)) (t : Fin cfg0.N) : iblk m c 3 t = (L3 (φ := .bf16) w) := by
  funext y
  show V m c main_v4 ((win0_3.rect t).emb y) = _
  rw [h]
  unfold L3
  rw [win0_3.rect_emb_val_of_index_zero t 0 rfl y, win0_3.rect_emb_val_of_index_zero t 1 rfl y, win0_3.rect_emb_val_of_index_zero t 2 rfl y]

theorem iblk4 (h : V m c main_v6 = (L3 (φ := .bf16) w)) (t : Fin cfg0.N) : iblk m c 4 t = (L3 (φ := .bf16) w) := by
  funext y
  show V m c main_v6 ((win0_4.rect t).emb y) = _
  rw [h]
  unfold L3
  rw [win0_4.rect_emb_val_of_index_zero t 0 rfl y, win0_4.rect_emb_val_of_index_zero t 1 rfl y, win0_4.rect_emb_val_of_index_zero t 2 rfl y]

theorem iblk5 (h : V m c main_v9 = (L2 (φ := .f32) bi)) (t : Fin cfg0.N) : iblk m c 5 t = (L2 (φ := .f32) bi) := by
  funext y
  show V m c main_v9 ((win0_5.rect t).emb y) = _
  rw [h]
  unfold L2
  rw [win0_5.rect_emb_val_of_index_zero t 0 rfl y, win0_5.rect_emb_val_of_index_zero t 1 rfl y]

/-! The formulas at the rows of a block. -/

theorem row_mod (n r : ℕ) : (256 * n + r) % 128 = r % 128 := by omega
theorem row_chunk (n r k : ℕ) : (256 * n + r) / 128 * 128 + k = 256 * n + (r / 128 * 128 + k) := by omega

variable (n : ℕ)

theorem dvn_rows (r k : ℕ) : dvn (rows P n) (rows DY n) w r k = dvn P DY w (256 * n + r) k := by
  unfold dvn
  simp only [row_mod, row_chunk]
  rfl

theorem mx_rows (r k : ℕ) : mx (rows P n) ng w r k = mx P ng w (256 * n + r) k := by
  unfold mx
  simp only [row_mod, row_chunk]
  rfl

theorem dngAt_rows (r k : ℕ) : dngAt (rows P n) (rows DY n) w r k = dngAt P DY w (256 * n + r) k := by
  unfold dngAt
  rw [dvn_rows]
  rfl

theorem dp_rows (r k : ℕ) : dp (rows P n) (rows DY n) ng w bi r k = dp P DY ng w bi (256 * n + r) k := by
  unfold dp du dv dvh
  simp only [dvn_rows, mx_rows, row_mod]
  rfl

theorem dm_rows (r k : ℕ) : dm (rows P n) (rows DY n) r k = dm P DY (256 * n + r) k := rfl

theorem dwcAt_rows (q g a b : ℕ) : dwcAt (rows P n) (rows DY n) ng q g a b = dwcAt P DY ng (2 * n + q) g a b := by
  unfold dwcAt
  refine Finset.sum_congr rfl fun k _ => ?_
  have e : ∀ x, 128 * (2 * n + q) + x = 256 * n + (128 * q + x) := fun x => by ring
  rw [e, e]
  rfl

/-- A sum over blocks of rows is the sum over the rows. -/
theorem sum_blocks (b : ℕ) (f : ℕ → ℝ) : ∀ N, ∑ i ∈ Finset.range N, ∑ k ∈ Finset.range b, f (b * i + k) = ∑ r ∈ Finset.range (b * N), f r
  | 0 => by simp
  | N + 1 => by rw [Finset.sum_range_succ, sum_blocks b f N, Nat.mul_succ, Finset.sum_range_add]

theorem last_lt : 31 < cfg0.N := by rw [show cfg0.N = 32 from N_0]; decide

theorem cover6 (i : S8192x2048.Idx) : ∃ t : Fin cfg0.N, (cfg0.win 6).flush t = true ∧ i ∈ ((cfg0.win 6).blk t).view.set := by
  have hN : cfg0.N = 32 := N_0
  have hi0 : (i 0 : Nat) < 8192 := (i 0).isLt
  have hi1 : (i 1 : Nat) < 2048 := (i 1).isLt
  have ht : (i 0 : Nat) / 256 < cfg0.N := by omega
  refine ⟨⟨(i 0 : Nat) / 256, ht⟩, flush0_6 _, ?_⟩
  have e := View.set_slice_whole main_v11_0 (win0_6.rect ⟨(i 0 : Nat) / 256, ht⟩)
  refine e ▸ ?_
  rw [Rect.mem_set_unit]
  intro a
  match a with
  | ⟨0, _⟩ =>
    show win0_6.index _ 0 * 256 ≤ (i 0 : Nat) ∧ (i 0 : Nat) < win0_6.index _ 0 * 256 + 256
    rw [(idx6 _).1]; dsimp only; omega
  | ⟨1, _⟩ =>
    show win0_6.index _ 1 * 2048 ≤ (i 1 : Nat) ∧ (i 1 : Nat) < win0_6.index _ 1 * 2048 + 2048
    rw [(idx6 _).2]; omega

/-- Result window 7's one block is its whole array. -/
theorem cut7 (X : Vec Ideal S1x1024 .f32) (t : Fin cfg0.N) :
    (cfg0.win 7).cut (grid0.coords t) X = ((cfg0.win 7).blk t).view.read (Elt Ideal) X := by
  funext y
  show X y = X ((win0_7.rect t).emb y)
  refine congrArg X (funext fun a => Fin.ext ?_)
  exact (win0_7.rect_emb_val_of_index_zero t a (by fin_cases a <;> rfl) y).symm

theorem cover7 (i : S1x1024.Idx) : ∃ t : Fin cfg0.N, (cfg0.win 7).flush t = true ∧ i ∈ ((cfg0.win 7).blk t).view.set := by
  refine ⟨⟨31, last_lt⟩, (flush0_7 _).mpr rfl, ?_⟩
  have e := View.set_slice_whole main_v11_1 (win0_7.rect ⟨31, last_lt⟩)
  refine e ▸ ?_
  rw [Rect.mem_set_unit]
  intro a
  match a with
  | ⟨0, _⟩ => exact ⟨Nat.zero_le _, (i 0).isLt⟩
  | ⟨1, _⟩ => exact ⟨Nat.zero_le _, (i 1).isLt⟩

/-- Result window 8's one block is its whole array. -/
theorem cut8 (X : Vec Ideal S8x128x128 .f32) (t : Fin cfg0.N) :
    (cfg0.win 8).cut (grid0.coords t) X = ((cfg0.win 8).blk t).view.read (Elt Ideal) X := by
  funext y
  show X y = X ((win0_8.rect t).emb y)
  refine congrArg X (funext fun a => Fin.ext ?_)
  exact (win0_8.rect_emb_val_of_index_zero t a (by fin_cases a <;> rfl) y).symm

theorem cover8 (i : S8x128x128.Idx) : ∃ t : Fin cfg0.N, (cfg0.win 8).flush t = true ∧ i ∈ ((cfg0.win 8).blk t).view.set := by
  refine ⟨⟨31, last_lt⟩, (flush0_8 _).mpr rfl, ?_⟩
  have e := View.set_slice_whole main_v11_2 (win0_8.rect ⟨31, last_lt⟩)
  refine e ▸ ?_
  rw [Rect.mem_set_unit]
  intro a
  match a with
  | ⟨0, _⟩ => exact ⟨Nat.zero_le _, (i 0).isLt⟩
  | ⟨1, _⟩ => exact ⟨Nat.zero_le _, (i 1).isLt⟩
  | ⟨2, _⟩ => exact ⟨Nat.zero_le _, (i 2).isLt⟩

/-- Result window 9's one block is its whole array. -/
theorem cut9 (X : Vec Ideal S128x1024 .f32) (t : Fin cfg0.N) :
    (cfg0.win 9).cut (grid0.coords t) X = ((cfg0.win 9).blk t).view.read (Elt Ideal) X := by
  funext y
  show X y = X ((win0_9.rect t).emb y)
  refine congrArg X (funext fun a => Fin.ext ?_)
  exact (win0_9.rect_emb_val_of_index_zero t a (by fin_cases a <;> rfl) y).symm

theorem cover9 (i : S128x1024.Idx) : ∃ t : Fin cfg0.N, (cfg0.win 9).flush t = true ∧ i ∈ ((cfg0.win 9).blk t).view.set := by
  refine ⟨⟨31, last_lt⟩, (flush0_9 _).mpr rfl, ?_⟩
  have e := View.set_slice_whole main_v11_3 (win0_9.rect ⟨31, last_lt⟩)
  refine e ▸ ?_
  rw [Rect.mem_set_unit]
  intro a
  match a with
  | ⟨0, _⟩ => exact ⟨Nat.zero_le _, (i 0).isLt⟩
  | ⟨1, _⟩ => exact ⟨Nat.zero_le _, (i 1).isLt⟩

section Run
variable (h0 : V m c main_arg0 = (L2 (φ := .f32) P)) (h1 : V m c main_arg1 = (L2 (φ := .f32) DY))
  (h2 : V m c main_v10 = (L2 (φ := .f32) fun _ c => ng c)) (h3 : V m c main_v4 = (L3 (φ := .bf16) w))
  (h4 : V m c main_v6 = (L3 (φ := .bf16) fun g a b => w g b a)) (h5 : V m c main_v9 = (L2 (φ := .f32) bi))
include h0 h1 h2 h3 h4 h5

/-- What point `t` writes of the gradient of the rows given to the unit. -/
theorem point_dp (t : Fin cfg0.N) : (outsAt0 m c t.val t.isLt).1 = (L2 (φ := .bf16) (rows (dp P DY ng w bi) t.val)) := by
  rw [out_dp m (rows P t.val) (rows DY t.val) ng w bi c t (iblk0 m P c h0 t) (iblk1 m DY c h1 t) (iblk2 m ng c h2 t)
    (iblk3 m w c h3 t) (iblk4 m _ c h4 t) (iblk5 m bi c h5 t)]
  exact congrArg _ (funext fun r => funext fun k => dp_rows P DY ng w bi t.val r k)

/-- The gradient of the gains after point `i`. -/
theorem acc_dng : ∀ (i : ℕ) (h : i < cfg0.N), (outsAt0 m c i h).2.1
    = (L2 (φ := .f32) fun _ k => ∑ s ∈ Finset.range (i + 1), ∑ r ∈ Finset.range 256, dngAt P DY w (256 * s + r) k)
  | 0, h => by
    rw [out_dng_A m (rows P 0) (rows DY 0) ng w bi c ⟨0, h⟩ (iblk0 m P c h0 ⟨0, h⟩) (iblk1 m DY c h1 ⟨0, h⟩) (iblk2 m ng c h2 ⟨0, h⟩)
      (iblk3 m w c h3 ⟨0, h⟩) (iblk4 m _ c h4 ⟨0, h⟩) (iblk5 m bi c h5 ⟨0, h⟩) rfl]
    simp only [dngAt_rows, zero_add, Finset.sum_range_one]
  | i + 1, h => by
    have hN : cfg0.N = 32 := N_0
    rw [out_dng_B m (rows P (i + 1)) (rows DY (i + 1)) ng w bi c ⟨i + 1, h⟩ (iblk0 m P c h0 ⟨i + 1, h⟩) (iblk1 m DY c h1 ⟨i + 1, h⟩)
      (iblk2 m ng c h2 ⟨i + 1, h⟩) (iblk3 m w c h3 ⟨i + 1, h⟩) (iblk4 m _ c h4 ⟨i + 1, h⟩) (iblk5 m bi c h5 ⟨i + 1, h⟩)
      (by show ¬(i + 1) % 32 = 0; omega) _ (acc_dng i (Nat.lt_of_succ_lt h))]
    simp only [dngAt_rows]
    exact congrArg _ (funext fun r => funext fun k => (Finset.sum_range_succ _ (i + 1)).symm)

/-- The gradient of the mixing matrices after point `i`. -/
theorem acc_dwc : ∀ (i : ℕ) (h : i < cfg0.N), (outsAt0 m c i h).2.2.1
    = (L3 (φ := .f32) fun g a b => ∑ s ∈ Finset.range (2 * (i + 1)), dwcAt P DY ng s g a b)
  | 0, h => by
    rw [out_dwc_A m (rows P 0) (rows DY 0) ng w bi c ⟨0, h⟩ (iblk0 m P c h0 ⟨0, h⟩) (iblk1 m DY c h1 ⟨0, h⟩) (iblk2 m ng c h2 ⟨0, h⟩)
      (iblk3 m w c h3 ⟨0, h⟩) (iblk4 m _ c h4 ⟨0, h⟩) (iblk5 m bi c h5 ⟨0, h⟩) rfl]
    simp only [dwcAt_rows, Finset.sum_range_succ, Finset.sum_range_zero]
  | i + 1, h => by
    have hN : cfg0.N = 32 := N_0
    rw [out_dwc_B m (rows P (i + 1)) (rows DY (i + 1)) ng w bi c ⟨i + 1, h⟩ (iblk0 m P c h0 ⟨i + 1, h⟩) (iblk1 m DY c h1 ⟨i + 1, h⟩)
      (iblk2 m ng c h2 ⟨i + 1, h⟩) (iblk3 m w c h3 ⟨i + 1, h⟩) (iblk4 m _ c h4 ⟨i + 1, h⟩) (iblk5 m bi c h5 ⟨i + 1, h⟩)
      (by show ¬(i + 1) % 32 = 0; omega) _ (acc_dwc i (Nat.lt_of_succ_lt h))]
    simp only [dwcAt_rows]
    refine congrArg _ (funext fun g => funext fun a => funext fun b => ?_)
    rw [show 2 * (i + 1 + 1) = 2 * (i + 1) + 1 + 1 from by ring, Finset.sum_range_succ, Finset.sum_range_succ]
    rfl

/-- The gradient of the bias after point `i`. -/
theorem acc_db : ∀ (i : ℕ) (h : i < cfg0.N), (outsAt0 m c i h).2.2.2
    = (L2 (φ := .f32) fun r k => ∑ s ∈ Finset.range (2 * (i + 1)), dm P DY (128 * s + r) k)
  | 0, h => by
    rw [out_db_A m (rows P 0) (rows DY 0) ng w bi c ⟨0, h⟩ (iblk0 m P c h0 ⟨0, h⟩) (iblk1 m DY c h1 ⟨0, h⟩) (iblk2 m ng c h2 ⟨0, h⟩)
      (iblk3 m w c h3 ⟨0, h⟩) (iblk4 m _ c h4 ⟨0, h⟩) (iblk5 m bi c h5 ⟨0, h⟩) rfl]
    simp only [dm_rows, Finset.sum_range_succ, Finset.sum_range_zero]
    refine congrArg _ (funext fun r => funext fun k => ?_)
    rw [show 256 * 0 + (128 + r) = 128 * 1 + r from by ring]
  | i + 1, h => by
    have hN : cfg0.N = 32 := N_0
    rw [out_db_B m (rows P (i + 1)) (rows DY (i + 1)) ng w bi c ⟨i + 1, h⟩ (iblk0 m P c h0 ⟨i + 1, h⟩) (iblk1 m DY c h1 ⟨i + 1, h⟩)
      (iblk2 m ng c h2 ⟨i + 1, h⟩) (iblk3 m w c h3 ⟨i + 1, h⟩) (iblk4 m _ c h4 ⟨i + 1, h⟩) (iblk5 m bi c h5 ⟨i + 1, h⟩)
      (by show ¬(i + 1) % 32 = 0; omega) _ (acc_db i (Nat.lt_of_succ_lt h))]
    simp only [dm_rows]
    refine congrArg _ (funext fun r => funext fun k => ?_)
    rw [show 2 * (i + 1 + 1) = 2 * (i + 1) + 1 + 1 from by ring, Finset.sum_range_succ, Finset.sum_range_succ,
      show 256 * (i + 1) + r = 128 * (2 * (i + 1)) + r from by ring, show 256 * (i + 1) + (128 + r) = 128 * (2 * (i + 1) + 1) + r from by ring]

/-- The first result array: the gradient of the rows given to the unit. -/
theorem arr_dp : (dats m 0 c).arrAt 6 cfg0.N = (L2 (φ := .bf16) (dp P DY ng w bi)) := by
  funext j
  refine (dats m 0 c).arrAt_forall_of_cover 6 (fun i v => v = L2 (φ := .bf16) (dp P DY ng w bi) i) (fun t _ y => ?_) cover6 j
  · rw [Value.flushed6, point_dp m P DY ng w bi c h0 h1 h2 h3 h4 h5]
    show (((rows (dp P DY ng w bi) t.val (y 0).val (y 1).val : ℝ)) : EReal) = L2 (φ := .bf16) (dp P DY ng w bi) ((win0_6.rect t).emb y)
    unfold L2 rows
    rw [win0_6.rect_emb_val t y 0, win0_6.rect_emb_val t y 1, (idx6 t).1, (idx6 t).2, Nat.zero_mul, Nat.zero_add, Nat.mul_comm]
    rfl
/-- The second result array: the gradient of the gains. -/
theorem arr_dng : (dats m 0 c).arrAt 7 cfg0.N = (L2 (φ := .f32) fun _ k => ∑ r ∈ Finset.range 8192, dngAt P DY w r k) := by
  have e := acc_dng m P DY ng w bi c h0 h1 h2 h3 h4 h5 31 last_lt
  have e' : (fun (_ k : ℕ) => ∑ s ∈ Finset.range (31 + 1), ∑ r ∈ Finset.range 256, dngAt P DY w (256 * s + r) k)
      = fun _ k => ∑ r ∈ Finset.range 8192, dngAt P DY w r k := funext fun _ => funext fun k => sum_blocks 256 (fun r => dngAt P DY w r k) 32
  rw [e'] at e
  refine (dats m 0 c).arrAt_eq_of_cover 7 _ (fun t hf => ?_) cover7
  have hN : cfg0.N = 32 := N_0
  obtain rfl : t = ⟨31, last_lt⟩ := Fin.ext (by have := (flush0_7 t).mp hf; have := t.isLt; dsimp only; omega)
  rw [Value.flushed7, e]
  exact cut7 _ _

/-- The third result array: the gradient of the mixing matrices. -/
theorem arr_dwc : (dats m 0 c).arrAt 8 cfg0.N = (L3 (φ := .f32) fun g a b => ∑ s ∈ Finset.range 64, dwcAt P DY ng s g a b) := by
  have e := acc_dwc m P DY ng w bi c h0 h1 h2 h3 h4 h5 31 last_lt
  refine (dats m 0 c).arrAt_eq_of_cover 8 _ (fun t hf => ?_) cover8
  have hN : cfg0.N = 32 := N_0
  obtain rfl : t = ⟨31, last_lt⟩ := Fin.ext (by have := (flush0_8 t).mp hf; have := t.isLt; dsimp only; omega)
  rw [Value.flushed8, e]
  exact cut8 _ _

/-- The fourth result array: the gradient of the bias. -/
theorem arr_db : (dats m 0 c).arrAt 9 cfg0.N = (L2 (φ := .f32) fun r k => ∑ s ∈ Finset.range 64, dm P DY (128 * s + r) k) := by
  have e := acc_db m P DY ng w bi c h0 h1 h2 h3 h4 h5 31 last_lt
  refine (dats m 0 c).arrAt_eq_of_cover 9 _ (fun t hf => ?_) cover9
  have hN : cfg0.N = 32 := N_0
  obtain rfl : t = ⟨31, last_lt⟩ := Fin.ext (by have := (flush0_9 t).mp hf; have := t.isLt; dsimp only; omega)
  rw [Value.flushed9, e]
  exact cut9 _ _

end Run

end Cert.Sgu
end
-- ==== Proof.Sgu.Ref.lean ====
module

public import proofs.«01_k».proof.Proof.Gen.ReferenceIdeal.Read
public import proofs.«01_k».proof.Proof.Sgu.Spec
public import Idealize.ShloMosaic.Lib.TwoAxisContraction

/-! The reference's arrays at arguments whose entries are reals, entry by entry, as the formulas of the gated unit's
gradient. -/

@[expose] public section
set_option maxRecDepth 16384
noncomputable section
namespace Cert.SguRef
open Cert.ReferenceIdeal Cert.ReferenceIdeal.Gen Cert.ReferenceIdeal.Read Cert.Lift Cert.Sgu Idealize.ShloMosaic
open scoped BigOperators

theorem fm (a b : ℝ) : FloatOps.mulf (F := Ideal) (φ := .f32) (a : EReal) (b : EReal) = ((a * b : ℝ) : EReal) := (EReal.coe_mul a b).symm
theorem fa (a b : ℝ) : FloatOps.addf (F := Ideal) (φ := .f32) (a : EReal) (b : EReal) = ((a + b : ℝ) : EReal) := (EReal.coe_add a b).symm
theorem fs (a b : ℝ) : FloatOps.subf (F := Ideal) (φ := .f32) (a : EReal) (b : EReal) = ((a - b : ℝ) : EReal) := (EReal.coe_sub a b).symm
theorem ft (a : ℝ) : FloatOps.hostUnary (F := Ideal) (φ := .f32) .tanh (a : EReal) = ((Real.tanh a : ℝ) : EReal) := rfl
theorem fd (a b : ℝ) (h : b ≠ 0) : FloatOps.hostDivf (F := Ideal) (φ := .f32) (a : EReal) (b : EReal) = ((a / b : ℝ) : EReal) :=
  by
  show Ideal.div _ _ = _
  rw [Ideal.div_coe h, ← EReal.coe_mul, mul_one_div]
theorem fr (a : ℝ) (h : 0 < a) : FloatOps.hostUnary (F := Ideal) (φ := .f32) .rsqrt (a : EReal) = (((Real.sqrt a)⁻¹ : ℝ) : EReal) :=
  (Ideal.rsqrt_coe a).trans (by rw [if_neg (not_lt.mpr h.le), if_neg h.ne'])

theorem bits_44715 : Ideal.ofBits .f32 0x472EAB00#32 = ((44715 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_gk : Ideal.ofBits .f32 0x3F4C422A#32 = ((gk : ℝ) : EReal) := by
  unfold gk
  simp [Ideal.ofBits, Ideal.ieee, -EReal.coe_mul]; norm_num
theorem bits_eps : Ideal.ofBits .f32 0x358637BD#32 = ((eps : ℝ) : EReal) := by
  unfold eps
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul, -EReal.coe_neg]; norm_num
theorem bits_one : Ideal.ofBits .f32 0x3F800000#32 = ((1 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_zero : Ideal.ofBits .f32 0x00000000#32 = ((0 : ℝ) : EReal) := by
  rw [Ideal.ofBits_zero_f32]; rfl

/-- The mixing matrices with the entries above the diagonal made zero. -/
def msk (W : ℕ → ℕ → ℕ → ℝ) (g a b : ℕ) : ℝ := if b ≤ a then W g a b else 0

/-- The array of one axis whose entry at `k` is the real `f k`. -/
def L1 {a : ℕ} {φ : FTy} (f : ℕ → ℝ) : FVec Ideal ⟨1, ![a]⟩ φ := fun j => ((f (j 0).val : ℝ) : EReal)

/-- The arguments' arrays, of reals. -/
abbrev aP (P : ℕ → ℕ → ℝ) : FVec Ideal S8192x2048 .f32 := L2 P
abbrev aDY (DY : ℕ → ℕ → ℝ) : FVec Ideal S8192x1024 .f32 := L2 DY
abbrev aNG (ng : ℕ → ℝ) : FVec Ideal S1024 .f32 := L1 ng
abbrev aW (W : ℕ → ℕ → ℕ → ℝ) : FVec Ideal S8x128x128 .f32 := L3 W
abbrev aSB (SB : ℕ → ℕ → ℝ) : FVec Ideal S8x128 .f32 := L2 SB

variable (P DY : ℕ → ℕ → ℝ) (ng : ℕ → ℝ) (W : ℕ → ℕ → ℕ → ℝ) (SB : ℕ → ℕ → ℝ)

/-- The comparison that keeps the lower triangle. -/
theorem mask_bit : ∀ a b : Fin 128, IntOp.cmpi CmpIPredicate.sge (IntOp.addi (BitVec.ofNat 32 a.val) 0#32) (BitVec.ofNat 32 b.val)
    = if b.val ≤ a.val then 1#1 else 0#1 := by decide +kernel

theorem s3 : val_main_v3 (F := Ideal) (aW W) = (aW (msk W)) := by
  funext i
  have h1 : (i 1).val < 128 := (i 1).isLt
  have h2 : (i 2).val < 128 := (i 2).isLt
  simp only [val_main_v3_apply, val_main_call1_v0_apply, val_main_call1_v1_apply, val_main_v2_apply, val_main_v1_apply, val_main_call0_v4_apply,
    val_main_call0_v2_apply, val_main_call0_v0_apply, val_main_call0_v1_apply, val_main_call0_c_apply, val_main_call0_v3_apply, val_main_v0_apply,
    val_main_call0_v5_apply, val_main_call0_c_0_apply]
  rw [mask_bit ⟨_, h1⟩ ⟨_, h2⟩, val_main_cst_apply, Ideal.ofBits_def, bits_zero]
  show Scalar.select (Scalar.select (if (i 2).val ≤ (i 1).val then 1#1 else 0#1) 1#1 0#1) ((W (i 0).val (i 1).val (i 2).val : ℝ) : EReal) ((0 : ℝ) : EReal)
    = ((msk W (i 0).val (i 1).val (i 2).val : ℝ) : EReal)
  unfold msk
  split <;> rfl

theorem s18 (i : S8192x2048.Idx) : val_main_v18 (F := Ideal) (aP P) i = ((th (P (i 0).val (i 1).val) : ℝ) : EReal) := by
  simp only [val_main_v18_apply, val_main_v17_apply, val_main_v16_apply, val_main_v15_apply, val_main_v14_apply, val_main_v13_apply, val_main_v9_apply,
    val_main_v8_apply, val_main_v7_apply, val_main_cst_0_apply, val_main_cst_1_apply, val_main_cst_3_apply, L2, Ideal.ofBits_def, bits_44715, bits_million, bits_gk,
    fm, fa, fd _ _ (by norm_num : (1000000 : ℝ) ≠ 0), ft]
  unfold th
  congr 3
  ring

theorem s27 (i : S8192x2048.Idx) : val_main_v27 (F := Ideal) (aP P) i = ((1 / 2 * (1 + th (P (i 0).val (i 1).val)) : ℝ) : EReal) := by
  simp only [val_main_v27_apply, val_main_v26_apply, val_main_v25_apply, val_main_v24_apply, val_main_cst_6_apply, val_main_cst_7_apply, Ideal.ofBits_def, s18,
    bits_half, bits_one, fa, fm]

theorem s28 (i : S8192x2048.Idx) : val_main_v28 (F := Ideal) (aP P) i = ((gel (P (i 0).val (i 1).val) : ℝ) : EReal) := by
  simp only [val_main_v28_apply, s27, L2, fm]
  unfold gel
  congr 1
  ring

theorem s29 (i : S8192x1024.Idx) : val_main_v29 (F := Ideal) (aP P) i = ((su P (i 0).val (i 1).val : ℝ) : EReal) := by
  simp only [val_main_v29_apply, s28]
  rfl

theorem s30 (i : S8192x1024.Idx) : val_main_v30 (F := Ideal) (aP P) i = ((sv P (i 0).val (i 1).val : ℝ) : EReal) := by
  simp only [val_main_v30_apply, s28]
  rfl

theorem s37 (i : S8192x1.Idx) : val_main_v37 (F := Ideal) (aP P) i = ((ms P (i 0).val : ℝ) : EReal) := by
  simp only [val_main_v37_apply, val_main_v36_apply, val_main_v35_apply, val_main_v34_apply, val_main_v33_apply, val_main_v32_apply, val_main_v31_apply, s30,
    val_main_cst_8_apply, val_main_cst_9_apply, val_main_cst_10_apply, Ideal.ofBits_def, bits_zero, bits_1024, bits_eps, fm]
  rw [← coe_sum_range 1024 fun k => sv P (i 0).val k * sv P (i 0).val k, ← EReal.coe_add, fd _ _ (by norm_num), fa, zero_add]
  rfl

theorem s38 (i : S8192x1.Idx) : val_main_v38 (F := Ideal) (aP P) i = ((rs P (i 0).val : ℝ) : EReal) := by
  rw [val_main_v38_apply, s37, fr _ (ms_pos P _)]
  rfl

theorem s43 (i : S8192x1024.Idx) : val_main_v43 (F := Ideal) (aP P) i = ((vh P (i 0).val (i 1).val : ℝ) : EReal) := by
  simp only [val_main_v43_apply, val_main_v42_apply, s30, s38, fm]
  rfl

theorem s46 (i : S8192x1024.Idx) : val_main_v46 (F := Ideal) (aP P) (aNG ng) i = ((vn P ng (i 0).val (i 1).val : ℝ) : EReal) := by
  simp only [val_main_v46_apply, val_main_v45_apply, val_main_v44_apply, s43, L1, fm]
  rfl

theorem s47 (i : S64x128x8x128.Idx) : val_main_v47 (F := Ideal) (aP P) (aNG ng) i
    = ((vn P ng (128 * (i 0).val + (i 1).val) (128 * (i 2).val + (i 3).val) : ℝ) : EReal) := by
  have h1 : (i 1).val < 128 := (i 1).isLt
  have h2 : (i 2).val < 8 := (i 2).isLt
  have h3 : (i 3).val < 128 := (i 3).isLt
  rw [val_main_v47_apply, s46]
  congr 2
  · show ((((i 0).val * 128 + (i 1).val) * 8 + (i 2).val) * 128 + (i 3).val) / 1024 = _
    omega
  · show ((((i 0).val * 128 + (i 1).val) * 8 + (i 2).val) * 128 + (i 3).val) % 1024 = _
    omega

theorem s52 (i : S8192x1024.Idx) : val_main_v52 (F := Ideal) (aP P) (aNG ng) (aW W) (aSB SB) i
    = ((mx P ng (msk W) (i 0).val (i 1).val + SB ((i 1).val / 128) ((i 0).val % 128) : ℝ) : EReal) := by
  have h1 : (i 1).val < 1024 := (i 1).isLt
  simp only [val_main_v52_apply, val_main_v51_apply, val_main_v50_apply, val_main_v6_apply, val_main_v5_apply, val_main_v4_apply, val_main_v49_apply, val_main_v48_apply,
    s3, s47]
  have e : ∀ k : Fin 128, ((vn P ng (128 * (((i 0).val * 1024 + (i 1).val) / 131072) + k.val)
      (128 * (((i 0).val * 1024 + (i 1).val) / 128 % 8) + ((i 0).val * 1024 + (i 1).val) % 128) : ℝ) : EReal)
        * aW (msk W) (ridx_main_v48 (idx_main_v49 (idx_main_v52 i)) k)
      = ((msk W ((i 1).val / 128) ((i 0).val % 128) k.val * vn P ng ((i 0).val / 128 * 128 + k.val) (i 1).val : ℝ) : EReal) := fun k => by
    show _ * ((msk W (((i 0).val * 1024 + (i 1).val) / 128 % 8) (((i 0).val * 1024 + (i 1).val) / 1024 % 128) k.val : ℝ) : EReal) = _
    rw [← EReal.coe_mul, mul_comm]
    congr 3 <;> omega
  rw [Finset.sum_congr rfl fun k _ => e k, ← coe_sum_range 128 fun k => msk W ((i 1).val / 128) ((i 0).val % 128) k * vn P ng ((i 0).val / 128 * 128 + k) (i 1).val]
  show FloatOps.addf (F := Ideal) (φ := .f32) _ ((SB (((i 0).val * 1024 + (i 1).val) / 128 % 8) (((i 0).val * 1024 + (i 1).val) / 1024 % 128) : ℝ) : EReal) = _
  rw [fa]
  unfold mx
  congr 3 <;> omega

theorem s54 (i : S8192x1024.Idx) : val_main_v54 (F := Ideal) (aP P) (aDY DY) i = ((dm P DY (i 0).val (i 1).val : ℝ) : EReal) := by
  simp only [val_main_v54_apply, s29, L2, fm]
  unfold dm
  rw [mul_comm]

theorem s56 (i : S64x128x8x128.Idx) : val_main_v56 (F := Ideal) (aP P) (aDY DY) i
    = ((dm P DY (128 * (i 0).val + (i 1).val) (128 * (i 2).val + (i 3).val) : ℝ) : EReal) := by
  have h1 : (i 1).val < 128 := (i 1).isLt
  have h2 : (i 2).val < 8 := (i 2).isLt
  have h3 : (i 3).val < 128 := (i 3).isLt
  rw [val_main_v56_apply, s54]
  congr 2
  · show ((((i 0).val * 128 + (i 1).val) * 8 + (i 2).val) * 128 + (i 3).val) / 1024 = _
    omega
  · show ((((i 0).val * 128 + (i 1).val) * 8 + (i 2).val) * 128 + (i 3).val) % 1024 = _
    omega

theorem s59 (i : S8x64x128x128.Idx) : val_main_v59 (F := Ideal) (aP P) (aDY DY) i
    = ((dm P DY (128 * (i 1).val + (i 3).val) (128 * (i 0).val + (i 2).val) : ℝ) : EReal) := by
  rw [val_main_v59_apply, s56]

theorem s63 (i : S8192x1024.Idx) : val_main_v63 (F := Ideal) (aP P) (aDY DY) (aW W) i
    = ((dvn P DY (msk W) (i 0).val (i 1).val : ℝ) : EReal) := by
  have h1 : (i 1).val < 1024 := (i 1).isLt
  simp only [val_main_v63_apply, val_main_v62_apply, val_main_v61_apply, s3, s59]
  have e : ∀ k : Fin 128, ((dm P DY (128 * (((i 0).val * 1024 + (i 1).val) / 131072) + k.val)
      (128 * (((i 0).val * 1024 + (i 1).val) / 128 % 8) + ((i 0).val * 1024 + (i 1).val) % 128) : ℝ) : EReal)
        * aW (msk W) (ridx_main_v61 (idx_main_v62 (idx_main_v63 i)) k)
      = ((msk W ((i 1).val / 128) k.val ((i 0).val % 128) * dm P DY ((i 0).val / 128 * 128 + k.val) (i 1).val : ℝ) : EReal) := fun k => by
    show _ * ((msk W (((i 0).val * 1024 + (i 1).val) / 128 % 8) k.val (((i 0).val * 1024 + (i 1).val) / 1024 % 128) : ℝ) : EReal) = _
    rw [← EReal.coe_mul, mul_comm]
    congr 3 <;> omega
  rw [Finset.sum_congr rfl fun k _ => e k, ← coe_sum_range 128 fun k => msk W ((i 1).val / 128) k ((i 0).val % 128) * dm P DY ((i 0).val / 128 * 128 + k) (i 1).val]
  rfl

theorem s68 (i : S8192x1024.Idx) : val_main_v68 (F := Ideal) (aP P) (aDY DY) (aNG ng) (aW W) i
    = ((dvh P DY ng (msk W) (i 0).val (i 1).val : ℝ) : EReal) := by
  simp only [val_main_v68_apply, val_main_v67_apply, val_main_v44_apply, s63, L1, fm]
  rfl

/-- The sum of the products of a row with its gradient, over the mean's square. -/
theorem s77 (i : S8192x1.Idx) : val_main_v77 (F := Ideal) (aP P) (aDY DY) (aNG ng) (aW W) i
    = (((∑ k ∈ Finset.range 1024, sv P (i 0).val k * dvh P DY ng (msk W) (i 0).val k) * (-(1 / 2) * (rs P (i 0).val / ms P (i 0).val)) / 1024 : ℝ) : EReal) := by
  have h1 : (i 1).val < 1 := (i 1).isLt
  have e : (i 0).val * 1 + (i 1).val = (i 0).val := by omega
  simp only [val_main_v77_apply, val_main_v76_apply, val_main_v75_apply, val_main_v72_apply, val_main_v71_apply, val_main_v70_apply, val_main_v41_apply, val_main_v40_apply,
    val_main_v39_apply, s30, s68, s38, s37, val_main_cst_11_apply, val_main_cst_15_apply, val_main_cst_16_apply, Ideal.ofBits_def, bits_zero, bits_1024, bits_neg_half, fm,
    fd _ _ (ms_pos P _).ne', e]
  rw [← coe_sum_range 1024 fun k => sv P (i 0).val k * dvh P DY ng (msk W) (i 0).val k, ← EReal.coe_add, zero_add, fm, fd _ _ (by norm_num)]

theorem rs_sq (r : ℕ) : rs P r * rs P r = (ms P r)⁻¹ := by
  unfold rs
  rw [← mul_inv, Real.mul_self_sqrt (ms_pos P r).le]

theorem s83 (i : S8192x1024.Idx) : val_main_v83 (F := Ideal) (aP P) (aDY DY) (aNG ng) (aW W) i
    = ((dv P DY ng (msk W) (i 0).val (i 1).val : ℝ) : EReal) := by
  simp only [val_main_v83_apply, val_main_v82_apply, val_main_v81_apply, val_main_v80_apply, val_main_v79_apply, val_main_v78_apply, val_main_v74_apply, val_main_v73_apply,
    s30, s38, s68, s77, val_main_cst_17_apply, Ideal.ofBits_def, bits_zero, Fin.sum_univ_one, ← EReal.coe_add, fm, fa]
  unfold dv vh
  have e : (∑ k ∈ Finset.range 1024, dvh P DY ng (msk W) (i 0).val k * (sv P (i 0).val k * rs P (i 0).val))
      = rs P (i 0).val * ∑ k ∈ Finset.range 1024, sv P (i 0).val k * dvh P DY ng (msk W) (i 0).val k := by
    rw [Finset.mul_sum]
    exact Finset.sum_congr rfl fun k _ => by ring
  rw [e, div_eq_mul_inv (rs P (i 0).val), ← rs_sq]
  congr 1
  ring

theorem s84 (i : S8192x2048.Idx) : val_main_v84 (F := Ideal) (aP P) (aDY DY) (aNG ng) (aW W) (aSB SB) i
    = ((if (i 1).val < 1024 then du P DY ng (msk W) (fun r c => SB (c / 128) r) (i 0).val (i 1).val
        else dv P DY ng (msk W) (i 0).val ((i 1).val - 1024) : ℝ) : EReal) := by
  have h1 : (i 1).val < 2048 := (i 1).isLt
  unfold val_main_v84
  split
  · rename_i h
    rw [concatenate_pair_apply_left (s₁ := S8192x1024) (s₂ := S8192x1024) (t := S8192x2048) 1 _ _ concatenates_S8192x1024_S8192x1024_S8192x2048_d1 i rfl
      (fun a => match a with | ⟨0, _⟩ => ⟨(i 0).val, (i 0).isLt⟩ | ⟨1, _⟩ => ⟨(i 1).val, h⟩) (fun b => by match b with | ⟨0, _⟩ => rfl | ⟨1, _⟩ => rfl)]
    rw [val_main_v55_apply, s52]
    exact fm _ _
  · rename_i h
    rw [concatenate_pair_apply_right (s₁ := S8192x1024) (s₂ := S8192x1024) (t := S8192x2048) 1 _ _ concatenates_S8192x1024_S8192x1024_S8192x2048_d1 i rfl rfl
      (fun a => match a with | ⟨0, _⟩ => ⟨(i 0).val, (i 0).isLt⟩ | ⟨1, _⟩ => ⟨(i 1).val - 1024, by show _ < 1024; omega⟩) (fun b hb => by match b with | ⟨0, _⟩ => rfl | ⟨1, _⟩ => exact absurd rfl hb)
      (by show ((i 1).val - 1024) + 1024 = (i 1).val; omega)]
    exact s83 P DY ng W _

/-- The reference's gradient of the rows given to the unit. -/
theorem s97 : val_main_v97 (F := Ideal) (aP P) (aDY DY) (aNG ng) (aW W) (aSB SB)
    = (L2 (φ := .bf16) (dp P DY ng (msk W) fun r c => SB (c / 128) r) : FVec Ideal S8192x2048 .bf16) := by
  funext i
  simp only [val_main_v97_apply, val_main_v96_apply, val_main_v95_apply, val_main_v94_apply, val_main_v93_apply, val_main_v92_apply, val_main_v91_apply, val_main_v90_apply,
    val_main_v89_apply, val_main_v88_apply, val_main_v87_apply, val_main_v86_apply, val_main_v85_apply, val_main_v23_apply, val_main_v22_apply, val_main_v21_apply,
    val_main_v20_apply, val_main_v19_apply, val_main_v12_apply, val_main_v11_apply, val_main_v10_apply, val_main_v7_apply, val_main_cst_0_apply, val_main_cst_1_apply,
    val_main_cst_2_apply, val_main_cst_4_apply, val_main_cst_5_apply, val_main_cst_18_apply, val_main_cst_19_apply, s18, s27, s84, L2, Ideal.ofBits_def,
    bits_44715, bits_million, bits_gk, bits_half, bits_one, bits_three, fm, fa, fs, fd _ _ (by norm_num : (1000000 : ℝ) ≠ 0)]
  show (_ : EReal) = _
  refine congrArg Real.toEReal ?_
  unfold dp dgel
  split <;> ring

/-- The reference's gradient of the gains. -/
theorem s98 : val_main_v98 (F := Ideal) (aP P) (aDY DY) (aW W)
    = (L2 (φ := .f32) fun _ k => ∑ r ∈ Finset.range 8192, dngAt P DY (msk W) r k : FVec Ideal S1x1024 .f32) := by
  funext i
  have h1 : (i 1).val < 1024 := (i 1).isLt
  simp only [val_main_v98_apply, val_main_v69_apply, val_main_v66_apply, val_main_v65_apply, val_main_v64_apply, s43, s63, val_main_cst_13_apply, val_main_cst_14_apply,
    Ideal.ofBits_def, bits_zero, fm, Fin.sum_univ_one]
  have e : ((0 : Fin 1) : ℕ) * 1024 + (i 1).val = (i 1).val := by show 0 * 1024 + _ = _; omega
  rw [e, ← coe_sum_range 8192 fun k => vh P k (i 1).val * dvn P DY (msk W) k (i 1).val, ← EReal.coe_add, ← EReal.coe_add, zero_add, zero_add]
  refine congrArg Real.toEReal (Finset.sum_congr rfl fun k _ => ?_)
  unfold dngAt
  rw [mul_comm]

/-- The reference's gradient of the bias. -/
theorem s99 : val_main_v99 (F := Ideal) (aP P) (aDY DY)
    = (L2 (φ := .f32) fun r k => ∑ s ∈ Finset.range 64, dm P DY (128 * s + r) k : FVec Ideal S128x1024 .f32) := by
  funext i
  have h0 : (i 0).val < 128 := (i 0).isLt
  have h1 : (i 1).val < 1024 := (i 1).isLt
  simp only [val_main_v99_apply, val_main_v58_apply, val_main_v57_apply, s56, val_main_cst_12_apply, Ideal.ofBits_def, bits_zero]
  have e : ∀ x : Fin 64, (dm P DY (128 * x.val + (((0 * 128 + ((i 0).val * 1024 + (i 1).val) / 1024 % 128) * 8 + ((i 0).val * 1024 + (i 1).val) / 128 % 8) * 128 +
      ((i 0).val * 1024 + (i 1).val) % 128) / 1024) (128 * ((((0 * 128 + ((i 0).val * 1024 + (i 1).val) / 1024 % 128) * 8 + ((i 0).val * 1024 + (i 1).val) / 128 % 8) * 128 +
      ((i 0).val * 1024 + (i 1).val) % 128) / 128 % 8) + (((0 * 128 + ((i 0).val * 1024 + (i 1).val) / 1024 % 128) * 8 + ((i 0).val * 1024 + (i 1).val) / 128 % 8) * 128 +
      ((i 0).val * 1024 + (i 1).val) % 128) % 128)) = dm P DY (128 * x.val + (i 0).val) (i 1).val := fun x => by
    congr 1 <;> omega
  refine (congrArg _ (Finset.sum_congr rfl fun x _ => congrArg Real.toEReal (e x))).trans ?_
  rw [← coe_sum_range 64 fun s => dm P DY (128 * s + (i 0).val) (i 1).val, ← EReal.coe_add, zero_add]
  rfl

/-- The product that contracts chunks and channels, at an entry. -/
theorem dot_apply (y0 : FVec Ideal S8x64x128x128 .f32) (y1 : FVec Ideal S64x128x8x128 .f32) (i : S8x128x128.Idx) :
    Host.dotGeneral dot_S8x64x128x128_S64x128x8x128_S8x128x128_12_03_3_1_0_2 none y0 y1 i
      = ∑ n : Fin 64, ∑ k : Fin 128, y0 (ValueIdx.ix4 (i 0) n k (i 1)) * y1 (ValueIdx.ix4 n (i 2) (i 0) k) := by
  simp only [Host.dotGeneral]
  rw [Ideal.dotGeneral_apply, ValueIdx.sum_contr2 dot_S8x64x128x128_S64x128x8x128_S8x128x128_12_03_3_1_0_2 64 128 rfl rfl rfl]
  refine Finset.sum_congr rfl fun n _ => Finset.sum_congr rfl fun k _ => ?_
  have h0 := ValueIdx.contrEquiv2_symm_val0 dot_S8x64x128x128_S64x128x8x128_S8x128x128_12_03_3_1_0_2 64 128 rfl rfl rfl (n, k)
  have h1 := ValueIdx.contrEquiv2_symm_val1 dot_S8x64x128x128_S64x128x8x128_S8x128x128_12_03_3_1_0_2 64 128 rfl rfl rfl (n, k)
  have el : dot_S8x64x128x128_S64x128x8x128_S8x128x128_12_03_3_1_0_2.lhsIdx i
      ((ValueIdx.contrEquiv2 dot_S8x64x128x128_S64x128x8x128_S8x128x128_12_03_3_1_0_2 64 128 rfl rfl rfl).symm (n, k)) = ValueIdx.ix4 (i 0) n k (i 1) := by
    funext a; apply Fin.ext
    match a with
    | ⟨0, _⟩ => rfl
    | ⟨1, _⟩ => exact h0
    | ⟨2, _⟩ => exact h1
    | ⟨3, _⟩ => rfl
  have er : dot_S8x64x128x128_S64x128x8x128_S8x128x128_12_03_3_1_0_2.rhsIdx i
      ((ValueIdx.contrEquiv2 dot_S8x64x128x128_S64x128x8x128_S8x128x128_12_03_3_1_0_2 64 128 rfl rfl rfl).symm (n, k)) = ValueIdx.ix4 n (i 2) (i 0) k := by
    funext a; apply Fin.ext
    match a with
    | ⟨0, _⟩ => exact h0
    | ⟨1, _⟩ => rfl
    | ⟨2, _⟩ => rfl
    | ⟨3, _⟩ => exact h1
  rw [el, er]
  rfl

/-- The reference's gradient of the mixing matrices. -/
theorem s60 : val_main_v60 (F := Ideal) (aP P) (aDY DY) (aNG ng)
    = (L3 (φ := .f32) fun g a b => ∑ s ∈ Finset.range 64, dwcAt P DY ng s g a b : FVec Ideal S8x128x128 .f32) := by
  funext i
  unfold val_main_v60
  rw [dot_apply]
  have e : ∀ n : Fin 64, (∑ k : Fin 128, val_main_v59 (F := Ideal) (aP P) (aDY DY) (ValueIdx.ix4 (i 0) n k (i 1)) * val_main_v47 (F := Ideal) (aP P) (aNG ng) (ValueIdx.ix4 n (i 2) (i 0) k))
      = ((dwcAt P DY ng n.val (i 0).val (i 1).val (i 2).val : ℝ) : EReal) := fun n => by
    have e' : ∀ k : Fin 128, val_main_v59 (F := Ideal) (aP P) (aDY DY) (ValueIdx.ix4 (i 0) n k (i 1)) * val_main_v47 (F := Ideal) (aP P) (aNG ng) (ValueIdx.ix4 n (i 2) (i 0) k)
        = ((dm P DY (128 * n.val + (i 1).val) (128 * (i 0).val + k.val) * vn P ng (128 * n.val + (i 2).val) (128 * (i 0).val + k.val) : ℝ) : EReal) := fun k => by
      rw [s59, s47, EReal.coe_mul]
    rw [Finset.sum_congr rfl fun k _ => e' k]
    exact (coe_sum_range 128 fun k => dm P DY (128 * n.val + (i 1).val) (128 * (i 0).val + k) * vn P ng (128 * n.val + (i 2).val) (128 * (i 0).val + k)).symm
  rw [Finset.sum_congr rfl fun n _ => e n]
  exact (coe_sum_range 64 fun s => dwcAt P DY ng s (i 0).val (i 1).val (i 2).val).symm

end Cert.SguRef
end
-- ==== Proof.Sgu.Entry.lean ====
module

public import proofs.«01_k».proof.Proof.Sgu.Arrays
public import proofs.«01_k».proof.Proof.Sgu.Ref
public import Idealize.ShloMosaic.Lib.StableHlo.Run

/-! The arrays the gated unit's call takes, at the region's entry: what the host's lines before it make of arguments
whose entries are reals. -/

@[expose] public section
set_option maxRecDepth 16384
noncomputable section
namespace Cert.Sgu
open Cert.KernelIdeal Cert.KernelIdeal.Gen Cert.Lift Idealize.ShloMosaic Idealize.ShloMosaic.TcCoe Idealize.SL.Sem
variable (m : (ℓ : Loc nD τ sig) → Buf (Elt Ideal) ℓ) (c : Dev nD)

theorem V_main_v4 : V m c main_v4 = truncf (F := Ideal) (φ := .f32) .bf16 (Cert.ReferenceIdeal.Read.val_main_v3 (F := Ideal) (m ((c : Thread nD τ).loc main_arg3))) (by decide) := by
  simp only [V, hostOps0, hostOps0_1, hostOps0_2, hostOps0_3, hostOps0_4, List.flatten_cons, List.flatten_nil, List.append_nil, List.cons_append,
      List.nil_append]
  after_results
  rfl
theorem V_main_v6 : V m c main_v6 = truncf (F := Ideal) (φ := .f32) .bf16 (transpose S8x128x128 [0, 2, 1] (Cert.ReferenceIdeal.Read.val_main_v3 (F := Ideal) (m ((c : Thread nD τ).loc main_arg3))) (by decide)) (by decide) := by
  simp only [V, hostOps0, hostOps0_1, hostOps0_2, hostOps0_3, hostOps0_4, List.flatten_cons, List.flatten_nil, List.append_nil, List.cons_append,
      List.nil_append]
  after_results
  rfl
theorem V_main_v10 (ng : ℕ → ℝ) (h : m ((c : Thread nD τ).loc main_arg2) = fun j => ((ng (j 0).val : ℝ) : EReal)) :
    V m c main_v10 = (L2 (φ := .f32) fun _ c => ng c) := by
  simp only [V, hostOps0, hostOps0_1, hostOps0_2, hostOps0_3, hostOps0_4, List.flatten_cons, List.flatten_nil, List.append_nil, List.cons_append,
      List.nil_append]
  after_results
  rw [show m (c, Proc.tc.devRef main_arg2) = fun j => ((ng (j 0).val : ℝ) : EReal) from h]
  funext i
  rfl
theorem V_main_v9 (SB : ℕ → ℕ → ℝ) (h : m ((c : Thread nD τ).loc main_arg4) = (L2 (φ := .f32) SB)) : V m c main_v9 = (L2 (φ := .f32) fun r c => SB (c / 128) r) := by
  simp only [V, hostOps0, hostOps0_1, hostOps0_2, hostOps0_3, hostOps0_4, List.flatten_cons, List.flatten_nil, List.append_nil, List.cons_append,
      List.nil_append]
  after_results
  rw [show m (c, Proc.tc.devRef main_arg4) = (L2 (φ := .f32) SB) from h]
  funext i
  have h0 : (i 0).val < 128 := (i 0).isLt
  have h1 : (i 1).val < 1024 := (i 1).isLt
  refine (shapeCast_apply _ shapeCasts_S128x8x128_S128x1024 i (ValueIdx.ix3 (i 0) ⟨(i 1).val / 128, by omega⟩ ⟨(i 1).val % 128, by omega⟩)
    (by rewrite [Shape.rowMajor_val_three, Shape.rowMajor_val_two]; show ((i 0).val * 8 + (i 1).val / 128) * 128 + (i 1).val % 128 = (i 0).val * 1024 + (i 1).val; omega)).trans ?_
  rfl

end Cert.Sgu
end
-- ==== Proof.Sgu.Finite.lean ====
module

public import proofs.«01_k».proof.Pre_finite
public import proofs.«01_k».proof.Proof.Sgu.Lift
public import Idealize.ShloMosaic.Lib.ReduceAll

/-! An array whose entries are all smaller than infinity in absolute value is an array of reals. -/

@[expose] public section
noncomputable section
namespace Cert.Finite
open Cert.Lift Idealize.ShloMosaic

/-- The float word of infinity is the top element. -/
theorem bits_inf : Ideal.ofBits .f32 0x7F800000#32 = (⊤ : EReal) := by
  simp [Ideal.ofBits, Ideal.ieee]

/-- An extended real smaller than infinity in absolute value is a real. -/
theorem real_of_lt (x : EReal) (h : max x (-x) < ⊤) : x = ((x.toReal : ℝ) : EReal) := by
  refine (EReal.coe_toReal ?_ ?_).symm
  · rintro rfl; simp at h
  · rintro rfl; simp at h

/-- The test "every entry is smaller than infinity in absolute value" answers one only when every entry is a real. -/
theorem real_of_test {s u : Shape} {axes : List (Fin s.rank)} (hs : Subsingleton u.Idx) (d : Fin u.rank → Fin s.rank) (hb : u.BroadcastsInDim s d)
    (x : FVec Ideal s .f32) (hr : s.ReducesTo axes u) (hu : 0 < u.numel)
    (h : Host.reduce IntOp.andi (cmpf .olt (Host.absf x) (broadcastInDim s d hb (constant u .f32 0x7F800000#32)))
      (constantI u 1 1#1) hr hu = fun _ => 1#1) (i : s.Idx) : x i = (((x i).toReal : ℝ) : EReal) := by
  have e := Host.reduce_andi_all _ _ hr hu (Shape.Idx.first hu) (congrFun h _) i
  have e' : Ideal.cmp .olt (max (x i) (-(x i))) (Ideal.ofBits .f32 0x7F800000#32) = 1#1 := e
  rw [bits_inf] at e'
  refine real_of_lt _ ?_
  by_contra hn
  simp [Ideal.cmp, hn] at e'

/-- An array of one axis whose entries are reals. -/
theorem exists_L1 {a : ℕ} (x : FVec Ideal ⟨1, ![a]⟩ .f32) (h : ∀ i, x i = (((x i).toReal : ℝ) : EReal)) :
    ∃ f : ℕ → ℝ, x = fun j => ((f (j 0).val : ℝ) : EReal) := by
  refine ⟨fun r => if hr : r < a then (x (ValueIdx.ix1 ⟨r, hr⟩)).toReal else 0, funext fun i => ?_⟩
  have hr : (i 0).val < a := (i 0).isLt
  have e : i = ValueIdx.ix1 ⟨(i 0).val, hr⟩ := by
    funext k; match k with | ⟨0, _⟩ => rfl
  dsimp only
  rw [dif_pos hr, ← e]
  exact h i

/-- An array of two axes whose entries are reals. -/
theorem exists_L2 {a b : ℕ} (x : FVec Ideal ⟨2, ![a, b]⟩ .f32) (h : ∀ i, x i = (((x i).toReal : ℝ) : EReal)) :
    ∃ f : ℕ → ℕ → ℝ, x = L2 f := by
  refine ⟨fun r c => if hr : r < a then if hc : c < b then (x (ValueIdx.ix2 ⟨r, hr⟩ ⟨c, hc⟩)).toReal else 0 else 0, funext fun i => ?_⟩
  have hr : (i 0).val < a := (i 0).isLt
  have hc : (i 1).val < b := (i 1).isLt
  have e : i = ValueIdx.ix2 ⟨(i 0).val, hr⟩ ⟨(i 1).val, hc⟩ := by
    funext k; match k with | ⟨0, _⟩ => rfl | ⟨1, _⟩ => rfl
  unfold L2
  dsimp only
  rw [dif_pos hr, dif_pos hc, ← e]
  exact h i

/-- An array of three axes whose entries are reals. -/
theorem exists_L3 {a b d : ℕ} (x : FVec Ideal ⟨3, ![a, b, d]⟩ .f32) (h : ∀ i, x i = (((x i).toReal : ℝ) : EReal)) :
    ∃ f : ℕ → ℕ → ℕ → ℝ, x = L3 f := by
  refine ⟨fun r c l => if hr : r < a then if hc : c < b then if hl : l < d then (x (ValueIdx.ix3 ⟨r, hr⟩ ⟨c, hc⟩ ⟨l, hl⟩)).toReal else 0 else 0 else 0,
    funext fun i => ?_⟩
  have hr : (i 0).val < a := (i 0).isLt
  have hc : (i 1).val < b := (i 1).isLt
  have hl : (i 2).val < d := (i 2).isLt
  have e : i = ValueIdx.ix3 ⟨(i 0).val, hr⟩ ⟨(i 1).val, hc⟩ ⟨(i 2).val, hl⟩ := by
    funext k; match k with | ⟨0, _⟩ => rfl | ⟨1, _⟩ => rfl | ⟨2, _⟩ => rfl
  unfold L3
  dsimp only
  rw [dif_pos hr, dif_pos hc, dif_pos hl, ← e]
  exact h i

/-- The side conditions of the test's operations. -/
theorem facts : Cert.Pre_finite.Facts where
  bcast_S_S8192x2048 := by decide
  reducesTo_S8192x2048_S_d0_1 := by decide
  h_S_ := by decide
  bcast_S_S8192x1024 := by decide
  reducesTo_S8192x1024_S_d0_1 := by decide
  bcast_S_S1024 := by decide
  reducesTo_S1024_S_d0 := by decide
  bcast_S_S8x128x128 := by decide
  reducesTo_S8x128x128_S_d0_1_2 := by decide
  bcast_S_S8x128 := by decide
  reducesTo_S8x128_S_d0_1 := by decide

end Cert.Finite
end
-- ==== Proof.Sgu.Final.lean ====
module

public import proofs.«01_k».proof.Defs
public import proofs.«01_k».proof.Proof.Sgu.Entry
public import proofs.«01_k».proof.Proof.Sgu.Finite
public import proofs.«01_k».proof.Proof.Gen.KernelIdeal.Value
public import proofs.«01_k».proof.Proof.Gen.ReferenceIdeal.Run

/-! The gated unit's gradient: the call's four result arrays are the reference's. -/

@[expose] public section
set_option maxRecDepth 16384
noncomputable section
namespace Cert.Sgu
open Cert.KernelIdeal Cert.KernelIdeal.Gen Cert.Lift Idealize.ShloMosaic Idealize.ShloMosaic.TcCoe Idealize.SL.Sem
open Cert.ReferenceIdeal.Read (val_main_v97 val_main_v98 val_main_v60 val_main_v99)

/-- When the arguments' entries are reals, each result array of the call is the reference's at the same arguments. -/
theorem values [hF : Cert.Pre_finite.Facts] (m : (ℓ : Loc nD τ sig) → Buf (Elt Ideal) ℓ) (h : Cert.Pre_KernelIdeal_finite m) (c : Dev nD) :
    (dats m 0 c).arrAt 6 cfg0.N = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 7 cfg0.N = val_main_v98 (F := Ideal) (m ((c : Thread nD τ).loc main_arg0)) (m ((c : Thread nD τ).loc main_arg1)) (m ((c : Thread nD τ).loc main_arg3))
    ∧ (dats m 0 c).arrAt 8 cfg0.N = val_main_v60 (F := Ideal) (m ((c : Thread nD τ).loc main_arg0)) (m ((c : Thread nD τ).loc main_arg1)) (m ((c : Thread nD τ).loc main_arg2))
    ∧ (dats m 0 c).arrAt 9 cfg0.N = val_main_v99 (F := Ideal) (m ((c : Thread nD τ).loc main_arg0)) (m ((c : Thread nD τ).loc main_arg1)) := by
  have hs : Subsingleton (Cert.Pre_finite.S_).Idx := ⟨fun a b => funext fun k => k.elim0⟩
  obtain ⟨t0, t1, t2, t3, t4⟩ := h c
  simp only [Cert.Pre_finite.fn, Cert.Pre_finite.fn_part1] at t0 t1 t2 t3 t4
  obtain ⟨P, e0⟩ := Cert.Finite.exists_L2 (m ((c : Thread nD τ).loc main_arg0)) (Cert.Finite.real_of_test hs _ _ _ _ _ t0)
  obtain ⟨DY, e1⟩ := Cert.Finite.exists_L2 (m ((c : Thread nD τ).loc main_arg1)) (Cert.Finite.real_of_test hs _ _ _ _ _ t1)
  obtain ⟨ng, e2⟩ := Cert.Finite.exists_L1 (m ((c : Thread nD τ).loc main_arg2)) (Cert.Finite.real_of_test hs _ _ _ _ _ t2)
  obtain ⟨W, e3⟩ := Cert.Finite.exists_L3 (m ((c : Thread nD τ).loc main_arg3)) (Cert.Finite.real_of_test hs _ _ _ _ _ t3)
  obtain ⟨SB, e4⟩ := Cert.Finite.exists_L2 (m ((c : Thread nD τ).loc main_arg4)) (Cert.Finite.real_of_test hs _ _ _ _ _ t4)
  have h0 : V m c main_arg0 = (L2 (φ := .f32) P) := (V_main_arg0 m c).trans e0
  have h1 : V m c main_arg1 = (L2 (φ := .f32) DY) := (V_main_arg1 m c).trans e1
  have h2 := V_main_v10 m c ng e2
  have h3 : V m c main_v4 = (L3 (φ := .bf16) (Cert.SguRef.msk W)) := by
    rw [V_main_v4, e3]
    exact congrArg (fun x => truncf (F := Ideal) (φ := .f32) .bf16 x (by decide)) (Cert.SguRef.s3 W)
  have h4 : V m c main_v6 = (L3 (φ := .bf16) fun g a b => Cert.SguRef.msk W g b a) := by
    rw [V_main_v6, e3]
    refine (congrArg (fun x => truncf (F := Ideal) (φ := .f32) .bf16 (transpose S8x128x128 [0, 2, 1] x (by decide)) (by decide)) (Cert.SguRef.s3 W)).trans ?_
    rfl
  have h5 := V_main_v9 m c SB e4
  rw [e0, e1, e2, e3, e4]
  exact ⟨(arr_dp m P DY ng (Cert.SguRef.msk W) (fun r c => SB (c / 128) r) c h0 h1 h2 h3 h4 h5).trans (Cert.SguRef.s97 P DY ng W SB).symm,
    (arr_dng m P DY ng (Cert.SguRef.msk W) (fun r c => SB (c / 128) r) c h0 h1 h2 h3 h4 h5).trans (Cert.SguRef.s98 P DY W).symm,
    (arr_dwc m P DY ng (Cert.SguRef.msk W) (fun r c => SB (c / 128) r) c h0 h1 h2 h3 h4 h5).trans (Cert.SguRef.s60 P DY ng).symm,
    (arr_db m P DY ng (Cert.SguRef.msk W) (fun r c => SB (c / 128) r) c h0 h1 h2 h3 h4 h5).trans (Cert.SguRef.s99 P DY).symm⟩

/-- The call and the reference, run from arguments whose entries are finite, end with the same four arrays. -/
theorem algebraic : Cert.algebraic_KernelIdeal_ReferenceIdeal_pre_finite
    (hKernelIdeal := Cert.KernelIdeal.Gen.facts) (hReferenceIdeal := Cert.ReferenceIdeal.Gen.facts) (hPre_finite := Cert.Finite.facts) := by
  intro m g m' g' hp ha
  refine ⟨fun c => (dats m 0 c).arrAt 6 cfg0.N, fun c => (dats m 0 c).arrAt 7 cfg0.N, fun c => (dats m 0 c).arrAt 8 cfg0.N,
    fun c => (dats m 0 c).arrAt 9 cfg0.N, Cert.KernelIdeal.Value.run_blocks m g,
    (θ_run Cert.ReferenceIdeal.defs _ _).mono (fun r h c => ?_) (Cert.ReferenceIdeal.Value.run m' g')⟩
  obtain ⟨r0, r1, r2, r3, k⟩ := h c
  obtain ⟨a0, a1, a2, a3, a4⟩ := ha c
  obtain ⟨v0, v1, v2, v3⟩ := values (hF := Cert.Finite.facts) m hp c
  refine ⟨?_, ?_, ?_, ?_, k⟩
  · refine (r0.trans (Cert.ReferenceIdeal.Read.val_main_v97_eq m' c)).trans ?_
    rw [a0, a1, a2, a3, a4]
    exact v0.symm
  · refine (r1.trans (Cert.ReferenceIdeal.Read.val_main_v98_eq m' c)).trans ?_
    rw [a0, a1, a3]
    exact v1.symm
  · refine (r2.trans (Cert.ReferenceIdeal.Read.val_main_v60_eq _ _ _)).trans ?_
    rw [a0, a1, a2]
    exact v2.symm
  · refine (r3.trans (Cert.ReferenceIdeal.Read.val_main_v99_eq _ _)).trans ?_
    rw [a0, a1]
    exact v3.symm

end Cert.Sgu
end
-- ==== Proof.Mm.NormBwd.lean ====
module

public import proofs.«01_k».proof.Proof.Sgu.Ref

/-! The gradient through a row's scaling by the reciprocal root of its mean square, in real numbers: `h` is the gradient
of the scaled rows times their gains, `x` the rows, `g` the gains and `e` a gradient added to the result. -/

@[expose] public section
noncomputable section
namespace Cert.NormBwd
open Cert.Lift Cert.Sgu Cert.SguRef Idealize.ShloMosaic
open scoped BigOperators

/-- The mean of squares of a row, and the small number. -/
def mean (x : ℕ → ℕ → ℝ) (r : ℕ) : ℝ := (∑ c ∈ Finset.range 1024, x r c * x r c) / 1024 + eps

/-- The inverse root of it. -/
def q (x : ℕ → ℕ → ℝ) (r : ℕ) : ℝ := (Real.sqrt (mean x r))⁻¹

/-- The scaled rows. -/
def scaled (x : ℕ → ℕ → ℝ) (r c : ℕ) : ℝ := x r c * q x r

/-- The gradient of the rows. -/
def dx (h x : ℕ → ℕ → ℝ) (g : ℕ → ℝ) (e : ℕ → ℕ → ℝ) (r c : ℕ) : ℝ :=
  e r c + q x r * (h r c * g c - scaled x r c * ((∑ k ∈ Finset.range 1024, h r k * g k * scaled x r k) / 1024))

/-- What one row adds to the gradient of the gains. -/
def dgAt (h x : ℕ → ℕ → ℝ) (r c : ℕ) : ℝ := h r c * scaled x r c

/-- The rows of block `n`, of 512 rows each. -/
def rows (n : ℕ) (f : ℕ → ℕ → ℝ) : ℕ → ℕ → ℝ := fun r c => f (512 * n + r) c

/-- The gradient of the product with `w`, its rows over `n` columns. -/
def back (n : ℕ) (d : ℕ → ℕ → ℝ) (w : ℕ → ℕ → ℕ → ℝ) (r c : ℕ) : ℝ := ∑ i ∈ Finset.range n, d r i * w 0 c i

theorem mean_pos (x : ℕ → ℕ → ℝ) (r : ℕ) : 0 < mean x r :=
  add_pos_of_nonneg_of_pos (div_nonneg (Finset.sum_nonneg fun _ _ => mul_self_nonneg _) (by norm_num)) eps_pos

/-- The gradient of the rows as the chain rule's sum writes it. -/
theorem dx_chain (h x : ℕ → ℕ → ℝ) (g : ℕ → ℝ) (e : ℕ → ℕ → ℝ) (r c : ℕ) :
    e r c + h r c * g c * q x r
        + x r c * ((∑ k ∈ Finset.range 1024, x r k * (h r k * g k)) * (-(1 / 2) * (q x r / mean x r)) / 1024)
        + (∑ k ∈ Finset.range 1024, x r k * (h r k * g k)) * (-(1 / 2) * (q x r / mean x r)) / 1024 * x r c
      = dx h x g e r c := by
  have hm : q x r / mean x r = q x r * (q x r * q x r) := by
    have hq : q x r * q x r = (mean x r)⁻¹ := by
      unfold q
      rw [← mul_inv, Real.mul_self_sqrt (mean_pos x r).le]
    rw [hq, div_eq_mul_inv]
  have hs : ∑ k ∈ Finset.range 1024, h r k * g k * scaled x r k
      = q x r * ∑ k ∈ Finset.range 1024, x r k * (h r k * g k) := by
    rw [Finset.mul_sum]
    exact Finset.sum_congr rfl fun k _ => by unfold scaled; ring
  unfold dx
  rw [hs, hm]
  unfold scaled
  ring

section Block
variable {a : ℕ} (h x : ℕ → ℕ → ℝ) (g : ℕ → ℝ) (e : ℕ → ℕ → ℝ)

/-- The inverse roots of a block's means of squares, as the kernels compute them. -/
theorem q_block (hr : (⟨2, ![a, 1024]⟩ : Shape).Reduces [1] ⟨1, ![a]⟩) (hφ : FKind.Formats .f32)
    (hacc : 0x00000000#32 = FKind.add.neutral .f32 hφ) (hc : (⟨1, ![a]⟩ : Shape).ShapeCasts ⟨2, ![a, 1]⟩) :
    rsqrt (addf (divf (shapeCast ⟨2, ![a, 1]⟩ (multiReduction (F := Ideal) .add [1] ⟨1, ![a]⟩
        (mulf (L2 x : FVec Ideal ⟨2, ![a, 1024]⟩ .f32) (L2 x)) 0x00000000#32 hr hφ hacc) hc)
        (broadcast ⟨2, ![a, 1]⟩ (Scalar.ofBits (F := Ideal) .f32 0x44800000#32)))
        (broadcast ⟨2, ![a, 1]⟩ (Scalar.ofBits (F := Ideal) .f32 0x358637BD#32)))
      = (L2 fun r _ => q x r : FVec Ideal ⟨2, ![a, 1]⟩ .f32) := by
  rw [mulf_L2, rowsum_L2, show Scalar.ofBits (F := Ideal) .f32 0x44800000#32 = _ from bits_1024,
    show Scalar.ofBits (F := Ideal) .f32 0x358637BD#32 = _ from bits_eps,
    broadcast_L2 _ _ rfl, broadcast_L2 _ _ rfl, divf_L2 _ _ (by norm_num), addf_L2]
  exact rsqrt_L2 _ fun r _ => mean_pos x r

/-- The scaled block. -/
theorem scaled_block (ha : a ≠ 1) (hb : (⟨2, ![a, 1]⟩ : Shape).Broadcasts ⟨2, ![a, 1024]⟩) :
    mulf (L2 x : FVec Ideal ⟨2, ![a, 1024]⟩ .f32) (broadcastTo ⟨2, ![a, 1024]⟩ (L2 fun r _ => q x r : FVec Ideal ⟨2, ![a, 1]⟩ .f32) hb)
      = L2 (scaled x) := by
  rw [bcast_col_L2 _ ha, mulf_L2]
  rfl

/-- The block of the rows' gradient, as the kernels compute it. -/
theorem dx_block (ha : a ≠ 1) (hr : (⟨2, ![a, 1024]⟩ : Shape).Reduces [1] ⟨1, ![a]⟩) (hφ : FKind.Formats .f32)
    (hacc : 0x00000000#32 = FKind.add.neutral .f32 hφ) (hc : (⟨1, ![a]⟩ : Shape).ShapeCasts ⟨2, ![a, 1]⟩)
    (hb : (⟨2, ![a, 1]⟩ : Shape).Broadcasts ⟨2, ![a, 1024]⟩) (hs : (⟨2, ![1, 1024]⟩ : Shape).ShapeCasts ⟨2, ![1, 1024]⟩)
    (hg : (⟨2, ![1, 1024]⟩ : Shape).Broadcasts ⟨2, ![a, 1024]⟩) :
    addf (L2 e : FVec Ideal ⟨2, ![a, 1024]⟩ .f32) (mulf (broadcastTo ⟨2, ![a, 1024]⟩ (L2 fun r _ => q x r : FVec Ideal ⟨2, ![a, 1]⟩ .f32) hb)
      (subf (mulf (L2 h : FVec Ideal ⟨2, ![a, 1024]⟩ .f32)
          (broadcastTo ⟨2, ![a, 1024]⟩ (shapeCast ⟨2, ![1, 1024]⟩ (L2 (fun _ k => g k) : FVec Ideal ⟨2, ![1, 1024]⟩ .f32) hs) hg))
        (mulf (L2 (scaled x) : FVec Ideal ⟨2, ![a, 1024]⟩ .f32) (broadcastTo ⟨2, ![a, 1024]⟩ (divf (shapeCast ⟨2, ![a, 1]⟩
          (multiReduction (F := Ideal) .add [1] ⟨1, ![a]⟩ (mulf (mulf (L2 h : FVec Ideal ⟨2, ![a, 1024]⟩ .f32)
            (broadcastTo ⟨2, ![a, 1024]⟩ (shapeCast ⟨2, ![1, 1024]⟩ (L2 (fun _ k => g k) : FVec Ideal ⟨2, ![1, 1024]⟩ .f32) hs) hg))
            (L2 (scaled x))) 0x00000000#32 hr hφ hacc) hc)
          (broadcast ⟨2, ![a, 1]⟩ (Scalar.ofBits (F := Ideal) .f32 0x44800000#32))) hb))))
      = L2 (dx h x g e) := by
  rw [shapeCast_L2, bcast_row_L2 _ (by decide), mulf_L2, mulf_L2, rowsum_L2, show Scalar.ofBits (F := Ideal) .f32 0x44800000#32 = _ from bits_1024,
    broadcast_L2 _ _ rfl, divf_L2 _ _ (by norm_num), bcast_col_L2 _ ha, bcast_col_L2 _ ha, mulf_L2, subf_L2, mulf_L2, addf_L2]
  rfl

/-- A block's contribution to the gradient of the gains, added to what is there. -/
theorem dg_block (s : ℕ → ℝ) (hs : (⟨2, ![1, 1024]⟩ : Shape).ShapeCasts ⟨2, ![1, 1024]⟩)
    (hr : (⟨2, ![a, 1024]⟩ : Shape).Reduces [0] ⟨1, ![1024]⟩) (hφ : FKind.Formats .f32)
    (hacc : 0x00000000#32 = FKind.add.neutral .f32 hφ) (hc : (⟨1, ![1024]⟩ : Shape).ShapeCasts ⟨2, ![1, 1024]⟩) :
    addf (shapeCast ⟨2, ![1, 1024]⟩ (L2 (fun _ c => s c) : FVec Ideal ⟨2, ![1, 1024]⟩ .f32) hs)
        (shapeCast ⟨2, ![1, 1024]⟩ (multiReduction (F := Ideal) .add [0] ⟨1, ![1024]⟩ (mulf (L2 h : FVec Ideal ⟨2, ![a, 1024]⟩ .f32)
          (L2 (scaled x))) 0x00000000#32 hr hφ hacc) hc)
      = L2 fun _ c => s c + ∑ r ∈ Finset.range a, dgAt h x r c := by
  rw [shapeCast_L2, mulf_L2, colsum_L2, addf_L2]
  rfl

end Block

end Cert.NormBwd
end
-- ==== Proof.Mm.UpBwd.lean ====
module

public import proofs.«01_k».proof.Defs
public import proofs.«01_k».proof.Proof.Mm.NormBwd
public import proofs.«01_k».proof.Proof.Sgu.Finite
public import proofs.«01_k».proof.Proof.Sgu.Arrays
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite_up_bwd
public import Idealize.ShloMosaic.Lib.Pipeline.ValueKit

/-! The gradient through the channel mixing's first product and the scaling before it: the call's three result arrays are
the reference's. -/

@[expose] public section
set_option maxRecDepth 16384
noncomputable section
namespace Cert.UpBwd
open Cert.Kernel2Ideal Cert.Kernel2Ideal.Gen Cert.Lift Cert.NormBwd Idealize.ShloMosaic Idealize.ShloMosaic.TcCoe Idealize.SL.Sem
open scoped BigOperators

variable (m : (ℓ : Loc nD τ sig) → Buf (Elt Ideal) ℓ) (c : Dev nD)
variable (d : ℕ → ℕ → ℝ) (w : ℕ → ℕ → ℕ → ℝ) (x : ℕ → ℕ → ℝ) (g : ℕ → ℝ) (e : ℕ → ℕ → ℝ)

theorem idx (t : Fin cfg0.N) : (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0)) t

theorem iblk0 (h : V m c main_arg0 = L2 (φ := .bf16) d) (t : Fin cfg0.N) : iblk m c 0 t = L2 (φ := .bf16) (rows t.val d) := by
  funext y
  show V m c main_arg0 ((win0_0.rect t).emb y) = _
  rw [h]
  unfold L2 rows
  rw [win0_0.rect_emb_val t y 0, win0_0.rect_emb_val_of_index_zero t 1 (idx t).1.2 y, (idx t).1.1, Nat.mul_comm]
  rfl

theorem iblk1 (h : V m c main_arg1 = L3 (φ := .bf16) w) (t : Fin cfg0.N) : iblk m c 1 t = L3 (φ := .bf16) w := by
  funext y
  show V m c main_arg1 ((win0_1.rect t).emb y) = _
  rw [h]
  unfold L3
  rw [win0_1.rect_emb_val_of_index_zero t 0 rfl y, win0_1.rect_emb_val_of_index_zero t 1 rfl y, win0_1.rect_emb_val_of_index_zero t 2 rfl y]

theorem iblk2 (h : V m c main_arg2 = L2 (φ := .f32) x) (t : Fin cfg0.N) : iblk m c 2 t = L2 (φ := .f32) (rows t.val x) := by
  funext y
  show V m c main_arg2 ((win0_2.rect t).emb y) = _
  rw [h]
  unfold L2 rows
  rw [win0_2.rect_emb_val t y 0, win0_2.rect_emb_val_of_index_zero t 1 (idx t).2.1.2 y, (idx t).2.1.1, Nat.mul_comm]
  rfl

theorem iblk3 (h : V m c main_v0 = L2 (φ := .f32) fun _ k => g k) (t : Fin cfg0.N) : iblk m c 3 t = L2 (φ := .f32) fun _ k => g k := by
  funext y
  show V m c main_v0 ((win0_3.rect t).emb y) = _
  rw [h]
  unfold L2
  rw [win0_3.rect_emb_val_of_index_zero t 1 rfl y]

theorem iblk4 (h : V m c main_arg4 = L2 (φ := .f32) e) (t : Fin cfg0.N) : iblk m c 4 t = L2 (φ := .f32) (rows t.val e) := by
  funext y
  show V m c main_arg4 ((win0_4.rect t).emb y) = _
  rw [h]
  unfold L2 rows
  rw [win0_4.rect_emb_val t y 0, win0_4.rect_emb_val_of_index_zero t 1 (idx t).2.2.1.2 y, (idx t).2.2.1.1, Nat.mul_comm]
  rfl

theorem V_main_v0 (h : m ((c : Thread nD τ).loc main_arg3) = Cert.SguRef.L1 (φ := .f32) g) : V m c main_v0 = L2 (φ := .f32) fun _ k => g k := by
  simp only [V, hostOps0, List.flatten_cons, List.flatten_nil, List.append_nil, List.cons_append, List.nil_append]
  after_results
  rw [show m (c, Proc.tc.devRef main_arg3) = Cert.SguRef.L1 (φ := .f32) g from h]
  funext i
  rfl

theorem pay3 : k0_pay3 (F := Ideal) (L2 (φ := .bf16) d) (L3 (φ := .bf16) w) = L2 (back 4096 d w) := by
  unfold k0_pay3
  refine (congrArg (fun p => FloatOps.matmul (F := Ideal) _ _ _ p _) (dropUnit_L3 w _)).trans ?_
  exact matmul_transposedRhs_L2 d (w 0) none _ rfl

theorem pay4 : k0_pay4 (F := Ideal) (L2 (φ := .f32) x) = L2 fun r _ => q x r := q_block (a := 512) x _ _ _ _

theorem pay5 : k0_pay5 (F := Ideal) (L2 (φ := .f32) x) = L2 (scaled x) := by
  unfold k0_pay5
  rw [pay4]
  exact scaled_block (a := 512) x (by decide) _

theorem pay6 : k0_pay6 (F := Ideal) (L2 (φ := .bf16) d) (L3 (φ := .bf16) w) (L2 (φ := .f32) x) (L2 (φ := .f32) fun _ k => g k) (L2 (φ := .f32) e)
    = L2 (dx (back 4096 d w) x g e) := by
  unfold k0_pay6
  rw [pay3, pay4, pay5]
  exact dx_block (a := 512) (back 4096 d w) x g e (by decide) _ _ _ _ _ _ _

theorem pay7 : k0_pay7 (F := Ideal) (L2 (φ := .bf16) d) (L3 (φ := .bf16) w) (L2 (φ := .f32) x) (L2 (φ := .f32) fun _ k => g k) (L2 (φ := .f32) e)
    = L2 (φ := .bf16) (dx (back 4096 d w) x g e) := by
  unfold k0_pay7
  rw [pay6]
  rfl

theorem pay1 (s : ℕ → ℝ) : k0_pay1 (F := Ideal) (k0_pay3 (F := Ideal) (L2 (φ := .bf16) d) (L3 (φ := .bf16) w)) (k0_pay5 (F := Ideal) (L2 (φ := .f32) x))
    (L2 (φ := .f32) fun _ k => s k) = L2 (φ := .f32) fun _ k => s k + ∑ r ∈ Finset.range 512, dgAt (back 4096 d w) x r k := by
  rw [pay3, pay5]
  exact dg_block (a := 512) (back 4096 d w) x s _ _ _ _ _

theorem pay2 : k0_pay2 (F := Ideal) = L2 (φ := .f32) fun _ _ => 0 := broadcast_L2 _ _ Cert.SguRef.bits_zero

section Run
variable (h0 : V m c main_arg0 = L2 (φ := .bf16) d) (h1 : V m c main_arg1 = L3 (φ := .bf16) w) (h2 : V m c main_arg2 = L2 (φ := .f32) x)
  (h3 : V m c main_v0 = L2 (φ := .f32) fun _ k => g k) (h4 : V m c main_arg4 = L2 (φ := .f32) e)
include h0 h1 h2 h3 h4

/-- What a point writes of the rows' gradient, in both formats. -/
theorem point (t : Fin cfg0.N) : (outsAt0 m c t.val t.isLt).1 = L2 (φ := .f32) (rows t.val (dx (back 4096 d w) x g e))
    ∧ (outsAt0 m c t.val t.isLt).2.1 = L2 (φ := .bf16) (rows t.val (dx (back 4096 d w) x g e)) := by
  have e6 := pay6 (rows t.val d) w (rows t.val x) g (rows t.val e)
  have e7 := pay7 (rows t.val d) w (rows t.val x) g (rows t.val e)
  rw [← iblk0 m c d h0 t, ← iblk1 m c w h1 t, ← iblk2 m c x h2 t, ← iblk3 m c g h3 t, ← iblk4 m c e h4 t] at e6 e7
  by_cases z : t.val % 16 = 0
  · rw [outsAt0_A m c t z]
    constructor
    · frame_out
      exact e6
    · frame_out
      exact e7
  · rw [outsAt0_B m c t z]
    constructor
    · frame_out
      exact e6
    · frame_out
      exact e7

/-- The gradient of the gains after point `i`. -/
theorem acc : ∀ (i : ℕ) (h : i < cfg0.N), (outsAt0 m c i h).2.2
    = (L2 (φ := .f32) fun _ k => ∑ s ∈ Finset.range (i + 1), ∑ r ∈ Finset.range 512, dgAt (back 4096 d w) x (512 * s + r) k)
  | 0, h => by
    rw [outsAt0_A m c ⟨0, h⟩ rfl]
    frame_out
    rw [iblk0 m c d h0, iblk1 m c w h1, iblk2 m c x h2, pay2, pay1]
    simp only [zero_add, Finset.sum_range_one]
    rfl
  | i + 1, h => by
    have hN : cfg0.N = 16 := N_0
    refine (congrArg (fun p => p.2.2) (outsAt0_B m c ⟨i + 1, h⟩ (by dsimp only; omega))).trans ?_
    frame_out
    refine (congrArg (k0_pay1 (F := Ideal) _ _) (acc i (Nat.lt_of_succ_lt h))).trans ?_
    rw [iblk0 m c d h0, iblk1 m c w h1, iblk2 m c x h2, pay1]
    exact congrArg _ (funext fun r => funext fun k => (Finset.sum_range_succ _ (i + 1)).symm)

end Run

theorem last_lt : 15 < cfg0.N := by rw [show cfg0.N = 16 from N_0]; decide

theorem point_lt (i : ℕ) (h : i < 8192) : i / 512 < cfg0.N := by
  have hN : cfg0.N = 16 := N_0
  omega

theorem cover5 (i : S8192x1024.Idx) : ∃ t : Fin cfg0.N, (cfg0.win 5).flush t = true ∧ i ∈ ((cfg0.win 5).blk t).view.set := by
  have hi1 : (i 1 : Nat) < 1024 := (i 1).isLt
  refine ⟨⟨(i 0 : Nat) / 512, point_lt _ (i 0).isLt⟩, flush0_5 _, ?_⟩
  refine (View.set_slice_whole main_v1_0 (win0_5.rect ⟨(i 0 : Nat) / 512, point_lt _ (i 0).isLt⟩)) ▸ ?_
  rw [Rect.mem_set_unit]
  intro a
  match a with
  | ⟨0, _⟩ =>
    show win0_5.index _ 0 * 512 ≤ (i 0 : Nat) ∧ (i 0 : Nat) < win0_5.index _ 0 * 512 + 512
    rw [(idx _).2.2.2.1.1]; dsimp only; omega
  | ⟨1, _⟩ =>
    show win0_5.index _ 1 * 1024 ≤ (i 1 : Nat) ∧ (i 1 : Nat) < win0_5.index _ 1 * 1024 + 1024
    rw [(idx _).2.2.2.1.2]; omega

theorem cover6 (i : S8192x1024.Idx) : ∃ t : Fin cfg0.N, (cfg0.win 6).flush t = true ∧ i ∈ ((cfg0.win 6).blk t).view.set := by
  have hi1 : (i 1 : Nat) < 1024 := (i 1).isLt
  refine ⟨⟨(i 0 : Nat) / 512, point_lt _ (i 0).isLt⟩, flush0_6 _, ?_⟩
  refine (View.set_slice_whole main_v1_1 (win0_6.rect ⟨(i 0 : Nat) / 512, point_lt _ (i 0).isLt⟩)) ▸ ?_
  rw [Rect.mem_set_unit]
  intro a
  match a with
  | ⟨0, _⟩ =>
    show win0_6.index _ 0 * 512 ≤ (i 0 : Nat) ∧ (i 0 : Nat) < win0_6.index _ 0 * 512 + 512
    rw [(idx _).2.2.2.2.1]; dsimp only; omega
  | ⟨1, _⟩ =>
    show win0_6.index _ 1 * 1024 ≤ (i 1 : Nat) ∧ (i 1 : Nat) < win0_6.index _ 1 * 1024 + 1024
    rw [(idx _).2.2.2.2.2]; omega

/-- The third result's one block is its whole array. -/
theorem cut7 (X : Vec Ideal S1x1024 .f32) (t : Fin cfg0.N) :
    (cfg0.win 7).cut (grid0.coords t) X = ((cfg0.win 7).blk t).view.read (Elt Ideal) X := by
  funext y
  show X y = X ((win0_7.rect t).emb y)
  refine congrArg X (funext fun a => Fin.ext ?_)
  exact (win0_7.rect_emb_val_of_index_zero t a (by fin_cases a <;> rfl) y).symm

theorem cover7 (i : S1x1024.Idx) : ∃ t : Fin cfg0.N, (cfg0.win 7).flush t = true ∧ i ∈ ((cfg0.win 7).blk t).view.set := by
  refine ⟨⟨15, last_lt⟩, (flush0_7 _).mpr rfl, ?_⟩
  refine (View.set_slice_whole main_v1_2 (win0_7.rect ⟨15, last_lt⟩)) ▸ ?_
  rw [Rect.mem_set_unit]
  intro a
  match a with
  | ⟨0, _⟩ => exact ⟨Nat.zero_le _, (i 0).isLt⟩
  | ⟨1, _⟩ => exact ⟨Nat.zero_le _, (i 1).isLt⟩

section Arrays
variable (h0 : V m c main_arg0 = L2 (φ := .bf16) d) (h1 : V m c main_arg1 = L3 (φ := .bf16) w) (h2 : V m c main_arg2 = L2 (φ := .f32) x)
  (h3 : V m c main_v0 = L2 (φ := .f32) fun _ k => g k) (h4 : V m c main_arg4 = L2 (φ := .f32) e)
include h0 h1 h2 h3 h4

theorem arr5 : (dats m 0 c).arrAt 5 cfg0.N = L2 (φ := .f32) (dx (back 4096 d w) x g e) := by
  funext j
  refine (dats m 0 c).arrAt_forall_of_cover 5 (fun i v => v = L2 (φ := .f32) (dx (back 4096 d w) x g e) i) (fun t _ y => ?_) cover5 j
  rw [Value.flushed5, (point m c d w x g e h0 h1 h2 h3 h4 t).1]
  show ((rows t.val (dx (back 4096 d w) x g e) (y 0).val (y 1).val : ℝ) : EReal) = L2 (φ := .f32) (dx (back 4096 d w) x g e) ((win0_5.rect t).emb y)
  unfold L2 rows
  rw [win0_5.rect_emb_val t y 0, win0_5.rect_emb_val_of_index_zero t 1 (idx t).2.2.2.1.2 y, (idx t).2.2.2.1.1, Nat.mul_comm]
  rfl

theorem arr6 : (dats m 0 c).arrAt 6 cfg0.N = L2 (φ := .bf16) (dx (back 4096 d w) x g e) := by
  funext j
  refine (dats m 0 c).arrAt_forall_of_cover 6 (fun i v => v = L2 (φ := .bf16) (dx (back 4096 d w) x g e) i) (fun t _ y => ?_) cover6 j
  rw [Value.flushed6, (point m c d w x g e h0 h1 h2 h3 h4 t).2]
  show ((rows t.val (dx (back 4096 d w) x g e) (y 0).val (y 1).val : ℝ) : EReal) = L2 (φ := .bf16) (dx (back 4096 d w) x g e) ((win0_6.rect t).emb y)
  unfold L2 rows
  rw [win0_6.rect_emb_val t y 0, win0_6.rect_emb_val_of_index_zero t 1 (idx t).2.2.2.2.2 y, (idx t).2.2.2.2.1, Nat.mul_comm]
  rfl

theorem arr7 : (dats m 0 c).arrAt 7 cfg0.N = L2 (φ := .f32) fun _ k => ∑ r ∈ Finset.range 8192, dgAt (back 4096 d w) x r k := by
  have e := acc m c d w x g e h0 h1 h2 h3 h4 15 last_lt
  have e' : (fun (_ k : ℕ) => ∑ s ∈ Finset.range (15 + 1), ∑ r ∈ Finset.range 512, dgAt (back 4096 d w) x (512 * s + r) k)
      = fun _ k => ∑ r ∈ Finset.range 8192, dgAt (back 4096 d w) x r k :=
    funext fun _ => funext fun k => Cert.Sgu.sum_blocks 512 (fun r => dgAt (back 4096 d w) x r k) 16
  rw [e'] at e
  refine (dats m 0 c).arrAt_eq_of_cover 7 _ (fun t hf => ?_) cover7
  have hN : cfg0.N = 16 := N_0
  obtain rfl : t = ⟨15, last_lt⟩ := Fin.ext (by have := (flush0_7 t).mp hf; have := t.isLt; dsimp only; omega)
  rw [Value.flushed7, e]
  exact cut7 _ _

end Arrays

/-! The reference. -/

open Cert.Reference2Ideal.Read
open Cert.SguRef (L1 fm fa fd fr bits_zero bits_1024 bits_eps bits_neg_half)

theorem s8 (i : Cert.Reference2Ideal.S8192x1.Idx) : val_main_v8 (F := Ideal) (L2 (φ := .f32) x) i = ((mean x (i 0).val : ℝ) : EReal) := by
  simp only [val_main_v8_apply, val_main_v7_apply, val_main_v6_apply, val_main_v5_apply, val_main_v4_apply, val_main_v3_apply, val_main_v2_apply, L2,
    val_main_cst_apply, val_main_cst_0_apply, val_main_cst_1_apply, Ideal.ofBits_def, bits_zero, bits_1024, bits_eps, fm]
  rw [← coe_sum_range 1024 fun k => x (i 0).val k * x (i 0).val k, ← EReal.coe_add, fd _ _ (by norm_num), fa, zero_add]
  rfl

theorem s9 (i : Cert.Reference2Ideal.S8192x1.Idx) : val_main_v9 (F := Ideal) (L2 (φ := .f32) x) i = ((q x (i 0).val : ℝ) : EReal) := by
  rw [val_main_v9_apply, s8, fr _ (mean_pos x _)]
  rfl

theorem s12 (i : Cert.Reference2Ideal.S8192x1.Idx) : val_main_v12 (F := Ideal) (L2 (φ := .f32) x) i
    = ((-(1 / 2) * (q x (i 0).val / mean x (i 0).val) : ℝ) : EReal) := by
  rw [val_main_v12_apply, val_main_v11_apply, val_main_v10_apply, val_main_cst_2_apply, s9, s8, Ideal.ofBits_def, bits_neg_half,
    fd _ _ (mean_pos x _).ne', fm]

theorem s20 : val_main_v20 (F := Ideal) (L2 (φ := .bf16) d) (L3 (φ := .bf16) w) = L2 (φ := .f32) (back 4096 d w) := by
  funext i
  rw [val_main_v20_apply]
  refine Eq.trans ?_ (coe_sum_range 4096 fun k => d (i 0).val k * w 0 (i 1).val k).symm
  refine Finset.sum_congr rfl fun k _ => ?_
  rw [EReal.coe_mul, val_main_v19_apply, val_main_v1_apply]
  refine congrArg (fun z => ((d (i 0).val k.val : ℝ) : EReal) * z) ?_
  show val_main_v0 (F := Ideal) (L3 (φ := .bf16) w) _ = _
  unfold val_main_v0
  rw [show shapeCast _ (L3 (φ := .bf16) w) _ = L2 (φ := .bf16) (w 0) from dropUnit_L3 w _]
  rfl

theorem s25 (i : Cert.Reference2Ideal.S8192x1024.Idx) : val_main_v25 (F := Ideal) (L2 (φ := .bf16) d) (L3 (φ := .bf16) w) (L1 (φ := .f32) g) i
    = ((back 4096 d w (i 0).val (i 1).val * g (i 1).val : ℝ) : EReal) := by
  rw [val_main_v25_apply, s20, val_main_v24_apply, val_main_v15_apply]
  exact fm _ _

theorem s28 (i : Cert.Reference2Ideal.S8192.Idx) : val_main_v28 (F := Ideal) (L2 (φ := .bf16) d) (L3 (φ := .bf16) w) (L2 (φ := .f32) x) (L1 (φ := .f32) g) i
    = ((∑ k ∈ Finset.range 1024, x (i 0).val k * (back 4096 d w (i 0).val k * g k) : ℝ) : EReal) := by
  rw [val_main_v28_apply, val_main_cst_5_apply, Ideal.ofBits_def, Ideal.ofBits_zero_f32, zero_add, coe_sum_range]
  refine Finset.sum_congr rfl fun k _ => ?_
  rw [val_main_v27_apply, s25]
  exact fm _ _

theorem s35 (i : Cert.Reference2Ideal.S8192x1.Idx) : val_main_v35 (F := Ideal) (L2 (φ := .bf16) d) (L3 (φ := .bf16) w) (L2 (φ := .f32) x) (L1 (φ := .f32) g) i
    = (((∑ k ∈ Finset.range 1024, x (i 0).val k * (back 4096 d w (i 0).val k * g k)) * (-(1 / 2) * (q x (i 0).val / mean x (i 0).val)) / 1024 : ℝ) : EReal) := by
  have hi : (idx_main_v29 i 0).val = (i 0).val := by
    have h1 : (i 1).val < 1 := (i 1).isLt
    show (i 0).val * 1 + (i 1).val = (i 0).val
    omega
  rw [val_main_v35_apply, val_main_v34_apply, val_main_v33_apply, val_main_v29_apply, s28, s12, val_main_cst_6_apply, Ideal.ofBits_def, bits_1024, hi, fm,
    fd _ _ (by norm_num)]

theorem s36 (i : Cert.Reference2Ideal.S8192.Idx) : val_main_v36 (F := Ideal) (L2 (φ := .bf16) d) (L3 (φ := .bf16) w) (L2 (φ := .f32) x) (L1 (φ := .f32) g) i
    = (((∑ k ∈ Finset.range 1024, x (i 0).val k * (back 4096 d w (i 0).val k * g k)) * (-(1 / 2) * (q x (i 0).val / mean x (i 0).val)) / 1024 : ℝ) : EReal) := by
  rw [val_main_v36_apply, Finset.univ_unique, Finset.sum_singleton, val_main_cst_7_apply, Ideal.ofBits_def, Ideal.ofBits_zero_f32, zero_add, s35]

theorem s41 : val_main_v41 (F := Ideal) (L2 (φ := .bf16) d) (L3 (φ := .bf16) w) (L2 (φ := .f32) x) (L1 (φ := .f32) g) (L2 (φ := .f32) e)
    = L2 (φ := .f32) (dx (back 4096 d w) x g e) := by
  funext i
  rw [val_main_v41_apply, val_main_v40_apply, val_main_v39_apply, val_main_v38_apply, val_main_v37_apply, s36, val_main_v32_apply, val_main_v31_apply,
    val_main_v30_apply, s25, s9]
  show _ = ((dx (back 4096 d w) x g e (i 0).val (i 1).val : ℝ) : EReal)
  rw [← dx_chain, ← fa, ← fa, ← fa, ← fm, ← fm, ← fm]
  rfl

theorem s42 : val_main_v42 (F := Ideal) (L2 (φ := .bf16) d) (L3 (φ := .bf16) w) (L2 (φ := .f32) x) (L1 (φ := .f32) g) (L2 (φ := .f32) e)
    = L2 (φ := .bf16) (dx (back 4096 d w) x g e) := by
  unfold val_main_v42
  rw [s41]
  rfl

theorem s43 : val_main_v43 (F := Ideal) (L2 (φ := .bf16) d) (L3 (φ := .bf16) w) (L2 (φ := .f32) x)
    = L2 (φ := .f32) fun _ k => ∑ r ∈ Finset.range 8192, dgAt (back 4096 d w) x r k := by
  funext i
  have hx : ∀ (r : Fin 8192) (k : Fin 1024), val_main_v21 (F := Ideal) (L2 (φ := .bf16) d) (L3 (φ := .bf16) w) (L2 (φ := .f32) x) (ValueIdx.ix2 r k)
      = ((dgAt (back 4096 d w) x r.val k.val : ℝ) : EReal) := fun r k => by
    rw [val_main_v21_apply, val_main_v14_apply, val_main_v13_apply, s9, s20]
    unfold dgAt scaled
    rw [mul_comm, ← fm, ← fm]
    rfl
  have hsum := coe_sum_range 8192 fun r => dgAt (back 4096 d w) x r (i 1).val
  simp only [val_main_v43_apply, val_main_v26_apply, val_main_v23_apply, val_main_v22_apply, Finset.univ_unique, Finset.sum_singleton,
    val_main_cst_3_apply, val_main_cst_4_apply, Ideal.ofBits_def, Ideal.ofBits_zero_f32, zero_add]
  refine Eq.trans (Finset.sum_congr rfl fun r _ => ?_) hsum.symm
  refine Eq.trans (congrArg _ ?_) (hx r (i 1))
  funext a
  match a with
  | ⟨0, _⟩ => rfl
  | ⟨1, _⟩ =>
    refine Fin.ext ?_
    show 0 * 1024 + (i 1).val = (i 1).val
    omega

/-- When the arguments' entries are reals, each result array of the call is the reference's at the same arguments. -/
theorem values [hF : Cert.Pre_finite_up_bwd.Facts] (h : Cert.Pre_Kernel2Ideal_finite_up_bwd m) :
    (dats m 0 c).arrAt 5 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 6 cfg0.N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 7 cfg0.N = val_main_v43 (F := Ideal) (m ((c : Thread nD τ).loc main_arg0)) (m ((c : Thread nD τ).loc main_arg1)) (m ((c : Thread nD τ).loc main_arg2)) := by
  have hs : Subsingleton (Cert.Pre_finite_up_bwd.S_).Idx := ⟨fun a b => funext fun k => k.elim0⟩
  obtain ⟨t0, t1, t2, t3, t4⟩ := h c
  simp only [Cert.Pre_finite_up_bwd.fn, Cert.Pre_finite_up_bwd.fn_part1] at t0 t1 t2 t3 t4
  obtain ⟨d, e0⟩ := Cert.Finite.exists_L2 _ (Cert.Finite.real_of_test hs _ _ _ _ _ t0)
  obtain ⟨w, e1⟩ := Cert.Finite.exists_L3 _ (Cert.Finite.real_of_test hs _ _ _ _ _ t1)
  obtain ⟨x, e2⟩ := Cert.Finite.exists_L2 (m ((c : Thread nD τ).loc main_arg2)) (Cert.Finite.real_of_test hs _ _ _ _ _ t2)
  obtain ⟨g, e3⟩ := Cert.Finite.exists_L1 (m ((c : Thread nD τ).loc main_arg3)) (Cert.Finite.real_of_test hs _ _ _ _ _ t3)
  obtain ⟨e, e4⟩ := Cert.Finite.exists_L2 (m ((c : Thread nD τ).loc main_arg4)) (Cert.Finite.real_of_test hs _ _ _ _ _ t4)
  replace e0 : m ((c : Thread nD τ).loc main_arg0) = L2 (φ := .bf16) d := e0
  replace e1 : m ((c : Thread nD τ).loc main_arg1) = L3 (φ := .bf16) w := e1
  replace e3 : m ((c : Thread nD τ).loc main_arg3) = L1 (φ := .f32) g := e3
  have h0 := (V_main_arg0 m c).trans e0
  have h1 := (V_main_arg1 m c).trans e1
  have h2 := (V_main_arg2 m c).trans e2
  have h3 := V_main_v0 m c g e3
  have h4 := (V_main_arg4 m c).trans e4
  rw [e0, e1, e2, e3, e4]
  exact ⟨(arr5 m c d w x g e h0 h1 h2 h3 h4).trans (s41 d w x g e).symm, (arr6 m c d w x g e h0 h1 h2 h3 h4).trans (s42 d w x g e).symm,
    (arr7 m c d w x g e h0 h1 h2 h3 h4).trans (s43 d w x).symm⟩

/-- The call and the reference, run from arguments whose entries are finite, end with the same three arrays. -/
theorem algebraic : Cert.algebraic_Kernel2Ideal_Reference2Ideal_pre_finite_up_bwd
    (hKernel2Ideal := Cert.Kernel2Ideal.Gen.facts) (hReference2Ideal := Cert.Reference2Ideal.Gen.facts) (hPre_finite_up_bwd := Cert.Pre_finite_up_bwd.Gen.facts) := by
  intro m g m' g' hp ha
  refine ⟨fun c => (dats m 0 c).arrAt 5 cfg0.N, fun c => (dats m 0 c).arrAt 6 cfg0.N, fun c => (dats m 0 c).arrAt 7 cfg0.N,
    Cert.Kernel2Ideal.Value.run_blocks m g,
    (θ_run Cert.Reference2Ideal.defs _ _).mono (fun r h c => ?_) (Cert.Reference2Ideal.Value.run m' g')⟩
  obtain ⟨r0, r1, r2, k⟩ := h c
  obtain ⟨a0, a1, a2, a3, a4⟩ := ha c
  obtain ⟨v0, v1, v2⟩ := values (hF := Cert.Pre_finite_up_bwd.Gen.facts) m c hp
  refine ⟨?_, ?_, ?_, k⟩
  · refine (r0.trans (Cert.Reference2Ideal.Read.val_main_v41_eq _ _)).trans ?_
    rw [a0, a1, a2, a3, a4]
    exact v0.symm
  · refine (r1.trans (Cert.Reference2Ideal.Read.val_main_v42_eq _ _)).trans ?_
    rw [a0, a1, a2, a3, a4]
    exact v1.symm
  · refine (r2.trans (Cert.Reference2Ideal.Read.val_main_v43_eq _ _ _)).trans ?_
    rw [a0, a1, a2]
    exact v2.symm

end Cert.UpBwd
end
-- ==== Proof.Mm.Ext.lean ====
module

public import Idealize.ShloMosaic.Lib.Pipeline.Value
public import Idealize.ShloMosaic.Lib.ValueIdx
public import Idealize.ShloMosaic.Lib.MatmulPlain
public import Idealize.ShloMosaic.Lib.IdealHost

/-! Arrays at the ideal values, given by a function of the coordinates, and what each operation of the products does to
that function. No entry is asked to be finite. -/

@[expose] public section

noncomputable section

namespace Cert.Ext

open Idealize.ShloMosaic Idealize.ShloMosaic.ValueIdx
open scoped BigOperators

/-- The array of one axis whose entry at `r` is `f r`. -/
def E1 {a : ℕ} {φ : FTy} (f : ℕ → EReal) : FVec Ideal ⟨1, ![a]⟩ φ := fun j => f (j 0).val

/-- The array of two axes whose entry at `(r, c)` is `f r c`. -/
def E2 {a b : ℕ} {φ : FTy} (f : ℕ → ℕ → EReal) : FVec Ideal ⟨2, ![a, b]⟩ φ := fun j => f (j 0).val (j 1).val

/-- The array of three axes whose entry at `(p, r, c)` is `f p r c`. -/
def E3 {a b d : ℕ} {φ : FTy} (f : ℕ → ℕ → ℕ → EReal) : FVec Ideal ⟨3, ![a, b, d]⟩ φ :=
  fun j => f (j 0).val (j 1).val (j 2).val

theorem exists_E1 {a : ℕ} {φ : FTy} (X : FVec Ideal ⟨1, ![a]⟩ φ) : ∃ f : ℕ → EReal, X = E1 f := by
  refine ⟨fun r => if h : r < a then X (ix1 ⟨r, h⟩) else 0, funext fun j => ?_⟩
  unfold E1
  dsimp only
  rw [dif_pos (show (j 0).val < a from (j 0).isLt)]
  exact congrArg X (funext fun x => by match x with | ⟨0, _⟩ => rfl)

theorem exists_E2 {a b : ℕ} {φ : FTy} (X : FVec Ideal ⟨2, ![a, b]⟩ φ) : ∃ f : ℕ → ℕ → EReal, X = E2 f := by
  refine ⟨fun r c => if h : r < a ∧ c < b then X (ix2 ⟨r, h.1⟩ ⟨c, h.2⟩) else 0, funext fun j => ?_⟩
  unfold E2
  dsimp only
  rw [dif_pos (show (j 0).val < a ∧ (j 1).val < b from ⟨(j 0).isLt, (j 1).isLt⟩)]
  exact congrArg X (eq_ix2 j)

theorem exists_E3 {a b d : ℕ} {φ : FTy} (X : FVec Ideal ⟨3, ![a, b, d]⟩ φ) : ∃ f : ℕ → ℕ → ℕ → EReal, X = E3 f := by
  refine ⟨fun p r c => if h : p < a ∧ r < b ∧ c < d then X (ix3 ⟨p, h.1⟩ ⟨r, h.2.1⟩ ⟨c, h.2.2⟩) else 0, funext fun j => ?_⟩
  unfold E3
  dsimp only
  rw [dif_pos (show (j 0).val < a ∧ (j 1).val < b ∧ (j 2).val < d from ⟨(j 0).isLt, (j 1).isLt, (j 2).isLt⟩)]
  exact congrArg X (eq_ix3 j)

/-- A sum over `Fin n` is the sum over the first `n` naturals. -/
theorem fin_range (n : ℕ) (f : ℕ → EReal) : ∑ i : Fin n, f i.val = ∑ i ∈ Finset.range n, f i := (Finset.sum_range f).symm

/-- The rows of block `n`, of `s` rows each. -/
def rows (s n : ℕ) (f : ℕ → ℕ → EReal) : ℕ → ℕ → EReal := fun r c => f (s * n + r) c

variable {a b k : ℕ} {φ ψ : FTy}

theorem mulf_E2 (f g : ℕ → ℕ → EReal) : mulf (E2 f : FVec Ideal ⟨2, ![a, b]⟩ φ) (E2 g) = E2 fun r c => f r c * g r c := rfl
theorem addf_E2 (f g : ℕ → ℕ → EReal) : addf (E2 f : FVec Ideal ⟨2, ![a, b]⟩ φ) (E2 g) = E2 fun r c => f r c + g r c := rfl
theorem subf_E2 (f g : ℕ → ℕ → EReal) : subf (E2 f : FVec Ideal ⟨2, ![a, b]⟩ φ) (E2 g) = E2 fun r c => f r c - g r c := rfl
theorem divf_E2 (f g : ℕ → ℕ → EReal) : divf (E2 f : FVec Ideal ⟨2, ![a, b]⟩ φ) (E2 g) = E2 fun r c => Ideal.div (f r c) (g r c) := rfl
theorem rsqrt_E2 (f : ℕ → ℕ → EReal) : rsqrt (E2 f : FVec Ideal ⟨2, ![a, b]⟩ φ) = E2 fun r c => Ideal.rsqrt (f r c) := rfl
theorem maximumf_E2 (f g : ℕ → ℕ → EReal) : maximumf (E2 f : FVec Ideal ⟨2, ![a, b]⟩ φ) (E2 g) = E2 fun r c => max (f r c) (g r c) := rfl
theorem truncf_E2 (f : ℕ → ℕ → EReal) (h : ψ.bits < φ.bits) : truncf ψ (E2 f : FVec Ideal ⟨2, ![a, b]⟩ φ) h = E2 f := rfl
theorem extf_E2 (f : ℕ → ℕ → EReal) (h : φ.bits < ψ.bits) : extf ψ (E2 f : FVec Ideal ⟨2, ![a, b]⟩ φ) h = E2 f := rfl
theorem truncf_E3 {d : ℕ} (f : ℕ → ℕ → ℕ → EReal) (h : ψ.bits < φ.bits) : truncf ψ (E3 f : FVec Ideal ⟨3, ![a, b, d]⟩ φ) h = E3 f := rfl
theorem broadcast_E2 (x : EReal) : (broadcast ⟨2, ![a, b]⟩ x : FVec Ideal ⟨2, ![a, b]⟩ φ) = E2 fun _ _ => x := rfl

/-- A column repeated along the second axis. -/
theorem bcast_col_E2 (f : ℕ → ℕ → EReal) (ha : a ≠ 1) (h : (⟨2, ![a, 1]⟩ : Shape).Broadcasts ⟨2, ![a, b]⟩) :
    broadcastTo ⟨2, ![a, b]⟩ (E2 f : FVec Ideal ⟨2, ![a, 1]⟩ φ) h = E2 fun r _ => f r 0 := by
  funext j
  refine (broadcastTo_apply _ h j (ix2 (j 0) ⟨0, Nat.one_pos⟩) fun i => ?_).trans rfl
  match i with
  | ⟨0, _⟩ => show (j 0).val = if a = 1 then 0 else (j 0).val; rw [if_neg ha]
  | ⟨1, _⟩ => rfl

/-- A row repeated along the first axis. -/
theorem bcast_row_E2 (f : ℕ → ℕ → EReal) (hb : b ≠ 1) (h : (⟨2, ![1, b]⟩ : Shape).Broadcasts ⟨2, ![a, b]⟩) :
    broadcastTo ⟨2, ![a, b]⟩ (E2 f : FVec Ideal ⟨2, ![1, b]⟩ φ) h = E2 fun _ c => f 0 c := by
  funext j
  refine (broadcastTo_apply _ h j (ix2 ⟨0, Nat.one_pos⟩ (j 1)) fun i => ?_).trans rfl
  match i with
  | ⟨0, _⟩ => rfl
  | ⟨1, _⟩ => show (j 1).val = if b = 1 then 0 else (j 1).val; rw [if_neg hb]

/-- The sums along the second axis, as a column. -/
theorem rowsum_E2 (f : ℕ → ℕ → EReal) (acc : BitVec φ.bits) (h : (⟨2, ![a, b]⟩ : Shape).Reduces [1] ⟨1, ![a]⟩)
    (hφ : FKind.Formats φ) (hacc : acc = FKind.add.neutral φ hφ) (hc : (⟨1, ![a]⟩ : Shape).ShapeCasts ⟨2, ![a, 1]⟩) :
    shapeCast ⟨2, ![a, 1]⟩ (multiReduction .add [1] ⟨1, ![a]⟩ (E2 f : FVec Ideal ⟨2, ![a, b]⟩ φ) acc h hφ hacc) hc
      = E2 fun r _ => ∑ k ∈ Finset.range b, f r k := by
  funext j
  refine (shapeCast_apply _ hc j (ix1 (j 0)) ?_).trans ?_
  · rw [Shape.rowMajor_val_one, Shape.rowMajor_val_two]
    have h1 : (j 1).val < 1 := (j 1).isLt
    show (j 0).val = (j 0).val * 1 + (j 1).val
    omega
  · rw [Ideal.multiReduction_add_single]
    exact fin_range b fun k => f (j 0).val k

/-- A plain product into zero. -/
theorem mm_nn {n : ℕ} (f g : ℕ → ℕ → EReal) (prec : Option ContractPrecision)
    (D : DotDims ⟨2, ![a, k]⟩ ⟨2, ![k, n]⟩ ⟨2, ![a, n]⟩) (hD : D = DotDims.plain a k n) :
    FloatOps.matmul D prec (E2 f : FVec Ideal ⟨2, ![a, k]⟩ φ) (E2 g : FVec Ideal ⟨2, ![k, n]⟩ ψ)
        (constant ⟨2, ![a, n]⟩ .f32 0x00000000#32)
      = E2 fun r c => ∑ i ∈ Finset.range k, f r i * g i c := by
  subst hD
  funext j
  rw [eq_ix2 j]
  refine (Ideal.matmul_plain_apply prec _ _ _ (j 0) (j 1)).trans ?_
  show Ideal.ofBits .f32 0x00000000#32 + _ = _
  rw [Ideal.ofBits_zero_f32, zero_add]
  exact fin_range k fun i => f (j 0).val i * g i (j 1).val

/-- A product with the second array transposed, into zero. -/
theorem mm_nt {n : ℕ} (f g : ℕ → ℕ → EReal) (prec : Option ContractPrecision)
    (D : DotDims ⟨2, ![a, k]⟩ ⟨2, ![n, k]⟩ ⟨2, ![a, n]⟩) (hD : D = DotDims.transposedRhs a k n) :
    FloatOps.matmul D prec (E2 f : FVec Ideal ⟨2, ![a, k]⟩ φ) (E2 g : FVec Ideal ⟨2, ![n, k]⟩ ψ)
        (constant ⟨2, ![a, n]⟩ .f32 0x00000000#32)
      = E2 fun r c => ∑ i ∈ Finset.range k, f r i * g c i := by
  subst hD
  funext j
  rw [eq_ix2 j]
  refine (Ideal.matmul_transposedRhs_apply prec _ _ _ (j 0) (j 1)).trans ?_
  show Ideal.ofBits .f32 0x00000000#32 + _ = _
  rw [Ideal.ofBits_zero_f32, zero_add]
  exact fin_range k fun i => f (j 0).val i * g (j 1).val i

/-- A product with the first array transposed, into zero: both arrays are contracted along their first axis. -/
theorem mm_tn {n : ℕ} (f g : ℕ → ℕ → EReal) (prec : Option ContractPrecision)
    (D : DotDims ⟨2, ![k, a]⟩ ⟨2, ![k, n]⟩ ⟨2, ![a, n]⟩) (hr : D.contr.rank = 1) (hs : D.contr.size ⟨0, by omega⟩ = k)
    (l0 : ∀ i q, (D.lhsIdx i q 0).val = (q ⟨0, by omega⟩).val) (l1 : ∀ i q, (D.lhsIdx i q 1).val = (i 0).val)
    (r0 : ∀ i q, (D.rhsIdx i q 0).val = (q ⟨0, by omega⟩).val) (r1 : ∀ i q, (D.rhsIdx i q 1).val = (i 1).val) :
    FloatOps.matmul D prec (E2 f : FVec Ideal ⟨2, ![k, a]⟩ φ) (E2 g : FVec Ideal ⟨2, ![k, n]⟩ ψ)
        (constant ⟨2, ![a, n]⟩ .f32 0x00000000#32)
      = E2 fun r c => ∑ i ∈ Finset.range k, f i r * g i c := by
  funext j
  rw [Ideal.matmul_apply, ← Equiv.sum_comp (contrEquiv1 D k hr hs).symm]
  show Ideal.ofBits .f32 0x00000000#32 + _ = _
  rw [Ideal.ofBits_zero_f32, zero_add]
  refine Eq.trans (Finset.sum_congr rfl fun i _ => ?_) (fin_range k fun i => f i (j 0).val * g i (j 1).val)
  have hk := contrEquiv1_symm_val D k hr hs i
  unfold E2
  rw [l0, l1, r0, r1, hk]

/-- An array of two axes given a leading unit axis. -/
theorem addUnit_E2 {d : ℕ} (f : ℕ → ℕ → EReal) (hc : (⟨2, ![b, d]⟩ : Shape).ShapeCasts ⟨3, ![1, b, d]⟩) :
    shapeCast ⟨3, ![1, b, d]⟩ (E2 f : FVec Ideal ⟨2, ![b, d]⟩ φ) hc = E3 fun _ => f := by
  funext j
  refine (shapeCast_apply _ hc j (ix2 (j 1) (j 2)) ?_).trans rfl
  rw [Shape.rowMajor_val_three, Shape.rowMajor_val_two]
  have h0 : (j 0).val = 0 := by have : (j 0).val < 1 := (j 0).isLt; omega
  show (j 1).val * d + (j 2).val = ((j 0).val * b + (j 1).val) * d + (j 2).val
  rw [h0, Nat.zero_mul, Nat.zero_add]

/-- An array of three axes whose first is a unit axis, as one of two. -/
theorem dropUnit_E3 {d : ℕ} (f : ℕ → ℕ → ℕ → EReal) (hc : (⟨3, ![1, b, d]⟩ : Shape).ShapeCasts ⟨2, ![b, d]⟩) :
    shapeCast ⟨2, ![b, d]⟩ (E3 f : FVec Ideal ⟨3, ![1, b, d]⟩ φ) hc = E2 (f 0) := by
  funext j
  refine (shapeCast_apply _ hc j (ix3 ⟨0, Nat.one_pos⟩ (j 0) (j 1)) ?_).trans rfl
  rw [Shape.rowMajor_val_three, Shape.rowMajor_val_two]
  show (0 * b + (j 0).val) * d + (j 1).val = (j 0).val * d + (j 1).val
  rw [Nat.zero_mul, Nat.zero_add]

theorem shapeCast_E2 (x : FVec Ideal ⟨2, ![a, b]⟩ φ) (h : (⟨2, ![a, b]⟩ : Shape).ShapeCasts ⟨2, ![a, b]⟩) :
    shapeCast ⟨2, ![a, b]⟩ x h = x := shapeCast_self _ h

/-- The host's plain product. -/
theorem dot_nn {n : ℕ} (f g : ℕ → ℕ → EReal) (prec : Option ContractPrecision)
    (D : DotDims ⟨2, ![a, k]⟩ ⟨2, ![k, n]⟩ ⟨2, ![a, n]⟩) (hD : D = DotDims.plain a k n) :
    Host.dotGeneral D prec (E2 f : FVec Ideal ⟨2, ![a, k]⟩ φ) (E2 g : FVec Ideal ⟨2, ![k, n]⟩ φ)
      = (E2 fun r c => ∑ i ∈ Finset.range k, f r i * g i c : FVec Ideal ⟨2, ![a, n]⟩ .f32) := by
  rw [← mm_nn f g prec D hD]
  funext j
  simp only [Host.dotGeneral]
  rw [Ideal.dotGeneral_apply, Ideal.matmul_apply]
  show _ = Ideal.ofBits .f32 0x00000000#32 + _
  rw [Ideal.ofBits_zero_f32, zero_add]
  rfl

/-- The host's product with the second array transposed. -/
theorem dot_nt {n : ℕ} (f g : ℕ → ℕ → EReal) (prec : Option ContractPrecision)
    (D : DotDims ⟨2, ![a, k]⟩ ⟨2, ![n, k]⟩ ⟨2, ![a, n]⟩) (hD : D = DotDims.transposedRhs a k n) :
    Host.dotGeneral D prec (E2 f : FVec Ideal ⟨2, ![a, k]⟩ φ) (E2 g : FVec Ideal ⟨2, ![n, k]⟩ φ)
      = (E2 fun r c => ∑ i ∈ Finset.range k, f r i * g c i : FVec Ideal ⟨2, ![a, n]⟩ .f32) := by
  rw [← mm_nt f g prec D hD]
  funext j
  simp only [Host.dotGeneral]
  rw [Ideal.dotGeneral_apply, Ideal.matmul_apply]
  show _ = Ideal.ofBits .f32 0x00000000#32 + _
  rw [Ideal.ofBits_zero_f32, zero_add]
  rfl

/-- Keeping `p * (v * max x 0)` only where `x` is positive changes nothing: elsewhere the second factor is zero. -/
theorem keep_positive (p v x : EReal) :
    Scalar.select (Ideal.cmp .ogt x (Ideal.ofBits .f32 0x00000000#32)) (p * (v * max x (Ideal.ofBits .f32 0x00000000#32)))
        (Ideal.ofBits .f32 0x00000000#32)
      = p * (v * max x (Ideal.ofBits .f32 0x00000000#32)) := by
  rw [Ideal.ofBits_zero_f32]
  by_cases hx : 0 < x
  · simp [Scalar.select, Ideal.cmp, hx]
  · simp [Scalar.select, Ideal.cmp, hx, max_eq_right (not_lt.mp hx)]

end Cert.Ext
end
-- ==== Proof.Mm.DownBwd.lean ====
module

public import proofs.«01_k».proof.Defs
public import proofs.«01_k».proof.Proof.Mm.Ext
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit

/-! The gradient of the channel mixing's second product with respect to its pre-activations: the call's result array is
the reference's. -/

@[expose] public section
set_option maxRecDepth 16384
noncomputable section
namespace Cert.DownBwd
open Cert.Kernel3Ideal Cert.Kernel3Ideal.Gen Cert.Ext Idealize.ShloMosaic Idealize.ShloMosaic.TcCoe Idealize.SL.Sem
open scoped BigOperators

/-- The gradient of the pre-activations. -/
def dact (d : ℕ → ℕ → EReal) (w : ℕ → ℕ → ℕ → EReal) (x : ℕ → ℕ → EReal) (r c : ℕ) : EReal :=
  (∑ i ∈ Finset.range 1024, d r i * w 0 c i) * (Ideal.ofBits .f32 0x40000000#32 * max (x r c) (Ideal.ofBits .f32 0x00000000#32))

variable (m : (ℓ : Loc nD τ sig) → Buf (Elt Ideal) ℓ) (c : Dev nD)
variable (d : ℕ → ℕ → EReal) (w : ℕ → ℕ → ℕ → EReal) (x : ℕ → ℕ → EReal)

theorem idx (t : Fin cfg0.N) : (win0_0.index t 0 = t.val ∧ win0_0.index t 1 = 0) ∧ (win0_2.index t 0 = t.val ∧ win0_2.index t 1 = 0)
    ∧ (win0_3.index t 0 = t.val ∧ win0_3.index t 1 = 0) ∧ (win0_1.index t 0 = 0 ∧ win0_1.index t 1 = 0 ∧ win0_1.index t 2 = 0) :=
  (by decide +kernel : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_1.index t 0 = 0 ∧ win0_1.index t 1 = 0 ∧ win0_1.index t 2 = 0)) t

theorem iblk0 (e : V m c main_arg0 = E2 (φ := .bf16) d) (t : Fin cfg0.N) : iblk m c 0 t = E2 (φ := .bf16) (rows 256 t.val d) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk2 (e : V m c main_arg2 = E2 (φ := .bf16) x) (t : Fin cfg0.N) : iblk m c 2 t = E2 (φ := .bf16) (rows 256 t.val x) := by
  funext y
  show V m c main_arg2 ((win0_2.rect t).emb y) = _
  rw [e]
  unfold E2 rows
  rw [win0_2.rect_emb_val t y 0, win0_2.rect_emb_val_of_index_zero t 1 (idx t).2.1.2 y, (idx t).2.1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.2.1 y, win0_1.rect_emb_val_of_index_zero t 1 (idx t).2.2.2.2.1 y,
    win0_1.rect_emb_val_of_index_zero t 2 (idx t).2.2.2.2.2 y]

theorem prod_eq : FloatOps.matmul (F := Ideal) dot_S256x1024_S4096x1024_S256x4096_1_1_0_0_n_n none (E2 (φ := .bf16) d : FVec Ideal S256x1024 .bf16)
      (shapeCast S4096x1024 (E3 (φ := .bf16) w : FVec Ideal S1x4096x1024 .bf16) shapeCasts_S1x4096x1024_S4096x1024) (constant S256x4096 .f32 0x00000000#32)
    = E2 (φ := .f32) fun r c => ∑ i ∈ Finset.range 1024, d r i * w 0 c i := by
  refine (congrArg (fun x => FloatOps.matmul (F := Ideal) _ _ _ x _) (dropUnit_E3 w _)).trans ?_
  exact mm_nt d (w 0) none _ rfl

theorem out3 : out0_3 (F := Ideal) (E2 (φ := .bf16) d) (E3 (φ := .bf16) w) (E2 (φ := .bf16) x) = E2 (φ := .bf16) (dact d w x) := by
  unfold out0_3
  refine (View.canon_cons_unit_lit _ _ _ (by decide)).trans ?_
  rw [View.ld_unit_lit _ _ (by decide), View.ld_unit_lit _ _ (by decide), View.ld_unit_lit _ _ (by decide)]
  unfold k0_pay1
  refine (congrArg (fun p => truncf (F := Ideal) (φ := .f32) .bf16 (mulf p _) _) (prod_eq d w)).trans ?_
  rfl

theorem cover3 (i : S8192x4096.Idx) : ∃ t : Fin cfg0.N, (cfg0.win 3).flush t = true ∧ i ∈ ((cfg0.win 3).blk t).view.set := by
  have hN : cfg0.N = 32 := N_0
  have hi0 : (i 0 : Nat) < 8192 := (i 0).isLt
  have hi1 : (i 1 : Nat) < 4096 := (i 1).isLt
  have ht : (i 0 : Nat) / 256 < cfg0.N := by omega
  refine ⟨⟨(i 0 : Nat) / 256, ht⟩, flush0_3 _, ?_⟩
  refine (View.set_slice_whole main_v0 (win0_3.rect ⟨(i 0 : Nat) / 256, ht⟩)) ▸ ?_
  rw [Rect.mem_set_unit]
  intro a
  match a with
  | ⟨0, _⟩ =>
    show win0_3.index _ 0 * 256 ≤ (i 0 : Nat) ∧ (i 0 : Nat) < win0_3.index _ 0 * 256 + 256
    rw [(idx _).2.2.1.1]; dsimp only; omega
  | ⟨1, _⟩ =>
    show win0_3.index _ 1 * 4096 ≤ (i 1 : Nat) ∧ (i 1 : Nat) < win0_3.index _ 1 * 4096 + 4096
    rw [(idx _).2.2.1.2]; omega

theorem arr3 (e0 : V m c main_arg0 = E2 (φ := .bf16) d) (e1 : V m c main_arg1 = E3 (φ := .bf16) w) (e2 : V m c main_arg2 = E2 (φ := .bf16) x) :
    (dats m 0 c).arrAt 3 cfg0.N = E2 (φ := .bf16) (dact d w x) := by
  funext j
  refine (dats m 0 c).arrAt_forall_of_cover 3 (fun i v => v = E2 (φ := .bf16) (dact d w x) i) (fun t _ y => ?_) cover3 j
  rw [Value.flushed3, iblk0 m c d e0, iblk1 m c w e1, iblk2 m c x e2, out3]
  show dact (rows 256 t.val d) w (rows 256 t.val x) (y 0).val (y 1).val = E2 (φ := .bf16) (dact d w x) ((win0_3.rect t).emb y)
  unfold E2
  rw [win0_3.rect_emb_val t y 0, win0_3.rect_emb_val_of_index_zero t 1 (idx t).2.2.1.2 y, (idx t).2.2.1.1, Nat.mul_comm]
  rfl

/-! The reference. -/

open Cert.Reference3Ideal.Read

theorem ref12 : val_main_v12 (F := Ideal) (E2 (φ := .bf16) d) (E3 (φ := .bf16) w)
    = E2 (φ := .f32) fun r c => ∑ i ∈ Finset.range 1024, d r i * w 0 c i := by
  unfold val_main_v12 val_main_v11 val_main_v2 val_main_v1
  refine (congrArg (fun x => Host.dotGeneral (F := Ideal) _ none _ (extf .f32 x _)) (dropUnit_E3 w _)).trans ?_
  exact dot_nt d (w 0) none _ rfl

theorem ref16 : val_main_v16 (F := Ideal) (E2 (φ := .bf16) d) (E3 (φ := .bf16) w) (E2 (φ := .bf16) x) = E2 (φ := .bf16) (dact d w x) := by
  funext i
  rw [val_main_v16_apply, val_main_v15_apply, val_main_v5_apply, val_main_v13_apply, ref12]
  exact keep_positive _ _ _

/-- The call and the reference, run from the same arguments, end with the same array. -/
theorem algebraic : Cert.algebraic_Kernel3Ideal_Reference3Ideal
    (hKernel3Ideal := Cert.Kernel3Ideal.Gen.facts) (hReference3Ideal := Cert.Reference3Ideal.Gen.facts) := by
  intro m g m' g' hp ha
  refine ⟨fun c => (dats m 0 c).arrAt 3 cfg0.N, Cert.Kernel3Ideal.Value.run_blocks m g,
    (θ_run Cert.Reference3Ideal.defs _ _).mono (fun r hr c => ?_) (Cert.Reference3Ideal.Value.run m' g')⟩
  obtain ⟨r0, k⟩ := hr c
  obtain ⟨a0, a1, a2⟩ := ha c
  obtain ⟨d, e0⟩ := exists_E2 (m ((c : Thread nD τ).loc main_arg0))
  obtain ⟨w, e1⟩ := exists_E3 (m ((c : Thread nD τ).loc main_arg1))
  obtain ⟨x, e2⟩ := exists_E2 (m ((c : Thread nD τ).loc main_arg2))
  refine ⟨?_, k⟩
  refine (r0.trans (Cert.Reference3Ideal.Read.val_main_v16_eq _ _ _)).trans ?_
  rw [a0, a1, a2, e0, e1, e2]
  exact (ref16 d w x).trans (arr3 m c d w x ((V_main_arg0 m c).trans e0) ((V_main_arg1 m c).trans e1) ((V_main_arg2 m c).trans e2)).symm

end Cert.DownBwd
end
-- ==== Proof.Mm.Wgrad.lean ====
module

public import proofs.«01_k».proof.Proof.Mm.Ext

/-! The product of two arrays along their rows, gathered from blocks of rows: what the gradients of the weights share. -/

@[expose] public section
noncomputable section
namespace Cert.Wgrad
open Cert.Ext Idealize.ShloMosaic
open scoped BigOperators

variable (x y : ℕ → ℕ → EReal)

/-- The product along the first `n` rows. -/
def prod (n r c : ℕ) : EReal := ∑ i ∈ Finset.range n, x i r * y i c

/-- Block `(s, p)` of an array, of `k` rows and `d` columns. -/
def blk (k d s p : ℕ) (f : ℕ → ℕ → EReal) : ℕ → ℕ → EReal := fun r c => f (k * s + r) (d * p + c)

/-- The product along the first `k * s` rows, at the columns of one block of each array. -/
def part (k d e p q s r c : ℕ) : EReal := prod x y (k * s) (d * p + r) (e * q + c)

theorem part_one (k d e p q r c : ℕ) : ∑ i ∈ Finset.range k, blk k d 0 p x i r * blk k e 0 q y i c = part x y k d e p q 1 r c := by
  unfold part prod blk
  simp only [Nat.mul_one, Nat.mul_zero, Nat.zero_add]

theorem part_succ (k d e p q s r c : ℕ) :
    part x y k d e p q s r c + ∑ i ∈ Finset.range k, blk k d s p x i r * blk k e s q y i c = part x y k d e p q (s + 1) r c := by
  unfold part prod blk
  rw [Nat.mul_succ, Finset.sum_range_add]

/-- The gradient of a product's second factor: both factors' places exchanged. -/
theorem prod_comm (n r c : ℕ) : prod y x n c r = prod x y n r c := Finset.sum_congr rfl fun _ _ => mul_comm _ _

end Cert.Wgrad
end
-- ==== Proof.Mm.W2.lean ====
module

public import proofs.«01_k».proof.Defs
public import proofs.«01_k».proof.Proof.Mm.Wgrad
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit

/-! The gradient of the channel mixing's second weights: the call's two result arrays are the reference's. -/

@[expose] public section
set_option maxRecDepth 16384
noncomputable section
namespace Cert.W2
open Cert.Kernel4Ideal Cert.Kernel4Ideal.Gen Cert.Ext Cert.Wgrad Idealize.ShloMosaic Idealize.ShloMosaic.TcCoe Idealize.SL.Sem
open scoped BigOperators

variable (m : (ℓ : Loc nD τ sig) → Buf (Elt Ideal) ℓ) (c : Dev nD)
variable (f g : ℕ → ℕ → EReal) (h : ℕ → ℕ → ℕ → EReal)

theorem idx (t : Fin cfg0.N) : (win0_0.index t 0 = t.val % 4 ∧ win0_0.index t 1 = t.val / 4) ∧ (win0_1.index t 0 = t.val % 4 ∧ win0_1.index t 1 = 0)
    ∧ (win0_2.index t 0 = 0 ∧ win0_2.index t 1 = t.val / 4 ∧ win0_2.index t 2 = 0) ∧ (win0_3.index t 0 = 0 ∧ win0_3.index t 1 = t.val / 4 ∧ win0_3.index t 2 = 0) :=
  (by decide +kernel : ∀ t : Fin grid0.N, (win0_0.index t 0 = t.val % 4 ∧ win0_0.index t 1 = t.val / 4) ∧ (win0_1.index t 0 = t.val % 4 ∧ win0_1.index t 1 = 0)
    ∧ (win0_2.index t 0 = 0 ∧ win0_2.index t 1 = t.val / 4 ∧ win0_2.index t 2 = 0) ∧ (win0_3.index t 0 = 0 ∧ win0_3.index t 1 = t.val / 4 ∧ win0_3.index t 2 = 0)) t

theorem iblk0 (e : V m c main_arg0 = E2 (φ := .bf16) f) (t : Fin cfg0.N) :
    iblk m c 0 t = E2 (φ := .bf16) (blk 2048 1024 (t.val % 4) (t.val / 4) f) := by
  funext y
  show V m c main_arg0 ((win0_0.rect t).emb y) = _
  rw [e]
  unfold E2 blk
  rw [win0_0.rect_emb_val t y 0, win0_0.rect_emb_val t y 1, (idx t).1.1, (idx t).1.2, Nat.mul_comm, Nat.mul_comm (t.val / 4)]
  rfl

theorem iblk1 (e : V m c main_arg1 = E2 (φ := .bf16) g) (t : Fin cfg0.N) :
    iblk m c 1 t = E2 (φ := .bf16) (blk 2048 1024 (t.val % 4) 0 g) := by
  funext y
  show V m c main_arg1 ((win0_1.rect t).emb y) = _
  rw [e]
  unfold E2 blk
  rw [win0_1.rect_emb_val t y 0, win0_1.rect_emb_val t y 1, (idx t).2.1.1, (idx t).2.1.2, Nat.mul_comm, Nat.mul_comm 0]
  rfl

theorem pay1 : k0_pay1 (F := Ideal) (E2 (φ := .bf16) f) (E2 (φ := .bf16) g)
    = E2 fun r c => ∑ i ∈ Finset.range 2048, f i r * g i c :=
  mm_tn f g none dot_S2048x1024_S2048x1024_S1024x1024_0_0_1_1_n_n rfl rfl (fun _ _ => rfl) (fun _ _ => rfl) (fun _ _ => rfl) fun _ _ => rfl

theorem pay2 : k0_pay2 (F := Ideal) (E2 (φ := .bf16) f) (E2 (φ := .bf16) g)
    = E3 fun _ r c => ∑ i ∈ Finset.range 2048, f i r * g i c := by
  unfold k0_pay2
  rw [pay1]
  exact addUnit_E2 _ _

theorem pay3 : k0_pay3 (F := Ideal) (E2 (φ := .bf16) f) (E2 (φ := .bf16) g) (E3 (φ := .f32) h)
    = E3 fun _ r c => h 0 r c + ∑ i ∈ Finset.range 2048, f i r * g i c := by
  unfold k0_pay3
  rw [pay1]
  refine (congrArg (fun x => shapeCast _ (addf x _) _) (dropUnit_E3 h _)).trans ?_
  exact addUnit_E2 (fun r c => h 0 r c + ∑ i ∈ Finset.range 2048, f i r * g i c) _

theorem pay4 : k0_pay4 (F := Ideal) (E3 (φ := .f32) h) = E3 fun _ => h 0 := by
  unfold k0_pay4
  refine (congrArg (fun x => shapeCast _ (truncf .bf16 x _) _) (dropUnit_E3 h _)).trans ?_
  exact addUnit_E2 _ _

/-- What the first result's block holds after point `t`: the product along the rows met so far. -/
theorem acc (e0 : V m c main_arg0 = E2 (φ := .bf16) f) (e1 : V m c main_arg1 = E2 (φ := .bf16) g) :
    ∀ (i : ℕ) (hi : i < cfg0.N), (outsAt0 m c i hi).1 = E3 (φ := .f32) fun _ => part f g 2048 1024 1024 (i / 4) 0 (i % 4 + 1) := by
  have first : ∀ t : Fin cfg0.N, t.val % 4 = 0 →
      (outsAt0 m c t.val t.isLt).1 = E3 (φ := .f32) fun _ => part f g 2048 1024 1024 (t.val / 4) 0 (t.val % 4 + 1) := by
    intro t h0
    rw [outsAt0_A m c t h0 (by omega) (by omega)]
    frame_out
    rw [iblk0 m c f e0, iblk1 m c g e1, pay2, h0]
    exact congrArg _ (funext fun _ => funext fun r => funext fun c => part_one f g 2048 1024 1024 _ _ r c)
  intro i
  induction i with
  | zero => exact fun hi => first ⟨0, hi⟩ rfl
  | succ n ih =>
    intro hi
    by_cases h0 : (n + 1) % 4 = 0
    · exact first ⟨n + 1, hi⟩ h0
    have hd : (n + 1) / 4 = n / 4 := by omega
    have hm : (n + 1) % 4 = n % 4 + 1 := by omega
    have step : k0_pay3 (F := Ideal) (iblk m c 0 ⟨n + 1, hi⟩) (iblk m c 1 ⟨n + 1, hi⟩) (outsAt0 m c n (Nat.lt_of_succ_lt hi)).1
        = E3 (φ := .f32) fun _ => part f g 2048 1024 1024 ((n + 1) / 4) 0 ((n + 1) % 4 + 1) := by
      rw [ih (Nat.lt_of_succ_lt hi), iblk0 m c f e0, iblk1 m c g e1, pay3]
      dsimp only
      rw [hd, hm]
      exact congrArg _ (funext fun _ => funext fun r => funext fun c => part_succ f g 2048 1024 1024 _ _ _ r c)
    by_cases h2 : (n + 1) % 4 = 3
    · refine (congrArg Prod.fst (outsAt0_C m c ⟨n + 1, hi⟩ h0 (by dsimp only; omega) h2)).trans ?_
      frame_out
      exact step
    · refine (congrArg Prod.fst (outsAt0_B m c ⟨n + 1, hi⟩ h0 (by dsimp only; omega) h2)).trans ?_
      frame_out
      exact step

/-- What the second result's block holds after the last rows: the same product. -/
theorem acc3 (e0 : V m c main_arg0 = E2 (φ := .bf16) f) (e1 : V m c main_arg1 = E2 (φ := .bf16) g) (t : Fin cfg0.N) (h2 : t.val % 4 = 3) :
    (outsAt0 m c t.val t.isLt).2 = E3 (φ := .bf16) fun _ => part f g 2048 1024 1024 (t.val / 4) 0 4 := by
  have e := acc m c f g e0 e1 t.val t.isLt
  rw [outsAt0_C m c t (by omega) (by omega) h2] at e ⊢
  frame_out
  frame_out at e
  rw [e, pay4, h2]

theorem cover2 (i : S1x4096x1024.Idx) : ∃ t : Fin cfg0.N, (cfg0.win 2).flush t = true ∧ i ∈ ((cfg0.win 2).blk t).view.set := by
  have hN : cfg0.N = 16 := N_0
  have hi0 : (i 0 : Nat) < 1 := (i 0).isLt
  have hi1 : (i 1 : Nat) < 4096 := (i 1).isLt
  have hi2 : (i 2 : Nat) < 1024 := (i 2).isLt
  have ht : (i 1 : Nat) / 1024 * 4 + 3 < cfg0.N := by omega
  refine ⟨⟨(i 1 : Nat) / 1024 * 4 + 3, ht⟩, (flush0_2 _).mpr (by dsimp only; omega), ?_⟩
  refine (View.set_slice_whole main_v0_0 (win0_2.rect ⟨(i 1 : Nat) / 1024 * 4 + 3, ht⟩)) ▸ ?_
  rw [Rect.mem_set_unit]
  intro a
  match a with
  | ⟨0, _⟩ =>
    show win0_2.index _ 0 * 1 ≤ (i 0 : Nat) ∧ (i 0 : Nat) < win0_2.index _ 0 * 1 + 1
    rw [(idx _).2.2.1.1]; omega
  | ⟨1, _⟩ =>
    show win0_2.index _ 1 * 1024 ≤ (i 1 : Nat) ∧ (i 1 : Nat) < win0_2.index _ 1 * 1024 + 1024
    rw [(idx _).2.2.1.2.1]; dsimp only; omega
  | ⟨2, _⟩ =>
    show win0_2.index _ 2 * 1024 ≤ (i 2 : Nat) ∧ (i 2 : Nat) < win0_2.index _ 2 * 1024 + 1024
    rw [(idx _).2.2.1.2.2]; omega

theorem cover3 (i : S1x4096x1024.Idx) : ∃ t : Fin cfg0.N, (cfg0.win 3).flush t = true ∧ i ∈ ((cfg0.win 3).blk t).view.set := by
  have hN : cfg0.N = 16 := N_0
  have hi0 : (i 0 : Nat) < 1 := (i 0).isLt
  have hi1 : (i 1 : Nat) < 4096 := (i 1).isLt
  have hi2 : (i 2 : Nat) < 1024 := (i 2).isLt
  have ht : (i 1 : Nat) / 1024 * 4 + 3 < cfg0.N := by omega
  refine ⟨⟨(i 1 : Nat) / 1024 * 4 + 3, ht⟩, (flush0_3 _).mpr (by dsimp only; omega), ?_⟩
  refine (View.set_slice_whole main_v0_1 (win0_3.rect ⟨(i 1 : Nat) / 1024 * 4 + 3, ht⟩)) ▸ ?_
  rw [Rect.mem_set_unit]
  intro a
  match a with
  | ⟨0, _⟩ =>
    show win0_3.index _ 0 * 1 ≤ (i 0 : Nat) ∧ (i 0 : Nat) < win0_3.index _ 0 * 1 + 1
    rw [(idx _).2.2.2.1]; omega
  | ⟨1, _⟩ =>
    show win0_3.index _ 1 * 1024 ≤ (i 1 : Nat) ∧ (i 1 : Nat) < win0_3.index _ 1 * 1024 + 1024
    rw [(idx _).2.2.2.2.1]; dsimp only; omega
  | ⟨2, _⟩ =>
    show win0_3.index _ 2 * 1024 ≤ (i 2 : Nat) ∧ (i 2 : Nat) < win0_3.index _ 2 * 1024 + 1024
    rw [(idx _).2.2.2.2.2]; omega

theorem arr2 (e0 : V m c main_arg0 = E2 (φ := .bf16) f) (e1 : V m c main_arg1 = E2 (φ := .bf16) g) :
    (dats m 0 c).arrAt 2 cfg0.N = E3 (φ := .f32) fun _ => prod f g 8192 := by
  funext j
  refine (dats m 0 c).arrAt_forall_of_cover 2 (fun i v => v = E3 (φ := .f32) (fun _ => prod f g 8192) i) (fun t hf y => ?_) cover2 j
  rw [Value.flushed2, acc m c f g e0 e1 t.val t.isLt, (flush0_2 t).mp hf]
  show part f g 2048 1024 1024 (t.val / 4) 0 4 (y 1).val (y 2).val = E3 (φ := .f32) (fun _ => prod f g 8192) ((win0_2.rect t).emb y)
  unfold E3 part
  dsimp only
  rw [win0_2.rect_emb_val t y 1, win0_2.rect_emb_val t y 2, (idx t).2.2.1.2.1, (idx t).2.2.1.2.2, Nat.mul_comm (t.val / 4), Nat.mul_comm 0]
  rfl

theorem arr3 (e0 : V m c main_arg0 = E2 (φ := .bf16) f) (e1 : V m c main_arg1 = E2 (φ := .bf16) g) :
    (dats m 0 c).arrAt 3 cfg0.N = E3 (φ := .bf16) fun _ => prod f g 8192 := by
  funext j
  refine (dats m 0 c).arrAt_forall_of_cover 3 (fun i v => v = E3 (φ := .bf16) (fun _ => prod f g 8192) i) (fun t hf y => ?_) cover3 j
  rw [Value.flushed3, acc3 m c f g e0 e1 t ((flush0_3 t).mp hf)]
  show part f g 2048 1024 1024 (t.val / 4) 0 4 (y 1).val (y 2).val = E3 (φ := .bf16) (fun _ => prod f g 8192) ((win0_3.rect t).emb y)
  unfold E3 part
  dsimp only
  rw [win0_3.rect_emb_val t y 1, win0_3.rect_emb_val t y 2, (idx t).2.2.2.2.1, (idx t).2.2.2.2.2, Nat.mul_comm (t.val / 4), Nat.mul_comm 0]
  rfl

/-! The reference. -/

open Cert.Reference4Ideal.Read

theorem ref6 : val_main_v6 (F := Ideal) (E2 (φ := .bf16) f) (E2 (φ := .bf16) g) = E3 (φ := .f32) fun _ => prod f g 8192 := by
  funext i
  rw [val_main_v6_apply, val_main_v5_apply, val_main_v4_apply]
  refine (fin_range 8192 fun k => g k (i 2).val * f k (i 1).val).trans ?_
  exact prod_comm f g 8192 (i 1).val (i 2).val

theorem ref8 : val_main_v8 (F := Ideal) (E2 (φ := .bf16) f) (E2 (φ := .bf16) g) = E3 (φ := .bf16) fun _ => prod f g 8192 := by
  unfold val_main_v8
  rw [show val_main_v7 (F := Ideal) (E2 (φ := .bf16) f) (E2 (φ := .bf16) g) = _ from ref6 f g]
  rfl

/-- The call and the reference, run from the same arguments, end with the same two arrays. -/
theorem algebraic : Cert.algebraic_Kernel4Ideal_Reference4Ideal
    (hKernel4Ideal := Cert.Kernel4Ideal.Gen.facts) (hReference4Ideal := Cert.Reference4Ideal.Gen.facts) := by
  intro m g m' g' hp ha
  refine ⟨fun c => (dats m 0 c).arrAt 2 cfg0.N, fun c => (dats m 0 c).arrAt 3 cfg0.N, Cert.Kernel4Ideal.Value.run_blocks m g,
    (θ_run Cert.Reference4Ideal.defs _ _).mono (fun r hr c => ?_) (Cert.Reference4Ideal.Value.run m' g')⟩
  obtain ⟨r0, r1, k⟩ := hr c
  obtain ⟨a0, a1⟩ := ha c
  obtain ⟨x, e0⟩ := exists_E2 (m ((c : Thread nD τ).loc main_arg0))
  obtain ⟨y, e1⟩ := exists_E2 (m ((c : Thread nD τ).loc main_arg1))
  have h0 : V m c main_arg0 = E2 (φ := .bf16) x := (V_main_arg0 m c).trans e0
  have h1 : V m c main_arg1 = E2 (φ := .bf16) y := (V_main_arg1 m c).trans e1
  refine ⟨?_, ?_, k⟩
  · refine (r0.trans (Cert.Reference4Ideal.Read.val_main_v6_eq _ _)).trans ?_
    rw [a0, a1, e0, e1]
    exact (ref6 x y).trans (arr2 m c x y h0 h1).symm
  · refine (r1.trans (Cert.Reference4Ideal.Read.val_main_v8_eq _ _)).trans ?_
    rw [a0, a1, e0, e1]
    exact (ref8 x y).trans (arr3 m c x y h0 h1).symm

end Cert.W2
end
-- ==== Proof.Mm.W1.lean ====
module

public import proofs.«01_k».proof.Defs
public import proofs.«01_k».proof.Proof.Mm.Wgrad
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

/-! The gradient of the channel mixing's first weights: the call's two result arrays are the reference's. -/

@[expose] public section
set_option maxRecDepth 16384
noncomputable section
namespace Cert.W1
open Cert.Kernel5Ideal Cert.Kernel5Ideal.Gen Cert.Ext Cert.Wgrad Idealize.ShloMosaic Idealize.ShloMosaic.TcCoe Idealize.SL.Sem
open scoped BigOperators

variable (m : (ℓ : Loc nD τ sig) → Buf (Elt Ideal) ℓ) (c : Dev nD)
variable (f g : ℕ → ℕ → EReal) (h : ℕ → ℕ → ℕ → EReal)

theorem idx (t : Fin cfg0.N) : (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4) :=
  (by decide +kernel : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4)) t

theorem iblk0 (e : V m c main_arg0 = E2 (φ := .bf16) f) (t : Fin cfg0.N) :
    iblk m c 0 t = E2 (φ := .bf16) (blk 2048 1024 (t.val % 4) 0 f) := by
  funext y
  show V m c main_arg0 ((win0_0.rect t).emb y) = _
  rw [e]
  unfold E2 blk
  rw [win0_0.rect_emb_val t y 0, win0_0.rect_emb_val t y 1, (idx t).1.1, (idx t).1.2, Nat.mul_comm, Nat.mul_comm 0]
  rfl

theorem iblk1 (e : V m c main_arg1 = E2 (φ := .bf16) g) (t : Fin cfg0.N) :
    iblk m c 1 t = E2 (φ := .bf16) (blk 2048 1024 (t.val % 4) (t.val / 4) g) := by
  funext y
  show V m c main_arg1 ((win0_1.rect t).emb y) = _
  rw [e]
  unfold E2 blk
  rw [win0_1.rect_emb_val t y 0, win0_1.rect_emb_val t y 1, (idx t).2.1.1, (idx t).2.1.2, Nat.mul_comm, Nat.mul_comm (t.val / 4)]
  rfl

theorem pay1 : k0_pay1 (F := Ideal) (E2 (φ := .bf16) f) (E2 (φ := .bf16) g)
    = E2 fun r c => ∑ i ∈ Finset.range 2048, f i r * g i c :=
  mm_tn f g none dot_S2048x1024_S2048x1024_S1024x1024_0_0_1_1_n_n rfl rfl (fun _ _ => rfl) (fun _ _ => rfl) (fun _ _ => rfl) fun _ _ => rfl

theorem pay2 : k0_pay2 (F := Ideal) (E2 (φ := .bf16) f) (E2 (φ := .bf16) g)
    = E3 fun _ r c => ∑ i ∈ Finset.range 2048, f i r * g i c := by
  unfold k0_pay2
  rw [pay1]
  exact addUnit_E2 _ _

theorem pay3 : k0_pay3 (F := Ideal) (E2 (φ := .bf16) f) (E2 (φ := .bf16) g) (E3 (φ := .f32) h)
    = E3 fun _ r c => h 0 r c + ∑ i ∈ Finset.range 2048, f i r * g i c := by
  unfold k0_pay3
  rw [pay1]
  refine (congrArg (fun x => shapeCast _ (addf x _) _) (dropUnit_E3 h _)).trans ?_
  exact addUnit_E2 (fun r c => h 0 r c + ∑ i ∈ Finset.range 2048, f i r * g i c) _

theorem pay4 : k0_pay4 (F := Ideal) (E3 (φ := .f32) h) = E3 fun _ => h 0 := by
  unfold k0_pay4
  refine (congrArg (fun x => shapeCast _ (truncf .bf16 x _) _) (dropUnit_E3 h _)).trans ?_
  exact addUnit_E2 _ _

/-- What the first result's block holds after point `t`: the product along the rows met so far. -/
theorem acc (e0 : V m c main_arg0 = E2 (φ := .bf16) f) (e1 : V m c main_arg1 = E2 (φ := .bf16) g) :
    ∀ (i : ℕ) (hi : i < cfg0.N), (outsAt0 m c i hi).1 = E3 (φ := .f32) fun _ => part f g 2048 1024 1024 0 (i / 4) (i % 4 + 1) := by
  have first : ∀ t : Fin cfg0.N, t.val % 4 = 0 →
      (outsAt0 m c t.val t.isLt).1 = E3 (φ := .f32) fun _ => part f g 2048 1024 1024 0 (t.val / 4) (t.val % 4 + 1) := by
    intro t h0
    rw [outsAt0_A m c t h0 (by omega) (by omega)]
    frame_out
    rw [iblk0 m c f e0, iblk1 m c g e1, pay2, h0]
    exact congrArg _ (funext fun _ => funext fun r => funext fun c => part_one f g 2048 1024 1024 _ _ r c)
  intro i
  induction i with
  | zero => exact fun hi => first ⟨0, hi⟩ rfl
  | succ n ih =>
    intro hi
    by_cases h0 : (n + 1) % 4 = 0
    · exact first ⟨n + 1, hi⟩ h0
    have hd : (n + 1) / 4 = n / 4 := by omega
    have hm : (n + 1) % 4 = n % 4 + 1 := by omega
    have step : k0_pay3 (F := Ideal) (iblk m c 0 ⟨n + 1, hi⟩) (iblk m c 1 ⟨n + 1, hi⟩) (outsAt0 m c n (Nat.lt_of_succ_lt hi)).1
        = E3 (φ := .f32) fun _ => part f g 2048 1024 1024 0 ((n + 1) / 4) ((n + 1) % 4 + 1) := by
      rw [ih (Nat.lt_of_succ_lt hi), iblk0 m c f e0, iblk1 m c g e1, pay3]
      dsimp only
      rw [hd, hm]
      exact congrArg _ (funext fun _ => funext fun r => funext fun c => part_succ f g 2048 1024 1024 _ _ _ r c)
    by_cases h2 : (n + 1) % 4 = 3
    · refine (congrArg Prod.fst (outsAt0_C m c ⟨n + 1, hi⟩ h0 (by dsimp only; omega) h2)).trans ?_
      frame_out
      exact step
    · refine (congrArg Prod.fst (outsAt0_B m c ⟨n + 1, hi⟩ h0 (by dsimp only; omega) h2)).trans ?_
      frame_out
      exact step

/-- What the second result's block holds after the last rows: the same product. -/
theorem acc3 (e0 : V m c main_arg0 = E2 (φ := .bf16) f) (e1 : V m c main_arg1 = E2 (φ := .bf16) g) (t : Fin cfg0.N) (h2 : t.val % 4 = 3) :
    (outsAt0 m c t.val t.isLt).2 = E3 (φ := .bf16) fun _ => part f g 2048 1024 1024 0 (t.val / 4) 4 := by
  have e := acc m c f g e0 e1 t.val t.isLt
  rw [outsAt0_C m c t (by omega) (by omega) h2] at e ⊢
  frame_out
  frame_out at e
  rw [e, pay4, h2]

theorem cover2 (i : S1x1024x4096.Idx) : ∃ t : Fin cfg0.N, (cfg0.win 2).flush t = true ∧ i ∈ ((cfg0.win 2).blk t).view.set := by
  have hN : cfg0.N = 16 := N_0
  have hi0 : (i 0 : Nat) < 1 := (i 0).isLt
  have hi1 : (i 1 : Nat) < 1024 := (i 1).isLt
  have hi2 : (i 2 : Nat) < 4096 := (i 2).isLt
  have ht : (i 2 : Nat) / 1024 * 4 + 3 < cfg0.N := by omega
  refine ⟨⟨(i 2 : Nat) / 1024 * 4 + 3, ht⟩, (flush0_2 _).mpr (by dsimp only; omega), ?_⟩
  refine (View.set_slice_whole main_v0_0 (win0_2.rect ⟨(i 2 : Nat) / 1024 * 4 + 3, ht⟩)) ▸ ?_
  rw [Rect.mem_set_unit]
  intro a
  match a with
  | ⟨0, _⟩ =>
    show win0_2.index _ 0 * 1 ≤ (i 0 : Nat) ∧ (i 0 : Nat) < win0_2.index _ 0 * 1 + 1
    rw [(idx _).2.2.1.1]; omega
  | ⟨1, _⟩ =>
    show win0_2.index _ 1 * 1024 ≤ (i 1 : Nat) ∧ (i 1 : Nat) < win0_2.index _ 1 * 1024 + 1024
    rw [(idx _).2.2.1.2.1]; omega
  | ⟨2, _⟩ =>
    show win0_2.index _ 2 * 1024 ≤ (i 2 : Nat) ∧ (i 2 : Nat) < win0_2.index _ 2 * 1024 + 1024
    rw [(idx _).2.2.1.2.2]; dsimp only; omega

theorem cover3 (i : S1x1024x4096.Idx) : ∃ t : Fin cfg0.N, (cfg0.win 3).flush t = true ∧ i ∈ ((cfg0.win 3).blk t).view.set := by
  have hN : cfg0.N = 16 := N_0
  have hi0 : (i 0 : Nat) < 1 := (i 0).isLt
  have hi1 : (i 1 : Nat) < 1024 := (i 1).isLt
  have hi2 : (i 2 : Nat) < 4096 := (i 2).isLt
  have ht : (i 2 : Nat) / 1024 * 4 + 3 < cfg0.N := by omega
  refine ⟨⟨(i 2 : Nat) / 1024 * 4 + 3, ht⟩, (flush0_3 _).mpr (by dsimp only; omega), ?_⟩
  refine (View.set_slice_whole main_v0_1 (win0_3.rect ⟨(i 2 : Nat) / 1024 * 4 + 3, ht⟩)) ▸ ?_
  rw [Rect.mem_set_unit]
  intro a
  match a with
  | ⟨0, _⟩ =>
    show win0_3.index _ 0 * 1 ≤ (i 0 : Nat) ∧ (i 0 : Nat) < win0_3.index _ 0 * 1 + 1
    rw [(idx _).2.2.2.1]; omega
  | ⟨1, _⟩ =>
    show win0_3.index _ 1 * 1024 ≤ (i 1 : Nat) ∧ (i 1 : Nat) < win0_3.index _ 1 * 1024 + 1024
    rw [(idx _).2.2.2.2.1]; omega
  | ⟨2, _⟩ =>
    show win0_3.index _ 2 * 1024 ≤ (i 2 : Nat) ∧ (i 2 : Nat) < win0_3.index _ 2 * 1024 + 1024
    rw [(idx _).2.2.2.2.2]; dsimp only; omega

theorem arr2 (e0 : V m c main_arg0 = E2 (φ := .bf16) f) (e1 : V m c main_arg1 = E2 (φ := .bf16) g) :
    (dats m 0 c).arrAt 2 cfg0.N = E3 (φ := .f32) fun _ => prod f g 8192 := by
  funext j
  refine (dats m 0 c).arrAt_forall_of_cover 2 (fun i v => v = E3 (φ := .f32) (fun _ => prod f g 8192) i) (fun t hf y => ?_) cover2 j
  rw [Value.flushed2, acc m c f g e0 e1 t.val t.isLt, (flush0_2 t).mp hf]
  show part f g 2048 1024 1024 0 (t.val / 4) 4 (y 1).val (y 2).val = E3 (φ := .f32) (fun _ => prod f g 8192) ((win0_2.rect t).emb y)
  unfold E3 part
  dsimp only
  rw [win0_2.rect_emb_val t y 1, win0_2.rect_emb_val t y 2, (idx t).2.2.1.2.1, (idx t).2.2.1.2.2, Nat.mul_comm (t.val / 4), Nat.mul_comm 0]
  rfl

theorem arr3 (e0 : V m c main_arg0 = E2 (φ := .bf16) f) (e1 : V m c main_arg1 = E2 (φ := .bf16) g) :
    (dats m 0 c).arrAt 3 cfg0.N = E3 (φ := .bf16) fun _ => prod f g 8192 := by
  funext j
  refine (dats m 0 c).arrAt_forall_of_cover 3 (fun i v => v = E3 (φ := .bf16) (fun _ => prod f g 8192) i) (fun t hf y => ?_) cover3 j
  rw [Value.flushed3, acc3 m c f g e0 e1 t ((flush0_3 t).mp hf)]
  show part f g 2048 1024 1024 0 (t.val / 4) 4 (y 1).val (y 2).val = E3 (φ := .bf16) (fun _ => prod f g 8192) ((win0_3.rect t).emb y)
  unfold E3 part
  dsimp only
  rw [win0_3.rect_emb_val t y 1, win0_3.rect_emb_val t y 2, (idx t).2.2.2.2.1, (idx t).2.2.2.2.2, Nat.mul_comm (t.val / 4), Nat.mul_comm 0]
  rfl

/-! The reference. -/

open Cert.Reference5Ideal.Read

theorem ref6 : val_main_v6 (F := Ideal) (E2 (φ := .bf16) f) (E2 (φ := .bf16) g) = E3 (φ := .f32) fun _ => prod f g 8192 := by
  funext i
  rw [val_main_v6_apply, val_main_v5_apply, val_main_v4_apply]
  refine (fin_range 8192 fun k => g k (i 2).val * f k (i 1).val).trans ?_
  exact prod_comm f g 8192 (i 1).val (i 2).val

theorem ref8 : val_main_v8 (F := Ideal) (E2 (φ := .bf16) f) (E2 (φ := .bf16) g) = E3 (φ := .bf16) fun _ => prod f g 8192 := by
  unfold val_main_v8
  rw [show val_main_v7 (F := Ideal) (E2 (φ := .bf16) f) (E2 (φ := .bf16) g) = _ from ref6 f g]
  rfl

/-- The call and the reference, run from the same arguments, end with the same two arrays. -/
theorem algebraic : Cert.algebraic_Kernel5Ideal_Reference5Ideal
    (hKernel5Ideal := Cert.Kernel5Ideal.Gen.facts) (hReference5Ideal := Cert.Reference5Ideal.Gen.facts) := by
  intro m g m' g' hp ha
  refine ⟨fun c => (dats m 0 c).arrAt 2 cfg0.N, fun c => (dats m 0 c).arrAt 3 cfg0.N, Cert.Kernel5Ideal.Value.run_blocks m g,
    (θ_run Cert.Reference5Ideal.defs _ _).mono (fun r hr c => ?_) (Cert.Reference5Ideal.Value.run m' g')⟩
  obtain ⟨r0, r1, k⟩ := hr c
  obtain ⟨a0, a1⟩ := ha c
  obtain ⟨x, e0⟩ := exists_E2 (m ((c : Thread nD τ).loc main_arg0))
  obtain ⟨y, e1⟩ := exists_E2 (m ((c : Thread nD τ).loc main_arg1))
  have h0 : V m c main_arg0 = E2 (φ := .bf16) x := (V_main_arg0 m c).trans e0
  have h1 : V m c main_arg1 = E2 (φ := .bf16) y := (V_main_arg1 m c).trans e1
  refine ⟨?_, ?_, k⟩
  · refine (r0.trans (Cert.Reference5Ideal.Read.val_main_v6_eq _ _)).trans ?_
    rw [a0, a1, e0, e1]
    exact (ref6 x y).trans (arr2 m c x y h0 h1).symm
  · refine (r1.trans (Cert.Reference5Ideal.Read.val_main_v8_eq _ _)).trans ?_
    rw [a0, a1, e0, e1]
    exact (ref8 x y).trans (arr3 m c x y h0 h1).symm

end Cert.W1
end
-- ==== Proof.Mm.Up.lean ====
module

public import proofs.«01_k».proof.Defs
public import proofs.«01_k».proof.Proof.Mm.Ext
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

/-! The first product of the channel mixing: the call's two result arrays are the reference's. -/

@[expose] public section
set_option maxRecDepth 16384
noncomputable section
namespace Cert.Up
open Cert.Kernel6Ideal Cert.Kernel6Ideal.Gen Cert.Ext Idealize.ShloMosaic Idealize.ShloMosaic.TcCoe Idealize.SL.Sem
open scoped BigOperators

/-- The product of the rows with the weights. -/
def prod (h : ℕ → ℕ → EReal) (w : ℕ → ℕ → ℕ → EReal) (r c : ℕ) : EReal := ∑ i ∈ Finset.range 1024, h r i * w 0 i c

/-- Its positive part squared. -/
def sq (h : ℕ → ℕ → EReal) (w : ℕ → ℕ → ℕ → EReal) (r c : ℕ) : EReal :=
  max (prod h w r c) (Ideal.ofBits .f32 0x00000000#32) * max (prod h w r c) (Ideal.ofBits .f32 0x00000000#32)

variable (m : (ℓ : Loc nD τ sig) → Buf (Elt Ideal) ℓ) (c : Dev nD)
variable (h : ℕ → ℕ → EReal) (w : ℕ → ℕ → ℕ → EReal)

theorem idx (t : Fin cfg0.N) : (win0_0.index t 0 = t.val ∧ win0_0.index t 1 = 0) ∧ (win0_2.index t 0 = t.val ∧ win0_2.index t 1 = 0)
    ∧ (win0_3.index t 0 = t.val ∧ win0_3.index t 1 = 0) ∧ (win0_1.index t 0 = 0 ∧ win0_1.index t 1 = 0 ∧ win0_1.index t 2 = 0) :=
  (by decide +kernel : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_1.index t 0 = 0 ∧ win0_1.index t 1 = 0 ∧ win0_1.index t 2 = 0)) t

theorem iblk0 (e : V m c main_arg0 = E2 (φ := .bf16) h) (t : Fin cfg0.N) : iblk m c 0 t = E2 (φ := .bf16) (rows 256 t.val h) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.2.1 y, win0_1.rect_emb_val_of_index_zero t 1 (idx t).2.2.2.2.1 y,
    win0_1.rect_emb_val_of_index_zero t 2 (idx t).2.2.2.2.2 y]

theorem pay1 : k0_pay1 (F := Ideal) (E2 (φ := .bf16) h) (E3 (φ := .bf16) w) = E2 (prod h w) := by
  unfold k0_pay1
  refine (congrArg (fun x => FloatOps.matmul (F := Ideal) _ _ _ x _) (dropUnit_E3 w _)).trans ?_
  exact mm_nn h (w 0) none _ rfl

theorem out2 : out0_2 (F := Ideal) (E2 (φ := .bf16) h) (E3 (φ := .bf16) w) = E2 (φ := .bf16) (prod h w) := by
  unfold out0_2
  refine (View.canon_cons_unit_lit _ _ _ (by decide)).trans ?_
  rw [View.ld_unit_lit _ _ (by decide), View.ld_unit_lit _ _ (by decide)]
  unfold k0_pay2
  rw [pay1]
  rfl

theorem out3 : out0_3 (F := Ideal) (E2 (φ := .bf16) h) (E3 (φ := .bf16) w) = E2 (φ := .bf16) (sq h w) := by
  unfold out0_3
  refine (View.canon_cons_unit_lit _ _ _ (by decide)).trans ?_
  rw [View.ld_unit_lit _ _ (by decide), View.ld_unit_lit _ _ (by decide)]
  unfold k0_pay3
  rw [pay1]
  rfl

theorem cover2 (i : S8192x4096.Idx) : ∃ t : Fin cfg0.N, (cfg0.win 2).flush t = true ∧ i ∈ ((cfg0.win 2).blk t).view.set := by
  have hN : cfg0.N = 32 := N_0
  have hi0 : (i 0 : Nat) < 8192 := (i 0).isLt
  have hi1 : (i 1 : Nat) < 4096 := (i 1).isLt
  have ht : (i 0 : Nat) / 256 < cfg0.N := by omega
  refine ⟨⟨(i 0 : Nat) / 256, ht⟩, flush0_2 _, ?_⟩
  refine (View.set_slice_whole main_v0_0 (win0_2.rect ⟨(i 0 : Nat) / 256, ht⟩)) ▸ ?_
  rw [Rect.mem_set_unit]
  intro a
  match a with
  | ⟨0, _⟩ =>
    show win0_2.index _ 0 * 256 ≤ (i 0 : Nat) ∧ (i 0 : Nat) < win0_2.index _ 0 * 256 + 256
    rw [(idx _).2.1.1]; dsimp only; omega
  | ⟨1, _⟩ =>
    show win0_2.index _ 1 * 4096 ≤ (i 1 : Nat) ∧ (i 1 : Nat) < win0_2.index _ 1 * 4096 + 4096
    rw [(idx _).2.1.2]; omega

theorem cover3 (i : S8192x4096.Idx) : ∃ t : Fin cfg0.N, (cfg0.win 3).flush t = true ∧ i ∈ ((cfg0.win 3).blk t).view.set := by
  have hN : cfg0.N = 32 := N_0
  have hi0 : (i 0 : Nat) < 8192 := (i 0).isLt
  have hi1 : (i 1 : Nat) < 4096 := (i 1).isLt
  have ht : (i 0 : Nat) / 256 < cfg0.N := by omega
  refine ⟨⟨(i 0 : Nat) / 256, ht⟩, flush0_3 _, ?_⟩
  refine (View.set_slice_whole main_v0_1 (win0_3.rect ⟨(i 0 : Nat) / 256, ht⟩)) ▸ ?_
  rw [Rect.mem_set_unit]
  intro a
  match a with
  | ⟨0, _⟩ =>
    show win0_3.index _ 0 * 256 ≤ (i 0 : Nat) ∧ (i 0 : Nat) < win0_3.index _ 0 * 256 + 256
    rw [(idx _).2.2.1.1]; dsimp only; omega
  | ⟨1, _⟩ =>
    show win0_3.index _ 1 * 4096 ≤ (i 1 : Nat) ∧ (i 1 : Nat) < win0_3.index _ 1 * 4096 + 4096
    rw [(idx _).2.2.1.2]; omega

theorem arr2 (e0 : V m c main_arg0 = E2 (φ := .bf16) h) (e1 : V m c main_arg1 = E3 (φ := .bf16) w) :
    (dats m 0 c).arrAt 2 cfg0.N = E2 (φ := .bf16) (prod h w) := by
  funext j
  refine (dats m 0 c).arrAt_forall_of_cover 2 (fun i v => v = E2 (φ := .bf16) (prod h w) i) (fun t _ y => ?_) cover2 j
  rw [Value.flushed2, iblk0 m c h e0, iblk1 m c w e1, out2]
  show prod (rows 256 t.val h) w (y 0).val (y 1).val = E2 (φ := .bf16) (prod h w) ((win0_2.rect t).emb y)
  unfold E2
  rw [win0_2.rect_emb_val t y 0, win0_2.rect_emb_val_of_index_zero t 1 (idx t).2.1.2 y, (idx t).2.1.1, Nat.mul_comm]
  rfl

theorem arr3 (e0 : V m c main_arg0 = E2 (φ := .bf16) h) (e1 : V m c main_arg1 = E3 (φ := .bf16) w) :
    (dats m 0 c).arrAt 3 cfg0.N = E2 (φ := .bf16) (sq h w) := by
  funext j
  refine (dats m 0 c).arrAt_forall_of_cover 3 (fun i v => v = E2 (φ := .bf16) (sq h w) i) (fun t _ y => ?_) cover3 j
  rw [Value.flushed3, iblk0 m c h e0, iblk1 m c w e1, out3]
  show sq (rows 256 t.val h) w (y 0).val (y 1).val = E2 (φ := .bf16) (sq h w) ((win0_3.rect t).emb y)
  unfold E2
  rw [win0_3.rect_emb_val t y 0, win0_3.rect_emb_val_of_index_zero t 1 (idx t).2.2.1.2 y, (idx t).2.2.1.1, Nat.mul_comm]
  rfl

/-! The reference. -/

open Cert.Reference6Ideal.Read (val_main_v0 val_main_v1 val_main_v2 val_main_v3 val_main_v4 val_main_v5 val_main_v6 val_main_v7)

theorem ref3 : val_main_v3 (F := Ideal) (E2 (φ := .bf16) h) (E3 (φ := .bf16) w) = E2 (φ := .f32) (prod h w) := by
  unfold val_main_v3 val_main_v2 val_main_v1 val_main_v0
  refine (congrArg (fun x => Host.dotGeneral (F := Ideal) _ none _ (extf .f32 x _)) (dropUnit_E3 w _)).trans ?_
  exact dot_nn h (w 0) none _ rfl

theorem ref4 : val_main_v4 (F := Ideal) (E2 (φ := .bf16) h) (E3 (φ := .bf16) w) = E2 (φ := .bf16) (prod h w) := by
  unfold val_main_v4
  rw [ref3]
  rfl

theorem ref7 : val_main_v7 (F := Ideal) (E2 (φ := .bf16) h) (E3 (φ := .bf16) w) = E2 (φ := .bf16) (sq h w) := by
  unfold val_main_v7 val_main_v6 val_main_v5
  rw [ref3]
  rfl

/-- The call and the reference, run from the same arguments, end with the same two arrays. -/
theorem algebraic : Cert.algebraic_Kernel6Ideal_Reference6Ideal
    (hKernel6Ideal := Cert.Kernel6Ideal.Gen.facts) (hReference6Ideal := Cert.Reference6Ideal.Gen.facts) := by
  intro m g m' g' hp ha
  refine ⟨fun c => (dats m 0 c).arrAt 2 cfg0.N, fun c => (dats m 0 c).arrAt 3 cfg0.N, Cert.Kernel6Ideal.Value.run_blocks m g,
    (θ_run Cert.Reference6Ideal.defs _ _).mono (fun r hr c => ?_) (Cert.Reference6Ideal.Value.run m' g')⟩
  obtain ⟨r0, r1, k⟩ := hr c
  obtain ⟨a0, a1⟩ := ha c
  obtain ⟨h, e0⟩ := exists_E2 (m ((c : Thread nD τ).loc main_arg0))
  obtain ⟨w, e1⟩ := exists_E3 (m ((c : Thread nD τ).loc main_arg1))
  have h0 : V m c main_arg0 = E2 (φ := .bf16) h := (V_main_arg0 m c).trans e0
  have h1 : V m c main_arg1 = E3 (φ := .bf16) w := (V_main_arg1 m c).trans e1
  refine ⟨?_, ?_, k⟩
  · refine (r0.trans (Cert.Reference6Ideal.Read.val_main_v4_eq _ _)).trans ?_
    rw [a0, a1, e0, e1]
    exact (ref4 h w).trans (arr2 m c h w h0 h1).symm
  · refine (r1.trans (Cert.Reference6Ideal.Read.val_main_v7_eq _ _)).trans ?_
    rw [a0, a1, e0, e1]
    exact (ref7 h w).trans (arr3 m c h w h0 h1).symm

end Cert.Up
end
-- ==== Proof.Mm.Norm.lean ====
module

public import proofs.«01_k».proof.Proof.Mm.Ext

/-! The scaling of a row by the reciprocal root of its mean square, at extended reals. -/

@[expose] public section

noncomputable section

namespace Cert.Ext

open scoped BigOperators
open Idealize.ShloMosaic

/-- The reciprocal root of the mean square of row `r`, over 1024 columns. -/
def inv (y : ℕ → ℕ → EReal) (r : ℕ) : EReal :=
  Ideal.rsqrt (Ideal.div (∑ k ∈ Finset.range 1024, y r k * y r k) (Ideal.ofBits .f32 0x44800000#32) + Ideal.ofBits .f32 0x358637BD#32)

/-- The scaled rows, times a gain per column. -/
def normed (y : ℕ → ℕ → EReal) (g : ℕ → EReal) (r c : ℕ) : EReal := y r c * inv y r * g c

/-- The reciprocal roots of a block of rows, as the kernels compute them. -/
theorem inv_block {a : ℕ} (y : ℕ → ℕ → EReal) (h : (⟨2, ![a, 1024]⟩ : Shape).Reduces [1] ⟨1, ![a]⟩)
    (hφ : FKind.Formats .f32) (hacc : 0x00000000#32 = FKind.add.neutral .f32 hφ) (hc : (⟨1, ![a]⟩ : Shape).ShapeCasts ⟨2, ![a, 1]⟩) :
    rsqrt (addf (divf (shapeCast ⟨2, ![a, 1]⟩ (multiReduction (F := Ideal) .add [1] ⟨1, ![a]⟩
        (mulf (E2 y : FVec Ideal ⟨2, ![a, 1024]⟩ .f32) (E2 y)) 0x00000000#32 h hφ hacc) hc)
        (broadcast ⟨2, ![a, 1]⟩ (Scalar.ofBits (F := Ideal) .f32 0x44800000#32)))
        (broadcast ⟨2, ![a, 1]⟩ (Scalar.ofBits (F := Ideal) .f32 0x358637BD#32)))
      = (E2 fun r _ => inv y r : FVec Ideal ⟨2, ![a, 1]⟩ .f32) := by
  rw [mulf_E2, rowsum_E2]
  rfl

/-- The scaled block, as the kernels compute it. -/
theorem normed_block {a : ℕ} (ha : a ≠ 1) (y : ℕ → ℕ → EReal) (g : ℕ → EReal) (h : (⟨2, ![a, 1024]⟩ : Shape).Reduces [1] ⟨1, ![a]⟩)
    (hφ : FKind.Formats .f32) (hacc : 0x00000000#32 = FKind.add.neutral .f32 hφ) (hc : (⟨1, ![a]⟩ : Shape).ShapeCasts ⟨2, ![a, 1]⟩)
    (hb : (⟨2, ![a, 1]⟩ : Shape).Broadcasts ⟨2, ![a, 1024]⟩) (hs : (⟨2, ![1, 1024]⟩ : Shape).ShapeCasts ⟨2, ![1, 1024]⟩)
    (hg : (⟨2, ![1, 1024]⟩ : Shape).Broadcasts ⟨2, ![a, 1024]⟩) (ht : FTy.bf16.bits < FTy.f32.bits) :
    truncf .bf16 (mulf (mulf (E2 y : FVec Ideal ⟨2, ![a, 1024]⟩ .f32)
      (broadcastTo ⟨2, ![a, 1024]⟩ (rsqrt (addf (divf (shapeCast ⟨2, ![a, 1]⟩ (multiReduction (F := Ideal) .add [1] ⟨1, ![a]⟩
        (mulf (E2 y : FVec Ideal ⟨2, ![a, 1024]⟩ .f32) (E2 y)) 0x00000000#32 h hφ hacc) hc)
        (broadcast ⟨2, ![a, 1]⟩ (Scalar.ofBits (F := Ideal) .f32 0x44800000#32)))
        (broadcast ⟨2, ![a, 1]⟩ (Scalar.ofBits (F := Ideal) .f32 0x358637BD#32)))) hb))
      (broadcastTo ⟨2, ![a, 1024]⟩ (shapeCast ⟨2, ![1, 1024]⟩ (E2 (fun _ k => g k) : FVec Ideal ⟨2, ![1, 1024]⟩ .f32) hs) hg)) ht
      = (E2 (normed y g) : FVec Ideal ⟨2, ![a, 1024]⟩ .bf16) := by
  rw [inv_block, shapeCast_E2, bcast_col_E2 _ ha, bcast_row_E2 _ (by decide)]
  rfl

end Cert.Ext
end
-- ==== Proof.Mm.Down.lean ====
module

public import proofs.«01_k».proof.Defs
public import proofs.«01_k».proof.Proof.Mm.Norm
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

/-! The second product of the channel mixing, added to the rows it came from, and the next layer's scaled rows: the call's
two result arrays are the reference's. -/

@[expose] public section
set_option maxRecDepth 16384
noncomputable section
namespace Cert.Down
open Cert.Kernel7Ideal Cert.Kernel7Ideal.Gen Cert.Ext Idealize.ShloMosaic Idealize.ShloMosaic.TcCoe Idealize.SL.Sem
open scoped BigOperators

/-- The rows plus the product. -/
def sum (s : ℕ → ℕ → EReal) (w : ℕ → ℕ → ℕ → EReal) (x : ℕ → ℕ → EReal) (r c : ℕ) : EReal :=
  x r c + ∑ i ∈ Finset.range 4096, s r i * w 0 i c

variable (m : (ℓ : Loc nD τ sig) → Buf (Elt Ideal) ℓ) (c : Dev nD)
variable (s : ℕ → ℕ → EReal) (w : ℕ → ℕ → ℕ → EReal) (x : ℕ → ℕ → EReal) (g : ℕ → EReal)

theorem idx (t : Fin cfg0.N) : (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_1.index t 0 = 0 ∧ win0_1.index t 1 = 0 ∧ win0_1.index t 2 = 0) ∧ win0_3.index t 1 = 0 :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_1.index t 0 = 0 ∧ win0_1.index t 1 = 0 ∧ win0_1.index t 2 = 0) ∧ win0_3.index t 1 = 0) t

theorem iblk0 (e : V m c main_arg0 = E2 (φ := .bf16) s) (t : Fin cfg0.N) : iblk m c 0 t = E2 (φ := .bf16) (rows 512 t.val s) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk2 (e : V m c main_arg2 = E2 (φ := .f32) x) (t : Fin cfg0.N) : iblk m c 2 t = E2 (φ := .f32) (rows 512 t.val x) := by
  funext y
  show V m c main_arg2 ((win0_2.rect t).emb y) = _
  rw [e]
  unfold E2 rows
  rw [win0_2.rect_emb_val t y 0, win0_2.rect_emb_val_of_index_zero t 1 (idx t).2.1.2 y, (idx t).2.1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.2.2.1.1 y, win0_1.rect_emb_val_of_index_zero t 1 (idx t).2.2.2.2.1.2.1 y,
    win0_1.rect_emb_val_of_index_zero t 2 (idx t).2.2.2.2.1.2.2 y]

theorem iblk3 (e : V m c main_v0 = E2 (φ := .f32) fun _ k => g k) (t : Fin cfg0.N) : iblk m c 3 t = E2 (φ := .f32) fun _ k => g k := by
  funext y
  show V m c main_v0 ((win0_3.rect t).emb y) = _
  rw [e]
  unfold E2
  rw [win0_3.rect_emb_val_of_index_zero t 1 (idx t).2.2.2.2.2 y]

theorem V_main_v0 (e : m ((c : Thread nD τ).loc main_arg3) = E1 (φ := .f32) g) : V m c main_v0 = E2 (φ := .f32) fun _ k => g k := by
  simp only [V, hostOps0, List.flatten_cons, List.flatten_nil, List.append_nil, List.cons_append, List.nil_append]
  after_results
  rw [show m (c, Proc.tc.devRef main_arg3) = E1 (φ := .f32) g from e]
  funext i
  rfl

theorem pay1 : k0_pay1 (F := Ideal) (E2 (φ := .bf16) s) (E3 (φ := .bf16) w) (E2 (φ := .f32) x) = E2 (φ := .f32) (sum s w x) := by
  unfold k0_pay1
  refine (congrArg (fun p => addf (F := Ideal) (φ := .f32) _ (FloatOps.matmul (F := Ideal) _ _ _ p _)) (dropUnit_E3 w _)).trans ?_
  refine (congrArg (fun p => addf (F := Ideal) (φ := .f32) _ p) (mm_nn s (w 0) none _ rfl)).trans ?_
  rfl

theorem pay2 : k0_pay2 (F := Ideal) (E2 (φ := .bf16) s) (E3 (φ := .bf16) w) (E2 (φ := .f32) x) (E2 (φ := .f32) fun _ k => g k)
    = E2 (φ := .bf16) (normed (sum s w x) g) := by
  unfold k0_pay2
  rw [pay1]
  exact normed_block (a := 512) (by decide) (sum s w x) g _ _ _ _ _ _ _ _

theorem out4 : out0_4 (F := Ideal) (E2 (φ := .bf16) s) (E3 (φ := .bf16) w) (E2 (φ := .f32) x) (E2 (φ := .f32) fun _ k => g k)
    = E2 (φ := .f32) (sum s w x) := by
  unfold out0_4
  refine (View.canon_cons_unit_lit _ _ _ (by decide)).trans ?_
  rw [View.ld_unit_lit _ _ (by decide), View.ld_unit_lit _ _ (by decide), View.ld_unit_lit _ _ (by decide), pay1]

theorem out5 : out0_5 (F := Ideal) (E2 (φ := .bf16) s) (E3 (φ := .bf16) w) (E2 (φ := .f32) x) (E2 (φ := .f32) fun _ k => g k)
    = E2 (φ := .bf16) (normed (sum s w x) g) := by
  unfold out0_5
  refine (View.canon_cons_unit_lit _ _ _ (by decide)).trans ?_
  rw [View.ld_unit_lit _ _ (by decide), View.ld_unit_lit _ _ (by decide), View.ld_unit_lit _ _ (by decide), View.ld_unit_lit _ _ (by decide), pay2]

theorem point_lt (i : ℕ) (h : i < 8192) : i / 512 < cfg0.N := by
  have hN : cfg0.N = 16 := N_0
  omega

theorem cover4 (i : S8192x1024.Idx) : ∃ t : Fin cfg0.N, (cfg0.win 4).flush t = true ∧ i ∈ ((cfg0.win 4).blk t).view.set := by
  have hi1 : (i 1 : Nat) < 1024 := (i 1).isLt
  refine ⟨⟨(i 0 : Nat) / 512, point_lt _ (i 0).isLt⟩, flush0_4 _, ?_⟩
  refine (View.set_slice_whole main_v1_0 (win0_4.rect ⟨(i 0 : Nat) / 512, point_lt _ (i 0).isLt⟩)) ▸ ?_
  rw [Rect.mem_set_unit]
  intro a
  match a with
  | ⟨0, _⟩ =>
    show win0_4.index _ 0 * 512 ≤ (i 0 : Nat) ∧ (i 0 : Nat) < win0_4.index _ 0 * 512 + 512
    rw [(idx _).2.2.1.1]; dsimp only; omega
  | ⟨1, _⟩ =>
    show win0_4.index _ 1 * 1024 ≤ (i 1 : Nat) ∧ (i 1 : Nat) < win0_4.index _ 1 * 1024 + 1024
    rw [(idx _).2.2.1.2]; omega

theorem cover5 (i : S8192x1024.Idx) : ∃ t : Fin cfg0.N, (cfg0.win 5).flush t = true ∧ i ∈ ((cfg0.win 5).blk t).view.set := by
  have hi1 : (i 1 : Nat) < 1024 := (i 1).isLt
  refine ⟨⟨(i 0 : Nat) / 512, point_lt _ (i 0).isLt⟩, flush0_5 _, ?_⟩
  refine (View.set_slice_whole main_v1_1 (win0_5.rect ⟨(i 0 : Nat) / 512, point_lt _ (i 0).isLt⟩)) ▸ ?_
  rw [Rect.mem_set_unit]
  intro a
  match a with
  | ⟨0, _⟩ =>
    show win0_5.index _ 0 * 512 ≤ (i 0 : Nat) ∧ (i 0 : Nat) < win0_5.index _ 0 * 512 + 512
    rw [(idx _).2.2.2.1.1]; dsimp only; omega
  | ⟨1, _⟩ =>
    show win0_5.index _ 1 * 1024 ≤ (i 1 : Nat) ∧ (i 1 : Nat) < win0_5.index _ 1 * 1024 + 1024
    rw [(idx _).2.2.2.1.2]; omega

variable (e0 : V m c main_arg0 = E2 (φ := .bf16) s) (e1 : V m c main_arg1 = E3 (φ := .bf16) w)
  (e2 : V m c main_arg2 = E2 (φ := .f32) x) (e3 : V m c main_v0 = E2 (φ := .f32) fun _ k => g k)
include e0 e1 e2 e3

theorem arr4 : (dats m 0 c).arrAt 4 cfg0.N = E2 (φ := .f32) (sum s w x) := by
  funext j
  refine (dats m 0 c).arrAt_forall_of_cover 4 (fun i v => v = E2 (φ := .f32) (sum s w x) i) (fun t _ y => ?_) cover4 j
  rw [Value.flushed4, iblk0 m c s e0, iblk1 m c w e1, iblk2 m c x e2, iblk3 m c g e3, out4]
  show sum (rows 512 t.val s) w (rows 512 t.val x) (y 0).val (y 1).val = E2 (φ := .f32) (sum s w x) ((win0_4.rect t).emb y)
  unfold E2
  rw [win0_4.rect_emb_val t y 0, win0_4.rect_emb_val_of_index_zero t 1 (idx t).2.2.1.2 y, (idx t).2.2.1.1, Nat.mul_comm]
  rfl

theorem arr5 : (dats m 0 c).arrAt 5 cfg0.N = E2 (φ := .bf16) (normed (sum s w x) g) := by
  funext j
  refine (dats m 0 c).arrAt_forall_of_cover 5 (fun i v => v = E2 (φ := .bf16) (normed (sum s w x) g) i) (fun t _ y => ?_) cover5 j
  rw [Value.flushed5, iblk0 m c s e0, iblk1 m c w e1, iblk2 m c x e2, iblk3 m c g e3, out5]
  show normed (sum (rows 512 t.val s) w (rows 512 t.val x)) g (y 0).val (y 1).val = E2 (φ := .bf16) (normed (sum s w x) g) ((win0_5.rect t).emb y)
  unfold E2
  rw [win0_5.rect_emb_val t y 0, win0_5.rect_emb_val_of_index_zero t 1 (idx t).2.2.2.1.2 y, (idx t).2.2.2.1.1, Nat.mul_comm]
  rfl

omit e0 e1 e2 e3

/-! The reference. -/

open Cert.Reference7Ideal.Read

theorem ref4 : val_main_v4 (F := Ideal) (E2 (φ := .bf16) s) (E3 (φ := .bf16) w) (E2 (φ := .f32) x) = E2 (φ := .f32) (sum s w x) := by
  unfold val_main_v4 val_main_v3 val_main_v2 val_main_v1
  refine (congrArg (fun p => addf (F := Ideal) (φ := .f32) _ (Host.dotGeneral (F := Ideal) _ none _ (extf .f32 p _))) (dropUnit_E3 w _)).trans ?_
  refine (congrArg (fun p => addf (F := Ideal) (φ := .f32) _ p) (dot_nn s (w 0) none _ rfl)).trans ?_
  rfl

theorem ref18 : val_main_v18 (F := Ideal) (E2 (φ := .bf16) s) (E3 (φ := .bf16) w) (E2 (φ := .f32) x) (E1 (φ := .f32) g)
    = E2 (φ := .bf16) (normed (sum s w x) g) := by
  funext i
  have hs : ∀ r : Cert.Reference7Ideal.S8192.Idx, val_main_v6 (F := Ideal) (E2 (φ := .bf16) s) (E3 (φ := .bf16) w) (E2 (φ := .f32) x) r
      = ∑ k ∈ Finset.range 1024, sum s w x (r 0).val k * sum s w x (r 0).val k := fun r => by
    rw [val_main_v6_apply]
    unfold val_main_v5
    rw [ref4]
    show Ideal.ofBits .f32 0x00000000#32 + _ = _
    rw [Ideal.ofBits_zero_f32, zero_add]
    exact fin_range 1024 fun k => sum s w x (r 0).val k * sum s w x (r 0).val k
  rw [val_main_v18_apply, val_main_v17_apply, val_main_v14_apply, val_main_v13_apply, val_main_v12_apply, val_main_v11_apply,
    val_main_v9_apply, val_main_v7_apply, hs, ref4, val_main_v16_apply, val_main_v15_apply]
  rfl

/-- The call and the reference, run from the same arguments, end with the same two arrays. -/
theorem algebraic : Cert.algebraic_Kernel7Ideal_Reference7Ideal
    (hKernel7Ideal := Cert.Kernel7Ideal.Gen.facts) (hReference7Ideal := Cert.Reference7Ideal.Gen.facts) := by
  intro m g m' g' hp ha
  refine ⟨fun c => (dats m 0 c).arrAt 4 cfg0.N, fun c => (dats m 0 c).arrAt 5 cfg0.N, Cert.Kernel7Ideal.Value.run_blocks m g,
    (θ_run Cert.Reference7Ideal.defs _ _).mono (fun r hr c => ?_) (Cert.Reference7Ideal.Value.run m' g')⟩
  obtain ⟨r0, r1, k⟩ := hr c
  obtain ⟨a0, a1, a2, a3⟩ := ha c
  obtain ⟨s, e0⟩ := exists_E2 (m ((c : Thread nD τ).loc main_arg0))
  obtain ⟨w, e1⟩ := exists_E3 (m ((c : Thread nD τ).loc main_arg1))
  obtain ⟨x, e2⟩ := exists_E2 (m ((c : Thread nD τ).loc main_arg2))
  obtain ⟨gn, e3⟩ := exists_E1 (m ((c : Thread nD τ).loc main_arg3))
  have h0 := (V_main_arg0 m c).trans e0
  have h1 := (V_main_arg1 m c).trans e1
  have h2 := (V_main_arg2 m c).trans e2
  have h3 := V_main_v0 m c gn e3
  refine ⟨?_, ?_, k⟩
  · refine (r0.trans (Cert.Reference7Ideal.Read.val_main_v4_eq _ _ _)).trans ?_
    rw [a0, a1, a2, e0, e1, e2]
    exact (ref4 s w x).trans (arr4 m c s w x gn h0 h1 h2 h3).symm
  · refine (r1.trans (Cert.Reference7Ideal.Read.val_main_v18_eq _ _ _ _)).trans ?_
    rw [a0, a1, a2, a3, e0, e1, e2, e3]
    exact (ref18 s w x gn).trans (arr5 m c s w x gn h0 h1 h2 h3).symm

end Cert.Down
end
-- ==== Proof.Mm.AInBwd.lean ====
module

public import proofs.«01_k».proof.Defs
public import proofs.«01_k».proof.Proof.Mm.NormBwd
public import proofs.«01_k».proof.Proof.Sgu.Finite
public import proofs.«01_k».proof.Proof.Sgu.Arrays
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Pre_finite_a_in_bwd
public import Idealize.ShloMosaic.Lib.Pipeline.ValueKit

/-! The gradient through the product into the first token mixer and the scaling before it: the call's three result arrays are
the reference's. -/

@[expose] public section
set_option maxRecDepth 16384
noncomputable section
namespace Cert.AInBwd
open Cert.Kernel8Ideal Cert.Kernel8Ideal.Gen Cert.Lift Cert.NormBwd Idealize.ShloMosaic Idealize.ShloMosaic.TcCoe Idealize.SL.Sem
open scoped BigOperators

variable (m : (ℓ : Loc nD τ sig) → Buf (Elt Ideal) ℓ) (c : Dev nD)
variable (d : ℕ → ℕ → ℝ) (w : ℕ → ℕ → ℕ → ℝ) (x : ℕ → ℕ → ℝ) (g : ℕ → ℝ) (e : ℕ → ℕ → ℝ)

theorem idx (t : Fin cfg0.N) : (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0)) t

theorem iblk0 (h : V m c main_arg0 = L2 (φ := .bf16) d) (t : Fin cfg0.N) : iblk m c 0 t = L2 (φ := .bf16) (rows t.val d) := by
  funext y
  show V m c main_arg0 ((win0_0.rect t).emb y) = _
  rw [h]
  unfold L2 rows
  rw [win0_0.rect_emb_val t y 0, win0_0.rect_emb_val_of_index_zero t 1 (idx t).1.2 y, (idx t).1.1, Nat.mul_comm]
  rfl

theorem iblk1 (h : V m c main_arg1 = L3 (φ := .bf16) w) (t : Fin cfg0.N) : iblk m c 1 t = L3 (φ := .bf16) w := by
  funext y
  show V m c main_arg1 ((win0_1.rect t).emb y) = _
  rw [h]
  unfold L3
  rw [win0_1.rect_emb_val_of_index_zero t 0 rfl y, win0_1.rect_emb_val_of_index_zero t 1 rfl y, win0_1.rect_emb_val_of_index_zero t 2 rfl y]

theorem iblk2 (h : V m c main_arg2 = L2 (φ := .f32) x) (t : Fin cfg0.N) : iblk m c 2 t = L2 (φ := .f32) (rows t.val x) := by
  funext y
  show V m c main_arg2 ((win0_2.rect t).emb y) = _
  rw [h]
  unfold L2 rows
  rw [win0_2.rect_emb_val t y 0, win0_2.rect_emb_val_of_index_zero t 1 (idx t).2.1.2 y, (idx t).2.1.1, Nat.mul_comm]
  rfl

theorem iblk3 (h : V m c main_v0 = L2 (φ := .f32) fun _ k => g k) (t : Fin cfg0.N) : iblk m c 3 t = L2 (φ := .f32) fun _ k => g k := by
  funext y
  show V m c main_v0 ((win0_3.rect t).emb y) = _
  rw [h]
  unfold L2
  rw [win0_3.rect_emb_val_of_index_zero t 1 rfl y]

theorem iblk4 (h : V m c main_arg4 = L2 (φ := .f32) e) (t : Fin cfg0.N) : iblk m c 4 t = L2 (φ := .f32) (rows t.val e) := by
  funext y
  show V m c main_arg4 ((win0_4.rect t).emb y) = _
  rw [h]
  unfold L2 rows
  rw [win0_4.rect_emb_val t y 0, win0_4.rect_emb_val_of_index_zero t 1 (idx t).2.2.1.2 y, (idx t).2.2.1.1, Nat.mul_comm]
  rfl

theorem V_main_v0 (h : m ((c : Thread nD τ).loc main_arg3) = Cert.SguRef.L1 (φ := .f32) g) : V m c main_v0 = L2 (φ := .f32) fun _ k => g k := by
  simp only [V, hostOps0, List.flatten_cons, List.flatten_nil, List.append_nil, List.cons_append, List.nil_append]
  after_results
  rw [show m (c, Proc.tc.devRef main_arg3) = Cert.SguRef.L1 (φ := .f32) g from h]
  funext i
  rfl

theorem pay3 : k0_pay3 (F := Ideal) (L2 (φ := .bf16) d) (L3 (φ := .bf16) w) = L2 (back 2560 d w) := by
  unfold k0_pay3
  refine (congrArg (fun p => FloatOps.matmul (F := Ideal) _ _ _ p _) (dropUnit_L3 w _)).trans ?_
  exact matmul_transposedRhs_L2 d (w 0) none _ rfl

theorem pay4 : k0_pay4 (F := Ideal) (L2 (φ := .f32) x) = L2 fun r _ => q x r := q_block (a := 512) x _ _ _ _

theorem pay5 : k0_pay5 (F := Ideal) (L2 (φ := .f32) x) = L2 (scaled x) := by
  unfold k0_pay5
  rw [pay4]
  exact scaled_block (a := 512) x (by decide) _

theorem pay6 : k0_pay6 (F := Ideal) (L2 (φ := .bf16) d) (L3 (φ := .bf16) w) (L2 (φ := .f32) x) (L2 (φ := .f32) fun _ k => g k) (L2 (φ := .f32) e)
    = L2 (dx (back 2560 d w) x g e) := by
  unfold k0_pay6
  rw [pay3, pay4, pay5]
  exact dx_block (a := 512) (back 2560 d w) x g e (by decide) _ _ _ _ _ _ _

theorem pay7 : k0_pay7 (F := Ideal) (L2 (φ := .bf16) d) (L3 (φ := .bf16) w) (L2 (φ := .f32) x) (L2 (φ := .f32) fun _ k => g k) (L2 (φ := .f32) e)
    = L2 (φ := .bf16) (dx (back 2560 d w) x g e) := by
  unfold k0_pay7
  rw [pay6]
  rfl

theorem pay1 (s : ℕ → ℝ) : k0_pay1 (F := Ideal) (k0_pay3 (F := Ideal) (L2 (φ := .bf16) d) (L3 (φ := .bf16) w)) (k0_pay5 (F := Ideal) (L2 (φ := .f32) x))
    (L2 (φ := .f32) fun _ k => s k) = L2 (φ := .f32) fun _ k => s k + ∑ r ∈ Finset.range 512, dgAt (back 2560 d w) x r k := by
  rw [pay3, pay5]
  exact dg_block (a := 512) (back 2560 d w) x s _ _ _ _ _

theorem pay2 : k0_pay2 (F := Ideal) = L2 (φ := .f32) fun _ _ => 0 := broadcast_L2 _ _ Cert.SguRef.bits_zero

section Run
variable (h0 : V m c main_arg0 = L2 (φ := .bf16) d) (h1 : V m c main_arg1 = L3 (φ := .bf16) w) (h2 : V m c main_arg2 = L2 (φ := .f32) x)
  (h3 : V m c main_v0 = L2 (φ := .f32) fun _ k => g k) (h4 : V m c main_arg4 = L2 (φ := .f32) e)
include h0 h1 h2 h3 h4

/-- What a point writes of the rows' gradient, in both formats. -/
theorem point (t : Fin cfg0.N) : (outsAt0 m c t.val t.isLt).1 = L2 (φ := .f32) (rows t.val (dx (back 2560 d w) x g e))
    ∧ (outsAt0 m c t.val t.isLt).2.1 = L2 (φ := .bf16) (rows t.val (dx (back 2560 d w) x g e)) := by
  have e6 := pay6 (rows t.val d) w (rows t.val x) g (rows t.val e)
  have e7 := pay7 (rows t.val d) w (rows t.val x) g (rows t.val e)
  rw [← iblk0 m c d h0 t, ← iblk1 m c w h1 t, ← iblk2 m c x h2 t, ← iblk3 m c g h3 t, ← iblk4 m c e h4 t] at e6 e7
  by_cases z : t.val % 16 = 0
  · rw [outsAt0_A m c t z]
    constructor
    · frame_out
      exact e6
    · frame_out
      exact e7
  · rw [outsAt0_B m c t z]
    constructor
    · frame_out
      exact e6
    · frame_out
      exact e7

/-- The gradient of the gains after point `i`. -/
theorem acc : ∀ (i : ℕ) (h : i < cfg0.N), (outsAt0 m c i h).2.2
    = (L2 (φ := .f32) fun _ k => ∑ s ∈ Finset.range (i + 1), ∑ r ∈ Finset.range 512, dgAt (back 2560 d w) x (512 * s + r) k)
  | 0, h => by
    rw [outsAt0_A m c ⟨0, h⟩ rfl]
    frame_out
    rw [iblk0 m c d h0, iblk1 m c w h1, iblk2 m c x h2, pay2, pay1]
    simp only [zero_add, Finset.sum_range_one]
    rfl
  | i + 1, h => by
    have hN : cfg0.N = 16 := N_0
    refine (congrArg (fun p => p.2.2) (outsAt0_B m c ⟨i + 1, h⟩ (by dsimp only; omega))).trans ?_
    frame_out
    refine (congrArg (k0_pay1 (F := Ideal) _ _) (acc i (Nat.lt_of_succ_lt h))).trans ?_
    rw [iblk0 m c d h0, iblk1 m c w h1, iblk2 m c x h2, pay1]
    exact congrArg _ (funext fun r => funext fun k => (Finset.sum_range_succ _ (i + 1)).symm)

end Run

theorem last_lt : 15 < cfg0.N := by rw [show cfg0.N = 16 from N_0]; decide

theorem point_lt (i : ℕ) (h : i < 8192) : i / 512 < cfg0.N := by
  have hN : cfg0.N = 16 := N_0
  omega

theorem cover5 (i : S8192x1024.Idx) : ∃ t : Fin cfg0.N, (cfg0.win 5).flush t = true ∧ i ∈ ((cfg0.win 5).blk t).view.set := by
  have hi1 : (i 1 : Nat) < 1024 := (i 1).isLt
  refine ⟨⟨(i 0 : Nat) / 512, point_lt _ (i 0).isLt⟩, flush0_5 _, ?_⟩
  refine (View.set_slice_whole main_v1_0 (win0_5.rect ⟨(i 0 : Nat) / 512, point_lt _ (i 0).isLt⟩)) ▸ ?_
  rw [Rect.mem_set_unit]
  intro a
  match a with
  | ⟨0, _⟩ =>
    show win0_5.index _ 0 * 512 ≤ (i 0 : Nat) ∧ (i 0 : Nat) < win0_5.index _ 0 * 512 + 512
    rw [(idx _).2.2.2.1.1]; dsimp only; omega
  | ⟨1, _⟩ =>
    show win0_5.index _ 1 * 1024 ≤ (i 1 : Nat) ∧ (i 1 : Nat) < win0_5.index _ 1 * 1024 + 1024
    rw [(idx _).2.2.2.1.2]; omega

theorem cover6 (i : S8192x1024.Idx) : ∃ t : Fin cfg0.N, (cfg0.win 6).flush t = true ∧ i ∈ ((cfg0.win 6).blk t).view.set := by
  have hi1 : (i 1 : Nat) < 1024 := (i 1).isLt
  refine ⟨⟨(i 0 : Nat) / 512, point_lt _ (i 0).isLt⟩, flush0_6 _, ?_⟩
  refine (View.set_slice_whole main_v1_1 (win0_6.rect ⟨(i 0 : Nat) / 512, point_lt _ (i 0).isLt⟩)) ▸ ?_
  rw [Rect.mem_set_unit]
  intro a
  match a with
  | ⟨0, _⟩ =>
    show win0_6.index _ 0 * 512 ≤ (i 0 : Nat) ∧ (i 0 : Nat) < win0_6.index _ 0 * 512 + 512
    rw [(idx _).2.2.2.2.1]; dsimp only; omega
  | ⟨1, _⟩ =>
    show win0_6.index _ 1 * 1024 ≤ (i 1 : Nat) ∧ (i 1 : Nat) < win0_6.index _ 1 * 1024 + 1024
    rw [(idx _).2.2.2.2.2]; omega

/-- The third result's one block is its whole array. -/
theorem cut7 (X : Vec Ideal S1x1024 .f32) (t : Fin cfg0.N) :
    (cfg0.win 7).cut (grid0.coords t) X = ((cfg0.win 7).blk t).view.read (Elt Ideal) X := by
  funext y
  show X y = X ((win0_7.rect t).emb y)
  refine congrArg X (funext fun a => Fin.ext ?_)
  exact (win0_7.rect_emb_val_of_index_zero t a (by fin_cases a <;> rfl) y).symm

theorem cover7 (i : S1x1024.Idx) : ∃ t : Fin cfg0.N, (cfg0.win 7).flush t = true ∧ i ∈ ((cfg0.win 7).blk t).view.set := by
  refine ⟨⟨15, last_lt⟩, (flush0_7 _).mpr rfl, ?_⟩
  refine (View.set_slice_whole main_v1_2 (win0_7.rect ⟨15, last_lt⟩)) ▸ ?_
  rw [Rect.mem_set_unit]
  intro a
  match a with
  | ⟨0, _⟩ => exact ⟨Nat.zero_le _, (i 0).isLt⟩
  | ⟨1, _⟩ => exact ⟨Nat.zero_le _, (i 1).isLt⟩

section Arrays
variable (h0 : V m c main_arg0 = L2 (φ := .bf16) d) (h1 : V m c main_arg1 = L3 (φ := .bf16) w) (h2 : V m c main_arg2 = L2 (φ := .f32) x)
  (h3 : V m c main_v0 = L2 (φ := .f32) fun _ k => g k) (h4 : V m c main_arg4 = L2 (φ := .f32) e)
include h0 h1 h2 h3 h4

theorem arr5 : (dats m 0 c).arrAt 5 cfg0.N = L2 (φ := .f32) (dx (back 2560 d w) x g e) := by
  funext j
  refine (dats m 0 c).arrAt_forall_of_cover 5 (fun i v => v = L2 (φ := .f32) (dx (back 2560 d w) x g e) i) (fun t _ y => ?_) cover5 j
  rw [Value.flushed5, (point m c d w x g e h0 h1 h2 h3 h4 t).1]
  show ((rows t.val (dx (back 2560 d w) x g e) (y 0).val (y 1).val : ℝ) : EReal) = L2 (φ := .f32) (dx (back 2560 d w) x g e) ((win0_5.rect t).emb y)
  unfold L2 rows
  rw [win0_5.rect_emb_val t y 0, win0_5.rect_emb_val_of_index_zero t 1 (idx t).2.2.2.1.2 y, (idx t).2.2.2.1.1, Nat.mul_comm]
  rfl

theorem arr6 : (dats m 0 c).arrAt 6 cfg0.N = L2 (φ := .bf16) (dx (back 2560 d w) x g e) := by
  funext j
  refine (dats m 0 c).arrAt_forall_of_cover 6 (fun i v => v = L2 (φ := .bf16) (dx (back 2560 d w) x g e) i) (fun t _ y => ?_) cover6 j
  rw [Value.flushed6, (point m c d w x g e h0 h1 h2 h3 h4 t).2]
  show ((rows t.val (dx (back 2560 d w) x g e) (y 0).val (y 1).val : ℝ) : EReal) = L2 (φ := .bf16) (dx (back 2560 d w) x g e) ((win0_6.rect t).emb y)
  unfold L2 rows
  rw [win0_6.rect_emb_val t y 0, win0_6.rect_emb_val_of_index_zero t 1 (idx t).2.2.2.2.2 y, (idx t).2.2.2.2.1, Nat.mul_comm]
  rfl

theorem arr7 : (dats m 0 c).arrAt 7 cfg0.N = L2 (φ := .f32) fun _ k => ∑ r ∈ Finset.range 8192, dgAt (back 2560 d w) x r k := by
  have e := acc m c d w x g e h0 h1 h2 h3 h4 15 last_lt
  have e' : (fun (_ k : ℕ) => ∑ s ∈ Finset.range (15 + 1), ∑ r ∈ Finset.range 512, dgAt (back 2560 d w) x (512 * s + r) k)
      = fun _ k => ∑ r ∈ Finset.range 8192, dgAt (back 2560 d w) x r k :=
    funext fun _ => funext fun k => Cert.Sgu.sum_blocks 512 (fun r => dgAt (back 2560 d w) x r k) 16
  rw [e'] at e
  refine (dats m 0 c).arrAt_eq_of_cover 7 _ (fun t hf => ?_) cover7
  have hN : cfg0.N = 16 := N_0
  obtain rfl : t = ⟨15, last_lt⟩ := Fin.ext (by have := (flush0_7 t).mp hf; have := t.isLt; dsimp only; omega)
  rw [Value.flushed7, e]
  exact cut7 _ _

end Arrays

/-! The reference. -/

open Cert.Reference8Ideal.Read
open Cert.SguRef (L1 fm fa fd fr bits_zero bits_1024 bits_eps bits_neg_half)

theorem s8 (i : Cert.Reference8Ideal.S8192x1.Idx) : val_main_v8 (F := Ideal) (L2 (φ := .f32) x) i = ((mean x (i 0).val : ℝ) : EReal) := by
  simp only [val_main_v8_apply, val_main_v7_apply, val_main_v6_apply, val_main_v5_apply, val_main_v4_apply, val_main_v3_apply, val_main_v2_apply, L2,
    val_main_cst_apply, val_main_cst_0_apply, val_main_cst_1_apply, Ideal.ofBits_def, bits_zero, bits_1024, bits_eps, fm]
  rw [← coe_sum_range 1024 fun k => x (i 0).val k * x (i 0).val k, ← EReal.coe_add, fd _ _ (by norm_num), fa, zero_add]
  rfl

theorem s9 (i : Cert.Reference8Ideal.S8192x1.Idx) : val_main_v9 (F := Ideal) (L2 (φ := .f32) x) i = ((q x (i 0).val : ℝ) : EReal) := by
  rw [val_main_v9_apply, s8, fr _ (mean_pos x _)]
  rfl

theorem s12 (i : Cert.Reference8Ideal.S8192x1.Idx) : val_main_v12 (F := Ideal) (L2 (φ := .f32) x) i
    = ((-(1 / 2) * (q x (i 0).val / mean x (i 0).val) : ℝ) : EReal) := by
  rw [val_main_v12_apply, val_main_v11_apply, val_main_v10_apply, val_main_cst_2_apply, s9, s8, Ideal.ofBits_def, bits_neg_half,
    fd _ _ (mean_pos x _).ne', fm]

theorem s20 : val_main_v20 (F := Ideal) (L2 (φ := .bf16) d) (L3 (φ := .bf16) w) = L2 (φ := .f32) (back 2560 d w) := by
  funext i
  rw [val_main_v20_apply]
  refine Eq.trans ?_ (coe_sum_range 2560 fun k => d (i 0).val k * w 0 (i 1).val k).symm
  refine Finset.sum_congr rfl fun k _ => ?_
  rw [EReal.coe_mul, val_main_v19_apply, val_main_v1_apply]
  refine congrArg (fun z => ((d (i 0).val k.val : ℝ) : EReal) * z) ?_
  show val_main_v0 (F := Ideal) (L3 (φ := .bf16) w) _ = _
  unfold val_main_v0
  rw [show shapeCast _ (L3 (φ := .bf16) w) _ = L2 (φ := .bf16) (w 0) from dropUnit_L3 w _]
  rfl

theorem s25 (i : Cert.Reference8Ideal.S8192x1024.Idx) : val_main_v25 (F := Ideal) (L2 (φ := .bf16) d) (L3 (φ := .bf16) w) (L1 (φ := .f32) g) i
    = ((back 2560 d w (i 0).val (i 1).val * g (i 1).val : ℝ) : EReal) := by
  rw [val_main_v25_apply, s20, val_main_v24_apply, val_main_v15_apply]
  exact fm _ _

theorem s28 (i : Cert.Reference8Ideal.S8192.Idx) : val_main_v28 (F := Ideal) (L2 (φ := .bf16) d) (L3 (φ := .bf16) w) (L2 (φ := .f32) x) (L1 (φ := .f32) g) i
    = ((∑ k ∈ Finset.range 1024, x (i 0).val k * (back 2560 d w (i 0).val k * g k) : ℝ) : EReal) := by
  rw [val_main_v28_apply, val_main_cst_5_apply, Ideal.ofBits_def, Ideal.ofBits_zero_f32, zero_add, coe_sum_range]
  refine Finset.sum_congr rfl fun k _ => ?_
  rw [val_main_v27_apply, s25]
  exact fm _ _

theorem s35 (i : Cert.Reference8Ideal.S8192x1.Idx) : val_main_v35 (F := Ideal) (L2 (φ := .bf16) d) (L3 (φ := .bf16) w) (L2 (φ := .f32) x) (L1 (φ := .f32) g) i
    = (((∑ k ∈ Finset.range 1024, x (i 0).val k * (back 2560 d w (i 0).val k * g k)) * (-(1 / 2) * (q x (i 0).val / mean x (i 0).val)) / 1024 : ℝ) : EReal) := by
  have hi : (idx_main_v29 i 0).val = (i 0).val := by
    have h1 : (i 1).val < 1 := (i 1).isLt
    show (i 0).val * 1 + (i 1).val = (i 0).val
    omega
  rw [val_main_v35_apply, val_main_v34_apply, val_main_v33_apply, val_main_v29_apply, s28, s12, val_main_cst_6_apply, Ideal.ofBits_def, bits_1024, hi, fm,
    fd _ _ (by norm_num)]

theorem s36 (i : Cert.Reference8Ideal.S8192.Idx) : val_main_v36 (F := Ideal) (L2 (φ := .bf16) d) (L3 (φ := .bf16) w) (L2 (φ := .f32) x) (L1 (φ := .f32) g) i
    = (((∑ k ∈ Finset.range 1024, x (i 0).val k * (back 2560 d w (i 0).val k * g k)) * (-(1 / 2) * (q x (i 0).val / mean x (i 0).val)) / 1024 : ℝ) : EReal) := by
  rw [val_main_v36_apply, Finset.univ_unique, Finset.sum_singleton, val_main_cst_7_apply, Ideal.ofBits_def, Ideal.ofBits_zero_f32, zero_add, s35]

theorem s41 : val_main_v41 (F := Ideal) (L2 (φ := .bf16) d) (L3 (φ := .bf16) w) (L2 (φ := .f32) x) (L1 (φ := .f32) g) (L2 (φ := .f32) e)
    = L2 (φ := .f32) (dx (back 2560 d w) x g e) := by
  funext i
  rw [val_main_v41_apply, val_main_v40_apply, val_main_v39_apply, val_main_v38_apply, val_main_v37_apply, s36, val_main_v32_apply, val_main_v31_apply,
    val_main_v30_apply, s25, s9]
  show _ = ((dx (back 2560 d w) x g e (i 0).val (i 1).val : ℝ) : EReal)
  rw [← dx_chain, ← fa, ← fa, ← fa, ← fm, ← fm, ← fm]
  rfl

theorem s42 : val_main_v42 (F := Ideal) (L2 (φ := .bf16) d) (L3 (φ := .bf16) w) (L2 (φ := .f32) x) (L1 (φ := .f32) g) (L2 (φ := .f32) e)
    = L2 (φ := .bf16) (dx (back 2560 d w) x g e) := by
  unfold val_main_v42
  rw [s41]
  rfl

theorem s43 : val_main_v43 (F := Ideal) (L2 (φ := .bf16) d) (L3 (φ := .bf16) w) (L2 (φ := .f32) x)
    = L2 (φ := .f32) fun _ k => ∑ r ∈ Finset.range 8192, dgAt (back 2560 d w) x r k := by
  funext i
  have hx : ∀ (r : Fin 8192) (k : Fin 1024), val_main_v21 (F := Ideal) (L2 (φ := .bf16) d) (L3 (φ := .bf16) w) (L2 (φ := .f32) x) (ValueIdx.ix2 r k)
      = ((dgAt (back 2560 d w) x r.val k.val : ℝ) : EReal) := fun r k => by
    rw [val_main_v21_apply, val_main_v14_apply, val_main_v13_apply, s9, s20]
    unfold dgAt scaled
    rw [mul_comm, ← fm, ← fm]
    rfl
  have hsum := coe_sum_range 8192 fun r => dgAt (back 2560 d w) x r (i 1).val
  simp only [val_main_v43_apply, val_main_v26_apply, val_main_v23_apply, val_main_v22_apply, Finset.univ_unique, Finset.sum_singleton,
    val_main_cst_3_apply, val_main_cst_4_apply, Ideal.ofBits_def, Ideal.ofBits_zero_f32, zero_add]
  refine Eq.trans (Finset.sum_congr rfl fun r _ => ?_) hsum.symm
  refine Eq.trans (congrArg _ ?_) (hx r (i 1))
  funext a
  match a with
  | ⟨0, _⟩ => rfl
  | ⟨1, _⟩ =>
    refine Fin.ext ?_
    show 0 * 1024 + (i 1).val = (i 1).val
    omega

/-- When the arguments' entries are reals, each result array of the call is the reference's at the same arguments. -/
theorem values [hF : Cert.Pre_finite_a_in_bwd.Facts] (h : Cert.Pre_Kernel8Ideal_finite_a_in_bwd m) :
    (dats m 0 c).arrAt 5 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 6 cfg0.N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 7 cfg0.N = val_main_v43 (F := Ideal) (m ((c : Thread nD τ).loc main_arg0)) (m ((c : Thread nD τ).loc main_arg1)) (m ((c : Thread nD τ).loc main_arg2)) := by
  have hs : Subsingleton (Cert.Pre_finite_a_in_bwd.S_).Idx := ⟨fun a b => funext fun k => k.elim0⟩
  obtain ⟨t0, t1, t2, t3, t4⟩ := h c
  simp only [Cert.Pre_finite_a_in_bwd.fn, Cert.Pre_finite_a_in_bwd.fn_part1] at t0 t1 t2 t3 t4
  obtain ⟨d, e0⟩ := Cert.Finite.exists_L2 _ (Cert.Finite.real_of_test hs _ _ _ _ _ t0)
  obtain ⟨w, e1⟩ := Cert.Finite.exists_L3 _ (Cert.Finite.real_of_test hs _ _ _ _ _ t1)
  obtain ⟨x, e2⟩ := Cert.Finite.exists_L2 (m ((c : Thread nD τ).loc main_arg2)) (Cert.Finite.real_of_test hs _ _ _ _ _ t2)
  obtain ⟨g, e3⟩ := Cert.Finite.exists_L1 (m ((c : Thread nD τ).loc main_arg3)) (Cert.Finite.real_of_test hs _ _ _ _ _ t3)
  obtain ⟨e, e4⟩ := Cert.Finite.exists_L2 (m ((c : Thread nD τ).loc main_arg4)) (Cert.Finite.real_of_test hs _ _ _ _ _ t4)
  replace e0 : m ((c : Thread nD τ).loc main_arg0) = L2 (φ := .bf16) d := e0
  replace e1 : m ((c : Thread nD τ).loc main_arg1) = L3 (φ := .bf16) w := e1
  replace e3 : m ((c : Thread nD τ).loc main_arg3) = L1 (φ := .f32) g := e3
  have h0 := (V_main_arg0 m c).trans e0
  have h1 := (V_main_arg1 m c).trans e1
  have h2 := (V_main_arg2 m c).trans e2
  have h3 := V_main_v0 m c g e3
  have h4 := (V_main_arg4 m c).trans e4
  rw [e0, e1, e2, e3, e4]
  exact ⟨(arr5 m c d w x g e h0 h1 h2 h3 h4).trans (s41 d w x g e).symm, (arr6 m c d w x g e h0 h1 h2 h3 h4).trans (s42 d w x g e).symm,
    (arr7 m c d w x g e h0 h1 h2 h3 h4).trans (s43 d w x).symm⟩

/-- The call and the reference, run from arguments whose entries are finite, end with the same three arrays. -/
theorem algebraic : Cert.algebraic_Kernel8Ideal_Reference8Ideal_pre_finite_a_in_bwd
    (hKernel8Ideal := Cert.Kernel8Ideal.Gen.facts) (hReference8Ideal := Cert.Reference8Ideal.Gen.facts) (hPre_finite_a_in_bwd := Cert.Pre_finite_a_in_bwd.Gen.facts) := by
  intro m g m' g' hp ha
  refine ⟨fun c => (dats m 0 c).arrAt 5 cfg0.N, fun c => (dats m 0 c).arrAt 6 cfg0.N, fun c => (dats m 0 c).arrAt 7 cfg0.N,
    Cert.Kernel8Ideal.Value.run_blocks m g,
    (θ_run Cert.Reference8Ideal.defs _ _).mono (fun r h c => ?_) (Cert.Reference8Ideal.Value.run m' g')⟩
  obtain ⟨r0, r1, r2, k⟩ := h c
  obtain ⟨a0, a1, a2, a3, a4⟩ := ha c
  obtain ⟨v0, v1, v2⟩ := values (hF := Cert.Pre_finite_a_in_bwd.Gen.facts) m c hp
  refine ⟨?_, ?_, ?_, k⟩
  · refine (r0.trans (Cert.Reference8Ideal.Read.val_main_v41_eq _ _)).trans ?_
    rw [a0, a1, a2, a3, a4]
    exact v0.symm
  · refine (r1.trans (Cert.Reference8Ideal.Read.val_main_v42_eq _ _)).trans ?_
    rw [a0, a1, a2, a3, a4]
    exact v1.symm
  · refine (r2.trans (Cert.Reference8Ideal.Read.val_main_v43_eq _ _ _)).trans ?_
    rw [a0, a1, a2]
    exact v2.symm

end Cert.AInBwd
end
-- ==== Proof.Mm.AInGrad.lean ====
module

public import proofs.«01_k».proof.Defs
public import proofs.«01_k».proof.Proof.Mm.Wgrad
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit

/-! The gradient of the first token mixer's input weights: the call's two result arrays are the reference's. -/

@[expose] public section
set_option maxRecDepth 16384
noncomputable section
namespace Cert.AInGrad
open Cert.Kernel9Ideal Cert.Kernel9Ideal.Gen Cert.Ext Cert.Wgrad Idealize.ShloMosaic Idealize.ShloMosaic.TcCoe Idealize.SL.Sem
open scoped BigOperators

variable (m : (ℓ : Loc nD τ sig) → Buf (Elt Ideal) ℓ) (c : Dev nD)
variable (f g : ℕ → ℕ → EReal) (h : ℕ → ℕ → ℕ → EReal)

theorem idx (t : Fin cfg0.N) : (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4) :=
  (by decide +kernel : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4)) t

theorem iblk0 (e : V m c main_arg0 = E2 (φ := .bf16) f) (t : Fin cfg0.N) :
    iblk m c 0 t = E2 (φ := .bf16) (blk 2048 1024 (t.val % 4) 0 f) := by
  funext y
  show V m c main_arg0 ((win0_0.rect t).emb y) = _
  rw [e]
  unfold E2 blk
  rw [win0_0.rect_emb_val t y 0, win0_0.rect_emb_val t y 1, (idx t).1.1, (idx t).1.2, Nat.mul_comm, Nat.mul_comm 0]
  rfl

theorem iblk1 (e : V m c main_arg1 = E2 (φ := .bf16) g) (t : Fin cfg0.N) :
    iblk m c 1 t = E2 (φ := .bf16) (blk 2048 640 (t.val % 4) (t.val / 4) g) := by
  funext y
  show V m c main_arg1 ((win0_1.rect t).emb y) = _
  rw [e]
  unfold E2 blk
  rw [win0_1.rect_emb_val t y 0, win0_1.rect_emb_val t y 1, (idx t).2.1.1, (idx t).2.1.2, Nat.mul_comm, Nat.mul_comm (t.val / 4)]
  rfl

theorem pay1 : k0_pay1 (F := Ideal) (E2 (φ := .bf16) f) (E2 (φ := .bf16) g)
    = E2 fun r c => ∑ i ∈ Finset.range 2048, f i r * g i c :=
  mm_tn f g none dot_S2048x1024_S2048x640_S1024x640_0_0_1_1_n_n rfl rfl (fun _ _ => rfl) (fun _ _ => rfl) (fun _ _ => rfl) fun _ _ => rfl

theorem pay2 : k0_pay2 (F := Ideal) (E2 (φ := .bf16) f) (E2 (φ := .bf16) g)
    = E3 fun _ r c => ∑ i ∈ Finset.range 2048, f i r * g i c := by
  unfold k0_pay2
  rw [pay1]
  exact addUnit_E2 _ _

theorem pay3 : k0_pay3 (F := Ideal) (E2 (φ := .bf16) f) (E2 (φ := .bf16) g) (E3 (φ := .f32) h)
    = E3 fun _ r c => h 0 r c + ∑ i ∈ Finset.range 2048, f i r * g i c := by
  unfold k0_pay3
  rw [pay1]
  refine (congrArg (fun x => shapeCast _ (addf x _) _) (dropUnit_E3 h _)).trans ?_
  exact addUnit_E2 (fun r c => h 0 r c + ∑ i ∈ Finset.range 2048, f i r * g i c) _

theorem pay4 : k0_pay4 (F := Ideal) (E3 (φ := .f32) h) = E3 fun _ => h 0 := by
  unfold k0_pay4
  refine (congrArg (fun x => shapeCast _ (truncf .bf16 x _) _) (dropUnit_E3 h _)).trans ?_
  exact addUnit_E2 _ _

/-- What the first result's block holds after point `t`: the product along the rows met so far. -/
theorem acc (e0 : V m c main_arg0 = E2 (φ := .bf16) f) (e1 : V m c main_arg1 = E2 (φ := .bf16) g) :
    ∀ (i : ℕ) (hi : i < cfg0.N), (outsAt0 m c i hi).1 = E3 (φ := .f32) fun _ => part f g 2048 1024 640 0 (i / 4) (i % 4 + 1) := by
  have first : ∀ t : Fin cfg0.N, t.val % 4 = 0 →
      (outsAt0 m c t.val t.isLt).1 = E3 (φ := .f32) fun _ => part f g 2048 1024 640 0 (t.val / 4) (t.val % 4 + 1) := by
    intro t h0
    rw [outsAt0_A m c t h0 (by omega) (by omega)]
    frame_out
    rw [iblk0 m c f e0, iblk1 m c g e1, pay2, h0]
    exact congrArg _ (funext fun _ => funext fun r => funext fun c => part_one f g 2048 1024 640 _ _ r c)
  intro i
  induction i with
  | zero => exact fun hi => first ⟨0, hi⟩ rfl
  | succ n ih =>
    intro hi
    by_cases h0 : (n + 1) % 4 = 0
    · exact first ⟨n + 1, hi⟩ h0
    have hd : (n + 1) / 4 = n / 4 := by omega
    have hm : (n + 1) % 4 = n % 4 + 1 := by omega
    have step : k0_pay3 (F := Ideal) (iblk m c 0 ⟨n + 1, hi⟩) (iblk m c 1 ⟨n + 1, hi⟩) (outsAt0 m c n (Nat.lt_of_succ_lt hi)).1
        = E3 (φ := .f32) fun _ => part f g 2048 1024 640 0 ((n + 1) / 4) ((n + 1) % 4 + 1) := by
      rw [ih (Nat.lt_of_succ_lt hi), iblk0 m c f e0, iblk1 m c g e1, pay3]
      dsimp only
      rw [hd, hm]
      exact congrArg _ (funext fun _ => funext fun r => funext fun c => part_succ f g 2048 1024 640 _ _ _ r c)
    by_cases h2 : (n + 1) % 4 = 3
    · refine (congrArg Prod.fst (outsAt0_C m c ⟨n + 1, hi⟩ h0 (by dsimp only; omega) h2)).trans ?_
      frame_out
      exact step
    · refine (congrArg Prod.fst (outsAt0_B m c ⟨n + 1, hi⟩ h0 (by dsimp only; omega) h2)).trans ?_
      frame_out
      exact step

/-- What the second result's block holds after the last rows: the same product. -/
theorem acc3 (e0 : V m c main_arg0 = E2 (φ := .bf16) f) (e1 : V m c main_arg1 = E2 (φ := .bf16) g) (t : Fin cfg0.N) (h2 : t.val % 4 = 3) :
    (outsAt0 m c t.val t.isLt).2 = E3 (φ := .bf16) fun _ => part f g 2048 1024 640 0 (t.val / 4) 4 := by
  have e := acc m c f g e0 e1 t.val t.isLt
  rw [outsAt0_C m c t (by omega) (by omega) h2] at e ⊢
  frame_out
  frame_out at e
  rw [e, pay4, h2]

theorem cover2 (i : S1x1024x2560.Idx) : ∃ t : Fin cfg0.N, (cfg0.win 2).flush t = true ∧ i ∈ ((cfg0.win 2).blk t).view.set := by
  have hN : cfg0.N = 16 := N_0
  have hi0 : (i 0 : Nat) < 1 := (i 0).isLt
  have hi1 : (i 1 : Nat) < 1024 := (i 1).isLt
  have hi2 : (i 2 : Nat) < 2560 := (i 2).isLt
  have ht : (i 2 : Nat) / 640 * 4 + 3 < cfg0.N := by omega
  refine ⟨⟨(i 2 : Nat) / 640 * 4 + 3, ht⟩, (flush0_2 _).mpr (by dsimp only; omega), ?_⟩
  refine (View.set_slice_whole main_v0_0 (win0_2.rect ⟨(i 2 : Nat) / 640 * 4 + 3, ht⟩)) ▸ ?_
  rw [Rect.mem_set_unit]
  intro a
  match a with
  | ⟨0, _⟩ =>
    show win0_2.index _ 0 * 1 ≤ (i 0 : Nat) ∧ (i 0 : Nat) < win0_2.index _ 0 * 1 + 1
    rw [(idx _).2.2.1.1]; omega
  | ⟨1, _⟩ =>
    show win0_2.index _ 1 * 1024 ≤ (i 1 : Nat) ∧ (i 1 : Nat) < win0_2.index _ 1 * 1024 + 1024
    rw [(idx _).2.2.1.2.1]; omega
  | ⟨2, _⟩ =>
    show win0_2.index _ 2 * 640 ≤ (i 2 : Nat) ∧ (i 2 : Nat) < win0_2.index _ 2 * 640 + 640
    rw [(idx _).2.2.1.2.2]; dsimp only; omega

theorem cover3 (i : S1x1024x2560.Idx) : ∃ t : Fin cfg0.N, (cfg0.win 3).flush t = true ∧ i ∈ ((cfg0.win 3).blk t).view.set := by
  have hN : cfg0.N = 16 := N_0
  have hi0 : (i 0 : Nat) < 1 := (i 0).isLt
  have hi1 : (i 1 : Nat) < 1024 := (i 1).isLt
  have hi2 : (i 2 : Nat) < 2560 := (i 2).isLt
  have ht : (i 2 : Nat) / 640 * 4 + 3 < cfg0.N := by omega
  refine ⟨⟨(i 2 : Nat) / 640 * 4 + 3, ht⟩, (flush0_3 _).mpr (by dsimp only; omega), ?_⟩
  refine (View.set_slice_whole main_v0_1 (win0_3.rect ⟨(i 2 : Nat) / 640 * 4 + 3, ht⟩)) ▸ ?_
  rw [Rect.mem_set_unit]
  intro a
  match a with
  | ⟨0, _⟩ =>
    show win0_3.index _ 0 * 1 ≤ (i 0 : Nat) ∧ (i 0 : Nat) < win0_3.index _ 0 * 1 + 1
    rw [(idx _).2.2.2.1]; omega
  | ⟨1, _⟩ =>
    show win0_3.index _ 1 * 1024 ≤ (i 1 : Nat) ∧ (i 1 : Nat) < win0_3.index _ 1 * 1024 + 1024
    rw [(idx _).2.2.2.2.1]; omega
  | ⟨2, _⟩ =>
    show win0_3.index _ 2 * 640 ≤ (i 2 : Nat) ∧ (i 2 : Nat) < win0_3.index _ 2 * 640 + 640
    rw [(idx _).2.2.2.2.2]; dsimp only; omega

theorem arr2 (e0 : V m c main_arg0 = E2 (φ := .bf16) f) (e1 : V m c main_arg1 = E2 (φ := .bf16) g) :
    (dats m 0 c).arrAt 2 cfg0.N = E3 (φ := .f32) fun _ => prod f g 8192 := by
  funext j
  refine (dats m 0 c).arrAt_forall_of_cover 2 (fun i v => v = E3 (φ := .f32) (fun _ => prod f g 8192) i) (fun t hf y => ?_) cover2 j
  rw [Value.flushed2, acc m c f g e0 e1 t.val t.isLt, (flush0_2 t).mp hf]
  show part f g 2048 1024 640 0 (t.val / 4) 4 (y 1).val (y 2).val = E3 (φ := .f32) (fun _ => prod f g 8192) ((win0_2.rect t).emb y)
  unfold E3 part
  dsimp only
  rw [win0_2.rect_emb_val t y 1, win0_2.rect_emb_val t y 2, (idx t).2.2.1.2.1, (idx t).2.2.1.2.2, Nat.mul_comm (t.val / 4), Nat.mul_comm 0]
  rfl

theorem arr3 (e0 : V m c main_arg0 = E2 (φ := .bf16) f) (e1 : V m c main_arg1 = E2 (φ := .bf16) g) :
    (dats m 0 c).arrAt 3 cfg0.N = E3 (φ := .bf16) fun _ => prod f g 8192 := by
  funext j
  refine (dats m 0 c).arrAt_forall_of_cover 3 (fun i v => v = E3 (φ := .bf16) (fun _ => prod f g 8192) i) (fun t hf y => ?_) cover3 j
  rw [Value.flushed3, acc3 m c f g e0 e1 t ((flush0_3 t).mp hf)]
  show part f g 2048 1024 640 0 (t.val / 4) 4 (y 1).val (y 2).val = E3 (φ := .bf16) (fun _ => prod f g 8192) ((win0_3.rect t).emb y)
  unfold E3 part
  dsimp only
  rw [win0_3.rect_emb_val t y 1, win0_3.rect_emb_val t y 2, (idx t).2.2.2.2.1, (idx t).2.2.2.2.2, Nat.mul_comm (t.val / 4), Nat.mul_comm 0]
  rfl

/-! The reference. -/

open Cert.Reference9Ideal.Read

theorem ref6 : val_main_v6 (F := Ideal) (E2 (φ := .bf16) f) (E2 (φ := .bf16) g) = E3 (φ := .f32) fun _ => prod f g 8192 := by
  funext i
  rw [val_main_v6_apply, val_main_v5_apply, val_main_v4_apply]
  refine (fin_range 8192 fun k => g k (i 2).val * f k (i 1).val).trans ?_
  exact prod_comm f g 8192 (i 1).val (i 2).val

theorem ref8 : val_main_v8 (F := Ideal) (E2 (φ := .bf16) f) (E2 (φ := .bf16) g) = E3 (φ := .bf16) fun _ => prod f g 8192 := by
  unfold val_main_v8
  rw [show val_main_v7 (F := Ideal) (E2 (φ := .bf16) f) (E2 (φ := .bf16) g) = _ from ref6 f g]
  rfl

/-- The call and the reference, run from the same arguments, end with the same two arrays. -/
theorem algebraic : Cert.algebraic_Kernel9Ideal_Reference9Ideal
    (hKernel9Ideal := Cert.Kernel9Ideal.Gen.facts) (hReference9Ideal := Cert.Reference9Ideal.Gen.facts) := by
  intro m g m' g' hp ha
  refine ⟨fun c => (dats m 0 c).arrAt 2 cfg0.N, fun c => (dats m 0 c).arrAt 3 cfg0.N, Cert.Kernel9Ideal.Value.run_blocks m g,
    (θ_run Cert.Reference9Ideal.defs _ _).mono (fun r hr c => ?_) (Cert.Reference9Ideal.Value.run m' g')⟩
  obtain ⟨r0, r1, k⟩ := hr c
  obtain ⟨a0, a1⟩ := ha c
  obtain ⟨x, e0⟩ := exists_E2 (m ((c : Thread nD τ).loc main_arg0))
  obtain ⟨y, e1⟩ := exists_E2 (m ((c : Thread nD τ).loc main_arg1))
  have h0 : V m c main_arg0 = E2 (φ := .bf16) x := (V_main_arg0 m c).trans e0
  have h1 : V m c main_arg1 = E2 (φ := .bf16) y := (V_main_arg1 m c).trans e1
  refine ⟨?_, ?_, k⟩
  · refine (r0.trans (Cert.Reference9Ideal.Read.val_main_v6_eq _ _)).trans ?_
    rw [a0, a1, e0, e1]
    exact (ref6 x y).trans (arr2 m c x y h0 h1).symm
  · refine (r1.trans (Cert.Reference9Ideal.Read.val_main_v8_eq _ _)).trans ?_
    rw [a0, a1, e0, e1]
    exact (ref8 x y).trans (arr3 m c x y h0 h1).symm

end Cert.AInGrad
end
-- ==== Proof.Mm.AIn.lean ====
module

public import proofs.«01_k».proof.Defs
public import proofs.«01_k».proof.Proof.Mm.Ext
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit

/-! The product into the first token mixer: the call's result array is the reference's. -/

@[expose] public section
set_option maxRecDepth 16384
noncomputable section
namespace Cert.AIn
open Cert.Kernel10Ideal Cert.Kernel10Ideal.Gen Cert.Ext Idealize.ShloMosaic Idealize.ShloMosaic.TcCoe Idealize.SL.Sem
open scoped BigOperators

/-- The product of the rows with the weights. -/
def prod (h : ℕ → ℕ → EReal) (w : ℕ → ℕ → ℕ → EReal) (r c : ℕ) : EReal := ∑ i ∈ Finset.range 1024, h r i * w 0 i c

variable (m : (ℓ : Loc nD τ sig) → Buf (Elt Ideal) ℓ) (c : Dev nD)
variable (h : ℕ → ℕ → EReal) (w : ℕ → ℕ → ℕ → EReal)

theorem idx (t : Fin cfg0.N) : (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0) :=
  (by decide +kernel : ∀ t : Fin grid0.N, (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0)) t

theorem iblk0 (e : V m c main_arg0 = E2 (φ := .bf16) h) (t : Fin cfg0.N) : iblk m c 0 t = E2 (φ := .bf16) (rows 512 t.val h) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.1 y, win0_1.rect_emb_val_of_index_zero t 1 (idx t).2.2.2.1 y,
    win0_1.rect_emb_val_of_index_zero t 2 (idx t).2.2.2.2 y]

theorem pay1 : k0_pay1 (F := Ideal) (E2 (φ := .bf16) h) (E3 (φ := .bf16) w) = E2 (prod h w) := by
  unfold k0_pay1
  refine (congrArg (fun x => FloatOps.matmul (F := Ideal) _ _ _ x _) (dropUnit_E3 w _)).trans ?_
  exact mm_nn h (w 0) none _ rfl

theorem out2 : out0_2 (F := Ideal) (E2 (φ := .bf16) h) (E3 (φ := .bf16) w) = E2 (φ := .f32) (prod h w) := by
  unfold out0_2
  refine (View.canon_cons_unit_lit _ _ _ (by decide)).trans ?_
  rw [View.ld_unit_lit _ _ (by decide), View.ld_unit_lit _ _ (by decide), pay1]

theorem cover2 (i : S8192x2560.Idx) : ∃ t : Fin cfg0.N, (cfg0.win 2).flush t = true ∧ i ∈ ((cfg0.win 2).blk t).view.set := by
  have hN : cfg0.N = 16 := N_0
  have hi0 : (i 0 : Nat) < 8192 := (i 0).isLt
  have hi1 : (i 1 : Nat) < 2560 := (i 1).isLt
  have ht : (i 0 : Nat) / 512 < cfg0.N := by omega
  refine ⟨⟨(i 0 : Nat) / 512, ht⟩, flush0_2 _, ?_⟩
  refine (View.set_slice_whole main_v0 (win0_2.rect ⟨(i 0 : Nat) / 512, ht⟩)) ▸ ?_
  rw [Rect.mem_set_unit]
  intro a
  match a with
  | ⟨0, _⟩ =>
    show win0_2.index _ 0 * 512 ≤ (i 0 : Nat) ∧ (i 0 : Nat) < win0_2.index _ 0 * 512 + 512
    rw [(idx _).2.1.1]; dsimp only; omega
  | ⟨1, _⟩ =>
    show win0_2.index _ 1 * 2560 ≤ (i 1 : Nat) ∧ (i 1 : Nat) < win0_2.index _ 1 * 2560 + 2560
    rw [(idx _).2.1.2]; omega

theorem arr2 (e0 : V m c main_arg0 = E2 (φ := .bf16) h) (e1 : V m c main_arg1 = E3 (φ := .bf16) w) :
    (dats m 0 c).arrAt 2 cfg0.N = E2 (φ := .f32) (prod h w) := by
  funext j
  refine (dats m 0 c).arrAt_forall_of_cover 2 (fun i v => v = E2 (φ := .f32) (prod h w) i) (fun t _ y => ?_) cover2 j
  rw [Value.flushed2, iblk0 m c h e0, iblk1 m c w e1, out2]
  show prod (rows 512 t.val h) w (y 0).val (y 1).val = E2 (φ := .f32) (prod h w) ((win0_2.rect t).emb y)
  unfold E2
  rw [win0_2.rect_emb_val t y 0, win0_2.rect_emb_val_of_index_zero t 1 (idx t).2.1.2 y, (idx t).2.1.1, Nat.mul_comm]
  rfl

/-! The reference. -/

open Cert.Reference10Ideal.Read (val_main_v0 val_main_v1 val_main_v2 val_main_v3)

theorem ref3 : val_main_v3 (F := Ideal) (E2 (φ := .bf16) h) (E3 (φ := .bf16) w) = E2 (φ := .f32) (prod h w) := by
  unfold val_main_v3 val_main_v2 val_main_v1 val_main_v0
  refine (congrArg (fun x => Host.dotGeneral (F := Ideal) _ none _ (extf .f32 x _)) (dropUnit_E3 w _)).trans ?_
  exact dot_nn h (w 0) none _ rfl

/-- The call and the reference, run from the same arguments, end with the same array. -/
theorem algebraic : Cert.algebraic_Kernel10Ideal_Reference10Ideal
    (hKernel10Ideal := Cert.Kernel10Ideal.Gen.facts) (hReference10Ideal := Cert.Reference10Ideal.Gen.facts) := by
  intro m g m' g' hp ha
  refine ⟨fun c => (dats m 0 c).arrAt 2 cfg0.N, Cert.Kernel10Ideal.Value.run_blocks m g,
    (θ_run Cert.Reference10Ideal.defs _ _).mono (fun r hr c => ?_) (Cert.Reference10Ideal.Value.run m' g')⟩
  obtain ⟨r0, k⟩ := hr c
  obtain ⟨a0, a1⟩ := ha c
  obtain ⟨h, e0⟩ := exists_E2 (m ((c : Thread nD τ).loc main_arg0))
  obtain ⟨w, e1⟩ := exists_E3 (m ((c : Thread nD τ).loc main_arg1))
  have h0 : V m c main_arg0 = E2 (φ := .bf16) h := (V_main_arg0 m c).trans e0
  have h1 : V m c main_arg1 = E3 (φ := .bf16) w := (V_main_arg1 m c).trans e1
  refine ⟨?_, k⟩
  refine (r0.trans (Cert.Reference10Ideal.Read.val_main_v3_eq _ _)).trans ?_
  rw [a0, a1, e0, e1]
  exact (ref3 h w).trans (arr2 m c h w h0 h1).symm

end Cert.AIn
end
-- ==== Proof.Mm.LastDown.lean ====
module

public import proofs.«01_k».proof.Defs
public import proofs.«01_k».proof.Proof.Mm.Ext
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit

/-! The second product of the last channel mixing, added to the rows it came from: the call's result array is the
reference's. -/

@[expose] public section
set_option maxRecDepth 16384
noncomputable section
namespace Cert.LastDown
open Cert.Kernel11Ideal Cert.Kernel11Ideal.Gen Cert.Ext Idealize.ShloMosaic Idealize.ShloMosaic.TcCoe Idealize.SL.Sem
open scoped BigOperators

/-- The rows plus the product. -/
def sum (s : ℕ → ℕ → EReal) (w : ℕ → ℕ → ℕ → EReal) (x : ℕ → ℕ → EReal) (r c : ℕ) : EReal :=
  x r c + ∑ i ∈ Finset.range 4096, s r i * w 0 i c

variable (m : (ℓ : Loc nD τ sig) → Buf (Elt Ideal) ℓ) (c : Dev nD)
variable (s : ℕ → ℕ → EReal) (w : ℕ → ℕ → ℕ → EReal) (x : ℕ → ℕ → EReal)

theorem idx (t : Fin cfg0.N) : (win0_0.index t 0 = t.val ∧ win0_0.index t 1 = 0) ∧ (win0_2.index t 0 = t.val ∧ win0_2.index t 1 = 0)
    ∧ (win0_3.index t 0 = t.val ∧ win0_3.index t 1 = 0) ∧ (win0_1.index t 0 = 0 ∧ win0_1.index t 1 = 0 ∧ win0_1.index t 2 = 0) :=
  (by decide +kernel : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_1.index t 0 = 0 ∧ win0_1.index t 1 = 0 ∧ win0_1.index t 2 = 0)) t

theorem iblk0 (e : V m c main_arg0 = E2 (φ := .bf16) s) (t : Fin cfg0.N) : iblk m c 0 t = E2 (φ := .bf16) (rows 512 t.val s) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk2 (e : V m c main_arg2 = E2 (φ := .f32) x) (t : Fin cfg0.N) : iblk m c 2 t = E2 (φ := .f32) (rows 512 t.val x) := by
  funext y
  show V m c main_arg2 ((win0_2.rect t).emb y) = _
  rw [e]
  unfold E2 rows
  rw [win0_2.rect_emb_val t y 0, win0_2.rect_emb_val_of_index_zero t 1 (idx t).2.1.2 y, (idx t).2.1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.2.1 y, win0_1.rect_emb_val_of_index_zero t 1 (idx t).2.2.2.2.1 y,
    win0_1.rect_emb_val_of_index_zero t 2 (idx t).2.2.2.2.2 y]

theorem pay1 : k0_pay1 (F := Ideal) (E2 (φ := .bf16) s) (E3 (φ := .bf16) w) (E2 (φ := .f32) x) = E2 (φ := .f32) (sum s w x) := by
  unfold k0_pay1
  refine (congrArg (fun p => addf (F := Ideal) (φ := .f32) _ (FloatOps.matmul (F := Ideal) _ _ _ p _)) (dropUnit_E3 w _)).trans ?_
  refine (congrArg (fun p => addf (F := Ideal) (φ := .f32) _ p) (mm_nn s (w 0) none _ rfl)).trans ?_
  rfl

theorem out3 : out0_3 (F := Ideal) (E2 (φ := .bf16) s) (E3 (φ := .bf16) w) (E2 (φ := .f32) x) = E2 (φ := .f32) (sum s w x) := by
  unfold out0_3
  refine (View.canon_cons_unit_lit _ _ _ (by decide)).trans ?_
  rw [View.ld_unit_lit _ _ (by decide), View.ld_unit_lit _ _ (by decide), View.ld_unit_lit _ _ (by decide), pay1]

theorem cover3 (i : S8192x1024.Idx) : ∃ t : Fin cfg0.N, (cfg0.win 3).flush t = true ∧ i ∈ ((cfg0.win 3).blk t).view.set := by
  have hN : cfg0.N = 16 := N_0
  have hi0 : (i 0 : Nat) < 8192 := (i 0).isLt
  have hi1 : (i 1 : Nat) < 1024 := (i 1).isLt
  have ht : (i 0 : Nat) / 512 < cfg0.N := by omega
  refine ⟨⟨(i 0 : Nat) / 512, ht⟩, flush0_3 _, ?_⟩
  refine (View.set_slice_whole main_v0 (win0_3.rect ⟨(i 0 : Nat) / 512, ht⟩)) ▸ ?_
  rw [Rect.mem_set_unit]
  intro a
  match a with
  | ⟨0, _⟩ =>
    show win0_3.index _ 0 * 512 ≤ (i 0 : Nat) ∧ (i 0 : Nat) < win0_3.index _ 0 * 512 + 512
    rw [(idx _).2.2.1.1]; dsimp only; omega
  | ⟨1, _⟩ =>
    show win0_3.index _ 1 * 1024 ≤ (i 1 : Nat) ∧ (i 1 : Nat) < win0_3.index _ 1 * 1024 + 1024
    rw [(idx _).2.2.1.2]; omega

theorem arr3 (e0 : V m c main_arg0 = E2 (φ := .bf16) s) (e1 : V m c main_arg1 = E3 (φ := .bf16) w)
    (e2 : V m c main_arg2 = E2 (φ := .f32) x) : (dats m 0 c).arrAt 3 cfg0.N = E2 (φ := .f32) (sum s w x) := by
  funext j
  refine (dats m 0 c).arrAt_forall_of_cover 3 (fun i v => v = E2 (φ := .f32) (sum s w x) i) (fun t _ y => ?_) cover3 j
  rw [Value.flushed3, iblk0 m c s e0, iblk1 m c w e1, iblk2 m c x e2, out3]
  show sum (rows 512 t.val s) w (rows 512 t.val x) (y 0).val (y 1).val = E2 (φ := .f32) (sum s w x) ((win0_3.rect t).emb y)
  unfold E2
  rw [win0_3.rect_emb_val t y 0, win0_3.rect_emb_val_of_index_zero t 1 (idx t).2.2.1.2 y, (idx t).2.2.1.1, Nat.mul_comm]
  rfl

/-! The reference. -/

open Cert.Reference11Ideal.Read (val_main_v0 val_main_v1 val_main_v2 val_main_v3 val_main_v4)

theorem ref4 : val_main_v4 (F := Ideal) (E2 (φ := .bf16) s) (E3 (φ := .bf16) w) (E2 (φ := .f32) x) = E2 (φ := .f32) (sum s w x) := by
  unfold val_main_v4 val_main_v3 val_main_v2 val_main_v1
  refine (congrArg (fun p => addf (F := Ideal) (φ := .f32) _ (Host.dotGeneral (F := Ideal) _ none _ (extf .f32 p _))) (dropUnit_E3 w _)).trans ?_
  refine (congrArg (fun p => addf (F := Ideal) (φ := .f32) _ p) (dot_nn s (w 0) none _ rfl)).trans ?_
  rfl

/-- The call and the reference, run from the same arguments, end with the same array. -/
theorem algebraic : Cert.algebraic_Kernel11Ideal_Reference11Ideal
    (hKernel11Ideal := Cert.Kernel11Ideal.Gen.facts) (hReference11Ideal := Cert.Reference11Ideal.Gen.facts) := by
  intro m g m' g' hp ha
  refine ⟨fun c => (dats m 0 c).arrAt 3 cfg0.N, Cert.Kernel11Ideal.Value.run_blocks m g,
    (θ_run Cert.Reference11Ideal.defs _ _).mono (fun r hr c => ?_) (Cert.Reference11Ideal.Value.run m' g')⟩
  obtain ⟨r0, k⟩ := hr c
  obtain ⟨a0, a1, a2⟩ := ha c
  obtain ⟨s, e0⟩ := exists_E2 (m ((c : Thread nD τ).loc main_arg0))
  obtain ⟨w, e1⟩ := exists_E3 (m ((c : Thread nD τ).loc main_arg1))
  obtain ⟨x, e2⟩ := exists_E2 (m ((c : Thread nD τ).loc main_arg2))
  have h0 := (V_main_arg0 m c).trans e0
  have h1 := (V_main_arg1 m c).trans e1
  have h2 := (V_main_arg2 m c).trans e2
  refine ⟨?_, k⟩
  refine (r0.trans (Cert.Reference11Ideal.Read.val_main_v4_eq _ _ _)).trans ?_
  rw [a0, a1, a2, e0, e1, e2]
  exact (ref4 s w x).trans (arr3 m c s w x h0 h1 h2).symm

end Cert.LastDown
end
-- ==== Proof.Mm.Adam.lean ====
module

public import Idealize.ShloMosaic.PureOps.Ideal
public import Idealize.ShloMosaic.PureOps.IdealRules

/-! One step of the optimiser, element by element: the moments, and the change of the weight in the form that divides by
the two corrections and in the form that multiplies by their reciprocals. -/

@[expose] public section
noncomputable section
namespace Cert.Adam
open Idealize.ShloMosaic

/-- The new first moment of an element, from its gradient and its first moment. -/
def newM (g m : EReal) : EReal := Ideal.ofBits .f32 0x3F666666#32 * m + Ideal.ofBits .f32 0x3DCCCCCD#32 * g

/-- The new second moment of an element, from its gradient and its second moment. -/
def newV (g v : EReal) : EReal := Ideal.ofBits .f32 0x3F7FBE77#32 * v + Ideal.ofBits .f32 0x3A83126F#32 * (g * g)

/-- The change of an element, from its corrected moments. -/
def change (w mh vh : EReal) : EReal :=
  Ideal.ofBits .f32 0xBA83126F#32
    * (Ideal.div mh (Ideal.sqrt vh + Ideal.ofBits .f32 0x322BCC77#32) + Ideal.ofBits .f32 0x3C23D70A#32 * w)

/-- The change of an element, the moments corrected by division. -/
def delta (g w m v : EReal) : EReal :=
  change w (Ideal.div (newM g m) (Ideal.ofBits .f32 0x3F26BD02#32)) (Ideal.div (newV g v) (Ideal.ofBits .f32 0x3C231ACC#32))

theorem bits_c1 : Ideal.ofBits .f32 0x3F26BD02#32 = ((5463681 / 8388608 : ℝ) : EReal) := by
  simp [Ideal.ofBits, Ideal.ieee, -EReal.coe_mul]; norm_num

theorem bits_c2 : Ideal.ofBits .f32 0x3C231ACC#32 = ((2672307 / 268435456 : ℝ) : EReal) := by
  simp [Ideal.ofBits, Ideal.ieee, -EReal.coe_mul]; norm_num

/-- The moments corrected by the reciprocals give the same change. -/
theorem change_eq (g w m v : EReal) :
    change w (newM g m * ((8388608 / 5463681 : ℝ) : EReal)) (newV g v * ((268435456 / 2672307 : ℝ) : EReal)) = delta g w m v := by
  unfold delta
  rw [bits_c1, bits_c2, Ideal.div_coe (by norm_num), Ideal.div_coe (by norm_num)]
  norm_num

/-- The two named constants are what their table says. -/
theorem named_constants (κ : String → Option EReal) (h1 : κ "c1" = some ((8388608 / 5463681 : ℝ) : EReal))
    (h2 : κ "c2" = some ((268435456 / 2672307 : ℝ) : EReal)) :
    IdealRules.named_const.Statement κ "c1" .f32 0x3FC48605#32 ((8388608 / 5463681 : ℝ) : EReal)
      ∧ IdealRules.named_const.Statement κ "c2" .f32 0x42C8E6D3#32 ((268435456 / 2672307 : ℝ) : EReal) :=
  ⟨IdealRules.named_const.statement κ "c1" .f32 _ _ h1, IdealRules.named_const.statement κ "c2" .f32 _ _ h2⟩

end Cert.Adam
end
-- ==== Proof.Mm.AdamMlp.lean ====
module

public import proofs.«01_k».proof.Defs
public import proofs.«01_k».proof.Proof.Mm.Adam
public import proofs.«01_k».proof.Proof.Gen.Kernel12Ideal.Value
public import proofs.«01_k».proof.Proof.Gen.Reference12Ideal.Run
public import Idealize.ShloMosaic.Lib.Pipeline.ValueKit

/-! The optimiser's step of the channel mixing's weights: the call's three arrays are the reference's. -/

@[expose] public section
set_option maxRecDepth 16384
noncomputable section
namespace Cert.AdamMlp
open Cert.Kernel12Ideal Cert.Kernel12Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S4096x1024 (m ((c : Thread nD τ).loc main_arg0)) shapeCasts_S4x1024x1024_S4096x1024
    ∧ V m c main_v1 = shapeCast S4096x1024 (m ((c : Thread nD τ).loc main_arg1)) shapeCasts_S4x1024x1024_S4096x1024
    ∧ V m c main_v2 = shapeCast S4096x1024 (m ((c : Thread nD τ).loc main_arg2)) shapeCasts_S4x1024x1024_S4096x1024
    ∧ V m c main_v3 = shapeCast S4096x1024 (m ((c : Thread nD τ).loc main_arg3)) shapeCasts_S4x1024x1024_S4096x1024 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel12Ideal_Reference12Ideal (hKernel12Ideal := Cert.Kernel12Ideal.Gen.facts) (hReference12Ideal := Cert.Reference12Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel12Ideal.Value.run_blocks m g,
    (θ_run Cert.Reference12Ideal.defs _ _).mono (fun r hr c => ?_) (Cert.Reference12Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamMlp
end
-- ==== Proof.Mm.AdamAIn.lean ====
module

public import proofs.«01_k».proof.Defs
public import proofs.«01_k».proof.Proof.Mm.Adam
public import proofs.«01_k».proof.Proof.Gen.Kernel13Ideal.Value
public import proofs.«01_k».proof.Proof.Gen.Reference13Ideal.Run
public import Idealize.ShloMosaic.Lib.Pipeline.ValueKit

/-! The optimiser's step of the first mixer's input weights: the call's three arrays are the reference's. -/

@[expose] public section
set_option maxRecDepth 16384
noncomputable section
namespace Cert.AdamAIn
open Cert.Kernel13Ideal Cert.Kernel13Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S2048x640 (m ((c : Thread nD τ).loc main_arg0)) shapeCasts_S2x1024x640_S2048x640
    ∧ V m c main_v1 = shapeCast S2048x640 (m ((c : Thread nD τ).loc main_arg1)) shapeCasts_S2x1024x640_S2048x640
    ∧ V m c main_v2 = shapeCast S2048x640 (m ((c : Thread nD τ).loc main_arg2)) shapeCasts_S2x1024x640_S2048x640
    ∧ V m c main_v3 = shapeCast S2048x640 (m ((c : Thread nD τ).loc main_arg3)) shapeCasts_S2x1024x640_S2048x640 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel13Ideal_Reference13Ideal (hKernel13Ideal := Cert.Kernel13Ideal.Gen.facts) (hReference13Ideal := Cert.Reference13Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel13Ideal.Value.run_blocks m g,
    (θ_run Cert.Reference13Ideal.defs _ _).mono (fun r hr c => ?_) (Cert.Reference13Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamAIn
end
-- ==== Proof.Mm.AdamAOut.lean ====
module

public import proofs.«01_k».proof.Defs
public import proofs.«01_k».proof.Proof.Mm.Adam
public import proofs.«01_k».proof.Proof.Gen.Kernel14Ideal.Value
public import proofs.«01_k».proof.Proof.Gen.Reference14Ideal.Run
public import Idealize.ShloMosaic.Lib.Pipeline.ValueKit

/-! The optimiser's step of the first mixer's output weights: the call's three arrays are the reference's. -/

@[expose] public section
set_option maxRecDepth 16384
noncomputable section
namespace Cert.AdamAOut
open Cert.Kernel14Ideal Cert.Kernel14Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S640x1024 (m ((c : Thread nD τ).loc main_arg0)) shapeCasts_S2x320x1024_S640x1024
    ∧ V m c main_v1 = shapeCast S640x1024 (m ((c : Thread nD τ).loc main_arg1)) shapeCasts_S2x320x1024_S640x1024
    ∧ V m c main_v2 = shapeCast S640x1024 (m ((c : Thread nD τ).loc main_arg2)) shapeCasts_S2x320x1024_S640x1024
    ∧ V m c main_v3 = shapeCast S640x1024 (m ((c : Thread nD τ).loc main_arg3)) shapeCasts_S2x320x1024_S640x1024 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel14Ideal_Reference14Ideal (hKernel14Ideal := Cert.Kernel14Ideal.Gen.facts) (hReference14Ideal := Cert.Reference14Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel14Ideal.Value.run_blocks m g,
    (θ_run Cert.Reference14Ideal.defs _ _).mono (fun r hr c => ?_) (Cert.Reference14Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamAOut
end
-- ==== Proof.Mm.AdamBIn.lean ====
module

public import proofs.«01_k».proof.Defs
public import proofs.«01_k».proof.Proof.Mm.Adam
public import proofs.«01_k».proof.Proof.Gen.Kernel15Ideal.Value
public import proofs.«01_k».proof.Proof.Gen.Reference15Ideal.Run
public import Idealize.ShloMosaic.Lib.Pipeline.ValueKit

/-! The optimiser's step of the second mixer's input weights: the call's three arrays are the reference's. -/

@[expose] public section
set_option maxRecDepth 16384
noncomputable section
namespace Cert.AdamBIn
open Cert.Kernel15Ideal Cert.Kernel15Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S1024x512 (m ((c : Thread nD τ).loc main_arg0)) shapeCasts_S1x1024x512_S1024x512
    ∧ V m c main_v1 = shapeCast S1024x512 (m ((c : Thread nD τ).loc main_arg1)) shapeCasts_S1x1024x512_S1024x512
    ∧ V m c main_v2 = shapeCast S1024x512 (m ((c : Thread nD τ).loc main_arg2)) shapeCasts_S1x1024x512_S1024x512
    ∧ V m c main_v3 = shapeCast S1024x512 (m ((c : Thread nD τ).loc main_arg3)) shapeCasts_S1x1024x512_S1024x512 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel15Ideal_Reference15Ideal (hKernel15Ideal := Cert.Kernel15Ideal.Gen.facts) (hReference15Ideal := Cert.Reference15Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel15Ideal.Value.run_blocks m g,
    (θ_run Cert.Reference15Ideal.defs _ _).mono (fun r hr c => ?_) (Cert.Reference15Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamBIn
end
-- ==== Proof.Mm.AdamCIn.lean ====
module

public import proofs.«01_k».proof.Defs
public import proofs.«01_k».proof.Proof.Mm.Adam
public import proofs.«01_k».proof.Proof.Gen.Kernel16Ideal.Value
public import proofs.«01_k».proof.Proof.Gen.Reference16Ideal.Run
public import Idealize.ShloMosaic.Lib.Pipeline.ValueKit

/-! The optimiser's step of the third mixer's input weights: the call's three arrays are the reference's. -/

@[expose] public section
set_option maxRecDepth 16384
noncomputable section
namespace Cert.AdamCIn
open Cert.Kernel16Ideal Cert.Kernel16Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S1024x768 (m ((c : Thread nD τ).loc main_arg0)) shapeCasts_S1x1024x768_S1024x768
    ∧ V m c main_v1 = shapeCast S1024x768 (m ((c : Thread nD τ).loc main_arg1)) shapeCasts_S1x1024x768_S1024x768
    ∧ V m c main_v2 = shapeCast S1024x768 (m ((c : Thread nD τ).loc main_arg2)) shapeCasts_S1x1024x768_S1024x768
    ∧ V m c main_v3 = shapeCast S1024x768 (m ((c : Thread nD τ).loc main_arg3)) shapeCasts_S1x1024x768_S1024x768 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel16Ideal_Reference16Ideal (hKernel16Ideal := Cert.Kernel16Ideal.Gen.facts) (hReference16Ideal := Cert.Reference16Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel16Ideal.Value.run_blocks m g,
    (θ_run Cert.Reference16Ideal.defs _ _).mono (fun r hr c => ?_) (Cert.Reference16Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamCIn
end
-- ==== Proof.Mm.AdamOut.lean ====
module

public import proofs.«01_k».proof.Defs
public import proofs.«01_k».proof.Proof.Mm.Adam
public import proofs.«01_k».proof.Proof.Gen.Kernel17Ideal.Value
public import proofs.«01_k».proof.Proof.Gen.Reference17Ideal.Run
public import Idealize.ShloMosaic.Lib.Pipeline.ValueKit

/-! The optimiser's step of the second and the third mixer's output weights: the call's three arrays are the reference's. -/

@[expose] public section
set_option maxRecDepth 16384
noncomputable section
namespace Cert.AdamOut
open Cert.Kernel17Ideal Cert.Kernel17Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S256x1024 (m ((c : Thread nD τ).loc main_arg0)) shapeCasts_S1x256x1024_S256x1024
    ∧ V m c main_v1 = shapeCast S256x1024 (m ((c : Thread nD τ).loc main_arg1)) shapeCasts_S1x256x1024_S256x1024
    ∧ V m c main_v2 = shapeCast S256x1024 (m ((c : Thread nD τ).loc main_arg2)) shapeCasts_S1x256x1024_S256x1024
    ∧ V m c main_v3 = shapeCast S256x1024 (m ((c : Thread nD τ).loc main_arg3)) shapeCasts_S1x256x1024_S256x1024 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel17Ideal_Reference17Ideal (hKernel17Ideal := Cert.Kernel17Ideal.Gen.facts) (hReference17Ideal := Cert.Reference17Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel17Ideal.Value.run_blocks m g,
    (θ_run Cert.Reference17Ideal.defs _ _).mono (fun r hr c => ?_) (Cert.Reference17Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamOut
end
-- ==== Proof.Mm.AdamGates.lean ====
module

public import proofs.«01_k».proof.Defs
public import proofs.«01_k».proof.Proof.Mm.Adam
public import proofs.«01_k».proof.Proof.Gen.Kernel18Ideal.Value
public import proofs.«01_k».proof.Proof.Gen.Reference18Ideal.Run
public import Idealize.ShloMosaic.Lib.Pipeline.ValueKit

/-! The optimiser's step of the first mixer's gate weights: the call's three arrays are the reference's. -/

@[expose] public section
set_option maxRecDepth 16384
noncomputable section
namespace Cert.AdamGates
open Cert.Kernel18Ideal Cert.Kernel18Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S2560x80 (m ((c : Thread nD τ).loc main_arg0)) shapeCasts_S2x16x80x80_S2560x80
    ∧ V m c main_v1 = shapeCast S2560x80 (m ((c : Thread nD τ).loc main_arg1)) shapeCasts_S2x16x80x80_S2560x80
    ∧ V m c main_v2 = shapeCast S2560x80 (m ((c : Thread nD τ).loc main_arg2)) shapeCasts_S2x16x80x80_S2560x80
    ∧ V m c main_v3 = shapeCast S2560x80 (m ((c : Thread nD τ).loc main_arg3)) shapeCasts_S2x16x80x80_S2560x80 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel18Ideal_Reference18Ideal (hKernel18Ideal := Cert.Kernel18Ideal.Gen.facts) (hReference18Ideal := Cert.Reference18Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel18Ideal.Value.run_blocks m g,
    (θ_run Cert.Reference18Ideal.defs _ _).mono (fun r hr c => ?_) (Cert.Reference18Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamGates
end
-- ==== Proof.Mm.AdamMix.lean ====
module

public import proofs.«01_k».proof.Defs
public import proofs.«01_k».proof.Proof.Mm.Adam
public import proofs.«01_k».proof.Proof.Gen.Kernel19Ideal.Value
public import proofs.«01_k».proof.Proof.Gen.Reference19Ideal.Run
public import Idealize.ShloMosaic.Lib.Pipeline.ValueKit

/-! The optimiser's step of the second mixer's mixing matrices: the call's three arrays are the reference's. -/

@[expose] public section
set_option maxRecDepth 16384
noncomputable section
namespace Cert.AdamMix
open Cert.Kernel19Ideal Cert.Kernel19Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S1024x128 (m ((c : Thread nD τ).loc main_arg0)) shapeCasts_S1x8x128x128_S1024x128
    ∧ V m c main_v1 = shapeCast S1024x128 (m ((c : Thread nD τ).loc main_arg1)) shapeCasts_S1x8x128x128_S1024x128
    ∧ V m c main_v2 = shapeCast S1024x128 (m ((c : Thread nD τ).loc main_arg2)) shapeCasts_S1x8x128x128_S1024x128
    ∧ V m c main_v3 = shapeCast S1024x128 (m ((c : Thread nD τ).loc main_arg3)) shapeCasts_S1x8x128x128_S1024x128 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel19Ideal_Reference19Ideal (hKernel19Ideal := Cert.Kernel19Ideal.Gen.facts) (hReference19Ideal := Cert.Reference19Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel19Ideal.Value.run_blocks m g,
    (θ_run Cert.Reference19Ideal.defs _ _).mono (fun r hr c => ?_) (Cert.Reference19Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamMix
end
-- ==== Proof.Mm.AdamNorm.lean ====
module

public import proofs.«01_k».proof.Defs
public import proofs.«01_k».proof.Proof.Mm.Adam
public import proofs.«01_k».proof.Proof.Gen.Kernel20Ideal.Value
public import proofs.«01_k».proof.Proof.Gen.Reference20Ideal.Run
public import Idealize.ShloMosaic.Lib.Pipeline.ValueKit

/-! The optimiser's step of the gains of the layers' norms: the call's three arrays are the reference's. -/

@[expose] public section
set_option maxRecDepth 16384
noncomputable section
namespace Cert.AdamNorm
open Cert.Kernel20Ideal Cert.Kernel20Ideal.Gen Cert.Adam Idealize.ShloMosaic Idealize.ShloMosaic.TcCoe Idealize.SL.Sem

variable (m : (ℓ : Loc nD τ sig) → Buf (Elt Ideal) ℓ) (c : Dev nD)

/-- The arrays that the call leaves, element by element. -/
theorem arrays : ((dats m 0 c).arrAt 4 cfg0.N = fun i => delta (V m c main_arg0 i) (V m c main_arg1 i) (V m c main_arg2 i) (V m c main_arg3 i))
    ∧ ((dats m 0 c).arrAt 5 cfg0.N = fun i => newM (V m c main_arg0 i) (V m c main_arg2 i))
    ∧ ((dats m 0 c).arrAt 6 cfg0.N = fun i => newV (V m c main_arg0 i) (V m c main_arg3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay3 k0_pay2 k0_pay1; exact change_eq _ _ _ _
  · rw [after0_5]; frame_out; unfold k0_pay1; rfl
  · rw [after0_6]; frame_out; unfold k0_pay2; rfl

/-- The call and the reference, run from the same arguments, end with the same three arrays. -/
theorem algebraic : Cert.algebraic_Kernel20Ideal_Reference20Ideal (hKernel20Ideal := Cert.Kernel20Ideal.Gen.facts) (hReference20Ideal := Cert.Reference20Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel20Ideal.Value.run_blocks m g,
    (θ_run Cert.Reference20Ideal.defs _ _).mono (fun r hr c => ?_) (Cert.Reference20Ideal.Value.run m' g')⟩
  obtain ⟨r0, r1, r2, k⟩ := hr c
  obtain ⟨a0, a1, a2, a3⟩ := ha c
  obtain ⟨b0, b1, b2⟩ := arrays m c
  have v0 := V_main_arg0 m c
  have v1 := V_main_arg1 m c
  have v2 := V_main_arg2 m c
  have v3 := V_main_arg3 m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamNorm
end
-- ==== Proof.Mm.AdamUnitNorm.lean ====
module

public import proofs.«01_k».proof.Defs
public import proofs.«01_k».proof.Proof.Mm.Adam
public import proofs.«01_k».proof.Proof.Gen.Kernel21Ideal.Value
public import proofs.«01_k».proof.Proof.Gen.Reference21Ideal.Run
public import Idealize.ShloMosaic.Lib.Pipeline.ValueKit

/-! The optimiser's step of the gains of the second mixer's norm: the call's three arrays are the reference's. -/

@[expose] public section
set_option maxRecDepth 16384
noncomputable section
namespace Cert.AdamUnitNorm
open Cert.Kernel21Ideal Cert.Kernel21Ideal.Gen Cert.Adam Idealize.ShloMosaic Idealize.ShloMosaic.TcCoe Idealize.SL.Sem

variable (m : (ℓ : Loc nD τ sig) → Buf (Elt Ideal) ℓ) (c : Dev nD)

/-- The arrays that the call leaves, element by element. -/
theorem arrays : ((dats m 0 c).arrAt 4 cfg0.N = fun i => delta (V m c main_arg0 i) (V m c main_arg1 i) (V m c main_arg2 i) (V m c main_arg3 i))
    ∧ ((dats m 0 c).arrAt 5 cfg0.N = fun i => newM (V m c main_arg0 i) (V m c main_arg2 i))
    ∧ ((dats m 0 c).arrAt 6 cfg0.N = fun i => newV (V m c main_arg0 i) (V m c main_arg3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay3 k0_pay2 k0_pay1; exact change_eq _ _ _ _
  · rw [after0_5]; frame_out; unfold k0_pay1; rfl
  · rw [after0_6]; frame_out; unfold k0_pay2; rfl

/-- The call and the reference, run from the same arguments, end with the same three arrays. -/
theorem algebraic : Cert.algebraic_Kernel21Ideal_Reference21Ideal (hKernel21Ideal := Cert.Kernel21Ideal.Gen.facts) (hReference21Ideal := Cert.Reference21Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel21Ideal.Value.run_blocks m g,
    (θ_run Cert.Reference21Ideal.defs _ _).mono (fun r hr c => ?_) (Cert.Reference21Ideal.Value.run m' g')⟩
  obtain ⟨r0, r1, r2, k⟩ := hr c
  obtain ⟨a0, a1, a2, a3⟩ := ha c
  obtain ⟨b0, b1, b2⟩ := arrays m c
  have v0 := V_main_arg0 m c
  have v1 := V_main_arg1 m c
  have v2 := V_main_arg2 m c
  have v3 := V_main_arg3 m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamUnitNorm
end
-- ==== Proof.Mm.AdamLastNorm.lean ====
module

public import proofs.«01_k».proof.Defs
public import proofs.«01_k».proof.Proof.Mm.Adam
public import proofs.«01_k».proof.Proof.Gen.Kernel22Ideal.Value
public import proofs.«01_k».proof.Proof.Gen.Reference22Ideal.Run
public import Idealize.ShloMosaic.Lib.Pipeline.ValueKit

/-! The optimiser's step of the gains of the last norm: the call's three arrays are the reference's. -/

@[expose] public section
set_option maxRecDepth 16384
noncomputable section
namespace Cert.AdamLastNorm
open Cert.Kernel22Ideal Cert.Kernel22Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S1x1024 (m ((c : Thread nD τ).loc main_arg0)) shapeCasts_S1024_S1x1024
    ∧ V m c main_v1 = shapeCast S1x1024 (m ((c : Thread nD τ).loc main_arg1)) shapeCasts_S1024_S1x1024
    ∧ V m c main_v2 = shapeCast S1x1024 (m ((c : Thread nD τ).loc main_arg2)) shapeCasts_S1024_S1x1024
    ∧ V m c main_v3 = shapeCast S1x1024 (m ((c : Thread nD τ).loc main_arg3)) shapeCasts_S1024_S1x1024 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel22Ideal_Reference22Ideal (hKernel22Ideal := Cert.Kernel22Ideal.Gen.facts) (hReference22Ideal := Cert.Reference22Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel22Ideal.Value.run_blocks m g,
    (θ_run Cert.Reference22Ideal.defs _ _).mono (fun r hr c => ?_) (Cert.Reference22Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamLastNorm
end
-- ==== Proof.Mm.AdamConv.lean ====
module

public import proofs.«01_k».proof.Defs
public import proofs.«01_k».proof.Proof.Mm.Adam
public import proofs.«01_k».proof.Proof.Gen.Kernel23Ideal.Value
public import proofs.«01_k».proof.Proof.Gen.Reference23Ideal.Run
public import Idealize.ShloMosaic.Lib.Pipeline.ValueKit

/-! The optimiser's step of the first mixer's convolution weights: the call's three arrays are the reference's. -/

@[expose] public section
set_option maxRecDepth 16384
noncomputable section
namespace Cert.AdamConv
open Cert.Kernel23Ideal Cert.Kernel23Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S8x320 (m ((c : Thread nD τ).loc main_arg0)) shapeCasts_S2x4x320_S8x320
    ∧ V m c main_v1 = shapeCast S8x320 (m ((c : Thread nD τ).loc main_arg1)) shapeCasts_S2x4x320_S8x320
    ∧ V m c main_v2 = shapeCast S8x320 (m ((c : Thread nD τ).loc main_arg2)) shapeCasts_S2x4x320_S8x320
    ∧ V m c main_v3 = shapeCast S8x320 (m ((c : Thread nD τ).loc main_arg3)) shapeCasts_S2x4x320_S8x320 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel23Ideal_Reference23Ideal (hKernel23Ideal := Cert.Kernel23Ideal.Gen.facts) (hReference23Ideal := Cert.Reference23Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel23Ideal.Value.run_blocks m g,
    (θ_run Cert.Reference23Ideal.defs _ _).mono (fun r hr c => ?_) (Cert.Reference23Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamConv
end
-- ==== Proof.Mm.AdamVec.lean ====
module

public import proofs.«01_k».proof.Defs
public import proofs.«01_k».proof.Proof.Mm.Adam
public import proofs.«01_k».proof.Proof.Gen.Kernel24Ideal.Value
public import proofs.«01_k».proof.Proof.Gen.Reference24Ideal.Run
public import Idealize.ShloMosaic.Lib.Pipeline.ValueKit

/-! The optimiser's step of the first mixer's biases and decay: the call's three arrays are the reference's. -/

@[expose] public section
set_option maxRecDepth 16384
noncomputable section
namespace Cert.AdamVec
open Cert.Kernel24Ideal Cert.Kernel24Ideal.Gen Cert.Adam Idealize.ShloMosaic Idealize.ShloMosaic.TcCoe Idealize.SL.Sem

variable (m : (ℓ : Loc nD τ sig) → Buf (Elt Ideal) ℓ) (c : Dev nD)

/-- The arrays that the call leaves, element by element. -/
theorem arrays : ((dats m 0 c).arrAt 4 cfg0.N = fun i => delta (V m c main_arg0 i) (V m c main_arg1 i) (V m c main_arg2 i) (V m c main_arg3 i))
    ∧ ((dats m 0 c).arrAt 5 cfg0.N = fun i => newM (V m c main_arg0 i) (V m c main_arg2 i))
    ∧ ((dats m 0 c).arrAt 6 cfg0.N = fun i => newV (V m c main_arg0 i) (V m c main_arg3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay3 k0_pay2 k0_pay1; exact change_eq _ _ _ _
  · rw [after0_5]; frame_out; unfold k0_pay1; rfl
  · rw [after0_6]; frame_out; unfold k0_pay2; rfl

/-- The call and the reference, run from the same arguments, end with the same three arrays. -/
theorem algebraic : Cert.algebraic_Kernel24Ideal_Reference24Ideal (hKernel24Ideal := Cert.Kernel24Ideal.Gen.facts) (hReference24Ideal := Cert.Reference24Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel24Ideal.Value.run_blocks m g,
    (θ_run Cert.Reference24Ideal.defs _ _).mono (fun r hr c => ?_) (Cert.Reference24Ideal.Value.run m' g')⟩
  obtain ⟨r0, r1, r2, k⟩ := hr c
  obtain ⟨a0, a1, a2, a3⟩ := ha c
  obtain ⟨b0, b1, b2⟩ := arrays m c
  have v0 := V_main_arg0 m c
  have v1 := V_main_arg1 m c
  have v2 := V_main_arg2 m c
  have v3 := V_main_arg3 m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamVec
end
-- ==== Proof.Mm.AdamBias.lean ====
module

public import proofs.«01_k».proof.Defs
public import proofs.«01_k».proof.Proof.Mm.Adam
public import proofs.«01_k».proof.Proof.Gen.Kernel25Ideal.Value
public import proofs.«01_k».proof.Proof.Gen.Reference25Ideal.Run
public import Idealize.ShloMosaic.Lib.Pipeline.ValueKit

/-! The optimiser's step of the second mixer's mixing bias: the call's three arrays are the reference's. -/

@[expose] public section
set_option maxRecDepth 16384
noncomputable section
namespace Cert.AdamBias
open Cert.Kernel25Ideal Cert.Kernel25Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S8x128 (m ((c : Thread nD τ).loc main_arg0)) shapeCasts_S1x8x128_S8x128
    ∧ V m c main_v1 = shapeCast S8x128 (m ((c : Thread nD τ).loc main_arg1)) shapeCasts_S1x8x128_S8x128
    ∧ V m c main_v2 = shapeCast S8x128 (m ((c : Thread nD τ).loc main_arg2)) shapeCasts_S1x8x128_S8x128
    ∧ V m c main_v3 = shapeCast S8x128 (m ((c : Thread nD τ).loc main_arg3)) shapeCasts_S1x8x128_S8x128 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel25Ideal_Reference25Ideal (hKernel25Ideal := Cert.Kernel25Ideal.Gen.facts) (hReference25Ideal := Cert.Reference25Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel25Ideal.Value.run_blocks m g,
    (θ_run Cert.Reference25Ideal.defs _ _).mono (fun r hr c => ?_) (Cert.Reference25Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamBias
end
-- ==== Proof.Mm.AdamShort.lean ====
module

public import proofs.«01_k».proof.Defs
public import proofs.«01_k».proof.Proof.Mm.Adam
public import proofs.«01_k».proof.Proof.Gen.Kernel26Ideal.Value
public import proofs.«01_k».proof.Proof.Gen.Reference26Ideal.Run
public import Idealize.ShloMosaic.Lib.Pipeline.ValueKit

/-! The optimiser's step of the third mixer's convolution weights: the call's three arrays are the reference's. -/

@[expose] public section
set_option maxRecDepth 16384
noncomputable section
namespace Cert.AdamShort
open Cert.Kernel26Ideal Cert.Kernel26Ideal.Gen Cert.Adam Idealize.ShloMosaic Idealize.ShloMosaic.TcCoe Idealize.SL.Sem

variable (m : (ℓ : Loc nD τ sig) → Buf (Elt Ideal) ℓ) (c : Dev nD)

/-- The arguments as the call takes them: the rows of their last axis. -/
theorem V_rows : V m c main_v0 = shapeCast S3x256 (m ((c : Thread nD τ).loc main_arg0)) shapeCasts_S1x3x256_S3x256
    ∧ V m c main_v1 = shapeCast S3x256 (m ((c : Thread nD τ).loc main_arg1)) shapeCasts_S1x3x256_S3x256
    ∧ V m c main_v2 = shapeCast S3x256 (m ((c : Thread nD τ).loc main_arg2)) shapeCasts_S1x3x256_S3x256
    ∧ V m c main_v3 = shapeCast S3x256 (m ((c : Thread nD τ).loc main_arg3)) shapeCasts_S1x3x256_S3x256 := by
  simp only [V, hostOps0, List.flatten_cons, List.flatten_nil, List.append_nil, List.cons_append, List.nil_append]
  refine ⟨?_, ?_, ?_, ?_⟩ <;> after_results <;> rfl

/-- The arrays that the call leaves, element by element. -/
theorem arrays : ((dats m 0 c).arrAt 4 cfg0.N = fun i => delta (V m c main_v0 i) (V m c main_v1 i) (V m c main_v2 i) (V m c main_v3 i))
    ∧ ((dats m 0 c).arrAt 5 cfg0.N = fun i => newM (V m c main_v0 i) (V m c main_v2 i))
    ∧ ((dats m 0 c).arrAt 6 cfg0.N = fun i => newV (V m c main_v0 i) (V m c main_v3 i)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]; frame_out; unfold k0_pay4 k0_pay3 k0_pay2 k0_pay1; simp only [shapeCast_self]; exact change_eq _ _ _ _
  · rw [after0_5]; frame_out; unfold k0_pay2 k0_pay1; simp only [shapeCast_self]; rfl
  · rw [after0_6]; frame_out; unfold k0_pay3 k0_pay1; simp only [shapeCast_self]; rfl

/-- The call and the reference, run from the same arguments, end with the same three arrays. -/
theorem algebraic : Cert.algebraic_Kernel26Ideal_Reference26Ideal (hKernel26Ideal := Cert.Kernel26Ideal.Gen.facts) (hReference26Ideal := Cert.Reference26Ideal.Gen.facts) := by
  intro m g m' g' hp ha
  refine ⟨fun c => (dats m 0 c).arrAt 4 cfg0.N, fun c => (dats m 0 c).arrAt 5 cfg0.N, fun c => (dats m 0 c).arrAt 6 cfg0.N,
    Cert.Kernel26Ideal.Value.run_blocks m g,
    (θ_run Cert.Reference26Ideal.defs _ _).mono (fun r hr c => ?_) (Cert.Reference26Ideal.Value.run m' g')⟩
  obtain ⟨r0, r1, r2, k⟩ := hr c
  obtain ⟨a0, a1, a2, a3⟩ := ha c
  obtain ⟨b0, b1, b2⟩ := arrays m c
  obtain ⟨v0, v1, v2, v3⟩ := V_rows m c
  rw [v0, v1, v2, v3] at b0
  rw [v0, v2] at b1
  rw [v0, v3] at b2
  rw [a0, a1, a2, a3] at r0
  rw [a0, a2] at r1
  rw [a0, a3] at r2
  exact ⟨r0.trans b0.symm, r1.trans b1.symm, r2.trans b2.symm, k⟩

end Cert.AdamShort
end
-- ==== Proof.Mm.BIn.lean ====
module

public import proofs.«01_k».proof.Defs
public import proofs.«01_k».proof.Proof.Mm.Ext
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit

/-! The product into the second token mixer: the call's result array is the reference's. -/

@[expose] public section
set_option maxRecDepth 16384
noncomputable section
namespace Cert.BIn
open Cert.Kernel27Ideal Cert.Kernel27Ideal.Gen Cert.Ext Idealize.ShloMosaic Idealize.ShloMosaic.TcCoe Idealize.SL.Sem
open scoped BigOperators

/-- The product of the rows with the weights. -/
def prod (h : ℕ → ℕ → EReal) (w : ℕ → ℕ → ℕ → EReal) (r c : ℕ) : EReal := ∑ i ∈ Finset.range 1024, h r i * w 0 i c

variable (m : (ℓ : Loc nD τ sig) → Buf (Elt Ideal) ℓ) (c : Dev nD)
variable (h : ℕ → ℕ → EReal) (w : ℕ → ℕ → ℕ → EReal)

theorem idx (t : Fin cfg0.N) : (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0) :=
  (by decide +kernel : ∀ t : Fin grid0.N, (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0)) t

theorem iblk0 (e : V m c main_arg0 = E2 (φ := .bf16) h) (t : Fin cfg0.N) : iblk m c 0 t = E2 (φ := .bf16) (rows 512 t.val h) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.1 y, win0_1.rect_emb_val_of_index_zero t 1 (idx t).2.2.2.1 y,
    win0_1.rect_emb_val_of_index_zero t 2 (idx t).2.2.2.2 y]

theorem pay1 : k0_pay1 (F := Ideal) (E2 (φ := .bf16) h) (E3 (φ := .bf16) w) = E2 (prod h w) := by
  unfold k0_pay1
  refine (congrArg (fun x => FloatOps.matmul (F := Ideal) _ _ _ x _) (dropUnit_E3 w _)).trans ?_
  exact mm_nn h (w 0) none _ rfl

theorem out2 : out0_2 (F := Ideal) (E2 (φ := .bf16) h) (E3 (φ := .bf16) w) = E2 (φ := .f32) (prod h w) := by
  unfold out0_2
  refine (View.canon_cons_unit_lit _ _ _ (by decide)).trans ?_
  rw [View.ld_unit_lit _ _ (by decide), View.ld_unit_lit _ _ (by decide), pay1]

theorem cover2 (i : S8192x2048.Idx) : ∃ t : Fin cfg0.N, (cfg0.win 2).flush t = true ∧ i ∈ ((cfg0.win 2).blk t).view.set := by
  have hN : cfg0.N = 16 := N_0
  have hi0 : (i 0 : Nat) < 8192 := (i 0).isLt
  have hi1 : (i 1 : Nat) < 2048 := (i 1).isLt
  have ht : (i 0 : Nat) / 512 < cfg0.N := by omega
  refine ⟨⟨(i 0 : Nat) / 512, ht⟩, flush0_2 _, ?_⟩
  refine (View.set_slice_whole main_v0 (win0_2.rect ⟨(i 0 : Nat) / 512, ht⟩)) ▸ ?_
  rw [Rect.mem_set_unit]
  intro a
  match a with
  | ⟨0, _⟩ =>
    show win0_2.index _ 0 * 512 ≤ (i 0 : Nat) ∧ (i 0 : Nat) < win0_2.index _ 0 * 512 + 512
    rw [(idx _).2.1.1]; dsimp only; omega
  | ⟨1, _⟩ =>
    show win0_2.index _ 1 * 2048 ≤ (i 1 : Nat) ∧ (i 1 : Nat) < win0_2.index _ 1 * 2048 + 2048
    rw [(idx _).2.1.2]; omega

theorem arr2 (e0 : V m c main_arg0 = E2 (φ := .bf16) h) (e1 : V m c main_arg1 = E3 (φ := .bf16) w) :
    (dats m 0 c).arrAt 2 cfg0.N = E2 (φ := .f32) (prod h w) := by
  funext j
  refine (dats m 0 c).arrAt_forall_of_cover 2 (fun i v => v = E2 (φ := .f32) (prod h w) i) (fun t _ y => ?_) cover2 j
  rw [Value.flushed2, iblk0 m c h e0, iblk1 m c w e1, out2]
  show prod (rows 512 t.val h) w (y 0).val (y 1).val = E2 (φ := .f32) (prod h w) ((win0_2.rect t).emb y)
  unfold E2
  rw [win0_2.rect_emb_val t y 0, win0_2.rect_emb_val_of_index_zero t 1 (idx t).2.1.2 y, (idx t).2.1.1, Nat.mul_comm]
  rfl

/-! The reference. -/

open Cert.Reference27Ideal.Read (val_main_v0 val_main_v1 val_main_v2 val_main_v3)

theorem ref3 : val_main_v3 (F := Ideal) (E2 (φ := .bf16) h) (E3 (φ := .bf16) w) = E2 (φ := .f32) (prod h w) := by
  unfold val_main_v3 val_main_v2 val_main_v1 val_main_v0
  refine (congrArg (fun x => Host.dotGeneral (F := Ideal) _ none _ (extf .f32 x _)) (dropUnit_E3 w _)).trans ?_
  exact dot_nn h (w 0) none _ rfl

/-- The call and the reference, run from the same arguments, end with the same array. -/
theorem algebraic : Cert.algebraic_Kernel27Ideal_Reference27Ideal
    (hKernel27Ideal := Cert.Kernel27Ideal.Gen.facts) (hReference27Ideal := Cert.Reference27Ideal.Gen.facts) := by
  intro m g m' g' hp ha
  refine ⟨fun c => (dats m 0 c).arrAt 2 cfg0.N, Cert.Kernel27Ideal.Value.run_blocks m g,
    (θ_run Cert.Reference27Ideal.defs _ _).mono (fun r hr c => ?_) (Cert.Reference27Ideal.Value.run m' g')⟩
  obtain ⟨r0, k⟩ := hr c
  obtain ⟨a0, a1⟩ := ha c
  obtain ⟨h, e0⟩ := exists_E2 (m ((c : Thread nD τ).loc main_arg0))
  obtain ⟨w, e1⟩ := exists_E3 (m ((c : Thread nD τ).loc main_arg1))
  have h0 : V m c main_arg0 = E2 (φ := .bf16) h := (V_main_arg0 m c).trans e0
  have h1 : V m c main_arg1 = E3 (φ := .bf16) w := (V_main_arg1 m c).trans e1
  refine ⟨?_, k⟩
  refine (r0.trans (Cert.Reference27Ideal.Read.val_main_v3_eq _ _)).trans ?_
  rw [a0, a1, e0, e1]
  exact (ref3 h w).trans (arr2 m c h w h0 h1).symm

end Cert.BIn
end
-- ==== Proof.Mm.CIn.lean ====
module

public import proofs.«01_k».proof.Defs
public import proofs.«01_k».proof.Proof.Mm.Ext
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pipeline.ValueKit

/-! The product into the third token mixer: the call's result array is the reference's. -/

@[expose] public section
set_option maxRecDepth 16384
noncomputable section
namespace Cert.CIn
open Cert.Kernel28Ideal Cert.Kernel28Ideal.Gen Cert.Ext Idealize.ShloMosaic Idealize.ShloMosaic.TcCoe Idealize.SL.Sem
open scoped BigOperators

/-- The product of the rows with the weights. -/
def prod (h : ℕ → ℕ → EReal) (w : ℕ → ℕ → ℕ → EReal) (r c : ℕ) : EReal := ∑ i ∈ Finset.range 1024, h r i * w 0 i c

variable (m : (ℓ : Loc nD τ sig) → Buf (Elt Ideal) ℓ) (c : Dev nD)
variable (h : ℕ → ℕ → EReal) (w : ℕ → ℕ → ℕ → EReal)

theorem idx (t : Fin cfg0.N) : (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0) :=
  (by decide +kernel : ∀ t : Fin grid0.N, (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0)) t

theorem iblk0 (e : V m c main_arg0 = E2 (φ := .bf16) h) (t : Fin cfg0.N) : iblk m c 0 t = E2 (φ := .bf16) (rows 256 t.val h) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.1 y, win0_1.rect_emb_val_of_index_zero t 1 (idx t).2.2.2.1 y,
    win0_1.rect_emb_val_of_index_zero t 2 (idx t).2.2.2.2 y]

theorem pay1 : k0_pay1 (F := Ideal) (E2 (φ := .bf16) h) (E3 (φ := .bf16) w) = E2 (prod h w) := by
  unfold k0_pay1
  refine (congrArg (fun x => FloatOps.matmul (F := Ideal) _ _ _ x _) (dropUnit_E3 w _)).trans ?_
  exact mm_nn h (w 0) none _ rfl

theorem out2 : out0_2 (F := Ideal) (E2 (φ := .bf16) h) (E3 (φ := .bf16) w) = E2 (φ := .f32) (prod h w) := by
  unfold out0_2
  refine (View.canon_cons_unit_lit _ _ _ (by decide)).trans ?_
  rw [View.ld_unit_lit _ _ (by decide), View.ld_unit_lit _ _ (by decide), pay1]

theorem cover2 (i : S8192x3072.Idx) : ∃ t : Fin cfg0.N, (cfg0.win 2).flush t = true ∧ i ∈ ((cfg0.win 2).blk t).view.set := by
  have hN : cfg0.N = 32 := N_0
  have hi0 : (i 0 : Nat) < 8192 := (i 0).isLt
  have hi1 : (i 1 : Nat) < 3072 := (i 1).isLt
  have ht : (i 0 : Nat) / 256 < cfg0.N := by omega
  refine ⟨⟨(i 0 : Nat) / 256, ht⟩, flush0_2 _, ?_⟩
  refine (View.set_slice_whole main_v0 (win0_2.rect ⟨(i 0 : Nat) / 256, ht⟩)) ▸ ?_
  rw [Rect.mem_set_unit]
  intro a
  match a with
  | ⟨0, _⟩ =>
    show win0_2.index _ 0 * 256 ≤ (i 0 : Nat) ∧ (i 0 : Nat) < win0_2.index _ 0 * 256 + 256
    rw [(idx _).2.1.1]; dsimp only; omega
  | ⟨1, _⟩ =>
    show win0_2.index _ 1 * 3072 ≤ (i 1 : Nat) ∧ (i 1 : Nat) < win0_2.index _ 1 * 3072 + 3072
    rw [(idx _).2.1.2]; omega

theorem arr2 (e0 : V m c main_arg0 = E2 (φ := .bf16) h) (e1 : V m c main_arg1 = E3 (φ := .bf16) w) :
    (dats m 0 c).arrAt 2 cfg0.N = E2 (φ := .f32) (prod h w) := by
  funext j
  refine (dats m 0 c).arrAt_forall_of_cover 2 (fun i v => v = E2 (φ := .f32) (prod h w) i) (fun t _ y => ?_) cover2 j
  rw [Value.flushed2, iblk0 m c h e0, iblk1 m c w e1, out2]
  show prod (rows 256 t.val h) w (y 0).val (y 1).val = E2 (φ := .f32) (prod h w) ((win0_2.rect t).emb y)
  unfold E2
  rw [win0_2.rect_emb_val t y 0, win0_2.rect_emb_val_of_index_zero t 1 (idx t).2.1.2 y, (idx t).2.1.1, Nat.mul_comm]
  rfl

/-! The reference. -/

open Cert.Reference28Ideal.Read (val_main_v0 val_main_v1 val_main_v2 val_main_v3)

theorem ref3 : val_main_v3 (F := Ideal) (E2 (φ := .bf16) h) (E3 (φ := .bf16) w) = E2 (φ := .f32) (prod h w) := by
  unfold val_main_v3 val_main_v2 val_main_v1 val_main_v0
  refine (congrArg (fun x => Host.dotGeneral (F := Ideal) _ none _ (extf .f32 x _)) (dropUnit_E3 w _)).trans ?_
  exact dot_nn h (w 0) none _ rfl

/-- The call and the reference, run from the same arguments, end with the same array. -/
theorem algebraic : Cert.algebraic_Kernel28Ideal_Reference28Ideal
    (hKernel28Ideal := Cert.Kernel28Ideal.Gen.facts) (hReference28Ideal := Cert.Reference28Ideal.Gen.facts) := by
  intro m g m' g' hp ha
  refine ⟨fun c => (dats m 0 c).arrAt 2 cfg0.N, Cert.Kernel28Ideal.Value.run_blocks m g,
    (θ_run Cert.Reference28Ideal.defs _ _).mono (fun r hr c => ?_) (Cert.Reference28Ideal.Value.run m' g')⟩
  obtain ⟨r0, k⟩ := hr c
  obtain ⟨a0, a1⟩ := ha c
  obtain ⟨h, e0⟩ := exists_E2 (m ((c : Thread nD τ).loc main_arg0))
  obtain ⟨w, e1⟩ := exists_E3 (m ((c : Thread nD τ).loc main_arg1))
  have h0 : V m c main_arg0 = E2 (φ := .bf16) h := (V_main_arg0 m c).trans e0
  have h1 : V m c main_arg1 = E3 (φ := .bf16) w := (V_main_arg1 m c).trans e1
  refine ⟨?_, k⟩
  refine (r0.trans (Cert.Reference28Ideal.Read.val_main_v3_eq _ _)).trans ?_
  rw [a0, a1, e0, e1]
  exact (ref3 h w).trans (arr2 m c h w h0 h1).symm

end Cert.CIn
end
-- ==== Proof.Mm.AOut.lean ====
module

public import proofs.«01_k».proof.Defs
public import proofs.«01_k».proof.Proof.Mm.Norm
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pipeline.ValueKit

/-! The product out of the first token mixer, added to the rows it came from, and the scaled rows: the call's
two result arrays are the reference's. -/

@[expose] public section
set_option maxRecDepth 16384
noncomputable section
namespace Cert.AOut
open Cert.Kernel29Ideal Cert.Kernel29Ideal.Gen Cert.Ext Idealize.ShloMosaic Idealize.ShloMosaic.TcCoe Idealize.SL.Sem
open scoped BigOperators

/-- The rows plus the product. -/
def sum (s : ℕ → ℕ → EReal) (w : ℕ → ℕ → ℕ → EReal) (x : ℕ → ℕ → EReal) (r c : ℕ) : EReal :=
  x r c + ∑ i ∈ Finset.range 1280, s r i * w 0 i c

variable (m : (ℓ : Loc nD τ sig) → Buf (Elt Ideal) ℓ) (c : Dev nD)
variable (s : ℕ → ℕ → EReal) (w : ℕ → ℕ → ℕ → EReal) (x : ℕ → ℕ → EReal) (g : ℕ → EReal)

theorem idx (t : Fin cfg0.N) : (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_1.index t 0 = 0 ∧ win0_1.index t 1 = 0 ∧ win0_1.index t 2 = 0) ∧ win0_3.index t 1 = 0 :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_1.index t 0 = 0 ∧ win0_1.index t 1 = 0 ∧ win0_1.index t 2 = 0) ∧ win0_3.index t 1 = 0) t

theorem iblk0 (e : V m c main_arg0 = E2 (φ := .bf16) s) (t : Fin cfg0.N) : iblk m c 0 t = E2 (φ := .bf16) (rows 1024 t.val s) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk2 (e : V m c main_arg2 = E2 (φ := .f32) x) (t : Fin cfg0.N) : iblk m c 2 t = E2 (φ := .f32) (rows 1024 t.val x) := by
  funext y
  show V m c main_arg2 ((win0_2.rect t).emb y) = _
  rw [e]
  unfold E2 rows
  rw [win0_2.rect_emb_val t y 0, win0_2.rect_emb_val_of_index_zero t 1 (idx t).2.1.2 y, (idx t).2.1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.2.2.1.1 y, win0_1.rect_emb_val_of_index_zero t 1 (idx t).2.2.2.2.1.2.1 y,
    win0_1.rect_emb_val_of_index_zero t 2 (idx t).2.2.2.2.1.2.2 y]

theorem iblk3 (e : V m c main_v0 = E2 (φ := .f32) fun _ k => g k) (t : Fin cfg0.N) : iblk m c 3 t = E2 (φ := .f32) fun _ k => g k := by
  funext y
  show V m c main_v0 ((win0_3.rect t).emb y) = _
  rw [e]
  unfold E2
  rw [win0_3.rect_emb_val_of_index_zero t 1 (idx t).2.2.2.2.2 y]

theorem V_main_v0 (e : m ((c : Thread nD τ).loc main_arg3) = E1 (φ := .f32) g) : V m c main_v0 = E2 (φ := .f32) fun _ k => g k := by
  simp only [V, hostOps0, List.flatten_cons, List.flatten_nil, List.append_nil, List.cons_append, List.nil_append]
  after_results
  rw [show m (c, Proc.tc.devRef main_arg3) = E1 (φ := .f32) g from e]
  funext i
  rfl

theorem pay1 : k0_pay1 (F := Ideal) (E2 (φ := .bf16) s) (E3 (φ := .bf16) w) (E2 (φ := .f32) x) = E2 (φ := .f32) (sum s w x) := by
  unfold k0_pay1
  refine (congrArg (fun p => addf (F := Ideal) (φ := .f32) _ (FloatOps.matmul (F := Ideal) _ _ _ p _)) (dropUnit_E3 w _)).trans ?_
  refine (congrArg (fun p => addf (F := Ideal) (φ := .f32) _ p) (mm_nn s (w 0) none _ rfl)).trans ?_
  rfl

theorem pay2 : k0_pay2 (F := Ideal) (E2 (φ := .bf16) s) (E3 (φ := .bf16) w) (E2 (φ := .f32) x) (E2 (φ := .f32) fun _ k => g k)
    = E2 (φ := .bf16) (normed (sum s w x) g) := by
  unfold k0_pay2
  rw [pay1]
  exact normed_block (a := 1024) (by decide) (sum s w x) g _ _ _ _ _ _ _ _

theorem out4 : out0_4 (F := Ideal) (E2 (φ := .bf16) s) (E3 (φ := .bf16) w) (E2 (φ := .f32) x) (E2 (φ := .f32) fun _ k => g k)
    = E2 (φ := .f32) (sum s w x) := by
  unfold out0_4
  refine (View.canon_cons_unit_lit _ _ _ (by decide)).trans ?_
  rw [View.ld_unit_lit _ _ (by decide), View.ld_unit_lit _ _ (by decide), View.ld_unit_lit _ _ (by decide), pay1]

theorem out5 : out0_5 (F := Ideal) (E2 (φ := .bf16) s) (E3 (φ := .bf16) w) (E2 (φ := .f32) x) (E2 (φ := .f32) fun _ k => g k)
    = E2 (φ := .bf16) (normed (sum s w x) g) := by
  unfold out0_5
  refine (View.canon_cons_unit_lit _ _ _ (by decide)).trans ?_
  rw [View.ld_unit_lit _ _ (by decide), View.ld_unit_lit _ _ (by decide), View.ld_unit_lit _ _ (by decide), View.ld_unit_lit _ _ (by decide), pay2]

theorem point_lt (i : ℕ) (h : i < 8192) : i / 1024 < cfg0.N := by
  have hN : cfg0.N = 8 := N_0
  omega

theorem cover4 (i : S8192x1024.Idx) : ∃ t : Fin cfg0.N, (cfg0.win 4).flush t = true ∧ i ∈ ((cfg0.win 4).blk t).view.set := by
  have hi1 : (i 1 : Nat) < 1024 := (i 1).isLt
  refine ⟨⟨(i 0 : Nat) / 1024, point_lt _ (i 0).isLt⟩, flush0_4 _, ?_⟩
  refine (View.set_slice_whole main_v1_0 (win0_4.rect ⟨(i 0 : Nat) / 1024, point_lt _ (i 0).isLt⟩)) ▸ ?_
  rw [Rect.mem_set_unit]
  intro a
  match a with
  | ⟨0, _⟩ =>
    show win0_4.index _ 0 * 1024 ≤ (i 0 : Nat) ∧ (i 0 : Nat) < win0_4.index _ 0 * 1024 + 1024
    rw [(idx _).2.2.1.1]; dsimp only; omega
  | ⟨1, _⟩ =>
    show win0_4.index _ 1 * 1024 ≤ (i 1 : Nat) ∧ (i 1 : Nat) < win0_4.index _ 1 * 1024 + 1024
    rw [(idx _).2.2.1.2]; omega

theorem cover5 (i : S8192x1024.Idx) : ∃ t : Fin cfg0.N, (cfg0.win 5).flush t = true ∧ i ∈ ((cfg0.win 5).blk t).view.set := by
  have hi1 : (i 1 : Nat) < 1024 := (i 1).isLt
  refine ⟨⟨(i 0 : Nat) / 1024, point_lt _ (i 0).isLt⟩, flush0_5 _, ?_⟩
  refine (View.set_slice_whole main_v1_1 (win0_5.rect ⟨(i 0 : Nat) / 1024, point_lt _ (i 0).isLt⟩)) ▸ ?_
  rw [Rect.mem_set_unit]
  intro a
  match a with
  | ⟨0, _⟩ =>
    show win0_5.index _ 0 * 1024 ≤ (i 0 : Nat) ∧ (i 0 : Nat) < win0_5.index _ 0 * 1024 + 1024
    rw [(idx _).2.2.2.1.1]; dsimp only; omega
  | ⟨1, _⟩ =>
    show win0_5.index _ 1 * 1024 ≤ (i 1 : Nat) ∧ (i 1 : Nat) < win0_5.index _ 1 * 1024 + 1024
    rw [(idx _).2.2.2.1.2]; omega

variable (e0 : V m c main_arg0 = E2 (φ := .bf16) s) (e1 : V m c main_arg1 = E3 (φ := .bf16) w)
  (e2 : V m c main_arg2 = E2 (φ := .f32) x) (e3 : V m c main_v0 = E2 (φ := .f32) fun _ k => g k)
include e0 e1 e2 e3

theorem arr4 : (dats m 0 c).arrAt 4 cfg0.N = E2 (φ := .f32) (sum s w x) := by
  funext j
  refine (dats m 0 c).arrAt_forall_of_cover 4 (fun i v => v = E2 (φ := .f32) (sum s w x) i) (fun t _ y => ?_) cover4 j
  rw [Value.flushed4, iblk0 m c s e0, iblk1 m c w e1, iblk2 m c x e2, iblk3 m c g e3, out4]
  show sum (rows 1024 t.val s) w (rows 1024 t.val x) (y 0).val (y 1).val = E2 (φ := .f32) (sum s w x) ((win0_4.rect t).emb y)
  unfold E2
  rw [win0_4.rect_emb_val t y 0, win0_4.rect_emb_val_of_index_zero t 1 (idx t).2.2.1.2 y, (idx t).2.2.1.1, Nat.mul_comm]
  rfl

theorem arr5 : (dats m 0 c).arrAt 5 cfg0.N = E2 (φ := .bf16) (normed (sum s w x) g) := by
  funext j
  refine (dats m 0 c).arrAt_forall_of_cover 5 (fun i v => v = E2 (φ := .bf16) (normed (sum s w x) g) i) (fun t _ y => ?_) cover5 j
  rw [Value.flushed5, iblk0 m c s e0, iblk1 m c w e1, iblk2 m c x e2, iblk3 m c g e3, out5]
  show normed (sum (rows 1024 t.val s) w (rows 1024 t.val x)) g (y 0).val (y 1).val = E2 (φ := .bf16) (normed (sum s w x) g) ((win0_5.rect t).emb y)
  unfold E2
  rw [win0_5.rect_emb_val t y 0, win0_5.rect_emb_val_of_index_zero t 1 (idx t).2.2.2.1.2 y, (idx t).2.2.2.1.1, Nat.mul_comm]
  rfl

omit e0 e1 e2 e3

/-! The reference. -/

open Cert.Reference29Ideal.Read

theorem ref4 : val_main_v4 (F := Ideal) (E2 (φ := .bf16) s) (E3 (φ := .bf16) w) (E2 (φ := .f32) x) = E2 (φ := .f32) (sum s w x) := by
  unfold val_main_v4 val_main_v3 val_main_v2 val_main_v1
  refine (congrArg (fun p => addf (F := Ideal) (φ := .f32) _ (Host.dotGeneral (F := Ideal) _ none _ (extf .f32 p _))) (dropUnit_E3 w _)).trans ?_
  refine (congrArg (fun p => addf (F := Ideal) (φ := .f32) _ p) (dot_nn s (w 0) none _ rfl)).trans ?_
  rfl

theorem ref18 : val_main_v18 (F := Ideal) (E2 (φ := .bf16) s) (E3 (φ := .bf16) w) (E2 (φ := .f32) x) (E1 (φ := .f32) g)
    = E2 (φ := .bf16) (normed (sum s w x) g) := by
  funext i
  have hs : ∀ r : Cert.Reference29Ideal.S8192.Idx, val_main_v6 (F := Ideal) (E2 (φ := .bf16) s) (E3 (φ := .bf16) w) (E2 (φ := .f32) x) r
      = ∑ k ∈ Finset.range 1024, sum s w x (r 0).val k * sum s w x (r 0).val k := fun r => by
    rw [val_main_v6_apply]
    unfold val_main_v5
    rw [ref4]
    show Ideal.ofBits .f32 0x00000000#32 + _ = _
    rw [Ideal.ofBits_zero_f32, zero_add]
    exact fin_range 1024 fun k => sum s w x (r 0).val k * sum s w x (r 0).val k
  rw [val_main_v18_apply, val_main_v17_apply, val_main_v14_apply, val_main_v13_apply, val_main_v12_apply, val_main_v11_apply,
    val_main_v9_apply, val_main_v7_apply, hs, ref4, val_main_v16_apply, val_main_v15_apply]
  rfl

/-- The call and the reference, run from the same arguments, end with the same two arrays. -/
theorem algebraic : Cert.algebraic_Kernel29Ideal_Reference29Ideal
    (hKernel29Ideal := Cert.Kernel29Ideal.Gen.facts) (hReference29Ideal := Cert.Reference29Ideal.Gen.facts) := by
  intro m g m' g' hp ha
  refine ⟨fun c => (dats m 0 c).arrAt 4 cfg0.N, fun c => (dats m 0 c).arrAt 5 cfg0.N, Cert.Kernel29Ideal.Value.run_blocks m g,
    (θ_run Cert.Reference29Ideal.defs _ _).mono (fun r hr c => ?_) (Cert.Reference29Ideal.Value.run m' g')⟩
  obtain ⟨r0, r1, k⟩ := hr c
  obtain ⟨a0, a1, a2, a3⟩ := ha c
  obtain ⟨s, e0⟩ := exists_E2 (m ((c : Thread nD τ).loc main_arg0))
  obtain ⟨w, e1⟩ := exists_E3 (m ((c : Thread nD τ).loc main_arg1))
  obtain ⟨x, e2⟩ := exists_E2 (m ((c : Thread nD τ).loc main_arg2))
  obtain ⟨gn, e3⟩ := exists_E1 (m ((c : Thread nD τ).loc main_arg3))
  have h0 := (V_main_arg0 m c).trans e0
  have h1 := (V_main_arg1 m c).trans e1
  have h2 := (V_main_arg2 m c).trans e2
  have h3 := V_main_v0 m c gn e3
  refine ⟨?_, ?_, k⟩
  · refine (r0.trans (Cert.Reference29Ideal.Read.val_main_v4_eq _ _ _)).trans ?_
    rw [a0, a1, a2, e0, e1, e2]
    exact (ref4 s w x).trans (arr4 m c s w x gn h0 h1 h2 h3).symm
  · refine (r1.trans (Cert.Reference29Ideal.Read.val_main_v18_eq _ _ _ _)).trans ?_
    rw [a0, a1, a2, a3, e0, e1, e2, e3]
    exact (ref18 s w x gn).trans (arr5 m c s w x gn h0 h1 h2 h3).symm

end Cert.AOut
end
-- ==== Proof.Mm.MixOut.lean ====
module

public import proofs.«01_k».proof.Defs
public import proofs.«01_k».proof.Proof.Mm.Norm
public import proofs.«01_k».proof.Proof.Gen.Kernel30Ideal.Value
public import proofs.«01_k».proof.Proof.Gen.Reference30Ideal.Run
public import proofs.«01_k».proof.Proof.Gen.Reference30Ideal.Read
public import Idealize.ShloMosaic.Lib.Pipeline.ValueKit

/-! The product out of the second or the third token mixer, added to the rows it came from, and the scaled rows: the call's
two result arrays are the reference's. -/

@[expose] public section
set_option maxRecDepth 16384
noncomputable section
namespace Cert.MixOut
open Cert.Kernel30Ideal Cert.Kernel30Ideal.Gen Cert.Ext Idealize.ShloMosaic Idealize.ShloMosaic.TcCoe Idealize.SL.Sem
open scoped BigOperators

/-- The rows plus the product. -/
def sum (s : ℕ → ℕ → EReal) (w : ℕ → ℕ → ℕ → EReal) (x : ℕ → ℕ → EReal) (r c : ℕ) : EReal :=
  x r c + ∑ i ∈ Finset.range 1024, s r i * w 0 i c

variable (m : (ℓ : Loc nD τ sig) → Buf (Elt Ideal) ℓ) (c : Dev nD)
variable (s : ℕ → ℕ → EReal) (w : ℕ → ℕ → ℕ → EReal) (x : ℕ → ℕ → EReal) (g : ℕ → EReal)

theorem idx (t : Fin cfg0.N) : (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_1.index t 0 = 0 ∧ win0_1.index t 1 = 0 ∧ win0_1.index t 2 = 0) ∧ win0_3.index t 1 = 0 :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_1.index t 0 = 0 ∧ win0_1.index t 1 = 0 ∧ win0_1.index t 2 = 0) ∧ win0_3.index t 1 = 0) t

theorem iblk0 (e : V m c main_arg0 = E2 (φ := .bf16) s) (t : Fin cfg0.N) : iblk m c 0 t = E2 (φ := .bf16) (rows 1024 t.val s) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk2 (e : V m c main_arg2 = E2 (φ := .f32) x) (t : Fin cfg0.N) : iblk m c 2 t = E2 (φ := .f32) (rows 1024 t.val x) := by
  funext y
  show V m c main_arg2 ((win0_2.rect t).emb y) = _
  rw [e]
  unfold E2 rows
  rw [win0_2.rect_emb_val t y 0, win0_2.rect_emb_val_of_index_zero t 1 (idx t).2.1.2 y, (idx t).2.1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.2.2.1.1 y, win0_1.rect_emb_val_of_index_zero t 1 (idx t).2.2.2.2.1.2.1 y,
    win0_1.rect_emb_val_of_index_zero t 2 (idx t).2.2.2.2.1.2.2 y]

theorem iblk3 (e : V m c main_v0 = E2 (φ := .f32) fun _ k => g k) (t : Fin cfg0.N) : iblk m c 3 t = E2 (φ := .f32) fun _ k => g k := by
  funext y
  show V m c main_v0 ((win0_3.rect t).emb y) = _
  rw [e]
  unfold E2
  rw [win0_3.rect_emb_val_of_index_zero t 1 (idx t).2.2.2.2.2 y]

theorem V_main_v0 (e : m ((c : Thread nD τ).loc main_arg3) = E1 (φ := .f32) g) : V m c main_v0 = E2 (φ := .f32) fun _ k => g k := by
  simp only [V, hostOps0, List.flatten_cons, List.flatten_nil, List.append_nil, List.cons_append, List.nil_append]
  after_results
  rw [show m (c, Proc.tc.devRef main_arg3) = E1 (φ := .f32) g from e]
  funext i
  rfl

theorem pay1 : k0_pay1 (F := Ideal) (E2 (φ := .bf16) s) (E3 (φ := .bf16) w) (E2 (φ := .f32) x) = E2 (φ := .f32) (sum s w x) := by
  unfold k0_pay1
  refine (congrArg (fun p => addf (F := Ideal) (φ := .f32) _ (FloatOps.matmul (F := Ideal) _ _ _ p _)) (dropUnit_E3 w _)).trans ?_
  refine (congrArg (fun p => addf (F := Ideal) (φ := .f32) _ p) (mm_nn s (w 0) none _ rfl)).trans ?_
  rfl

theorem pay2 : k0_pay2 (F := Ideal) (E2 (φ := .bf16) s) (E3 (φ := .bf16) w) (E2 (φ := .f32) x) (E2 (φ := .f32) fun _ k => g k)
    = E2 (φ := .bf16) (normed (sum s w x) g) := by
  unfold k0_pay2
  rw [pay1]
  exact normed_block (a := 1024) (by decide) (sum s w x) g _ _ _ _ _ _ _ _

theorem out4 : out0_4 (F := Ideal) (E2 (φ := .bf16) s) (E3 (φ := .bf16) w) (E2 (φ := .f32) x) (E2 (φ := .f32) fun _ k => g k)
    = E2 (φ := .f32) (sum s w x) := by
  unfold out0_4
  refine (View.canon_cons_unit_lit _ _ _ (by decide)).trans ?_
  rw [View.ld_unit_lit _ _ (by decide), View.ld_unit_lit _ _ (by decide), View.ld_unit_lit _ _ (by decide), pay1]

theorem out5 : out0_5 (F := Ideal) (E2 (φ := .bf16) s) (E3 (φ := .bf16) w) (E2 (φ := .f32) x) (E2 (φ := .f32) fun _ k => g k)
    = E2 (φ := .bf16) (normed (sum s w x) g) := by
  unfold out0_5
  refine (View.canon_cons_unit_lit _ _ _ (by decide)).trans ?_
  rw [View.ld_unit_lit _ _ (by decide), View.ld_unit_lit _ _ (by decide), View.ld_unit_lit _ _ (by decide), View.ld_unit_lit _ _ (by decide), pay2]

theorem point_lt (i : ℕ) (h : i < 8192) : i / 1024 < cfg0.N := by
  have hN : cfg0.N = 8 := N_0
  omega

theorem cover4 (i : S8192x1024.Idx) : ∃ t : Fin cfg0.N, (cfg0.win 4).flush t = true ∧ i ∈ ((cfg0.win 4).blk t).view.set := by
  have hi1 : (i 1 : Nat) < 1024 := (i 1).isLt
  refine ⟨⟨(i 0 : Nat) / 1024, point_lt _ (i 0).isLt⟩, flush0_4 _, ?_⟩
  refine (View.set_slice_whole main_v1_0 (win0_4.rect ⟨(i 0 : Nat) / 1024, point_lt _ (i 0).isLt⟩)) ▸ ?_
  rw [Rect.mem_set_unit]
  intro a
  match a with
  | ⟨0, _⟩ =>
    show win0_4.index _ 0 * 1024 ≤ (i 0 : Nat) ∧ (i 0 : Nat) < win0_4.index _ 0 * 1024 + 1024
    rw [(idx _).2.2.1.1]; dsimp only; omega
  | ⟨1, _⟩ =>
    show win0_4.index _ 1 * 1024 ≤ (i 1 : Nat) ∧ (i 1 : Nat) < win0_4.index _ 1 * 1024 + 1024
    rw [(idx _).2.2.1.2]; omega

theorem cover5 (i : S8192x1024.Idx) : ∃ t : Fin cfg0.N, (cfg0.win 5).flush t = true ∧ i ∈ ((cfg0.win 5).blk t).view.set := by
  have hi1 : (i 1 : Nat) < 1024 := (i 1).isLt
  refine ⟨⟨(i 0 : Nat) / 1024, point_lt _ (i 0).isLt⟩, flush0_5 _, ?_⟩
  refine (View.set_slice_whole main_v1_1 (win0_5.rect ⟨(i 0 : Nat) / 1024, point_lt _ (i 0).isLt⟩)) ▸ ?_
  rw [Rect.mem_set_unit]
  intro a
  match a with
  | ⟨0, _⟩ =>
    show win0_5.index _ 0 * 1024 ≤ (i 0 : Nat) ∧ (i 0 : Nat) < win0_5.index _ 0 * 1024 + 1024
    rw [(idx _).2.2.2.1.1]; dsimp only; omega
  | ⟨1, _⟩ =>
    show win0_5.index _ 1 * 1024 ≤ (i 1 : Nat) ∧ (i 1 : Nat) < win0_5.index _ 1 * 1024 + 1024
    rw [(idx _).2.2.2.1.2]; omega

variable (e0 : V m c main_arg0 = E2 (φ := .bf16) s) (e1 : V m c main_arg1 = E3 (φ := .bf16) w)
  (e2 : V m c main_arg2 = E2 (φ := .f32) x) (e3 : V m c main_v0 = E2 (φ := .f32) fun _ k => g k)
include e0 e1 e2 e3

theorem arr4 : (dats m 0 c).arrAt 4 cfg0.N = E2 (φ := .f32) (sum s w x) := by
  funext j
  refine (dats m 0 c).arrAt_forall_of_cover 4 (fun i v => v = E2 (φ := .f32) (sum s w x) i) (fun t _ y => ?_) cover4 j
  rw [Value.flushed4, iblk0 m c s e0, iblk1 m c w e1, iblk2 m c x e2, iblk3 m c g e3, out4]
  show sum (rows 1024 t.val s) w (rows 1024 t.val x) (y 0).val (y 1).val = E2 (φ := .f32) (sum s w x) ((win0_4.rect t).emb y)
  unfold E2
  rw [win0_4.rect_emb_val t y 0, win0_4.rect_emb_val_of_index_zero t 1 (idx t).2.2.1.2 y, (idx t).2.2.1.1, Nat.mul_comm]
  rfl

theorem arr5 : (dats m 0 c).arrAt 5 cfg0.N = E2 (φ := .bf16) (normed (sum s w x) g) := by
  funext j
  refine (dats m 0 c).arrAt_forall_of_cover 5 (fun i v => v = E2 (φ := .bf16) (normed (sum s w x) g) i) (fun t _ y => ?_) cover5 j
  rw [Value.flushed5, iblk0 m c s e0, iblk1 m c w e1, iblk2 m c x e2, iblk3 m c g e3, out5]
  show normed (sum (rows 1024 t.val s) w (rows 1024 t.val x)) g (y 0).val (y 1).val = E2 (φ := .bf16) (normed (sum s w x) g) ((win0_5.rect t).emb y)
  unfold E2
  rw [win0_5.rect_emb_val t y 0, win0_5.rect_emb_val_of_index_zero t 1 (idx t).2.2.2.1.2 y, (idx t).2.2.2.1.1, Nat.mul_comm]
  rfl

omit e0 e1 e2 e3

/-! The reference. -/

open Cert.Reference30Ideal.Read

theorem ref4 : val_main_v4 (F := Ideal) (E2 (φ := .bf16) s) (E3 (φ := .bf16) w) (E2 (φ := .f32) x) = E2 (φ := .f32) (sum s w x) := by
  unfold val_main_v4 val_main_v3 val_main_v2 val_main_v1
  refine (congrArg (fun p => addf (F := Ideal) (φ := .f32) _ (Host.dotGeneral (F := Ideal) _ none _ (extf .f32 p _))) (dropUnit_E3 w _)).trans ?_
  refine (congrArg (fun p => addf (F := Ideal) (φ := .f32) _ p) (dot_nn s (w 0) none _ rfl)).trans ?_
  rfl

theorem ref18 : val_main_v18 (F := Ideal) (E2 (φ := .bf16) s) (E3 (φ := .bf16) w) (E2 (φ := .f32) x) (E1 (φ := .f32) g)
    = E2 (φ := .bf16) (normed (sum s w x) g) := by
  funext i
  have hs : ∀ r : Cert.Reference30Ideal.S8192.Idx, val_main_v6 (F := Ideal) (E2 (φ := .bf16) s) (E3 (φ := .bf16) w) (E2 (φ := .f32) x) r
      = ∑ k ∈ Finset.range 1024, sum s w x (r 0).val k * sum s w x (r 0).val k := fun r => by
    rw [val_main_v6_apply]
    unfold val_main_v5
    rw [ref4]
    show Ideal.ofBits .f32 0x00000000#32 + _ = _
    rw [Ideal.ofBits_zero_f32, zero_add]
    exact fin_range 1024 fun k => sum s w x (r 0).val k * sum s w x (r 0).val k
  rw [val_main_v18_apply, val_main_v17_apply, val_main_v14_apply, val_main_v13_apply, val_main_v12_apply, val_main_v11_apply,
    val_main_v9_apply, val_main_v7_apply, hs, ref4, val_main_v16_apply, val_main_v15_apply]
  rfl

/-- The call and the reference, run from the same arguments, end with the same two arrays. -/
theorem algebraic : Cert.algebraic_Kernel30Ideal_Reference30Ideal
    (hKernel30Ideal := Cert.Kernel30Ideal.Gen.facts) (hReference30Ideal := Cert.Reference30Ideal.Gen.facts) := by
  intro m g m' g' hp ha
  refine ⟨fun c => (dats m 0 c).arrAt 4 cfg0.N, fun c => (dats m 0 c).arrAt 5 cfg0.N, Cert.Kernel30Ideal.Value.run_blocks m g,
    (θ_run Cert.Reference30Ideal.defs _ _).mono (fun r hr c => ?_) (Cert.Reference30Ideal.Value.run m' g')⟩
  obtain ⟨r0, r1, k⟩ := hr c
  obtain ⟨a0, a1, a2, a3⟩ := ha c
  obtain ⟨s, e0⟩ := exists_E2 (m ((c : Thread nD τ).loc main_arg0))
  obtain ⟨w, e1⟩ := exists_E3 (m ((c : Thread nD τ).loc main_arg1))
  obtain ⟨x, e2⟩ := exists_E2 (m ((c : Thread nD τ).loc main_arg2))
  obtain ⟨gn, e3⟩ := exists_E1 (m ((c : Thread nD τ).loc main_arg3))
  have h0 := (V_main_arg0 m c).trans e0
  have h1 := (V_main_arg1 m c).trans e1
  have h2 := (V_main_arg2 m c).trans e2
  have h3 := V_main_v0 m c gn e3
  refine ⟨?_, ?_, k⟩
  · refine (r0.trans (Cert.Reference30Ideal.Read.val_main_v4_eq _ _ _)).trans ?_
    rw [a0, a1, a2, e0, e1, e2]
    exact (ref4 s w x).trans (arr4 m c s w x gn h0 h1 h2 h3).symm
  · refine (r1.trans (Cert.Reference30Ideal.Read.val_main_v18_eq _ _ _ _)).trans ?_
    rw [a0, a1, a2, a3, e0, e1, e2, e3]
    exact (ref18 s w x gn).trans (arr5 m c s w x gn h0 h1 h2 h3).symm

end Cert.MixOut
end
-- ==== Proof.Mm.AOutBwd.lean ====
module

public import proofs.«01_k».proof.Defs
public import proofs.«01_k».proof.Proof.Mm.Ext
public import proofs.«01_k».proof.Proof.Gen.Kernel31Ideal.Value
public import proofs.«01_k».proof.Proof.Gen.Reference31Ideal.Run
public import proofs.«01_k».proof.Proof.Gen.Reference31Ideal.Read
public import Idealize.ShloMosaic.Lib.Pipeline.ValueKit

/-! The gradient of the result of the first token mixer, through the product after it: the call's result array is the
reference's. -/

@[expose] public section
set_option maxRecDepth 16384
noncomputable section
namespace Cert.AOutBwd
open Cert.Kernel31Ideal Cert.Kernel31Ideal.Gen Cert.Ext Idealize.ShloMosaic Idealize.ShloMosaic.TcCoe Idealize.SL.Sem
open scoped BigOperators

/-- The product of the rows with the rows of the weights. -/
def prod (h : ℕ → ℕ → EReal) (w : ℕ → ℕ → ℕ → EReal) (r c : ℕ) : EReal := ∑ i ∈ Finset.range 1024, h r i * w 0 c i

variable (m : (ℓ : Loc nD τ sig) → Buf (Elt Ideal) ℓ) (c : Dev nD)
variable (h : ℕ → ℕ → EReal) (w : ℕ → ℕ → ℕ → EReal)

theorem idx (t : Fin cfg0.N) : (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0) :=
  (by decide +kernel : ∀ t : Fin grid0.N, (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0)) t

theorem iblk0 (e : V m c main_arg0 = E2 (φ := .bf16) h) (t : Fin cfg0.N) : iblk m c 0 t = E2 (φ := .bf16) (rows 1024 t.val h) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.1 y, win0_1.rect_emb_val_of_index_zero t 1 (idx t).2.2.2.1 y,
    win0_1.rect_emb_val_of_index_zero t 2 (idx t).2.2.2.2 y]

theorem pay1 : k0_pay1 (F := Ideal) (E2 (φ := .bf16) h) (E3 (φ := .bf16) w) = E2 (prod h w) := by
  unfold k0_pay1
  refine (congrArg (fun x => FloatOps.matmul (F := Ideal) _ _ _ x _) (dropUnit_E3 w _)).trans ?_
  exact mm_nt h (w 0) none _ rfl

theorem out2 : out0_2 (F := Ideal) (E2 (φ := .bf16) h) (E3 (φ := .bf16) w) = E2 (φ := .f32) (prod h w) := by
  unfold out0_2
  refine (View.canon_cons_unit_lit _ _ _ (by decide)).trans ?_
  rw [View.ld_unit_lit _ _ (by decide), View.ld_unit_lit _ _ (by decide), pay1]

theorem cover2 (i : S8192x1280.Idx) : ∃ t : Fin cfg0.N, (cfg0.win 2).flush t = true ∧ i ∈ ((cfg0.win 2).blk t).view.set := by
  have hN : cfg0.N = 8 := N_0
  have hi0 : (i 0 : Nat) < 8192 := (i 0).isLt
  have hi1 : (i 1 : Nat) < 1280 := (i 1).isLt
  have ht : (i 0 : Nat) / 1024 < cfg0.N := by omega
  refine ⟨⟨(i 0 : Nat) / 1024, ht⟩, flush0_2 _, ?_⟩
  refine (View.set_slice_whole main_v0 (win0_2.rect ⟨(i 0 : Nat) / 1024, ht⟩)) ▸ ?_
  rw [Rect.mem_set_unit]
  intro a
  match a with
  | ⟨0, _⟩ =>
    show win0_2.index _ 0 * 1024 ≤ (i 0 : Nat) ∧ (i 0 : Nat) < win0_2.index _ 0 * 1024 + 1024
    rw [(idx _).2.1.1]; dsimp only; omega
  | ⟨1, _⟩ =>
    show win0_2.index _ 1 * 1280 ≤ (i 1 : Nat) ∧ (i 1 : Nat) < win0_2.index _ 1 * 1280 + 1280
    rw [(idx _).2.1.2]; omega

theorem arr2 (e0 : V m c main_arg0 = E2 (φ := .bf16) h) (e1 : V m c main_arg1 = E3 (φ := .bf16) w) :
    (dats m 0 c).arrAt 2 cfg0.N = E2 (φ := .f32) (prod h w) := by
  funext j
  refine (dats m 0 c).arrAt_forall_of_cover 2 (fun i v => v = E2 (φ := .f32) (prod h w) i) (fun t _ y => ?_) cover2 j
  rw [Value.flushed2, iblk0 m c h e0, iblk1 m c w e1, out2]
  show prod (rows 1024 t.val h) w (y 0).val (y 1).val = E2 (φ := .f32) (prod h w) ((win0_2.rect t).emb y)
  unfold E2
  rw [win0_2.rect_emb_val t y 0, win0_2.rect_emb_val_of_index_zero t 1 (idx t).2.1.2 y, (idx t).2.1.1, Nat.mul_comm]
  rfl

/-! The reference. -/

open Cert.Reference31Ideal.Read

theorem ref5 : val_main_v5 (F := Ideal) (E2 (φ := .bf16) h) (E3 (φ := .bf16) w) = E2 (φ := .f32) (prod h w) := by
  unfold val_main_v5 val_main_v4 val_main_v2 val_main_v1
  refine (congrArg (fun x => Host.dotGeneral (F := Ideal) _ none _ (extf .f32 x _)) (dropUnit_E3 w _)).trans ?_
  exact dot_nt h (w 0) none _ rfl

/-- The call and the reference, run from the same arguments, end with the same array. -/
theorem algebraic : Cert.algebraic_Kernel31Ideal_Reference31Ideal
    (hKernel31Ideal := Cert.Kernel31Ideal.Gen.facts) (hReference31Ideal := Cert.Reference31Ideal.Gen.facts) := by
  intro m g m' g' hp ha
  refine ⟨fun c => (dats m 0 c).arrAt 2 cfg0.N, Cert.Kernel31Ideal.Value.run_blocks m g,
    (θ_run Cert.Reference31Ideal.defs _ _).mono (fun r hr c => ?_) (Cert.Reference31Ideal.Value.run m' g')⟩
  obtain ⟨r0, k⟩ := hr c
  obtain ⟨a0, a1⟩ := ha c
  obtain ⟨h, e0⟩ := exists_E2 (m ((c : Thread nD τ).loc main_arg0))
  obtain ⟨w, e1⟩ := exists_E3 (m ((c : Thread nD τ).loc main_arg1))
  have h0 : V m c main_arg0 = E2 (φ := .bf16) h := (V_main_arg0 m c).trans e0
  have h1 : V m c main_arg1 = E3 (φ := .bf16) w := (V_main_arg1 m c).trans e1
  refine ⟨?_, k⟩
  refine (r0.trans (Cert.Reference31Ideal.Read.val_main_v5_eq _ _)).trans ?_
  rw [a0, a1, e0, e1]
  exact (ref5 h w).trans (arr2 m c h w h0 h1).symm

end Cert.AOutBwd
end
-- ==== Proof.Mm.MixOutBwd.lean ====
module

public import proofs.«01_k».proof.Defs
public import proofs.«01_k».proof.Proof.Mm.Ext
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pipeline.ValueKit

/-! The gradient of the result of the second or the third token mixer, through the product after it: the call's result array is the
reference's. -/

@[expose] public section
set_option maxRecDepth 16384
noncomputable section
namespace Cert.MixOutBwd
open Cert.Kernel32Ideal Cert.Kernel32Ideal.Gen Cert.Ext Idealize.ShloMosaic Idealize.ShloMosaic.TcCoe Idealize.SL.Sem
open scoped BigOperators

/-- The product of the rows with the rows of the weights. -/
def prod (h : ℕ → ℕ → EReal) (w : ℕ → ℕ → ℕ → EReal) (r c : ℕ) : EReal := ∑ i ∈ Finset.range 1024, h r i * w 0 c i

variable (m : (ℓ : Loc nD τ sig) → Buf (Elt Ideal) ℓ) (c : Dev nD)
variable (h : ℕ → ℕ → EReal) (w : ℕ → ℕ → ℕ → EReal)

theorem idx (t : Fin cfg0.N) : (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0) :=
  (by decide +kernel : ∀ t : Fin grid0.N, (win0_0.index t 0 = t.val ∧ win0_0.index t 1 = 0) ∧ (win0_2.index t 0 = t.val ∧ win0_2.index t 1 = 0)
    ∧ (win0_1.index t 0 = 0 ∧ win0_1.index t 1 = 0 ∧ win0_1.index t 2 = 0)) t

theorem iblk0 (e : V m c main_arg0 = E2 (φ := .bf16) h) (t : Fin cfg0.N) : iblk m c 0 t = E2 (φ := .bf16) (rows 1024 t.val h) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_arg1 = E3 (φ := .bf16) w) (t : Fin cfg0.N) : iblk m c 1 t = E3 (φ := .bf16) w := by
  funext y
  show V m c main_arg1 ((win0_1.rect t).emb y) = _
  rw [e]
  unfold E3
  rw [win0_1.rect_emb_val_of_index_zero t 0 (idx t).2.2.1 y, win0_1.rect_emb_val_of_index_zero t 1 (idx t).2.2.2.1 y,
    win0_1.rect_emb_val_of_index_zero t 2 (idx t).2.2.2.2 y]

theorem pay1 : k0_pay1 (F := Ideal) (E2 (φ := .bf16) h) (E3 (φ := .bf16) w) = E2 (prod h w) := by
  unfold k0_pay1
  refine (congrArg (fun x => FloatOps.matmul (F := Ideal) _ _ _ x _) (dropUnit_E3 w _)).trans ?_
  exact mm_nt h (w 0) none _ rfl

theorem out2 : out0_2 (F := Ideal) (E2 (φ := .bf16) h) (E3 (φ := .bf16) w) = E2 (φ := .f32) (prod h w) := by
  unfold out0_2
  refine (View.canon_cons_unit_lit _ _ _ (by decide)).trans ?_
  rw [View.ld_unit_lit _ _ (by decide), View.ld_unit_lit _ _ (by decide), pay1]

theorem cover2 (i : S8192x1024.Idx) : ∃ t : Fin cfg0.N, (cfg0.win 2).flush t = true ∧ i ∈ ((cfg0.win 2).blk t).view.set := by
  have hN : cfg0.N = 8 := N_0
  have hi0 : (i 0 : Nat) < 8192 := (i 0).isLt
  have hi1 : (i 1 : Nat) < 1024 := (i 1).isLt
  have ht : (i 0 : Nat) / 1024 < cfg0.N := by omega
  refine ⟨⟨(i 0 : Nat) / 1024, ht⟩, flush0_2 _, ?_⟩
  refine (View.set_slice_whole main_v0 (win0_2.rect ⟨(i 0 : Nat) / 1024, ht⟩)) ▸ ?_
  rw [Rect.mem_set_unit]
  intro a
  match a with
  | ⟨0, _⟩ =>
    show win0_2.index _ 0 * 1024 ≤ (i 0 : Nat) ∧ (i 0 : Nat) < win0_2.index _ 0 * 1024 + 1024
    rw [(idx _).2.1.1]; dsimp only; omega
  | ⟨1, _⟩ =>
    show win0_2.index _ 1 * 1024 ≤ (i 1 : Nat) ∧ (i 1 : Nat) < win0_2.index _ 1 * 1024 + 1024
    rw [(idx _).2.1.2]; omega

theorem arr2 (e0 : V m c main_arg0 = E2 (φ := .bf16) h) (e1 : V m c main_arg1 = E3 (φ := .bf16) w) :
    (dats m 0 c).arrAt 2 cfg0.N = E2 (φ := .f32) (prod h w) := by
  funext j
  refine (dats m 0 c).arrAt_forall_of_cover 2 (fun i v => v = E2 (φ := .f32) (prod h w) i) (fun t _ y => ?_) cover2 j
  rw [Value.flushed2, iblk0 m c h e0, iblk1 m c w e1, out2]
  show prod (rows 1024 t.val h) w (y 0).val (y 1).val = E2 (φ := .f32) (prod h w) ((win0_2.rect t).emb y)
  unfold E2
  rw [win0_2.rect_emb_val t y 0, win0_2.rect_emb_val_of_index_zero t 1 (idx t).2.1.2 y, (idx t).2.1.1, Nat.mul_comm]
  rfl

/-! The reference. -/

open Cert.Reference32Ideal.Read

theorem ref5 : val_main_v5 (F := Ideal) (E2 (φ := .bf16) h) (E3 (φ := .bf16) w) = E2 (φ := .f32) (prod h w) := by
  unfold val_main_v5 val_main_v4 val_main_v2 val_main_v1
  refine (congrArg (fun x => Host.dotGeneral (F := Ideal) _ none _ (extf .f32 x _)) (dropUnit_E3 w _)).trans ?_
  exact dot_nt h (w 0) none _ rfl

/-- The call and the reference, run from the same arguments, end with the same array. -/
theorem algebraic : Cert.algebraic_Kernel32Ideal_Reference32Ideal
    (hKernel32Ideal := Cert.Kernel32Ideal.Gen.facts) (hReference32Ideal := Cert.Reference32Ideal.Gen.facts) := by
  intro m g m' g' hp ha
  refine ⟨fun c => (dats m 0 c).arrAt 2 cfg0.N, Cert.Kernel32Ideal.Value.run_blocks m g,
    (θ_run Cert.Reference32Ideal.defs _ _).mono (fun r hr c => ?_) (Cert.Reference32Ideal.Value.run m' g')⟩
  obtain ⟨r0, k⟩ := hr c
  obtain ⟨a0, a1⟩ := ha c
  obtain ⟨h, e0⟩ := exists_E2 (m ((c : Thread nD τ).loc main_arg0))
  obtain ⟨w, e1⟩ := exists_E3 (m ((c : Thread nD τ).loc main_arg1))
  have h0 : V m c main_arg0 = E2 (φ := .bf16) h := (V_main_arg0 m c).trans e0
  have h1 : V m c main_arg1 = E3 (φ := .bf16) w := (V_main_arg1 m c).trans e1
  refine ⟨?_, k⟩
  refine (r0.trans (Cert.Reference32Ideal.Read.val_main_v5_eq _ _)).trans ?_
  rw [a0, a1, e0, e1]
  exact (ref5 h w).trans (arr2 m c h w h0 h1).symm

end Cert.MixOutBwd
end
-- ==== Proof.Mm.AOutGrad.lean ====
module

public import proofs.«01_k».proof.Defs
public import proofs.«01_k».proof.Proof.Mm.Wgrad
public import proofs.«01_k».proof.Proof.Gen.Kernel33Ideal.Value
public import proofs.«01_k».proof.Proof.Gen.Reference33Ideal.Run
public import proofs.«01_k».proof.Proof.Gen.Reference33Ideal.Read
public import Idealize.ShloMosaic.Lib.Pipeline.ValueKit

/-! The gradient of the first token mixer's output weights: the call's two result arrays are the reference's. -/

@[expose] public section
set_option maxRecDepth 16384
noncomputable section
namespace Cert.AOutGrad
open Cert.Kernel33Ideal Cert.Kernel33Ideal.Gen Cert.Ext Cert.Wgrad Idealize.ShloMosaic Idealize.ShloMosaic.TcCoe Idealize.SL.Sem
open scoped BigOperators

variable (m : (ℓ : Loc nD τ sig) → Buf (Elt Ideal) ℓ) (c : Dev nD)
variable (f g : ℕ → ℕ → EReal) (h : ℕ → ℕ → ℕ → EReal)

theorem idx (t : Fin cfg0.N) : (win0_0.index t 0 = t.val % 4 ∧ win0_0.index t 1 = t.val / 4) ∧ (win0_1.index t 0 = t.val % 4 ∧ win0_1.index t 1 = 0)
    ∧ (win0_2.index t 0 = 0 ∧ win0_2.index t 1 = t.val / 4 ∧ win0_2.index t 2 = 0) ∧ (win0_3.index t 0 = 0 ∧ win0_3.index t 1 = t.val / 4 ∧ win0_3.index t 2 = 0) :=
  (by decide +kernel : ∀ t : Fin grid0.N, (win0_0.index t 0 = t.val % 4 ∧ win0_0.index t 1 = t.val / 4) ∧ (win0_1.index t 0 = t.val % 4 ∧ win0_1.index t 1 = 0)
    ∧ (win0_2.index t 0 = 0 ∧ win0_2.index t 1 = t.val / 4 ∧ win0_2.index t 2 = 0) ∧ (win0_3.index t 0 = 0 ∧ win0_3.index t 1 = t.val / 4 ∧ win0_3.index t 2 = 0)) t

theorem iblk0 (e : V m c main_arg0 = E2 (φ := .bf16) f) (t : Fin cfg0.N) :
    iblk m c 0 t = E2 (φ := .bf16) (blk 2048 640 (t.val % 4) (t.val / 4) f) := by
  funext y
  show V m c main_arg0 ((win0_0.rect t).emb y) = _
  rw [e]
  unfold E2 blk
  rw [win0_0.rect_emb_val t y 0, win0_0.rect_emb_val t y 1, (idx t).1.1, (idx t).1.2, Nat.mul_comm, Nat.mul_comm (t.val / 4)]
  rfl

theorem iblk1 (e : V m c main_arg1 = E2 (φ := .bf16) g) (t : Fin cfg0.N) :
    iblk m c 1 t = E2 (φ := .bf16) (blk 2048 1024 (t.val % 4) 0 g) := by
  funext y
  show V m c main_arg1 ((win0_1.rect t).emb y) = _
  rw [e]
  unfold E2 blk
  rw [win0_1.rect_emb_val t y 0, win0_1.rect_emb_val t y 1, (idx t).2.1.1, (idx t).2.1.2, Nat.mul_comm, Nat.mul_comm 0]
  rfl

theorem pay1 : k0_pay1 (F := Ideal) (E2 (φ := .bf16) f) (E2 (φ := .bf16) g)
    = E2 fun r c => ∑ i ∈ Finset.range 2048, f i r * g i c :=
  mm_tn f g none dot_S2048x640_S2048x1024_S640x1024_0_0_1_1_n_n rfl rfl (fun _ _ => rfl) (fun _ _ => rfl) (fun _ _ => rfl) fun _ _ => rfl

theorem pay2 : k0_pay2 (F := Ideal) (E2 (φ := .bf16) f) (E2 (φ := .bf16) g)
    = E3 fun _ r c => ∑ i ∈ Finset.range 2048, f i r * g i c := by
  unfold k0_pay2
  rw [pay1]
  exact addUnit_E2 _ _

theorem pay3 : k0_pay3 (F := Ideal) (E2 (φ := .bf16) f) (E2 (φ := .bf16) g) (E3 (φ := .f32) h)
    = E3 fun _ r c => h 0 r c + ∑ i ∈ Finset.range 2048, f i r * g i c := by
  unfold k0_pay3
  rw [pay1]
  refine (congrArg (fun x => shapeCast _ (addf x _) _) (dropUnit_E3 h _)).trans ?_
  exact addUnit_E2 (fun r c => h 0 r c + ∑ i ∈ Finset.range 2048, f i r * g i c) _

theorem pay4 : k0_pay4 (F := Ideal) (E3 (φ := .f32) h) = E3 fun _ => h 0 := by
  unfold k0_pay4
  refine (congrArg (fun x => shapeCast _ (truncf .bf16 x _) _) (dropUnit_E3 h _)).trans ?_
  exact addUnit_E2 _ _

/-- What the first result's block holds after point `t`: the product along the rows met so far. -/
theorem acc (e0 : V m c main_arg0 = E2 (φ := .bf16) f) (e1 : V m c main_arg1 = E2 (φ := .bf16) g) :
    ∀ (i : ℕ) (hi : i < cfg0.N), (outsAt0 m c i hi).1 = E3 (φ := .f32) fun _ => part f g 2048 640 1024 (i / 4) 0 (i % 4 + 1) := by
  have first : ∀ t : Fin cfg0.N, t.val % 4 = 0 →
      (outsAt0 m c t.val t.isLt).1 = E3 (φ := .f32) fun _ => part f g 2048 640 1024 (t.val / 4) 0 (t.val % 4 + 1) := by
    intro t h0
    rw [outsAt0_A m c t h0 (by omega) (by omega)]
    frame_out
    rw [iblk0 m c f e0, iblk1 m c g e1, pay2, h0]
    exact congrArg _ (funext fun _ => funext fun r => funext fun c => part_one f g 2048 640 1024 _ _ r c)
  intro i
  induction i with
  | zero => exact fun hi => first ⟨0, hi⟩ rfl
  | succ n ih =>
    intro hi
    by_cases h0 : (n + 1) % 4 = 0
    · exact first ⟨n + 1, hi⟩ h0
    have hd : (n + 1) / 4 = n / 4 := by omega
    have hm : (n + 1) % 4 = n % 4 + 1 := by omega
    have step : k0_pay3 (F := Ideal) (iblk m c 0 ⟨n + 1, hi⟩) (iblk m c 1 ⟨n + 1, hi⟩) (outsAt0 m c n (Nat.lt_of_succ_lt hi)).1
        = E3 (φ := .f32) fun _ => part f g 2048 640 1024 ((n + 1) / 4) 0 ((n + 1) % 4 + 1) := by
      rw [ih (Nat.lt_of_succ_lt hi), iblk0 m c f e0, iblk1 m c g e1, pay3]
      dsimp only
      rw [hd, hm]
      exact congrArg _ (funext fun _ => funext fun r => funext fun c => part_succ f g 2048 640 1024 _ _ _ r c)
    by_cases h2 : (n + 1) % 4 = 3
    · refine (congrArg Prod.fst (outsAt0_C m c ⟨n + 1, hi⟩ h0 (by dsimp only; omega) h2)).trans ?_
      frame_out
      exact step
    · refine (congrArg Prod.fst (outsAt0_B m c ⟨n + 1, hi⟩ h0 (by dsimp only; omega) h2)).trans ?_
      frame_out
      exact step

/-- What the second result's block holds after the last rows: the same product. -/
theorem acc3 (e0 : V m c main_arg0 = E2 (φ := .bf16) f) (e1 : V m c main_arg1 = E2 (φ := .bf16) g) (t : Fin cfg0.N) (h2 : t.val % 4 = 3) :
    (outsAt0 m c t.val t.isLt).2 = E3 (φ := .bf16) fun _ => part f g 2048 640 1024 (t.val / 4) 0 4 := by
  have e := acc m c f g e0 e1 t.val t.isLt
  rw [outsAt0_C m c t (by omega) (by omega) h2] at e ⊢
  frame_out
  frame_out at e
  rw [e, pay4, h2]

theorem cover2 (i : S1x1280x1024.Idx) : ∃ t : Fin cfg0.N, (cfg0.win 2).flush t = true ∧ i ∈ ((cfg0.win 2).blk t).view.set := by
  have hN : cfg0.N = 8 := N_0
  have hi0 : (i 0 : Nat) < 1 := (i 0).isLt
  have hi1 : (i 1 : Nat) < 1280 := (i 1).isLt
  have hi2 : (i 2 : Nat) < 1024 := (i 2).isLt
  have ht : (i 1 : Nat) / 640 * 4 + 3 < cfg0.N := by omega
  refine ⟨⟨(i 1 : Nat) / 640 * 4 + 3, ht⟩, (flush0_2 _).mpr (by dsimp only; omega), ?_⟩
  refine (View.set_slice_whole main_v0_0 (win0_2.rect ⟨(i 1 : Nat) / 640 * 4 + 3, ht⟩)) ▸ ?_
  rw [Rect.mem_set_unit]
  intro a
  match a with
  | ⟨0, _⟩ =>
    show win0_2.index _ 0 * 1 ≤ (i 0 : Nat) ∧ (i 0 : Nat) < win0_2.index _ 0 * 1 + 1
    rw [(idx _).2.2.1.1]; omega
  | ⟨1, _⟩ =>
    show win0_2.index _ 1 * 640 ≤ (i 1 : Nat) ∧ (i 1 : Nat) < win0_2.index _ 1 * 640 + 640
    rw [(idx _).2.2.1.2.1]; dsimp only; omega
  | ⟨2, _⟩ =>
    show win0_2.index _ 2 * 1024 ≤ (i 2 : Nat) ∧ (i 2 : Nat) < win0_2.index _ 2 * 1024 + 1024
    rw [(idx _).2.2.1.2.2]; omega

theorem cover3 (i : S1x1280x1024.Idx) : ∃ t : Fin cfg0.N, (cfg0.win 3).flush t = true ∧ i ∈ ((cfg0.win 3).blk t).view.set := by
  have hN : cfg0.N = 8 := N_0
  have hi0 : (i 0 : Nat) < 1 := (i 0).isLt
  have hi1 : (i 1 : Nat) < 1280 := (i 1).isLt
  have hi2 : (i 2 : Nat) < 1024 := (i 2).isLt
  have ht : (i 1 : Nat) / 640 * 4 + 3 < cfg0.N := by omega
  refine ⟨⟨(i 1 : Nat) / 640 * 4 + 3, ht⟩, (flush0_3 _).mpr (by dsimp only; omega), ?_⟩
  refine (View.set_slice_whole main_v0_1 (win0_3.rect ⟨(i 1 : Nat) / 640 * 4 + 3, ht⟩)) ▸ ?_
  rw [Rect.mem_set_unit]
  intro a
  match a with
  | ⟨0, _⟩ =>
    show win0_3.index _ 0 * 1 ≤ (i 0 : Nat) ∧ (i 0 : Nat) < win0_3.index _ 0 * 1 + 1
    rw [(idx _).2.2.2.1]; omega
  | ⟨1, _⟩ =>
    show win0_3.index _ 1 * 640 ≤ (i 1 : Nat) ∧ (i 1 : Nat) < win0_3.index _ 1 * 640 + 640
    rw [(idx _).2.2.2.2.1]; dsimp only; omega
  | ⟨2, _⟩ =>
    show win0_3.index _ 2 * 1024 ≤ (i 2 : Nat) ∧ (i 2 : Nat) < win0_3.index _ 2 * 1024 + 1024
    rw [(idx _).2.2.2.2.2]; omega

theorem arr2 (e0 : V m c main_arg0 = E2 (φ := .bf16) f) (e1 : V m c main_arg1 = E2 (φ := .bf16) g) :
    (dats m 0 c).arrAt 2 cfg0.N = E3 (φ := .f32) fun _ => prod f g 8192 := by
  funext j
  refine (dats m 0 c).arrAt_forall_of_cover 2 (fun i v => v = E3 (φ := .f32) (fun _ => prod f g 8192) i) (fun t hf y => ?_) cover2 j
  rw [Value.flushed2, acc m c f g e0 e1 t.val t.isLt, (flush0_2 t).mp hf]
  show part f g 2048 640 1024 (t.val / 4) 0 4 (y 1).val (y 2).val = E3 (φ := .f32) (fun _ => prod f g 8192) ((win0_2.rect t).emb y)
  unfold E3 part
  dsimp only
  rw [win0_2.rect_emb_val t y 1, win0_2.rect_emb_val t y 2, (idx t).2.2.1.2.1, (idx t).2.2.1.2.2, Nat.mul_comm (t.val / 4), Nat.mul_comm 0]
  rfl

theorem arr3 (e0 : V m c main_arg0 = E2 (φ := .bf16) f) (e1 : V m c main_arg1 = E2 (φ := .bf16) g) :
    (dats m 0 c).arrAt 3 cfg0.N = E3 (φ := .bf16) fun _ => prod f g 8192 := by
  funext j
  refine (dats m 0 c).arrAt_forall_of_cover 3 (fun i v => v = E3 (φ := .bf16) (fun _ => prod f g 8192) i) (fun t hf y => ?_) cover3 j
  rw [Value.flushed3, acc3 m c f g e0 e1 t ((flush0_3 t).mp hf)]
  show part f g 2048 640 1024 (t.val / 4) 0 4 (y 1).val (y 2).val = E3 (φ := .bf16) (fun _ => prod f g 8192) ((win0_3.rect t).emb y)
  unfold E3 part
  dsimp only
  rw [win0_3.rect_emb_val t y 1, win0_3.rect_emb_val t y 2, (idx t).2.2.2.2.1, (idx t).2.2.2.2.2, Nat.mul_comm (t.val / 4), Nat.mul_comm 0]
  rfl

/-! The reference. -/

open Cert.Reference33Ideal.Read

theorem ref6 : val_main_v6 (F := Ideal) (E2 (φ := .bf16) f) (E2 (φ := .bf16) g) = E3 (φ := .f32) fun _ => prod f g 8192 := by
  funext i
  rw [val_main_v6_apply, val_main_v5_apply, val_main_v4_apply]
  refine (fin_range 8192 fun k => g k (i 2).val * f k (i 1).val).trans ?_
  exact prod_comm f g 8192 (i 1).val (i 2).val

theorem ref8 : val_main_v8 (F := Ideal) (E2 (φ := .bf16) f) (E2 (φ := .bf16) g) = E3 (φ := .bf16) fun _ => prod f g 8192 := by
  unfold val_main_v8
  rw [show val_main_v7 (F := Ideal) (E2 (φ := .bf16) f) (E2 (φ := .bf16) g) = _ from ref6 f g]
  rfl

/-- The call and the reference, run from the same arguments, end with the same two arrays. -/
theorem algebraic : Cert.algebraic_Kernel33Ideal_Reference33Ideal
    (hKernel33Ideal := Cert.Kernel33Ideal.Gen.facts) (hReference33Ideal := Cert.Reference33Ideal.Gen.facts) := by
  intro m g m' g' hp ha
  refine ⟨fun c => (dats m 0 c).arrAt 2 cfg0.N, fun c => (dats m 0 c).arrAt 3 cfg0.N, Cert.Kernel33Ideal.Value.run_blocks m g,
    (θ_run Cert.Reference33Ideal.defs _ _).mono (fun r hr c => ?_) (Cert.Reference33Ideal.Value.run m' g')⟩
  obtain ⟨r0, r1, k⟩ := hr c
  obtain ⟨a0, a1⟩ := ha c
  obtain ⟨x, e0⟩ := exists_E2 (m ((c : Thread nD τ).loc main_arg0))
  obtain ⟨y, e1⟩ := exists_E2 (m ((c : Thread nD τ).loc main_arg1))
  have h0 : V m c main_arg0 = E2 (φ := .bf16) x := (V_main_arg0 m c).trans e0
  have h1 : V m c main_arg1 = E2 (φ := .bf16) y := (V_main_arg1 m c).trans e1
  refine ⟨?_, ?_, k⟩
  · refine (r0.trans (Cert.Reference33Ideal.Read.val_main_v6_eq _ _)).trans ?_
    rw [a0, a1, e0, e1]
    exact (ref6 x y).trans (arr2 m c x y h0 h1).symm
  · refine (r1.trans (Cert.Reference33Ideal.Read.val_main_v8_eq _ _)).trans ?_
    rw [a0, a1, e0, e1]
    exact (ref8 x y).trans (arr3 m c x y h0 h1).symm

end Cert.AOutGrad
end
-- ==== Proof.Mm.MixOutGrad.lean ====
module

public import proofs.«01_k».proof.Defs
public import proofs.«01_k».proof.Proof.Mm.Wgrad
public import proofs.«01_k».proof.Proof.Gen.Kernel34Ideal.Value
public import proofs.«01_k».proof.Proof.Gen.Reference34Ideal.Run
public import proofs.«01_k».proof.Proof.Gen.Reference34Ideal.Read
public import Idealize.ShloMosaic.Lib.Pipeline.ValueKit

/-! The gradient of the output weights of the second or the third token mixer: the call's two result arrays are the reference's. -/

@[expose] public section
set_option maxRecDepth 16384
noncomputable section
namespace Cert.MixOutGrad
open Cert.Kernel34Ideal Cert.Kernel34Ideal.Gen Cert.Ext Cert.Wgrad Idealize.ShloMosaic Idealize.ShloMosaic.TcCoe Idealize.SL.Sem
open scoped BigOperators

variable (m : (ℓ : Loc nD τ sig) → Buf (Elt Ideal) ℓ) (c : Dev nD)
variable (f g : ℕ → ℕ → EReal) (h : ℕ → ℕ → ℕ → EReal)

theorem idx (t : Fin cfg0.N) : (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4) :=
  (by decide +kernel : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4)) t

theorem iblk0 (e : V m c main_arg0 = E2 (φ := .bf16) f) (t : Fin cfg0.N) :
    iblk m c 0 t = E2 (φ := .bf16) (blk 2048 1024 (t.val % 4) 0 f) := by
  funext y
  show V m c main_arg0 ((win0_0.rect t).emb y) = _
  rw [e]
  unfold E2 blk
  rw [win0_0.rect_emb_val t y 0, win0_0.rect_emb_val t y 1, (idx t).1.1, (idx t).1.2, Nat.mul_comm, Nat.mul_comm 0]
  rfl

theorem iblk1 (e : V m c main_arg1 = E2 (φ := .bf16) g) (t : Fin cfg0.N) :
    iblk m c 1 t = E2 (φ := .bf16) (blk 2048 1024 (t.val % 4) (t.val / 4) g) := by
  funext y
  show V m c main_arg1 ((win0_1.rect t).emb y) = _
  rw [e]
  unfold E2 blk
  rw [win0_1.rect_emb_val t y 0, win0_1.rect_emb_val t y 1, (idx t).2.1.1, (idx t).2.1.2, Nat.mul_comm, Nat.mul_comm (t.val / 4)]
  rfl

theorem pay1 : k0_pay1 (F := Ideal) (E2 (φ := .bf16) f) (E2 (φ := .bf16) g)
    = E2 fun r c => ∑ i ∈ Finset.range 2048, f i r * g i c :=
  mm_tn f g none dot_S2048x1024_S2048x1024_S1024x1024_0_0_1_1_n_n rfl rfl (fun _ _ => rfl) (fun _ _ => rfl) (fun _ _ => rfl) fun _ _ => rfl

theorem pay2 : k0_pay2 (F := Ideal) (E2 (φ := .bf16) f) (E2 (φ := .bf16) g)
    = E3 fun _ r c => ∑ i ∈ Finset.range 2048, f i r * g i c := by
  unfold k0_pay2
  rw [pay1]
  exact addUnit_E2 _ _

theorem pay3 : k0_pay3 (F := Ideal) (E2 (φ := .bf16) f) (E2 (φ := .bf16) g) (E3 (φ := .f32) h)
    = E3 fun _ r c => h 0 r c + ∑ i ∈ Finset.range 2048, f i r * g i c := by
  unfold k0_pay3
  rw [pay1]
  refine (congrArg (fun x => shapeCast _ (addf x _) _) (dropUnit_E3 h _)).trans ?_
  exact addUnit_E2 (fun r c => h 0 r c + ∑ i ∈ Finset.range 2048, f i r * g i c) _

theorem pay4 : k0_pay4 (F := Ideal) (E3 (φ := .f32) h) = E3 fun _ => h 0 := by
  unfold k0_pay4
  refine (congrArg (fun x => shapeCast _ (truncf .bf16 x _) _) (dropUnit_E3 h _)).trans ?_
  exact addUnit_E2 _ _

/-- What the first result's block holds after point `t`: the product along the rows met so far. -/
theorem acc (e0 : V m c main_arg0 = E2 (φ := .bf16) f) (e1 : V m c main_arg1 = E2 (φ := .bf16) g) :
    ∀ (i : ℕ) (hi : i < cfg0.N), (outsAt0 m c i hi).1 = E3 (φ := .f32) fun _ => part f g 2048 1024 1024 0 (i / 4) (i % 4 + 1) := by
  have first : ∀ t : Fin cfg0.N, t.val % 4 = 0 →
      (outsAt0 m c t.val t.isLt).1 = E3 (φ := .f32) fun _ => part f g 2048 1024 1024 0 (t.val / 4) (t.val % 4 + 1) := by
    intro t h0
    have hN : t.val < 4 := (show cfg0.N = 4 from N_0) ▸ t.isLt
    rw [outsAt0_A m c t h0 (by omega) (by omega)]
    frame_out
    rw [iblk0 m c f e0, iblk1 m c g e1, pay2, h0]
    exact congrArg _ (funext fun _ => funext fun r => funext fun c => part_one f g 2048 1024 1024 _ _ r c)
  intro i
  induction i with
  | zero => exact fun hi => first ⟨0, hi⟩ rfl
  | succ n ih =>
    intro hi
    by_cases h0 : (n + 1) % 4 = 0
    · exact first ⟨n + 1, hi⟩ h0
    have hd : (n + 1) / 4 = n / 4 := by omega
    have hm : (n + 1) % 4 = n % 4 + 1 := by omega
    have step : k0_pay3 (F := Ideal) (iblk m c 0 ⟨n + 1, hi⟩) (iblk m c 1 ⟨n + 1, hi⟩) (outsAt0 m c n (Nat.lt_of_succ_lt hi)).1
        = E3 (φ := .f32) fun _ => part f g 2048 1024 1024 0 ((n + 1) / 4) ((n + 1) % 4 + 1) := by
      rw [ih (Nat.lt_of_succ_lt hi), iblk0 m c f e0, iblk1 m c g e1, pay3]
      dsimp only
      rw [hd, hm]
      exact congrArg _ (funext fun _ => funext fun r => funext fun c => part_succ f g 2048 1024 1024 _ _ _ r c)
    by_cases h2 : (n + 1) % 4 = 3
    · refine (congrArg Prod.fst (outsAt0_C m c ⟨n + 1, hi⟩ h0 (by dsimp only; omega) h2)).trans ?_
      frame_out
      exact step
    · refine (congrArg Prod.fst (outsAt0_B m c ⟨n + 1, hi⟩ h0 (by dsimp only; omega) h2)).trans ?_
      frame_out
      exact step

/-- What the second result's block holds after the last rows: the same product. -/
theorem acc3 (e0 : V m c main_arg0 = E2 (φ := .bf16) f) (e1 : V m c main_arg1 = E2 (φ := .bf16) g) (t : Fin cfg0.N) (h2 : t.val % 4 = 3) :
    (outsAt0 m c t.val t.isLt).2 = E3 (φ := .bf16) fun _ => part f g 2048 1024 1024 0 (t.val / 4) 4 := by
  have e := acc m c f g e0 e1 t.val t.isLt
  rw [outsAt0_C m c t (by omega) (by omega) h2] at e ⊢
  frame_out
  frame_out at e
  rw [e, pay4, h2]

theorem cover2 (i : S1x1024x1024.Idx) : ∃ t : Fin cfg0.N, (cfg0.win 2).flush t = true ∧ i ∈ ((cfg0.win 2).blk t).view.set := by
  have hN : cfg0.N = 4 := N_0
  have hi0 : (i 0 : Nat) < 1 := (i 0).isLt
  have hi1 : (i 1 : Nat) < 1024 := (i 1).isLt
  have hi2 : (i 2 : Nat) < 1024 := (i 2).isLt
  have ht : (i 2 : Nat) / 1024 * 4 + 3 < cfg0.N := by omega
  refine ⟨⟨(i 2 : Nat) / 1024 * 4 + 3, ht⟩, (flush0_2 _).mpr (by dsimp only; omega), ?_⟩
  refine (View.set_slice_whole main_v0_0 (win0_2.rect ⟨(i 2 : Nat) / 1024 * 4 + 3, ht⟩)) ▸ ?_
  rw [Rect.mem_set_unit]
  intro a
  match a with
  | ⟨0, _⟩ =>
    show win0_2.index _ 0 * 1 ≤ (i 0 : Nat) ∧ (i 0 : Nat) < win0_2.index _ 0 * 1 + 1
    rw [(idx _).2.2.1.1]; omega
  | ⟨1, _⟩ =>
    show win0_2.index _ 1 * 1024 ≤ (i 1 : Nat) ∧ (i 1 : Nat) < win0_2.index _ 1 * 1024 + 1024
    rw [(idx _).2.2.1.2.1]; omega
  | ⟨2, _⟩ =>
    show win0_2.index _ 2 * 1024 ≤ (i 2 : Nat) ∧ (i 2 : Nat) < win0_2.index _ 2 * 1024 + 1024
    rw [(idx _).2.2.1.2.2]; dsimp only; omega

theorem cover3 (i : S1x1024x1024.Idx) : ∃ t : Fin cfg0.N, (cfg0.win 3).flush t = true ∧ i ∈ ((cfg0.win 3).blk t).view.set := by
  have hN : cfg0.N = 4 := N_0
  have hi0 : (i 0 : Nat) < 1 := (i 0).isLt
  have hi1 : (i 1 : Nat) < 1024 := (i 1).isLt
  have hi2 : (i 2 : Nat) < 1024 := (i 2).isLt
  have ht : (i 2 : Nat) / 1024 * 4 + 3 < cfg0.N := by omega
  refine ⟨⟨(i 2 : Nat) / 1024 * 4 + 3, ht⟩, (flush0_3 _).mpr (by dsimp only; omega), ?_⟩
  refine (View.set_slice_whole main_v0_1 (win0_3.rect ⟨(i 2 : Nat) / 1024 * 4 + 3, ht⟩)) ▸ ?_
  rw [Rect.mem_set_unit]
  intro a
  match a with
  | ⟨0, _⟩ =>
    show win0_3.index _ 0 * 1 ≤ (i 0 : Nat) ∧ (i 0 : Nat) < win0_3.index _ 0 * 1 + 1
    rw [(idx _).2.2.2.1]; omega
  | ⟨1, _⟩ =>
    show win0_3.index _ 1 * 1024 ≤ (i 1 : Nat) ∧ (i 1 : Nat) < win0_3.index _ 1 * 1024 + 1024
    rw [(idx _).2.2.2.2.1]; omega
  | ⟨2, _⟩ =>
    show win0_3.index _ 2 * 1024 ≤ (i 2 : Nat) ∧ (i 2 : Nat) < win0_3.index _ 2 * 1024 + 1024
    rw [(idx _).2.2.2.2.2]; dsimp only; omega

theorem arr2 (e0 : V m c main_arg0 = E2 (φ := .bf16) f) (e1 : V m c main_arg1 = E2 (φ := .bf16) g) :
    (dats m 0 c).arrAt 2 cfg0.N = E3 (φ := .f32) fun _ => prod f g 8192 := by
  funext j
  refine (dats m 0 c).arrAt_forall_of_cover 2 (fun i v => v = E3 (φ := .f32) (fun _ => prod f g 8192) i) (fun t hf y => ?_) cover2 j
  rw [Value.flushed2, acc m c f g e0 e1 t.val t.isLt, (flush0_2 t).mp hf]
  show part f g 2048 1024 1024 0 (t.val / 4) 4 (y 1).val (y 2).val = E3 (φ := .f32) (fun _ => prod f g 8192) ((win0_2.rect t).emb y)
  unfold E3 part
  dsimp only
  rw [win0_2.rect_emb_val t y 1, win0_2.rect_emb_val t y 2, (idx t).2.2.1.2.1, (idx t).2.2.1.2.2, Nat.mul_comm (t.val / 4), Nat.mul_comm 0]
  rfl

theorem arr3 (e0 : V m c main_arg0 = E2 (φ := .bf16) f) (e1 : V m c main_arg1 = E2 (φ := .bf16) g) :
    (dats m 0 c).arrAt 3 cfg0.N = E3 (φ := .bf16) fun _ => prod f g 8192 := by
  funext j
  refine (dats m 0 c).arrAt_forall_of_cover 3 (fun i v => v = E3 (φ := .bf16) (fun _ => prod f g 8192) i) (fun t hf y => ?_) cover3 j
  rw [Value.flushed3, acc3 m c f g e0 e1 t ((flush0_3 t).mp hf)]
  show part f g 2048 1024 1024 0 (t.val / 4) 4 (y 1).val (y 2).val = E3 (φ := .bf16) (fun _ => prod f g 8192) ((win0_3.rect t).emb y)
  unfold E3 part
  dsimp only
  rw [win0_3.rect_emb_val t y 1, win0_3.rect_emb_val t y 2, (idx t).2.2.2.2.1, (idx t).2.2.2.2.2, Nat.mul_comm (t.val / 4), Nat.mul_comm 0]
  rfl

/-! The reference. -/

open Cert.Reference34Ideal.Read

theorem ref6 : val_main_v6 (F := Ideal) (E2 (φ := .bf16) f) (E2 (φ := .bf16) g) = E3 (φ := .f32) fun _ => prod f g 8192 := by
  funext i
  rw [val_main_v6_apply, val_main_v5_apply, val_main_v4_apply]
  refine (fin_range 8192 fun k => g k (i 2).val * f k (i 1).val).trans ?_
  exact prod_comm f g 8192 (i 1).val (i 2).val

theorem ref8 : val_main_v8 (F := Ideal) (E2 (φ := .bf16) f) (E2 (φ := .bf16) g) = E3 (φ := .bf16) fun _ => prod f g 8192 := by
  unfold val_main_v8
  rw [show val_main_v7 (F := Ideal) (E2 (φ := .bf16) f) (E2 (φ := .bf16) g) = _ from ref6 f g]
  rfl

/-- The call and the reference, run from the same arguments, end with the same two arrays. -/
theorem algebraic : Cert.algebraic_Kernel34Ideal_Reference34Ideal
    (hKernel34Ideal := Cert.Kernel34Ideal.Gen.facts) (hReference34Ideal := Cert.Reference34Ideal.Gen.facts) := by
  intro m g m' g' hp ha
  refine ⟨fun c => (dats m 0 c).arrAt 2 cfg0.N, fun c => (dats m 0 c).arrAt 3 cfg0.N, Cert.Kernel34Ideal.Value.run_blocks m g,
    (θ_run Cert.Reference34Ideal.defs _ _).mono (fun r hr c => ?_) (Cert.Reference34Ideal.Value.run m' g')⟩
  obtain ⟨r0, r1, k⟩ := hr c
  obtain ⟨a0, a1⟩ := ha c
  obtain ⟨x, e0⟩ := exists_E2 (m ((c : Thread nD τ).loc main_arg0))
  obtain ⟨y, e1⟩ := exists_E2 (m ((c : Thread nD τ).loc main_arg1))
  have h0 : V m c main_arg0 = E2 (φ := .bf16) x := (V_main_arg0 m c).trans e0
  have h1 : V m c main_arg1 = E2 (φ := .bf16) y := (V_main_arg1 m c).trans e1
  refine ⟨?_, ?_, k⟩
  · refine (r0.trans (Cert.Reference34Ideal.Read.val_main_v6_eq _ _)).trans ?_
    rw [a0, a1, e0, e1]
    exact (ref6 x y).trans (arr2 m c x y h0 h1).symm
  · refine (r1.trans (Cert.Reference34Ideal.Read.val_main_v8_eq _ _)).trans ?_
    rw [a0, a1, e0, e1]
    exact (ref8 x y).trans (arr3 m c x y h0 h1).symm

end Cert.MixOutGrad
end
-- ==== Proof.Mm.BInGrad.lean ====
module

public import proofs.«01_k».proof.Defs
public import proofs.«01_k».proof.Proof.Mm.Wgrad
public import proofs.«01_k».proof.Proof.Gen.Kernel35Ideal.Value
public import proofs.«01_k».proof.Proof.Gen.Reference35Ideal.Run
public import proofs.«01_k».proof.Proof.Gen.Reference35Ideal.Read
public import Idealize.ShloMosaic.Lib.Pipeline.ValueKit

/-! The gradient of the second token mixer's input weights: the call's two result arrays are the reference's. -/

@[expose] public section
set_option maxRecDepth 16384
noncomputable section
namespace Cert.BInGrad
open Cert.Kernel35Ideal Cert.Kernel35Ideal.Gen Cert.Ext Cert.Wgrad Idealize.ShloMosaic Idealize.ShloMosaic.TcCoe Idealize.SL.Sem
open scoped BigOperators

variable (m : (ℓ : Loc nD τ sig) → Buf (Elt Ideal) ℓ) (c : Dev nD)
variable (f g : ℕ → ℕ → EReal) (h : ℕ → ℕ → ℕ → EReal)

theorem idx (t : Fin cfg0.N) : (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4) :=
  (by decide +kernel : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4)) t

theorem iblk0 (e : V m c main_arg0 = E2 (φ := .bf16) f) (t : Fin cfg0.N) :
    iblk m c 0 t = E2 (φ := .bf16) (blk 2048 1024 (t.val % 4) 0 f) := by
  funext y
  show V m c main_arg0 ((win0_0.rect t).emb y) = _
  rw [e]
  unfold E2 blk
  rw [win0_0.rect_emb_val t y 0, win0_0.rect_emb_val t y 1, (idx t).1.1, (idx t).1.2, Nat.mul_comm, Nat.mul_comm 0]
  rfl

theorem iblk1 (e : V m c main_arg1 = E2 (φ := .bf16) g) (t : Fin cfg0.N) :
    iblk m c 1 t = E2 (φ := .bf16) (blk 2048 1024 (t.val % 4) (t.val / 4) g) := by
  funext y
  show V m c main_arg1 ((win0_1.rect t).emb y) = _
  rw [e]
  unfold E2 blk
  rw [win0_1.rect_emb_val t y 0, win0_1.rect_emb_val t y 1, (idx t).2.1.1, (idx t).2.1.2, Nat.mul_comm, Nat.mul_comm (t.val / 4)]
  rfl

theorem pay1 : k0_pay1 (F := Ideal) (E2 (φ := .bf16) f) (E2 (φ := .bf16) g)
    = E2 fun r c => ∑ i ∈ Finset.range 2048, f i r * g i c :=
  mm_tn f g none dot_S2048x1024_S2048x1024_S1024x1024_0_0_1_1_n_n rfl rfl (fun _ _ => rfl) (fun _ _ => rfl) (fun _ _ => rfl) fun _ _ => rfl

theorem pay2 : k0_pay2 (F := Ideal) (E2 (φ := .bf16) f) (E2 (φ := .bf16) g)
    = E3 fun _ r c => ∑ i ∈ Finset.range 2048, f i r * g i c := by
  unfold k0_pay2
  rw [pay1]
  exact addUnit_E2 _ _

theorem pay3 : k0_pay3 (F := Ideal) (E2 (φ := .bf16) f) (E2 (φ := .bf16) g) (E3 (φ := .f32) h)
    = E3 fun _ r c => h 0 r c + ∑ i ∈ Finset.range 2048, f i r * g i c := by
  unfold k0_pay3
  rw [pay1]
  refine (congrArg (fun x => shapeCast _ (addf x _) _) (dropUnit_E3 h _)).trans ?_
  exact addUnit_E2 (fun r c => h 0 r c + ∑ i ∈ Finset.range 2048, f i r * g i c) _

theorem pay4 : k0_pay4 (F := Ideal) (E3 (φ := .f32) h) = E3 fun _ => h 0 := by
  unfold k0_pay4
  refine (congrArg (fun x => shapeCast _ (truncf .bf16 x _) _) (dropUnit_E3 h _)).trans ?_
  exact addUnit_E2 _ _

/-- What the first result's block holds after point `t`: the product along the rows met so far. -/
theorem acc (e0 : V m c main_arg0 = E2 (φ := .bf16) f) (e1 : V m c main_arg1 = E2 (φ := .bf16) g) :
    ∀ (i : ℕ) (hi : i < cfg0.N), (outsAt0 m c i hi).1 = E3 (φ := .f32) fun _ => part f g 2048 1024 1024 0 (i / 4) (i % 4 + 1) := by
  have first : ∀ t : Fin cfg0.N, t.val % 4 = 0 →
      (outsAt0 m c t.val t.isLt).1 = E3 (φ := .f32) fun _ => part f g 2048 1024 1024 0 (t.val / 4) (t.val % 4 + 1) := by
    intro t h0
    rw [outsAt0_A m c t h0 (by omega) (by omega)]
    frame_out
    rw [iblk0 m c f e0, iblk1 m c g e1, pay2, h0]
    exact congrArg _ (funext fun _ => funext fun r => funext fun c => part_one f g 2048 1024 1024 _ _ r c)
  intro i
  induction i with
  | zero => exact fun hi => first ⟨0, hi⟩ rfl
  | succ n ih =>
    intro hi
    by_cases h0 : (n + 1) % 4 = 0
    · exact first ⟨n + 1, hi⟩ h0
    have hd : (n + 1) / 4 = n / 4 := by omega
    have hm : (n + 1) % 4 = n % 4 + 1 := by omega
    have step : k0_pay3 (F := Ideal) (iblk m c 0 ⟨n + 1, hi⟩) (iblk m c 1 ⟨n + 1, hi⟩) (outsAt0 m c n (Nat.lt_of_succ_lt hi)).1
        = E3 (φ := .f32) fun _ => part f g 2048 1024 1024 0 ((n + 1) / 4) ((n + 1) % 4 + 1) := by
      rw [ih (Nat.lt_of_succ_lt hi), iblk0 m c f e0, iblk1 m c g e1, pay3]
      dsimp only
      rw [hd, hm]
      exact congrArg _ (funext fun _ => funext fun r => funext fun c => part_succ f g 2048 1024 1024 _ _ _ r c)
    by_cases h2 : (n + 1) % 4 = 3
    · refine (congrArg Prod.fst (outsAt0_C m c ⟨n + 1, hi⟩ h0 (by dsimp only; omega) h2)).trans ?_
      frame_out
      exact step
    · refine (congrArg Prod.fst (outsAt0_B m c ⟨n + 1, hi⟩ h0 (by dsimp only; omega) h2)).trans ?_
      frame_out
      exact step

/-- What the second result's block holds after the last rows: the same product. -/
theorem acc3 (e0 : V m c main_arg0 = E2 (φ := .bf16) f) (e1 : V m c main_arg1 = E2 (φ := .bf16) g) (t : Fin cfg0.N) (h2 : t.val % 4 = 3) :
    (outsAt0 m c t.val t.isLt).2 = E3 (φ := .bf16) fun _ => part f g 2048 1024 1024 0 (t.val / 4) 4 := by
  have e := acc m c f g e0 e1 t.val t.isLt
  rw [outsAt0_C m c t (by omega) (by omega) h2] at e ⊢
  frame_out
  frame_out at e
  rw [e, pay4, h2]

theorem cover2 (i : S1x1024x2048.Idx) : ∃ t : Fin cfg0.N, (cfg0.win 2).flush t = true ∧ i ∈ ((cfg0.win 2).blk t).view.set := by
  have hN : cfg0.N = 8 := N_0
  have hi0 : (i 0 : Nat) < 1 := (i 0).isLt
  have hi1 : (i 1 : Nat) < 1024 := (i 1).isLt
  have hi2 : (i 2 : Nat) < 2048 := (i 2).isLt
  have ht : (i 2 : Nat) / 1024 * 4 + 3 < cfg0.N := by omega
  refine ⟨⟨(i 2 : Nat) / 1024 * 4 + 3, ht⟩, (flush0_2 _).mpr (by dsimp only; omega), ?_⟩
  refine (View.set_slice_whole main_v0_0 (win0_2.rect ⟨(i 2 : Nat) / 1024 * 4 + 3, ht⟩)) ▸ ?_
  rw [Rect.mem_set_unit]
  intro a
  match a with
  | ⟨0, _⟩ =>
    show win0_2.index _ 0 * 1 ≤ (i 0 : Nat) ∧ (i 0 : Nat) < win0_2.index _ 0 * 1 + 1
    rw [(idx _).2.2.1.1]; omega
  | ⟨1, _⟩ =>
    show win0_2.index _ 1 * 1024 ≤ (i 1 : Nat) ∧ (i 1 : Nat) < win0_2.index _ 1 * 1024 + 1024
    rw [(idx _).2.2.1.2.1]; omega
  | ⟨2, _⟩ =>
    show win0_2.index _ 2 * 1024 ≤ (i 2 : Nat) ∧ (i 2 : Nat) < win0_2.index _ 2 * 1024 + 1024
    rw [(idx _).2.2.1.2.2]; dsimp only; omega

theorem cover3 (i : S1x1024x2048.Idx) : ∃ t : Fin cfg0.N, (cfg0.win 3).flush t = true ∧ i ∈ ((cfg0.win 3).blk t).view.set := by
  have hN : cfg0.N = 8 := N_0
  have hi0 : (i 0 : Nat) < 1 := (i 0).isLt
  have hi1 : (i 1 : Nat) < 1024 := (i 1).isLt
  have hi2 : (i 2 : Nat) < 2048 := (i 2).isLt
  have ht : (i 2 : Nat) / 1024 * 4 + 3 < cfg0.N := by omega
  refine ⟨⟨(i 2 : Nat) / 1024 * 4 + 3, ht⟩, (flush0_3 _).mpr (by dsimp only; omega), ?_⟩
  refine (View.set_slice_whole main_v0_1 (win0_3.rect ⟨(i 2 : Nat) / 1024 * 4 + 3, ht⟩)) ▸ ?_
  rw [Rect.mem_set_unit]
  intro a
  match a with
  | ⟨0, _⟩ =>
    show win0_3.index _ 0 * 1 ≤ (i 0 : Nat) ∧ (i 0 : Nat) < win0_3.index _ 0 * 1 + 1
    rw [(idx _).2.2.2.1]; omega
  | ⟨1, _⟩ =>
    show win0_3.index _ 1 * 1024 ≤ (i 1 : Nat) ∧ (i 1 : Nat) < win0_3.index _ 1 * 1024 + 1024
    rw [(idx _).2.2.2.2.1]; omega
  | ⟨2, _⟩ =>
    show win0_3.index _ 2 * 1024 ≤ (i 2 : Nat) ∧ (i 2 : Nat) < win0_3.index _ 2 * 1024 + 1024
    rw [(idx _).2.2.2.2.2]; dsimp only; omega

theorem arr2 (e0 : V m c main_arg0 = E2 (φ := .bf16) f) (e1 : V m c main_arg1 = E2 (φ := .bf16) g) :
    (dats m 0 c).arrAt 2 cfg0.N = E3 (φ := .f32) fun _ => prod f g 8192 := by
  funext j
  refine (dats m 0 c).arrAt_forall_of_cover 2 (fun i v => v = E3 (φ := .f32) (fun _ => prod f g 8192) i) (fun t hf y => ?_) cover2 j
  rw [Value.flushed2, acc m c f g e0 e1 t.val t.isLt, (flush0_2 t).mp hf]
  show part f g 2048 1024 1024 0 (t.val / 4) 4 (y 1).val (y 2).val = E3 (φ := .f32) (fun _ => prod f g 8192) ((win0_2.rect t).emb y)
  unfold E3 part
  dsimp only
  rw [win0_2.rect_emb_val t y 1, win0_2.rect_emb_val t y 2, (idx t).2.2.1.2.1, (idx t).2.2.1.2.2, Nat.mul_comm (t.val / 4), Nat.mul_comm 0]
  rfl

theorem arr3 (e0 : V m c main_arg0 = E2 (φ := .bf16) f) (e1 : V m c main_arg1 = E2 (φ := .bf16) g) :
    (dats m 0 c).arrAt 3 cfg0.N = E3 (φ := .bf16) fun _ => prod f g 8192 := by
  funext j
  refine (dats m 0 c).arrAt_forall_of_cover 3 (fun i v => v = E3 (φ := .bf16) (fun _ => prod f g 8192) i) (fun t hf y => ?_) cover3 j
  rw [Value.flushed3, acc3 m c f g e0 e1 t ((flush0_3 t).mp hf)]
  show part f g 2048 1024 1024 0 (t.val / 4) 4 (y 1).val (y 2).val = E3 (φ := .bf16) (fun _ => prod f g 8192) ((win0_3.rect t).emb y)
  unfold E3 part
  dsimp only
  rw [win0_3.rect_emb_val t y 1, win0_3.rect_emb_val t y 2, (idx t).2.2.2.2.1, (idx t).2.2.2.2.2, Nat.mul_comm (t.val / 4), Nat.mul_comm 0]
  rfl

/-! The reference. -/

open Cert.Reference35Ideal.Read

theorem ref6 : val_main_v6 (F := Ideal) (E2 (φ := .bf16) f) (E2 (φ := .bf16) g) = E3 (φ := .f32) fun _ => prod f g 8192 := by
  funext i
  rw [val_main_v6_apply, val_main_v5_apply, val_main_v4_apply]
  refine (fin_range 8192 fun k => g k (i 2).val * f k (i 1).val).trans ?_
  exact prod_comm f g 8192 (i 1).val (i 2).val

theorem ref8 : val_main_v8 (F := Ideal) (E2 (φ := .bf16) f) (E2 (φ := .bf16) g) = E3 (φ := .bf16) fun _ => prod f g 8192 := by
  unfold val_main_v8
  rw [show val_main_v7 (F := Ideal) (E2 (φ := .bf16) f) (E2 (φ := .bf16) g) = _ from ref6 f g]
  rfl

/-- The call and the reference, run from the same arguments, end with the same two arrays. -/
theorem algebraic : Cert.algebraic_Kernel35Ideal_Reference35Ideal
    (hKernel35Ideal := Cert.Kernel35Ideal.Gen.facts) (hReference35Ideal := Cert.Reference35Ideal.Gen.facts) := by
  intro m g m' g' hp ha
  refine ⟨fun c => (dats m 0 c).arrAt 2 cfg0.N, fun c => (dats m 0 c).arrAt 3 cfg0.N, Cert.Kernel35Ideal.Value.run_blocks m g,
    (θ_run Cert.Reference35Ideal.defs _ _).mono (fun r hr c => ?_) (Cert.Reference35Ideal.Value.run m' g')⟩
  obtain ⟨r0, r1, k⟩ := hr c
  obtain ⟨a0, a1⟩ := ha c
  obtain ⟨x, e0⟩ := exists_E2 (m ((c : Thread nD τ).loc main_arg0))
  obtain ⟨y, e1⟩ := exists_E2 (m ((c : Thread nD τ).loc main_arg1))
  have h0 : V m c main_arg0 = E2 (φ := .bf16) x := (V_main_arg0 m c).trans e0
  have h1 : V m c main_arg1 = E2 (φ := .bf16) y := (V_main_arg1 m c).trans e1
  refine ⟨?_, ?_, k⟩
  · refine (r0.trans (Cert.Reference35Ideal.Read.val_main_v6_eq _ _)).trans ?_
    rw [a0, a1, e0, e1]
    exact (ref6 x y).trans (arr2 m c x y h0 h1).symm
  · refine (r1.trans (Cert.Reference35Ideal.Read.val_main_v8_eq _ _)).trans ?_
    rw [a0, a1, e0, e1]
    exact (ref8 x y).trans (arr3 m c x y h0 h1).symm

end Cert.BInGrad
end
-- ==== Proof.Mm.CInGrad.lean ====
module

public import proofs.«01_k».proof.Defs
public import proofs.«01_k».proof.Proof.Mm.Wgrad
public import proofs.«01_k».proof.Proof.Gen.Kernel36Ideal.Value
public import proofs.«01_k».proof.Proof.Gen.Reference36Ideal.Run
public import proofs.«01_k».proof.Proof.Gen.Reference36Ideal.Read
public import Idealize.ShloMosaic.Lib.Pipeline.ValueKit

/-! The gradient of the third token mixer's input weights: the call's two result arrays are the reference's. -/

@[expose] public section
set_option maxRecDepth 16384
noncomputable section
namespace Cert.CInGrad
open Cert.Kernel36Ideal Cert.Kernel36Ideal.Gen Cert.Ext Cert.Wgrad Idealize.ShloMosaic Idealize.ShloMosaic.TcCoe Idealize.SL.Sem
open scoped BigOperators

variable (m : (ℓ : Loc nD τ sig) → Buf (Elt Ideal) ℓ) (c : Dev nD)
variable (f g : ℕ → ℕ → EReal) (h : ℕ → ℕ → ℕ → EReal)

theorem idx (t : Fin cfg0.N) : (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4) :=
  (by decide +kernel : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = 0 ∧ win0_2.index t 2 = t.val / 4) ∧ (win0_3.index t 0 = 0 ∧ win0_3.index t 1 = 0 ∧ win0_3.index t 2 = t.val / 4)) t

theorem iblk0 (e : V m c main_arg0 = E2 (φ := .bf16) f) (t : Fin cfg0.N) :
    iblk m c 0 t = E2 (φ := .bf16) (blk 2048 1024 (t.val % 4) 0 f) := by
  funext y
  show V m c main_arg0 ((win0_0.rect t).emb y) = _
  rw [e]
  unfold E2 blk
  rw [win0_0.rect_emb_val t y 0, win0_0.rect_emb_val t y 1, (idx t).1.1, (idx t).1.2, Nat.mul_comm, Nat.mul_comm 0]
  rfl

theorem iblk1 (e : V m c main_arg1 = E2 (φ := .bf16) g) (t : Fin cfg0.N) :
    iblk m c 1 t = E2 (φ := .bf16) (blk 2048 1024 (t.val % 4) (t.val / 4) g) := by
  funext y
  show V m c main_arg1 ((win0_1.rect t).emb y) = _
  rw [e]
  unfold E2 blk
  rw [win0_1.rect_emb_val t y 0, win0_1.rect_emb_val t y 1, (idx t).2.1.1, (idx t).2.1.2, Nat.mul_comm, Nat.mul_comm (t.val / 4)]
  rfl

theorem pay1 : k0_pay1 (F := Ideal) (E2 (φ := .bf16) f) (E2 (φ := .bf16) g)
    = E2 fun r c => ∑ i ∈ Finset.range 2048, f i r * g i c :=
  mm_tn f g none dot_S2048x1024_S2048x1024_S1024x1024_0_0_1_1_n_n rfl rfl (fun _ _ => rfl) (fun _ _ => rfl) (fun _ _ => rfl) fun _ _ => rfl

theorem pay2 : k0_pay2 (F := Ideal) (E2 (φ := .bf16) f) (E2 (φ := .bf16) g)
    = E3 fun _ r c => ∑ i ∈ Finset.range 2048, f i r * g i c := by
  unfold k0_pay2
  rw [pay1]
  exact addUnit_E2 _ _

theorem pay3 : k0_pay3 (F := Ideal) (E2 (φ := .bf16) f) (E2 (φ := .bf16) g) (E3 (φ := .f32) h)
    = E3 fun _ r c => h 0 r c + ∑ i ∈ Finset.range 2048, f i r * g i c := by
  unfold k0_pay3
  rw [pay1]
  refine (congrArg (fun x => shapeCast _ (addf x _) _) (dropUnit_E3 h _)).trans ?_
  exact addUnit_E2 (fun r c => h 0 r c + ∑ i ∈ Finset.range 2048, f i r * g i c) _

theorem pay4 : k0_pay4 (F := Ideal) (E3 (φ := .f32) h) = E3 fun _ => h 0 := by
  unfold k0_pay4
  refine (congrArg (fun x => shapeCast _ (truncf .bf16 x _) _) (dropUnit_E3 h _)).trans ?_
  exact addUnit_E2 _ _

/-- What the first result's block holds after point `t`: the product along the rows met so far. -/
theorem acc (e0 : V m c main_arg0 = E2 (φ := .bf16) f) (e1 : V m c main_arg1 = E2 (φ := .bf16) g) :
    ∀ (i : ℕ) (hi : i < cfg0.N), (outsAt0 m c i hi).1 = E3 (φ := .f32) fun _ => part f g 2048 1024 1024 0 (i / 4) (i % 4 + 1) := by
  have first : ∀ t : Fin cfg0.N, t.val % 4 = 0 →
      (outsAt0 m c t.val t.isLt).1 = E3 (φ := .f32) fun _ => part f g 2048 1024 1024 0 (t.val / 4) (t.val % 4 + 1) := by
    intro t h0
    rw [outsAt0_A m c t h0 (by omega) (by omega)]
    frame_out
    rw [iblk0 m c f e0, iblk1 m c g e1, pay2, h0]
    exact congrArg _ (funext fun _ => funext fun r => funext fun c => part_one f g 2048 1024 1024 _ _ r c)
  intro i
  induction i with
  | zero => exact fun hi => first ⟨0, hi⟩ rfl
  | succ n ih =>
    intro hi
    by_cases h0 : (n + 1) % 4 = 0
    · exact first ⟨n + 1, hi⟩ h0
    have hd : (n + 1) / 4 = n / 4 := by omega
    have hm : (n + 1) % 4 = n % 4 + 1 := by omega
    have step : k0_pay3 (F := Ideal) (iblk m c 0 ⟨n + 1, hi⟩) (iblk m c 1 ⟨n + 1, hi⟩) (outsAt0 m c n (Nat.lt_of_succ_lt hi)).1
        = E3 (φ := .f32) fun _ => part f g 2048 1024 1024 0 ((n + 1) / 4) ((n + 1) % 4 + 1) := by
      rw [ih (Nat.lt_of_succ_lt hi), iblk0 m c f e0, iblk1 m c g e1, pay3]
      dsimp only
      rw [hd, hm]
      exact congrArg _ (funext fun _ => funext fun r => funext fun c => part_succ f g 2048 1024 1024 _ _ _ r c)
    by_cases h2 : (n + 1) % 4 = 3
    · refine (congrArg Prod.fst (outsAt0_C m c ⟨n + 1, hi⟩ h0 (by dsimp only; omega) h2)).trans ?_
      frame_out
      exact step
    · refine (congrArg Prod.fst (outsAt0_B m c ⟨n + 1, hi⟩ h0 (by dsimp only; omega) h2)).trans ?_
      frame_out
      exact step

/-- What the second result's block holds after the last rows: the same product. -/
theorem acc3 (e0 : V m c main_arg0 = E2 (φ := .bf16) f) (e1 : V m c main_arg1 = E2 (φ := .bf16) g) (t : Fin cfg0.N) (h2 : t.val % 4 = 3) :
    (outsAt0 m c t.val t.isLt).2 = E3 (φ := .bf16) fun _ => part f g 2048 1024 1024 0 (t.val / 4) 4 := by
  have e := acc m c f g e0 e1 t.val t.isLt
  rw [outsAt0_C m c t (by omega) (by omega) h2] at e ⊢
  frame_out
  frame_out at e
  rw [e, pay4, h2]

theorem cover2 (i : S1x1024x3072.Idx) : ∃ t : Fin cfg0.N, (cfg0.win 2).flush t = true ∧ i ∈ ((cfg0.win 2).blk t).view.set := by
  have hN : cfg0.N = 12 := N_0
  have hi0 : (i 0 : Nat) < 1 := (i 0).isLt
  have hi1 : (i 1 : Nat) < 1024 := (i 1).isLt
  have hi2 : (i 2 : Nat) < 3072 := (i 2).isLt
  have ht : (i 2 : Nat) / 1024 * 4 + 3 < cfg0.N := by omega
  refine ⟨⟨(i 2 : Nat) / 1024 * 4 + 3, ht⟩, (flush0_2 _).mpr (by dsimp only; omega), ?_⟩
  refine (View.set_slice_whole main_v0_0 (win0_2.rect ⟨(i 2 : Nat) / 1024 * 4 + 3, ht⟩)) ▸ ?_
  rw [Rect.mem_set_unit]
  intro a
  match a with
  | ⟨0, _⟩ =>
    show win0_2.index _ 0 * 1 ≤ (i 0 : Nat) ∧ (i 0 : Nat) < win0_2.index _ 0 * 1 + 1
    rw [(idx _).2.2.1.1]; omega
  | ⟨1, _⟩ =>
    show win0_2.index _ 1 * 1024 ≤ (i 1 : Nat) ∧ (i 1 : Nat) < win0_2.index _ 1 * 1024 + 1024
    rw [(idx _).2.2.1.2.1]; omega
  | ⟨2, _⟩ =>
    show win0_2.index _ 2 * 1024 ≤ (i 2 : Nat) ∧ (i 2 : Nat) < win0_2.index _ 2 * 1024 + 1024
    rw [(idx _).2.2.1.2.2]; dsimp only; omega

theorem cover3 (i : S1x1024x3072.Idx) : ∃ t : Fin cfg0.N, (cfg0.win 3).flush t = true ∧ i ∈ ((cfg0.win 3).blk t).view.set := by
  have hN : cfg0.N = 12 := N_0
  have hi0 : (i 0 : Nat) < 1 := (i 0).isLt
  have hi1 : (i 1 : Nat) < 1024 := (i 1).isLt
  have hi2 : (i 2 : Nat) < 3072 := (i 2).isLt
  have ht : (i 2 : Nat) / 1024 * 4 + 3 < cfg0.N := by omega
  refine ⟨⟨(i 2 : Nat) / 1024 * 4 + 3, ht⟩, (flush0_3 _).mpr (by dsimp only; omega), ?_⟩
  refine (View.set_slice_whole main_v0_1 (win0_3.rect ⟨(i 2 : Nat) / 1024 * 4 + 3, ht⟩)) ▸ ?_
  rw [Rect.mem_set_unit]
  intro a
  match a with
  | ⟨0, _⟩ =>
    show win0_3.index _ 0 * 1 ≤ (i 0 : Nat) ∧ (i 0 : Nat) < win0_3.index _ 0 * 1 + 1
    rw [(idx _).2.2.2.1]; omega
  | ⟨1, _⟩ =>
    show win0_3.index _ 1 * 1024 ≤ (i 1 : Nat) ∧ (i 1 : Nat) < win0_3.index _ 1 * 1024 + 1024
    rw [(idx _).2.2.2.2.1]; omega
  | ⟨2, _⟩ =>
    show win0_3.index _ 2 * 1024 ≤ (i 2 : Nat) ∧ (i 2 : Nat) < win0_3.index _ 2 * 1024 + 1024
    rw [(idx _).2.2.2.2.2]; dsimp only; omega

theorem arr2 (e0 : V m c main_arg0 = E2 (φ := .bf16) f) (e1 : V m c main_arg1 = E2 (φ := .bf16) g) :
    (dats m 0 c).arrAt 2 cfg0.N = E3 (φ := .f32) fun _ => prod f g 8192 := by
  funext j
  refine (dats m 0 c).arrAt_forall_of_cover 2 (fun i v => v = E3 (φ := .f32) (fun _ => prod f g 8192) i) (fun t hf y => ?_) cover2 j
  rw [Value.flushed2, acc m c f g e0 e1 t.val t.isLt, (flush0_2 t).mp hf]
  show part f g 2048 1024 1024 0 (t.val / 4) 4 (y 1).val (y 2).val = E3 (φ := .f32) (fun _ => prod f g 8192) ((win0_2.rect t).emb y)
  unfold E3 part
  dsimp only
  rw [win0_2.rect_emb_val t y 1, win0_2.rect_emb_val t y 2, (idx t).2.2.1.2.1, (idx t).2.2.1.2.2, Nat.mul_comm (t.val / 4), Nat.mul_comm 0]
  rfl

theorem arr3 (e0 : V m c main_arg0 = E2 (φ := .bf16) f) (e1 : V m c main_arg1 = E2 (φ := .bf16) g) :
    (dats m 0 c).arrAt 3 cfg0.N = E3 (φ := .bf16) fun _ => prod f g 8192 := by
  funext j
  refine (dats m 0 c).arrAt_forall_of_cover 3 (fun i v => v = E3 (φ := .bf16) (fun _ => prod f g 8192) i) (fun t hf y => ?_) cover3 j
  rw [Value.flushed3, acc3 m c f g e0 e1 t ((flush0_3 t).mp hf)]
  show part f g 2048 1024 1024 0 (t.val / 4) 4 (y 1).val (y 2).val = E3 (φ := .bf16) (fun _ => prod f g 8192) ((win0_3.rect t).emb y)
  unfold E3 part
  dsimp only
  rw [win0_3.rect_emb_val t y 1, win0_3.rect_emb_val t y 2, (idx t).2.2.2.2.1, (idx t).2.2.2.2.2, Nat.mul_comm (t.val / 4), Nat.mul_comm 0]
  rfl

/-! The reference. -/

open Cert.Reference36Ideal.Read

theorem ref6 : val_main_v6 (F := Ideal) (E2 (φ := .bf16) f) (E2 (φ := .bf16) g) = E3 (φ := .f32) fun _ => prod f g 8192 := by
  funext i
  rw [val_main_v6_apply, val_main_v5_apply, val_main_v4_apply]
  refine (fin_range 8192 fun k => g k (i 2).val * f k (i 1).val).trans ?_
  exact prod_comm f g 8192 (i 1).val (i 2).val

theorem ref8 : val_main_v8 (F := Ideal) (E2 (φ := .bf16) f) (E2 (φ := .bf16) g) = E3 (φ := .bf16) fun _ => prod f g 8192 := by
  unfold val_main_v8
  rw [show val_main_v7 (F := Ideal) (E2 (φ := .bf16) f) (E2 (φ := .bf16) g) = _ from ref6 f g]
  rfl

/-- The call and the reference, run from the same arguments, end with the same two arrays. -/
theorem algebraic : Cert.algebraic_Kernel36Ideal_Reference36Ideal
    (hKernel36Ideal := Cert.Kernel36Ideal.Gen.facts) (hReference36Ideal := Cert.Reference36Ideal.Gen.facts) := by
  intro m g m' g' hp ha
  refine ⟨fun c => (dats m 0 c).arrAt 2 cfg0.N, fun c => (dats m 0 c).arrAt 3 cfg0.N, Cert.Kernel36Ideal.Value.run_blocks m g,
    (θ_run Cert.Reference36Ideal.defs _ _).mono (fun r hr c => ?_) (Cert.Reference36Ideal.Value.run m' g')⟩
  obtain ⟨r0, r1, k⟩ := hr c
  obtain ⟨a0, a1⟩ := ha c
  obtain ⟨x, e0⟩ := exists_E2 (m ((c : Thread nD τ).loc main_arg0))
  obtain ⟨y, e1⟩ := exists_E2 (m ((c : Thread nD τ).loc main_arg1))
  have h0 : V m c main_arg0 = E2 (φ := .bf16) x := (V_main_arg0 m c).trans e0
  have h1 : V m c main_arg1 = E2 (φ := .bf16) y := (V_main_arg1 m c).trans e1
  refine ⟨?_, ?_, k⟩
  · refine (r0.trans (Cert.Reference36Ideal.Read.val_main_v6_eq _ _)).trans ?_
    rw [a0, a1, e0, e1]
    exact (ref6 x y).trans (arr2 m c x y h0 h1).symm
  · refine (r1.trans (Cert.Reference36Ideal.Read.val_main_v8_eq _ _)).trans ?_
    rw [a0, a1, e0, e1]
    exact (ref8 x y).trans (arr3 m c x y h0 h1).symm

end Cert.CInGrad
end
-- ==== Proof.Mm.BInBwd.lean ====
module

public import proofs.«01_k».proof.Defs
public import proofs.«01_k».proof.Proof.Mm.NormBwd
public import proofs.«01_k».proof.Proof.Sgu.Finite
public import proofs.«01_k».proof.Proof.Sgu.Arrays
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Pre_finite_b_in_bwd
public import Idealize.ShloMosaic.Lib.Pipeline.ValueKit

/-! The gradient through the product into the second token mixer and the scaling before it: the call's three result arrays are
the reference's. -/

@[expose] public section
set_option maxRecDepth 16384
noncomputable section
namespace Cert.BInBwd
open Cert.Kernel37Ideal Cert.Kernel37Ideal.Gen Cert.Lift Cert.NormBwd Idealize.ShloMosaic Idealize.ShloMosaic.TcCoe Idealize.SL.Sem
open scoped BigOperators

variable (m : (ℓ : Loc nD τ sig) → Buf (Elt Ideal) ℓ) (c : Dev nD)
variable (d : ℕ → ℕ → ℝ) (w : ℕ → ℕ → ℕ → ℝ) (x : ℕ → ℕ → ℝ) (g : ℕ → ℝ) (e : ℕ → ℕ → ℝ)

theorem idx (t : Fin cfg0.N) : (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0)) t

theorem iblk0 (h : V m c main_arg0 = L2 (φ := .bf16) d) (t : Fin cfg0.N) : iblk m c 0 t = L2 (φ := .bf16) (rows t.val d) := by
  funext y
  show V m c main_arg0 ((win0_0.rect t).emb y) = _
  rw [h]
  unfold L2 rows
  rw [win0_0.rect_emb_val t y 0, win0_0.rect_emb_val_of_index_zero t 1 (idx t).1.2 y, (idx t).1.1, Nat.mul_comm]
  rfl

theorem iblk1 (h : V m c main_arg1 = L3 (φ := .bf16) w) (t : Fin cfg0.N) : iblk m c 1 t = L3 (φ := .bf16) w := by
  funext y
  show V m c main_arg1 ((win0_1.rect t).emb y) = _
  rw [h]
  unfold L3
  rw [win0_1.rect_emb_val_of_index_zero t 0 rfl y, win0_1.rect_emb_val_of_index_zero t 1 rfl y, win0_1.rect_emb_val_of_index_zero t 2 rfl y]

theorem iblk2 (h : V m c main_arg2 = L2 (φ := .f32) x) (t : Fin cfg0.N) : iblk m c 2 t = L2 (φ := .f32) (rows t.val x) := by
  funext y
  show V m c main_arg2 ((win0_2.rect t).emb y) = _
  rw [h]
  unfold L2 rows
  rw [win0_2.rect_emb_val t y 0, win0_2.rect_emb_val_of_index_zero t 1 (idx t).2.1.2 y, (idx t).2.1.1, Nat.mul_comm]
  rfl

theorem iblk3 (h : V m c main_v0 = L2 (φ := .f32) fun _ k => g k) (t : Fin cfg0.N) : iblk m c 3 t = L2 (φ := .f32) fun _ k => g k := by
  funext y
  show V m c main_v0 ((win0_3.rect t).emb y) = _
  rw [h]
  unfold L2
  rw [win0_3.rect_emb_val_of_index_zero t 1 rfl y]

theorem iblk4 (h : V m c main_arg4 = L2 (φ := .f32) e) (t : Fin cfg0.N) : iblk m c 4 t = L2 (φ := .f32) (rows t.val e) := by
  funext y
  show V m c main_arg4 ((win0_4.rect t).emb y) = _
  rw [h]
  unfold L2 rows
  rw [win0_4.rect_emb_val t y 0, win0_4.rect_emb_val_of_index_zero t 1 (idx t).2.2.1.2 y, (idx t).2.2.1.1, Nat.mul_comm]
  rfl

theorem V_main_v0 (h : m ((c : Thread nD τ).loc main_arg3) = Cert.SguRef.L1 (φ := .f32) g) : V m c main_v0 = L2 (φ := .f32) fun _ k => g k := by
  simp only [V, hostOps0, List.flatten_cons, List.flatten_nil, List.append_nil, List.cons_append, List.nil_append]
  after_results
  rw [show m (c, Proc.tc.devRef main_arg3) = Cert.SguRef.L1 (φ := .f32) g from h]
  funext i
  rfl

theorem pay3 : k0_pay3 (F := Ideal) (L2 (φ := .bf16) d) (L3 (φ := .bf16) w) = L2 (back 2048 d w) := by
  unfold k0_pay3
  refine (congrArg (fun p => FloatOps.matmul (F := Ideal) _ _ _ p _) (dropUnit_L3 w _)).trans ?_
  exact matmul_transposedRhs_L2 d (w 0) none _ rfl

theorem pay4 : k0_pay4 (F := Ideal) (L2 (φ := .f32) x) = L2 fun r _ => q x r := q_block (a := 512) x _ _ _ _

theorem pay5 : k0_pay5 (F := Ideal) (L2 (φ := .f32) x) = L2 (scaled x) := by
  unfold k0_pay5
  rw [pay4]
  exact scaled_block (a := 512) x (by decide) _

theorem pay6 : k0_pay6 (F := Ideal) (L2 (φ := .bf16) d) (L3 (φ := .bf16) w) (L2 (φ := .f32) x) (L2 (φ := .f32) fun _ k => g k) (L2 (φ := .f32) e)
    = L2 (dx (back 2048 d w) x g e) := by
  unfold k0_pay6
  rw [pay3, pay4, pay5]
  exact dx_block (a := 512) (back 2048 d w) x g e (by decide) _ _ _ _ _ _ _

theorem pay7 : k0_pay7 (F := Ideal) (L2 (φ := .bf16) d) (L3 (φ := .bf16) w) (L2 (φ := .f32) x) (L2 (φ := .f32) fun _ k => g k) (L2 (φ := .f32) e)
    = L2 (φ := .bf16) (dx (back 2048 d w) x g e) := by
  unfold k0_pay7
  rw [pay6]
  rfl

theorem pay1 (s : ℕ → ℝ) : k0_pay1 (F := Ideal) (k0_pay3 (F := Ideal) (L2 (φ := .bf16) d) (L3 (φ := .bf16) w)) (k0_pay5 (F := Ideal) (L2 (φ := .f32) x))
    (L2 (φ := .f32) fun _ k => s k) = L2 (φ := .f32) fun _ k => s k + ∑ r ∈ Finset.range 512, dgAt (back 2048 d w) x r k := by
  rw [pay3, pay5]
  exact dg_block (a := 512) (back 2048 d w) x s _ _ _ _ _

theorem pay2 : k0_pay2 (F := Ideal) = L2 (φ := .f32) fun _ _ => 0 := broadcast_L2 _ _ Cert.SguRef.bits_zero

section Run
variable (h0 : V m c main_arg0 = L2 (φ := .bf16) d) (h1 : V m c main_arg1 = L3 (φ := .bf16) w) (h2 : V m c main_arg2 = L2 (φ := .f32) x)
  (h3 : V m c main_v0 = L2 (φ := .f32) fun _ k => g k) (h4 : V m c main_arg4 = L2 (φ := .f32) e)
include h0 h1 h2 h3 h4

/-- What a point writes of the rows' gradient, in both formats. -/
theorem point (t : Fin cfg0.N) : (outsAt0 m c t.val t.isLt).1 = L2 (φ := .f32) (rows t.val (dx (back 2048 d w) x g e))
    ∧ (outsAt0 m c t.val t.isLt).2.1 = L2 (φ := .bf16) (rows t.val (dx (back 2048 d w) x g e)) := by
  have e6 := pay6 (rows t.val d) w (rows t.val x) g (rows t.val e)
  have e7 := pay7 (rows t.val d) w (rows t.val x) g (rows t.val e)
  rw [← iblk0 m c d h0 t, ← iblk1 m c w h1 t, ← iblk2 m c x h2 t, ← iblk3 m c g h3 t, ← iblk4 m c e h4 t] at e6 e7
  by_cases z : t.val % 16 = 0
  · rw [outsAt0_A m c t z]
    constructor
    · frame_out
      exact e6
    · frame_out
      exact e7
  · rw [outsAt0_B m c t z]
    constructor
    · frame_out
      exact e6
    · frame_out
      exact e7

/-- The gradient of the gains after point `i`. -/
theorem acc : ∀ (i : ℕ) (h : i < cfg0.N), (outsAt0 m c i h).2.2
    = (L2 (φ := .f32) fun _ k => ∑ s ∈ Finset.range (i + 1), ∑ r ∈ Finset.range 512, dgAt (back 2048 d w) x (512 * s + r) k)
  | 0, h => by
    rw [outsAt0_A m c ⟨0, h⟩ rfl]
    frame_out
    rw [iblk0 m c d h0, iblk1 m c w h1, iblk2 m c x h2, pay2, pay1]
    simp only [zero_add, Finset.sum_range_one]
    rfl
  | i + 1, h => by
    have hN : cfg0.N = 16 := N_0
    refine (congrArg (fun p => p.2.2) (outsAt0_B m c ⟨i + 1, h⟩ (by dsimp only; omega))).trans ?_
    frame_out
    refine (congrArg (k0_pay1 (F := Ideal) _ _) (acc i (Nat.lt_of_succ_lt h))).trans ?_
    rw [iblk0 m c d h0, iblk1 m c w h1, iblk2 m c x h2, pay1]
    exact congrArg _ (funext fun r => funext fun k => (Finset.sum_range_succ _ (i + 1)).symm)

end Run

theorem last_lt : 15 < cfg0.N := by rw [show cfg0.N = 16 from N_0]; decide

theorem point_lt (i : ℕ) (h : i < 8192) : i / 512 < cfg0.N := by
  have hN : cfg0.N = 16 := N_0
  omega

theorem cover5 (i : S8192x1024.Idx) : ∃ t : Fin cfg0.N, (cfg0.win 5).flush t = true ∧ i ∈ ((cfg0.win 5).blk t).view.set := by
  have hi1 : (i 1 : Nat) < 1024 := (i 1).isLt
  refine ⟨⟨(i 0 : Nat) / 512, point_lt _ (i 0).isLt⟩, flush0_5 _, ?_⟩
  refine (View.set_slice_whole main_v1_0 (win0_5.rect ⟨(i 0 : Nat) / 512, point_lt _ (i 0).isLt⟩)) ▸ ?_
  rw [Rect.mem_set_unit]
  intro a
  match a with
  | ⟨0, _⟩ =>
    show win0_5.index _ 0 * 512 ≤ (i 0 : Nat) ∧ (i 0 : Nat) < win0_5.index _ 0 * 512 + 512
    rw [(idx _).2.2.2.1.1]; dsimp only; omega
  | ⟨1, _⟩ =>
    show win0_5.index _ 1 * 1024 ≤ (i 1 : Nat) ∧ (i 1 : Nat) < win0_5.index _ 1 * 1024 + 1024
    rw [(idx _).2.2.2.1.2]; omega

theorem cover6 (i : S8192x1024.Idx) : ∃ t : Fin cfg0.N, (cfg0.win 6).flush t = true ∧ i ∈ ((cfg0.win 6).blk t).view.set := by
  have hi1 : (i 1 : Nat) < 1024 := (i 1).isLt
  refine ⟨⟨(i 0 : Nat) / 512, point_lt _ (i 0).isLt⟩, flush0_6 _, ?_⟩
  refine (View.set_slice_whole main_v1_1 (win0_6.rect ⟨(i 0 : Nat) / 512, point_lt _ (i 0).isLt⟩)) ▸ ?_
  rw [Rect.mem_set_unit]
  intro a
  match a with
  | ⟨0, _⟩ =>
    show win0_6.index _ 0 * 512 ≤ (i 0 : Nat) ∧ (i 0 : Nat) < win0_6.index _ 0 * 512 + 512
    rw [(idx _).2.2.2.2.1]; dsimp only; omega
  | ⟨1, _⟩ =>
    show win0_6.index _ 1 * 1024 ≤ (i 1 : Nat) ∧ (i 1 : Nat) < win0_6.index _ 1 * 1024 + 1024
    rw [(idx _).2.2.2.2.2]; omega

/-- The third result's one block is its whole array. -/
theorem cut7 (X : Vec Ideal S1x1024 .f32) (t : Fin cfg0.N) :
    (cfg0.win 7).cut (grid0.coords t) X = ((cfg0.win 7).blk t).view.read (Elt Ideal) X := by
  funext y
  show X y = X ((win0_7.rect t).emb y)
  refine congrArg X (funext fun a => Fin.ext ?_)
  exact (win0_7.rect_emb_val_of_index_zero t a (by fin_cases a <;> rfl) y).symm

theorem cover7 (i : S1x1024.Idx) : ∃ t : Fin cfg0.N, (cfg0.win 7).flush t = true ∧ i ∈ ((cfg0.win 7).blk t).view.set := by
  refine ⟨⟨15, last_lt⟩, (flush0_7 _).mpr rfl, ?_⟩
  refine (View.set_slice_whole main_v1_2 (win0_7.rect ⟨15, last_lt⟩)) ▸ ?_
  rw [Rect.mem_set_unit]
  intro a
  match a with
  | ⟨0, _⟩ => exact ⟨Nat.zero_le _, (i 0).isLt⟩
  | ⟨1, _⟩ => exact ⟨Nat.zero_le _, (i 1).isLt⟩

section Arrays
variable (h0 : V m c main_arg0 = L2 (φ := .bf16) d) (h1 : V m c main_arg1 = L3 (φ := .bf16) w) (h2 : V m c main_arg2 = L2 (φ := .f32) x)
  (h3 : V m c main_v0 = L2 (φ := .f32) fun _ k => g k) (h4 : V m c main_arg4 = L2 (φ := .f32) e)
include h0 h1 h2 h3 h4

theorem arr5 : (dats m 0 c).arrAt 5 cfg0.N = L2 (φ := .f32) (dx (back 2048 d w) x g e) := by
  funext j
  refine (dats m 0 c).arrAt_forall_of_cover 5 (fun i v => v = L2 (φ := .f32) (dx (back 2048 d w) x g e) i) (fun t _ y => ?_) cover5 j
  rw [Value.flushed5, (point m c d w x g e h0 h1 h2 h3 h4 t).1]
  show ((rows t.val (dx (back 2048 d w) x g e) (y 0).val (y 1).val : ℝ) : EReal) = L2 (φ := .f32) (dx (back 2048 d w) x g e) ((win0_5.rect t).emb y)
  unfold L2 rows
  rw [win0_5.rect_emb_val t y 0, win0_5.rect_emb_val_of_index_zero t 1 (idx t).2.2.2.1.2 y, (idx t).2.2.2.1.1, Nat.mul_comm]
  rfl

theorem arr6 : (dats m 0 c).arrAt 6 cfg0.N = L2 (φ := .bf16) (dx (back 2048 d w) x g e) := by
  funext j
  refine (dats m 0 c).arrAt_forall_of_cover 6 (fun i v => v = L2 (φ := .bf16) (dx (back 2048 d w) x g e) i) (fun t _ y => ?_) cover6 j
  rw [Value.flushed6, (point m c d w x g e h0 h1 h2 h3 h4 t).2]
  show ((rows t.val (dx (back 2048 d w) x g e) (y 0).val (y 1).val : ℝ) : EReal) = L2 (φ := .bf16) (dx (back 2048 d w) x g e) ((win0_6.rect t).emb y)
  unfold L2 rows
  rw [win0_6.rect_emb_val t y 0, win0_6.rect_emb_val_of_index_zero t 1 (idx t).2.2.2.2.2 y, (idx t).2.2.2.2.1, Nat.mul_comm]
  rfl

theorem arr7 : (dats m 0 c).arrAt 7 cfg0.N = L2 (φ := .f32) fun _ k => ∑ r ∈ Finset.range 8192, dgAt (back 2048 d w) x r k := by
  have e := acc m c d w x g e h0 h1 h2 h3 h4 15 last_lt
  have e' : (fun (_ k : ℕ) => ∑ s ∈ Finset.range (15 + 1), ∑ r ∈ Finset.range 512, dgAt (back 2048 d w) x (512 * s + r) k)
      = fun _ k => ∑ r ∈ Finset.range 8192, dgAt (back 2048 d w) x r k :=
    funext fun _ => funext fun k => Cert.Sgu.sum_blocks 512 (fun r => dgAt (back 2048 d w) x r k) 16
  rw [e'] at e
  refine (dats m 0 c).arrAt_eq_of_cover 7 _ (fun t hf => ?_) cover7
  have hN : cfg0.N = 16 := N_0
  obtain rfl : t = ⟨15, last_lt⟩ := Fin.ext (by have := (flush0_7 t).mp hf; have := t.isLt; dsimp only; omega)
  rw [Value.flushed7, e]
  exact cut7 _ _

end Arrays

/-! The reference. -/

open Cert.Reference37Ideal.Read
open Cert.SguRef (L1 fm fa fd fr bits_zero bits_1024 bits_eps bits_neg_half)

theorem s8 (i : Cert.Reference37Ideal.S8192x1.Idx) : val_main_v8 (F := Ideal) (L2 (φ := .f32) x) i = ((mean x (i 0).val : ℝ) : EReal) := by
  simp only [val_main_v8_apply, val_main_v7_apply, val_main_v6_apply, val_main_v5_apply, val_main_v4_apply, val_main_v3_apply, val_main_v2_apply, L2,
    val_main_cst_apply, val_main_cst_0_apply, val_main_cst_1_apply, Ideal.ofBits_def, bits_zero, bits_1024, bits_eps, fm]
  rw [← coe_sum_range 1024 fun k => x (i 0).val k * x (i 0).val k, ← EReal.coe_add, fd _ _ (by norm_num), fa, zero_add]
  rfl

theorem s9 (i : Cert.Reference37Ideal.S8192x1.Idx) : val_main_v9 (F := Ideal) (L2 (φ := .f32) x) i = ((q x (i 0).val : ℝ) : EReal) := by
  rw [val_main_v9_apply, s8, fr _ (mean_pos x _)]
  rfl

theorem s12 (i : Cert.Reference37Ideal.S8192x1.Idx) : val_main_v12 (F := Ideal) (L2 (φ := .f32) x) i
    = ((-(1 / 2) * (q x (i 0).val / mean x (i 0).val) : ℝ) : EReal) := by
  rw [val_main_v12_apply, val_main_v11_apply, val_main_v10_apply, val_main_cst_2_apply, s9, s8, Ideal.ofBits_def, bits_neg_half,
    fd _ _ (mean_pos x _).ne', fm]

theorem s20 : val_main_v20 (F := Ideal) (L2 (φ := .bf16) d) (L3 (φ := .bf16) w) = L2 (φ := .f32) (back 2048 d w) := by
  funext i
  rw [val_main_v20_apply]
  refine Eq.trans ?_ (coe_sum_range 2048 fun k => d (i 0).val k * w 0 (i 1).val k).symm
  refine Finset.sum_congr rfl fun k _ => ?_
  rw [EReal.coe_mul, val_main_v19_apply, val_main_v1_apply]
  refine congrArg (fun z => ((d (i 0).val k.val : ℝ) : EReal) * z) ?_
  show val_main_v0 (F := Ideal) (L3 (φ := .bf16) w) _ = _
  unfold val_main_v0
  rw [show shapeCast _ (L3 (φ := .bf16) w) _ = L2 (φ := .bf16) (w 0) from dropUnit_L3 w _]
  rfl

theorem s25 (i : Cert.Reference37Ideal.S8192x1024.Idx) : val_main_v25 (F := Ideal) (L2 (φ := .bf16) d) (L3 (φ := .bf16) w) (L1 (φ := .f32) g) i
    = ((back 2048 d w (i 0).val (i 1).val * g (i 1).val : ℝ) : EReal) := by
  rw [val_main_v25_apply, s20, val_main_v24_apply, val_main_v15_apply]
  exact fm _ _

theorem s28 (i : Cert.Reference37Ideal.S8192.Idx) : val_main_v28 (F := Ideal) (L2 (φ := .bf16) d) (L3 (φ := .bf16) w) (L2 (φ := .f32) x) (L1 (φ := .f32) g) i
    = ((∑ k ∈ Finset.range 1024, x (i 0).val k * (back 2048 d w (i 0).val k * g k) : ℝ) : EReal) := by
  rw [val_main_v28_apply, val_main_cst_5_apply, Ideal.ofBits_def, Ideal.ofBits_zero_f32, zero_add, coe_sum_range]
  refine Finset.sum_congr rfl fun k _ => ?_
  rw [val_main_v27_apply, s25]
  exact fm _ _

theorem s35 (i : Cert.Reference37Ideal.S8192x1.Idx) : val_main_v35 (F := Ideal) (L2 (φ := .bf16) d) (L3 (φ := .bf16) w) (L2 (φ := .f32) x) (L1 (φ := .f32) g) i
    = (((∑ k ∈ Finset.range 1024, x (i 0).val k * (back 2048 d w (i 0).val k * g k)) * (-(1 / 2) * (q x (i 0).val / mean x (i 0).val)) / 1024 : ℝ) : EReal) := by
  have hi : (idx_main_v29 i 0).val = (i 0).val := by
    have h1 : (i 1).val < 1 := (i 1).isLt
    show (i 0).val * 1 + (i 1).val = (i 0).val
    omega
  rw [val_main_v35_apply, val_main_v34_apply, val_main_v33_apply, val_main_v29_apply, s28, s12, val_main_cst_6_apply, Ideal.ofBits_def, bits_1024, hi, fm,
    fd _ _ (by norm_num)]

theorem s36 (i : Cert.Reference37Ideal.S8192.Idx) : val_main_v36 (F := Ideal) (L2 (φ := .bf16) d) (L3 (φ := .bf16) w) (L2 (φ := .f32) x) (L1 (φ := .f32) g) i
    = (((∑ k ∈ Finset.range 1024, x (i 0).val k * (back 2048 d w (i 0).val k * g k)) * (-(1 / 2) * (q x (i 0).val / mean x (i 0).val)) / 1024 : ℝ) : EReal) := by
  rw [val_main_v36_apply, Finset.univ_unique, Finset.sum_singleton, val_main_cst_7_apply, Ideal.ofBits_def, Ideal.ofBits_zero_f32, zero_add, s35]

theorem s41 : val_main_v41 (F := Ideal) (L2 (φ := .bf16) d) (L3 (φ := .bf16) w) (L2 (φ := .f32) x) (L1 (φ := .f32) g) (L2 (φ := .f32) e)
    = L2 (φ := .f32) (dx (back 2048 d w) x g e) := by
  funext i
  rw [val_main_v41_apply, val_main_v40_apply, val_main_v39_apply, val_main_v38_apply, val_main_v37_apply, s36, val_main_v32_apply, val_main_v31_apply,
    val_main_v30_apply, s25, s9]
  show _ = ((dx (back 2048 d w) x g e (i 0).val (i 1).val : ℝ) : EReal)
  rw [← dx_chain, ← fa, ← fa, ← fa, ← fm, ← fm, ← fm]
  rfl

theorem s42 : val_main_v42 (F := Ideal) (L2 (φ := .bf16) d) (L3 (φ := .bf16) w) (L2 (φ := .f32) x) (L1 (φ := .f32) g) (L2 (φ := .f32) e)
    = L2 (φ := .bf16) (dx (back 2048 d w) x g e) := by
  unfold val_main_v42
  rw [s41]
  rfl

theorem s43 : val_main_v43 (F := Ideal) (L2 (φ := .bf16) d) (L3 (φ := .bf16) w) (L2 (φ := .f32) x)
    = L2 (φ := .f32) fun _ k => ∑ r ∈ Finset.range 8192, dgAt (back 2048 d w) x r k := by
  funext i
  have hx : ∀ (r : Fin 8192) (k : Fin 1024), val_main_v21 (F := Ideal) (L2 (φ := .bf16) d) (L3 (φ := .bf16) w) (L2 (φ := .f32) x) (ValueIdx.ix2 r k)
      = ((dgAt (back 2048 d w) x r.val k.val : ℝ) : EReal) := fun r k => by
    rw [val_main_v21_apply, val_main_v14_apply, val_main_v13_apply, s9, s20]
    unfold dgAt scaled
    rw [mul_comm, ← fm, ← fm]
    rfl
  have hsum := coe_sum_range 8192 fun r => dgAt (back 2048 d w) x r (i 1).val
  simp only [val_main_v43_apply, val_main_v26_apply, val_main_v23_apply, val_main_v22_apply, Finset.univ_unique, Finset.sum_singleton,
    val_main_cst_3_apply, val_main_cst_4_apply, Ideal.ofBits_def, Ideal.ofBits_zero_f32, zero_add]
  refine Eq.trans (Finset.sum_congr rfl fun r _ => ?_) hsum.symm
  refine Eq.trans (congrArg _ ?_) (hx r (i 1))
  funext a
  match a with
  | ⟨0, _⟩ => rfl
  | ⟨1, _⟩ =>
    refine Fin.ext ?_
    show 0 * 1024 + (i 1).val = (i 1).val
    omega

/-- When the arguments' entries are reals, each result array of the call is the reference's at the same arguments. -/
theorem values [hF : Cert.Pre_finite_b_in_bwd.Facts] (h : Cert.Pre_Kernel37Ideal_finite_b_in_bwd m) :
    (dats m 0 c).arrAt 5 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 6 cfg0.N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 7 cfg0.N = val_main_v43 (F := Ideal) (m ((c : Thread nD τ).loc main_arg0)) (m ((c : Thread nD τ).loc main_arg1)) (m ((c : Thread nD τ).loc main_arg2)) := by
  have hs : Subsingleton (Cert.Pre_finite_b_in_bwd.S_).Idx := ⟨fun a b => funext fun k => k.elim0⟩
  obtain ⟨t0, t1, t2, t3, t4⟩ := h c
  simp only [Cert.Pre_finite_b_in_bwd.fn, Cert.Pre_finite_b_in_bwd.fn_part1] at t0 t1 t2 t3 t4
  obtain ⟨d, e0⟩ := Cert.Finite.exists_L2 _ (Cert.Finite.real_of_test hs _ _ _ _ _ t0)
  obtain ⟨w, e1⟩ := Cert.Finite.exists_L3 _ (Cert.Finite.real_of_test hs _ _ _ _ _ t1)
  obtain ⟨x, e2⟩ := Cert.Finite.exists_L2 (m ((c : Thread nD τ).loc main_arg2)) (Cert.Finite.real_of_test hs _ _ _ _ _ t2)
  obtain ⟨g, e3⟩ := Cert.Finite.exists_L1 (m ((c : Thread nD τ).loc main_arg3)) (Cert.Finite.real_of_test hs _ _ _ _ _ t3)
  obtain ⟨e, e4⟩ := Cert.Finite.exists_L2 (m ((c : Thread nD τ).loc main_arg4)) (Cert.Finite.real_of_test hs _ _ _ _ _ t4)
  replace e0 : m ((c : Thread nD τ).loc main_arg0) = L2 (φ := .bf16) d := e0
  replace e1 : m ((c : Thread nD τ).loc main_arg1) = L3 (φ := .bf16) w := e1
  replace e3 : m ((c : Thread nD τ).loc main_arg3) = L1 (φ := .f32) g := e3
  have h0 := (V_main_arg0 m c).trans e0
  have h1 := (V_main_arg1 m c).trans e1
  have h2 := (V_main_arg2 m c).trans e2
  have h3 := V_main_v0 m c g e3
  have h4 := (V_main_arg4 m c).trans e4
  rw [e0, e1, e2, e3, e4]
  exact ⟨(arr5 m c d w x g e h0 h1 h2 h3 h4).trans (s41 d w x g e).symm, (arr6 m c d w x g e h0 h1 h2 h3 h4).trans (s42 d w x g e).symm,
    (arr7 m c d w x g e h0 h1 h2 h3 h4).trans (s43 d w x).symm⟩

/-- The call and the reference, run from arguments whose entries are finite, end with the same three arrays. -/
theorem algebraic : Cert.algebraic_Kernel37Ideal_Reference37Ideal_pre_finite_b_in_bwd
    (hKernel37Ideal := Cert.Kernel37Ideal.Gen.facts) (hReference37Ideal := Cert.Reference37Ideal.Gen.facts) (hPre_finite_b_in_bwd := Cert.Pre_finite_b_in_bwd.Gen.facts) := by
  intro m g m' g' hp ha
  refine ⟨fun c => (dats m 0 c).arrAt 5 cfg0.N, fun c => (dats m 0 c).arrAt 6 cfg0.N, fun c => (dats m 0 c).arrAt 7 cfg0.N,
    Cert.Kernel37Ideal.Value.run_blocks m g,
    (θ_run Cert.Reference37Ideal.defs _ _).mono (fun r h c => ?_) (Cert.Reference37Ideal.Value.run m' g')⟩
  obtain ⟨r0, r1, r2, k⟩ := h c
  obtain ⟨a0, a1, a2, a3, a4⟩ := ha c
  obtain ⟨v0, v1, v2⟩ := values (hF := Cert.Pre_finite_b_in_bwd.Gen.facts) m c hp
  refine ⟨?_, ?_, ?_, k⟩
  · refine (r0.trans (Cert.Reference37Ideal.Read.val_main_v41_eq _ _)).trans ?_
    rw [a0, a1, a2, a3, a4]
    exact v0.symm
  · refine (r1.trans (Cert.Reference37Ideal.Read.val_main_v42_eq _ _)).trans ?_
    rw [a0, a1, a2, a3, a4]
    exact v1.symm
  · refine (r2.trans (Cert.Reference37Ideal.Read.val_main_v43_eq _ _ _)).trans ?_
    rw [a0, a1, a2]
    exact v2.symm

end Cert.BInBwd
end
-- ==== Proof.Mm.CInBwd.lean ====
module

public import proofs.«01_k».proof.Defs
public import proofs.«01_k».proof.Proof.Mm.NormBwd
public import proofs.«01_k».proof.Proof.Sgu.Finite
public import proofs.«01_k».proof.Proof.Sgu.Arrays
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Pre_finite_c_in_bwd
public import Idealize.ShloMosaic.Lib.Pipeline.ValueKit

/-! The gradient through the product into the third token mixer and the scaling before it: the call's three result arrays are
the reference's. -/

@[expose] public section
set_option maxRecDepth 16384
noncomputable section
namespace Cert.CInBwd
open Cert.Kernel38Ideal Cert.Kernel38Ideal.Gen Cert.Lift Cert.NormBwd Idealize.ShloMosaic Idealize.ShloMosaic.TcCoe Idealize.SL.Sem
open scoped BigOperators

variable (m : (ℓ : Loc nD τ sig) → Buf (Elt Ideal) ℓ) (c : Dev nD)
variable (d : ℕ → ℕ → ℝ) (w : ℕ → ℕ → ℕ → ℝ) (x : ℕ → ℕ → ℝ) (g : ℕ → ℝ) (e : ℕ → ℕ → ℝ)

theorem idx (t : Fin cfg0.N) : (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)
    ∧ (win0_6.index t 0 = t.val ∧ win0_6.index t 1 = 0)) t

theorem iblk0 (h : V m c main_arg0 = L2 (φ := .bf16) d) (t : Fin cfg0.N) : iblk m c 0 t = L2 (φ := .bf16) (rows t.val d) := by
  funext y
  show V m c main_arg0 ((win0_0.rect t).emb y) = _
  rw [h]
  unfold L2 rows
  rw [win0_0.rect_emb_val t y 0, win0_0.rect_emb_val_of_index_zero t 1 (idx t).1.2 y, (idx t).1.1, Nat.mul_comm]
  rfl

theorem iblk1 (h : V m c main_arg1 = L3 (φ := .bf16) w) (t : Fin cfg0.N) : iblk m c 1 t = L3 (φ := .bf16) w := by
  funext y
  show V m c main_arg1 ((win0_1.rect t).emb y) = _
  rw [h]
  unfold L3
  rw [win0_1.rect_emb_val_of_index_zero t 0 rfl y, win0_1.rect_emb_val_of_index_zero t 1 rfl y, win0_1.rect_emb_val_of_index_zero t 2 rfl y]

theorem iblk2 (h : V m c main_arg2 = L2 (φ := .f32) x) (t : Fin cfg0.N) : iblk m c 2 t = L2 (φ := .f32) (rows t.val x) := by
  funext y
  show V m c main_arg2 ((win0_2.rect t).emb y) = _
  rw [h]
  unfold L2 rows
  rw [win0_2.rect_emb_val t y 0, win0_2.rect_emb_val_of_index_zero t 1 (idx t).2.1.2 y, (idx t).2.1.1, Nat.mul_comm]
  rfl

theorem iblk3 (h : V m c main_v0 = L2 (φ := .f32) fun _ k => g k) (t : Fin cfg0.N) : iblk m c 3 t = L2 (φ := .f32) fun _ k => g k := by
  funext y
  show V m c main_v0 ((win0_3.rect t).emb y) = _
  rw [h]
  unfold L2
  rw [win0_3.rect_emb_val_of_index_zero t 1 rfl y]

theorem iblk4 (h : V m c main_arg4 = L2 (φ := .f32) e) (t : Fin cfg0.N) : iblk m c 4 t = L2 (φ := .f32) (rows t.val e) := by
  funext y
  show V m c main_arg4 ((win0_4.rect t).emb y) = _
  rw [h]
  unfold L2 rows
  rw [win0_4.rect_emb_val t y 0, win0_4.rect_emb_val_of_index_zero t 1 (idx t).2.2.1.2 y, (idx t).2.2.1.1, Nat.mul_comm]
  rfl

theorem V_main_v0 (h : m ((c : Thread nD τ).loc main_arg3) = Cert.SguRef.L1 (φ := .f32) g) : V m c main_v0 = L2 (φ := .f32) fun _ k => g k := by
  simp only [V, hostOps0, List.flatten_cons, List.flatten_nil, List.append_nil, List.cons_append, List.nil_append]
  after_results
  rw [show m (c, Proc.tc.devRef main_arg3) = Cert.SguRef.L1 (φ := .f32) g from h]
  funext i
  rfl

theorem pay3 : k0_pay3 (F := Ideal) (L2 (φ := .bf16) d) (L3 (φ := .bf16) w) = L2 (back 3072 d w) := by
  unfold k0_pay3
  refine (congrArg (fun p => FloatOps.matmul (F := Ideal) _ _ _ p _) (dropUnit_L3 w _)).trans ?_
  exact matmul_transposedRhs_L2 d (w 0) none _ rfl

theorem pay4 : k0_pay4 (F := Ideal) (L2 (φ := .f32) x) = L2 fun r _ => q x r := q_block (a := 512) x _ _ _ _

theorem pay5 : k0_pay5 (F := Ideal) (L2 (φ := .f32) x) = L2 (scaled x) := by
  unfold k0_pay5
  rw [pay4]
  exact scaled_block (a := 512) x (by decide) _

theorem pay6 : k0_pay6 (F := Ideal) (L2 (φ := .bf16) d) (L3 (φ := .bf16) w) (L2 (φ := .f32) x) (L2 (φ := .f32) fun _ k => g k) (L2 (φ := .f32) e)
    = L2 (dx (back 3072 d w) x g e) := by
  unfold k0_pay6
  rw [pay3, pay4, pay5]
  exact dx_block (a := 512) (back 3072 d w) x g e (by decide) _ _ _ _ _ _ _

theorem pay7 : k0_pay7 (F := Ideal) (L2 (φ := .bf16) d) (L3 (φ := .bf16) w) (L2 (φ := .f32) x) (L2 (φ := .f32) fun _ k => g k) (L2 (φ := .f32) e)
    = L2 (φ := .bf16) (dx (back 3072 d w) x g e) := by
  unfold k0_pay7
  rw [pay6]
  rfl

theorem pay1 (s : ℕ → ℝ) : k0_pay1 (F := Ideal) (k0_pay3 (F := Ideal) (L2 (φ := .bf16) d) (L3 (φ := .bf16) w)) (k0_pay5 (F := Ideal) (L2 (φ := .f32) x))
    (L2 (φ := .f32) fun _ k => s k) = L2 (φ := .f32) fun _ k => s k + ∑ r ∈ Finset.range 512, dgAt (back 3072 d w) x r k := by
  rw [pay3, pay5]
  exact dg_block (a := 512) (back 3072 d w) x s _ _ _ _ _

theorem pay2 : k0_pay2 (F := Ideal) = L2 (φ := .f32) fun _ _ => 0 := broadcast_L2 _ _ Cert.SguRef.bits_zero

section Run
variable (h0 : V m c main_arg0 = L2 (φ := .bf16) d) (h1 : V m c main_arg1 = L3 (φ := .bf16) w) (h2 : V m c main_arg2 = L2 (φ := .f32) x)
  (h3 : V m c main_v0 = L2 (φ := .f32) fun _ k => g k) (h4 : V m c main_arg4 = L2 (φ := .f32) e)
include h0 h1 h2 h3 h4

/-- What a point writes of the rows' gradient, in both formats. -/
theorem point (t : Fin cfg0.N) : (outsAt0 m c t.val t.isLt).1 = L2 (φ := .f32) (rows t.val (dx (back 3072 d w) x g e))
    ∧ (outsAt0 m c t.val t.isLt).2.1 = L2 (φ := .bf16) (rows t.val (dx (back 3072 d w) x g e)) := by
  have e6 := pay6 (rows t.val d) w (rows t.val x) g (rows t.val e)
  have e7 := pay7 (rows t.val d) w (rows t.val x) g (rows t.val e)
  rw [← iblk0 m c d h0 t, ← iblk1 m c w h1 t, ← iblk2 m c x h2 t, ← iblk3 m c g h3 t, ← iblk4 m c e h4 t] at e6 e7
  by_cases z : t.val % 16 = 0
  · rw [outsAt0_A m c t z]
    constructor
    · frame_out
      exact e6
    · frame_out
      exact e7
  · rw [outsAt0_B m c t z]
    constructor
    · frame_out
      exact e6
    · frame_out
      exact e7

/-- The gradient of the gains after point `i`. -/
theorem acc : ∀ (i : ℕ) (h : i < cfg0.N), (outsAt0 m c i h).2.2
    = (L2 (φ := .f32) fun _ k => ∑ s ∈ Finset.range (i + 1), ∑ r ∈ Finset.range 512, dgAt (back 3072 d w) x (512 * s + r) k)
  | 0, h => by
    rw [outsAt0_A m c ⟨0, h⟩ rfl]
    frame_out
    rw [iblk0 m c d h0, iblk1 m c w h1, iblk2 m c x h2, pay2, pay1]
    simp only [zero_add, Finset.sum_range_one]
    rfl
  | i + 1, h => by
    have hN : cfg0.N = 16 := N_0
    refine (congrArg (fun p => p.2.2) (outsAt0_B m c ⟨i + 1, h⟩ (by dsimp only; omega))).trans ?_
    frame_out
    refine (congrArg (k0_pay1 (F := Ideal) _ _) (acc i (Nat.lt_of_succ_lt h))).trans ?_
    rw [iblk0 m c d h0, iblk1 m c w h1, iblk2 m c x h2, pay1]
    exact congrArg _ (funext fun r => funext fun k => (Finset.sum_range_succ _ (i + 1)).symm)

end Run

theorem last_lt : 15 < cfg0.N := by rw [show cfg0.N = 16 from N_0]; decide

theorem point_lt (i : ℕ) (h : i < 8192) : i / 512 < cfg0.N := by
  have hN : cfg0.N = 16 := N_0
  omega

theorem cover5 (i : S8192x1024.Idx) : ∃ t : Fin cfg0.N, (cfg0.win 5).flush t = true ∧ i ∈ ((cfg0.win 5).blk t).view.set := by
  have hi1 : (i 1 : Nat) < 1024 := (i 1).isLt
  refine ⟨⟨(i 0 : Nat) / 512, point_lt _ (i 0).isLt⟩, flush0_5 _, ?_⟩
  refine (View.set_slice_whole main_v1_0 (win0_5.rect ⟨(i 0 : Nat) / 512, point_lt _ (i 0).isLt⟩)) ▸ ?_
  rw [Rect.mem_set_unit]
  intro a
  match a with
  | ⟨0, _⟩ =>
    show win0_5.index _ 0 * 512 ≤ (i 0 : Nat) ∧ (i 0 : Nat) < win0_5.index _ 0 * 512 + 512
    rw [(idx _).2.2.2.1.1]; dsimp only; omega
  | ⟨1, _⟩ =>
    show win0_5.index _ 1 * 1024 ≤ (i 1 : Nat) ∧ (i 1 : Nat) < win0_5.index _ 1 * 1024 + 1024
    rw [(idx _).2.2.2.1.2]; omega

theorem cover6 (i : S8192x1024.Idx) : ∃ t : Fin cfg0.N, (cfg0.win 6).flush t = true ∧ i ∈ ((cfg0.win 6).blk t).view.set := by
  have hi1 : (i 1 : Nat) < 1024 := (i 1).isLt
  refine ⟨⟨(i 0 : Nat) / 512, point_lt _ (i 0).isLt⟩, flush0_6 _, ?_⟩
  refine (View.set_slice_whole main_v1_1 (win0_6.rect ⟨(i 0 : Nat) / 512, point_lt _ (i 0).isLt⟩)) ▸ ?_
  rw [Rect.mem_set_unit]
  intro a
  match a with
  | ⟨0, _⟩ =>
    show win0_6.index _ 0 * 512 ≤ (i 0 : Nat) ∧ (i 0 : Nat) < win0_6.index _ 0 * 512 + 512
    rw [(idx _).2.2.2.2.1]; dsimp only; omega
  | ⟨1, _⟩ =>
    show win0_6.index _ 1 * 1024 ≤ (i 1 : Nat) ∧ (i 1 : Nat) < win0_6.index _ 1 * 1024 + 1024
    rw [(idx _).2.2.2.2.2]; omega

/-- The third result's one block is its whole array. -/
theorem cut7 (X : Vec Ideal S1x1024 .f32) (t : Fin cfg0.N) :
    (cfg0.win 7).cut (grid0.coords t) X = ((cfg0.win 7).blk t).view.read (Elt Ideal) X := by
  funext y
  show X y = X ((win0_7.rect t).emb y)
  refine congrArg X (funext fun a => Fin.ext ?_)
  exact (win0_7.rect_emb_val_of_index_zero t a (by fin_cases a <;> rfl) y).symm

theorem cover7 (i : S1x1024.Idx) : ∃ t : Fin cfg0.N, (cfg0.win 7).flush t = true ∧ i ∈ ((cfg0.win 7).blk t).view.set := by
  refine ⟨⟨15, last_lt⟩, (flush0_7 _).mpr rfl, ?_⟩
  refine (View.set_slice_whole main_v1_2 (win0_7.rect ⟨15, last_lt⟩)) ▸ ?_
  rw [Rect.mem_set_unit]
  intro a
  match a with
  | ⟨0, _⟩ => exact ⟨Nat.zero_le _, (i 0).isLt⟩
  | ⟨1, _⟩ => exact ⟨Nat.zero_le _, (i 1).isLt⟩

section Arrays
variable (h0 : V m c main_arg0 = L2 (φ := .bf16) d) (h1 : V m c main_arg1 = L3 (φ := .bf16) w) (h2 : V m c main_arg2 = L2 (φ := .f32) x)
  (h3 : V m c main_v0 = L2 (φ := .f32) fun _ k => g k) (h4 : V m c main_arg4 = L2 (φ := .f32) e)
include h0 h1 h2 h3 h4

theorem arr5 : (dats m 0 c).arrAt 5 cfg0.N = L2 (φ := .f32) (dx (back 3072 d w) x g e) := by
  funext j
  refine (dats m 0 c).arrAt_forall_of_cover 5 (fun i v => v = L2 (φ := .f32) (dx (back 3072 d w) x g e) i) (fun t _ y => ?_) cover5 j
  rw [Value.flushed5, (point m c d w x g e h0 h1 h2 h3 h4 t).1]
  show ((rows t.val (dx (back 3072 d w) x g e) (y 0).val (y 1).val : ℝ) : EReal) = L2 (φ := .f32) (dx (back 3072 d w) x g e) ((win0_5.rect t).emb y)
  unfold L2 rows
  rw [win0_5.rect_emb_val t y 0, win0_5.rect_emb_val_of_index_zero t 1 (idx t).2.2.2.1.2 y, (idx t).2.2.2.1.1, Nat.mul_comm]
  rfl

theorem arr6 : (dats m 0 c).arrAt 6 cfg0.N = L2 (φ := .bf16) (dx (back 3072 d w) x g e) := by
  funext j
  refine (dats m 0 c).arrAt_forall_of_cover 6 (fun i v => v = L2 (φ := .bf16) (dx (back 3072 d w) x g e) i) (fun t _ y => ?_) cover6 j
  rw [Value.flushed6, (point m c d w x g e h0 h1 h2 h3 h4 t).2]
  show ((rows t.val (dx (back 3072 d w) x g e) (y 0).val (y 1).val : ℝ) : EReal) = L2 (φ := .bf16) (dx (back 3072 d w) x g e) ((win0_6.rect t).emb y)
  unfold L2 rows
  rw [win0_6.rect_emb_val t y 0, win0_6.rect_emb_val_of_index_zero t 1 (idx t).2.2.2.2.2 y, (idx t).2.2.2.2.1, Nat.mul_comm]
  rfl

theorem arr7 : (dats m 0 c).arrAt 7 cfg0.N = L2 (φ := .f32) fun _ k => ∑ r ∈ Finset.range 8192, dgAt (back 3072 d w) x r k := by
  have e := acc m c d w x g e h0 h1 h2 h3 h4 15 last_lt
  have e' : (fun (_ k : ℕ) => ∑ s ∈ Finset.range (15 + 1), ∑ r ∈ Finset.range 512, dgAt (back 3072 d w) x (512 * s + r) k)
      = fun _ k => ∑ r ∈ Finset.range 8192, dgAt (back 3072 d w) x r k :=
    funext fun _ => funext fun k => Cert.Sgu.sum_blocks 512 (fun r => dgAt (back 3072 d w) x r k) 16
  rw [e'] at e
  refine (dats m 0 c).arrAt_eq_of_cover 7 _ (fun t hf => ?_) cover7
  have hN : cfg0.N = 16 := N_0
  obtain rfl : t = ⟨15, last_lt⟩ := Fin.ext (by have := (flush0_7 t).mp hf; have := t.isLt; dsimp only; omega)
  rw [Value.flushed7, e]
  exact cut7 _ _

end Arrays

/-! The reference. -/

open Cert.Reference38Ideal.Read
open Cert.SguRef (L1 fm fa fd fr bits_zero bits_1024 bits_eps bits_neg_half)

theorem s8 (i : Cert.Reference38Ideal.S8192x1.Idx) : val_main_v8 (F := Ideal) (L2 (φ := .f32) x) i = ((mean x (i 0).val : ℝ) : EReal) := by
  simp only [val_main_v8_apply, val_main_v7_apply, val_main_v6_apply, val_main_v5_apply, val_main_v4_apply, val_main_v3_apply, val_main_v2_apply, L2,
    val_main_cst_apply, val_main_cst_0_apply, val_main_cst_1_apply, Ideal.ofBits_def, bits_zero, bits_1024, bits_eps, fm]
  rw [← coe_sum_range 1024 fun k => x (i 0).val k * x (i 0).val k, ← EReal.coe_add, fd _ _ (by norm_num), fa, zero_add]
  rfl

theorem s9 (i : Cert.Reference38Ideal.S8192x1.Idx) : val_main_v9 (F := Ideal) (L2 (φ := .f32) x) i = ((q x (i 0).val : ℝ) : EReal) := by
  rw [val_main_v9_apply, s8, fr _ (mean_pos x _)]
  rfl

theorem s12 (i : Cert.Reference38Ideal.S8192x1.Idx) : val_main_v12 (F := Ideal) (L2 (φ := .f32) x) i
    = ((-(1 / 2) * (q x (i 0).val / mean x (i 0).val) : ℝ) : EReal) := by
  rw [val_main_v12_apply, val_main_v11_apply, val_main_v10_apply, val_main_cst_2_apply, s9, s8, Ideal.ofBits_def, bits_neg_half,
    fd _ _ (mean_pos x _).ne', fm]

theorem s20 : val_main_v20 (F := Ideal) (L2 (φ := .bf16) d) (L3 (φ := .bf16) w) = L2 (φ := .f32) (back 3072 d w) := by
  funext i
  rw [val_main_v20_apply]
  refine Eq.trans ?_ (coe_sum_range 3072 fun k => d (i 0).val k * w 0 (i 1).val k).symm
  refine Finset.sum_congr rfl fun k _ => ?_
  rw [EReal.coe_mul, val_main_v19_apply, val_main_v1_apply]
  refine congrArg (fun z => ((d (i 0).val k.val : ℝ) : EReal) * z) ?_
  show val_main_v0 (F := Ideal) (L3 (φ := .bf16) w) _ = _
  unfold val_main_v0
  rw [show shapeCast _ (L3 (φ := .bf16) w) _ = L2 (φ := .bf16) (w 0) from dropUnit_L3 w _]
  rfl

theorem s25 (i : Cert.Reference38Ideal.S8192x1024.Idx) : val_main_v25 (F := Ideal) (L2 (φ := .bf16) d) (L3 (φ := .bf16) w) (L1 (φ := .f32) g) i
    = ((back 3072 d w (i 0).val (i 1).val * g (i 1).val : ℝ) : EReal) := by
  rw [val_main_v25_apply, s20, val_main_v24_apply, val_main_v15_apply]
  exact fm _ _

theorem s28 (i : Cert.Reference38Ideal.S8192.Idx) : val_main_v28 (F := Ideal) (L2 (φ := .bf16) d) (L3 (φ := .bf16) w) (L2 (φ := .f32) x) (L1 (φ := .f32) g) i
    = ((∑ k ∈ Finset.range 1024, x (i 0).val k * (back 3072 d w (i 0).val k * g k) : ℝ) : EReal) := by
  rw [val_main_v28_apply, val_main_cst_5_apply, Ideal.ofBits_def, Ideal.ofBits_zero_f32, zero_add, coe_sum_range]
  refine Finset.sum_congr rfl fun k _ => ?_
  rw [val_main_v27_apply, s25]
  exact fm _ _

theorem s35 (i : Cert.Reference38Ideal.S8192x1.Idx) : val_main_v35 (F := Ideal) (L2 (φ := .bf16) d) (L3 (φ := .bf16) w) (L2 (φ := .f32) x) (L1 (φ := .f32) g) i
    = (((∑ k ∈ Finset.range 1024, x (i 0).val k * (back 3072 d w (i 0).val k * g k)) * (-(1 / 2) * (q x (i 0).val / mean x (i 0).val)) / 1024 : ℝ) : EReal) := by
  have hi : (idx_main_v29 i 0).val = (i 0).val := by
    have h1 : (i 1).val < 1 := (i 1).isLt
    show (i 0).val * 1 + (i 1).val = (i 0).val
    omega
  rw [val_main_v35_apply, val_main_v34_apply, val_main_v33_apply, val_main_v29_apply, s28, s12, val_main_cst_6_apply, Ideal.ofBits_def, bits_1024, hi, fm,
    fd _ _ (by norm_num)]

theorem s36 (i : Cert.Reference38Ideal.S8192.Idx) : val_main_v36 (F := Ideal) (L2 (φ := .bf16) d) (L3 (φ := .bf16) w) (L2 (φ := .f32) x) (L1 (φ := .f32) g) i
    = (((∑ k ∈ Finset.range 1024, x (i 0).val k * (back 3072 d w (i 0).val k * g k)) * (-(1 / 2) * (q x (i 0).val / mean x (i 0).val)) / 1024 : ℝ) : EReal) := by
  rw [val_main_v36_apply, Finset.univ_unique, Finset.sum_singleton, val_main_cst_7_apply, Ideal.ofBits_def, Ideal.ofBits_zero_f32, zero_add, s35]

theorem s41 : val_main_v41 (F := Ideal) (L2 (φ := .bf16) d) (L3 (φ := .bf16) w) (L2 (φ := .f32) x) (L1 (φ := .f32) g) (L2 (φ := .f32) e)
    = L2 (φ := .f32) (dx (back 3072 d w) x g e) := by
  funext i
  rw [val_main_v41_apply, val_main_v40_apply, val_main_v39_apply, val_main_v38_apply, val_main_v37_apply, s36, val_main_v32_apply, val_main_v31_apply,
    val_main_v30_apply, s25, s9]
  show _ = ((dx (back 3072 d w) x g e (i 0).val (i 1).val : ℝ) : EReal)
  rw [← dx_chain, ← fa, ← fa, ← fa, ← fm, ← fm, ← fm]
  rfl

theorem s42 : val_main_v42 (F := Ideal) (L2 (φ := .bf16) d) (L3 (φ := .bf16) w) (L2 (φ := .f32) x) (L1 (φ := .f32) g) (L2 (φ := .f32) e)
    = L2 (φ := .bf16) (dx (back 3072 d w) x g e) := by
  unfold val_main_v42
  rw [s41]
  rfl

theorem s43 : val_main_v43 (F := Ideal) (L2 (φ := .bf16) d) (L3 (φ := .bf16) w) (L2 (φ := .f32) x)
    = L2 (φ := .f32) fun _ k => ∑ r ∈ Finset.range 8192, dgAt (back 3072 d w) x r k := by
  funext i
  have hx : ∀ (r : Fin 8192) (k : Fin 1024), val_main_v21 (F := Ideal) (L2 (φ := .bf16) d) (L3 (φ := .bf16) w) (L2 (φ := .f32) x) (ValueIdx.ix2 r k)
      = ((dgAt (back 3072 d w) x r.val k.val : ℝ) : EReal) := fun r k => by
    rw [val_main_v21_apply, val_main_v14_apply, val_main_v13_apply, s9, s20]
    unfold dgAt scaled
    rw [mul_comm, ← fm, ← fm]
    rfl
  have hsum := coe_sum_range 8192 fun r => dgAt (back 3072 d w) x r (i 1).val
  simp only [val_main_v43_apply, val_main_v26_apply, val_main_v23_apply, val_main_v22_apply, Finset.univ_unique, Finset.sum_singleton,
    val_main_cst_3_apply, val_main_cst_4_apply, Ideal.ofBits_def, Ideal.ofBits_zero_f32, zero_add]
  refine Eq.trans (Finset.sum_congr rfl fun r _ => ?_) hsum.symm
  refine Eq.trans (congrArg _ ?_) (hx r (i 1))
  funext a
  match a with
  | ⟨0, _⟩ => rfl
  | ⟨1, _⟩ =>
    refine Fin.ext ?_
    show 0 * 1024 + (i 1).val = (i 1).val
    omega

/-- When the arguments' entries are reals, each result array of the call is the reference's at the same arguments. -/
theorem values [hF : Cert.Pre_finite_c_in_bwd.Facts] (h : Cert.Pre_Kernel38Ideal_finite_c_in_bwd m) :
    (dats m 0 c).arrAt 5 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 6 cfg0.N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 7 cfg0.N = val_main_v43 (F := Ideal) (m ((c : Thread nD τ).loc main_arg0)) (m ((c : Thread nD τ).loc main_arg1)) (m ((c : Thread nD τ).loc main_arg2)) := by
  have hs : Subsingleton (Cert.Pre_finite_c_in_bwd.S_).Idx := ⟨fun a b => funext fun k => k.elim0⟩
  obtain ⟨t0, t1, t2, t3, t4⟩ := h c
  simp only [Cert.Pre_finite_c_in_bwd.fn, Cert.Pre_finite_c_in_bwd.fn_part1] at t0 t1 t2 t3 t4
  obtain ⟨d, e0⟩ := Cert.Finite.exists_L2 _ (Cert.Finite.real_of_test hs _ _ _ _ _ t0)
  obtain ⟨w, e1⟩ := Cert.Finite.exists_L3 _ (Cert.Finite.real_of_test hs _ _ _ _ _ t1)
  obtain ⟨x, e2⟩ := Cert.Finite.exists_L2 (m ((c : Thread nD τ).loc main_arg2)) (Cert.Finite.real_of_test hs _ _ _ _ _ t2)
  obtain ⟨g, e3⟩ := Cert.Finite.exists_L1 (m ((c : Thread nD τ).loc main_arg3)) (Cert.Finite.real_of_test hs _ _ _ _ _ t3)
  obtain ⟨e, e4⟩ := Cert.Finite.exists_L2 (m ((c : Thread nD τ).loc main_arg4)) (Cert.Finite.real_of_test hs _ _ _ _ _ t4)
  replace e0 : m ((c : Thread nD τ).loc main_arg0) = L2 (φ := .bf16) d := e0
  replace e1 : m ((c : Thread nD τ).loc main_arg1) = L3 (φ := .bf16) w := e1
  replace e3 : m ((c : Thread nD τ).loc main_arg3) = L1 (φ := .f32) g := e3
  have h0 := (V_main_arg0 m c).trans e0
  have h1 := (V_main_arg1 m c).trans e1
  have h2 := (V_main_arg2 m c).trans e2
  have h3 := V_main_v0 m c g e3
  have h4 := (V_main_arg4 m c).trans e4
  rw [e0, e1, e2, e3, e4]
  exact ⟨(arr5 m c d w x g e h0 h1 h2 h3 h4).trans (s41 d w x g e).symm, (arr6 m c d w x g e h0 h1 h2 h3 h4).trans (s42 d w x g e).symm,
    (arr7 m c d w x g e h0 h1 h2 h3 h4).trans (s43 d w x).symm⟩

/-- The call and the reference, run from arguments whose entries are finite, end with the same three arrays. -/
theorem algebraic : Cert.algebraic_Kernel38Ideal_Reference38Ideal_pre_finite_c_in_bwd
    (hKernel38Ideal := Cert.Kernel38Ideal.Gen.facts) (hReference38Ideal := Cert.Reference38Ideal.Gen.facts) (hPre_finite_c_in_bwd := Cert.Pre_finite_c_in_bwd.Gen.facts) := by
  intro m g m' g' hp ha
  refine ⟨fun c => (dats m 0 c).arrAt 5 cfg0.N, fun c => (dats m 0 c).arrAt 6 cfg0.N, fun c => (dats m 0 c).arrAt 7 cfg0.N,
    Cert.Kernel38Ideal.Value.run_blocks m g,
    (θ_run Cert.Reference38Ideal.defs _ _).mono (fun r h c => ?_) (Cert.Reference38Ideal.Value.run m' g')⟩
  obtain ⟨r0, r1, r2, k⟩ := h c
  obtain ⟨a0, a1, a2, a3, a4⟩ := ha c
  obtain ⟨v0, v1, v2⟩ := values (hF := Cert.Pre_finite_c_in_bwd.Gen.facts) m c hp
  refine ⟨?_, ?_, ?_, k⟩
  · refine (r0.trans (Cert.Reference38Ideal.Read.val_main_v41_eq _ _)).trans ?_
    rw [a0, a1, a2, a3, a4]
    exact v0.symm
  · refine (r1.trans (Cert.Reference38Ideal.Read.val_main_v42_eq _ _)).trans ?_
    rw [a0, a1, a2, a3, a4]
    exact v1.symm
  · refine (r2.trans (Cert.Reference38Ideal.Read.val_main_v43_eq _ _ _)).trans ?_
    rw [a0, a1, a2]
    exact v2.symm

end Cert.CInBwd
end
-- ==== Proof.Mm.NormFwd.lean ====
module

public import proofs.«01_k».proof.Defs
public import proofs.«01_k».proof.Proof.Mm.Norm
public import proofs.«01_k».proof.Proof.Gen.Kernel39Ideal.Value
public import proofs.«01_k».proof.Proof.Gen.Reference39Ideal.Run
public import proofs.«01_k».proof.Proof.Gen.Reference39Ideal.Read
public import Idealize.ShloMosaic.Lib.Pipeline.ValueKit

/-! The norm before the first layer: the call's array is the reference's. -/

@[expose] public section
set_option maxRecDepth 16384
noncomputable section
namespace Cert.NormFwd
open Cert.Kernel39Ideal Cert.Kernel39Ideal.Gen Cert.Ext Idealize.ShloMosaic Idealize.ShloMosaic.TcCoe Idealize.SL.Sem
open scoped BigOperators

variable (m : (ℓ : Loc nD τ sig) → Buf (Elt Ideal) ℓ) (c : Dev nD) (x : ℕ → ℕ → EReal) (g : ℕ → EReal)

theorem idx (t : Fin cfg0.N) : (win0_0.index t 0 = t.val ∧ win0_0.index t 1 = 0) ∧ (win0_2.index t 0 = t.val ∧ win0_2.index t 1 = 0)
    ∧ win0_1.index t 1 = 0 :=
  (by decide +kernel : ∀ t : Fin grid0.N, (win0_0.index t 0 = t.val ∧ win0_0.index t 1 = 0) ∧ (win0_2.index t 0 = t.val ∧ win0_2.index t 1 = 0)
    ∧ win0_1.index t 1 = 0) t

theorem iblk0 (e : V m c main_arg0 = E2 (φ := .f32) x) (t : Fin cfg0.N) : iblk m c 0 t = E2 (φ := .f32) (rows 512 t.val x) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_v0 = E2 (φ := .f32) fun _ k => g k) (t : Fin cfg0.N) : iblk m c 1 t = E2 (φ := .f32) fun _ k => g k := by
  funext y
  show V m c main_v0 ((win0_1.rect t).emb y) = _
  rw [e]
  unfold E2
  rw [win0_1.rect_emb_val_of_index_zero t 1 (idx t).2.2 y]

theorem V_main_v0 (e : m ((c : Thread nD τ).loc main_arg1) = E1 (φ := .f32) g) : V m c main_v0 = E2 (φ := .f32) fun _ k => g k := by
  simp only [V, hostOps0, List.flatten_cons, List.flatten_nil, List.append_nil, List.cons_append, List.nil_append]
  after_results
  rw [show m (c, Proc.tc.devRef main_arg1) = E1 (φ := .f32) g from e]
  funext i
  rfl

theorem out2 : out0_2 (F := Ideal) (E2 (φ := .f32) x) (E2 (φ := .f32) fun _ k => g k) = E2 (φ := .bf16) (normed x g) := by
  unfold out0_2
  refine (View.canon_cons_unit_lit _ _ _ (by decide)).trans ?_
  rw [View.ld_unit_lit _ _ (by decide), View.ld_unit_lit _ _ (by decide)]
  unfold k0_pay1
  exact normed_block (a := 512) (by decide) x g _ _ _ _ _ _ _ _

theorem arr2 (e0 : V m c main_arg0 = E2 (φ := .f32) x) (e1 : V m c main_v0 = E2 (φ := .f32) fun _ k => g k) :
    (dats m 0 c).arrAt 2 cfg0.N = E2 (φ := .bf16) (normed x g) := by
  refine (dats m 0 c).arrAt_eq_of_covers 2 _ (by decide +kernel) fun t hf y => ?_
  show (dats m 0 c).flushed 2 t y = _
  rw [Value.flushed2, iblk0 m c x e0, iblk1 m c g e1, out2]
  show normed (rows 512 t.val x) g (y 0).val (y 1).val = E2 (φ := .bf16) (normed x g) ((win0_2.rect t).emb y)
  unfold E2
  rw [win0_2.rect_emb_val t y 0, win0_2.rect_emb_val_of_index_zero t 1 (idx t).2.1.2 y, (idx t).2.1.1, Nat.mul_comm]
  rfl

open Cert.Reference39Ideal.Read

theorem ref13 : val_main_v13 (F := Ideal) (E2 (φ := .f32) x) (E1 (φ := .f32) g) = E2 (φ := .bf16) (normed x g) := by
  funext i
  have hs : ∀ r : Cert.Reference39Ideal.S8192.Idx, val_main_v1 (F := Ideal) (E2 (φ := .f32) x) r
      = ∑ k ∈ Finset.range 1024, x (r 0).val k * x (r 0).val k := fun r => by
    rw [val_main_v1_apply]
    show Ideal.ofBits .f32 0x00000000#32 + _ = _
    rw [Ideal.ofBits_zero_f32, zero_add]
    exact fin_range 1024 fun k => x (r 0).val k * x (r 0).val k
  rw [val_main_v13_apply, val_main_v12_apply, val_main_v9_apply, val_main_v8_apply, val_main_v7_apply, val_main_v6_apply,
    val_main_v4_apply, val_main_v2_apply, hs, val_main_v11_apply, val_main_v10_apply]
  rfl

/-- The call and the reference, run from the same arguments, end with the same array. -/
theorem algebraic : Cert.algebraic_Kernel39Ideal_Reference39Ideal
    (hKernel39Ideal := Cert.Kernel39Ideal.Gen.facts) (hReference39Ideal := Cert.Reference39Ideal.Gen.facts) := by
  intro m g m' g' hp ha
  refine ⟨fun c => (dats m 0 c).arrAt 2 cfg0.N, Cert.Kernel39Ideal.Value.run_blocks m g,
    (θ_run Cert.Reference39Ideal.defs _ _).mono (fun r hr c => ?_) (Cert.Reference39Ideal.Value.run m' g')⟩
  obtain ⟨r0, k⟩ := hr c
  obtain ⟨a0, a1⟩ := ha c
  obtain ⟨x, e0⟩ := exists_E2 (m ((c : Thread nD τ).loc main_arg0))
  obtain ⟨gn, e1⟩ := exists_E1 (m ((c : Thread nD τ).loc main_arg1))
  refine ⟨(r0.trans (val_main_v13_eq _ _)).trans ?_, k⟩
  rw [a0, a1, e0, e1]
  exact (ref13 x gn).trans (arr2 m c x gn ((V_main_arg0 m c).trans e0) (V_main_v0 m c gn e1)).symm

end Cert.NormFwd
end
-- ==== Proof.Mm.Loss.lean ====
module

public import proofs.«01_k».proof.Defs
public import proofs.«01_k».proof.Proof.Mm.NormBwd
public import proofs.«01_k».proof.Proof.Sgu.Finite
public import proofs.«01_k».proof.Proof.Sgu.Arrays
public import proofs.«01_k».proof.Proof.Gen.Kernel40Ideal.Value
public import proofs.«01_k».proof.Proof.Gen.Reference40Ideal.Run
public import proofs.«01_k».proof.Proof.Gen.Reference40Ideal.Read
public import proofs.«01_k».proof.Proof.Gen.Pre_finite_loss
public import Idealize.ShloMosaic.Lib.Pipeline.ValueKit
public import Idealize.ShloMosaic.Lib.Pipeline.ReadBack

/-! The loss of the scaled rows against their targets, and its gradients: the call's four result arrays are the
reference's. -/

@[expose] public section
set_option maxRecDepth 16384
noncomputable section
namespace Cert.Loss
open Cert.Kernel40Ideal Cert.Kernel40Ideal.Gen Cert.Lift Cert.NormBwd Idealize.ShloMosaic Idealize.ShloMosaic.TcCoe Idealize.SL.Sem
open scoped BigOperators

variable (m : (ℓ : Loc nD τ sig) → Buf (Elt Ideal) ℓ) (c : Dev nD)
variable (x : ℕ → ℕ → ℝ) (g : ℕ → ℝ) (y : ℕ → ℕ → ℝ)

/-- The error of an entry. -/
def err (r k : ℕ) : ℝ := scaled x r k * g k - y r k

/-- The gradient of the scaled rows times their gains. -/
def dz (r k : ℕ) : ℝ := err x g y r k * (1 / 1024)

/-- The gradient of the rows. -/
def grad : ℕ → ℕ → ℝ := dx (dz x g y) x g fun _ _ => 0

/-- What a row adds to a column's sum of squares. -/
def sq (r k : ℕ) : ℝ := err x g y r k * err x g y r k

theorem bits_rows : Ideal.ofBits .f32 0x3A800000#32 = ((1 / 1024 : ℝ) : EReal) := by
  simp [Ideal.ofBits, Ideal.ieee, -EReal.coe_mul]; norm_num
theorem bits_loss : Ideal.ofBits .f32 0x3A000000#32 = ((1 / 2048 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num

theorem idx (t : Fin cfg0.N) : (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0)) t

theorem iblk0 (h : V m c main_arg0 = L2 (φ := .f32) x) (t : Fin cfg0.N) : iblk m c 0 t = L2 (φ := .f32) (rows t.val x) := by
  funext j
  show V m c main_arg0 ((win0_0.rect t).emb j) = _
  rw [h]
  unfold L2 rows
  rw [win0_0.rect_emb_val t j 0, win0_0.rect_emb_val_of_index_zero t 1 (idx t).1.2 j, (idx t).1.1, Nat.mul_comm]
  rfl

theorem iblk1 (h : V m c main_v0 = L2 (φ := .f32) fun _ k => g k) (t : Fin cfg0.N) : iblk m c 1 t = L2 (φ := .f32) fun _ k => g k := by
  funext j
  show V m c main_v0 ((win0_1.rect t).emb j) = _
  rw [h]
  unfold L2
  rw [win0_1.rect_emb_val_of_index_zero t 1 rfl j]

theorem iblk2 (h : V m c main_arg2 = L2 (φ := .f32) y) (t : Fin cfg0.N) : iblk m c 2 t = L2 (φ := .f32) (rows t.val y) := by
  funext j
  show V m c main_arg2 ((win0_2.rect t).emb j) = _
  rw [h]
  unfold L2 rows
  rw [win0_2.rect_emb_val t j 0, win0_2.rect_emb_val_of_index_zero t 1 (idx t).2.1.2 j, (idx t).2.1.1, Nat.mul_comm]
  rfl

theorem V_main_v0 (h : m ((c : Thread nD τ).loc main_arg1) = Cert.SguRef.L1 (φ := .f32) g) : V m c main_v0 = L2 (φ := .f32) fun _ k => g k := by
  simp only [V, hostOps0, List.flatten_cons, List.flatten_nil, List.append_nil, List.cons_append, List.nil_append]
  after_results
  rw [show m (c, Proc.tc.devRef main_arg1) = Cert.SguRef.L1 (φ := .f32) g from h]
  funext i
  rfl

theorem pay7 : k0_pay7 (F := Ideal) (L2 (φ := .f32) fun _ k => g k) = L2 fun _ k => g k := shapeCast_L2 _ _

theorem pay8 : k0_pay8 (F := Ideal) (L2 (φ := .f32) x) = L2 fun r _ => q x r := q_block (a := 512) x _ _ _ _

theorem pay9 : k0_pay9 (F := Ideal) (L2 (φ := .f32) x) = L2 (scaled x) := by
  unfold k0_pay9
  rw [pay8]
  exact scaled_block (a := 512) x (by decide) _

theorem pay10 : k0_pay10 (F := Ideal) (L2 (φ := .f32) x) (L2 (φ := .f32) fun _ k => g k) (L2 (φ := .f32) y) = L2 (err x g y) := by
  unfold k0_pay10
  dsimp only
  rw [pay7, pay9, bcast_row_L2 _ (by decide), mulf_L2, subf_L2]
  rfl

/-- A block's columns' sums of squares, added to what is there. -/
theorem sq_block (f : ℕ → ℕ → ℝ) (s : ℕ → ℝ) (hr : S512x1024.Reduces [0] S1024) (hφ : FKind.Formats .f32)
    (hacc : 0x00000000#32 = FKind.add.neutral .f32 hφ) (hc : S1024.ShapeCasts S1x1024) :
    addf (L2 (fun _ k => s k) : FVec Ideal S1x1024 .f32) (shapeCast S1x1024 (multiReduction (F := Ideal) .add [0] S1024
        (mulf (L2 f : FVec Ideal S512x1024 .f32) (L2 f)) 0x00000000#32 hr hφ hacc) hc)
      = L2 fun _ k => s k + ∑ r ∈ Finset.range 512, f r k * f r k := by
  rw [mulf_L2, colsum_L2, addf_L2]

theorem pay11 (s : ℕ → ℝ) : k0_pay11 (F := Ideal) (L2 (φ := .f32) x) (L2 (φ := .f32) fun _ k => g k) (L2 (φ := .f32) y) (L2 (φ := .f32) fun _ k => s k)
    = L2 (φ := .f32) fun _ k => s k + ∑ r ∈ Finset.range 512, sq x g y r k := by
  unfold k0_pay11
  rw [pay10]
  refine (shapeCast_self _ _).trans ?_
  exact sq_block (err x g y) s _ _ _ _

theorem pay12 : k0_pay12 (F := Ideal) (L2 (φ := .f32) x) (L2 (φ := .f32) fun _ k => g k) (L2 (φ := .f32) y) = L2 (dz x g y) := by
  unfold k0_pay12
  dsimp only
  rw [pay10, show Scalar.ofBits (F := Ideal) .f32 0x3A800000#32 = _ from bits_rows, broadcast_L2 _ _ rfl, mulf_L2]
  rfl

theorem pay13 : k0_pay13 (F := Ideal) (L2 (φ := .f32) x) (L2 (φ := .f32) fun _ k => g k) (L2 (φ := .f32) y) = L2 fun r k => dz x g y r k * g k := by
  unfold k0_pay13
  dsimp only
  rw [pay7, pay12, bcast_row_L2 _ (by decide), mulf_L2]

/-- A row's mean of products, in every column. -/
theorem mean_block (f s : ℕ → ℕ → ℝ) (hr : S512x1024.Reduces [1] S512) (hφ : FKind.Formats .f32) (hacc : 0x00000000#32 = FKind.add.neutral .f32 hφ)
    (hc : S512.ShapeCasts S512x1) (hb : S512x1.Broadcasts S512x1024) :
    broadcastTo S512x1024 (divf (shapeCast S512x1 (multiReduction (F := Ideal) .add [1] S512 (mulf (L2 f : FVec Ideal S512x1024 .f32) (L2 s))
        0x00000000#32 hr hφ hacc) hc) (broadcast S512x1 (Scalar.ofBits (F := Ideal) .f32 0x44800000#32))) hb
      = L2 fun r _ => (∑ k ∈ Finset.range 1024, f r k * s r k) / 1024 := by
  rw [mulf_L2, rowsum_L2, show Scalar.ofBits (F := Ideal) .f32 0x44800000#32 = _ from Cert.SguRef.bits_1024, broadcast_L2 _ _ rfl,
    divf_L2 _ _ (by norm_num), bcast_col_L2 _ (by decide)]

theorem pay14 : k0_pay14 (F := Ideal) (L2 (φ := .f32) x) (L2 (φ := .f32) fun _ k => g k) (L2 (φ := .f32) y)
    = L2 fun r _ => (∑ k ∈ Finset.range 1024, dz x g y r k * g k * scaled x r k) / 1024 := by
  unfold k0_pay14
  rw [pay13, pay9]
  exact mean_block (fun r k => dz x g y r k * g k) (scaled x) _ _ _ _ _

theorem pay1 : k0_pay1 (F := Ideal) (k0_pay8 (L2 (φ := .f32) x)) (k0_pay9 (L2 (φ := .f32) x))
      (k0_pay13 (L2 (φ := .f32) x) (L2 (φ := .f32) fun _ k => g k) (L2 (φ := .f32) y))
      (k0_pay14 (L2 (φ := .f32) x) (L2 (φ := .f32) fun _ k => g k) (L2 (φ := .f32) y)) = L2 (grad x g y) := by
  unfold k0_pay1
  dsimp only
  rw [pay8, pay9, pay13, pay14, mulf_L2, subf_L2, bcast_col_L2 _ (by decide), mulf_L2]
  refine congrArg _ (funext fun r => funext fun k => ?_)
  unfold grad dx
  rw [zero_add]

theorem pay2 : k0_pay2 (F := Ideal) (k0_pay8 (L2 (φ := .f32) x)) (k0_pay9 (L2 (φ := .f32) x))
      (k0_pay13 (L2 (φ := .f32) x) (L2 (φ := .f32) fun _ k => g k) (L2 (φ := .f32) y))
      (k0_pay14 (L2 (φ := .f32) x) (L2 (φ := .f32) fun _ k => g k) (L2 (φ := .f32) y)) = L2 (φ := .bf16) (grad x g y) := by
  unfold k0_pay2
  rw [pay1]
  rfl

theorem pay3 (s : ℕ → ℝ) : k0_pay3 (F := Ideal) (k0_pay9 (L2 (φ := .f32) x))
      (k0_pay12 (L2 (φ := .f32) x) (L2 (φ := .f32) fun _ k => g k) (L2 (φ := .f32) y)) (L2 (φ := .f32) fun _ k => s k)
    = L2 (φ := .f32) fun _ k => s k + ∑ r ∈ Finset.range 512, dgAt (dz x g y) x r k := by
  rw [pay9, pay12]
  exact dg_block (a := 512) (dz x g y) x s _ _ _ _ _

/-- The sum of a row's entries, taken through an array of three axes. -/
theorem total (s : ℕ → ℝ) (hc : S1x1024.ShapeCasts S1x1x1024) (hr : S1x1x1024.Reduces [1, 2] S1) (hφ : FKind.Formats .f32)
    (hacc : 0x00000000#32 = FKind.add.neutral .f32 hφ) (j : S1.Idx) :
    multiReduction (F := Ideal) .add [1, 2] S1 (shapeCast S1x1x1024 (L2 (fun _ k => s k) : FVec Ideal S1x1024 .f32) hc) 0x00000000#32 hr hφ hacc j
      = ((∑ k ∈ Finset.range 1024, s k : ℝ) : EReal) := by
  rw [Ideal.multiReduction_add_total _ _ _ (by decide)]
  refine (Equiv.sum_comp (Shape.reshapeEquiv _) (L2 (φ := .f32) fun _ k => s k : FVec Ideal S1x1024 .f32)).trans ?_
  refine (ValueIdx.sum_idx2 (n0 := 1) (n1 := 1024) (L2 (φ := .f32) fun _ k => s k : FVec Ideal S1x1024 .f32)).trans ?_
  rw [coe_sum_range]
  exact Fin.sum_univ_one _

theorem pay4 (s : ℕ → ℝ) : k0_pay4 (F := Ideal) (L2 (φ := .f32) fun _ k => s k)
    = L2 (φ := .f32) fun _ _ => 1 / 2048 * ∑ k ∈ Finset.range 1024, s k := by
  unfold k0_pay4
  refine broadcast_L2 _ _ ?_
  refine (congrArg (fun z => Ideal.ofBits .f32 0x3A000000#32 * z) (total s shapeCasts_S1x1024_S1x1x1024 reduces_S1x1x1024_S1 (.inl rfl) rfl _)).trans ?_
  show Ideal.ofBits .f32 0x3A000000#32 * _ = _
  rw [bits_loss, EReal.coe_mul]

theorem pay5 : k0_pay5 (F := Ideal) = L2 (φ := .f32) fun _ _ => 0 := broadcast_L2 _ _ Cert.SguRef.bits_zero

theorem pay6 : k0_pay6 (F := Ideal) = L2 (φ := .f32) fun _ _ => 0 := by
  unfold k0_pay6
  exact (shapeCast_self _ _).trans (broadcast_L2 _ _ Cert.SguRef.bits_zero)

section Run
variable (h0 : V m c main_arg0 = L2 (φ := .f32) x) (h1 : V m c main_v0 = L2 (φ := .f32) fun _ k => g k)
  (h2 : V m c main_arg2 = L2 (φ := .f32) y)
include h0 h1 h2

/-- What a point writes of the rows' gradient, in both formats. -/
theorem point (t : Fin cfg0.N) : (outsAt0 m c t.val t.isLt).2.1 = L2 (φ := .f32) (rows t.val (grad x g y))
    ∧ (outsAt0 m c t.val t.isLt).2.2.1 = L2 (φ := .bf16) (rows t.val (grad x g y)) := by
  have e1 := pay1 (rows t.val x) g (rows t.val y)
  have e2 := pay2 (rows t.val x) g (rows t.val y)
  rw [← iblk0 m c x h0 t, ← iblk1 m c g h1 t, ← iblk2 m c y h2 t] at e1 e2
  by_cases z : t.val % 16 = 0
  · rw [outsAt0_A m c t z (by omega)]
    exact ⟨by frame_out; exact e1, by frame_out; exact e2⟩
  · by_cases z' : t.val % 16 = 15
    · rw [outsAt0_C m c t z z']
      exact ⟨by frame_out; exact e1, by frame_out; exact e2⟩
    · rw [outsAt0_B m c t z z']
      exact ⟨by frame_out; exact e1, by frame_out; exact e2⟩

/-- The gradient of the gains, and the columns' sums of squares, after point `i`. -/
theorem acc : ∀ (i : ℕ) (h : i < cfg0.N), (outsAt0 m c i h).2.2.2.1
      = (L2 (φ := .f32) fun _ k => ∑ s ∈ Finset.range (i + 1), ∑ r ∈ Finset.range 512, dgAt (dz x g y) x (512 * s + r) k)
    ∧ (outsAt0 m c i h).2.2.2.2
      = (L2 (φ := .f32) fun _ k => ∑ s ∈ Finset.range (i + 1), ∑ r ∈ Finset.range 512, sq x g y (512 * s + r) k)
  | 0, h => by
    rw [outsAt0_A m c ⟨0, h⟩ rfl (by show ¬ 0 % 16 = 15; decide)]
    constructor
    · frame_out
      rw [iblk0 m c x h0, iblk1 m c g h1, iblk2 m c y h2, pay5, pay3]
      simp only [zero_add, Finset.sum_range_one]
      rfl
    · frame_out
      rw [iblk0 m c x h0, iblk1 m c g h1, iblk2 m c y h2, pay6, pay11]
      simp only [zero_add, Finset.sum_range_one]
      rfl
  | i + 1, h => by
    have hN : cfg0.N = 16 := N_0
    obtain ⟨a1, a2⟩ := acc i (Nat.lt_of_succ_lt h)
    have b1 : k0_pay3 (F := Ideal) (k0_pay9 (iblk m c 0 ⟨i + 1, h⟩)) (k0_pay12 (iblk m c 0 ⟨i + 1, h⟩) (iblk m c 1 ⟨i + 1, h⟩) (iblk m c 2 ⟨i + 1, h⟩))
        (outsAt0 m c i (Nat.lt_of_succ_lt h)).2.2.2.1
        = L2 (φ := .f32) fun _ k => ∑ s ∈ Finset.range (i + 1 + 1), ∑ r ∈ Finset.range 512, dgAt (dz x g y) x (512 * s + r) k := by
      rw [a1, iblk0 m c x h0, iblk1 m c g h1, iblk2 m c y h2, pay3]
      exact congrArg _ (funext fun r => funext fun k => (Finset.sum_range_succ _ (i + 1)).symm)
    have b2 : k0_pay11 (F := Ideal) (iblk m c 0 ⟨i + 1, h⟩) (iblk m c 1 ⟨i + 1, h⟩) (iblk m c 2 ⟨i + 1, h⟩)
        (outsAt0 m c i (Nat.lt_of_succ_lt h)).2.2.2.2
        = L2 (φ := .f32) fun _ k => ∑ s ∈ Finset.range (i + 1 + 1), ∑ r ∈ Finset.range 512, sq x g y (512 * s + r) k := by
      rw [a2, iblk0 m c x h0, iblk1 m c g h1, iblk2 m c y h2, pay11]
      exact congrArg _ (funext fun r => funext fun k => (Finset.sum_range_succ _ (i + 1)).symm)
    by_cases z : (i + 1) % 16 = 15
    · rw [outsAt0_C m c ⟨i + 1, h⟩ (by dsimp only; omega) z]
      exact ⟨by frame_out; exact b1, by frame_out; rw [read_unread_whole]; exact b2⟩
    · rw [outsAt0_B m c ⟨i + 1, h⟩ (by dsimp only; omega) z]
      exact ⟨by frame_out; exact b1, by frame_out; rw [read_unread_whole]; exact b2⟩

omit h0 h1 h2 in
/-- What the last point writes of the loss, from the columns' sums of squares before it. -/
theorem loss_step (i : ℕ) (h : i + 1 < cfg0.N) (z : (i + 1) % 16 = 15) : (outsAt0 m c (i + 1) h).1
    = k0_pay4 (F := Ideal) (k0_pay11 (iblk m c 0 ⟨i + 1, h⟩) (iblk m c 1 ⟨i + 1, h⟩) (iblk m c 2 ⟨i + 1, h⟩)
        (outsAt0 m c i (Nat.lt_of_succ_lt h)).2.2.2.2) := by
  rw [outsAt0_C m c ⟨i + 1, h⟩ (by dsimp only; omega) z]
  frame_out
  rw [read_unread_whole]
  rfl

/-- The loss. -/
theorem loss (h : 15 < cfg0.N) : (outsAt0 m c 15 h).1
    = L2 (φ := .f32) fun _ _ => 1 / 2048 * ∑ k ∈ Finset.range 1024, ∑ r ∈ Finset.range 8192, sq x g y r k := by
  rw [loss_step m c 14 h rfl, (acc m c x g y h0 h1 h2 14 (Nat.lt_of_succ_lt h)).2, iblk0 m c x h0, iblk1 m c g h1, iblk2 m c y h2, pay11, pay4]
  refine congrArg _ (funext fun _ => funext fun _ => congrArg _ (Finset.sum_congr rfl fun k _ => ?_))
  refine Eq.trans ?_ (Cert.Sgu.sum_blocks 512 (fun r => sq x g y r k) 16)
  exact (Finset.sum_range_succ (fun s => ∑ r ∈ Finset.range 512, sq x g y (512 * s + r) k) 15).symm

end Run

theorem last_lt : 15 < cfg0.N := by rw [show cfg0.N = 16 from N_0]; decide

theorem point_lt (i : ℕ) (h : i < 8192) : i / 512 < cfg0.N := by
  have hN : cfg0.N = 16 := N_0
  omega

theorem cover4 (i : S8192x1024.Idx) : ∃ t : Fin cfg0.N, (cfg0.win 4).flush t = true ∧ i ∈ ((cfg0.win 4).blk t).view.set := by
  have hi1 : (i 1 : Nat) < 1024 := (i 1).isLt
  refine ⟨⟨(i 0 : Nat) / 512, point_lt _ (i 0).isLt⟩, flush0_4 _, ?_⟩
  refine (View.set_slice_whole main_v1_1 (win0_4.rect ⟨(i 0 : Nat) / 512, point_lt _ (i 0).isLt⟩)) ▸ ?_
  rw [Rect.mem_set_unit]
  intro a
  match a with
  | ⟨0, _⟩ =>
    show win0_4.index _ 0 * 512 ≤ (i 0 : Nat) ∧ (i 0 : Nat) < win0_4.index _ 0 * 512 + 512
    rw [(idx _).2.2.1.1]; dsimp only; omega
  | ⟨1, _⟩ =>
    show win0_4.index _ 1 * 1024 ≤ (i 1 : Nat) ∧ (i 1 : Nat) < win0_4.index _ 1 * 1024 + 1024
    rw [(idx _).2.2.1.2]; omega

theorem cover5 (i : S8192x1024.Idx) : ∃ t : Fin cfg0.N, (cfg0.win 5).flush t = true ∧ i ∈ ((cfg0.win 5).blk t).view.set := by
  have hi1 : (i 1 : Nat) < 1024 := (i 1).isLt
  refine ⟨⟨(i 0 : Nat) / 512, point_lt _ (i 0).isLt⟩, flush0_5 _, ?_⟩
  refine (View.set_slice_whole main_v1_2 (win0_5.rect ⟨(i 0 : Nat) / 512, point_lt _ (i 0).isLt⟩)) ▸ ?_
  rw [Rect.mem_set_unit]
  intro a
  match a with
  | ⟨0, _⟩ =>
    show win0_5.index _ 0 * 512 ≤ (i 0 : Nat) ∧ (i 0 : Nat) < win0_5.index _ 0 * 512 + 512
    rw [(idx _).2.2.2.1]; dsimp only; omega
  | ⟨1, _⟩ =>
    show win0_5.index _ 1 * 1024 ≤ (i 1 : Nat) ∧ (i 1 : Nat) < win0_5.index _ 1 * 1024 + 1024
    rw [(idx _).2.2.2.2]; omega

/-- The loss's one block is its whole array. -/
theorem cut3 (X : Vec Ideal S1x128 .f32) (t : Fin cfg0.N) :
    (cfg0.win 3).cut (grid0.coords t) X = ((cfg0.win 3).blk t).view.read (Elt Ideal) X := by
  funext j
  show X j = X ((win0_3.rect t).emb j)
  refine congrArg X (funext fun a => Fin.ext ?_)
  exact (win0_3.rect_emb_val_of_index_zero t a (by fin_cases a <;> rfl) j).symm

theorem cover3 (i : S1x128.Idx) : ∃ t : Fin cfg0.N, (cfg0.win 3).flush t = true ∧ i ∈ ((cfg0.win 3).blk t).view.set := by
  refine ⟨⟨15, last_lt⟩, (flush0_3 _).mpr rfl, ?_⟩
  refine (View.set_slice_whole main_v1_0 (win0_3.rect ⟨15, last_lt⟩)) ▸ ?_
  rw [Rect.mem_set_unit]
  intro a
  match a with
  | ⟨0, _⟩ => exact ⟨Nat.zero_le _, (i 0).isLt⟩
  | ⟨1, _⟩ => exact ⟨Nat.zero_le _, (i 1).isLt⟩

/-- The gains' gradient's one block is its whole array. -/
theorem cut6 (X : Vec Ideal S1x1024 .f32) (t : Fin cfg0.N) :
    (cfg0.win 6).cut (grid0.coords t) X = ((cfg0.win 6).blk t).view.read (Elt Ideal) X := by
  funext j
  show X j = X ((win0_6.rect t).emb j)
  refine congrArg X (funext fun a => Fin.ext ?_)
  exact (win0_6.rect_emb_val_of_index_zero t a (by fin_cases a <;> rfl) j).symm

theorem cover6 (i : S1x1024.Idx) : ∃ t : Fin cfg0.N, (cfg0.win 6).flush t = true ∧ i ∈ ((cfg0.win 6).blk t).view.set := by
  refine ⟨⟨15, last_lt⟩, (flush0_6 _).mpr rfl, ?_⟩
  refine (View.set_slice_whole main_v1_3 (win0_6.rect ⟨15, last_lt⟩)) ▸ ?_
  rw [Rect.mem_set_unit]
  intro a
  match a with
  | ⟨0, _⟩ => exact ⟨Nat.zero_le _, (i 0).isLt⟩
  | ⟨1, _⟩ => exact ⟨Nat.zero_le _, (i 1).isLt⟩

section Arrays
variable (h0 : V m c main_arg0 = L2 (φ := .f32) x) (h1 : V m c main_v0 = L2 (φ := .f32) fun _ k => g k)
  (h2 : V m c main_arg2 = L2 (φ := .f32) y)
include h0 h1 h2

theorem arr3 : (dats m 0 c).arrAt 3 cfg0.N
    = L2 (φ := .f32) fun _ _ => 1 / 2048 * ∑ k ∈ Finset.range 1024, ∑ r ∈ Finset.range 8192, sq x g y r k := by
  have e := loss m c x g y h0 h1 h2 last_lt
  refine (dats m 0 c).arrAt_eq_of_cover 3 _ (fun t hf => ?_) cover3
  have hN : cfg0.N = 16 := N_0
  obtain rfl : t = ⟨15, last_lt⟩ := Fin.ext (by have := (flush0_3 t).mp hf; have := t.isLt; dsimp only; omega)
  rw [Value.flushed3, e]
  exact cut3 _ _

theorem arr4 : (dats m 0 c).arrAt 4 cfg0.N = L2 (φ := .f32) (grad x g y) := by
  funext i
  refine (dats m 0 c).arrAt_forall_of_cover 4 (fun i v => v = L2 (φ := .f32) (grad x g y) i) (fun t _ j => ?_) cover4 i
  rw [Value.flushed4, (point m c x g y h0 h1 h2 t).1]
  show ((rows t.val (grad x g y) (j 0).val (j 1).val : ℝ) : EReal) = L2 (φ := .f32) (grad x g y) ((win0_4.rect t).emb j)
  unfold L2 rows
  rw [win0_4.rect_emb_val t j 0, win0_4.rect_emb_val_of_index_zero t 1 (idx t).2.2.1.2 j, (idx t).2.2.1.1, Nat.mul_comm]
  rfl

theorem arr5 : (dats m 0 c).arrAt 5 cfg0.N = L2 (φ := .bf16) (grad x g y) := by
  funext i
  refine (dats m 0 c).arrAt_forall_of_cover 5 (fun i v => v = L2 (φ := .bf16) (grad x g y) i) (fun t _ j => ?_) cover5 i
  rw [Value.flushed5, (point m c x g y h0 h1 h2 t).2]
  show ((rows t.val (grad x g y) (j 0).val (j 1).val : ℝ) : EReal) = L2 (φ := .bf16) (grad x g y) ((win0_5.rect t).emb j)
  unfold L2 rows
  rw [win0_5.rect_emb_val t j 0, win0_5.rect_emb_val_of_index_zero t 1 (idx t).2.2.2.2 j, (idx t).2.2.2.1, Nat.mul_comm]
  rfl

theorem arr6 : (dats m 0 c).arrAt 6 cfg0.N = L2 (φ := .f32) fun _ k => ∑ r ∈ Finset.range 8192, dgAt (dz x g y) x r k := by
  have e := (acc m c x g y h0 h1 h2 15 last_lt).1
  have e' : (fun (_ k : ℕ) => ∑ s ∈ Finset.range (15 + 1), ∑ r ∈ Finset.range 512, dgAt (dz x g y) x (512 * s + r) k)
      = fun _ k => ∑ r ∈ Finset.range 8192, dgAt (dz x g y) x r k :=
    funext fun _ => funext fun k => Cert.Sgu.sum_blocks 512 (fun r => dgAt (dz x g y) x r k) 16
  rw [e'] at e
  refine (dats m 0 c).arrAt_eq_of_cover 6 _ (fun t hf => ?_) cover6
  have hN : cfg0.N = 16 := N_0
  obtain rfl : t = ⟨15, last_lt⟩ := Fin.ext (by have := (flush0_6 t).mp hf; have := t.isLt; dsimp only; omega)
  rw [Value.flushed6, e]
  exact cut6 _ _

end Arrays

/-! The reference. -/

open Cert.Reference40Ideal.Read
open Cert.SguRef (L1 fm fa fs fd fr bits_zero bits_one bits_half bits_1024 bits_eps bits_neg_half)

theorem s6 (i : Cert.Reference40Ideal.S8192x1.Idx) : val_main_v6 (F := Ideal) (L2 (φ := .f32) x) i = ((mean x (i 0).val : ℝ) : EReal) := by
  simp only [val_main_v6_apply, val_main_v5_apply, val_main_v4_apply, val_main_v3_apply, val_main_v2_apply, val_main_v1_apply, val_main_v0_apply, L2,
    val_main_cst_apply, val_main_cst_0_apply, val_main_cst_1_apply, Ideal.ofBits_def, bits_zero, bits_1024, bits_eps, fm]
  rw [← coe_sum_range 1024 fun k => x (i 0).val k * x (i 0).val k, ← EReal.coe_add, fd _ _ (by norm_num), fa, zero_add]
  rfl

theorem s7 (i : Cert.Reference40Ideal.S8192x1.Idx) : val_main_v7 (F := Ideal) (L2 (φ := .f32) x) i = ((q x (i 0).val : ℝ) : EReal) := by
  rw [val_main_v7_apply, s6, fr _ (mean_pos x _)]
  rfl

theorem s10 (i : Cert.Reference40Ideal.S8192x1.Idx) : val_main_v10 (F := Ideal) (L2 (φ := .f32) x) i
    = ((-(1 / 2) * (q x (i 0).val / mean x (i 0).val) : ℝ) : EReal) := by
  rw [val_main_v10_apply, val_main_v9_apply, val_main_v8_apply, val_main_cst_2_apply, s7, s6, Ideal.ofBits_def, bits_neg_half,
    fd _ _ (mean_pos x _).ne', fm]

theorem s12 (i : Cert.Reference40Ideal.S8192x1024.Idx) : val_main_v12 (F := Ideal) (L2 (φ := .f32) x) i = ((scaled x (i 0).val (i 1).val : ℝ) : EReal) := by
  rw [val_main_v12_apply, val_main_v11_apply, s7]
  exact fm _ _

theorem s16 (i : Cert.Reference40Ideal.S8192x1024.Idx) : val_main_v16 (F := Ideal) (L2 (φ := .f32) x) (L1 (φ := .f32) g) (L2 (φ := .f32) y) i
    = ((err x g y (i 0).val (i 1).val : ℝ) : EReal) := by
  rw [val_main_v16_apply, val_main_v15_apply, val_main_v14_apply, val_main_v13_apply, s12]
  exact (congrArg (fun p => FloatOps.subf (F := Ideal) (φ := .f32) p _) (fm _ _)).trans (fs _ _)

theorem s24 (i : Cert.Reference40Ideal.S_.Idx) : val_main_v24 (F := Ideal) (L2 (φ := .f32) x) (L1 (φ := .f32) g) (L2 (φ := .f32) y) i
    = ((1 / 2048 * ∑ k ∈ Finset.range 1024, ∑ r ∈ Finset.range 8192, sq x g y r k : ℝ) : EReal) := by
  have h22 : ∀ j : Cert.Reference40Ideal.S8192.Idx, val_main_v22 (F := Ideal) (L2 (φ := .f32) x) (L1 (φ := .f32) g) (L2 (φ := .f32) y) j
      = (((∑ k ∈ Finset.range 1024, sq x g y (j 0).val k) / 1024 : ℝ) : EReal) := fun j => by
    simp only [val_main_v22_apply, val_main_v21_apply, val_main_v20_apply, val_main_v17_apply, val_main_cst_4_apply, val_main_cst_5_apply, s16,
      Ideal.ofBits_def, bits_1024, Ideal.ofBits_zero_f32, zero_add, fm]
    rw [show (∑ k : Fin 1024, ((err x g y (j 0).val k.val * err x g y (j 0).val k.val : ℝ) : EReal)) = _ from
      (coe_sum_range 1024 fun k => sq x g y (j 0).val k).symm, fd _ _ (by norm_num)]
  have hs : (∑ j : Cert.Reference40Ideal.S8192.Idx, (((∑ k ∈ Finset.range 1024, sq x g y (j 0).val k) / 1024 : ℝ) : EReal))
      = ((∑ r ∈ Finset.range 8192, (∑ k ∈ Finset.range 1024, sq x g y r k) / 1024 : ℝ) : EReal) :=
    (sum_idx1 (n0 := 8192) fun j : Cert.Reference40Ideal.S8192.Idx => (((∑ k ∈ Finset.range 1024, sq x g y (j 0).val k) / 1024 : ℝ) : EReal)).trans
      (coe_sum_range 8192 fun r => (∑ k ∈ Finset.range 1024, sq x g y r k) / 1024).symm
  rw [val_main_v24_apply, val_main_v23_apply, Finset.sum_congr rfl fun j _ => h22 j, hs, val_main_cst_6_apply, val_main_cst_7_apply, Ideal.ofBits_def,
    Ideal.ofBits_def, Ideal.ofBits_zero_f32, zero_add, bits_half, fm, Finset.sum_comm, ← Finset.sum_div]
  refine congrArg _ ?_
  ring

theorem s30 (i : Cert.Reference40Ideal.S8192x1024.Idx) : val_main_v30 (F := Ideal) (L2 (φ := .f32) x) (L1 (φ := .f32) g) (L2 (φ := .f32) y) i
    = ((dz x g y (i 0).val (i 1).val : ℝ) : EReal) := by
  rw [val_main_v30_apply, val_main_v29_apply, val_main_v28_apply, val_main_v27_apply, val_main_v26_apply, val_main_v25_apply, val_main_v19_apply,
    val_main_v18_apply, val_main_cst_3_apply, val_main_cst_8_apply, val_main_cst_9_apply, val_main_cst_10_apply, s16]
  simp only [Ideal.ofBits_def]
  rw [bits_two, bits_half, bits_one, bits_1024, fm, fm, fd _ _ (by norm_num), fm]
  refine congrArg _ ?_
  unfold dz
  ring

theorem s35 (i : Cert.Reference40Ideal.S8192x1024.Idx) : val_main_v35 (F := Ideal) (L2 (φ := .f32) x) (L1 (φ := .f32) g) (L2 (φ := .f32) y) i
    = ((dz x g y (i 0).val (i 1).val * g (i 1).val : ℝ) : EReal) := by
  rw [val_main_v35_apply, s30, val_main_v34_apply, val_main_v13_apply]
  exact fm _ _

theorem s38 (i : Cert.Reference40Ideal.S8192.Idx) : val_main_v38 (F := Ideal) (L2 (φ := .f32) x) (L1 (φ := .f32) g) (L2 (φ := .f32) y) i
    = ((∑ k ∈ Finset.range 1024, x (i 0).val k * (dz x g y (i 0).val k * g k) : ℝ) : EReal) := by
  rw [val_main_v38_apply, val_main_cst_13_apply, Ideal.ofBits_def, Ideal.ofBits_zero_f32, zero_add, coe_sum_range]
  refine Finset.sum_congr rfl fun k _ => ?_
  rw [val_main_v37_apply, s35]
  exact fm _ _

theorem s44 (i : Cert.Reference40Ideal.S8192x1.Idx) : val_main_v44 (F := Ideal) (L2 (φ := .f32) x) (L1 (φ := .f32) g) (L2 (φ := .f32) y) i
    = (((∑ k ∈ Finset.range 1024, x (i 0).val k * (dz x g y (i 0).val k * g k)) * (-(1 / 2) * (q x (i 0).val / mean x (i 0).val)) / 1024 : ℝ) : EReal) := by
  have hi : (idx_main_v39 i 0).val = (i 0).val := by
    have h1 : (i 1).val < 1 := (i 1).isLt
    show (i 0).val * 1 + (i 1).val = (i 0).val
    omega
  rw [val_main_v44_apply, val_main_v43_apply, val_main_v42_apply, val_main_v39_apply, s38, s10, val_main_cst_14_apply, Ideal.ofBits_def, bits_1024, hi, fm,
    fd _ _ (by norm_num)]

theorem s45 (i : Cert.Reference40Ideal.S8192.Idx) : val_main_v45 (F := Ideal) (L2 (φ := .f32) x) (L1 (φ := .f32) g) (L2 (φ := .f32) y) i
    = (((∑ k ∈ Finset.range 1024, x (i 0).val k * (dz x g y (i 0).val k * g k)) * (-(1 / 2) * (q x (i 0).val / mean x (i 0).val)) / 1024 : ℝ) : EReal) := by
  rw [val_main_v45_apply, Finset.univ_unique, Finset.sum_singleton, val_main_cst_15_apply, Ideal.ofBits_def, Ideal.ofBits_zero_f32, zero_add, s44]

theorem s50 : val_main_v50 (F := Ideal) (L2 (φ := .f32) x) (L1 (φ := .f32) g) (L2 (φ := .f32) y) = L2 (φ := .f32) (grad x g y) := by
  funext i
  rw [val_main_v50_apply, val_main_v49_apply, val_main_v48_apply, val_main_v47_apply, val_main_v46_apply, s45, val_main_v41_apply, val_main_v40_apply,
    s35, s7]
  show _ = ((dx (dz x g y) x g (fun _ _ => 0) (i 0).val (i 1).val : ℝ) : EReal)
  rw [← dx_chain, zero_add, ← fa, ← fa, ← fm, ← fm, ← fm]
  rfl

theorem s51 : val_main_v51 (F := Ideal) (L2 (φ := .f32) x) (L1 (φ := .f32) g) (L2 (φ := .f32) y)
    = L2 (φ := .f32) fun _ _ => 1 / 2048 * ∑ k ∈ Finset.range 1024, ∑ r ∈ Finset.range 8192, sq x g y r k := by
  funext i
  rw [val_main_v51_apply, s24]
  rfl

theorem s52 : val_main_v52 (F := Ideal) (L2 (φ := .f32) x) (L1 (φ := .f32) g) (L2 (φ := .f32) y) = L2 (φ := .bf16) (grad x g y) := by
  unfold val_main_v52
  rw [s50]
  rfl

theorem s53 : val_main_v53 (F := Ideal) (L2 (φ := .f32) x) (L1 (φ := .f32) g) (L2 (φ := .f32) y)
    = L2 (φ := .f32) fun _ k => ∑ r ∈ Finset.range 8192, dgAt (dz x g y) x r k := by
  funext i
  have hx : ∀ (r : Fin 8192) (k : Fin 1024), val_main_v31 (F := Ideal) (L2 (φ := .f32) x) (L1 (φ := .f32) g) (L2 (φ := .f32) y) (ValueIdx.ix2 r k)
      = ((dgAt (dz x g y) x r.val k.val : ℝ) : EReal) := fun r k => by
    rw [val_main_v31_apply, s12, s30]
    unfold dgAt
    rw [mul_comm (dz x g y r.val k.val), ← fm]
  have hsum := coe_sum_range 8192 fun r => dgAt (dz x g y) x r (i 1).val
  simp only [val_main_v53_apply, val_main_v36_apply, val_main_v33_apply, val_main_v32_apply, Finset.univ_unique, Finset.sum_singleton,
    val_main_cst_11_apply, val_main_cst_12_apply, Ideal.ofBits_def, Ideal.ofBits_zero_f32, zero_add]
  refine Eq.trans (Finset.sum_congr rfl fun r _ => ?_) hsum.symm
  refine Eq.trans (congrArg _ ?_) (hx r (i 1))
  funext a
  match a with
  | ⟨0, _⟩ => rfl
  | ⟨1, _⟩ =>
    refine Fin.ext ?_
    show 0 * 1024 + (i 1).val = (i 1).val
    omega

/-- When the arguments' entries are reals, each result array of the call is the reference's at the same arguments. -/
theorem values [hF : Cert.Pre_finite_loss.Facts] (h : Cert.Pre_Kernel40Ideal_finite_loss m) :
    (dats m 0 c).arrAt 3 cfg0.N = val_main_v51 (F := Ideal) (m ((c : Thread nD τ).loc main_arg0)) (m ((c : Thread nD τ).loc main_arg1)) (m ((c : Thread nD τ).loc main_arg2))
    ∧ (dats m 0 c).arrAt 4 cfg0.N = val_main_v50 (F := Ideal) (m ((c : Thread nD τ).loc main_arg0)) (m ((c : Thread nD τ).loc main_arg1)) (m ((c : Thread nD τ).loc main_arg2))
    ∧ (dats m 0 c).arrAt 5 cfg0.N = val_main_v52 (F := Ideal) (m ((c : Thread nD τ).loc main_arg0)) (m ((c : Thread nD τ).loc main_arg1)) (m ((c : Thread nD τ).loc main_arg2))
    ∧ (dats m 0 c).arrAt 6 cfg0.N = val_main_v53 (F := Ideal) (m ((c : Thread nD τ).loc main_arg0)) (m ((c : Thread nD τ).loc main_arg1)) (m ((c : Thread nD τ).loc main_arg2)) := by
  have hs : Subsingleton (Cert.Pre_finite_loss.S_).Idx := ⟨fun a b => funext fun k => k.elim0⟩
  obtain ⟨t0, t1, t2⟩ := h c
  simp only [Cert.Pre_finite_loss.fn] at t0 t1 t2
  obtain ⟨x, e0⟩ := Cert.Finite.exists_L2 (m ((c : Thread nD τ).loc main_arg0)) (Cert.Finite.real_of_test hs _ _ _ _ _ t0)
  obtain ⟨g, e1⟩ := Cert.Finite.exists_L1 (m ((c : Thread nD τ).loc main_arg1)) (Cert.Finite.real_of_test hs _ _ _ _ _ t1)
  obtain ⟨y, e2⟩ := Cert.Finite.exists_L2 (m ((c : Thread nD τ).loc main_arg2)) (Cert.Finite.real_of_test hs _ _ _ _ _ t2)
  replace e1 : m ((c : Thread nD τ).loc main_arg1) = L1 (φ := .f32) g := e1
  have h0 := (V_main_arg0 m c).trans e0
  have h1 := V_main_v0 m c g e1
  have h2 := (V_main_arg2 m c).trans e2
  rw [e0, e1, e2]
  exact ⟨(arr3 m c x g y h0 h1 h2).trans (s51 x g y).symm, (arr4 m c x g y h0 h1 h2).trans (s50 x g y).symm,
    (arr5 m c x g y h0 h1 h2).trans (s52 x g y).symm, (arr6 m c x g y h0 h1 h2).trans (s53 x g y).symm⟩

/-- The call and the reference, run from arguments whose entries are finite, end with the same four arrays. -/
theorem algebraic : Cert.algebraic_Kernel40Ideal_Reference40Ideal_pre_finite_loss
    (hKernel40Ideal := Cert.Kernel40Ideal.Gen.facts) (hReference40Ideal := Cert.Reference40Ideal.Gen.facts) (hPre_finite_loss := Cert.Pre_finite_loss.Gen.facts) := by
  intro m g m' g' hp ha
  refine ⟨fun c => (dats m 0 c).arrAt 3 cfg0.N, fun c => (dats m 0 c).arrAt 4 cfg0.N, fun c => (dats m 0 c).arrAt 5 cfg0.N,
    fun c => (dats m 0 c).arrAt 6 cfg0.N, Cert.Kernel40Ideal.Value.run_blocks m g,
    (θ_run Cert.Reference40Ideal.defs _ _).mono (fun r h c => ?_) (Cert.Reference40Ideal.Value.run m' g')⟩
  obtain ⟨r0, r1, r2, r3, k⟩ := h c
  obtain ⟨a0, a1, a2⟩ := ha c
  obtain ⟨v0, v1, v2, v3⟩ := values (hF := Cert.Pre_finite_loss.Gen.facts) m c hp
  refine ⟨?_, ?_, ?_, ?_, k⟩
  · refine (r0.trans (Cert.Reference40Ideal.Read.val_main_v51_eq _ _ _)).trans ?_
    rw [a0, a1, a2]
    exact v0.symm
  · refine (r1.trans (Cert.Reference40Ideal.Read.val_main_v50_eq _ _)).trans ?_
    rw [a0, a1, a2]
    exact v1.symm
  · refine (r2.trans (Cert.Reference40Ideal.Read.val_main_v52_eq _ _)).trans ?_
    rw [a0, a1, a2]
    exact v2.symm
  · refine (r3.trans (Cert.Reference40Ideal.Read.val_main_v53_eq _ _ _)).trans ?_
    rw [a0, a1, a2]
    exact v3.symm

end Cert.Loss
end
-- ==== Proof.Mm.Shift.lean ====
module

public import proofs.«01_k».proof.Proof.Mm.Ext
public import proofs.«01_k».proof.Proof.Sgu.Pieces

/-! Rectangles read out of an array given by a function of the coordinates, and a buffer stored in two pieces, one
above the other, read back from a row on. -/

@[expose] public section

noncomputable section

namespace Cert.Ext

open Idealize.ShloMosaic Idealize.ShloMosaic.ValueIdx Cert.Lift

variable {a b h w : ℕ}

/-- A rectangle of an array. -/
theorem ld_E2 {o0 o1 : ℕ} (f : ℕ → ℕ → EReal) (inb : ∀ i, ![o0, o1] i + ![h, w] i ≤ (⟨2, ![a, b]⟩ : Shape).size i) :
    View.ld (S := ⟨2, ![a, b]⟩) (Val := Elt Ideal) (e' := .f32) (E2 f : FVec Ideal ⟨2, ![a, b]⟩ .f32) (Rect.unit ![o0, o1] ![h, w] inb)
      = (E2 fun r c => f (o0 + r) (o1 + c) : FVec Ideal ⟨2, ![h, w]⟩ .f32) := by
  funext j
  show f (o0 + 1 * (j 0).val) (o1 + 1 * (j 1).val) = f (o0 + (j 0).val) (o1 + (j 1).val)
  rw [Nat.one_mul, Nat.one_mul]

/-- Rows `f` above rows `g`, the first of `g` at row `n`. -/
def stack (n : ℕ) (f g : ℕ → ℕ → EReal) : ℕ → ℕ → EReal := fun r c => if r < n then f r c else g (r - n) c

/-- A buffer stored in two pieces, `f` in its first `n` rows and `g` below, read from row `o` on. -/
theorem readCov_stack {sig : RefSig} {κ : Kind} {sp : Space} {n k o : ℕ} (v : View sig κ sp ⟨2, ![a, w]⟩ .f32) (f g : ℕ → ℕ → EReal)
    (hk : n + k = a) (ig : ∀ i, ![n, 0] i + ![k, w] i ≤ (⟨2, ![a, w]⟩ : Shape).size i)
    (jf : ∀ i, ![0, 0] i + ![n, w] i ≤ (⟨2, ![a, w]⟩ : Shape).size i)
    (inb : ∀ i, ![o, 0] i + ![h, w] i ≤ (⟨2, ![a, w]⟩ : Shape).size i) :
    v.readCov [(⟨Rect.unit ![n, 0] ![k, w] ig, (E2 g : FVec Ideal ⟨2, ![k, w]⟩ .f32)⟩ : View.Piece (Elt Ideal) ⟨2, ![a, w]⟩ .f32),
        ⟨Rect.unit ![0, 0] ![n, w] jf, (E2 f : FVec Ideal ⟨2, ![n, w]⟩ .f32)⟩] (Rect.unit ![o, 0] ![h, w] inb).toLoadRect
      = (E2 fun r c => stack n f g (o + r) c : FVec Ideal ⟨2, ![h, w]⟩ .f32) := by
  rw [View.readCov_eq_canon']
  refine (congrArg (fun G => View.ld (S := ⟨2, ![a, w]⟩) (Val := Elt Ideal) (e' := .f32) G (Rect.unit ![o, 0] ![h, w] inb)) (canon_of_agrees
    (S := ⟨2, ![a, w]⟩) (e := .f32) (G := (E2 (stack n f g) : FVec Ideal ⟨2, ![a, w]⟩ .f32)) ?_ ?_)).trans ?_
  · refine agrees_cons _ _ _ (fun x => ?_) (agrees_cons _ _ _ (fun x => ?_) (agrees_nil _))
    · show g (x 0).val (x 1).val = stack n f g (n + 1 * (x 0).val) (0 + 1 * (x 1).val)
      unfold stack
      rw [Nat.one_mul, Nat.one_mul, Nat.zero_add, if_neg (by omega), Nat.add_sub_cancel_left]
    · have h0 : (x 0).val < n := (x 0).isLt
      show f (x 0).val (x 1).val = stack n f g (0 + 1 * (x 0).val) (0 + 1 * (x 1).val)
      unfold stack
      rw [Nat.one_mul, Nat.one_mul, Nat.zero_add, Nat.zero_add, if_pos h0]
  · intro y
    have y0 : (y 0).val < a := (y 0).isLt
    have y1 : (y 1).val < w := (y 1).isLt
    by_cases hy : (y 0).val < n
    · refine ⟨_, List.mem_cons_of_mem _ List.mem_cons_self, ?_⟩
      rw [Rect.mem_set_unit]
      intro i
      match i with
      | ⟨0, _⟩ => exact ⟨Nat.zero_le _, (Nat.zero_add n).symm ▸ hy⟩
      | ⟨1, _⟩ => exact ⟨Nat.zero_le _, (Nat.zero_add w).symm ▸ y1⟩
    · refine ⟨_, List.mem_cons_self, ?_⟩
      rw [Rect.mem_set_unit]
      intro i
      match i with
      | ⟨0, _⟩ => exact ⟨not_lt.mp hy, hk.symm ▸ y0⟩
      | ⟨1, _⟩ => exact ⟨Nat.zero_le _, (Nat.zero_add w).symm ▸ y1⟩
  · refine (ld_E2 (stack n f g) inb).trans ?_
    funext j
    show stack n f g (o + (j 0).val) (0 + (j 1).val) = stack n f g (o + (j 0).val) (j 1).val
    rw [Nat.zero_add]

/-- A rectangle cut out of an array. -/
theorem slice_E2 {φ : FTy} {o0 o1 : ℕ} (f : ℕ → ℕ → EReal) (hs : (⟨2, ![a, b]⟩ : Shape).Slices ![o0, o1] ⟨2, ![h, w]⟩) :
    extractStridedSlice ⟨2, ![h, w]⟩ ![o0, o1] (E2 f : FVec Ideal ⟨2, ![a, b]⟩ φ) hs = E2 fun r c => f (o0 + r) (o1 + c) := rfl

/-- One slab of an array of three axes, read as an array of two. -/
theorem slab_E3 {d e p : ℕ} (f : ℕ → ℕ → ℕ → EReal) (inb : ∀ i, ![p, 0, 0] i + ![1, b, d] i ≤ (⟨3, ![e, b, d]⟩ : Shape).size i)
    (hc : (⟨3, ![1, b, d]⟩ : Shape).ShapeCasts ⟨2, ![b, d]⟩) :
    shapeCast ⟨2, ![b, d]⟩ (View.ld (Val := Elt Ideal) (e' := .bf16) (S := ⟨3, ![e, b, d]⟩) (E3 f : FVec Ideal ⟨3, ![e, b, d]⟩ .bf16)
        (Rect.unit ![p, 0, 0] ![1, b, d] inb)) hc
      = (E2 (f p) : FVec Ideal ⟨2, ![b, d]⟩ .bf16) := by
  refine Eq.trans (congrArg (fun X => shapeCast ⟨2, ![b, d]⟩ X hc) (show _ = (E3 fun i r c => f (p + i) r c : FVec Ideal ⟨3, ![1, b, d]⟩ .bf16) from ?_))
    (dropUnit_E3 _ hc)
  funext j
  show f (p + 1 * (j 0).val) (0 + 1 * (j 1).val) (0 + 1 * (j 2).val) = f (p + (j 0).val) (j 1).val (j 2).val
  simp only [Nat.one_mul, Nat.zero_add]

/-- A piece given by a function agrees with an array given by one. -/
theorem agrees_E2 {o0 o1 : ℕ} (f G : ℕ → ℕ → EReal) (inb : ∀ i, ![o0, o1] i + ![h, w] i ≤ (⟨2, ![a, b]⟩ : Shape).size i)
    (L : List (View.Piece (Elt Ideal) ⟨2, ![a, b]⟩ .f32)) (h1 : ∀ r c, r < h → c < w → f r c = G (o0 + r) (o1 + c))
    (h2 : Agrees L (E2 G : FVec Ideal ⟨2, ![a, b]⟩ .f32)) :
    Agrees ((⟨Rect.unit ![o0, o1] ![h, w] inb, (E2 f : FVec Ideal ⟨2, ![h, w]⟩ .f32)⟩ : View.Piece (Elt Ideal) ⟨2, ![a, b]⟩ .f32) :: L)
      (E2 G : FVec Ideal ⟨2, ![a, b]⟩ .f32) := by
  refine agrees_cons _ _ _ (fun x => ?_) h2
  refine (h1 _ _ (x 0).isLt (x 1).isLt).trans ?_
  show _ = G (o0 + 1 * (x 0).val) (o1 + 1 * (x 1).val)
  rw [Nat.one_mul, Nat.one_mul]

/-- The same at the narrower format. -/
theorem agrees_E2b {o0 o1 : ℕ} (f G : ℕ → ℕ → EReal) (inb : ∀ i, ![o0, o1] i + ![h, w] i ≤ (⟨2, ![a, b]⟩ : Shape).size i)
    (L : List (View.Piece (Elt Ideal) ⟨2, ![a, b]⟩ .bf16)) (h1 : ∀ r c, r < h → c < w → f r c = G (o0 + r) (o1 + c))
    (h2 : Agrees L (E2 G : FVec Ideal ⟨2, ![a, b]⟩ .bf16)) :
    Agrees ((⟨Rect.unit ![o0, o1] ![h, w] inb, (E2 f : FVec Ideal ⟨2, ![h, w]⟩ .bf16)⟩ : View.Piece (Elt Ideal) ⟨2, ![a, b]⟩ .bf16) :: L)
      (E2 G : FVec Ideal ⟨2, ![a, b]⟩ .bf16) := by
  refine agrees_cons _ _ _ (fun x => ?_) h2
  refine (h1 _ _ (x 0).isLt (x 1).isLt).trans ?_
  show _ = G (o0 + 1 * (x 0).val) (o1 + 1 * (x 1).val)
  rw [Nat.one_mul, Nat.one_mul]

/-- Whole rows of a buffer stored piece by piece, the pieces over those rows lying side by side. -/
theorem readRows_E2 {sig : RefSig} {κ : Kind} {sp : Space} {o0 : ℕ} (wt n : ℕ) (v : View sig κ sp ⟨2, ![a, b]⟩ .f32)
    {L : List (View.Piece (Elt Ideal) ⟨2, ![a, b]⟩ .f32)} {G : ℕ → ℕ → EReal} (hA : Agrees L (E2 G : FVec Ideal ⟨2, ![a, b]⟩ .f32))
    (hc : rowTiled L o0 h wt n = true) (hw : w ≤ n * wt) (inb : ∀ i, ![o0, 0] i + ![h, w] i ≤ (⟨2, ![a, b]⟩ : Shape).size i) :
    v.readCov L (Rect.unit ![o0, 0] ![h, w] inb).toLoadRect = (E2 (fun r c => G (o0 + r) c) : FVec Ideal ⟨2, ![h, w]⟩ .f32) := by
  rw [View.readCov_eq_canon']
  funext x
  have hx0 : (x 0).val < h := (x 0).isLt
  have hx1 : (x 1).val < w := (x 1).isLt
  refine (View.canon_apply_of_pieces _ L hA _ (rowTiled_cover hc _ ?_ ?_ ?_)).trans ?_
  · show o0 ≤ o0 + 1 * (x 0).val; omega
  · show o0 + 1 * (x 0).val < o0 + h; omega
  · show 0 + 1 * (x 1).val < n * wt; omega
  · show G (o0 + 1 * (x 0).val) (0 + 1 * (x 1).val) = _
    rw [Nat.one_mul, Nat.one_mul, Nat.zero_add]; rfl

end Cert.Ext
end
-- ==== Proof.Mm.CCore.lean ====
module

public import proofs.«01_k».proof.Defs
public import proofs.«01_k».proof.Proof.Mm.Shift
public import proofs.«01_k».proof.Proof.Sgu.Ref
public import proofs.«01_k».proof.Proof.Gen.Kernel41Ideal.Value
public import proofs.«01_k».proof.Proof.Gen.Reference41Ideal.Run
public import proofs.«01_k».proof.Proof.Gen.Reference41Ideal.Read
public import Idealize.ShloMosaic.Lib.Pipeline.ValueKit

/-! The third kind of layer's mixing, forward: the gated product of a short causal convolution with three taps. -/

@[expose] public section
set_option maxRecDepth 16384
noncomputable section
namespace Cert.CCore
open Cert.Kernel41Ideal Cert.Kernel41Ideal.Gen Cert.Ext Idealize.ShloMosaic Idealize.ShloMosaic.TcCoe Idealize.SL.Sem

variable (m : (ℓ : Loc nD τ sig) → Buf (Elt Ideal) ℓ) (c : Dev nD) (x w : ℕ → ℕ → EReal)

/-- The product of the second and the third part of the columns. -/
def prod (r k : ℕ) : EReal := x r (1024 + k) * x r (2048 + k)

/-- The same with two rows of zeros before it. -/
def ext (r k : ℕ) : EReal := if r < 2 then 0 else prod x (r - 2) k

/-- The mixing. -/
def core (r k : ℕ) : EReal := x r k * (w 0 k * ext x r k + w 1 k * ext x (r + 1) k + w 2 k * ext x (r + 2) k)

/-- What the scratch's first rows hold at point `t`: the product at the rows before the block, nothing at the first. -/
def before (t r k : ℕ) : EReal := prod (rows 8 (32 * t - 1) x) r k * if t = 0 then 0 else 1

theorem tap (t r s k : ℕ) : stack 8 (before x t) (prod (rows 256 t x)) (6 + s + r) k = ext x (256 * t + r + s) k := by
  unfold stack ext
  by_cases h : 6 + s + r < 8
  · rw [if_pos h]
    unfold before
    by_cases ht : t = 0
    · rw [if_pos ht, if_pos (by omega), mul_zero]
    · rw [if_neg ht, if_neg (by omega), mul_one]
      unfold prod rows
      rw [show 8 * (32 * t - 1) + (6 + s + r) = 256 * t + r + s - 2 by omega]
  · rw [if_neg h, if_neg (by omega)]
    unfold prod rows
    rw [show 256 * t + (6 + s + r - 8) = 256 * t + r + s - 2 by omega]

theorem idx (t : Fin cfg0.N) : (win0_0.index t 0 = t.val ∧ win0_0.index t 1 = 0) ∧ (win0_1.index t 0 = 32 * t.val - 1 ∧ win0_1.index t 1 = 0)
    ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = 32 * t.val - 1 ∧ win0_1.index t 1 = 0)
    ∧ (win0_2.index t 0 = 0 ∧ win0_2.index t 1 = 0) ∧ (win0_3.index t 0 = t.val ∧ win0_3.index t 1 = 0)) t

theorem first (t : Fin cfg0.N) : Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1) t

theorem iblk0 (e : V m c main_arg0 = E2 (φ := .f32) x) (t : Fin cfg0.N) : iblk m c 0 t = E2 (φ := .f32) (rows 256 t.val x) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_arg0 = E2 (φ := .f32) x) (t : Fin cfg0.N) : iblk m c 1 t = E2 (φ := .f32) (rows 8 (32 * t.val - 1) x) := by
  funext y
  show V m c main_arg0 ((win0_1.rect t).emb y) = _
  rw [e]
  unfold E2 rows
  rw [win0_1.rect_emb_val t y 0, win0_1.rect_emb_val_of_index_zero t 1 (idx t).2.1.2 y, (idx t).2.1.1, Nat.mul_comm]
  rfl

theorem iblk2 (e : V m c main_arg1 = E2 (φ := .f32) w) (t : Fin cfg0.N) : iblk m c 2 t = E2 (φ := .f32) w := by
  funext y
  show V m c main_arg1 ((win0_2.rect t).emb y) = _
  rw [e]
  unfold E2
  rw [win0_2.rect_emb_val_of_index_zero t 0 (idx t).2.2.1.1 y, win0_2.rect_emb_val_of_index_zero t 1 (idx t).2.2.1.2 y]

theorem pay2 (t : Fin cfg0.N) (f g : ℕ → ℕ → EReal) : k0_pay2 (F := Ideal) (grid0.coords t) (E2 (φ := .f32) f) (E2 (φ := .f32) g)
    = E2 (φ := .f32) fun r k => f r k * g r k * if t.val = 0 then 0 else 1 := by
  refine (shapeCast_self _ _).trans ?_
  funext j
  refine congrArg (fun z => f (j 0).val (j 1).val * g (j 0).val (j 1).val * z) ?_
  show Scalar.select (Scalar.cmpi .eq (BitVec.ofNat 32 (grid0.coords t 0).val) 0#32) (Ideal.ofBits .f32 0x00000000#32) (Ideal.ofBits .f32 0x3F800000#32) = _
  rw [first, Ideal.ofBits_zero_f32, Cert.SguRef.bits_one]
  split_ifs
  · rfl
  · exact EReal.coe_one

theorem pay3 (f g : ℕ → ℕ → EReal) : k0_pay3 (F := Ideal) (E2 (φ := .f32) f) (E2 (φ := .f32) g) = E2 (φ := .f32) fun r k => f r k * g r k :=
  (shapeCast_self _ _).trans rfl

theorem pay4 (u f v g : ℕ → ℕ → EReal) : k0_pay4 (F := Ideal) (E2 (φ := .f32) u) (E2 (φ := .f32) f) (E2 (φ := .f32) v) (E2 (φ := .f32) g)
    = E2 (φ := .f32) fun r k => u 0 k * f r k + v 0 k * g r k := by
  unfold k0_pay4
  dsimp only
  rw [bcast_row_E2 _ (by decide), bcast_row_E2 _ (by decide), mulf_E2, mulf_E2]
  funext j
  show Ideal.ofBits .f32 0x00000000#32 + _ + _ = _
  rw [Ideal.ofBits_zero_f32, zero_add]
  rfl

theorem pay1 (f u g h : ℕ → ℕ → EReal) : k0_pay1 (F := Ideal) (E2 (φ := .f32) f) (E2 (φ := .f32) u) (E2 (φ := .f32) g) (E2 (φ := .f32) h)
    = E2 (φ := .bf16) fun r k => h r k * (f r k + u 0 k * g r k) := by
  unfold k0_pay1
  dsimp only
  rw [bcast_row_E2 _ (by decide), mulf_E2, addf_E2, mulf_E2, truncf_E2]

/-- What a point leaves of the mixing. -/
theorem point (e0 : V m c main_arg0 = E2 (φ := .f32) x) (e1 : V m c main_arg1 = E2 (φ := .f32) w) (t : Fin cfg0.N) :
    outsAt0 m c t = E2 (φ := .bf16) (rows 256 t.val (core x w)) := by
  unfold outsAt0
  frame_out
  rw [iblk0 m c x e0, iblk1 m c x e0, iblk2 m c w e1]
  simp only [ld_E2, pay2, pay3]
  simp only [readCov_stack _ _ _ (show 8 + 256 = 264 from rfl)]
  rw [pay4, pay1]
  refine congrArg _ (funext fun r => funext fun k => ?_)
  have e : ∀ s k, stack 8 (fun r k => rows 8 (32 * t.val - 1) x (0 + r) (1024 + k) * rows 8 (32 * t.val - 1) x (0 + r) (2048 + k) * if t.val = 0 then 0 else 1)
      (fun r k => rows 256 t.val x (0 + r) (1024 + k) * rows 256 t.val x (0 + r) (2048 + k)) (6 + s + r) k = ext x (256 * t.val + r + s) k := fun s k => by
    refine Eq.trans ?_ (tap x t.val r s k)
    simp only [Nat.zero_add]
    rfl
  have e0 := e 0 k
  have e1 := e 1 k
  have e2 := e 2 k
  simp only [Nat.zero_add, Nat.add_zero] at e0 e1 e2 ⊢
  rw [e0, e1, e2]
  rfl

theorem arr3 (e0 : V m c main_arg0 = E2 (φ := .f32) x) (e1 : V m c main_arg1 = E2 (φ := .f32) w) :
    (dats m 0 c).arrAt 3 cfg0.N = E2 (φ := .bf16) (core x w) := by
  refine (dats m 0 c).arrAt_eq_of_covers 3 _ (by decide +kernel) fun t hf y => ?_
  show (dats m 0 c).flushed 3 t y = _
  rw [Value.flushed3, point m c x w e0 e1]
  show rows 256 t.val (core x w) (y 0).val (y 1).val = E2 (φ := .bf16) (core x w) ((win0_3.rect t).emb y)
  unfold E2 rows
  rw [win0_3.rect_emb_val t y 0, win0_3.rect_emb_val_of_index_zero t 1 (idx t).2.2.2.2 y, (idx t).2.2.2.1, Nat.mul_comm]
  rfl

open Cert.Reference41Ideal.Read

theorem r3 (i : Cert.Reference41Ideal.S8192x1024.Idx) : val_main_v3 (F := Ideal) (E2 (φ := .f32) x) i = prod x (i 0).val (i 1).val := by
  rw [val_main_v3_apply, val_main_v1_apply, val_main_v2_apply]
  rfl

theorem r5 (i : Cert.Reference41Ideal.S8194x1024.Idx) : val_main_v5 (F := Ideal) (E2 (φ := .f32) x) i = ext x (i 0).val (i 1).val := by
  unfold val_main_v5 ext
  have h0 : (i 0).val < 8194 := (i 0).isLt
  by_cases h : (i 0).val < 2
  · rw [if_pos h]
    refine (concatenate_pair_apply_left (t := Cert.Reference41Ideal.S8194x1024) (s₁ := Cert.Reference41Ideal.S2x1024) (s₂ := Cert.Reference41Ideal.S8192x1024)
      0 _ _ _ i rfl (ValueIdx.ix2 ⟨(i 0).val, h⟩ (i 1)) (fun b => by fin_cases b <;> rfl)).trans ?_
    rw [val_main_v4_apply]
    exact Ideal.ofBits_zero_f32
  · rw [if_neg h]
    refine (concatenate_pair_apply_right (t := Cert.Reference41Ideal.S8194x1024) (s₁ := Cert.Reference41Ideal.S2x1024) (s₂ := Cert.Reference41Ideal.S8192x1024)
      0 _ _ _ i rfl rfl (ValueIdx.ix2 ⟨(i 0).val - 2, by omega⟩ (i 1)) (fun b hb => ?_) ?_).trans (r3 x _)
    · match b, hb with
      | ⟨0, _⟩, hb => exact absurd rfl hb
      | ⟨1, _⟩, _ => rfl
    · show (i 0).val - 2 + 2 = (i 0).val
      omega

theorem ref27 : val_main_v27 (F := Ideal) (E2 (φ := .f32) x) (E2 (φ := .f32) w) = E2 (φ := .bf16) (core x w) := by
  funext i
  have h1 : (i 1).val % 1024 = (i 1).val := Nat.mod_eq_of_lt (i 1).isLt
  rw [val_main_v27_apply, val_main_v26_apply, val_main_v25_apply, val_main_v18_apply, val_main_v11_apply, val_main_v17_apply, val_main_v24_apply,
    val_main_v8_apply, val_main_v14_apply, val_main_v21_apply, r5, r5, r5, val_main_v0_apply,
    val_main_v10_apply, val_main_v9_apply, val_main_v7_apply, val_main_v6_apply,
    val_main_v16_apply, val_main_v15_apply, val_main_v13_apply, val_main_v12_apply,
    val_main_v23_apply, val_main_v22_apply, val_main_v20_apply, val_main_v19_apply]
  show x (i 0).val (i 1).val * (w 0 ((i 1).val % 1024) * _ + w 1 ((i 1).val % 1024) * _ + w 2 ((i 1).val % 1024) * _) = _
  rw [h1, show (idx_main_v14 i 0).val = (i 0).val + 1 from Nat.add_comm 1 _, show (idx_main_v21 i 0).val = (i 0).val + 2 from Nat.add_comm 2 _]
  rfl

/-- The call and the reference, run from the same arguments, end with the same array. -/
theorem algebraic : Cert.algebraic_Kernel41Ideal_Reference41Ideal
    (hKernel41Ideal := Cert.Kernel41Ideal.Gen.facts) (hReference41Ideal := Cert.Reference41Ideal.Gen.facts) := by
  intro m g m' g' hp ha
  refine ⟨fun c => (dats m 0 c).arrAt 3 cfg0.N, Cert.Kernel41Ideal.Value.run_blocks m g,
    (θ_run Cert.Reference41Ideal.defs _ _).mono (fun r hr c => ?_) (Cert.Reference41Ideal.Value.run m' g')⟩
  obtain ⟨r0, k⟩ := hr c
  obtain ⟨a0, a1⟩ := ha c
  obtain ⟨x, e0⟩ := exists_E2 (m ((c : Thread nD τ).loc main_arg0))
  obtain ⟨w, e1⟩ := exists_E2 (m ((c : Thread nD τ).loc main_arg1))
  refine ⟨(r0.trans (val_main_v27_eq _ _)).trans ?_, k⟩
  rw [a0, a1, e0, e1]
  exact (ref27 x w).trans (arr3 m c x w ((V_main_arg0 m c).trans e0) ((V_main_arg1 m c).trans e1)).symm

end Cert.CCore
end
-- ==== Proof.Mm.BCore.lean ====
module

public import proofs.«01_k».proof.Defs
public import proofs.«01_k».proof.Proof.Mm.Shift
public import proofs.«01_k».proof.Proof.Mm.Norm
public import proofs.«01_k».proof.Proof.Sgu.Ref
public import proofs.«01_k».proof.Proof.Gen.Kernel42Ideal.Value
public import proofs.«01_k».proof.Proof.Gen.Reference42Ideal.Run
public import proofs.«01_k».proof.Proof.Gen.Reference42Ideal.Read
public import Idealize.ShloMosaic.Lib.Pipeline.ValueKit

/-! The gated unit, forward: one half of the columns through the gelu, times the other half scaled to unit mean square and
mixed along the rows of each block of 128 by masked matrices, one for every 128 columns. -/

@[expose] public section
set_option maxRecDepth 16384
noncomputable section
namespace Cert.BCore
open scoped BigOperators
open Cert.Kernel42Ideal Cert.Kernel42Ideal.Gen Cert.Ext Cert.Lift Idealize.ShloMosaic Idealize.ShloMosaic.TcCoe Idealize.SL.Sem

variable (m : (ℓ : Loc nD τ sig) → Buf (Elt Ideal) ℓ) (c : Dev nD)
  (p : ℕ → ℕ → EReal) (ng : ℕ → EReal) (w : ℕ → ℕ → ℕ → EReal) (bi sb : ℕ → ℕ → EReal)

/-- The gelu, as the call computes it. -/
def gel (z : EReal) : EReal :=
  Ideal.ofBits .f32 0x3F000000#32 * z * (Ideal.ofBits .f32 0x3F800000#32
    + Ideal.tanh (Ideal.ofBits .f32 0x3F4C422A#32 * (z + ((8943 / 200000 : ℝ) : EReal) * z * z * z)))

/-- The scaled half of the columns. -/
def vn : ℕ → ℕ → EReal := normed (fun r k => gel (p r (1024 + k))) ng

/-- The mixed rows. -/
def mixed (r k : ℕ) : EReal := ∑ i ∈ Finset.range 128, w (k / 128) (r % 128) i * vn p ng (r / 128 * 128 + i) k

/-- The unit's result, `bi` the bias per row of a block of 128 and column. -/
def unit (r k : ℕ) : EReal := gel (p r k) * (mixed p ng w r k + bi (r % 128) k)

theorem rows_vn (t r k : ℕ) : vn (rows 256 t p) ng r k = vn p ng (256 * t + r) k := rfl

theorem rows_unit (t r k : ℕ) : unit (rows 256 t p) ng w bi r k = unit p ng w bi (256 * t + r) k := by
  unfold unit mixed
  rw [show (256 * t + r) % 128 = r % 128 by omega]
  refine congrArg₂ (· * ·) rfl (congrArg (· + _) (Finset.sum_congr rfl fun i _ => congrArg (_ * ·) ?_))
  rw [rows_vn, show 256 * t + (r / 128 * 128 + i) = (256 * t + r) / 128 * 128 + i by omega]

theorem piece (o0 o1 g : ℕ) (h0 : o0 % 128 = 0) (h1 : o1 = 128 * g) (r k : ℕ) (hr : r < 128) (hk : k < 128) :
    ∑ i ∈ Finset.range 128, w g r i * vn p ng (o0 + i) (o1 + k) = mixed p ng w (o0 + r) (o1 + k) := by
  have e1 : (o1 + k) / 128 = g := by omega
  have e2 : (o0 + r) % 128 = r := by omega
  have e3 : (o0 + r) / 128 * 128 = o0 := by omega
  unfold mixed
  rw [e1, e2, e3]

theorem idx (t : Fin cfg0.N) : (win0_0.index t 0 = t.val ∧ win0_0.index t 1 = 0) ∧ win0_1.index t 1 = 0
    ∧ (win0_2.index t 0 = 0 ∧ win0_2.index t 1 = 0 ∧ win0_2.index t 2 = 0) ∧ (win0_3.index t 0 = 0 ∧ win0_3.index t 1 = 0)
    ∧ (win0_4.index t 0 = t.val ∧ win0_4.index t 1 = 0) :=
  (by decide +kernel : ∀ t : Fin grid0.N, (win0_0.index t 0 = t.val ∧ win0_0.index t 1 = 0) ∧ win0_1.index t 1 = 0
    ∧ (win0_2.index t 0 = 0 ∧ win0_2.index t 1 = 0 ∧ win0_2.index t 2 = 0) ∧ (win0_3.index t 0 = 0 ∧ win0_3.index t 1 = 0)
    ∧ (win0_4.index t 0 = t.val ∧ win0_4.index t 1 = 0)) t

theorem iblk0 (e : V m c main_arg0 = E2 (φ := .f32) p) (t : Fin cfg0.N) : iblk m c 0 t = E2 (φ := .f32) (rows 256 t.val p) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_v7 = E2 (φ := .f32) fun _ k => ng k) (t : Fin cfg0.N) : iblk m c 1 t = E2 (φ := .f32) fun _ k => ng k := by
  funext y
  show V m c main_v7 ((win0_1.rect t).emb y) = _
  rw [e]
  unfold E2
  rw [win0_1.rect_emb_val_of_index_zero t 1 (idx t).2.1 y]

theorem iblk2 (e : V m c main_v8 = E3 (φ := .bf16) w) (t : Fin cfg0.N) : iblk m c 2 t = E3 (φ := .bf16) w := by
  funext y
  show V m c main_v8 ((win0_2.rect t).emb y) = _
  rw [e]
  unfold E3
  rw [win0_2.rect_emb_val_of_index_zero t 0 (idx t).2.2.1.1 y, win0_2.rect_emb_val_of_index_zero t 1 (idx t).2.2.1.2.1 y,
    win0_2.rect_emb_val_of_index_zero t 2 (idx t).2.2.1.2.2 y]

theorem iblk3 (e : V m c main_v6 = E2 (φ := .f32) bi) (t : Fin cfg0.N) : iblk m c 3 t = E2 (φ := .f32) bi := by
  funext y
  show V m c main_v6 ((win0_3.rect t).emb y) = _
  rw [e]
  unfold E2
  rw [win0_3.rect_emb_val_of_index_zero t 0 (idx t).2.2.2.1.1 y, win0_3.rect_emb_val_of_index_zero t 1 (idx t).2.2.2.1.2 y]

/-! The arrays the call takes. -/

theorem V_main_v8 : V m c main_v8 = truncf (F := Ideal) (φ := .f32) .bf16 (Cert.Reference42Ideal.Read.val_main_v3 (F := Ideal) (m ((c : Thread nD τ).loc main_arg2))) (by decide) := by
  simp only [V, hostOps0, hostOps0_1, hostOps0_2, hostOps0_3, hostOps0_4, List.flatten_cons, List.flatten_nil, List.append_nil, List.cons_append,
    List.nil_append]
  after_results
  rfl

theorem V_main_v7 (e : m ((c : Thread nD τ).loc main_arg1) = E1 (φ := .f32) ng) : V m c main_v7 = E2 (φ := .f32) fun _ k => ng k := by
  simp only [V, hostOps0, hostOps0_1, hostOps0_2, hostOps0_3, hostOps0_4, List.flatten_cons, List.flatten_nil, List.append_nil, List.cons_append,
    List.nil_append]
  after_results
  rw [show m (c, Proc.tc.devRef main_arg1) = E1 (φ := .f32) ng from e]
  funext i
  rfl

theorem V_main_v6 (e : m ((c : Thread nD τ).loc main_arg3) = E2 (φ := .f32) sb) : V m c main_v6 = E2 (φ := .f32) fun r k => sb (k / 128) r := by
  simp only [V, hostOps0, hostOps0_1, hostOps0_2, hostOps0_3, hostOps0_4, List.flatten_cons, List.flatten_nil, List.append_nil, List.cons_append,
    List.nil_append]
  after_results
  rw [show m (c, Proc.tc.devRef main_arg3) = E2 (φ := .f32) sb from e]
  funext i
  have h0 : (i 0).val < 128 := (i 0).isLt
  have h1 : (i 1).val < 1024 := (i 1).isLt
  refine (shapeCast_apply _ shapeCasts_S128x8x128_S128x1024 i (ValueIdx.ix3 (i 0) ⟨(i 1).val / 128, by omega⟩ ⟨(i 1).val % 128, by omega⟩)
    (by rewrite [Shape.rowMajor_val_three, Shape.rowMajor_val_two]; show ((i 0).val * 8 + (i 1).val / 128) * 128 + (i 1).val % 128 = (i 0).val * 1024 + (i 1).val; omega)).trans ?_
  rfl

/-! What a point leaves. -/

theorem pay1 : k0_pay1 (F := Ideal) (E2 (φ := .f32) p) = E2 (φ := .f32) fun r k => gel (p r k) := rfl

theorem pay2 : k0_pay2 (F := Ideal) (E2 (φ := .f32) p) = E2 (φ := .f32) fun r k => gel (p r k) := by
  unfold k0_pay2
  dsimp only
  rw [pay1, slice_E2]
  simp only [Nat.zero_add]

theorem pay3 : k0_pay3 (F := Ideal) (E2 (φ := .f32) p) (E2 (φ := .f32) fun _ k => ng k) = E2 (φ := .bf16) (vn p ng) := by
  have e : extractStridedSlice S256x1024 ![0, 1024] (k0_pay1 (F := Ideal) (E2 (φ := .f32) p)) slices_S256x2048_o0_1024_S256x1024
      = E2 (φ := .f32) fun r k => gel (p r (1024 + k)) := by
    rw [pay1, slice_E2]
    simp only [Nat.zero_add]
  refine Eq.trans ?_ (normed_block (a := 256) (by decide) (fun r k => gel (p r (1024 + k))) ng reduces_S256x1024_S256 (.inl rfl) rfl
    shapeCasts_S256_S256x1 broadcasts_S256x1_S256x1024 shapeCasts_S1x1024_S1x1024 broadcasts_S1x1024_S256x1024 bitsLt_bf16_f32)
  rw [← e]
  rfl

theorem pay23 (f g h : ℕ → ℕ → EReal) : k0_pay23 (F := Ideal) (E2 (φ := .f32) f) (E2 (φ := .f32) g) (E2 (φ := .f32) h)
    = E2 (φ := .bf16) fun r k => f (0 + r) (0 + k) * (g r k + h r k) := by
  unfold k0_pay23
  dsimp only
  rw [slice_E2, shapeCast_self, addf_E2, mulf_E2, truncf_E2]

theorem pay24 (f g h : ℕ → ℕ → EReal) : k0_pay24 (F := Ideal) (E2 (φ := .f32) f) (E2 (φ := .f32) g) (E2 (φ := .f32) h)
    = E2 (φ := .bf16) fun r k => f (128 + r) (0 + k) * (g r k + h r k) := by
  unfold k0_pay24
  dsimp only
  rw [slice_E2, shapeCast_self, addf_E2, mulf_E2, truncf_E2]

theorem point (t : Fin cfg0.N) (e0 : iblk m c 0 t = E2 (φ := .f32) p) (e1 : iblk m c 1 t = E2 (φ := .f32) fun _ k => ng k)
    (e2 : iblk m c 2 t = E3 (φ := .bf16) w) (e3 : iblk m c 3 t = E2 (φ := .f32) bi) :
    outsAt0 m c t = E2 (φ := .bf16) (unit p ng w bi) := by
  have hh := fun f q inb hc => slab_E3 (e := 8) (b := 128) (d := 128) (p := q) f inb hc
  unfold outsAt0
  frame_out
  rw [e0, e1, e2, e3]
  unfold k0_pay4 k0_pay21 k0_pay22
  dsimp only
  simp only [pay3, pay2, hh, slice_E2, shapeCast_self,
    mm_nn _ _ _ dot_S128x128_S128x128_S128x128_1_0_0_1_n_n rfl]
  rw [readRows_E2 (a := 256) (b := 1024) (h := 128) (w := 1024) (o0 := 128) (G := mixed p ng w) 128 8 _ (by
    iterate 16 refine agrees_E2 _ _ _ _ (fun r k hr hk => piece p ng w _ _ _ (by decide) (by decide) r k hr hk) ?_
    exact agrees_nil _) (by rfl) (by decide) _]
  rw [readRows_E2 (a := 256) (b := 1024) (h := 128) (w := 1024) (o0 := 0) (G := mixed p ng w) 128 8 _ (by
    iterate 16 refine agrees_E2 _ _ _ _ (fun r k hr hk => piece p ng w _ _ _ (by decide) (by decide) r k hr hk) ?_
    exact agrees_nil _) (by rfl) (by decide) _]
  rw [pay23, pay24]
  refine canon_of_agrees ?_ (fun y => View.cover_of_tiled_head _ _ _ (by rfl) y)
  refine agrees_E2b _ _ _ _ (fun r k hr _ => ?_) (agrees_E2b _ _ _ _ (fun r k hr _ => ?_) (agrees_nil _))
  · unfold unit
    rw [Nat.zero_add, show (128 + r) % 128 = r by omega]
  · unfold unit
    rw [Nat.zero_add, Nat.zero_add, show r % 128 = r by omega]

theorem arr4 (e0 : V m c main_arg0 = E2 (φ := .f32) p) (e1 : V m c main_v7 = E2 (φ := .f32) fun _ k => ng k)
    (e2 : V m c main_v8 = E3 (φ := .bf16) w) (e3 : V m c main_v6 = E2 (φ := .f32) bi) :
    (dats m 0 c).arrAt 4 cfg0.N = E2 (φ := .bf16) (unit p ng w bi) := by
  refine (dats m 0 c).arrAt_eq_of_covers 4 _ (by decide +kernel) fun t hf y => ?_
  show (dats m 0 c).flushed 4 t y = _
  rw [Value.flushed4, point m c (rows 256 t.val p) ng w bi t (iblk0 m c p e0 t) (iblk1 m c ng e1 t) (iblk2 m c w e2 t) (iblk3 m c bi e3 t)]
  show unit (rows 256 t.val p) ng w bi (y 0).val (y 1).val = E2 (φ := .bf16) (unit p ng w bi) ((win0_4.rect t).emb y)
  rw [rows_unit]
  unfold E2
  rw [win0_4.rect_emb_val t y 0, win0_4.rect_emb_val_of_index_zero t 1 (idx t).2.2.2.2.2 y, (idx t).2.2.2.2.1, Nat.mul_comm]
  rfl

/-! The reference. -/

open Cert.Reference42Ideal.Read

theorem kappa : Ideal.div (Ideal.ofBits .f32 0x472EAB00#32) (Ideal.ofBits .f32 0x49742400#32) = ((8943 / 200000 : ℝ) : EReal) := by
  rw [Cert.SguRef.bits_44715, Cert.SguRef.bits_million]
  refine (Cert.SguRef.fd _ _ (by norm_num : (1000000 : ℝ) ≠ 0)).trans (congrArg _ ?_)
  norm_num

theorem r20 (i : Cert.Reference42Ideal.S8192x2048.Idx) : val_main_v20 (F := Ideal) (E2 (φ := .f32) p) i = gel (p (i 0).val (i 1).val) := by
  rw [val_main_v20_apply, val_main_v19_apply, val_main_v18_apply, val_main_v17_apply, val_main_v16_apply, val_main_v15_apply, val_main_v14_apply,
    val_main_v13_apply, val_main_v12_apply, val_main_v11_apply, val_main_v10_apply, val_main_v9_apply, val_main_v8_apply, val_main_v7_apply]
  show p (i 0).val (i 1).val * (Ideal.ofBits .f32 0x3F000000#32 * (Ideal.ofBits .f32 0x3F800000#32 + Ideal.tanh (Ideal.ofBits .f32 0x3F4C422A#32
    * (p (i 0).val (i 1).val + Ideal.div (Ideal.ofBits .f32 0x472EAB00#32) (Ideal.ofBits .f32 0x49742400#32)
      * (p (i 0).val (i 1).val * p (i 0).val (i 1).val * p (i 0).val (i 1).val))))) = _
  rw [kappa, ← mul_assoc, ← mul_assoc, ← mul_assoc, mul_comm (p _ _) (Ideal.ofBits .f32 0x3F000000#32)]
  rfl

theorem r35 (i : Cert.Reference42Ideal.S8192x1024.Idx) : val_main_v35 (F := Ideal) (E2 (φ := .f32) p) (E1 (φ := .f32) ng) i
    = vn p ng (i 0).val (i 1).val := by
  have hs : ∀ r : Cert.Reference42Ideal.S8192.Idx, val_main_v24 (F := Ideal) (E2 (φ := .f32) p) r
      = ∑ k ∈ Finset.range 1024, gel (p (r 0).val (1024 + k)) * gel (p (r 0).val (1024 + k)) := fun r => by
    rw [val_main_v24_apply]
    show Ideal.ofBits .f32 0x00000000#32 + _ = _
    rw [Ideal.ofBits_zero_f32, zero_add]
    refine Eq.trans (Finset.sum_congr rfl fun k _ => ?_) (fin_range 1024 fun k => gel (p (r 0).val (1024 + k)) * gel (p (r 0).val (1024 + k)))
    rw [val_main_v23_apply, val_main_v22_apply, r20]
    rfl
  rw [val_main_v35_apply, val_main_v34_apply, val_main_v33_apply, val_main_v32_apply, val_main_v31_apply, val_main_v30_apply, val_main_v29_apply,
    val_main_v28_apply, val_main_v27_apply, val_main_v26_apply, val_main_v25_apply, hs, val_main_v22_apply, r20]
  rfl

theorem ref43 (x2 : FVec Ideal Cert.Reference42Ideal.S8x128x128 .f32) (e : val_main_v3 (F := Ideal) x2 = E3 (φ := .f32) w) :
    val_main_v43 (F := Ideal) (E2 (φ := .f32) p) (E1 (φ := .f32) ng) x2 (E2 (φ := .f32) sb)
      = E2 (φ := .bf16) (unit p ng w fun r k => sb (k / 128) r) := by
  funext i
  have h0 : (i 0).val < 8192 := (i 0).isLt
  have h1 : (i 1).val < 1024 := (i 1).isLt
  have hm : val_main_v37 (F := Ideal) (E2 (φ := .f32) p) (E1 (φ := .f32) ng) x2 (idx_main_v38 (idx_main_v41 i)) = mixed p ng w (i 0).val (i 1).val := by
    rw [val_main_v37_apply]
    unfold mixed
    refine Eq.trans (Finset.sum_congr rfl fun k _ => ?_)
      (fin_range 128 fun k => w ((i 1).val / 128) ((i 0).val % 128) k * vn p ng ((i 0).val / 128 * 128 + k) (i 1).val)
    have hk := k.isLt
    rw [val_main_v36_apply, r35, e, mul_comm]
    refine congrArg₂ (· * ·) ?_ (congrArg₂ (vn p ng) ?_ ?_)
    · show w (((i 0).val * 1024 + (i 1).val) / 128 % 8) (((i 0).val * 1024 + (i 1).val) / 1024 % 128) k.val = _
      rw [show ((i 0).val * 1024 + (i 1).val) / 128 % 8 = (i 1).val / 128 by omega, show ((i 0).val * 1024 + (i 1).val) / 1024 % 128 = (i 0).val % 128 by omega]
    · show (((((i 0).val * 1024 + (i 1).val) / 131072 * 128 + k.val) * 8 + ((i 0).val * 1024 + (i 1).val) / 128 % 8) * 128 + ((i 0).val * 1024 + (i 1).val) % 128) / 1024 = _
      omega
    · show (((((i 0).val * 1024 + (i 1).val) / 131072 * 128 + k.val) * 8 + ((i 0).val * 1024 + (i 1).val) / 128 % 8) * 128 + ((i 0).val * 1024 + (i 1).val) % 128) % 1024 = _
      omega
  rw [val_main_v43_apply, val_main_v42_apply, val_main_v41_apply, val_main_v40_apply, val_main_v39_apply, val_main_v38_apply, hm, val_main_v21_apply, r20,
    val_main_v6_apply, val_main_v5_apply, val_main_v4_apply]
  show gel (p (i 0).val (i 1).val) * (mixed p ng w (i 0).val (i 1).val + sb (((i 0).val * 1024 + (i 1).val) / 128 % 8) (((i 0).val * 1024 + (i 1).val) / 1024 % 128)) = _
  rw [show ((i 0).val * 1024 + (i 1).val) / 128 % 8 = (i 1).val / 128 by omega, show ((i 0).val * 1024 + (i 1).val) / 1024 % 128 = (i 0).val % 128 by omega]
  rfl

/-- The call and the reference, run from the same arguments, end with the same array. -/
theorem algebraic : Cert.algebraic_Kernel42Ideal_Reference42Ideal
    (hKernel42Ideal := Cert.Kernel42Ideal.Gen.facts) (hReference42Ideal := Cert.Reference42Ideal.Gen.facts) := by
  intro m g m' g' hp ha
  refine ⟨fun c => (dats m 0 c).arrAt 4 cfg0.N, Cert.Kernel42Ideal.Value.run_blocks m g,
    (θ_run Cert.Reference42Ideal.defs _ _).mono (fun r hr c => ?_) (Cert.Reference42Ideal.Value.run m' g')⟩
  obtain ⟨r0, k⟩ := hr c
  obtain ⟨a0, a1, a2, a3⟩ := ha c
  obtain ⟨p, e0⟩ := exists_E2 (m ((c : Thread nD τ).loc main_arg0))
  obtain ⟨ng, e1⟩ := exists_E1 (m ((c : Thread nD τ).loc main_arg1))
  obtain ⟨w, e2⟩ := exists_E3 (val_main_v3 (F := Ideal) (m ((c : Thread nD τ).loc main_arg2)))
  obtain ⟨sb, e3⟩ := exists_E2 (m ((c : Thread nD τ).loc main_arg3))
  refine ⟨(r0.trans (val_main_v43_eq _ _)).trans ?_, k⟩
  rw [a0, a1, a2, a3, e0, e1, e3]
  refine (ref43 p ng w sb _ e2).trans (arr4 m c p ng w _ ((V_main_arg0 m c).trans e0) (V_main_v7 m c ng e1) ?_ (V_main_v6 m c sb e3)).symm
  rw [V_main_v8, e2]
  rfl

end Cert.BCore
end
-- ==== Proof.Mm.LossSum.lean ====
module

public import proofs.«01_k».proof.Proof.Gen.Kernel43Ideal
public import proofs.«01_k».proof.Proof.Gen.Kernel43Ideal.Launch
public import Idealize.ShloMosaic.Lib.StableHlo.CollectiveRules
public import Idealize.ShloMosaic.Lib.Pipeline.Regions
public import Idealize.ShloMosaic.Lib.Pipeline.RegionsOwned
public import Idealize.ShloMosaic.Lib.Pipeline.CollectiveSegs
public import Idealize.ShloMosaic.Lib.Pipeline.Kit
public import Idealize.ShloMosaic.Lib.Pipeline.Frame
public import Idealize.ShloMosaic.Lib.Quiescent
public import Idealize.ShloMosaic.Lib.Claim
public import Idealize.ShloMosaic.Lib.Tactic
public import Idealize.ShloMosaic.Lib.Pipeline.Value
public import Idealize.ShloMosaic.PureOps.Ideal

/-! The run of the program that sums the loss over the eight devices: each device takes the first entry of its
row and an all-reduce adds the eight. The run is stated with what every buffer holds at the end. -/

@[expose] public section

noncomputable section

namespace Cert.LossSum

open Cert.Kernel43Ideal Cert.Kernel43Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

abbrev UU : Type := UR sig nD τ × Sites.UC

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-- What device `c`'s buffers hold at launch, -/
abbrev V₀ (c : Dev nD) : Valuation τ sig (Elt F) := fun b => m ((c : Dev nD), b)
/-- when the sum begins, -/
abbrev V₁ (c : Dev nD) : Valuation τ sig (Elt F) := StableHlo.after (hostOps0 (F := F)) (V₀ m c)
/-- and at the end. -/
abbrev V₂ (c : Dev nD) : Valuation τ sig (Elt F) := (ar0 (F := F)).after₀ (V₁ m) c

abbrev adm : (p : Fin 0) → (pcfgs (F := F) p).Adm := fun p => p.elim0
abbrev pdats : (p : Fin 0) → (c : Dev nD) → Pipeline.Dat τ (Elt F) ℕ ℕ UU ℕ (Pipeline.pin (pcfgs (F := F)) adm p) c :=
  fun p => p.elim0
abbrev 𝒱₀ : Variants := Variants.none

abbrev HSeg : Type 1 := Pipeline.HostSeg (Ix := ℕ) (Name := ℕ) (U := UU) (Lvl := ℕ) (pcfgs (F := F)) defs₀ 𝒱₀ Sites.L Sites.lv

/-- The record that the sum's cells stand under their invariants. -/
abbrev invs : sProp (MT nD τ sig ℕ (Elt F) ℕ UU ℕ) :=
  iprop(∃ κ, (AllReduce.Dat.once (Ix := ℕ) (Name := ℕ) (U := UU) (Lvl := ℕ) (ar0 (F := F)) (V₁ m)).cellInvs EC κ)

theorem ops_sub : ∀ op ∈ (hostOps0 : List (HloOp τ sig (Elt F))), op.bufs ⊆ Pipeline.ucRefs τ sig := fun op h =>
  Pipeline.sub_ucRefs op (List.forall_iff_forall_mem.mp hostOps0_sub op h)
theorem ops_fresh : ∀ op ∈ (hostOps0 : List (HloOp τ sig (Elt F))), op.fresh = ∅ := fun op h => by
  rcases List.mem_cons.mp h with rfl | h
  · rfl
  · obtain rfl := List.mem_singleton.mp h; rfl

/-- The first entry of the row is taken. -/
def seg0 : HSeg (F := F) := Pipeline.HostSeg.ofOps _ _ _ _ _ (Pipeline.ucRefs τ sig) (hostOps0 (F := F)) ops_sub ops_fresh (V₀ m)
  (Sites.Es EC (V₁ m) 0)

/-- The eight are added. -/
def seg1 : HSeg (F := F) := Sites.seg0 EC 𝒱₀ (V₁ m) (Sites.Rest0 (V₁ m) fun _ => invs m)

def segs : List (Pipeline.Seg (pcfgs (F := F)) adm (pdats (F := F)) 0 defs₀ 𝒱₀ Sites.L Sites.lv) :=
  [.host (seg0 m), .host (seg1 m)]

theorem main_eq (c : Dev nD) : main (F := F) c = Pipeline.Seg.run (segs m) :=
  main_segs adm (pdats (F := F)) 0 𝒱₀ Sites.L Sites.lv (seg0 m) (seg1 m) rfl rfl c

theorem seg0_seg1 (c : Dev nD) : (seg0 m).post c ⊢ (seg1 (F := F) m).pre c := by
  refine .trans ?_ (Sites.pre0 EC 𝒱₀ (V₁ m) (fun _ => invs m) c)
  dsimp only [seg0, Pipeline.HostSeg.ofOps]
  rw [Sites.Es_0]
  iintro ⟨Hh, HO, Hp, Hr⟩
  ihave #Hi := (show Sites.rides0 EC (V₁ m) c ⊢ invs m from by
    unfold Sites.rides0 AllReduce.Dat.rides; iintro ⟨Hi, -⟩; iexact Hi) $$ Hr
  isplitl [Hh]; · iexact Hh
  isplitr []
  · isplitl [HO]; · iexact HO
    isplitl [Hp] <;> iassumption
  iexact Hi

/-- What is left at the end: every buffer at its contents, and the cells past their one round. -/
abbrev Tₙ (c : Dev nD) : sProp (MT nD τ sig ℕ (Elt F) ℕ UU ℕ) :=
  iprop(StableHlo.held (c : Thread nD τ) (Pipeline.ucRefs τ sig) (V₂ m c) ∗ (invs m ∗ Sites.Ghost0 EC c))

theorem seg1_end (c : Dev nD) :
    (seg1 (F := F) m).post c ⊢ iprop(Tₙ m c ∗ ∃ W, owes (c : Thread nD τ) (0 : CellTallies nD τ sig ℕ) W) := by
  refine (Sites.post0 EC 𝒱₀ (V₁ m) (fun _ => invs m) c).trans ?_
  iintro ⟨Hh, HE, Hg, Hi⟩
  isplitr [HE]
  · isplitl [Hh]; · iexact Hh
    isplitl [Hi] <;> iassumption
  iapply (Sites.hE_last EC (V₁ m) c); iexact HE

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c))
        ∗ levAts Sites.L Sites.lv)
      ⊢ (|={Set.univ}=> bigSep Finset.univ (seg0 m).pre : sProp (MT nD τ sig ℕ (Elt F) ℕ UU ℕ)) := by
  have hb (c : Dev nD) : (unscopedBufs c (fun b => m ((c : Thread nD τ).loc b)) : sProp (MT nD τ sig ℕ (Elt F) ℕ UU ℕ))
      = StableHlo.held (c : Thread nD τ) (Pipeline.ucRefs τ sig) (V₀ m c) :=
    Pipeline.unscopedBufs_held (Ix := ℕ) (Name := ℕ) (U := UU) (Lvl := ℕ) c (V₀ m c)
  rw [bigSep_sep']
  iintro ⟨⟨Hb, H⟩, HL⟩
  imod (Sites.hE0 EC (V₁ m) ρ) $$ [H HL] with HE
  · isplitl [H] <;> iassumption
  imodintro
  iapply (show iprop((bigSep Finset.univ fun c : Dev nD => (unscopedBufs c (fun b => m ((c : Thread nD τ).loc b)) : sProp (MT nD τ sig ℕ (Elt F) ℕ UU ℕ)))
        ∗ bigSep Finset.univ (Sites.Es EC (V₁ m) 0)) ⊢ bigSep Finset.univ (seg0 m).pre from by
    rw [← bigSep_sep']
    exact bigSep_mono fun c _ => by rw [hb c]; exact BI.Entails.refl _)
  isplitl [Hb] <;> iassumption

set_option backward.isDefEq.respectTransparency.types false in
/-- From any memory with every counter at zero the eight devices end, each buffer at `V₂` and every counter at zero. -/
theorem run_all : θ_run defs (onTc (τ := τ) (main (F := F))) ⟨m, fun _ => 0, ρ⟩
    (fun r => (∀ (c : Dev nD) (b : DevRef τ sig), b ∈ Pipeline.ucRefs τ sig → r.2.mem (c, b) = V₂ m c b) ∧ r.2.sem = fun _ => 0) :=
  Pipeline.θ_run_regions_kit_sems (pcfgs (F := F)) adm (pdats (F := F)) 0 cellOf_inj EP defs₀ 𝒱₀ Sites.L Sites.lv m ρ main (segs m)
    (fun c Q => by rw [main_eq m c])
    (by simp only [segs, Pipeline.Seg.pipes_host, Pipeline.Seg.pipes_nil]; exact List.nodup_nil)
    (O₀ := Sites.O0 (F := F)) (hL := Sites.hL) (G := Sites.G EC (V₁ m))
    (u₀ := (initOf (Pipeline.cells (Pipeline.pin (pcfgs (F := F)) adm) cellOf_inj) (Pipeline.launchToks (Pipeline.pin (pcfgs (F := F)) adm) cellOf_inj),
      Sites.uC (U := UU) (V₁ m)))
    (hu₀ := by
      iintro Hu
      ihave H := (ownU_pair _ _) $$ Hu
      icases H with ⟨HP, HX⟩
      imodintro
      isplitl [HP]; · iexact HP
      rw [Sites.bigSep_G]; iexact HX)
    (T₀ := (seg0 m).pre) (Tₙ := Tₙ m)
    (hch := ⟨fun c => .rfl, seg0_seg1 m, seg1_end m⟩)
    (hinit := init m ρ)
    (QY := fun c s => (∀ b ∈ Pipeline.ucRefs τ sig, s.mem (c, b) = V₂ m c b)
      ∧ s.sem ((ar0 (F := F)).barrierCell c) = 0 ∧ s.sem ((ar0 (F := F)).recvCell c) = 0 ∧ s.sem ((ar0 (F := F)).sendCell c) = 0)
    (hfin := fun c s' => by
      refine Laws.pure_elim _ ((sep_mono_left sep_elim_left).trans (sep_comm.1.trans
        (SI_pointsTo_bufs_agree (qs := fun _ => fullShare) (Pipeline.ucRefs τ sig)))) fun h => ?_
      iintro ⟨⟨-, He⟩, HSI⟩
      imod ((AllReduce.Dat.once (Ix := ℕ) (Name := ℕ) (U := UU) (Lvl := ℕ) (ar0 (F := F)) (V₁ m)).ghostAfter_read EC c (k := 0) le_rfl s')
        $$ [He HSI] with ⟨%hz, HSI⟩
      · isplitl [He] <;> iassumption
      imodintro
      isplitr; · ipureintro; exact ⟨h, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

theorem arg0_end (c : Dev nD) : V₂ m c main_arg0 = m ((c : Thread nD τ).loc main_arg0) := by
  refine ((ar0 (F := F)).after₀_off_siteRefs (V₁ m) c (by
    show (main_arg0 : DevRef τ sig) ∉ (ar0 (F := F)).siteRefs
    rw [AllReduce.Cfg.mem_siteRefs]
    rintro (h | h | ⟨j, h⟩)
    · exact absurd (Proc.devRef_injective _ h) (show (main_arg0 : Ref sig .tc) ≠ main_v3 by decide)
    · exact absurd (Proc.devRef_injective _ h) (show (main_arg0 : Ref sig .tc) ≠ main_v2 by decide)
    · exact (show ∀ j, (main_arg0 : Ref sig .tc) ≠ ar0_stage j by decide) j (Proc.devRef_injective _ h))).trans ?_
  after_results <;> rfl

/-- The frame: the argument ends unchanged and every counter at zero. -/
theorem run_frame : θ_run defs (onTc (τ := τ) (main (F := F))) ⟨m, fun _ => 0, ρ⟩
    (fun r => (∀ c : Dev nD, r.2.mem ((c : Thread nD τ).loc main_arg0) = m ((c : Thread nD τ).loc main_arg0)) ∧ r.2.sem = fun _ => 0) :=
  (θ_run defs _ _).mono (fun _ h => ⟨fun c => (h.1 c main_arg0 (by decide)).trans (arg0_end m c), h.2⟩) (run_all m ρ)

/-- What a device gives to the sum: the first entry of its row. -/
theorem operand_eq (c : Dev nD) : V₁ m c main_v2 =
    shapeCast _ (extractStridedSlice S1x1 ![0, 0] (m ((c : Thread nD τ).loc main_arg0)) Facts₀.slices_S1x128_S1x1_0_0) Facts₀.shapeCasts_S1x1_S_ := by
  after_results <;> rfl

/-- The first entry's index. -/
abbrev first : S1x128.Idx := fun a => match a with
  | ⟨0, _⟩ => (0 : Fin 1)
  | ⟨1, _⟩ => (0 : Fin 128)
abbrev first' : S1x1.Idx := fun a => match a with
  | ⟨0, _⟩ => (0 : Fin 1)
  | ⟨1, _⟩ => (0 : Fin 1)

theorem operand_apply (c : Dev nD) (i : S_.Idx) : (V₁ m c main_v2 : S_.Idx → Elt F .f32) i
    = (m ((c : Thread nD τ).loc main_arg0) : S1x128.Idx → Elt F .f32) first := by
  rw [operand_eq m c]
  refine (shapeCast_apply _ _ i first' ?_).trans ?_
  · have h := (S_.rowMajor i).isLt
    have e : S_.numel = 1 := by decide
    rw [Shape.rowMajor_val_two]
    show 0 = (S_.rowMajor i).val
    omega
  · exact extractStridedSlice_apply ![0, 0] _ Facts₀.slices_S1x128_S1x1_0_0 first' first (fun a => match a with
      | ⟨0, _⟩ => rfl
      | ⟨1, _⟩ => rfl)

/-- The first entry of device `c`'s row. -/
def entry (m : (ℓ : Loc nD τ sig) → Buf (Elt Ideal) ℓ) (c : Dev nD) : Ideal .f32 :=
  (m ((c : Thread nD τ).loc main_arg0) : S1x128.Idx → Elt Ideal .f32) first

theorem toResult_eq (Y : main_v2.ty.Contents (Elt Ideal)) : (ar0 (F := Ideal)).toResult Y = Y := cast_eq rfl Y

theorem peer_eq (c : Dev nD) (j : Fin 8) : (ar0 (F := Ideal)).peer c j = j :=
  (show ∀ c j : Fin 8, ar0_mem ((ar0_pos c).1, j) = j by decide) c j

/-- Eight entries folded in the group's order are their sum. -/
theorem fold_eq (v : Fin 8 → main_v2.ty.Contents (Elt Ideal)) (w : Fin 8 → Ideal .f32) (i : S_.Idx)
    (h : ∀ j, (v j : S_.Idx → Ideal .f32) i = w j) : ((ar0 (F := Ideal)).foldGroup v : S_.Idx → Ideal .f32) i = ∑ j, w j := by
  unfold AllReduce.Cfg.foldGroup
  refine .trans ?_ (Fin.sum_univ_eight w).symm
  show List.foldl (fun a (j : Fin 8) => FloatOps.collectiveReduce (F := Ideal) .add a ((v j : S_.Idx → Ideal .f32) i)) ((v 0 : S_.Idx → Ideal .f32) i) [1, 2, 3, 4, 5, 6, 7] = _
  simp only [h, List.foldl, Ideal.collectiveReduce_def]
  rfl

/-- Every device ends with the eight first entries added. -/
theorem sum_end (m : (ℓ : Loc nD τ sig) → Buf (Elt Ideal) ℓ) (c : Dev nD) (i : S_.Idx) :
    (V₂ m c main_v3 : S_.Idx → Ideal .f32) i = ∑ d : Fin 8, entry m d := by
  have hr := AllReduce.Cfg.after₀_result (ar0 (F := Ideal)) (V₁ m) c
  rw [toResult_eq] at hr
  refine (congrFun hr i).trans ?_
  exact fold_eq _ (entry m) i fun j => by
    rw [peer_eq]; exact operand_apply m j i

end Cert.LossSum

end
-- ==== Proof.Mm.LossClaims.lean ====
module

public import proofs.«01_k».proof.Defs
public import proofs.«01_k».proof.Proof.Gen.Kernel43
public import proofs.«01_k».proof.Proof.Gen.Kernel43.Launch
public import proofs.«01_k».proof.Proof.Gen.Reference43Ideal
public import proofs.«01_k».proof.Proof.Gen.Reference43Ideal.Run
public import proofs.«01_k».proof.Proof.Gen.Reference43Ideal.Read
public import proofs.«01_k».proof.Proof.Mm.LossSum
public import Idealize.ShloMosaic.Lib.Layout
public import Idealize.ShloMosaic.Lib.Pipeline.ValueKit

/-! The claims of the program that sums the loss over the devices. -/

@[expose] public section

noncomputable section

namespace Cert.LossSum

open Idealize.ShloMosaic Idealize.ShloMosaic.TcCoe Idealize.SL.Sem

theorem kernel_frame : Cert.quiescent_Kernel43 (hKernel43 := Cert.Kernel43.Gen.facts) := fun m g _ =>
  run_frame (F := Bits) m g

theorem ideal_frame : Cert.quiescent_Kernel43Ideal (hKernel43Ideal := Cert.Kernel43Ideal.Gen.facts) := fun m g _ =>
  run_frame (F := Ideal) m g

theorem reference_frame : Cert.quiescent_Reference43Ideal (hReference43Ideal := Cert.Reference43Ideal.Gen.facts) := fun m g _ =>
  (θ_run Cert.Reference43Ideal.defs _ _).mono (fun r h => And.intro (fun c => (h c).2) (sem_eq_zero_of_no_sems rfl r.2))
    (Cert.Reference43Ideal.Value.run (F := Ideal) m g)

section
open Cert.Reference43Ideal Cert.Reference43Ideal.Gen

/-- The reference is the sum of the first column. -/
theorem reference_eq (x : (⟨S8x128, .f32⟩ : BufTy).Contents (Elt Ideal)) (w : Fin 8 → Ideal .f32)
    (h : ∀ j : S8.Idx, (Read.val_main_v1 (F := Ideal) x) j = w (j 0)) (i : S_.Idx) :
    (Read.val_main_v2 (F := Ideal) x : S_.Idx → Ideal .f32) i = ∑ d, w d := by
  rw [Read.val_main_v2_apply, Read.val_main_cst_apply, Finset.sum_congr rfl fun j _ => h j]
  show Ideal.ofBits .f32 0x00000000#32 + _ = _
  rw [Ideal.ofBits_zero_f32, zero_add]
  exact Fintype.sum_equiv ⟨fun j : S8.Idx => (j 0 : Fin 8), fun d a => match a with | ⟨0, _⟩ => d,
    fun j => funext fun a => match a with | ⟨0, _⟩ => rfl, fun d => rfl⟩ _ _ fun j => rfl
end

/-- Every device ends with the reference's sum. -/
theorem algebraic : Cert.algebraic_Kernel43Ideal_Reference43Ideal (hKernel43Ideal := Cert.Kernel43Ideal.Gen.facts)
    (hReference43Ideal := Cert.Reference43Ideal.Gen.facts) := fun m g m' g' _ hm => by
  refine ⟨Cert.Reference43Ideal.Read.val_main_v2 (F := Ideal) (m' (((0 : Dev Cert.Reference43Ideal.nD).tc : Thread Cert.Reference43Ideal.nD Cert.Reference43Ideal.τ).loc Cert.Reference43Ideal.main_arg0)), ?_, ?_⟩
  · refine (θ_run _ _ _).mono (fun r h c => ⟨(h.1 c Cert.Kernel43Ideal.main_v3 (by decide)).trans (funext fun i => (sum_end m c i).trans
      (reference_eq _ (entry m) (fun j => ?_) i).symm), (h.1 c Cert.Kernel43Ideal.main_arg0 (by decide)).trans (arg0_end m c)⟩) (run_all m g)
    rw [Cert.Reference43Ideal.Read.val_main_v1_apply, Cert.Reference43Ideal.Read.val_main_v0_apply]
    unfold entry
    rw [hm (j 0)]
    refine .trans ?_ (Layout.block_apply _ _ _ _).symm
    refine congrArg _ (funext fun a => Fin.ext ?_)
    match a with
    | ⟨0, _⟩ => exact (Nat.div_one _).trans (Nat.mul_one _).symm
    | ⟨1, _⟩ => rfl
  · exact (θ_run _ _ _).mono (fun r h => h 0) (Cert.Reference43Ideal.Value.run (F := Ideal) m' g')

end Cert.LossSum

end
-- ==== Proof.Mm.CCoreBwdRef.lean ====
module

public import proofs.«01_k».proof.Proof.Mm.Ext
public import proofs.«01_k».proof.Proof.Gen.Reference44Ideal.Run
public import proofs.«01_k».proof.Proof.Gen.Reference44Ideal.Read
public import Idealize.ShloMosaic.Lib.KernelVsHost

/-! The gradients through the gated product of a short causal convolution with three taps: the mathematics, and the reference's value. -/

@[expose] public section
set_option maxRecDepth 16384
noncomputable section
namespace Cert.CCoreBwd
open Cert.Ext Idealize.ShloMosaic

variable (x d w : ℕ → ℕ → EReal)

/-- The product of the second and the third part of the columns, two rows of zeros before it. -/
def ext (r k : ℕ) : EReal := if r < 2 then 0 else x (r - 2) (1024 + k) * x (r - 2) (2048 + k)

/-- The gradient of the convolution's result, zeros below it. -/
def grad (r k : ℕ) : EReal := if r < 8192 then d r k * x r k else 0

/-- The gradient of the product. -/
def dq (r k : ℕ) : EReal := w 0 k * grad x d (r + 2) k + w 1 k * grad x d (r + 1) k + w 2 k * grad x d r k

/-- The gradient of the argument, the three parts of its columns side by side. -/
def dp (r k : ℕ) : EReal :=
  if k < 1024 then d r k * (w 0 k * ext x r k + w 1 k * ext x (r + 1) k + w 2 k * ext x (r + 2) k)
  else if k < 2048 then dq x d w r (k - 1024) * x r (k + 1024)
  else dq x d w r (k - 2048) * x r (k - 1024)

/-- The gradient of tap `r`. -/
def dtap (r k : ℕ) : EReal := ∑ R ∈ Finset.range 8192, grad x d R k * ext x (R + r) k

/-- The gradient of the taps, rows of zeros below it. -/
def dw (r k : ℕ) : EReal := if r < 3 then dtap x d r k else 0

/-- A host pad of rows, read at an index. -/
theorem padRows {a b n lo hi : ℕ} (f : ℕ → ℕ → EReal) (v : (⟨2, ![a, b]⟩ : Shape).Idx → EReal) (hv : ∀ i, v i = f (i 0).val (i 1).val)
    {u : Shape} (z : u.Idx → EReal) (h : (⟨2, ![a, b]⟩ : Shape).Pads ![lo, 0] ![hi, 0] ![0, 0] ⟨2, ![n, b]⟩) (hu : 0 < u.numel)
    (hz : z (Shape.Idx.first hu) = 0) (j : (⟨2, ![n, b]⟩ : Shape).Idx) :
    pad ⟨2, ![n, b]⟩ ![lo, 0] ![hi, 0] ![0, 0] v z h hu j
      = if lo ≤ (j 0).val ∧ (j 0).val < lo + a then f ((j 0).val - lo) (j 1).val else 0 := by
  by_cases hj : lo ≤ (j 0).val ∧ (j 0).val < lo + a
  · rw [if_pos hj]
    refine (pad_apply_of_inside _ _ _ v z h hu j (ValueIdx.ix2 ⟨(j 0).val - lo, by omega⟩ (j 1)) fun i => ?_).trans (hv _)
    match i with
    | ⟨0, _⟩ => show (j 0).val = lo + ((j 0).val - lo) * (0 + 1); omega
    | ⟨1, _⟩ => show (j 1).val = 0 + (j 1).val * (0 + 1); omega
  · rw [if_neg hj]
    refine (pad_apply_of_not_inside _ _ _ v z h hu j (0 : Fin 2) fun hin => hj ?_).trans hz
    have h1 : lo ≤ (j 0).val := hin.1
    have h3 : ((j 0).val - lo) / (0 + 1) < a := hin.2.2
    rw [Nat.zero_add, Nat.div_one] at h3
    omega

/-- One tap's share of the product's gradient. -/
theorem share (f : EReal) (lo R k : ℕ) (hlo : lo ≤ 2) :
    (if lo ≤ 2 + R ∧ 2 + R < lo + 8192 then f * (x (2 + R - lo) k * d (2 + R - lo) k) else 0) = f * grad x d (R + (2 - lo)) k := by
  unfold grad
  rw [show 2 + R - lo = R + (2 - lo) by omega]
  by_cases h : R + (2 - lo) < 8192
  · rw [if_pos (by omega), if_pos h, mul_comm (x _ k)]
  · rw [if_neg (by omega), if_neg h, mul_zero]

/-- One tap's gradient as the reference sums it. -/
theorem sum_tap (r k : ℕ) : (∑ R : Fin 8192, (x R.val k * d R.val k) * ext x (R.val + r) k) = dtap x d r k := by
  refine (fin_range 8192 fun R => (x R k * d R k) * ext x (R + r) k).trans (Finset.sum_congr rfl fun R hR => ?_)
  unfold grad
  rw [if_pos (Finset.mem_range.mp hR), mul_comm (x R k)]

open Cert.Reference44Ideal Cert.Reference44Ideal.Gen Cert.Reference44Ideal.Read

theorem r3 (i : S8192x1024.Idx) : val_main_v3 (F := Ideal) (E2 (φ := .f32) x) i = x (i 0).val (1024 + (i 1).val) * x (i 0).val (2048 + (i 1).val) := by
  rw [val_main_v3_apply, val_main_v1_apply, val_main_v2_apply]
  rfl

theorem r5 (i : S8194x1024.Idx) : val_main_v5 (F := Ideal) (E2 (φ := .f32) x) i = ext x (i 0).val (i 1).val := by
  unfold val_main_v5 ext
  have h0 : (i 0).val < 8194 := (i 0).isLt
  by_cases h : (i 0).val < 2
  · rw [if_pos h]
    refine (concatenate_pair_apply_left (t := S8194x1024) (s₁ := S2x1024) (s₂ := S8192x1024)
      0 _ _ _ i rfl (ValueIdx.ix2 ⟨(i 0).val, h⟩ (i 1)) (fun b => by fin_cases b <;> rfl)).trans ?_
    rw [val_main_v4_apply]
    exact Ideal.ofBits_zero_f32
  · rw [if_neg h]
    refine (concatenate_pair_apply_right (t := S8194x1024) (s₁ := S2x1024) (s₂ := S8192x1024)
      0 _ _ _ i rfl rfl (ValueIdx.ix2 ⟨(i 0).val - 2, by omega⟩ (i 1)) (fun b hb => ?_) ?_).trans (r3 x _)
    · match b, hb with
      | ⟨0, _⟩, hb => exact absurd rfl hb
      | ⟨1, _⟩, _ => rfl
    · show (i 0).val - 2 + 2 = (i 0).val
      omega

theorem r9 (i : S8192x1024.Idx) : val_main_v9 (F := Ideal) (E2 (φ := .f32) x) i = ext x (i 0).val (i 1).val := by
  rw [val_main_v9_apply, r5]

theorem r15 (i : S8192x1024.Idx) : val_main_v15 (F := Ideal) (E2 (φ := .f32) x) i = ext x ((i 0).val + 1) (i 1).val := by
  rw [val_main_v15_apply, r5]
  exact congrArg (ext x · (i 1).val) (Nat.add_comm 1 _)

theorem r22 (i : S8192x1024.Idx) : val_main_v22 (F := Ideal) (E2 (φ := .f32) x) i = ext x ((i 0).val + 2) (i 1).val := by
  rw [val_main_v22_apply, r5]
  exact congrArg (ext x · (i 1).val) (Nat.add_comm 2 _)

theorem r10 (i : S1x1024.Idx) : val_main_v10 (F := Ideal) (E2 (φ := .f32) w) i = w 0 (i 1).val := by
  rw [val_main_v10_apply, val_main_v8_apply, val_main_v7_apply]
  exact congrArg (w 0) (Nat.mod_eq_of_lt (i 1).isLt)

theorem r16 (i : S1x1024.Idx) : val_main_v16 (F := Ideal) (E2 (φ := .f32) w) i = w 1 (i 1).val := by
  rw [val_main_v16_apply, val_main_v14_apply, val_main_v13_apply]
  exact congrArg (w 1) (Nat.mod_eq_of_lt (i 1).isLt)

theorem r23 (i : S1x1024.Idx) : val_main_v23 (F := Ideal) (E2 (φ := .f32) w) i = w 2 (i 1).val := by
  rw [val_main_v23_apply, val_main_v21_apply, val_main_v20_apply]
  exact congrArg (w 2) (Nat.mod_eq_of_lt (i 1).isLt)

theorem r26 (i : S8192x1024.Idx) : val_main_v26 (F := Ideal) (E2 (φ := .f32) x) (E2 (φ := .f32) w) i
    = w 0 (i 1).val * ext x (i 0).val (i 1).val + w 1 (i 1).val * ext x ((i 0).val + 1) (i 1).val + w 2 (i 1).val * ext x ((i 0).val + 2) (i 1).val := by
  rw [val_main_v26_apply, val_main_v25_apply, val_main_v19_apply, val_main_v12_apply, val_main_v18_apply, val_main_v11_apply, val_main_v17_apply,
    val_main_v24_apply, r9, r15, r22, r10, r16, r23]
  rfl

theorem r28 (i : S8192x1024.Idx) : val_main_v28 (F := Ideal) (E2 (φ := .f32) x) (E2 (φ := .f32) d) i = x (i 0).val (i 1).val * d (i 0).val (i 1).val := by
  rw [val_main_v28_apply, val_main_v0_apply]
  rfl

theorem r31 (i : S8192x1024.Idx) : val_main_v31 (F := Ideal) (E2 (φ := .f32) x) (E2 (φ := .f32) d) (E2 (φ := .f32) w) i
    = w 2 (i 1).val * (x (i 0).val (i 1).val * d (i 0).val (i 1).val) := by
  rw [val_main_v31_apply, val_main_v30_apply, r23, r28]
  rfl

theorem r40 (i : S8192x1024.Idx) : val_main_v40 (F := Ideal) (E2 (φ := .f32) x) (E2 (φ := .f32) d) (E2 (φ := .f32) w) i
    = w 1 (i 1).val * (x (i 0).val (i 1).val * d (i 0).val (i 1).val) := by
  rw [val_main_v40_apply, val_main_v39_apply, r16, r28]
  rfl

theorem r51 (i : S8192x1024.Idx) : val_main_v51 (F := Ideal) (E2 (φ := .f32) x) (E2 (φ := .f32) d) (E2 (φ := .f32) w) i
    = w 0 (i 1).val * (x (i 0).val (i 1).val * d (i 0).val (i 1).val) := by
  rw [val_main_v51_apply, val_main_v50_apply, r10, r28]
  rfl

theorem r62 (i : S8192x1024.Idx) : val_main_v62 (F := Ideal) (E2 (φ := .f32) x) (E2 (φ := .f32) d) (E2 (φ := .f32) w) i
    = dq x d w (i 0).val (i 1).val := by
  rw [val_main_v62_apply, val_main_v57_apply, val_main_v46_apply]
  have e2 := (padRows (fun r k => w 2 k * (x r k * d r k)) _ (r31 x d w) (val_main_cst_3 (F := Ideal)) pads_S8192x1024_S8194x1024_200_000 h_S_
    Ideal.ofBits_zero_f32 (idx_main_v62 i)).trans (share x d (w 2 (i 1).val) 2 (i 0).val (i 1).val (by decide))
  have e1 := (padRows (fun r k => w 1 k * (x r k * d r k)) _ (r40 x d w) (val_main_cst_7 (F := Ideal)) pads_S8192x1024_S8194x1024_110_000 h_S_
    Ideal.ofBits_zero_f32 (idx_main_v62 i)).trans (share x d (w 1 (i 1).val) 1 (i 0).val (i 1).val (by decide))
  have e0 := (padRows (fun r k => w 0 k * (x r k * d r k)) _ (r51 x d w) (val_main_cst_11 (F := Ideal)) pads_S8192x1024_S8194x1024_020_000 h_S_
    Ideal.ofBits_zero_f32 (idx_main_v62 i)).trans (share x d (w 0 (i 1).val) 0 (i 0).val (i 1).val (by decide))
  refine (congrArg₂ (fun a b : EReal => a + b) (congrArg₂ (fun a b : EReal => a + b) e2 e1) e0).trans ?_
  unfold dq
  show w 2 _ * grad x d (i 0).val _ + w 1 _ * grad x d ((i 0).val + 1) _ + w 0 _ * grad x d ((i 0).val + 2) _ = _
  rw [add_comm (_ + _) (w 0 _ * _), add_comm (w 2 _ * _), ← add_assoc]

theorem ref66 : val_main_v66 (F := Ideal) (E2 (φ := .f32) x) (E2 (φ := .f32) d) (E2 (φ := .f32) w) = E2 (φ := .bf16) (dp x d w) := by
  funext i
  have h1 : (i 1).val < 3072 := (i 1).isLt
  rw [val_main_v66_apply]
  refine Eq.trans (b := val_main_v65 (F := Ideal) (E2 (φ := .f32) x) (E2 (φ := .f32) d) (E2 (φ := .f32) w) i) rfl ?_
  show _ = dp x d w (i 0).val (i 1).val
  unfold val_main_v65 dp
  by_cases ha : (i 1).val < 1024
  · rw [if_pos ha]
    refine (concatenate_apply_piece (t := S8192x3072) 1 _ _ i 0 (by show 0 < 3; decide) S8192x1024 _ rfl rfl 0 rfl (ValueIdx.ix2 (i 0) ⟨(i 1).val, ha⟩)
      (fun b hb => ?_) (Nat.zero_add _)).trans ?_
    · match b, hb with
      | ⟨0, _⟩, _ => rfl
      | ⟨1, _⟩, hb => exact absurd rfl hb
    · rw [val_main_v29_apply, r26]
      rfl
  · rw [if_neg ha]
    by_cases hb : (i 1).val < 2048
    · rw [if_pos hb]
      refine (concatenate_apply_piece (t := S8192x3072) 1 _ _ i 1 (by show 1 < 3; decide) S8192x1024 _ rfl rfl 1024 rfl
        (ValueIdx.ix2 (i 0) ⟨(i 1).val - 1024, by omega⟩) (fun b hb => ?_) (Nat.add_sub_cancel' (by omega))).trans ?_
      · match b, hb with
        | ⟨0, _⟩, _ => rfl
        | ⟨1, _⟩, hb => exact absurd rfl hb
      · rw [val_main_v64_apply, r62, val_main_v2_apply]
        show dq x d w (i 0).val ((i 1).val - 1024) * x (i 0).val (2048 + ((i 1).val - 1024)) = _
        rw [show 2048 + ((i 1).val - 1024) = (i 1).val + 1024 by omega]
    · rw [if_neg hb]
      refine (concatenate_apply_piece (t := S8192x3072) 1 _ _ i 2 (by show 2 < 3; decide) S8192x1024 _ rfl rfl 2048 rfl
        (ValueIdx.ix2 (i 0) ⟨(i 1).val - 2048, by omega⟩) (fun b hb => ?_) (Nat.add_sub_cancel' (by omega))).trans ?_
      · match b, hb with
        | ⟨0, _⟩, _ => rfl
        | ⟨1, _⟩, hb => exact absurd rfl hb
      · rw [val_main_v63_apply, r62, val_main_v1_apply]
        show x (i 0).val (1024 + ((i 1).val - 2048)) * dq x d w (i 0).val ((i 1).val - 2048) = _
        rw [show 1024 + ((i 1).val - 2048) = (i 1).val - 1024 by omega, mul_comm]

/-- A sum with nothing before it, over one row. -/
theorem one_row (f : Fin 1 → EReal) : (0 : EReal) + ∑ k : Fin 1, f k = f 0 := by rw [zero_add, Fin.sum_univ_one]

theorem r37 (i : S1x1024.Idx) : val_main_v37 (F := Ideal) (E2 (φ := .f32) x) (E2 (φ := .f32) d) i = dtap x d 2 (i 1).val := by
  rw [val_main_v37_apply, val_main_v35_apply]
  refine (congrArg (· + _) Ideal.ofBits_zero_f32).trans ((one_row _).trans ?_)
  rw [val_main_v34_apply, val_main_v33_apply]
  refine (congrArg (· + _) Ideal.ofBits_zero_f32).trans ((zero_add _).trans (Eq.trans (Finset.sum_congr rfl fun R _ => ?_) (sum_tap x d 2 (i 1).val)))
  rw [val_main_v32_apply, r28, r22]
  show x R.val (0 * 1024 + (i 1).val) * d R.val (0 * 1024 + (i 1).val) * ext x (R.val + 2) (0 * 1024 + (i 1).val) = _
  rw [Nat.zero_mul, Nat.zero_add]

theorem r47 (i : S1x1024.Idx) : val_main_v47 (F := Ideal) (E2 (φ := .f32) x) (E2 (φ := .f32) d) i = dtap x d 1 (i 1).val := by
  rw [val_main_v47_apply, val_main_v44_apply]
  refine (congrArg (· + _) Ideal.ofBits_zero_f32).trans ((one_row _).trans ?_)
  rw [val_main_v43_apply, val_main_v42_apply]
  refine (congrArg (· + _) Ideal.ofBits_zero_f32).trans ((zero_add _).trans (Eq.trans (Finset.sum_congr rfl fun R _ => ?_) (sum_tap x d 1 (i 1).val)))
  rw [val_main_v41_apply, r28, r15]
  show x R.val (0 * 1024 + (i 1).val) * d R.val (0 * 1024 + (i 1).val) * ext x (R.val + 1) (0 * 1024 + (i 1).val) = _
  rw [Nat.zero_mul, Nat.zero_add]

theorem r58 (i : S1x1024.Idx) : val_main_v58 (F := Ideal) (E2 (φ := .f32) x) (E2 (φ := .f32) d) i = dtap x d 0 (i 1).val := by
  rw [val_main_v58_apply, val_main_v55_apply]
  refine (congrArg (· + _) Ideal.ofBits_zero_f32).trans ((one_row _).trans ?_)
  rw [val_main_v54_apply, val_main_v53_apply]
  refine (congrArg (· + _) Ideal.ofBits_zero_f32).trans ((zero_add _).trans (Eq.trans (Finset.sum_congr rfl fun R _ => ?_) (sum_tap x d 0 (i 1).val)))
  rw [val_main_v52_apply, r28, r9]
  show x R.val (0 * 1024 + (i 1).val) * d R.val (0 * 1024 + (i 1).val) * ext x R.val (0 * 1024 + (i 1).val) = _
  rw [Nat.zero_mul, Nat.zero_add]
  rfl

theorem r60 (i : S3x1024.Idx) : val_main_v60 (F := Ideal) (E2 (φ := .f32) x) (E2 (φ := .f32) d) i = dtap x d (i 0).val (i 1).val := by
  rw [val_main_v60_apply, val_main_v49_apply]
  have e2 := padRows (fun _ k => dtap x d 2 k) _ (r37 x d) (val_main_cst_4 (F := Ideal)) pads_S1x1024_S3x1024_200_000 h_S_ Ideal.ofBits_zero_f32 i
  have e1 := padRows (fun _ k => dtap x d 1 k) _ (r47 x d) (val_main_cst_8 (F := Ideal)) pads_S1x1024_S3x1024_110_000 h_S_ Ideal.ofBits_zero_f32 i
  have e0 := padRows (fun _ k => dtap x d 0 k) _ (r58 x d) (val_main_cst_12 (F := Ideal)) pads_S1x1024_S3x1024_020_000 h_S_ Ideal.ofBits_zero_f32 i
  refine (congrArg₂ (fun a b : EReal => a + b) (congrArg₂ (fun a b : EReal => a + b) e2 e1) e0).trans ?_
  have h3 : (i 0).val < 3 := (i 0).isLt
  show (if _ then _ else _ : EReal) + (if _ then _ else _) + (if _ then _ else _) = _
  rcases (by omega : (i 0).val = 0 ∨ (i 0).val = 1 ∨ (i 0).val = 2) with e | e | e
  · rw [e, if_neg (by omega), if_neg (by omega), if_pos (by omega), zero_add, zero_add]
  · rw [e, if_neg (by omega), if_pos (by omega), if_neg (by omega), zero_add, add_zero]
  · rw [e, if_pos (by omega), if_neg (by omega), if_neg (by omega), add_zero, add_zero]

theorem ref67 : val_main_v67 (F := Ideal) (E2 (φ := .f32) x) (E2 (φ := .f32) d) = E2 (φ := .f32) (dw x d) := by
  funext i
  refine (padRows (dtap x d) _ (r60 x d) (val_main_call0_v0 (F := Ideal)) pads_S3x1024_S8x1024_050_000 h_S_ ?_ i).trans ?_
  · exact sitofp_zero (φ := .f32)
  · show _ = dw x d (i 0).val (i 1).val
    unfold dw
    by_cases h : (i 0).val < 3
    · rw [if_pos h, if_pos (by omega), Nat.sub_zero]
    · rw [if_neg h, if_neg (by omega)]

end Cert.CCoreBwd
end
-- ==== Proof.Mm.CCoreBwd.lean ====
module

public import proofs.«01_k».proof.Defs
public import proofs.«01_k».proof.Proof.Mm.Shift
public import proofs.«01_k».proof.Proof.Mm.CCoreBwdRef
public import proofs.«01_k».proof.Proof.Gen.Kernel44Ideal.Value
public import Idealize.ShloMosaic.Lib.Pipeline.ValueKit
public import Idealize.ShloMosaic.Lib.Pipeline.ReadBack

/-! The third kind of layer's mixing, backward: what the kernel leaves. -/

@[expose] public section
set_option maxRecDepth 16384
noncomputable section
namespace Cert.CCoreBwd
open Cert.Kernel44Ideal Cert.Kernel44Ideal.Gen Cert.Ext Cert.Lift Idealize.ShloMosaic Idealize.ShloMosaic.TcCoe Idealize.SL.Sem

variable (m : (ℓ : Loc nD τ sig) → Buf (Elt Ideal) ℓ) (c : Dev nD) (x d w : ℕ → ℕ → EReal)

/-! What the call takes at a point. -/

theorem idx (t : Fin cfg0.N) : (win0_0.index t 0 = t.val ∧ win0_0.index t 1 = 0) ∧ (win0_1.index t 0 = 32 * t.val - 1 ∧ win0_1.index t 1 = 0)
    ∧ (win0_2.index t 0 = min (32 * t.val + 32) 1023 ∧ win0_2.index t 1 = 0) ∧ (win0_3.index t 0 = t.val ∧ win0_3.index t 1 = 0)
    ∧ (win0_4.index t 0 = min (32 * t.val + 32) 1023 ∧ win0_4.index t 1 = 0) ∧ (win0_5.index t 0 = 0 ∧ win0_5.index t 1 = 0)
    ∧ (win0_6.index t 0 = t.val ∧ win0_6.index t 1 = 0) ∧ (win0_7.index t 0 = 0 ∧ win0_7.index t 1 = 0) :=
  (by decide +kernel : ∀ t : Fin grid0.N, (win0_0.index t 0 = t.val ∧ win0_0.index t 1 = 0) ∧ (win0_1.index t 0 = 32 * t.val - 1 ∧ win0_1.index t 1 = 0)
    ∧ (win0_2.index t 0 = min (32 * t.val + 32) 1023 ∧ win0_2.index t 1 = 0) ∧ (win0_3.index t 0 = t.val ∧ win0_3.index t 1 = 0)
    ∧ (win0_4.index t 0 = min (32 * t.val + 32) 1023 ∧ win0_4.index t 1 = 0) ∧ (win0_5.index t 0 = 0 ∧ win0_5.index t 1 = 0)
    ∧ (win0_6.index t 0 = t.val ∧ win0_6.index t 1 = 0) ∧ (win0_7.index t 0 = 0 ∧ win0_7.index t 1 = 0)) t

theorem first (t : Fin cfg0.N) : Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1) t

theorem last (t : Fin cfg0.N) : Scalar.cmpi .eq (BitVec.ofNat 32 (grid0.coords t 0).val) 31#32 = if t.val = 31 then 1#1 else 0#1 :=
  (by decide +kernel : ∀ t : Fin grid0.N, Scalar.cmpi .eq (BitVec.ofNat 32 (grid0.coords t 0).val) 31#32 = if t.val = 31 then 1#1 else 0#1) t

theorem bits_one : Ideal.ofBits .f32 0x3F800000#32 = 1 := by
  have h : Ideal.ofBits .f32 0x3F800000#32 = ((1 : ℝ) : EReal) := by
    simp [Ideal.ofBits, Ideal.ieee, -EReal.coe_mul]; norm_num
  exact h.trans EReal.coe_one

theorem iblk0 (e : V m c main_arg0 = E2 (φ := .f32) x) (t : Fin cfg0.N) : iblk m c 0 t = E2 (φ := .f32) (rows 256 t.val x) := by
  funext y
  show V m c main_arg0 ((win0_0.rect t).emb y) = _
  rw [e]
  unfold E2 rows
  rw [win0_0.rect_emb_val t y 0, win0_0.rect_emb_val_of_index_zero t 1 (idx t).1.2 y, (idx t).1.1, Nat.mul_comm]
  rfl

theorem iblk1 (e : V m c main_arg0 = E2 (φ := .f32) x) (t : Fin cfg0.N) : iblk m c 1 t = E2 (φ := .f32) (rows 8 (32 * t.val - 1) x) := by
  funext y
  show V m c main_arg0 ((win0_1.rect t).emb y) = _
  rw [e]
  unfold E2 rows
  rw [win0_1.rect_emb_val t y 0, win0_1.rect_emb_val_of_index_zero t 1 (idx t).2.1.2 y, (idx t).2.1.1, Nat.mul_comm]
  rfl

theorem iblk2 (e : V m c main_arg0 = E2 (φ := .f32) x) (t : Fin cfg0.N) : iblk m c 2 t = E2 (φ := .f32) (rows 8 (min (32 * t.val + 32) 1023) x) := by
  funext y
  show V m c main_arg0 ((win0_2.rect t).emb y) = _
  rw [e]
  unfold E2 rows
  rw [win0_2.rect_emb_val t y 0, win0_2.rect_emb_val_of_index_zero t 1 (idx t).2.2.1.2 y, (idx t).2.2.1.1, Nat.mul_comm]
  rfl

theorem iblk3 (e : V m c main_arg1 = E2 (φ := .f32) d) (t : Fin cfg0.N) : iblk m c 3 t = E2 (φ := .f32) (rows 256 t.val d) := by
  funext y
  show V m c main_arg1 ((win0_3.rect t).emb y) = _
  rw [e]
  unfold E2 rows
  rw [win0_3.rect_emb_val t y 0, win0_3.rect_emb_val_of_index_zero t 1 (idx t).2.2.2.1.2 y, (idx t).2.2.2.1.1, Nat.mul_comm]
  rfl

theorem iblk4 (e : V m c main_arg1 = E2 (φ := .f32) d) (t : Fin cfg0.N) : iblk m c 4 t = E2 (φ := .f32) (rows 8 (min (32 * t.val + 32) 1023) d) := by
  funext y
  show V m c main_arg1 ((win0_4.rect t).emb y) = _
  rw [e]
  unfold E2 rows
  rw [win0_4.rect_emb_val t y 0, win0_4.rect_emb_val_of_index_zero t 1 (idx t).2.2.2.2.1.2 y, (idx t).2.2.2.2.1.1, Nat.mul_comm]
  rfl

theorem iblk5 (e : V m c main_arg2 = E2 (φ := .f32) w) (t : Fin cfg0.N) : iblk m c 5 t = E2 (φ := .f32) w := by
  funext y
  show V m c main_arg2 ((win0_5.rect t).emb y) = _
  rw [e]
  unfold E2
  rw [win0_5.rect_emb_val_of_index_zero t 0 (idx t).2.2.2.2.2.1.1 y, win0_5.rect_emb_val_of_index_zero t 1 (idx t).2.2.2.2.2.1.2 y]

/-! The scratch. -/

theorem pay3 (t : Fin cfg0.N) : k0_pay3 (F := Ideal) (grid0.coords t) = if t.val = 31 then 0 else 1 := by
  show Scalar.select (Scalar.cmpi .eq (BitVec.ofNat 32 (grid0.coords t 0).val) 31#32) (Ideal.ofBits .f32 0x00000000#32) (Ideal.ofBits .f32 0x3F800000#32) = _
  rw [last, Ideal.ofBits_zero_f32, bits_one]
  split_ifs <;> rfl

theorem pay4 (t : Fin cfg0.N) (f g : ℕ → ℕ → EReal) : k0_pay4 (F := Ideal) (grid0.coords t) (E2 (φ := .f32) f) (E2 (φ := .f32) g)
    = E2 (φ := .f32) fun r k => f r k * g r k * if t.val = 0 then 0 else 1 := by
  refine (shapeCast_self _ _).trans ?_
  funext j
  refine congrArg (fun z => f (j 0).val (j 1).val * g (j 0).val (j 1).val * z) ?_
  show Scalar.select (Scalar.cmpi .eq (BitVec.ofNat 32 (grid0.coords t 0).val) 0#32) (Ideal.ofBits .f32 0x00000000#32) (Ideal.ofBits .f32 0x3F800000#32) = _
  rw [first, Ideal.ofBits_zero_f32, bits_one]
  split_ifs <;> rfl

theorem pay5 (f g : ℕ → ℕ → EReal) : k0_pay5 (F := Ideal) (E2 (φ := .f32) f) (E2 (φ := .f32) g) = E2 (φ := .f32) fun r k => f r k * g r k :=
  (shapeCast_self _ _).trans rfl

theorem pay6 (f g : ℕ → ℕ → EReal) : k0_pay6 (F := Ideal) (E2 (φ := .f32) f) (E2 (φ := .f32) g) = E2 (φ := .f32) fun r k => f r k * g r k :=
  (shapeCast_self _ _).trans rfl

theorem pay7 (z : EReal) (f g : ℕ → ℕ → EReal) : k0_pay7 (F := Ideal) z (E2 (φ := .f32) f) (E2 (φ := .f32) g) = E2 (φ := .f32) fun r k => f r k * g r k * z :=
  (shapeCast_self _ _).trans rfl

/-- A rectangle of a buffer stored in two pieces, one above the other. -/
theorem readCov_stack2 {a b h v n k o p : ℕ} {sig : RefSig} {κ : Kind} {sp : Space} (V : View sig κ sp ⟨2, ![a, b]⟩ .f32) (f g : ℕ → ℕ → EReal)
    (hk : n + k = a) (ig : ∀ i, ![n, 0] i + ![k, b] i ≤ (⟨2, ![a, b]⟩ : Shape).size i)
    (jf : ∀ i, ![0, 0] i + ![n, b] i ≤ (⟨2, ![a, b]⟩ : Shape).size i)
    (inb : ∀ i, ![o, p] i + ![h, v] i ≤ (⟨2, ![a, b]⟩ : Shape).size i) :
    V.readCov [(⟨Rect.unit ![n, 0] ![k, b] ig, (E2 g : FVec Ideal ⟨2, ![k, b]⟩ .f32)⟩ : View.Piece (Elt Ideal) ⟨2, ![a, b]⟩ .f32),
        ⟨Rect.unit ![0, 0] ![n, b] jf, (E2 f : FVec Ideal ⟨2, ![n, b]⟩ .f32)⟩] (Rect.unit ![o, p] ![h, v] inb).toLoadRect
      = (E2 fun r c => stack n f g (o + r) (p + c) : FVec Ideal ⟨2, ![h, v]⟩ .f32) := by
  rw [View.readCov_eq_canon']
  refine (congrArg (fun G => View.ld (S := ⟨2, ![a, b]⟩) (Val := Elt Ideal) (e' := .f32) G (Rect.unit ![o, p] ![h, v] inb)) (canon_of_agrees
    (S := ⟨2, ![a, b]⟩) (e := .f32) (G := (E2 (stack n f g) : FVec Ideal ⟨2, ![a, b]⟩ .f32)) ?_ ?_)).trans (ld_E2 _ inb)
  · refine agrees_E2 _ _ _ _ (fun r c hr hc => ?_) (agrees_E2 _ _ _ _ (fun r c hr hc => ?_) (agrees_nil _))
    · unfold stack
      rw [if_neg (by omega), Nat.add_sub_cancel_left, Nat.zero_add]
    · unfold stack
      rw [Nat.zero_add, Nat.zero_add, if_pos hr]
  · intro y
    have y0 : (y 0).val < a := (y 0).isLt
    have y1 : (y 1).val < b := (y 1).isLt
    by_cases hy : (y 0).val < n
    · refine ⟨_, List.mem_cons_of_mem _ List.mem_cons_self, ?_⟩
      rw [Rect.mem_set_unit]
      intro i
      match i with
      | ⟨0, _⟩ => exact ⟨Nat.zero_le _, (Nat.zero_add n).symm ▸ hy⟩
      | ⟨1, _⟩ => exact ⟨Nat.zero_le _, (Nat.zero_add b).symm ▸ y1⟩
    · refine ⟨_, List.mem_cons_self, ?_⟩
      rw [Rect.mem_set_unit]
      intro i
      match i with
      | ⟨0, _⟩ => exact ⟨not_lt.mp hy, hk.symm ▸ y0⟩
      | ⟨1, _⟩ => exact ⟨Nat.zero_le _, (Nat.zero_add b).symm ▸ y1⟩

theorem zero_E2 {a b : ℕ} : (broadcast ⟨2, ![a, b]⟩ (Scalar.ofBits (F := Ideal) .f32 0x00000000#32 : EReal) : FVec Ideal ⟨2, ![a, b]⟩ .f32) = E2 fun _ _ => 0 := by
  funext j
  exact Ideal.ofBits_zero_f32

theorem row_E2 (f : ℕ → ℕ → EReal) : broadcastTo S16x512 (E2 f : FVec Ideal ⟨2, ![1, 512]⟩ .f32) broadcasts_S1x512_S16x512
    = (E2 fun _ k => f 0 k : FVec Ideal ⟨2, ![16, 512]⟩ .f32) := bcast_row_E2 f (by decide) _

theorem add_zero_E2 (f : ℕ → ℕ → EReal) : (E2 fun r k => 0 + f r k : FVec Ideal ⟨2, ![16, 512]⟩ .f32) = E2 f := by
  simp only [zero_add]

/-- The gated product around the block, from eight rows before it on. -/
def prodAt (t : ℕ) : ℕ → ℕ → EReal :=
  stack 8 (fun r k => rows 8 (32 * t - 1) x (0 + r) (1024 + k) * rows 8 (32 * t - 1) x (0 + r) (2048 + k) * if t = 0 then 0 else 1)
    (fun r k => rows 256 t x (0 + r) (1024 + k) * rows 256 t x (0 + r) (2048 + k))

/-- The gradient of the convolution's result from the block's first row on, with eight rows after it. -/
def gradAt (t : ℕ) : ℕ → ℕ → EReal :=
  stack 256 (fun r k => rows 256 t d r k * rows 256 t x (0 + r) (0 + k))
    (fun r k => rows 8 (min (32 * t + 32) 1023) d r k * rows 8 (min (32 * t + 32) 1023) x (0 + r) (0 + k) * if t = 31 then 0 else 1)

section Block
variable (t : ℕ) (E D : ℕ → ℕ → EReal)

/-- The gradient of the product, row `r` of the block. -/
def dqAt (r k : ℕ) : EReal := w 0 k * D (r + 2) k + w 1 k * D (r + 1) k + w 2 k * D r k

/-- The block of the first result. -/
def dpAt (r k : ℕ) : EReal :=
  if k < 1024 then rows 256 t d r k * (w 0 k * E (r + 6) k + w 1 k * E (r + 7) k + w 2 k * E (r + 8) k)
  else if k < 2048 then dqAt w D r (k - 1024) * rows 256 t x r (k + 1024)
  else dqAt w D r (k - 2048) * rows 256 t x r (k - 1024)

/-- What the block adds to the second result. -/
def dwAt (r k : ℕ) : EReal := if r < 3 then ∑ R ∈ Finset.range 256, D R k * E (R + (6 + r)) k else 0

theorem gate (o a b e p r k : ℕ) (ha : a = o + 6) (hb : b = o + 7) (he : e = o + 8) (hp : p + 512 ≤ 1024) (hk : k < 512) :
    rows 256 t d (o + r) (p + k) * (0 + w (0 + 0) (p + k) * E (a + r) (p + k) + w (1 + 0) (p + k) * E (b + r) (p + k) + w (2 + 0) (p + k) * E (e + r) (p + k))
      = dpAt x d w t E D (o + r) (p + k) := by
  unfold dpAt
  rw [if_pos (by omega), zero_add, ha, hb, he, Nat.add_right_comm o 6, Nat.add_right_comm o 7, Nat.add_right_comm o 8]

theorem left (o a b p q s r k : ℕ) (ha : a = o + 2) (hb : b = o + 1) (hs : s = 1024 + p) (hq : q = 2048 + p) (hp : p + 512 ≤ 1024) (hk : k < 512) :
    (0 + w (0 + 0) (p + k) * D (a + r) (p + k) + w (1 + 0) (p + k) * D (b + r) (p + k) + w (2 + 0) (p + k) * D (o + r) (p + k)) * rows 256 t x (o + r) (q + k)
      = dpAt x d w t E D (o + r) (s + k) := by
  unfold dpAt dqAt
  rw [if_neg (by omega), if_pos (by omega), zero_add, ha, hb, Nat.add_right_comm o 2, Nat.add_right_comm o 1, show s + k - 1024 = p + k by omega,
    show s + k + 1024 = q + k by omega]

theorem right (o a b p q s r k : ℕ) (ha : a = o + 2) (hb : b = o + 1) (hs : s = 2048 + p) (hq : q = 1024 + p) (hp : p + 512 ≤ 1024) (hk : k < 512) :
    (0 + w (0 + 0) (p + k) * D (a + r) (p + k) + w (1 + 0) (p + k) * D (b + r) (p + k) + w (2 + 0) (p + k) * D (o + r) (p + k)) * rows 256 t x (o + r) (q + k)
      = dpAt x d w t E D (o + r) (s + k) := by
  unfold dpAt dqAt
  rw [if_neg (by omega), if_neg (by omega), zero_add, ha, hb, Nat.add_right_comm o 2, Nat.add_right_comm o 1, show s + k - 2048 = p + k by omega,
    show s + k - 1024 = q + k by omega]

end Block

/-- A sum over a block's rows, sixteen rows at a time. -/
theorem sum_sixteen (F : ℕ → EReal) : ∑ j ∈ Finset.range 16, (0 + F (0 + j) + F (16 + j) + F (32 + j) + F (48 + j) + F (64 + j) + F (80 + j) + F (96 + j) + F (112 + j) + F (128 + j) + F (144 + j) + F (160 + j) + F (176 + j) + F (192 + j) + F (208 + j) + F (224 + j) + F (240 + j)) = ∑ R ∈ Finset.range 256, F R := by
  have cut : ∀ n, ∑ R ∈ Finset.range (n + 16), F R = ∑ R ∈ Finset.range n, F R + ∑ j ∈ Finset.range 16, F (n + j) := fun n => Finset.sum_range_add F n 16
  rw [show ∑ R ∈ Finset.range 256, F R = _ from cut 240, show ∑ R ∈ Finset.range 240, F R = _ from cut 224, show ∑ R ∈ Finset.range 224, F R = _ from cut 208, show ∑ R ∈ Finset.range 208, F R = _ from cut 192, show ∑ R ∈ Finset.range 192, F R = _ from cut 176, show ∑ R ∈ Finset.range 176, F R = _ from cut 160, show ∑ R ∈ Finset.range 160, F R = _ from cut 144, show ∑ R ∈ Finset.range 144, F R = _ from cut 128, show ∑ R ∈ Finset.range 128, F R = _ from cut 112, show ∑ R ∈ Finset.range 112, F R = _ from cut 96, show ∑ R ∈ Finset.range 96, F R = _ from cut 80, show ∑ R ∈ Finset.range 80, F R = _ from cut 64, show ∑ R ∈ Finset.range 64, F R = _ from cut 48, show ∑ R ∈ Finset.range 48, F R = _ from cut 32, show ∑ R ∈ Finset.range 32, F R = _ from cut 16, show ∑ R ∈ Finset.range 16, F R = _ from cut 0]
  simp only [Finset.sum_add_distrib, Finset.sum_const_zero, Finset.range_zero, Finset.sum_empty]

theorem colsum_E2 {a b : ℕ} {φ : FTy} (f : ℕ → ℕ → EReal) (acc : BitVec φ.bits) (h : (⟨2, ![a, b]⟩ : Shape).Reduces [0] ⟨1, ![b]⟩)
    (hφ : FKind.Formats φ) (hacc : acc = FKind.add.neutral φ hφ) (hc : (⟨1, ![b]⟩ : Shape).ShapeCasts ⟨2, ![1, b]⟩) :
    shapeCast ⟨2, ![1, b]⟩ (multiReduction .add [0] ⟨1, ![b]⟩ (E2 f : FVec Ideal ⟨2, ![a, b]⟩ φ) acc h hφ hacc) hc
      = E2 fun _ k => ∑ r ∈ Finset.range a, f r k := by
  funext j
  refine (shapeCast_apply _ hc j (ValueIdx.ix1 (j 1)) ?_).trans ?_
  · rw [Shape.rowMajor_val_one, Shape.rowMajor_val_two]
    have h0 : (j 0).val < 1 := (j 0).isLt
    show (j 1).val = (j 0).val * b + (j 1).val
    rw [Nat.lt_one_iff.mp h0, Nat.zero_mul, Nat.zero_add]
  · rw [Ideal.multiReduction_add_single]
    exact fin_range a fun r => f r (j 1).val

theorem addCols (f g : ℕ → ℕ → EReal) : addf (E2 g : FVec Ideal S1x512 .f32)
      (shapeCast S1x512 (multiReduction (F := Ideal) .add [0] S512 (E2 f : FVec Ideal S16x512 .f32) 0x00000000#32 reduces_S16x512_S512 (.inl rfl) rfl)
        shapeCasts_S512_S1x512) = (E2 fun r k => g r k + ∑ j ∈ Finset.range 16, f j k : FVec Ideal S1x512 .f32) :=
  (congrArg (addf (E2 g : FVec Ideal S1x512 .f32)) (colsum_E2 f _ _ _ _ _)).trans (addf_E2 _ _)

/-- The same, the row cast to its own shape first. -/
theorem addCols' (f g : ℕ → ℕ → EReal) : addf (shapeCast S1x512 (E2 g : FVec Ideal S1x512 .f32) shapeCasts_S1x512_S1x512)
      (shapeCast S1x512 (multiReduction (F := Ideal) .add [0] S512 (E2 f : FVec Ideal S16x512 .f32) 0x00000000#32 reduces_S16x512_S512 (.inl rfl) rfl)
        shapeCasts_S512_S1x512) = (E2 fun r k => g r k + ∑ j ∈ Finset.range 16, f j k : FVec Ideal S1x512 .f32) :=
  (congrArg (addf · _) (shapeCast_self (E2 g : FVec Ideal S1x512 .f32) _)).trans (addCols f g)

theorem pay152 (g : ℕ → ℕ → EReal) : k0_pay152 (F := Ideal) (E2 (φ := .f32) g) = E2 (φ := .f32) g := shapeCast_self _ _
theorem pay153 (f g : ℕ → ℕ → EReal) : k0_pay153 (F := Ideal) (E2 (φ := .f32) f) (E2 (φ := .f32) g)
    = E2 (φ := .f32) fun r k => g r k + ∑ j ∈ Finset.range 16, f j k := addCols f g
theorem pay1 (f g : ℕ → ℕ → EReal) : k0_pay1 (F := Ideal) (E2 (φ := .f32) f) (E2 (φ := .f32) g)
    = E2 (φ := .f32) fun r k => g r k + ∑ j ∈ Finset.range 16, f j k := addCols' f g
theorem pay151 (f g : ℕ → ℕ → EReal) : k0_pay151 (F := Ideal) (E2 (φ := .f32) f) (E2 (φ := .f32) g)
    = E2 (φ := .f32) fun r k => g r k + ∑ j ∈ Finset.range 16, f j k := addCols' f g
theorem pay154 (f g : ℕ → ℕ → EReal) : k0_pay154 (F := Ideal) (E2 (φ := .f32) f) (E2 (φ := .f32) g)
    = E2 (φ := .f32) fun r k => g r k + ∑ j ∈ Finset.range 16, f j k := addCols' f g
theorem pay297 (f g : ℕ → ℕ → EReal) : k0_pay297 (F := Ideal) (E2 (φ := .f32) f) (E2 (φ := .f32) g)
    = E2 (φ := .f32) fun r k => g r k + ∑ j ∈ Finset.range 16, f j k := addCols' f g
theorem pay298 (f g : ℕ → ℕ → EReal) : k0_pay298 (F := Ideal) (E2 (φ := .f32) f) (E2 (φ := .f32) g)
    = E2 (φ := .f32) fun r k => g r k + ∑ j ∈ Finset.range 16, f j k := addCols' f g
theorem pay2 : k0_pay2 (F := Ideal) = (E2 fun _ _ => 0 : FVec Ideal ⟨2, ![8, 1024]⟩ .f32) := zero_E2

theorem weight (g E D : ℕ → ℕ → EReal) (s p r k : ℕ) (hs : s < 3) (hr : r < 1) :
    g (s + r) (p + k) + ∑ j ∈ Finset.range 16, (0 + D (0 + j) (p + k) * E (0 + (6 + s) + j) (p + k) + D (16 + j) (p + k) * E (16 + (6 + s) + j) (p + k) + D (32 + j) (p + k) * E (32 + (6 + s) + j) (p + k) + D (48 + j) (p + k) * E (48 + (6 + s) + j) (p + k) + D (64 + j) (p + k) * E (64 + (6 + s) + j) (p + k) + D (80 + j) (p + k) * E (80 + (6 + s) + j) (p + k) + D (96 + j) (p + k) * E (96 + (6 + s) + j) (p + k) + D (112 + j) (p + k) * E (112 + (6 + s) + j) (p + k) + D (128 + j) (p + k) * E (128 + (6 + s) + j) (p + k) + D (144 + j) (p + k) * E (144 + (6 + s) + j) (p + k) + D (160 + j) (p + k) * E (160 + (6 + s) + j) (p + k) + D (176 + j) (p + k) * E (176 + (6 + s) + j) (p + k) + D (192 + j) (p + k) * E (192 + (6 + s) + j) (p + k) + D (208 + j) (p + k) * E (208 + (6 + s) + j) (p + k) + D (224 + j) (p + k) * E (224 + (6 + s) + j) (p + k) + D (240 + j) (p + k) * E (240 + (6 + s) + j) (p + k))
      = (fun r k => g r k + dwAt E D r k) (s + r) (p + k) := by
  unfold dwAt
  obtain rfl : r = 0 := by omega
  have e : s + 0 < 3 := hs
  have q : ∀ o j, o + (6 + s) + j = o + j + (6 + s) := fun o j => by omega
  simp only [if_pos e, q]
  exact congrArg (g (s + 0) (p + k) + ·) (sum_sixteen fun R => D R (p + k) * E (R + (6 + s)) (p + k))

/-- Pieces over some contents leave the array they agree with, where the contents agree with it off the pieces. -/
theorem writes_of_agrees {sig : RefSig} {κ : Kind} {sp : Space} {S : Shape} {e : EltTy} (v : View sig κ sp S e) (f : v.ty.Contents (Elt Ideal))
    {L : List (View.Piece (Elt Ideal) S e)} {G : S.Idx → Elt Ideal e} (h : Agrees L G)
    (hf : ∀ y, (¬∃ q ∈ L, y ∈ q.1.set) → v.read (Elt Ideal) f y = G y) : v.read (Elt Ideal) (v.writes (Elt Ideal) f L) = G := by
  funext y
  by_cases hy : ∃ q ∈ L, y ∈ q.1.set
  · rw [View.read_writes_apply_eq_canon v f y L hy, View.canon_apply_of_pieces G L h y hy]
  · rw [View.read_writes_apply_of_forall_not_mem v f y L fun p hp hm => hy ⟨p, hp, hm⟩, hf y hy]

/-- The same over a fill. -/
theorem canon_of_agrees_over {S : Shape} {e : EltTy} (L L' : List (View.Piece (Elt Ideal) S e)) {G : S.Idx → Elt Ideal e} (h : Agrees L G)
    (hf : ∀ y, (¬∃ q ∈ L, y ∈ q.1.set) → View.canon L' y = G y) : View.canon (L ++ L') = G := by
  funext y
  by_cases hy : ∃ q ∈ L, y ∈ q.1.set
  · exact View.canon_append_of_pieces G L' L h y hy
  · rw [← hf y hy]
    clear hf h
    induction L with
    | nil => rfl
    | cons q L ih =>
      refine (View.canon_cons_of_not_mem q (L ++ L') fun hm => hy ⟨q, List.mem_cons_self, hm⟩).trans (ih fun ⟨p, hp, hm⟩ => hy ⟨p, List.mem_cons_of_mem _ hp, hm⟩)

/-- An entry none of the pieces holds, where they tile the first three rows, lies below these. -/
theorem off_rows {e : EltTy} {L : List (View.Piece (Elt Ideal) ⟨2, ![8, 1024]⟩ e)} (h0 : rowTiled L 0 1 512 2 = true) (h1 : rowTiled L 1 1 512 2 = true)
    (h2 : rowTiled L 2 1 512 2 = true) (y : (⟨2, ![8, 1024]⟩ : Shape).Idx) (hy : ¬∃ q ∈ L, y ∈ q.1.set) : ¬(y 0).val < 3 := by
  intro h
  have hk : (y 1).val < 2 * 512 := (y 1).isLt
  rcases (by omega : (y 0).val = 0 ∨ (y 0).val = 1 ∨ (y 0).val = 2) with e | e | e
  · exact hy (rowTiled_cover h0 y (by omega) (by omega) hk)
  · exact hy (rowTiled_cover h1 y (by omega) (by omega) hk)
  · exact hy (rowTiled_cover h2 y (by omega) (by omega) hk)

theorem canon_of_agrees_take (n : ℕ) {S : Shape} {e : EltTy} (L : List (View.Piece (Elt Ideal) S e)) {G : S.Idx → Elt Ideal e} (h : Agrees (L.take n) G)
    (hf : ∀ y, (¬∃ q ∈ L.take n, y ∈ q.1.set) → View.canon (L.drop n) y = G y) : View.canon L = G :=
  (congrArg View.canon (List.take_append_drop n L).symm).trans (canon_of_agrees_over _ _ h hf)

theorem canon_fill (off : ∀ i, ![0, 0] i + ![8, 1024] i ≤ S8x1024.size i) (g : ℕ → ℕ → EReal) (y : S8x1024.Idx) :
    View.canon [(⟨Rect.unit ![0, 0] ![8, 1024] off, (E2 g : FVec Ideal ⟨2, ![8, 1024]⟩ .f32)⟩ : View.Piece (Elt Ideal) S8x1024 .f32)] y
      = E2 (φ := .f32) (a := 8) (b := 1024) g y :=
  congrFun (canon_of_agrees (agrees_E2 g g off [] (fun r k _ _ => by rw [Nat.zero_add, Nat.zero_add]) (agrees_nil _))
    (fun y => rowTiled_cover (o := 0) (h := 8) (wt := 1024) (n := 1) (by rfl) y (Nat.zero_le _) (show (y 0).val < 0 + 8 from lt_of_lt_of_eq (y 0).isLt (by rfl)) (show (y 1).val < 1 * 1024 from lt_of_lt_of_eq (y 1).isLt (by rfl)))) y

section Point
variable (t : Fin cfg0.N) (e0 : iblk m c 0 t = E2 (φ := .f32) (rows 256 t.val x))
  (e1 : iblk m c 1 t = E2 (φ := .f32) (rows 8 (32 * t.val - 1) x)) (e2 : iblk m c 2 t = E2 (φ := .f32) (rows 8 (min (32 * t.val + 32) 1023) x))
  (e3 : iblk m c 3 t = E2 (φ := .f32) (rows 256 t.val d)) (e4 : iblk m c 4 t = E2 (φ := .f32) (rows 8 (min (32 * t.val + 32) 1023) d))
  (e5 : iblk m c 5 t = E2 (φ := .f32) w)
include e0 e1 e2 e3 e4 e5

set_option maxHeartbeats 4000000 in
theorem point6 : (outsAt0 m c t.val t.isLt).1 = E2 (φ := .bf16) (dpAt x d w t.val (prodAt x t.val) (gradAt x d t.val)) := by
  by_cases h : t.val % 32 = 0
  case' pos => rw [outsAt0_A m c t h]
  case' neg => rw [outsAt0_B m c t h]
  all_goals
    dsimp only
    frame_out
    rw [e0, e1, e2, e3, e4, e5]
    simp only [ld_E2, pay3, pay4, pay5, pay6, pay7]
    simp only [readCov_stack2 _ _ _ (show 8 + 256 = 264 from rfl), readCov_stack2 _ _ _ (show 256 + 8 = 264 from rfl)]
    simp only [
    k0_pay8, k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144, k0_pay145,
    k0_pay146, k0_pay147, k0_pay148, k0_pay149, k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167, k0_pay168, k0_pay169, k0_pay170, k0_pay171,
    k0_pay172, k0_pay173, k0_pay174, k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194, k0_pay195, k0_pay196, k0_pay197,
    k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, k0_pay297, k0_pay298,
      zero_E2, mulf_E2, addf_E2, truncf_E2, row_E2]
    refine canon_of_agrees ?_ (fun y => View.cover_of_tiled_head _ _ _ (by rfl) y)
    iterate 96 refine agrees_E2b _ _ _ _ (fun r k hr hk => by
      first
        | exact gate x d w t.val (prodAt x t.val) (gradAt x d t.val) _ _ _ _ _ _ _ rfl rfl rfl (by decide) hk
        | exact left x d w t.val (prodAt x t.val) (gradAt x d t.val) _ _ _ _ _ _ _ _ rfl rfl rfl rfl (by decide) hk
        | exact right x d w t.val (prodAt x t.val) (gradAt x d t.val) _ _ _ _ _ _ _ _ rfl rfl rfl rfl (by decide) hk) ?_
    exact agrees_nil _

theorem point7_reset (h : t.val % 32 = 0) : (outsAt0 m c t.val t.isLt).2 = E2 (φ := .f32) fun r k => 0 + dwAt (prodAt x t.val) (gradAt x d t.val) r k := by
  rw [outsAt0_A m c t h]
  dsimp only
  frame_out
  rw [e0, e1, e2, e3, e4]
  simp only [ld_E2, pay2, pay3, pay4, pay5, pay6, pay7]
  simp only [readCov_stack2 _ _ _ (show 8 + 256 = 264 from rfl), readCov_stack2 _ _ _ (show 256 + 8 = 264 from rfl)]
  simp (disch := decide) only [↓ View.readCov_skip, ↓ View.readCov_fill, ld_E2]
  simp only [pay1,
    k0_pay8, k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144, k0_pay145,
    k0_pay146, k0_pay147, k0_pay148, k0_pay149, k0_pay150, pay151, pay152, pay153, pay154, k0_pay155, k0_pay156, k0_pay157, k0_pay158,
    k0_pay159, k0_pay160, k0_pay161, k0_pay162, k0_pay163, k0_pay164, k0_pay165, k0_pay166, k0_pay167, k0_pay168, k0_pay169, k0_pay170, k0_pay171,
    k0_pay172, k0_pay173, k0_pay174, k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194, k0_pay195, k0_pay196, k0_pay197,
    k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, pay297, pay298,
      zero_E2, mulf_E2, addf_E2, row_E2]
  refine canon_of_agrees_take 6 _ ?_ ?_
  · simp only [List.take_succ_cons, List.take_zero]
    refine agrees_E2 _ _ _ _ (fun r k hr hk => weight (fun _ _ => 0) _ _ 2 512 r k (by decide) hr) ?_
    refine agrees_E2 _ _ _ _ (fun r k hr hk => weight (fun _ _ => 0) _ _ 1 512 r k (by decide) hr) ?_
    refine agrees_E2 _ _ _ _ (fun r k hr hk => weight (fun _ _ => 0) _ _ 0 512 r k (by decide) hr) ?_
    refine agrees_E2 _ _ _ _ (fun r k hr hk => weight (fun _ _ => 0) _ _ 2 0 r k (by decide) hr) ?_
    refine agrees_E2 _ _ _ _ (fun r k hr hk => weight (fun _ _ => 0) _ _ 1 0 r k (by decide) hr) ?_
    refine agrees_E2 _ _ _ _ (fun r k hr hk => weight (fun _ _ => 0) _ _ 0 0 r k (by decide) hr) ?_
    exact agrees_nil _
  · intro y hy
    have h3 := off_rows (by rfl) (by rfl) (by rfl) y hy
    refine (canon_fill _ (fun _ _ => 0) y).trans ?_
    show (0 : EReal) = 0 + dwAt _ _ (y 0).val (y 1).val
    unfold dwAt
    rw [if_neg h3, zero_add]

theorem point7_step (h : ¬t.val % 32 = 0) (g : ℕ → ℕ → EReal)
    (eg : (outsAt0 m c (t.val - 1) (Nat.lt_of_le_of_lt (Nat.sub_le _ _) t.isLt)).2 = E2 (φ := .f32) g) :
    (outsAt0 m c t.val t.isLt).2 = E2 (φ := .f32) fun r k => g r k + dwAt (prodAt x t.val) (gradAt x d t.val) r k := by
  rw [outsAt0_B m c t h]
  dsimp only
  frame_out
  rw [eg, e0, e1, e2, e3, e4]
  simp only [ld_E2, pay2, pay3, pay4, pay5, pay6, pay7]
  simp only [readCov_stack2 _ _ _ (show 8 + 256 = 264 from rfl), readCov_stack2 _ _ _ (show 256 + 8 = 264 from rfl)]
  simp only [pay1,
    k0_pay8, k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144, k0_pay145,
    k0_pay146, k0_pay147, k0_pay148, k0_pay149, k0_pay150, pay151, pay152, pay153, pay154, k0_pay155, k0_pay156, k0_pay157, k0_pay158,
    k0_pay159, k0_pay160, k0_pay161, k0_pay162, k0_pay163, k0_pay164, k0_pay165, k0_pay166, k0_pay167, k0_pay168, k0_pay169, k0_pay170, k0_pay171,
    k0_pay172, k0_pay173, k0_pay174, k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194, k0_pay195, k0_pay196, k0_pay197,
    k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, pay297, pay298,
      zero_E2, mulf_E2, addf_E2, row_E2]
  refine writes_of_agrees _ _ ?_ ?_
  · refine agrees_E2 _ _ _ _ (fun r k hr hk => weight g _ _ 2 512 r k (by decide) hr) ?_
    refine agrees_E2 _ _ _ _ (fun r k hr hk => weight g _ _ 1 512 r k (by decide) hr) ?_
    refine agrees_E2 _ _ _ _ (fun r k hr hk => weight g _ _ 0 512 r k (by decide) hr) ?_
    refine agrees_E2 _ _ _ _ (fun r k hr hk => weight g _ _ 2 0 r k (by decide) hr) ?_
    refine agrees_E2 _ _ _ _ (fun r k hr hk => weight g _ _ 1 0 r k (by decide) hr) ?_
    refine agrees_E2 _ _ _ _ (fun r k hr hk => weight g _ _ 0 0 r k (by decide) hr) ?_
    exact agrees_nil _
  · intro y hy
    have h3 := off_rows (by rfl) (by rfl) (by rfl) y hy
    refine (congrFun (Memref.IsWhole.read_unread _ _) y).trans ?_
    show g (y 0).val (y 1).val = g (y 0).val (y 1).val + dwAt _ _ (y 0).val (y 1).val
    unfold dwAt
    rw [if_neg h3, add_zero]

end Point
/-! The blocks put together. -/

theorem prodAt_tap (t r s k : ℕ) : prodAt x t (r + (6 + s)) k = ext x (256 * t + r + s) k := by
  simp only [prodAt, stack, ext, rows]
  by_cases h : r + (6 + s) < 8
  · rw [if_pos h]
    by_cases ht : t = 0
    · rw [if_pos ht, if_pos (by omega), mul_zero]
    · rw [if_neg ht, if_neg (by omega), mul_one, show 8 * (32 * t - 1) + (0 + (r + (6 + s))) = 256 * t + r + s - 2 by omega]
  · rw [if_neg h, if_neg (by omega), show 256 * t + (0 + (r + (6 + s) - 8)) = 256 * t + r + s - 2 by omega]

theorem gradAt_row (t r k : ℕ) (ht : t < 32) (hr : r < 258) : gradAt x d t r k = grad x d (256 * t + r) k := by
  simp only [gradAt, stack, grad, rows]
  by_cases h : r < 256
  · rw [if_pos h, if_pos (by omega), Nat.zero_add, Nat.zero_add]
  · rw [if_neg h]
    by_cases h31 : t = 31
    · rw [if_pos h31, if_neg (by omega), mul_zero]
    · rw [if_neg h31, if_pos (by omega), mul_one, Nat.zero_add, Nat.zero_add, show min (32 * t + 32) 1023 = 32 * t + 32 by omega,
        show 8 * (32 * t + 32) + (r - 256) = 256 * t + r by omega]

theorem dqAt_row (t r k : ℕ) (ht : t < 32) (hr : r < 256) : dqAt w (gradAt x d t) r k = dq x d w (256 * t + r) k := by
  unfold dqAt dq
  rw [gradAt_row x d t _ k ht (by omega), gradAt_row x d t _ k ht (by omega), gradAt_row x d t _ k ht (by omega)]
  rfl

theorem dpAt_row (t r k : ℕ) (ht : t < 32) (hr : r < 256) :
    dpAt x d w t (prodAt x t) (gradAt x d t) r k = dp x d w (256 * t + r) k := by
  have e0 : prodAt x t (r + 6) k = ext x (256 * t + r) k := prodAt_tap x t r 0 k
  have e1 : prodAt x t (r + 7) k = ext x (256 * t + r + 1) k := prodAt_tap x t r 1 k
  have e2 : prodAt x t (r + 8) k = ext x (256 * t + r + 2) k := prodAt_tap x t r 2 k
  unfold dpAt dp rows
  rw [e0, e1, e2, dqAt_row x d w t r _ ht hr, dqAt_row x d w t r _ ht hr]

/-- A sum over the rows of all blocks. -/
theorem sum_blocks (b : ℕ) (f : ℕ → EReal) : ∀ N, ∑ i ∈ Finset.range N, ∑ k ∈ Finset.range b, f (b * i + k) = ∑ r ∈ Finset.range (b * N), f r
  | 0 => by simp
  | N + 1 => by rw [Finset.sum_range_succ, sum_blocks b f N, Nat.mul_succ, Finset.sum_range_add]

theorem sum_dwAt (r k : ℕ) : ∑ t ∈ Finset.range 32, dwAt (prodAt x t) (gradAt x d t) r k = dw x d r k := by
  unfold dwAt dw dtap
  by_cases h : r < 3
  · simp only [if_pos h]
    refine (Finset.sum_congr rfl fun t ht => Finset.sum_congr rfl fun R hR => ?_).trans (sum_blocks 256 (fun R => grad x d R k * ext x (R + r) k) 32)
    rw [gradAt_row x d t R k (Finset.mem_range.mp ht) (by have := Finset.mem_range.mp hR; omega), prodAt_tap]
  · simp only [if_neg h, Finset.sum_const_zero]

section Arrays
variable (e0 : V m c main_arg0 = E2 (φ := .f32) x) (e1 : V m c main_arg1 = E2 (φ := .f32) d) (e2 : V m c main_arg2 = E2 (φ := .f32) w)
include e0 e1 e2

theorem arr6 : (dats m 0 c).arrAt 6 cfg0.N = E2 (φ := .bf16) (dp x d w) := by
  refine (dats m 0 c).arrAt_eq_of_covers 6 _ (by decide +kernel) fun t hf y => ?_
  show (dats m 0 c).flushed 6 t y = _
  rw [Value.flushed6, point6 m c x d w t (iblk0 m c x e0 t) (iblk1 m c x e0 t) (iblk2 m c x e0 t) (iblk3 m c d e1 t) (iblk4 m c d e1 t) (iblk5 m c w e2 t)]
  have ht : t.val < 32 := lt_of_lt_of_eq t.isLt N_0
  have hy : (y 0).val < 256 := (y 0).isLt
  show dpAt x d w t.val (prodAt x t.val) (gradAt x d t.val) (y 0).val (y 1).val = E2 (φ := .bf16) (dp x d w) ((win0_6.rect t).emb y)
  rw [dpAt_row x d w t.val _ _ ht hy]
  unfold E2
  rw [win0_6.rect_emb_val t y 0, win0_6.rect_emb_val_of_index_zero t 1 (idx t).2.2.2.2.2.2.1.2 y, (idx t).2.2.2.2.2.2.1.1, Nat.mul_comm]
  rfl

theorem acc7 (t : Fin cfg0.N) (ht : t.val % 32 = 31) (y : S8x1024.Idx) : (outsAt0 m c t.val t.isLt).2 y = dw x d (y 0).val (y 1).val := by
  refine (Pipeline.eq_sum_of_reset_step_apply_single_of_mod (fun n h => (outsAt0 m c n h).2) 32 (fun _ => (0 : EReal))
    (fun t y => dwAt (prodAt x t) (gradAt x d t) (y 0).val (y 1).val) (fun t h y => ?_) (fun t h y => ?_) (le_of_eq N_0) t ht y).trans ?_
  · exact congrFun (point7_reset m c x d w t (iblk0 m c x e0 t) (iblk1 m c x e0 t) (iblk2 m c x e0 t) (iblk3 m c d e1 t) (iblk4 m c d e1 t)
      (iblk5 m c w e2 t) h) y
  · obtain ⟨g, eg⟩ := exists_E2 (outsAt0 m c (t.val - 1) (Nat.lt_of_le_of_lt (Nat.sub_le _ _) t.isLt)).2
    refine (congrFun (point7_step m c x d w t (iblk0 m c x e0 t) (iblk1 m c x e0 t) (iblk2 m c x e0 t) (iblk3 m c d e1 t) (iblk4 m c d e1 t)
      (iblk5 m c w e2 t) h g eg) y).trans ?_
    exact congrArg (· + dwAt (prodAt x t.val) (gradAt x d t.val) (y 0).val (y 1).val) (congrFun eg y).symm
  · exact (zero_add _).trans (sum_dwAt x d _ _)

theorem arr7 : (dats m 0 c).arrAt 7 cfg0.N = E2 (φ := .f32) (dw x d) := by
  refine (dats m 0 c).arrAt_eq_of_covers 7 _ (by decide +kernel) fun t hf y => ?_
  show (dats m 0 c).flushed 7 t y = _
  rw [Value.flushed7]
  refine (acc7 m c x d w e0 e1 e2 t ((flush0_7 t).mp hf) y).trans ?_
  show dw x d (y 0).val (y 1).val = E2 (φ := .f32) (dw x d) ((win0_7.rect t).emb y)
  unfold E2
  rw [win0_7.rect_emb_val_of_index_zero t 0 (idx t).2.2.2.2.2.2.2.1 y, win0_7.rect_emb_val_of_index_zero t 1 (idx t).2.2.2.2.2.2.2.2 y]

end Arrays

open Cert.Reference44Ideal.Read in
/-- The call and the reference, run from the same arguments, end with the same arrays. -/
theorem algebraic : Cert.algebraic_Kernel44Ideal_Reference44Ideal
    (hKernel44Ideal := Cert.Kernel44Ideal.Gen.facts) (hReference44Ideal := Cert.Reference44Ideal.Gen.facts) := by
  intro m g m' g' hp ha
  refine ⟨fun c => (dats m 0 c).arrAt 6 cfg0.N, fun c => (dats m 0 c).arrAt 7 cfg0.N, Cert.Kernel44Ideal.Value.run_blocks m g,
    (θ_run Cert.Reference44Ideal.defs _ _).mono (fun r hr c => ?_) (Cert.Reference44Ideal.Value.run m' g')⟩
  obtain ⟨r0, r1, k⟩ := hr c
  obtain ⟨a0, a1, a2⟩ := ha c
  obtain ⟨x, e0⟩ := exists_E2 (m ((c : Thread nD τ).loc main_arg0))
  obtain ⟨d, e1⟩ := exists_E2 (m ((c : Thread nD τ).loc main_arg1))
  obtain ⟨w, e2⟩ := exists_E2 (m ((c : Thread nD τ).loc main_arg2))
  have v0 := (V_main_arg0 m c).trans e0
  have v1 := (V_main_arg1 m c).trans e1
  have v2 := (V_main_arg2 m c).trans e2
  refine ⟨(r0.trans (val_main_v66_eq m' c)).trans ?_, (r1.trans (val_main_v67_eq _ _)).trans ?_, k⟩
  · rw [a0, a1, a2, e0, e1, e2]
    exact (ref66 x d w).trans (arr6 m c x d w v0 v1 v2).symm
  · rw [a0, a1, e0, e1]
    exact (ref67 x d).trans (arr7 m c x d w v0 v1 v2).symm

end Cert.CCoreBwd
end
-- ==== Proof.Mm.FinalSum.lean ====
module

public import proofs.«01_k».proof.Defs
public import proofs.«01_k».proof.Proof.Gen.Kernel45.Frame
public import proofs.«01_k».proof.Proof.Gen.Kernel45Ideal.Frame
public import proofs.«01_k».proof.Proof.Gen.Reference45Ideal.Run
public import proofs.«01_k».proof.Proof.Gen.Reference45Ideal.Read
public import proofs.«01_k».proof.Proof.Gen.Pre_device
public import proofs.«01_k».proof.Proof.Mm.Shift
public import Idealize.ShloMosaic.Lib.DynamicIndex
public import Idealize.ShloMosaic.Lib.Pipeline.ValueKit
public import Idealize.ShloMosaic.Lib.Pipeline.ReadBack

/-! The sum of a device's own part of a gradient and the seven parts that landed from the other devices: the call's
array is the reference's. -/

@[expose] public section
set_option maxRecDepth 16384
noncomputable section
namespace Cert.FinalSum
open Cert.Ext Idealize.ShloMosaic Idealize.ShloMosaic.TcCoe Idealize.SL.Sem
open scoped BigOperators

/-- A word of the pair. -/
abbrev at2 (k : Fin 2) : (⟨1, ![2]⟩ : Shape).Idx := fun a => match a with
  | ⟨0, _⟩ => k

theorem word_eq {α : Type} (s : (⟨1, ![2]⟩ : Shape).Idx → α) (k : Fin 2) (h : (⟨1, ![2]⟩ : Shape).Slices ![k.val] ⟨1, ![1]⟩)
    (h' : (⟨1, ![1]⟩ : Shape).ShapeCasts ⟨0, ![]⟩) (j : (⟨0, ![]⟩ : Shape).Idx) :
    shapeCast ⟨0, ![]⟩ (extractStridedSlice ⟨1, ![1]⟩ ![k.val] s h) h' j = s (at2 k) := by
  refine extractStridedSlice_apply ![k.val] s h _ (at2 k) fun a => ?_
  match a with
  | ⟨0, _⟩ =>
    have e : ∀ v : Fin 1, k.val = k.val + v.val := fun v => by omega
    exact e _

theorem bounds {F : FTy → Type} [FloatOps F] [hF : Cert.Pre_device.Facts] (x0 x1 x2) (s : IVec Cert.Pre_device.S2 32)
    (h : Cert.Pre_device.fn (F := F) x0 x1 x2 s = fun _ => 1#1) : (s (at2 0)).toNat < 4 ∧ (s (at2 1)).toNat < 2 := by
  have e := congrFun h fun a => a.elim0
  have e0 := fun a b => word_eq s 0 a b fun a => a.elim0
  have e1 := fun a b => word_eq s 1 a b fun a => a.elim0
  simp only [Cert.Pre_device.fn, andi, cmpi, constantI] at e
  erw [e0, e1] at e
  generalize s (at2 0) = u at e
  generalize s (at2 1) = v at e
  simp only [IntOp.andi, IntOp.cmpi, BitVec.ofBool_and_ofBool] at e
  have b : ∀ p : Bool, BitVec.ofBool p = 1#1 → p = true := by decide
  have e := b _ e
  simp only [Bool.and_eq_true, BitVec.sle, BitVec.slt, decide_eq_true_eq] at e
  rw [BitVec.toInt_eq_toNat_cond u, BitVec.toInt_eq_toNat_cond v] at e
  have z0 : (0#32).toInt = 0 := rfl
  have z2 : (2#32).toInt = 2 := rfl
  have z4 : (4#32).toInt = 4 := rfl
  rw [z0, z2, z4] at e
  have := u.isLt
  have := v.isLt
  obtain ⟨⟨⟨a, b⟩, c⟩, d⟩ := e
  constructor <;> split at * <;> omega

/-- An index map's word times one plus a coordinate of an axis of one. -/
theorem step (w : BitVec 32) (n : Fin 1) : (Scalar.addi (Scalar.muli w 1#32) (BitVec.ofNat 32 n.val)).toNat = w.toNat := by
  obtain rfl : n = 0 := Subsingleton.elim _ _
  show (w * 1#32 + 0#32).toNat = w.toNat
  rw [BitVec.mul_one, BitVec.add_zero]

theorem zero : ∀ n : Fin 1, (BitVec.ofNat 32 n.val).toNat = 0 := by decide

section
open Cert.Kernel45Ideal Cert.Kernel45Ideal.Gen
variable {F : FTy → Type} [FloatOps F] (m : (ℓ : Loc nD τ sig) → Buf (Elt F) ℓ)

/-- The pair of words the call is given. -/
abbrev pair : IVec S2 32 := m (((0 : Dev nD) : Thread nD τ).loc main_arg3)

theorem word (r : Rect S2) (h : r.shape.numel = 1) (k : Fin 2) (hk : ∀ j, (r.emb j 0).val = k.val) : (tbl m).at 0 r h = pair m (at2 k) := by
  refine (congrFun (V_main_arg3 m 0) _).trans (congrArg (pair m) (funext fun a => ?_))
  match a with
  | ⟨0, _⟩ => exact Fin.ext (hk _)

theorem map0 (i : grid0.Coords) : cc0_transform_0 Facts₀.inb_S2_S1_1 Facts₀.numel1_S1 Facts₀.inb_S2_S1_0 (tbl m) i
    = ![0, (pair m (at2 1)).toNat, (pair m (at2 0)).toNat] := by
  have e0 := word m (Rect.unit (s := S2) ![0] S1.size Facts₀.inb_S2_S1_0) Facts₀.numel1_S1 0 (by decide)
  have e1 := word m (Rect.unit (s := S2) ![1] S1.size Facts₀.inb_S2_S1_1) Facts₀.numel1_S1 1 (by decide)
  unfold cc0_transform_0
  dsimp only
  rw [e0, e1]
  exact congrArg₂ (fun a b => ![0, a, b]) (step _ (i 0)) (step _ (i 1))

theorem map1 (i : grid0.Coords) : cc0_transform_1 i = ![0, 0, 0] := congrArg₂ (fun a b => ![0, a, b]) (zero (i 0)) (zero (i 1))

theorem map3 (i : grid0.Coords) : cc0_transform_3 Facts₀.inb_S2_S1_1 Facts₀.numel1_S1 (tbl m) i = ![0, (pair m (at2 1)).toNat, 0, 0] := by
  have e1 := word m (Rect.unit (s := S2) ![1] S1.size Facts₀.inb_S2_S1_1) Facts₀.numel1_S1 1 (by decide)
  unfold cc0_transform_3
  dsimp only
  rw [e1]
  exact congrArg₂ (fun a b => ![0, (pair m (at2 1)).toNat, a, b]) (zero (i 0)) (zero (i 1))

theorem ok (h0 : (pair m (at2 0)).toNat < 4) (h1 : (pair m (at2 1)).toNat < 2) : Ok m := by
  refine ⟨fun i => ⟨fun a => ?_, Or.inl rfl⟩, fun i => ⟨fun a => ?_, Or.inl rfl⟩⟩
  · rw [map0]
    match a with
    | ⟨0, _⟩ => exact Nat.le_refl 1
    | ⟨1, _⟩ => show ((pair m (at2 1)).toNat + 1) * 512 ≤ 1024; omega
    | ⟨2, _⟩ => show ((pair m (at2 0)).toNat + 1) * 1024 ≤ 4096; omega
  · rw [map3]
    match a with
    | ⟨0, _⟩ => show (0 + 1) * 1 ≤ 4; omega
    | ⟨1, _⟩ => show ((pair m (at2 1)).toNat + 1) * 1 ≤ 2; omega
    | ⟨2, _⟩ => show (0 + 1) * 512 ≤ 512; omega
    | ⟨3, _⟩ => show (0 + 1) * 1024 ≤ 1024; omega

end

theorem ok_bits [hF : Cert.Pre_device.Facts] (m) (h : Cert.Pre_Kernel45 m) : Cert.Kernel45.Gen.Ok m :=
  let b := bounds _ _ _ _ (h 0)
  ok (F := Bits) m b.1 b.2

theorem ok_ideal [hF : Cert.Pre_device.Facts] (m) (h : Cert.Pre_Kernel45Ideal m) : Cert.Kernel45Ideal.Gen.Ok m :=
  let b := bounds _ _ _ _ (h 0)
  ok (F := Ideal) m b.1 b.2

/-- The eight parts of an entry, summed. -/
def total (f l : ℕ → ℕ → ℕ → EReal) (q h r k : ℕ) : EReal := f 0 (512 * h + r) (1024 * q + k) + ∑ p ∈ Finset.range 7, l p r k

section
open Cert.Kernel45Ideal Cert.Kernel45Ideal.Gen
variable (m : (ℓ : Loc nD τ sig) → Buf (Elt Ideal) ℓ) (hO : Ok m) (c : Dev nD) (f l : ℕ → ℕ → ℕ → EReal)

theorem iblk0 (e : V m c main_arg0 = E3 (φ := .f32) f) (t : Fin (cfgM m hO).N) : iblk m hO c 0 t
    = E3 (φ := .f32) fun i r k => f i (512 * (pair m (at2 1)).toNat + r) (1024 * (pair m (at2 0)).toNat + k) := by
  funext j
  show V m c main_arg0 ((((cfgM m hO).win 0).rect t).emb j) = _
  have i0 : ((cfgM m hO).win 0).index t = _ := map0 m ((cfgM m hO).grid.coords t)
  rw [e]
  have h (a : Fin 3) : ((((cfgM m hO).win 0).rect t).emb j a).val = (![0, (pair m (at2 1)).toNat, (pair m (at2 0)).toNat] : Fin 3 → ℕ) a
      * (![1, 512, 1024] : Fin 3 → ℕ) a + (j a).val :=
    (Pipeline.Window.rect_emb_val ((cfgM m hO).win 0) t j a).trans (by rw [i0]; rfl)
  have h0 := (h 0).trans (show 0 * 1 + (j (0 : Fin 3)).val = (j (0 : Fin 3)).val by omega)
  have h1 := (h 1).trans (show _ * 512 + (j (1 : Fin 3)).val = 512 * (pair m (at2 1)).toNat + (j (1 : Fin 3)).val by rw [Nat.mul_comm]; rfl)
  have h2 := (h 2).trans (show _ * 1024 + (j (2 : Fin 3)).val = 1024 * (pair m (at2 0)).toNat + (j (2 : Fin 3)).val by rw [Nat.mul_comm]; rfl)
  exact congr (congr (congrArg f h0) h1) h2

theorem iblk1 (e : V m c main_arg1 = E3 (φ := .bf16) l) (t : Fin (cfgM m hO).N) : iblk m hO c 1 t = E3 (φ := .bf16) l := by
  funext j
  show V m c main_arg1 ((((cfgM m hO).win 1).rect t).emb j) = _
  rw [e]
  have i1 : ((cfgM m hO).win 1).index t = ![0, 0, 0] := map1 ((cfgM m hO).grid.coords t)
  have h (a : Fin 3) : ((((cfgM m hO).win 1).rect t).emb j a).val = (![0, 0, 0] : Fin 3 → ℕ) a * (![7, 512, 1024] : Fin 3 → ℕ) a + (j a).val :=
    (Pipeline.Window.rect_emb_val ((cfgM m hO).win 1) t j a).trans (by rw [i1]; rfl)
  have h0 := (h 0).trans (show 0 * 7 + (j (0 : Fin 3)).val = (j (0 : Fin 3)).val by omega)
  have h1 := (h 1).trans (show 0 * 512 + (j (1 : Fin 3)).val = (j (1 : Fin 3)).val by omega)
  have h2 := (h 2).trans (show 0 * 1024 + (j (2 : Fin 3)).val = (j (2 : Fin 3)).val by omega)
  have e' : l _ _ _ = l _ _ _ := congr (congr (congrArg l h0) h1) h2
  exact e'

theorem point (e0 : V m c main_arg0 = E3 (φ := .f32) f) (e1 : V m c main_arg1 = E3 (φ := .bf16) l) (t : Fin (cfgM m hO).N) (y : S1x1x512x1024.Idx) :
    outsAt0 m hO c t y = total f l (pair m (at2 0)).toNat (pair m (at2 1)).toNat (y 2).val (y 3).val := by
  unfold outsAt0
  rw [iblk0 m hO c f e0, iblk1 m hO c l e1]
  frame_out
  unfold k0_pay1 k0_pay2
  dsimp only
  have o (p : ℕ) (inb) (hc) : shapeCast S512x1024 (View.ld (Val := Elt Ideal) (e' := .bf16) (S := S7x512x1024) (E3 l : FVec Ideal S7x512x1024 .bf16)
      (Rect.unit ![p, 0, 0] ![1, 512, 1024] inb)) hc = (E2 (l p) : FVec Ideal S512x1024 .bf16) := slab_E3 l inb hc
  refine (shapeCast_apply _ _ y (ix2 (y 2) (y 3)) ?_).trans ?_
  · rw [Shape.rowMajor_val_four, Shape.rowMajor_val_two]
    have h0 : (y 0).val = 0 := by have : (y 0).val < 1 := (y 0).isLt; omega
    have h1 : (y 1).val = 0 := by have : (y 1).val < 1 := (y 1).isLt; omega
    show (y 2).val * 1024 + (y 3).val = (((y 0).val * 1 + (y 1).val) * 512 + (y 2).val) * 1024 + (y 3).val
    rw [h0, h1]
    omega
  rw [o 0, o 1, o 2, o 3, o 4, o 5, o 6]
  rw [show shapeCast S512x1024 (E3 (φ := .f32) fun i r k => f i (512 * (pair m (at2 1)).toNat + r) (1024 * (pair m (at2 0)).toNat + k)) shapeCasts_S1x512x1024_S512x1024
    = E2 (φ := .f32) fun r k => f 0 (512 * (pair m (at2 1)).toNat + r) (1024 * (pair m (at2 0)).toNat + k) from dropUnit_E3 _ _]
  unfold total
  simp only [Finset.sum_range_succ, Finset.sum_range_zero, zero_add]
  refine Eq.trans (b := (f 0 (512 * (pair m (at2 1)).toNat + (y 2).val) (1024 * (pair m (at2 0)).toNat + (y 3).val) + l 6 (y 2).val (y 3).val
    + (l 2 (y 2).val (y 3).val + l 3 (y 2).val (y 3).val) + (l 0 (y 2).val (y 3).val + l 1 (y 2).val (y 3).val
    + (l 4 (y 2).val (y 3).val + l 5 (y 2).val (y 3).val)) : EReal)) rfl ?_
  abel

theorem V_main_v0 : V m c main_v0 = m ((c : Thread nD τ).loc main_arg2) := by
  simp only [V, hostOps0, List.flatten_cons, List.flatten_nil, List.append_nil, List.cons_append, List.nil_append]
  after_results
  rfl

theorem index2 (t : Fin (cfgM m hO).N) : ((cfgM m hO).win 2).index t = ![0, (pair m (at2 1)).toNat, 0, 0] :=
  map3 m ((cfgM m hO).grid.coords t)

/-- What the sum is, as an array. -/
abbrev summed : S4x2x512x1024.Idx → EReal := fun j => total f l (pair m (at2 0)).toNat (pair m (at2 1)).toNat (j 2).val (j 3).val

theorem left (e0 : V m c main_arg0 = E3 (φ := .f32) f) (e1 : V m c main_arg1 = E3 (φ := .bf16) l) (t : Fin (cfgM m hO).N)
    (y : (((cfgM m hO).win 2).xblock ((cfgM m hO).grid.coords t)).Idx) :
    _root_.cast (congrArg (Elt Ideal) (((cfgM m hO).win 2).blk t).view.elt_eq.symm)
        ((dats m hO 0 c).after 2 t (((cfgM m hO).win 2).xinj ((cfgM m hO).grid.coords t) y))
      = summed m f l ((((cfgM m hO).win 2).blk t).view.emb y) := by
  rw [after0_2]
  refine (cast_eq _ _).trans ?_
  refine (point m hO c f l e0 e1 t (((cfgM m hO).win 2).xinj ((cfgM m hO).grid.coords t) y)).trans ?_
  have h (a : Fin 4) : ((((cfgM m hO).win 2).rect t).emb y a).val = (![0, (pair m (at2 1)).toNat, 0, 0] : Fin 4 → ℕ) a
      * (![1, 1, 512, 1024] : Fin 4 → ℕ) a + (y a).val :=
    (Pipeline.Window.rect_emb_val ((cfgM m hO).win 2) t y a).trans (by rw [index2]; rfl)
  have h2 := (h 2).trans (show 0 * 512 + (y (2 : Fin 4)).val = (y (2 : Fin 4)).val by omega)
  have h3 := (h 3).trans (show 0 * 1024 + (y (3 : Fin 4)).val = (y (3 : Fin 4)).val by omega)
  exact (congrArg₂ (total f l (pair m (at2 0)).toNat (pair m (at2 1)).toNat) h2 h3).symm

theorem mem2 (t : Fin (cfgM m hO).N) (i : S4x2x512x1024.Idx) :
    (show (((cfgM m hO).win 2).arr.view.loc (c.tc : Thread nD τ)).2.ty.Idx from i) ∈ (((cfgM m hO).win 2).blk t).view.set
      ↔ (i 0).val = 0 ∧ (i 1).val = (pair m (at2 1)).toNat := by
  refine (Pipeline.Window.emb_mem_blk_iff ((cfgM m hO).win 2) t i).trans ?_
  rw [index2]
  have b2 : (i 2).val < 512 := (i 2).isLt
  have b3 : (i 3).val < 1024 := (i 3).isLt
  constructor
  · intro h
    have h0 : 0 * 1 ≤ (i 0).val ∧ (i 0).val < 0 * 1 + 1 := h (0 : Fin 4)
    have h1 : (pair m (at2 1)).toNat * 1 ≤ (i 1).val ∧ (i 1).val < (pair m (at2 1)).toNat * 1 + 1 := h (1 : Fin 4)
    omega
  · intro h (a : Fin 4)
    match a with
    | ⟨0, _⟩ => show 0 * 1 ≤ (i 0).val ∧ (i 0).val < 0 * 1 + 1; omega
    | ⟨1, _⟩ => show (pair m (at2 1)).toNat * 1 ≤ (i 1).val ∧ (i 1).val < (pair m (at2 1)).toNat * 1 + 1; omega
    | ⟨2, _⟩ => show 0 * 512 ≤ (i 2).val ∧ (i 2).val < 0 * 512 + 512; omega
    | ⟨3, _⟩ => show 0 * 1024 ≤ (i 3).val ∧ (i 3).val < 0 * 1024 + 1024; omega

/-- The buffer's own half ends as the sum, the rest as it was. -/
theorem arr2 (e0 : V m c main_arg0 = E3 (φ := .f32) f) (e1 : V m c main_arg1 = E3 (φ := .bf16) l) (i : S4x2x512x1024.Idx) :
    (dats m hO 0 c).arrAt 2 (cfgM m hO).N i
      = if (i 0).val = 0 ∧ (i 1).val = (pair m (at2 1)).toNat then summed m f l i
        else m ((c : Thread nD τ).loc main_arg2) i := by
  by_cases hi : (i 0).val = 0 ∧ (i 1).val = (pair m (at2 1)).toNat
  · rw [if_pos hi]
    exact (dats m hO 0 c).arrAt_forall_of_flushed 2 (fun i v => v = summed m f l i) (fun t _ y => left m hO c f l e0 e1 t y) _ t0_0 i t0_0.isLt
      (by unfold Pipeline.Window.flush; rfl) ((mem2 m hO c t0_0 i).mpr hi)
  · rw [if_neg hi, ← V_main_v0 m c]
    exact ((dats m hO 0 c).arrAt_apply_of_forall_not_mem 2 _ i fun t _ _ h => hi ((mem2 m hO c t i).mp h)).trans (congrFun (A_eq m hO c 2) i)

end

theorem words {n : ℕ} (u : BitVec 32) (h : u.toNat < n) (hn : n ≤ 4) : u = 0#32 ∨ u = 1#32 ∨ u = 2#32 ∨ u = 3#32 := by
  have e : u.toNat = 0 ∨ u.toNat = 1 ∨ u.toNat = 2 ∨ u.toNat = 3 := by omega
  exact e.imp (BitVec.eq_of_toNat_eq (y := 0#32)) (Or.imp (BitVec.eq_of_toNat_eq (y := 1#32)) (Or.imp (BitVec.eq_of_toNat_eq (y := 2#32)) (BitVec.eq_of_toNat_eq (y := 3#32))))

section
open Cert.Reference45Ideal Cert.Reference45Ideal.Gen
variable (f l : ℕ → ℕ → ℕ → EReal) (s : IVec S2 32)

/-- The quarter of the columns the pair's first word names. -/
theorem quarter (h0 : (s (at2 0)).toNat < 4) (i : S1024x1024.Idx) :
    Read.val_main_v19 (F := Ideal) (E3 (φ := .f32) f) s i = f 0 (i 0).val (1024 * (s (at2 0)).toNat + (i 1).val) := by
  have a : (i 0).val < 1024 := (i 0).isLt
  have b : (i 1).val < 1024 := (i 1).isLt
  have d1 : ((i 0).val * 1024 + (i 1).val) / 1024 % 1024 = (i 0).val := by omega
  have d2 : ((i 0).val * 1024 + (i 1).val) % 1024 = (i 1).val := by omega
  have q0 : Read.val_main_v1 (F := Ideal) (E3 (φ := .f32) f) i = f 0 (i 0).val (1024 * 0 + (i 1).val) := by
    rw [Read.val_main_v1_apply, Read.val_main_v0_apply]
    refine (show _ = f 0 (((i 0).val * 1024 + (i 1).val) / 1024 % 1024) (((i 0).val * 1024 + (i 1).val) % 1024) from rfl).trans ?_
    rw [d1, d2, Nat.mul_zero, Nat.zero_add]
  have q1 : Read.val_main_v3 (F := Ideal) (E3 (φ := .f32) f) i = f 0 (i 0).val (1024 * 1 + (i 1).val) := by
    rw [Read.val_main_v3_apply, Read.val_main_v2_apply]
    refine (show _ = f 0 (((i 0).val * 1024 + (i 1).val) / 1024 % 1024) (1024 + ((i 0).val * 1024 + (i 1).val) % 1024) from rfl).trans ?_
    rw [d1, d2]
  have q2 : Read.val_main_v5 (F := Ideal) (E3 (φ := .f32) f) i = f 0 (i 0).val (1024 * 2 + (i 1).val) := by
    rw [Read.val_main_v5_apply, Read.val_main_v4_apply]
    refine (show _ = f 0 (((i 0).val * 1024 + (i 1).val) / 1024 % 1024) (2048 + ((i 0).val * 1024 + (i 1).val) % 1024) from rfl).trans ?_
    rw [d1, d2]
  have q3 : Read.val_main_v7 (F := Ideal) (E3 (φ := .f32) f) i = f 0 (i 0).val (1024 * 3 + (i 1).val) := by
    rw [Read.val_main_v7_apply, Read.val_main_v6_apply]
    refine (show _ = f 0 (((i 0).val * 1024 + (i 1).val) / 1024 % 1024) (3072 + ((i 0).val * 1024 + (i 1).val) % 1024) from rfl).trans ?_
    rw [d1, d2]
  have w9 (j) : Read.val_main_v9 (F := Ideal) s j = s (at2 0) := word_eq s 0 _ _ j
  have w12 (j) : Read.val_main_v12 (F := Ideal) s j = s (at2 0) := word_eq s 0 _ _ j
  have w16 (j) : Read.val_main_v16 (F := Ideal) s j = s (at2 0) := word_eq s 0 _ _ j
  obtain ⟨j1, j2, j3, e⟩ : ∃ j1 j2 j3, Read.val_main_v19 (F := Ideal) (E3 (φ := .f32) f) s i
      = Scalar.select (IntOp.cmpi .slt (Read.val_main_v9 (F := Ideal) s j1) 2#32)
        (Scalar.select (IntOp.cmpi .eq (Read.val_main_v12 (F := Ideal) s j2) 0#32) (Read.val_main_v1 (F := Ideal) (E3 (φ := .f32) f) i) (Read.val_main_v3 (F := Ideal) (E3 (φ := .f32) f) i))
        (Scalar.select (IntOp.cmpi .eq (Read.val_main_v16 (F := Ideal) s j3) 2#32) (Read.val_main_v5 (F := Ideal) (E3 (φ := .f32) f) i) (Read.val_main_v7 (F := Ideal) (E3 (φ := .f32) f) i)) :=
    ⟨_, _, _, rfl⟩
  rw [e, w9, w12, w16, q0, q1, q2, q3]
  obtain h | h | h | h := words _ h0 (Nat.le_refl 4) <;> rw [h] <;> rfl

/-- The half of its rows the second word names. -/
theorem half (h0 : (s (at2 0)).toNat < 4) (h1 : (s (at2 1)).toNat < 2) (i : S512x1024.Idx) :
    Read.val_main_v25 (F := Ideal) (E3 (φ := .f32) f) s i = f 0 (512 * (s (at2 1)).toNat + (i 0).val) (1024 * (s (at2 0)).toNat + (i 1).val) := by
  have w21 (j) : Read.val_main_v21 (F := Ideal) s j = s (at2 1) := word_eq s 1 _ _ j
  obtain ⟨j, e⟩ : ∃ j, Read.val_main_v25 (F := Ideal) (E3 (φ := .f32) f) s i
      = Scalar.select (IntOp.cmpi .eq (Read.val_main_v21 (F := Ideal) s j) 0#32) (Read.val_main_v23 (F := Ideal) (E3 (φ := .f32) f) s i)
        (Read.val_main_v24 (F := Ideal) (E3 (φ := .f32) f) s i) := ⟨_, rfl⟩
  rw [e, w21, Read.val_main_v23_apply, Read.val_main_v24_apply, quarter f s h0, quarter f s h0]
  obtain h | h | h | h := words _ h1 (by decide)
  · rw [h]
    exact congrArg (fun r => f 0 r _) (show (i 0).val = 512 * 0 + (i 0).val by omega)
  · rw [h]
    rfl
  · rw [h] at h1; exact absurd h1 (by decide)
  · rw [h] at h1; exact absurd h1 (by decide)

theorem parts (h0 : (s (at2 0)).toNat < 4) (h1 : (s (at2 1)).toNat < 2) (i : S1x1x512x1024.Idx) :
    Read.val_main_v29 (F := Ideal) (E3 (φ := .f32) f) (E3 (φ := .bf16) l) s i = total f l (s (at2 0)).toNat (s (at2 1)).toNat (i 2).val (i 3).val := by
  rw [Read.val_main_v29_apply, Read.val_main_v28_apply, half f s h0 h1, Read.val_main_v27_apply, Read.val_main_cst_apply]
  unfold total
  rw [Finset.sum_range]
  show _ + (Ideal.ofBits .f32 0x00000000#32 + _) = _
  rw [Ideal.ofBits_zero_f32, zero_add]
  rfl

/-- The buffer with the sum in the device's half. -/
theorem reference_eq (h0 : (s (at2 0)).toNat < 4) (h1 : (s (at2 1)).toNat < 2) (x : FVec Ideal S4x2x512x1024 .f32) (i : S4x2x512x1024.Idx) :
    Read.val_main_v35 (F := Ideal) (E3 (φ := .f32) f) (E3 (φ := .bf16) l) x s i
      = if (i 0).val = 0 ∧ (i 1).val = (s (at2 1)).toNat then total f l (s (at2 0)).toNat (s (at2 1)).toNat (i 2).val (i 3).val else x i := by
  have w31 (j) : Read.val_main_v31 (F := Ideal) s j = s (at2 1) := word_eq s 1 _ _ j
  have w34 (j) : Read.val_main_v34 (F := Ideal) s j = s (at2 1) := by
    rw [Read.val_main_v34_apply, Read.val_main_v32_apply, Read.val_main_v33_apply, w31]
    obtain h | h | h | h := words _ h1 (by decide) <;> rw [h] <;> rfl
  have hi : (s (at2 1)).toInt = ((s (at2 1)).toNat : ℤ) := by
    obtain h | h | h | h := words _ h1 (by decide) <;> rw [h] <;> rfl
  have b2 : (i 2).val < 512 := (i 2).isLt
  have b3 : (i 3).val < 1024 := (i 3).isLt
  unfold Read.val_main_v35
  rw [Host.dynamicUpdateSlice_apply]
  generalize hst : (fun k : Fin 4 => (((![Read.val_main_c_5 (F := Ideal), Read.val_main_v34 (F := Ideal) s, Read.val_main_c_6 (F := Ideal), Read.val_main_c_7 (F := Ideal)] :
    Fin 4 → (⟨S_, .i32⟩ : BufTy).Contents (Elt Ideal))) k (Shape.Idx.first h_S_)).toInt) = st
  have k0 : Host.clampedStart S4x2x512x1024 S1x1x512x1024 rfl st (0 : Fin 4) = 0 :=
    Host.clampedStart_of_le (s := S4x2x512x1024) (t := S1x1x512x1024) rfl st (0 : Fin 4) 0 (by rw [← hst]; rfl) (by decide)
  have k1 : Host.clampedStart S4x2x512x1024 S1x1x512x1024 rfl st (1 : Fin 4) = (s (at2 1)).toNat :=
    Host.clampedStart_of_le (s := S4x2x512x1024) (t := S1x1x512x1024) rfl st (1 : Fin 4) _ (by rw [← hst]; exact (congrArg BitVec.toInt (w34 _)).trans hi)
      (show (s (at2 1)).toNat + 1 ≤ 2 by omega)
  have k2 : Host.clampedStart S4x2x512x1024 S1x1x512x1024 rfl st (2 : Fin 4) = 0 :=
    Host.clampedStart_of_le (s := S4x2x512x1024) (t := S1x1x512x1024) rfl st (2 : Fin 4) 0 (by rw [← hst]; rfl) (by decide)
  have k3 : Host.clampedStart S4x2x512x1024 S1x1x512x1024 rfl st (3 : Fin 4) = 0 :=
    Host.clampedStart_of_le (s := S4x2x512x1024) (t := S1x1x512x1024) rfl st (3 : Fin 4) 0 (by rw [← hst]; rfl) (by decide)
  by_cases hc : (i 0).val = 0 ∧ (i 1).val = (s (at2 1)).toNat
  · rw [if_pos hc, dif_pos fun a : Fin 4 => ?_]
    · refine (parts f l s h0 h1 _).trans (congrArg₂ (total f l _ _) ?_ ?_)
      · show (i 2).val - Host.clampedStart S4x2x512x1024 S1x1x512x1024 rfl st (2 : Fin 4) = _
        rw [k2]; rfl
      · show (i 3).val - Host.clampedStart S4x2x512x1024 S1x1x512x1024 rfl st (3 : Fin 4) = _
        rw [k3]; rfl
    · match a with
      | ⟨0, _⟩ => exact (congrArg (fun n => n ≤ (i 0).val ∧ (i 0).val < n + 1) k0).mpr (by omega)
      | ⟨1, _⟩ => exact (congrArg (fun n => n ≤ (i 1).val ∧ (i 1).val < n + 1) k1).mpr (by omega)
      | ⟨2, _⟩ => exact (congrArg (fun n => n ≤ (i 2).val ∧ (i 2).val < n + 512) k2).mpr (by omega)
      | ⟨3, _⟩ => exact (congrArg (fun n => n ≤ (i 3).val ∧ (i 3).val < n + 1024) k3).mpr (by omega)
  · rw [if_neg hc, dif_neg fun h => hc ?_]
    have e0 := (congrArg (fun n => n ≤ (i 0).val ∧ (i 0).val < n + 1) k0).mp (h (0 : Fin 4))
    have e1 := (congrArg (fun n => n ≤ (i 1).val ∧ (i 1).val < n + 1) k1).mp (h (1 : Fin 4))
    dsimp only at e0 e1
    omega

end

theorem kernel_frame [hF : Cert.Pre_device.Facts] : Cert.quiescent_Kernel45 (hKernel45 := Cert.Kernel45.Gen.facts) :=
  fun m g h => Cert.Kernel45.Gen.frame m g (ok_bits m h)

theorem ideal_frame [hF : Cert.Pre_device.Facts] : Cert.quiescent_Kernel45Ideal (hKernel45Ideal := Cert.Kernel45Ideal.Gen.facts) :=
  fun m g h => Cert.Kernel45Ideal.Gen.frame m g (ok_ideal m h)

theorem reference_frame : Cert.quiescent_Reference45Ideal (hReference45Ideal := Cert.Reference45Ideal.Gen.facts) := fun m g _ =>
  (θ_run Cert.Reference45Ideal.defs _ _).mono (fun r h => And.intro (fun c => (h c).2) (sem_eq_zero_of_no_sems rfl r.2))
    (Cert.Reference45Ideal.Value.run (F := Ideal) m g)

section
open Cert.Kernel45Ideal Cert.Kernel45Ideal.Gen

/-- The call and the reference, run with a pair that names a device, end with the same buffer. -/
theorem algebraic : Cert.algebraic_Kernel45Ideal_Reference45Ideal (hKernel45Ideal := Cert.Kernel45Ideal.Gen.facts)
    (hReference45Ideal := Cert.Reference45Ideal.Gen.facts) (hPre_device := Cert.Pre_device.Gen.facts) := by
  intro m g m' g' hp ha
  have hO : Ok m := ok_ideal (hF := Cert.Pre_device.Gen.facts) m hp
  refine ⟨fun c => (dats m hO 0 c).arrAt 2 (cfgM m hO).N, ?_, (θ_run Cert.Reference45Ideal.defs _ _).mono (fun r h c => ?_) (Cert.Reference45Ideal.Value.run (F := Ideal) m' g')⟩
  · exact (θ_run _ _ _).mono (fun r h c => ⟨(h.1 c).1 2, h.2 c⟩) (θ_run_and (run_main m g hO) (unchanged m g hO))
  · obtain ⟨r0, k⟩ := h c
    obtain ⟨a0, a1, a2, a3⟩ := ha c
    refine ⟨(r0.trans (Cert.Reference45Ideal.Read.val_main_v35_eq _ _ _ _)).trans ?_, k⟩
    rw [a0, a1, a2, a3]
    obtain rfl : c = 0 := Subsingleton.elim _ _
    have b := bounds (hF := Cert.Pre_device.Gen.facts) _ _ _ _ (hp 0)
    obtain ⟨f, e0⟩ := exists_E3 (φ := .f32) (m (((0 : Dev nD) : Thread nD τ).loc main_arg0))
    obtain ⟨l, e1⟩ := exists_E3 (φ := .bf16) (m (((0 : Dev nD) : Thread nD τ).loc main_arg1))
    funext i
    refine Eq.trans ?_ (arr2 m hO 0 f l ((V_main_arg0 m 0).trans e0) ((V_main_arg1 m 0).trans e1) i).symm
    rw [show m (((0 : Dev nD).tc : Thread nD τ).loc main_arg0) = _ from e0, show m (((0 : Dev nD).tc : Thread nD τ).loc main_arg1) = _ from e1]
    exact reference_eq f l _ b.1 b.2 _ i

end

end Cert.FinalSum
end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Reference12Ideal.Read
public import proofs.«01_k».proof.Proof.Gen.Kernel13.Frame
public import proofs.«01_k».proof.Proof.Gen.Reference13Ideal.Read
public import proofs.«01_k».proof.Proof.Gen.Kernel14.Frame
public import proofs.«01_k».proof.Proof.Gen.Reference14Ideal.Read
public import proofs.«01_k».proof.Proof.Gen.Kernel15.Frame
public import proofs.«01_k».proof.Proof.Gen.Reference15Ideal.Read
public import proofs.«01_k».proof.Proof.Gen.Kernel16.Frame
public import proofs.«01_k».proof.Proof.Gen.Reference16Ideal.Read
public import proofs.«01_k».proof.Proof.Gen.Kernel17.Frame
public import proofs.«01_k».proof.Proof.Gen.Reference17Ideal.Read
public import proofs.«01_k».proof.Proof.Gen.Kernel18.Frame
public import proofs.«01_k».proof.Proof.Gen.Reference18Ideal.Read
public import proofs.«01_k».proof.Proof.Gen.Kernel19.Frame
public import proofs.«01_k».proof.Proof.Gen.Reference19Ideal.Read
public import proofs.«01_k».proof.Proof.Gen.Kernel20.Frame
public import proofs.«01_k».proof.Proof.Gen.Reference20Ideal.Read
public import proofs.«01_k».proof.Proof.Gen.Kernel21.Frame
public import proofs.«01_k».proof.Proof.Gen.Reference21Ideal.Read
public import proofs.«01_k».proof.Proof.Gen.Kernel22.Frame
public import proofs.«01_k».proof.Proof.Gen.Reference22Ideal.Read
public import proofs.«01_k».proof.Proof.Gen.Kernel23.Frame
public import proofs.«01_k».proof.Proof.Gen.Reference23Ideal.Read
public import proofs.«01_k».proof.Proof.Gen.Kernel24.Frame
public import proofs.«01_k».proof.Proof.Gen.Reference24Ideal.Read
public import proofs.«01_k».proof.Proof.Gen.Kernel25.Frame
public import proofs.«01_k».proof.Proof.Gen.Reference25Ideal.Read
public import proofs.«01_k».proof.Proof.Gen.Kernel26.Frame
public import proofs.«01_k».proof.Proof.Gen.Reference26Ideal.Read
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.Gen.Kernel41.Frame
public import proofs.«01_k».proof.Proof.Gen.Kernel42.Frame
public import proofs.«01_k».proof.Proof.Gen.Kernel44.Frame
public import proofs.«01_k».proof.Proof.Sgu.Final
public import proofs.«01_k».proof.Proof.Mm.UpBwd
public import proofs.«01_k».proof.Proof.Mm.DownBwd
public import proofs.«01_k».proof.Proof.Mm.W2
public import proofs.«01_k».proof.Proof.Mm.W1
public import proofs.«01_k».proof.Proof.Mm.Up
public import proofs.«01_k».proof.Proof.Mm.Down
public import proofs.«01_k».proof.Proof.Mm.AInBwd
public import proofs.«01_k».proof.Proof.Mm.AInGrad
public import proofs.«01_k».proof.Proof.Mm.AIn
public import proofs.«01_k».proof.Proof.Mm.LastDown
public import proofs.«01_k».proof.Proof.Mm.AdamMlp
public import proofs.«01_k».proof.Proof.Mm.AdamAIn
public import proofs.«01_k».proof.Proof.Mm.AdamAOut
public import proofs.«01_k».proof.Proof.Mm.AdamBIn
public import proofs.«01_k».proof.Proof.Mm.AdamCIn
public import proofs.«01_k».proof.Proof.Mm.AdamOut
public import proofs.«01_k».proof.Proof.Mm.AdamGates
public import proofs.«01_k».proof.Proof.Mm.AdamMix
public import proofs.«01_k».proof.Proof.Mm.AdamNorm
public import proofs.«01_k».proof.Proof.Mm.AdamUnitNorm
public import proofs.«01_k».proof.Proof.Mm.AdamLastNorm
public import proofs.«01_k».proof.Proof.Mm.AdamConv
public import proofs.«01_k».proof.Proof.Mm.AdamVec
public import proofs.«01_k».proof.Proof.Mm.AdamBias
public import proofs.«01_k».proof.Proof.Mm.AdamShort
public import proofs.«01_k».proof.Proof.Mm.BIn
public import proofs.«01_k».proof.Proof.Mm.CIn
public import proofs.«01_k».proof.Proof.Mm.AOut
public import proofs.«01_k».proof.Proof.Mm.MixOut
public import proofs.«01_k».proof.Proof.Mm.AOutBwd
public import proofs.«01_k».proof.Proof.Mm.MixOutBwd
public import proofs.«01_k».proof.Proof.Mm.AOutGrad
public import proofs.«01_k».proof.Proof.Mm.MixOutGrad
public import proofs.«01_k».proof.Proof.Mm.BInGrad
public import proofs.«01_k».proof.Proof.Mm.CInGrad
public import proofs.«01_k».proof.Proof.Mm.BInBwd
public import proofs.«01_k».proof.Proof.Mm.CInBwd
public import proofs.«01_k».proof.Proof.Mm.NormFwd
public import proofs.«01_k».proof.Proof.Mm.Loss
public import proofs.«01_k».proof.Proof.Mm.CCore
public import proofs.«01_k».proof.Proof.Mm.BCore
public import proofs.«01_k».proof.Proof.Mm.LossClaims
public import proofs.«01_k».proof.Proof.Mm.CCoreBwd
public import proofs.«01_k».proof.Proof.Mm.FinalSum
public import proofs.«01_k».proof.Proof.Gen.Pre_device
public import proofs.«01_k».proof.Proof.Gen.Kernel45
public import proofs.«01_k».proof.Proof.Gen.Kernel45.Skeleton
public import proofs.«01_k».proof.Proof.Gen.Kernel45.Launch
public import proofs.«01_k».proof.Proof.Gen.Kernel45.Points
public import proofs.«01_k».proof.Proof.Gen.Kernel45.Frame
public import proofs.«01_k».proof.Proof.Gen.Kernel45Ideal
public import proofs.«01_k».proof.Proof.Gen.Kernel45Ideal.Skeleton
public import proofs.«01_k».proof.Proof.Gen.Kernel45Ideal.Launch
public import proofs.«01_k».proof.Proof.Gen.Kernel45Ideal.Points
public import proofs.«01_k».proof.Proof.Gen.Kernel45Ideal.Frame
public import proofs.«01_k».proof.Proof.Gen.Reference45Ideal
public import proofs.«01_k».proof.Proof.Gen.Reference45Ideal.Run
public import proofs.«01_k».proof.Proof.Gen.Reference45Ideal.Read
public import Idealize.ShloMosaic.Adequacy
public import Idealize.ShloMosaic.Init

@[expose] public section

noncomputable section

namespace Cert.Proof

open Idealize.ShloMosaic Idealize.SL.Sem Cert.Kernel

/-- The references run, leave their arguments and every counter as they were. -/
theorem reference_frame : Cert.quiescent_ReferenceIdeal (hReferenceIdeal := Cert.ReferenceIdeal.Gen.facts) := fun m g _ =>
  (θ_run Cert.ReferenceIdeal.defs _ _).mono (fun r h => And.intro (fun c => (h c).2.2.2.2) (sem_eq_zero_of_no_sems rfl r.2))
    (Cert.ReferenceIdeal.Value.run (F := Ideal) m g)

theorem reference2_frame : Cert.quiescent_Reference2Ideal (hReference2Ideal := Cert.Reference2Ideal.Gen.facts) := fun m g _ =>
  (θ_run Cert.Reference2Ideal.defs _ _).mono (fun r h => And.intro (fun c => (h c).2.2.2) (sem_eq_zero_of_no_sems rfl r.2))
    (Cert.Reference2Ideal.Value.run (F := Ideal) m g)

theorem reference3_frame : Cert.quiescent_Reference3Ideal (hReference3Ideal := Cert.Reference3Ideal.Gen.facts) := fun m g _ =>
  (θ_run Cert.Reference3Ideal.defs _ _).mono (fun r h => And.intro (fun c => (h c).2) (sem_eq_zero_of_no_sems rfl r.2))
    (Cert.Reference3Ideal.Value.run (F := Ideal) m g)

theorem reference4_frame : Cert.quiescent_Reference4Ideal (hReference4Ideal := Cert.Reference4Ideal.Gen.facts) := fun m g _ =>
  (θ_run Cert.Reference4Ideal.defs _ _).mono (fun r h => And.intro (fun c => (h c).2.2) (sem_eq_zero_of_no_sems rfl r.2))
    (Cert.Reference4Ideal.Value.run (F := Ideal) m g)

theorem reference5_frame : Cert.quiescent_Reference5Ideal (hReference5Ideal := Cert.Reference5Ideal.Gen.facts) := fun m g _ =>
  (θ_run Cert.Reference5Ideal.defs _ _).mono (fun r h => And.intro (fun c => (h c).2.2) (sem_eq_zero_of_no_sems rfl r.2))
    (Cert.Reference5Ideal.Value.run (F := Ideal) m g)

theorem reference6_frame : Cert.quiescent_Reference6Ideal (hReference6Ideal := Cert.Reference6Ideal.Gen.facts) := fun m g _ =>
  (θ_run Cert.Reference6Ideal.defs _ _).mono (fun r h => And.intro (fun c => (h c).2.2) (sem_eq_zero_of_no_sems rfl r.2))
    (Cert.Reference6Ideal.Value.run (F := Ideal) m g)

theorem reference7_frame : Cert.quiescent_Reference7Ideal (hReference7Ideal := Cert.Reference7Ideal.Gen.facts) := fun m g _ =>
  (θ_run Cert.Reference7Ideal.defs _ _).mono (fun r h => And.intro (fun c => (h c).2.2) (sem_eq_zero_of_no_sems rfl r.2))
    (Cert.Reference7Ideal.Value.run (F := Ideal) m g)

theorem reference8_frame : Cert.quiescent_Reference8Ideal (hReference8Ideal := Cert.Reference8Ideal.Gen.facts) := fun m g _ =>
  (θ_run Cert.Reference8Ideal.defs _ _).mono (fun r h => And.intro (fun c => (h c).2.2.2) (sem_eq_zero_of_no_sems rfl r.2))
    (Cert.Reference8Ideal.Value.run (F := Ideal) m g)

theorem reference9_frame : Cert.quiescent_Reference9Ideal (hReference9Ideal := Cert.Reference9Ideal.Gen.facts) := fun m g _ =>
  (θ_run Cert.Reference9Ideal.defs _ _).mono (fun r h => And.intro (fun c => (h c).2.2) (sem_eq_zero_of_no_sems rfl r.2))
    (Cert.Reference9Ideal.Value.run (F := Ideal) m g)

theorem reference10_frame : Cert.quiescent_Reference10Ideal (hReference10Ideal := Cert.Reference10Ideal.Gen.facts) := fun m g _ =>
  (θ_run Cert.Reference10Ideal.defs _ _).mono (fun r h => And.intro (fun c => (h c).2) (sem_eq_zero_of_no_sems rfl r.2))
    (Cert.Reference10Ideal.Value.run (F := Ideal) m g)

theorem reference11_frame : Cert.quiescent_Reference11Ideal (hReference11Ideal := Cert.Reference11Ideal.Gen.facts) := fun m g _ =>
  (θ_run Cert.Reference11Ideal.defs _ _).mono (fun r h => And.intro (fun c => (h c).2) (sem_eq_zero_of_no_sems rfl r.2))
    (Cert.Reference11Ideal.Value.run (F := Ideal) m g)

theorem reference12_frame : Cert.quiescent_Reference12Ideal (hReference12Ideal := Cert.Reference12Ideal.Gen.facts) := fun m g _ =>
  (θ_run Cert.Reference12Ideal.defs _ _).mono (fun r h => And.intro (fun c => (h c).2.2.2) (sem_eq_zero_of_no_sems rfl r.2))
    (Cert.Reference12Ideal.Value.run (F := Ideal) m g)

theorem reference13_frame : Cert.quiescent_Reference13Ideal (hReference13Ideal := Cert.Reference13Ideal.Gen.facts) := fun m g _ =>
  (θ_run Cert.Reference13Ideal.defs _ _).mono (fun r h => And.intro (fun c => (h c).2.2.2) (sem_eq_zero_of_no_sems rfl r.2))
    (Cert.Reference13Ideal.Value.run (F := Ideal) m g)

theorem reference14_frame : Cert.quiescent_Reference14Ideal (hReference14Ideal := Cert.Reference14Ideal.Gen.facts) := fun m g _ =>
  (θ_run Cert.Reference14Ideal.defs _ _).mono (fun r h => And.intro (fun c => (h c).2.2.2) (sem_eq_zero_of_no_sems rfl r.2))
    (Cert.Reference14Ideal.Value.run (F := Ideal) m g)

theorem reference15_frame : Cert.quiescent_Reference15Ideal (hReference15Ideal := Cert.Reference15Ideal.Gen.facts) := fun m g _ =>
  (θ_run Cert.Reference15Ideal.defs _ _).mono (fun r h => And.intro (fun c => (h c).2.2.2) (sem_eq_zero_of_no_sems rfl r.2))
    (Cert.Reference15Ideal.Value.run (F := Ideal) m g)

theorem reference16_frame : Cert.quiescent_Reference16Ideal (hReference16Ideal := Cert.Reference16Ideal.Gen.facts) := fun m g _ =>
  (θ_run Cert.Reference16Ideal.defs _ _).mono (fun r h => And.intro (fun c => (h c).2.2.2) (sem_eq_zero_of_no_sems rfl r.2))
    (Cert.Reference16Ideal.Value.run (F := Ideal) m g)

theorem reference17_frame : Cert.quiescent_Reference17Ideal (hReference17Ideal := Cert.Reference17Ideal.Gen.facts) := fun m g _ =>
  (θ_run Cert.Reference17Ideal.defs _ _).mono (fun r h => And.intro (fun c => (h c).2.2.2) (sem_eq_zero_of_no_sems rfl r.2))
    (Cert.Reference17Ideal.Value.run (F := Ideal) m g)

theorem reference18_frame : Cert.quiescent_Reference18Ideal (hReference18Ideal := Cert.Reference18Ideal.Gen.facts) := fun m g _ =>
  (θ_run Cert.Reference18Ideal.defs _ _).mono (fun r h => And.intro (fun c => (h c).2.2.2) (sem_eq_zero_of_no_sems rfl r.2))
    (Cert.Reference18Ideal.Value.run (F := Ideal) m g)

theorem reference19_frame : Cert.quiescent_Reference19Ideal (hReference19Ideal := Cert.Reference19Ideal.Gen.facts) := fun m g _ =>
  (θ_run Cert.Reference19Ideal.defs _ _).mono (fun r h => And.intro (fun c => (h c).2.2.2) (sem_eq_zero_of_no_sems rfl r.2))
    (Cert.Reference19Ideal.Value.run (F := Ideal) m g)

theorem reference20_frame : Cert.quiescent_Reference20Ideal (hReference20Ideal := Cert.Reference20Ideal.Gen.facts) := fun m g _ =>
  (θ_run Cert.Reference20Ideal.defs _ _).mono (fun r h => And.intro (fun c => (h c).2.2.2) (sem_eq_zero_of_no_sems rfl r.2))
    (Cert.Reference20Ideal.Value.run (F := Ideal) m g)

theorem reference21_frame : Cert.quiescent_Reference21Ideal (hReference21Ideal := Cert.Reference21Ideal.Gen.facts) := fun m g _ =>
  (θ_run Cert.Reference21Ideal.defs _ _).mono (fun r h => And.intro (fun c => (h c).2.2.2) (sem_eq_zero_of_no_sems rfl r.2))
    (Cert.Reference21Ideal.Value.run (F := Ideal) m g)

theorem reference22_frame : Cert.quiescent_Reference22Ideal (hReference22Ideal := Cert.Reference22Ideal.Gen.facts) := fun m g _ =>
  (θ_run Cert.Reference22Ideal.defs _ _).mono (fun r h => And.intro (fun c => (h c).2.2.2) (sem_eq_zero_of_no_sems rfl r.2))
    (Cert.Reference22Ideal.Value.run (F := Ideal) m g)

theorem reference23_frame : Cert.quiescent_Reference23Ideal (hReference23Ideal := Cert.Reference23Ideal.Gen.facts) := fun m g _ =>
  (θ_run Cert.Reference23Ideal.defs _ _).mono (fun r h => And.intro (fun c => (h c).2.2.2) (sem_eq_zero_of_no_sems rfl r.2))
    (Cert.Reference23Ideal.Value.run (F := Ideal) m g)

theorem reference24_frame : Cert.quiescent_Reference24Ideal (hReference24Ideal := Cert.Reference24Ideal.Gen.facts) := fun m g _ =>
  (θ_run Cert.Reference24Ideal.defs _ _).mono (fun r h => And.intro (fun c => (h c).2.2.2) (sem_eq_zero_of_no_sems rfl r.2))
    (Cert.Reference24Ideal.Value.run (F := Ideal) m g)

theorem reference25_frame : Cert.quiescent_Reference25Ideal (hReference25Ideal := Cert.Reference25Ideal.Gen.facts) := fun m g _ =>
  (θ_run Cert.Reference25Ideal.defs _ _).mono (fun r h => And.intro (fun c => (h c).2.2.2) (sem_eq_zero_of_no_sems rfl r.2))
    (Cert.Reference25Ideal.Value.run (F := Ideal) m g)

theorem reference26_frame : Cert.quiescent_Reference26Ideal (hReference26Ideal := Cert.Reference26Ideal.Gen.facts) := fun m g _ =>
  (θ_run Cert.Reference26Ideal.defs _ _).mono (fun r h => And.intro (fun c => (h c).2.2.2) (sem_eq_zero_of_no_sems rfl r.2))
    (Cert.Reference26Ideal.Value.run (F := Ideal) m g)

theorem reference27_frame : Cert.quiescent_Reference27Ideal (hReference27Ideal := Cert.Reference27Ideal.Gen.facts) := fun m g _ =>
  (θ_run Cert.Reference27Ideal.defs _ _).mono (fun r h => And.intro (fun c => (h c).2) (sem_eq_zero_of_no_sems rfl r.2))
    (Cert.Reference27Ideal.Value.run (F := Ideal) m g)

theorem reference28_frame : Cert.quiescent_Reference28Ideal (hReference28Ideal := Cert.Reference28Ideal.Gen.facts) := fun m g _ =>
  (θ_run Cert.Reference28Ideal.defs _ _).mono (fun r h => And.intro (fun c => (h c).2) (sem_eq_zero_of_no_sems rfl r.2))
    (Cert.Reference28Ideal.Value.run (F := Ideal) m g)

theorem reference29_frame : Cert.quiescent_Reference29Ideal (hReference29Ideal := Cert.Reference29Ideal.Gen.facts) := fun m g _ =>
  (θ_run Cert.Reference29Ideal.defs _ _).mono (fun r h => And.intro (fun c => (h c).2.2) (sem_eq_zero_of_no_sems rfl r.2))
    (Cert.Reference29Ideal.Value.run (F := Ideal) m g)

theorem reference30_frame : Cert.quiescent_Reference30Ideal (hReference30Ideal := Cert.Reference30Ideal.Gen.facts) := fun m g _ =>
  (θ_run Cert.Reference30Ideal.defs _ _).mono (fun r h => And.intro (fun c => (h c).2.2) (sem_eq_zero_of_no_sems rfl r.2))
    (Cert.Reference30Ideal.Value.run (F := Ideal) m g)

theorem reference31_frame : Cert.quiescent_Reference31Ideal (hReference31Ideal := Cert.Reference31Ideal.Gen.facts) := fun m g _ =>
  (θ_run Cert.Reference31Ideal.defs _ _).mono (fun r h => And.intro (fun c => (h c).2) (sem_eq_zero_of_no_sems rfl r.2))
    (Cert.Reference31Ideal.Value.run (F := Ideal) m g)

theorem reference32_frame : Cert.quiescent_Reference32Ideal (hReference32Ideal := Cert.Reference32Ideal.Gen.facts) := fun m g _ =>
  (θ_run Cert.Reference32Ideal.defs _ _).mono (fun r h => And.intro (fun c => (h c).2) (sem_eq_zero_of_no_sems rfl r.2))
    (Cert.Reference32Ideal.Value.run (F := Ideal) m g)

theorem reference33_frame : Cert.quiescent_Reference33Ideal (hReference33Ideal := Cert.Reference33Ideal.Gen.facts) := fun m g _ =>
  (θ_run Cert.Reference33Ideal.defs _ _).mono (fun r h => And.intro (fun c => (h c).2.2) (sem_eq_zero_of_no_sems rfl r.2))
    (Cert.Reference33Ideal.Value.run (F := Ideal) m g)

theorem reference34_frame : Cert.quiescent_Reference34Ideal (hReference34Ideal := Cert.Reference34Ideal.Gen.facts) := fun m g _ =>
  (θ_run Cert.Reference34Ideal.defs _ _).mono (fun r h => And.intro (fun c => (h c).2.2) (sem_eq_zero_of_no_sems rfl r.2))
    (Cert.Reference34Ideal.Value.run (F := Ideal) m g)

theorem reference35_frame : Cert.quiescent_Reference35Ideal (hReference35Ideal := Cert.Reference35Ideal.Gen.facts) := fun m g _ =>
  (θ_run Cert.Reference35Ideal.defs _ _).mono (fun r h => And.intro (fun c => (h c).2.2) (sem_eq_zero_of_no_sems rfl r.2))
    (Cert.Reference35Ideal.Value.run (F := Ideal) m g)

theorem reference36_frame : Cert.quiescent_Reference36Ideal (hReference36Ideal := Cert.Reference36Ideal.Gen.facts) := fun m g _ =>
  (θ_run Cert.Reference36Ideal.defs _ _).mono (fun r h => And.intro (fun c => (h c).2.2) (sem_eq_zero_of_no_sems rfl r.2))
    (Cert.Reference36Ideal.Value.run (F := Ideal) m g)

theorem reference37_frame : Cert.quiescent_Reference37Ideal (hReference37Ideal := Cert.Reference37Ideal.Gen.facts) := fun m g _ =>
  (θ_run Cert.Reference37Ideal.defs _ _).mono (fun r h => And.intro (fun c => (h c).2.2.2) (sem_eq_zero_of_no_sems rfl r.2))
    (Cert.Reference37Ideal.Value.run (F := Ideal) m g)

theorem reference38_frame : Cert.quiescent_Reference38Ideal (hReference38Ideal := Cert.Reference38Ideal.Gen.facts) := fun m g _ =>
  (θ_run Cert.Reference38Ideal.defs _ _).mono (fun r h => And.intro (fun c => (h c).2.2.2) (sem_eq_zero_of_no_sems rfl r.2))
    (Cert.Reference38Ideal.Value.run (F := Ideal) m g)

theorem reference39_frame : Cert.quiescent_Reference39Ideal (hReference39Ideal := Cert.Reference39Ideal.Gen.facts) := fun m g _ =>
  (θ_run Cert.Reference39Ideal.defs _ _).mono (fun r h => And.intro (fun c => (h c).2) (sem_eq_zero_of_no_sems rfl r.2))
    (Cert.Reference39Ideal.Value.run (F := Ideal) m g)

theorem reference40_frame : Cert.quiescent_Reference40Ideal (hReference40Ideal := Cert.Reference40Ideal.Gen.facts) := fun m g _ =>
  (θ_run Cert.Reference40Ideal.defs _ _).mono (fun r h => And.intro (fun c => (h c).2.2.2.2) (sem_eq_zero_of_no_sems rfl r.2))
    (Cert.Reference40Ideal.Value.run (F := Ideal) m g)

theorem reference41_frame : Cert.quiescent_Reference41Ideal (hReference41Ideal := Cert.Reference41Ideal.Gen.facts) := fun m g _ =>
  (θ_run Cert.Reference41Ideal.defs _ _).mono (fun r h => And.intro (fun c => (h c).2) (sem_eq_zero_of_no_sems rfl r.2))
    (Cert.Reference41Ideal.Value.run (F := Ideal) m g)

theorem reference42_frame : Cert.quiescent_Reference42Ideal (hReference42Ideal := Cert.Reference42Ideal.Gen.facts) := fun m g _ =>
  (θ_run Cert.Reference42Ideal.defs _ _).mono (fun r h => And.intro (fun c => (h c).2) (sem_eq_zero_of_no_sems rfl r.2))
    (Cert.Reference42Ideal.Value.run (F := Ideal) m g)

theorem reference44_frame : Cert.quiescent_Reference44Ideal (hReference44Ideal := Cert.Reference44Ideal.Gen.facts) := fun m g _ =>
  (θ_run Cert.Reference44Ideal.defs _ _).mono (fun r h => And.intro (fun c => (h c).2.2) (sem_eq_zero_of_no_sems rfl r.2))
    (Cert.Reference44Ideal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, Cert.Finite.facts, Cert.Pre_finite_up_bwd.Gen.facts, Cert.Pre_finite_a_in_bwd.Gen.facts, Cert.Pre_finite_b_in_bwd.Gen.facts, Cert.Pre_finite_c_in_bwd.Gen.facts, Cert.Pre_finite_loss.Gen.facts, Cert.Pre_device.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ trivial,
    fun m ρ _ => reference_frame m ρ trivial,
    fun m ρ _ => Cert.Kernel2.Gen.frame m ρ,
    fun m ρ _ => Cert.Kernel2Ideal.Gen.frame m ρ,
    fun m ρ _ => Cert.Kernel2Ideal.Gen.frame m ρ,
    fun m ρ _ => reference2_frame m ρ trivial,
    fun m ρ _ => reference2_frame m ρ trivial,
    fun m ρ _ => Cert.Kernel3.Gen.frame m ρ,
    fun m ρ _ => Cert.Kernel3Ideal.Gen.frame m ρ,
    fun m ρ _ => reference3_frame m ρ trivial,
    fun m ρ _ => Cert.Kernel4.Gen.frame m ρ,
    fun m ρ _ => Cert.Kernel4Ideal.Gen.frame m ρ,
    fun m ρ _ => reference4_frame m ρ trivial,
    fun m ρ _ => Cert.Kernel5.Gen.frame m ρ,
    fun m ρ _ => Cert.Kernel5Ideal.Gen.frame m ρ,
    fun m ρ _ => reference5_frame m ρ trivial,
    fun m ρ _ => Cert.Kernel6.Gen.frame m ρ,
    fun m ρ _ => Cert.Kernel6Ideal.Gen.frame m ρ,
    fun m ρ _ => reference6_frame m ρ trivial,
    fun m ρ _ => Cert.Kernel7.Gen.frame m ρ,
    fun m ρ _ => Cert.Kernel7Ideal.Gen.frame m ρ,
    fun m ρ _ => reference7_frame m ρ trivial,
    fun m ρ _ => Cert.Kernel8.Gen.frame m ρ,
    fun m ρ _ => Cert.Kernel8Ideal.Gen.frame m ρ,
    fun m ρ _ => Cert.Kernel8Ideal.Gen.frame m ρ,
    fun m ρ _ => reference8_frame m ρ trivial,
    fun m ρ _ => reference8_frame m ρ trivial,
    fun m ρ _ => Cert.Kernel9.Gen.frame m ρ,
    fun m ρ _ => Cert.Kernel9Ideal.Gen.frame m ρ,
    fun m ρ _ => reference9_frame m ρ trivial,
    fun m ρ _ => Cert.Kernel10.Gen.frame m ρ,
    fun m ρ _ => Cert.Kernel10Ideal.Gen.frame m ρ,
    fun m ρ _ => reference10_frame m ρ trivial,
    fun m ρ _ => Cert.Kernel11.Gen.frame m ρ,
    fun m ρ _ => Cert.Kernel11Ideal.Gen.frame m ρ,
    fun m ρ _ => reference11_frame m ρ trivial,
    fun m ρ _ => Cert.Kernel12.Gen.frame m ρ,
    fun m ρ _ => Cert.Kernel12Ideal.Gen.frame m ρ,
    fun m ρ _ => reference12_frame m ρ trivial,
    fun m ρ _ => Cert.Kernel13.Gen.frame m ρ,
    fun m ρ _ => Cert.Kernel13Ideal.Gen.frame m ρ,
    fun m ρ _ => reference13_frame m ρ trivial,
    fun m ρ _ => Cert.Kernel14.Gen.frame m ρ,
    fun m ρ _ => Cert.Kernel14Ideal.Gen.frame m ρ,
    fun m ρ _ => reference14_frame m ρ trivial,
    fun m ρ _ => Cert.Kernel15.Gen.frame m ρ,
    fun m ρ _ => Cert.Kernel15Ideal.Gen.frame m ρ,
    fun m ρ _ => reference15_frame m ρ trivial,
    fun m ρ _ => Cert.Kernel16.Gen.frame m ρ,
    fun m ρ _ => Cert.Kernel16Ideal.Gen.frame m ρ,
    fun m ρ _ => reference16_frame m ρ trivial,
    fun m ρ _ => Cert.Kernel17.Gen.frame m ρ,
    fun m ρ _ => Cert.Kernel17Ideal.Gen.frame m ρ,
    fun m ρ _ => reference17_frame m ρ trivial,
    fun m ρ _ => Cert.Kernel18.Gen.frame m ρ,
    fun m ρ _ => Cert.Kernel18Ideal.Gen.frame m ρ,
    fun m ρ _ => reference18_frame m ρ trivial,
    fun m ρ _ => Cert.Kernel19.Gen.frame m ρ,
    fun m ρ _ => Cert.Kernel19Ideal.Gen.frame m ρ,
    fun m ρ _ => reference19_frame m ρ trivial,
    fun m ρ _ => Cert.Kernel20.Gen.frame m ρ,
    fun m ρ _ => Cert.Kernel20Ideal.Gen.frame m ρ,
    fun m ρ _ => reference20_frame m ρ trivial,
    fun m ρ _ => Cert.Kernel21.Gen.frame m ρ,
    fun m ρ _ => Cert.Kernel21Ideal.Gen.frame m ρ,
    fun m ρ _ => reference21_frame m ρ trivial,
    fun m ρ _ => Cert.Kernel22.Gen.frame m ρ,
    fun m ρ _ => Cert.Kernel22Ideal.Gen.frame m ρ,
    fun m ρ _ => reference22_frame m ρ trivial,
    fun m ρ _ => Cert.Kernel23.Gen.frame m ρ,
    fun m ρ _ => Cert.Kernel23Ideal.Gen.frame m ρ,
    fun m ρ _ => reference23_frame m ρ trivial,
    fun m ρ _ => Cert.Kernel24.Gen.frame m ρ,
    fun m ρ _ => Cert.Kernel24Ideal.Gen.frame m ρ,
    fun m ρ _ => reference24_frame m ρ trivial,
    fun m ρ _ => Cert.Kernel25.Gen.frame m ρ,
    fun m ρ _ => Cert.Kernel25Ideal.Gen.frame m ρ,
    fun m ρ _ => reference25_frame m ρ trivial,
    fun m ρ _ => Cert.Kernel26.Gen.frame m ρ,
    fun m ρ _ => Cert.Kernel26Ideal.Gen.frame m ρ,
    fun m ρ _ => reference26_frame m ρ trivial,
    fun m ρ _ => Cert.Kernel27.Gen.frame m ρ,
    fun m ρ _ => Cert.Kernel27Ideal.Gen.frame m ρ,
    fun m ρ _ => reference27_frame m ρ trivial,
    fun m ρ _ => Cert.Kernel28.Gen.frame m ρ,
    fun m ρ _ => Cert.Kernel28Ideal.Gen.frame m ρ,
    fun m ρ _ => reference28_frame m ρ trivial,
    fun m ρ _ => Cert.Kernel29.Gen.frame m ρ,
    fun m ρ _ => Cert.Kernel29Ideal.Gen.frame m ρ,
    fun m ρ _ => reference29_frame m ρ trivial,
    fun m ρ _ => Cert.Kernel30.Gen.frame m ρ,
    fun m ρ _ => Cert.Kernel30Ideal.Gen.frame m ρ,
    fun m ρ _ => reference30_frame m ρ trivial,
    fun m ρ _ => Cert.Kernel31.Gen.frame m ρ,
    fun m ρ _ => Cert.Kernel31Ideal.Gen.frame m ρ,
    fun m ρ _ => reference31_frame m ρ trivial,
    fun m ρ _ => Cert.Kernel32.Gen.frame m ρ,
    fun m ρ _ => Cert.Kernel32Ideal.Gen.frame m ρ,
    fun m ρ _ => reference32_frame m ρ trivial,
    fun m ρ _ => Cert.Kernel33.Gen.frame m ρ,
    fun m ρ _ => Cert.Kernel33Ideal.Gen.frame m ρ,
    fun m ρ _ => reference33_frame m ρ trivial,
    fun m ρ _ => Cert.Kernel34.Gen.frame m ρ,
    fun m ρ _ => Cert.Kernel34Ideal.Gen.frame m ρ,
    fun m ρ _ => reference34_frame m ρ trivial,
    fun m ρ _ => Cert.Kernel35.Gen.frame m ρ,
    fun m ρ _ => Cert.Kernel35Ideal.Gen.frame m ρ,
    fun m ρ _ => reference35_frame m ρ trivial,
    fun m ρ _ => Cert.Kernel36.Gen.frame m ρ,
    fun m ρ _ => Cert.Kernel36Ideal.Gen.frame m ρ,
    fun m ρ _ => reference36_frame m ρ trivial,
    fun m ρ _ => Cert.Kernel37.Gen.frame m ρ,
    fun m ρ _ => Cert.Kernel37Ideal.Gen.frame m ρ,
    fun m ρ _ => Cert.Kernel37Ideal.Gen.frame m ρ,
    fun m ρ _ => reference37_frame m ρ trivial,
    fun m ρ _ => reference37_frame m ρ trivial,
    fun m ρ _ => Cert.Kernel38.Gen.frame m ρ,
    fun m ρ _ => Cert.Kernel38Ideal.Gen.frame m ρ,
    fun m ρ _ => Cert.Kernel38Ideal.Gen.frame m ρ,
    fun m ρ _ => reference38_frame m ρ trivial,
    fun m ρ _ => reference38_frame m ρ trivial,
    fun m ρ _ => Cert.Kernel39.Gen.frame m ρ,
    fun m ρ _ => Cert.Kernel39Ideal.Gen.frame m ρ,
    fun m ρ _ => reference39_frame m ρ trivial,
    fun m ρ _ => Cert.Kernel40.Gen.frame m ρ,
    fun m ρ _ => Cert.Kernel40Ideal.Gen.frame m ρ,
    fun m ρ _ => Cert.Kernel40Ideal.Gen.frame m ρ,
    fun m ρ _ => reference40_frame m ρ trivial,
    fun m ρ _ => reference40_frame m ρ trivial,
    fun m ρ _ => Cert.Kernel41.Gen.frame m ρ,
    fun m ρ _ => Cert.Kernel41Ideal.Gen.frame m ρ,
    fun m ρ _ => reference41_frame m ρ trivial,
    fun m ρ _ => Cert.Kernel42.Gen.frame m ρ,
    fun m ρ _ => Cert.Kernel42Ideal.Gen.frame m ρ,
    fun m ρ _ => reference42_frame m ρ trivial,
    fun m ρ _ => Cert.LossSum.kernel_frame m ρ trivial,
    fun m ρ _ => Cert.LossSum.ideal_frame m ρ trivial,
    fun m ρ _ => Cert.LossSum.reference_frame m ρ trivial,
    fun m ρ _ => Cert.Kernel44.Gen.frame m ρ,
    fun m ρ _ => Cert.Kernel44Ideal.Gen.frame m ρ,
    fun m ρ _ => reference44_frame m ρ trivial,
    Cert.FinalSum.kernel_frame (hF := Cert.Pre_device.Gen.facts),
    Cert.FinalSum.ideal_frame (hF := Cert.Pre_device.Gen.facts),
    Cert.FinalSum.reference_frame,
    fun m ρ _ => Cert.FinalSum.reference_frame m ρ trivial,
    ⟨IdealRules.named_const.statement Cert.KernelIdeal.κ "gelu_c" .f32 _ _ rfl,
      IdealRules.named_const.statement Cert.KernelIdeal.κ "gelu_3c" .f32 _ _ rfl⟩,
    Cert.Sgu.algebraic,
    trivial,
    Cert.UpBwd.algebraic,
    trivial,
    Cert.DownBwd.algebraic,
    trivial,
    Cert.W2.algebraic,
    trivial,
    Cert.W1.algebraic,
    trivial,
    Cert.Up.algebraic,
    trivial,
    Cert.Down.algebraic,
    trivial,
    Cert.AInBwd.algebraic,
    trivial,
    Cert.AInGrad.algebraic,
    trivial,
    Cert.AIn.algebraic,
    trivial,
    Cert.LastDown.algebraic,
    Cert.Adam.named_constants _ rfl rfl,
    Cert.AdamMlp.algebraic,
    Cert.Adam.named_constants _ rfl rfl,
    Cert.AdamAIn.algebraic,
    Cert.Adam.named_constants _ rfl rfl,
    Cert.AdamAOut.algebraic,
    Cert.Adam.named_constants _ rfl rfl,
    Cert.AdamBIn.algebraic,
    Cert.Adam.named_constants _ rfl rfl,
    Cert.AdamCIn.algebraic,
    Cert.Adam.named_constants _ rfl rfl,
    Cert.AdamOut.algebraic,
    Cert.Adam.named_constants _ rfl rfl,
    Cert.AdamGates.algebraic,
    Cert.Adam.named_constants _ rfl rfl,
    Cert.AdamMix.algebraic,
    Cert.Adam.named_constants _ rfl rfl,
    Cert.AdamNorm.algebraic,
    Cert.Adam.named_constants _ rfl rfl,
    Cert.AdamUnitNorm.algebraic,
    Cert.Adam.named_constants _ rfl rfl,
    Cert.AdamLastNorm.algebraic,
    Cert.Adam.named_constants _ rfl rfl,
    Cert.AdamConv.algebraic,
    Cert.Adam.named_constants _ rfl rfl,
    Cert.AdamVec.algebraic,
    Cert.Adam.named_constants _ rfl rfl,
    Cert.AdamBias.algebraic,
    Cert.Adam.named_constants _ rfl rfl,
    Cert.AdamShort.algebraic,
    trivial,
    Cert.BIn.algebraic,
    trivial,
    Cert.CIn.algebraic,
    trivial,
    Cert.AOut.algebraic,
    trivial,
    Cert.MixOut.algebraic,
    trivial,
    Cert.AOutBwd.algebraic,
    trivial,
    Cert.MixOutBwd.algebraic,
    trivial,
    Cert.AOutGrad.algebraic,
    trivial,
    Cert.MixOutGrad.algebraic,
    trivial,
    Cert.BInGrad.algebraic,
    trivial,
    Cert.CInGrad.algebraic,
    trivial,
    Cert.BInBwd.algebraic,
    trivial,
    Cert.CInBwd.algebraic,
    trivial,
    Cert.NormFwd.algebraic,
    trivial,
    Cert.Loss.algebraic,
    trivial,
    Cert.CCore.algebraic,
    IdealRules.named_const.statement Cert.Kernel42Ideal.κ "gelu_c" .f32 _ _ rfl,
    Cert.BCore.algebraic,
    trivial,
    Cert.LossSum.algebraic,
    trivial,
    Cert.CCoreBwd.algebraic,
    trivial,
    Cert.FinalSum.algebraic⟩

end Cert.Proof

end
